-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_pre_down [hPre_pre_down : Cert.Pre_pre_down.Facts] (m : (ℓ : Loc Cert.DownIdeal.nD Cert.DownIdeal.τ Cert.DownIdeal.sig) → Buf (Elt Ideal) ℓ) : Prop :=
  ∀ c : Dev Cert.DownIdeal.nD,
    (Cert.Pre_pre_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_pre_down [hPre_pre_down : Cert.Pre_pre_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_pre_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_pre_mla [hPre_pre_mla : Cert.Pre_pre_mla.Facts] (m : (ℓ : Loc Cert.MlaIdeal.nD Cert.MlaIdeal.τ Cert.MlaIdeal.sig) → Buf (Elt Ideal) ℓ) : Prop :=
  ∀ c : Dev Cert.MlaIdeal.nD,
    (Cert.Pre_pre_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_pre_mla [hPre_pre_mla : Cert.Pre_pre_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_pre_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Mlaf (m : (ℓ : Loc Cert.Mlaf.nD Cert.Mlaf.τ Cert.Mlaf.sig) → Buf (Elt Bits) ℓ) : Prop :=
  True

def Pre_MlafIdeal (m : (ℓ : Loc Cert.MlafIdeal.nD Cert.MlafIdeal.τ Cert.MlafIdeal.sig) → Buf (Elt Ideal) ℓ) : Prop :=
  True

def Pre_MlafIdeal_pre_mlaf [hPre_pre_mlaf : Cert.Pre_pre_mlaf.Facts] (m : (ℓ : Loc Cert.MlafIdeal.nD Cert.MlafIdeal.τ Cert.MlafIdeal.sig) → Buf (Elt Ideal) ℓ) : Prop :=
  ∀ c : Dev Cert.MlafIdeal.nD,
    (Cert.Pre_pre_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2))) = (fun _ => 1#1)

def Pre_MlafRefIdeal (m : (ℓ : Loc Cert.MlafRefIdeal.nD Cert.MlafRefIdeal.τ Cert.MlafRefIdeal.sig) → Buf (Elt Ideal) ℓ) : Prop :=
  True

def Pre_MlafRefIdeal_pre_mlaf [hPre_pre_mlaf : Cert.Pre_pre_mlaf.Facts] (m : (ℓ : Loc Cert.MlafRefIdeal.nD Cert.MlafRefIdeal.τ Cert.MlafRefIdeal.sig) → Buf (Elt Ideal) ℓ) : Prop :=
  ∀ c : Dev Cert.MlafRefIdeal.nD,
    (Cert.Pre_pre_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_pre_up [hPre_pre_up : Cert.Pre_pre_up.Facts] (m : (ℓ : Loc Cert.UpIdeal.nD Cert.UpIdeal.τ Cert.UpIdeal.sig) → Buf (Elt Ideal) ℓ) : Prop :=
  ∀ c : Dev Cert.UpIdeal.nD,
    (Cert.Pre_pre_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_pre_up [hPre_pre_up : Cert.Pre_pre_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_pre_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_pre_gate [hPre_pre_gate : Cert.Pre_pre_gate.Facts] (m : (ℓ : Loc Cert.GateIdeal.nD Cert.GateIdeal.τ Cert.GateIdeal.sig) → Buf (Elt Ideal) ℓ) : Prop :=
  ∀ c : Dev Cert.GateIdeal.nD,
    (Cert.Pre_pre_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_pre_gate [hPre_pre_gate : Cert.Pre_pre_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_pre_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outln (m : (ℓ : Loc Cert.Outln.nD Cert.Outln.τ Cert.Outln.sig) → Buf (Elt Bits) ℓ) : Prop :=
  True

def Pre_OutlnIdeal (m : (ℓ : Loc Cert.OutlnIdeal.nD Cert.OutlnIdeal.τ Cert.OutlnIdeal.sig) → Buf (Elt Ideal) ℓ) : Prop :=
  True

def Pre_OutlnRefIdeal (m : (ℓ : Loc Cert.OutlnRefIdeal.nD Cert.OutlnRefIdeal.τ Cert.OutlnRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def Pre_Gatef (m : (ℓ : Loc Cert.Gatef.nD Cert.Gatef.τ Cert.Gatef.sig) → Buf (Elt Bits) ℓ) : Prop :=
  True

def Pre_GatefIdeal (m : (ℓ : Loc Cert.GatefIdeal.nD Cert.GatefIdeal.τ Cert.GatefIdeal.sig) → Buf (Elt Ideal) ℓ) : Prop :=
  True

def Pre_GatefRefIdeal (m : (ℓ : Loc Cert.GatefRefIdeal.nD Cert.GatefRefIdeal.τ Cert.GatefRefIdeal.sig) → Buf (Elt Ideal) ℓ) : Prop :=
  True

def Pre_Dila (m : (ℓ : Loc Cert.Dila.nD Cert.Dila.τ Cert.Dila.sig) → Buf (Elt Bits) ℓ) : Prop :=
  True

def Pre_DilaIdeal (m : (ℓ : Loc Cert.DilaIdeal.nD Cert.DilaIdeal.τ Cert.DilaIdeal.sig) → Buf (Elt Ideal) ℓ) : Prop :=
  True

def Pre_DilaRefIdeal (m : (ℓ : Loc Cert.DilaRefIdeal.nD Cert.DilaRefIdeal.τ Cert.DilaRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_pre_down [hDownIdeal : Cert.DownIdeal.Facts] [hPre_pre_down : Cert.Pre_pre_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_pre_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_pre_down [hDownRefIdeal : Cert.DownRefIdeal.Facts] [hPre_pre_down : Cert.Pre_pre_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_pre_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_pre_mla [hMlaIdeal : Cert.MlaIdeal.Facts] [hPre_pre_mla : Cert.Pre_pre_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_pre_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_pre_mla [hMlaRefIdeal : Cert.MlaRefIdeal.Facts] [hPre_pre_mla : Cert.Pre_pre_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_pre_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Mlaf [hMlaf : Cert.Mlaf.Facts] : Prop :=
  ∀ (m : (ℓ : Loc Cert.Mlaf.nD Cert.Mlaf.τ Cert.Mlaf.sig) → Buf (Elt Bits) ℓ) (g : Dev Cert.Mlaf.nD → PrngReg), Pre_Mlaf m →
    θ_run (Cert.Mlaf.defs (F := Bits)) (onTc (τ := Cert.Mlaf.τ) (Cert.Mlaf.main (F := Bits))) ⟨m, fun _ => 0, g⟩ (fun r => (∀ c : Dev Cert.Mlaf.nD,
      r.2.mem ((c.tc : Thread Cert.Mlaf.nD Cert.Mlaf.τ).loc Cert.Mlaf.main_arg0) = m ((c.tc : Thread Cert.Mlaf.nD Cert.Mlaf.τ).loc Cert.Mlaf.main_arg0)
      ∧ r.2.mem ((c.tc : Thread Cert.Mlaf.nD Cert.Mlaf.τ).loc Cert.Mlaf.main_arg1) = m ((c.tc : Thread Cert.Mlaf.nD Cert.Mlaf.τ).loc Cert.Mlaf.main_arg1)
      ∧ r.2.mem ((c.tc : Thread Cert.Mlaf.nD Cert.Mlaf.τ).loc Cert.Mlaf.main_arg2) = m ((c.tc : Thread Cert.Mlaf.nD Cert.Mlaf.τ).loc Cert.Mlaf.main_arg2))
      ∧ r.2.sem = fun _ => 0)

def quiescent_MlafIdeal [hMlafIdeal : Cert.MlafIdeal.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2))
      ∧ r.2.sem = fun _ => 0)

def quiescent_MlafIdeal_pre_pre_mlaf [hMlafIdeal : Cert.MlafIdeal.Facts] [hPre_pre_mlaf : Cert.Pre_pre_mlaf.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal_pre_mlaf m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2))
      ∧ r.2.sem = fun _ => 0)

def quiescent_MlafRefIdeal [hMlafRefIdeal : Cert.MlafRefIdeal.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2))
      ∧ r.2.sem = fun _ => 0)

def quiescent_MlafRefIdeal_pre_pre_mlaf [hMlafRefIdeal : Cert.MlafRefIdeal.Facts] [hPre_pre_mlaf : Cert.Pre_pre_mlaf.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal_pre_mlaf m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_pre_up [hUpIdeal : Cert.UpIdeal.Facts] [hPre_pre_up : Cert.Pre_pre_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_pre_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_pre_up [hUpRefIdeal : Cert.UpRefIdeal.Facts] [hPre_pre_up : Cert.Pre_pre_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_pre_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_pre_gate [hGateIdeal : Cert.GateIdeal.Facts] [hPre_pre_gate : Cert.Pre_pre_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_pre_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_pre_gate [hGateRefIdeal : Cert.GateRefIdeal.Facts] [hPre_pre_gate : Cert.Pre_pre_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_pre_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Outln [hOutln : Cert.Outln.Facts] : Prop :=
  ∀ (m : (ℓ : Loc Cert.Outln.nD Cert.Outln.τ Cert.Outln.sig) → Buf (Elt Bits) ℓ) (g : Dev Cert.Outln.nD → PrngReg), Pre_Outln m →
    θ_run (Cert.Outln.defs (F := Bits)) (onTc (τ := Cert.Outln.τ) (Cert.Outln.main (F := Bits))) ⟨m, fun _ => 0, g⟩ (fun r => (∀ c : Dev Cert.Outln.nD,
      r.2.mem ((c.tc : Thread Cert.Outln.nD Cert.Outln.τ).loc Cert.Outln.main_arg0) = m ((c.tc : Thread Cert.Outln.nD Cert.Outln.τ).loc Cert.Outln.main_arg0)
      ∧ r.2.mem ((c.tc : Thread Cert.Outln.nD Cert.Outln.τ).loc Cert.Outln.main_arg1) = m ((c.tc : Thread Cert.Outln.nD Cert.Outln.τ).loc Cert.Outln.main_arg1)
      ∧ r.2.mem ((c.tc : Thread Cert.Outln.nD Cert.Outln.τ).loc Cert.Outln.main_arg2) = m ((c.tc : Thread Cert.Outln.nD Cert.Outln.τ).loc Cert.Outln.main_arg2)
      ∧ r.2.mem ((c.tc : Thread Cert.Outln.nD Cert.Outln.τ).loc Cert.Outln.main_arg3) = m ((c.tc : Thread Cert.Outln.nD Cert.Outln.τ).loc Cert.Outln.main_arg3)
      ∧ r.2.mem ((c.tc : Thread Cert.Outln.nD Cert.Outln.τ).loc Cert.Outln.main_arg4) = m ((c.tc : Thread Cert.Outln.nD Cert.Outln.τ).loc Cert.Outln.main_arg4)
      ∧ r.2.mem ((c.tc : Thread Cert.Outln.nD Cert.Outln.τ).loc Cert.Outln.main_arg5) = m ((c.tc : Thread Cert.Outln.nD Cert.Outln.τ).loc Cert.Outln.main_arg5))
      ∧ r.2.sem = fun _ => 0)

def quiescent_OutlnIdeal [hOutlnIdeal : Cert.OutlnIdeal.Facts] : Prop :=
  ∀ (m : (ℓ : Loc Cert.OutlnIdeal.nD Cert.OutlnIdeal.τ Cert.OutlnIdeal.sig) → Buf (Elt Ideal) ℓ) (g : Dev Cert.OutlnIdeal.nD → PrngReg), Pre_OutlnIdeal m →
    θ_run (Cert.OutlnIdeal.defs (F := Ideal)) (onTc (τ := Cert.OutlnIdeal.τ) (Cert.OutlnIdeal.main (F := Ideal))) ⟨m, fun _ => 0, g⟩ (fun r => (∀ c : Dev Cert.OutlnIdeal.nD,
      r.2.mem ((c.tc : Thread Cert.OutlnIdeal.nD Cert.OutlnIdeal.τ).loc Cert.OutlnIdeal.main_arg0) = m ((c.tc : Thread Cert.OutlnIdeal.nD Cert.OutlnIdeal.τ).loc Cert.OutlnIdeal.main_arg0)
      ∧ r.2.mem ((c.tc : Thread Cert.OutlnIdeal.nD Cert.OutlnIdeal.τ).loc Cert.OutlnIdeal.main_arg1) = m ((c.tc : Thread Cert.OutlnIdeal.nD Cert.OutlnIdeal.τ).loc Cert.OutlnIdeal.main_arg1)
      ∧ r.2.mem ((c.tc : Thread Cert.OutlnIdeal.nD Cert.OutlnIdeal.τ).loc Cert.OutlnIdeal.main_arg2) = m ((c.tc : Thread Cert.OutlnIdeal.nD Cert.OutlnIdeal.τ).loc Cert.OutlnIdeal.main_arg2)
      ∧ r.2.mem ((c.tc : Thread Cert.OutlnIdeal.nD Cert.OutlnIdeal.τ).loc Cert.OutlnIdeal.main_arg3) = m ((c.tc : Thread Cert.OutlnIdeal.nD Cert.OutlnIdeal.τ).loc Cert.OutlnIdeal.main_arg3)
      ∧ r.2.mem ((c.tc : Thread Cert.OutlnIdeal.nD Cert.OutlnIdeal.τ).loc Cert.OutlnIdeal.main_arg4) = m ((c.tc : Thread Cert.OutlnIdeal.nD Cert.OutlnIdeal.τ).loc Cert.OutlnIdeal.main_arg4)
      ∧ r.2.mem ((c.tc : Thread Cert.OutlnIdeal.nD Cert.OutlnIdeal.τ).loc Cert.OutlnIdeal.main_arg5) = m ((c.tc : Thread Cert.OutlnIdeal.nD Cert.OutlnIdeal.τ).loc Cert.OutlnIdeal.main_arg5))
      ∧ r.2.sem = fun _ => 0)

def quiescent_OutlnRefIdeal [hOutlnRefIdeal : Cert.OutlnRefIdeal.Facts] : Prop :=
  ∀ (m : (ℓ : Loc Cert.OutlnRefIdeal.nD Cert.OutlnRefIdeal.τ Cert.OutlnRefIdeal.sig) → Buf (Elt Ideal) ℓ) (g : Dev Cert.OutlnRefIdeal.nD → PrngReg), Pre_OutlnRefIdeal m →
    θ_run (Cert.OutlnRefIdeal.defs (F := Ideal)) (onTc (τ := Cert.OutlnRefIdeal.τ) (Cert.OutlnRefIdeal.main (F := Ideal))) ⟨m, fun _ => 0, g⟩ (fun r => (∀ c : Dev Cert.OutlnRefIdeal.nD,
      r.2.mem ((c.tc : Thread Cert.OutlnRefIdeal.nD Cert.OutlnRefIdeal.τ).loc Cert.OutlnRefIdeal.main_arg0) = m ((c.tc : Thread Cert.OutlnRefIdeal.nD Cert.OutlnRefIdeal.τ).loc Cert.OutlnRefIdeal.main_arg0)
      ∧ r.2.mem ((c.tc : Thread Cert.OutlnRefIdeal.nD Cert.OutlnRefIdeal.τ).loc Cert.OutlnRefIdeal.main_arg1) = m ((c.tc : Thread Cert.OutlnRefIdeal.nD Cert.OutlnRefIdeal.τ).loc Cert.OutlnRefIdeal.main_arg1)
      ∧ r.2.mem ((c.tc : Thread Cert.OutlnRefIdeal.nD Cert.OutlnRefIdeal.τ).loc Cert.OutlnRefIdeal.main_arg2) = m ((c.tc : Thread Cert.OutlnRefIdeal.nD Cert.OutlnRefIdeal.τ).loc Cert.OutlnRefIdeal.main_arg2)
      ∧ r.2.mem ((c.tc : Thread Cert.OutlnRefIdeal.nD Cert.OutlnRefIdeal.τ).loc Cert.OutlnRefIdeal.main_arg3) = m ((c.tc : Thread Cert.OutlnRefIdeal.nD Cert.OutlnRefIdeal.τ).loc Cert.OutlnRefIdeal.main_arg3)
      ∧ r.2.mem ((c.tc : Thread Cert.OutlnRefIdeal.nD Cert.OutlnRefIdeal.τ).loc Cert.OutlnRefIdeal.main_arg4) = m ((c.tc : Thread Cert.OutlnRefIdeal.nD Cert.OutlnRefIdeal.τ).loc Cert.OutlnRefIdeal.main_arg4)
      ∧ r.2.mem ((c.tc : Thread Cert.OutlnRefIdeal.nD Cert.OutlnRefIdeal.τ).loc Cert.OutlnRefIdeal.main_arg5) = m ((c.tc : Thread Cert.OutlnRefIdeal.nD Cert.OutlnRefIdeal.τ).loc Cert.OutlnRefIdeal.main_arg5))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5))
      ∧ r.2.sem = fun _ => 0)

def quiescent_Gatef [hGatef : Cert.Gatef.Facts] : Prop :=
  ∀ (m : (ℓ : Loc Cert.Gatef.nD Cert.Gatef.τ Cert.Gatef.sig) → Buf (Elt Bits) ℓ) (g : Dev Cert.Gatef.nD → PrngReg), Pre_Gatef m →
    θ_run (Cert.Gatef.defs (F := Bits)) (onTc (τ := Cert.Gatef.τ) (Cert.Gatef.main (F := Bits))) ⟨m, fun _ => 0, g⟩ (fun r => (∀ c : Dev Cert.Gatef.nD,
      r.2.mem ((c.tc : Thread Cert.Gatef.nD Cert.Gatef.τ).loc Cert.Gatef.main_arg0) = m ((c.tc : Thread Cert.Gatef.nD Cert.Gatef.τ).loc Cert.Gatef.main_arg0)
      ∧ r.2.mem ((c.tc : Thread Cert.Gatef.nD Cert.Gatef.τ).loc Cert.Gatef.main_arg1) = m ((c.tc : Thread Cert.Gatef.nD Cert.Gatef.τ).loc Cert.Gatef.main_arg1)
      ∧ r.2.mem ((c.tc : Thread Cert.Gatef.nD Cert.Gatef.τ).loc Cert.Gatef.main_arg2) = m ((c.tc : Thread Cert.Gatef.nD Cert.Gatef.τ).loc Cert.Gatef.main_arg2)
      ∧ r.2.mem ((c.tc : Thread Cert.Gatef.nD Cert.Gatef.τ).loc Cert.Gatef.main_arg3) = m ((c.tc : Thread Cert.Gatef.nD Cert.Gatef.τ).loc Cert.Gatef.main_arg3))
      ∧ r.2.sem = fun _ => 0)

def quiescent_GatefIdeal [hGatefIdeal : Cert.GatefIdeal.Facts] : Prop :=
  ∀ (m : (ℓ : Loc Cert.GatefIdeal.nD Cert.GatefIdeal.τ Cert.GatefIdeal.sig) → Buf (Elt Ideal) ℓ) (g : Dev Cert.GatefIdeal.nD → PrngReg), Pre_GatefIdeal m →
    θ_run (Cert.GatefIdeal.defs (F := Ideal)) (onTc (τ := Cert.GatefIdeal.τ) (Cert.GatefIdeal.main (F := Ideal))) ⟨m, fun _ => 0, g⟩ (fun r => (∀ c : Dev Cert.GatefIdeal.nD,
      r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
      ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
      ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2)
      ∧ r.2.mem ((c.tc : Thread Cert.GatefIdeal.nD Cert.GatefIdeal.τ).loc Cert.GatefIdeal.main_arg3) = m ((c.tc : Thread Cert.GatefIdeal.nD Cert.GatefIdeal.τ).loc Cert.GatefIdeal.main_arg3))
      ∧ r.2.sem = fun _ => 0)

def quiescent_GatefRefIdeal [hGatefRefIdeal : Cert.GatefRefIdeal.Facts] : Prop :=
  ∀ (m : (ℓ : Loc Cert.GatefRefIdeal.nD Cert.GatefRefIdeal.τ Cert.GatefRefIdeal.sig) → Buf (Elt Ideal) ℓ) (g : Dev Cert.GatefRefIdeal.nD → PrngReg), Pre_GatefRefIdeal m →
    θ_run (Cert.GatefRefIdeal.defs (F := Ideal)) (onTc (τ := Cert.GatefRefIdeal.τ) (Cert.GatefRefIdeal.main (F := Ideal))) ⟨m, fun _ => 0, g⟩ (fun r => (∀ c : Dev Cert.GatefRefIdeal.nD,
      r.2.mem ((c.tc : Thread Cert.GatefRefIdeal.nD Cert.GatefRefIdeal.τ).loc Cert.GatefRefIdeal.main_arg0) = m ((c.tc : Thread Cert.GatefRefIdeal.nD Cert.GatefRefIdeal.τ).loc Cert.GatefRefIdeal.main_arg0)
      ∧ r.2.mem ((c.tc : Thread Cert.GatefRefIdeal.nD Cert.GatefRefIdeal.τ).loc Cert.GatefRefIdeal.main_arg1) = m ((c.tc : Thread Cert.GatefRefIdeal.nD Cert.GatefRefIdeal.τ).loc Cert.GatefRefIdeal.main_arg1)
      ∧ r.2.mem ((c.tc : Thread Cert.GatefRefIdeal.nD Cert.GatefRefIdeal.τ).loc Cert.GatefRefIdeal.main_arg2) = m ((c.tc : Thread Cert.GatefRefIdeal.nD Cert.GatefRefIdeal.τ).loc Cert.GatefRefIdeal.main_arg2)
      ∧ r.2.mem ((c.tc : Thread Cert.GatefRefIdeal.nD Cert.GatefRefIdeal.τ).loc Cert.GatefRefIdeal.main_arg3) = m ((c.tc : Thread Cert.GatefRefIdeal.nD Cert.GatefRefIdeal.τ).loc Cert.GatefRefIdeal.main_arg3))
      ∧ r.2.sem = fun _ => 0)

def quiescent_Dila [hDila : Cert.Dila.Facts] : Prop :=
  ∀ (m : (ℓ : Loc Cert.Dila.nD Cert.Dila.τ Cert.Dila.sig) → Buf (Elt Bits) ℓ) (g : Dev Cert.Dila.nD → PrngReg), Pre_Dila m →
    θ_run (Cert.Dila.defs (F := Bits)) (onTc (τ := Cert.Dila.τ) (Cert.Dila.main (F := Bits))) ⟨m, fun _ => 0, g⟩ (fun r => (∀ c : Dev Cert.Dila.nD,
      r.2.mem ((c.tc : Thread Cert.Dila.nD Cert.Dila.τ).loc Cert.Dila.main_arg0) = m ((c.tc : Thread Cert.Dila.nD Cert.Dila.τ).loc Cert.Dila.main_arg0)
      ∧ r.2.mem ((c.tc : Thread Cert.Dila.nD Cert.Dila.τ).loc Cert.Dila.main_arg1) = m ((c.tc : Thread Cert.Dila.nD Cert.Dila.τ).loc Cert.Dila.main_arg1)
      ∧ r.2.mem ((c.tc : Thread Cert.Dila.nD Cert.Dila.τ).loc Cert.Dila.main_arg2) = m ((c.tc : Thread Cert.Dila.nD Cert.Dila.τ).loc Cert.Dila.main_arg2)
      ∧ r.2.mem ((c.tc : Thread Cert.Dila.nD Cert.Dila.τ).loc Cert.Dila.main_arg3) = m ((c.tc : Thread Cert.Dila.nD Cert.Dila.τ).loc Cert.Dila.main_arg3))
      ∧ r.2.sem = fun _ => 0)

def quiescent_DilaIdeal [hDilaIdeal : Cert.DilaIdeal.Facts] : Prop :=
  ∀ (m : (ℓ : Loc Cert.DilaIdeal.nD Cert.DilaIdeal.τ Cert.DilaIdeal.sig) → Buf (Elt Ideal) ℓ) (g : Dev Cert.DilaIdeal.nD → PrngReg), Pre_DilaIdeal m →
    θ_run (Cert.DilaIdeal.defs (F := Ideal)) (onTc (τ := Cert.DilaIdeal.τ) (Cert.DilaIdeal.main (F := Ideal))) ⟨m, fun _ => 0, g⟩ (fun r => (∀ c : Dev Cert.DilaIdeal.nD,
      r.2.mem ((c.tc : Thread Cert.DilaIdeal.nD Cert.DilaIdeal.τ).loc Cert.DilaIdeal.main_arg0) = m ((c.tc : Thread Cert.DilaIdeal.nD Cert.DilaIdeal.τ).loc Cert.DilaIdeal.main_arg0)
      ∧ r.2.mem ((c.tc : Thread Cert.DilaIdeal.nD Cert.DilaIdeal.τ).loc Cert.DilaIdeal.main_arg1) = m ((c.tc : Thread Cert.DilaIdeal.nD Cert.DilaIdeal.τ).loc Cert.DilaIdeal.main_arg1)
      ∧ r.2.mem ((c.tc : Thread Cert.DilaIdeal.nD Cert.DilaIdeal.τ).loc Cert.DilaIdeal.main_arg2) = m ((c.tc : Thread Cert.DilaIdeal.nD Cert.DilaIdeal.τ).loc Cert.DilaIdeal.main_arg2)
      ∧ r.2.mem ((c.tc : Thread Cert.DilaIdeal.nD Cert.DilaIdeal.τ).loc Cert.DilaIdeal.main_arg3) = m ((c.tc : Thread Cert.DilaIdeal.nD Cert.DilaIdeal.τ).loc Cert.DilaIdeal.main_arg3))
      ∧ r.2.sem = fun _ => 0)

def quiescent_DilaRefIdeal [hDilaRefIdeal : Cert.DilaRefIdeal.Facts] : Prop :=
  ∀ (m : (ℓ : Loc Cert.DilaRefIdeal.nD Cert.DilaRefIdeal.τ Cert.DilaRefIdeal.sig) → Buf (Elt Ideal) ℓ) (g : Dev Cert.DilaRefIdeal.nD → PrngReg), Pre_DilaRefIdeal m →
    θ_run (Cert.DilaRefIdeal.defs (F := Ideal)) (onTc (τ := Cert.DilaRefIdeal.τ) (Cert.DilaRefIdeal.main (F := Ideal))) ⟨m, fun _ => 0, g⟩ (fun r => (∀ c : Dev Cert.DilaRefIdeal.nD,
      r.2.mem ((c.tc : Thread Cert.DilaRefIdeal.nD Cert.DilaRefIdeal.τ).loc Cert.DilaRefIdeal.main_arg0) = m ((c.tc : Thread Cert.DilaRefIdeal.nD Cert.DilaRefIdeal.τ).loc Cert.DilaRefIdeal.main_arg0)
      ∧ r.2.mem ((c.tc : Thread Cert.DilaRefIdeal.nD Cert.DilaRefIdeal.τ).loc Cert.DilaRefIdeal.main_arg1) = m ((c.tc : Thread Cert.DilaRefIdeal.nD Cert.DilaRefIdeal.τ).loc Cert.DilaRefIdeal.main_arg1)
      ∧ r.2.mem ((c.tc : Thread Cert.DilaRefIdeal.nD Cert.DilaRefIdeal.τ).loc Cert.DilaRefIdeal.main_arg2) = m ((c.tc : Thread Cert.DilaRefIdeal.nD Cert.DilaRefIdeal.τ).loc Cert.DilaRefIdeal.main_arg2)
      ∧ r.2.mem ((c.tc : Thread Cert.DilaRefIdeal.nD Cert.DilaRefIdeal.τ).loc Cert.DilaRefIdeal.main_arg3) = m ((c.tc : Thread Cert.DilaRefIdeal.nD Cert.DilaRefIdeal.τ).loc Cert.DilaRefIdeal.main_arg3))
      ∧ r.2.sem = fun _ => 0)

def preserves_Down_DownIdeal : Prop :=
  True

def algebraic_DownIdeal_DownRefIdeal_pre_pre_down [hDownIdeal : Cert.DownIdeal.Facts] [hDownRefIdeal : Cert.DownRefIdeal.Facts] [hPre_pre_down : Cert.Pre_pre_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_pre_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)) (v3 : (c : Dev Cert.DownIdeal.nD) → Buf (Elt Ideal) ((c.tc : Thread Cert.DownIdeal.nD Cert.DownIdeal.τ).loc Cert.DownIdeal.main_v4_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_v4_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v80) = v0 c
          ∧ r.2.mem ((c.tc : Thread Cert.DownRefIdeal.nD Cert.DownRefIdeal.τ).loc Cert.DownRefIdeal.main_v81) = v1 c
          ∧ r.2.mem ((c.tc : Thread Cert.DownRefIdeal.nD Cert.DownRefIdeal.τ).loc Cert.DownRefIdeal.main_v82) = v2 c
          ∧ r.2.mem ((c.tc : Thread Cert.DownRefIdeal.nD Cert.DownRefIdeal.τ).loc Cert.DownRefIdeal.main_v83) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Mla_MlaIdeal : Prop :=
  IdealRules.named_const.Statement Cert.MlaIdeal.κ "mask" .f32 0xF149F2CA#32 ⊥

def algebraic_MlaIdeal_MlaRefIdeal_pre_pre_mla [hMlaIdeal : Cert.MlaIdeal.Facts] [hMlaRefIdeal : Cert.MlaRefIdeal.Facts] [hPre_pre_mla : Cert.Pre_pre_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_pre_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v39_0)) (v1 : (c : Dev Cert.MlaIdeal.nD) → Buf (Elt Ideal) ((c.tc : Thread Cert.MlaIdeal.nD Cert.MlaIdeal.τ).loc Cert.MlaIdeal.main_v39_1)) (v2 : (c : Dev Cert.MlaIdeal.nD) → Buf (Elt Ideal) ((c.tc : Thread Cert.MlaIdeal.nD Cert.MlaIdeal.τ).loc Cert.MlaIdeal.main_v39_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v39_0) = v0 c
          ∧ r.2.mem ((c.tc : Thread Cert.MlaIdeal.nD Cert.MlaIdeal.τ).loc Cert.MlaIdeal.main_v39_1) = v1 c
          ∧ r.2.mem ((c.tc : Thread Cert.MlaIdeal.nD Cert.MlaIdeal.τ).loc Cert.MlaIdeal.main_v39_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v66) = v0 c
          ∧ r.2.mem ((c.tc : Thread Cert.MlaRefIdeal.nD Cert.MlaRefIdeal.τ).loc Cert.MlaRefIdeal.main_v68) = v1 c
          ∧ r.2.mem ((c.tc : Thread Cert.MlaRefIdeal.nD Cert.MlaRefIdeal.τ).loc Cert.MlaRefIdeal.main_v69) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Mlaf_MlafIdeal : Prop :=
  IdealRules.named_const.Statement Cert.MlafIdeal.κ "mask" .f32 0xF149F2CA#32 ⊥
  ∧ IdealRules.named_const.Statement Cert.MlafIdeal.κ "scale2" .f32 0x3E16C740#32 (((3424635 / 33554432) * (Real.log 2)⁻¹ : ℝ) : EReal)

def algebraic_MlafIdeal_MlafRefIdeal_pre_pre_mlaf [hMlafIdeal : Cert.MlafIdeal.Facts] [hMlafRefIdeal : Cert.MlafRefIdeal.Facts] [hPre_pre_mlaf : Cert.Pre_pre_mlaf.Facts] : Prop :=
  ∀ (m : (ℓ : Loc Cert.MlafIdeal.nD Cert.MlafIdeal.τ Cert.MlafIdeal.sig) → Buf (Elt Ideal) ℓ) (g : Dev Cert.MlafIdeal.nD → PrngReg)
    (m' : (ℓ : Loc Cert.MlafRefIdeal.nD Cert.MlafRefIdeal.τ Cert.MlafRefIdeal.sig) → Buf (Elt Ideal) ℓ) (g' : Dev Cert.MlafRefIdeal.nD → PrngReg), Pre_MlafIdeal_pre_mlaf m →
    (∀ c : Dev Cert.MlafIdeal.nD,
      m' ((c.tc : Thread Cert.MlafRefIdeal.nD Cert.MlafRefIdeal.τ).loc Cert.MlafRefIdeal.main_arg0) = m ((c.tc : Thread Cert.MlafIdeal.nD Cert.MlafIdeal.τ).loc Cert.MlafIdeal.main_arg0)
      ∧ m' ((c.tc : Thread Cert.MlafRefIdeal.nD Cert.MlafRefIdeal.τ).loc Cert.MlafRefIdeal.main_arg1) = m ((c.tc : Thread Cert.MlafIdeal.nD Cert.MlafIdeal.τ).loc Cert.MlafIdeal.main_arg1)
      ∧ m' ((c.tc : Thread Cert.MlafRefIdeal.nD Cert.MlafRefIdeal.τ).loc Cert.MlafRefIdeal.main_arg2) = m ((c.tc : Thread Cert.MlafIdeal.nD Cert.MlafIdeal.τ).loc Cert.MlafIdeal.main_arg2)) →
    ∃ (v0 : (c : Dev Cert.MlafIdeal.nD) → Buf (Elt Ideal) ((c.tc : Thread Cert.MlafIdeal.nD Cert.MlafIdeal.τ).loc Cert.MlafIdeal.main_v8_0)) (v1 : (c : Dev Cert.MlafIdeal.nD) → Buf (Elt Ideal) ((c.tc : Thread Cert.MlafIdeal.nD Cert.MlafIdeal.τ).loc Cert.MlafIdeal.main_v8_1)),
      θ_run (Cert.MlafIdeal.defs (F := Ideal)) (onTc (τ := Cert.MlafIdeal.τ) (Cert.MlafIdeal.main (F := Ideal))) ⟨m, fun _ => 0, g⟩ (fun r => ∀ c : Dev Cert.MlafIdeal.nD,
          r.2.mem ((c.tc : Thread Cert.MlafIdeal.nD Cert.MlafIdeal.τ).loc Cert.MlafIdeal.main_v8_0) = v0 c
          ∧ r.2.mem ((c.tc : Thread Cert.MlafIdeal.nD Cert.MlafIdeal.τ).loc Cert.MlafIdeal.main_v8_1) = v1 c
          ∧ r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
          ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
          ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2))
      ∧ θ_run (Cert.MlafRefIdeal.defs (F := Ideal)) (onTc (τ := Cert.MlafRefIdeal.τ) (Cert.MlafRefIdeal.main (F := Ideal))) ⟨m', fun _ => 0, g'⟩ (fun r => ∀ c : Dev Cert.MlafRefIdeal.nD,
          r.2.mem ((c.tc : Thread Cert.MlafRefIdeal.nD Cert.MlafRefIdeal.τ).loc Cert.MlafRefIdeal.main_v33) = v0 c
          ∧ r.2.mem ((c.tc : Thread Cert.MlafRefIdeal.nD Cert.MlafRefIdeal.τ).loc Cert.MlafRefIdeal.main_v34) = v1 c
          ∧ r.2.mem ((c.tc : Thread Cert.MlafRefIdeal.nD Cert.MlafRefIdeal.τ).loc Cert.MlafRefIdeal.main_arg0) = m' ((c.tc : Thread Cert.MlafRefIdeal.nD Cert.MlafRefIdeal.τ).loc Cert.MlafRefIdeal.main_arg0)
          ∧ r.2.mem ((c.tc : Thread Cert.MlafRefIdeal.nD Cert.MlafRefIdeal.τ).loc Cert.MlafRefIdeal.main_arg1) = m' ((c.tc : Thread Cert.MlafRefIdeal.nD Cert.MlafRefIdeal.τ).loc Cert.MlafRefIdeal.main_arg1)
          ∧ r.2.mem ((c.tc : Thread Cert.MlafRefIdeal.nD Cert.MlafRefIdeal.τ).loc Cert.MlafRefIdeal.main_arg2) = m' ((c.tc : Thread Cert.MlafRefIdeal.nD Cert.MlafRefIdeal.τ).loc Cert.MlafRefIdeal.main_arg2))

def preserves_Up_UpIdeal : Prop :=
  True

def algebraic_UpIdeal_UpRefIdeal_pre_pre_up [hUpIdeal : Cert.UpIdeal.Facts] [hUpRefIdeal : Cert.UpRefIdeal.Facts] [hPre_pre_up : Cert.Pre_pre_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_pre_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v23_0)) (v1 : (c : Dev Cert.UpIdeal.nD) → Buf (Elt Ideal) ((c.tc : Thread Cert.UpIdeal.nD Cert.UpIdeal.τ).loc Cert.UpIdeal.main_v23_1)) (v2 : (c : Dev Cert.UpIdeal.nD) → Buf (Elt Ideal) ((c.tc : Thread Cert.UpIdeal.nD Cert.UpIdeal.τ).loc Cert.UpIdeal.main_v23_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v23_0) = v0 c
          ∧ r.2.mem ((c.tc : Thread Cert.UpIdeal.nD Cert.UpIdeal.τ).loc Cert.UpIdeal.main_v23_1) = v1 c
          ∧ r.2.mem ((c.tc : Thread Cert.UpIdeal.nD Cert.UpIdeal.τ).loc Cert.UpIdeal.main_v23_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v69) = v0 c
          ∧ r.2.mem ((c.tc : Thread Cert.UpRefIdeal.nD Cert.UpRefIdeal.τ).loc Cert.UpRefIdeal.main_v70) = v1 c
          ∧ r.2.mem ((c.tc : Thread Cert.UpRefIdeal.nD Cert.UpRefIdeal.τ).loc Cert.UpRefIdeal.main_v71) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)) →
    ∃ (v0 : (c : Dev Cert.HeadsIdeal.nD) → Buf (Elt Ideal) ((c.tc : Thread Cert.HeadsIdeal.nD Cert.HeadsIdeal.τ).loc Cert.HeadsIdeal.main_v2_0)) (v1 : (c : Dev Cert.HeadsIdeal.nD) → Buf (Elt Ideal) ((c.tc : Thread Cert.HeadsIdeal.nD Cert.HeadsIdeal.τ).loc Cert.HeadsIdeal.main_v2_1)) (v2 : (c : Dev Cert.HeadsIdeal.nD) → Buf (Elt Ideal) ((c.tc : Thread Cert.HeadsIdeal.nD Cert.HeadsIdeal.τ).loc Cert.HeadsIdeal.main_v2_2)) (v3 : (c : Dev Cert.HeadsIdeal.nD) → Buf (Elt Ideal) ((c.tc : Thread Cert.HeadsIdeal.nD Cert.HeadsIdeal.τ).loc Cert.HeadsIdeal.main_v2_3)) (v4 : (c : Dev Cert.HeadsIdeal.nD) → Buf (Elt Ideal) ((c.tc : Thread Cert.HeadsIdeal.nD Cert.HeadsIdeal.τ).loc Cert.HeadsIdeal.main_v2_4)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v2_0) = v0 c
          ∧ r.2.mem ((c.tc : Thread Cert.HeadsIdeal.nD Cert.HeadsIdeal.τ).loc Cert.HeadsIdeal.main_v2_1) = v1 c
          ∧ r.2.mem ((c.tc : Thread Cert.HeadsIdeal.nD Cert.HeadsIdeal.τ).loc Cert.HeadsIdeal.main_v2_2) = v2 c
          ∧ r.2.mem ((c.tc : Thread Cert.HeadsIdeal.nD Cert.HeadsIdeal.τ).loc Cert.HeadsIdeal.main_v2_3) = v3 c
          ∧ r.2.mem ((c.tc : Thread Cert.HeadsIdeal.nD Cert.HeadsIdeal.τ).loc Cert.HeadsIdeal.main_v2_4) = v4 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v8) = v0 c
          ∧ r.2.mem ((c.tc : Thread Cert.HeadsRefIdeal.nD Cert.HeadsRefIdeal.τ).loc Cert.HeadsRefIdeal.main_v15) = v1 c
          ∧ r.2.mem ((c.tc : Thread Cert.HeadsRefIdeal.nD Cert.HeadsRefIdeal.τ).loc Cert.HeadsRefIdeal.main_v18) = v2 c
          ∧ r.2.mem ((c.tc : Thread Cert.HeadsRefIdeal.nD Cert.HeadsRefIdeal.τ).loc Cert.HeadsRefIdeal.main_v20) = v3 c
          ∧ r.2.mem ((c.tc : Thread Cert.HeadsRefIdeal.nD Cert.HeadsRefIdeal.τ).loc Cert.HeadsRefIdeal.main_v22) = v4 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3))

def preserves_Gate_GateIdeal : Prop :=
  True

def algebraic_GateIdeal_GateRefIdeal_pre_pre_gate [hGateIdeal : Cert.GateIdeal.Facts] [hGateRefIdeal : Cert.GateRefIdeal.Facts] [hPre_pre_gate : Cert.Pre_pre_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_pre_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v66_0)) (v1 : (c : Dev Cert.GateIdeal.nD) → Buf (Elt Ideal) ((c.tc : Thread Cert.GateIdeal.nD Cert.GateIdeal.τ).loc Cert.GateIdeal.main_v66_1)) (v2 : (c : Dev Cert.GateIdeal.nD) → Buf (Elt Ideal) ((c.tc : Thread Cert.GateIdeal.nD Cert.GateIdeal.τ).loc Cert.GateIdeal.main_v66_2)) (v3 : (c : Dev Cert.GateIdeal.nD) → Buf (Elt Ideal) ((c.tc : Thread Cert.GateIdeal.nD Cert.GateIdeal.τ).loc Cert.GateIdeal.main_v66_3)) (v4 : (c : Dev Cert.GateIdeal.nD) → Buf (Elt Ideal) ((c.tc : Thread Cert.GateIdeal.nD Cert.GateIdeal.τ).loc Cert.GateIdeal.main_v66_4)) (v5 : (c : Dev Cert.GateIdeal.nD) → Buf (Elt Ideal) ((c.tc : Thread Cert.GateIdeal.nD Cert.GateIdeal.τ).loc Cert.GateIdeal.main_v66_5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v66_0) = v0 c
          ∧ r.2.mem ((c.tc : Thread Cert.GateIdeal.nD Cert.GateIdeal.τ).loc Cert.GateIdeal.main_v66_1) = v1 c
          ∧ r.2.mem ((c.tc : Thread Cert.GateIdeal.nD Cert.GateIdeal.τ).loc Cert.GateIdeal.main_v66_2) = v2 c
          ∧ r.2.mem ((c.tc : Thread Cert.GateIdeal.nD Cert.GateIdeal.τ).loc Cert.GateIdeal.main_v66_3) = v3 c
          ∧ r.2.mem ((c.tc : Thread Cert.GateIdeal.nD Cert.GateIdeal.τ).loc Cert.GateIdeal.main_v66_4) = v4 c
          ∧ r.2.mem ((c.tc : Thread Cert.GateIdeal.nD Cert.GateIdeal.τ).loc Cert.GateIdeal.main_v66_5) = v5 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v109) = v0 c
          ∧ r.2.mem ((c.tc : Thread Cert.GateRefIdeal.nD Cert.GateRefIdeal.τ).loc Cert.GateRefIdeal.main_v111) = v1 c
          ∧ r.2.mem ((c.tc : Thread Cert.GateRefIdeal.nD Cert.GateRefIdeal.τ).loc Cert.GateRefIdeal.main_v112) = v2 c
          ∧ r.2.mem ((c.tc : Thread Cert.GateRefIdeal.nD Cert.GateRefIdeal.τ).loc Cert.GateRefIdeal.main_v113) = v3 c
          ∧ r.2.mem ((c.tc : Thread Cert.GateRefIdeal.nD Cert.GateRefIdeal.τ).loc Cert.GateRefIdeal.main_v115) = v4 c
          ∧ r.2.mem ((c.tc : Thread Cert.GateRefIdeal.nD Cert.GateRefIdeal.τ).loc Cert.GateRefIdeal.main_v117) = v5 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v33)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v33) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Outln_OutlnIdeal : Prop :=
  True

def algebraic_OutlnIdeal_OutlnRefIdeal [hOutlnIdeal : Cert.OutlnIdeal.Facts] [hOutlnRefIdeal : Cert.OutlnRefIdeal.Facts] : Prop :=
  ∀ (m : (ℓ : Loc Cert.OutlnIdeal.nD Cert.OutlnIdeal.τ Cert.OutlnIdeal.sig) → Buf (Elt Ideal) ℓ) (g : Dev Cert.OutlnIdeal.nD → PrngReg)
    (m' : (ℓ : Loc Cert.OutlnRefIdeal.nD Cert.OutlnRefIdeal.τ Cert.OutlnRefIdeal.sig) → Buf (Elt Ideal) ℓ) (g' : Dev Cert.OutlnRefIdeal.nD → PrngReg), Pre_OutlnIdeal m →
    (∀ c : Dev Cert.OutlnIdeal.nD,
      m' ((c.tc : Thread Cert.OutlnRefIdeal.nD Cert.OutlnRefIdeal.τ).loc Cert.OutlnRefIdeal.main_arg0) = m ((c.tc : Thread Cert.OutlnIdeal.nD Cert.OutlnIdeal.τ).loc Cert.OutlnIdeal.main_arg0)
      ∧ m' ((c.tc : Thread Cert.OutlnRefIdeal.nD Cert.OutlnRefIdeal.τ).loc Cert.OutlnRefIdeal.main_arg1) = m ((c.tc : Thread Cert.OutlnIdeal.nD Cert.OutlnIdeal.τ).loc Cert.OutlnIdeal.main_arg1)
      ∧ m' ((c.tc : Thread Cert.OutlnRefIdeal.nD Cert.OutlnRefIdeal.τ).loc Cert.OutlnRefIdeal.main_arg2) = m ((c.tc : Thread Cert.OutlnIdeal.nD Cert.OutlnIdeal.τ).loc Cert.OutlnIdeal.main_arg2)
      ∧ m' ((c.tc : Thread Cert.OutlnRefIdeal.nD Cert.OutlnRefIdeal.τ).loc Cert.OutlnRefIdeal.main_arg3) = m ((c.tc : Thread Cert.OutlnIdeal.nD Cert.OutlnIdeal.τ).loc Cert.OutlnIdeal.main_arg3)
      ∧ m' ((c.tc : Thread Cert.OutlnRefIdeal.nD Cert.OutlnRefIdeal.τ).loc Cert.OutlnRefIdeal.main_arg4) = m ((c.tc : Thread Cert.OutlnIdeal.nD Cert.OutlnIdeal.τ).loc Cert.OutlnIdeal.main_arg4)
      ∧ m' ((c.tc : Thread Cert.OutlnRefIdeal.nD Cert.OutlnRefIdeal.τ).loc Cert.OutlnRefIdeal.main_arg5) = m ((c.tc : Thread Cert.OutlnIdeal.nD Cert.OutlnIdeal.τ).loc Cert.OutlnIdeal.main_arg5)) →
    ∃ (v0 : (c : Dev Cert.OutlnIdeal.nD) → Buf (Elt Ideal) ((c.tc : Thread Cert.OutlnIdeal.nD Cert.OutlnIdeal.τ).loc Cert.OutlnIdeal.main_v3_0)) (v1 : (c : Dev Cert.OutlnIdeal.nD) → Buf (Elt Ideal) ((c.tc : Thread Cert.OutlnIdeal.nD Cert.OutlnIdeal.τ).loc Cert.OutlnIdeal.main_v3_1)) (v2 : (c : Dev Cert.OutlnIdeal.nD) → Buf (Elt Ideal) ((c.tc : Thread Cert.OutlnIdeal.nD Cert.OutlnIdeal.τ).loc Cert.OutlnIdeal.main_v3_2)) (v3 : (c : Dev Cert.OutlnIdeal.nD) → Buf (Elt Ideal) ((c.tc : Thread Cert.OutlnIdeal.nD Cert.OutlnIdeal.τ).loc Cert.OutlnIdeal.main_v3_3)),
      θ_run (Cert.OutlnIdeal.defs (F := Ideal)) (onTc (τ := Cert.OutlnIdeal.τ) (Cert.OutlnIdeal.main (F := Ideal))) ⟨m, fun _ => 0, g⟩ (fun r => ∀ c : Dev Cert.OutlnIdeal.nD,
          r.2.mem ((c.tc : Thread Cert.OutlnIdeal.nD Cert.OutlnIdeal.τ).loc Cert.OutlnIdeal.main_v3_0) = v0 c
          ∧ r.2.mem ((c.tc : Thread Cert.OutlnIdeal.nD Cert.OutlnIdeal.τ).loc Cert.OutlnIdeal.main_v3_1) = v1 c
          ∧ r.2.mem ((c.tc : Thread Cert.OutlnIdeal.nD Cert.OutlnIdeal.τ).loc Cert.OutlnIdeal.main_v3_2) = v2 c
          ∧ r.2.mem ((c.tc : Thread Cert.OutlnIdeal.nD Cert.OutlnIdeal.τ).loc Cert.OutlnIdeal.main_v3_3) = v3 c
          ∧ r.2.mem ((c.tc : Thread Cert.OutlnIdeal.nD Cert.OutlnIdeal.τ).loc Cert.OutlnIdeal.main_arg0) = m ((c.tc : Thread Cert.OutlnIdeal.nD Cert.OutlnIdeal.τ).loc Cert.OutlnIdeal.main_arg0)
          ∧ r.2.mem ((c.tc : Thread Cert.OutlnIdeal.nD Cert.OutlnIdeal.τ).loc Cert.OutlnIdeal.main_arg1) = m ((c.tc : Thread Cert.OutlnIdeal.nD Cert.OutlnIdeal.τ).loc Cert.OutlnIdeal.main_arg1)
          ∧ r.2.mem ((c.tc : Thread Cert.OutlnIdeal.nD Cert.OutlnIdeal.τ).loc Cert.OutlnIdeal.main_arg2) = m ((c.tc : Thread Cert.OutlnIdeal.nD Cert.OutlnIdeal.τ).loc Cert.OutlnIdeal.main_arg2)
          ∧ r.2.mem ((c.tc : Thread Cert.OutlnIdeal.nD Cert.OutlnIdeal.τ).loc Cert.OutlnIdeal.main_arg3) = m ((c.tc : Thread Cert.OutlnIdeal.nD Cert.OutlnIdeal.τ).loc Cert.OutlnIdeal.main_arg3)
          ∧ r.2.mem ((c.tc : Thread Cert.OutlnIdeal.nD Cert.OutlnIdeal.τ).loc Cert.OutlnIdeal.main_arg4) = m ((c.tc : Thread Cert.OutlnIdeal.nD Cert.OutlnIdeal.τ).loc Cert.OutlnIdeal.main_arg4)
          ∧ r.2.mem ((c.tc : Thread Cert.OutlnIdeal.nD Cert.OutlnIdeal.τ).loc Cert.OutlnIdeal.main_arg5) = m ((c.tc : Thread Cert.OutlnIdeal.nD Cert.OutlnIdeal.τ).loc Cert.OutlnIdeal.main_arg5))
      ∧ θ_run (Cert.OutlnRefIdeal.defs (F := Ideal)) (onTc (τ := Cert.OutlnRefIdeal.τ) (Cert.OutlnRefIdeal.main (F := Ideal))) ⟨m', fun _ => 0, g'⟩ (fun r => ∀ c : Dev Cert.OutlnRefIdeal.nD,
          r.2.mem ((c.tc : Thread Cert.OutlnRefIdeal.nD Cert.OutlnRefIdeal.τ).loc Cert.OutlnRefIdeal.main_v42) = v0 c
          ∧ r.2.mem ((c.tc : Thread Cert.OutlnRefIdeal.nD Cert.OutlnRefIdeal.τ).loc Cert.OutlnRefIdeal.main_v44) = v1 c
          ∧ r.2.mem ((c.tc : Thread Cert.OutlnRefIdeal.nD Cert.OutlnRefIdeal.τ).loc Cert.OutlnRefIdeal.main_v18) = v2 c
          ∧ r.2.mem ((c.tc : Thread Cert.OutlnRefIdeal.nD Cert.OutlnRefIdeal.τ).loc Cert.OutlnRefIdeal.main_v45) = v3 c
          ∧ r.2.mem ((c.tc : Thread Cert.OutlnRefIdeal.nD Cert.OutlnRefIdeal.τ).loc Cert.OutlnRefIdeal.main_arg0) = m' ((c.tc : Thread Cert.OutlnRefIdeal.nD Cert.OutlnRefIdeal.τ).loc Cert.OutlnRefIdeal.main_arg0)
          ∧ r.2.mem ((c.tc : Thread Cert.OutlnRefIdeal.nD Cert.OutlnRefIdeal.τ).loc Cert.OutlnRefIdeal.main_arg1) = m' ((c.tc : Thread Cert.OutlnRefIdeal.nD Cert.OutlnRefIdeal.τ).loc Cert.OutlnRefIdeal.main_arg1)
          ∧ r.2.mem ((c.tc : Thread Cert.OutlnRefIdeal.nD Cert.OutlnRefIdeal.τ).loc Cert.OutlnRefIdeal.main_arg2) = m' ((c.tc : Thread Cert.OutlnRefIdeal.nD Cert.OutlnRefIdeal.τ).loc Cert.OutlnRefIdeal.main_arg2)
          ∧ r.2.mem ((c.tc : Thread Cert.OutlnRefIdeal.nD Cert.OutlnRefIdeal.τ).loc Cert.OutlnRefIdeal.main_arg3) = m' ((c.tc : Thread Cert.OutlnRefIdeal.nD Cert.OutlnRefIdeal.τ).loc Cert.OutlnRefIdeal.main_arg3)
          ∧ r.2.mem ((c.tc : Thread Cert.OutlnRefIdeal.nD Cert.OutlnRefIdeal.τ).loc Cert.OutlnRefIdeal.main_arg4) = m' ((c.tc : Thread Cert.OutlnRefIdeal.nD Cert.OutlnRefIdeal.τ).loc Cert.OutlnRefIdeal.main_arg4)
          ∧ r.2.mem ((c.tc : Thread Cert.OutlnRefIdeal.nD Cert.OutlnRefIdeal.τ).loc Cert.OutlnRefIdeal.main_arg5) = m' ((c.tc : Thread Cert.OutlnRefIdeal.nD Cert.OutlnRefIdeal.τ).loc Cert.OutlnRefIdeal.main_arg5))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)
      ∧ m' ((c.tc : Thread Cert.CombRefIdeal.nD Cert.CombRefIdeal.τ).loc Cert.CombRefIdeal.main_arg5) = m ((c.tc : Thread Cert.CombIdeal.nD Cert.CombIdeal.τ).loc Cert.CombIdeal.main_arg5)) →
    ∃ (v0 : (c : Dev Cert.CombIdeal.nD) → Buf (Elt Ideal) ((c.tc : Thread Cert.CombIdeal.nD Cert.CombIdeal.τ).loc Cert.CombIdeal.main_v17_0)) (v1 : (c : Dev Cert.CombIdeal.nD) → Buf (Elt Ideal) ((c.tc : Thread Cert.CombIdeal.nD Cert.CombIdeal.τ).loc Cert.CombIdeal.main_v17_1)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v17_0) = v0 c
          ∧ r.2.mem ((c.tc : Thread Cert.CombIdeal.nD Cert.CombIdeal.τ).loc Cert.CombIdeal.main_v17_1) = v1 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v31) = v0 c
          ∧ r.2.mem ((c.tc : Thread Cert.CombRefIdeal.nD Cert.CombRefIdeal.τ).loc Cert.CombRefIdeal.main_v33) = v1 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4)
          ∧ r.2.mem ((c.tc : Thread Cert.CombRefIdeal.nD Cert.CombRefIdeal.τ).loc Cert.CombRefIdeal.main_arg5) = m' ((c.tc : Thread Cert.CombRefIdeal.nD Cert.CombRefIdeal.τ).loc Cert.CombRefIdeal.main_arg5))

def preserves_Gatef_GatefIdeal : Prop :=
  True

def algebraic_GatefIdeal_GatefRefIdeal [hGatefIdeal : Cert.GatefIdeal.Facts] [hGatefRefIdeal : Cert.GatefRefIdeal.Facts] : Prop :=
  ∀ (m : (ℓ : Loc Cert.GatefIdeal.nD Cert.GatefIdeal.τ Cert.GatefIdeal.sig) → Buf (Elt Ideal) ℓ) (g : Dev Cert.GatefIdeal.nD → PrngReg)
    (m' : (ℓ : Loc Cert.GatefRefIdeal.nD Cert.GatefRefIdeal.τ Cert.GatefRefIdeal.sig) → Buf (Elt Ideal) ℓ) (g' : Dev Cert.GatefRefIdeal.nD → PrngReg), Pre_GatefIdeal m →
    (∀ c : Dev Cert.GatefIdeal.nD,
      m' ((c.tc : Thread Cert.GatefRefIdeal.nD Cert.GatefRefIdeal.τ).loc Cert.GatefRefIdeal.main_arg0) = m ((c.tc : Thread Cert.GatefIdeal.nD Cert.GatefIdeal.τ).loc Cert.GatefIdeal.main_arg0)
      ∧ m' ((c.tc : Thread Cert.GatefRefIdeal.nD Cert.GatefRefIdeal.τ).loc Cert.GatefRefIdeal.main_arg1) = m ((c.tc : Thread Cert.GatefIdeal.nD Cert.GatefIdeal.τ).loc Cert.GatefIdeal.main_arg1)
      ∧ m' ((c.tc : Thread Cert.GatefRefIdeal.nD Cert.GatefRefIdeal.τ).loc Cert.GatefRefIdeal.main_arg2) = m ((c.tc : Thread Cert.GatefIdeal.nD Cert.GatefIdeal.τ).loc Cert.GatefIdeal.main_arg2)
      ∧ m' ((c.tc : Thread Cert.GatefRefIdeal.nD Cert.GatefRefIdeal.τ).loc Cert.GatefRefIdeal.main_arg3) = m ((c.tc : Thread Cert.GatefIdeal.nD Cert.GatefIdeal.τ).loc Cert.GatefIdeal.main_arg3)) →
    ∃ (v0 : (c : Dev Cert.GatefIdeal.nD) → Buf (Elt Ideal) ((c.tc : Thread Cert.GatefIdeal.nD Cert.GatefIdeal.τ).loc Cert.GatefIdeal.main_v5_0)) (v1 : (c : Dev Cert.GatefIdeal.nD) → Buf (Elt Ideal) ((c.tc : Thread Cert.GatefIdeal.nD Cert.GatefIdeal.τ).loc Cert.GatefIdeal.main_v5_1)) (v2 : (c : Dev Cert.GatefIdeal.nD) → Buf (Elt Ideal) ((c.tc : Thread Cert.GatefIdeal.nD Cert.GatefIdeal.τ).loc Cert.GatefIdeal.main_v5_2)) (v3 : (c : Dev Cert.GatefIdeal.nD) → Buf (Elt Ideal) ((c.tc : Thread Cert.GatefIdeal.nD Cert.GatefIdeal.τ).loc Cert.GatefIdeal.main_v5_3)) (v4 : (c : Dev Cert.GatefIdeal.nD) → Buf (Elt Ideal) ((c.tc : Thread Cert.GatefIdeal.nD Cert.GatefIdeal.τ).loc Cert.GatefIdeal.main_v5_4)),
      θ_run (Cert.GatefIdeal.defs (F := Ideal)) (onTc (τ := Cert.GatefIdeal.τ) (Cert.GatefIdeal.main (F := Ideal))) ⟨m, fun _ => 0, g⟩ (fun r => ∀ c : Dev Cert.GatefIdeal.nD,
          r.2.mem ((c.tc : Thread Cert.GatefIdeal.nD Cert.GatefIdeal.τ).loc Cert.GatefIdeal.main_v5_0) = v0 c
          ∧ r.2.mem ((c.tc : Thread Cert.GatefIdeal.nD Cert.GatefIdeal.τ).loc Cert.GatefIdeal.main_v5_1) = v1 c
          ∧ r.2.mem ((c.tc : Thread Cert.GatefIdeal.nD Cert.GatefIdeal.τ).loc Cert.GatefIdeal.main_v5_2) = v2 c
          ∧ r.2.mem ((c.tc : Thread Cert.GatefIdeal.nD Cert.GatefIdeal.τ).loc Cert.GatefIdeal.main_v5_3) = v3 c
          ∧ r.2.mem ((c.tc : Thread Cert.GatefIdeal.nD Cert.GatefIdeal.τ).loc Cert.GatefIdeal.main_v5_4) = v4 c
          ∧ r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
          ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
          ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2)
          ∧ r.2.mem ((c.tc : Thread Cert.GatefIdeal.nD Cert.GatefIdeal.τ).loc Cert.GatefIdeal.main_arg3) = m ((c.tc : Thread Cert.GatefIdeal.nD Cert.GatefIdeal.τ).loc Cert.GatefIdeal.main_arg3))
      ∧ θ_run (Cert.GatefRefIdeal.defs (F := Ideal)) (onTc (τ := Cert.GatefRefIdeal.τ) (Cert.GatefRefIdeal.main (F := Ideal))) ⟨m', fun _ => 0, g'⟩ (fun r => ∀ c : Dev Cert.GatefRefIdeal.nD,
          r.2.mem ((c.tc : Thread Cert.GatefRefIdeal.nD Cert.GatefRefIdeal.τ).loc Cert.GatefRefIdeal.main_v42) = v0 c
          ∧ r.2.mem ((c.tc : Thread Cert.GatefRefIdeal.nD Cert.GatefRefIdeal.τ).loc Cert.GatefRefIdeal.main_v43) = v1 c
          ∧ r.2.mem ((c.tc : Thread Cert.GatefRefIdeal.nD Cert.GatefRefIdeal.τ).loc Cert.GatefRefIdeal.main_v45) = v2 c
          ∧ r.2.mem ((c.tc : Thread Cert.GatefRefIdeal.nD Cert.GatefRefIdeal.τ).loc Cert.GatefRefIdeal.main_v27) = v3 c
          ∧ r.2.mem ((c.tc : Thread Cert.GatefRefIdeal.nD Cert.GatefRefIdeal.τ).loc Cert.GatefRefIdeal.main_v41) = v4 c
          ∧ r.2.mem ((c.tc : Thread Cert.GatefRefIdeal.nD Cert.GatefRefIdeal.τ).loc Cert.GatefRefIdeal.main_arg0) = m' ((c.tc : Thread Cert.GatefRefIdeal.nD Cert.GatefRefIdeal.τ).loc Cert.GatefRefIdeal.main_arg0)
          ∧ r.2.mem ((c.tc : Thread Cert.GatefRefIdeal.nD Cert.GatefRefIdeal.τ).loc Cert.GatefRefIdeal.main_arg1) = m' ((c.tc : Thread Cert.GatefRefIdeal.nD Cert.GatefRefIdeal.τ).loc Cert.GatefRefIdeal.main_arg1)
          ∧ r.2.mem ((c.tc : Thread Cert.GatefRefIdeal.nD Cert.GatefRefIdeal.τ).loc Cert.GatefRefIdeal.main_arg2) = m' ((c.tc : Thread Cert.GatefRefIdeal.nD Cert.GatefRefIdeal.τ).loc Cert.GatefRefIdeal.main_arg2)
          ∧ r.2.mem ((c.tc : Thread Cert.GatefRefIdeal.nD Cert.GatefRefIdeal.τ).loc Cert.GatefRefIdeal.main_arg3) = m' ((c.tc : Thread Cert.GatefRefIdeal.nD Cert.GatefRefIdeal.τ).loc Cert.GatefRefIdeal.main_arg3))

def preserves_Dila_DilaIdeal : Prop :=
  True

def Claim : Prop :=
  ∃ (hDown : Cert.Down.Facts) (hDownIdeal : Cert.DownIdeal.Facts) (hDownRefIdeal : Cert.DownRefIdeal.Facts) (hMla : Cert.Mla.Facts) (hMlaIdeal : Cert.MlaIdeal.Facts) (hMlaRefIdeal : Cert.MlaRefIdeal.Facts) (hMlaf : Cert.Mlaf.Facts) (hMlafIdeal : Cert.MlafIdeal.Facts) (hMlafRefIdeal : Cert.MlafRefIdeal.Facts) (hUp : Cert.Up.Facts) (hUpIdeal : Cert.UpIdeal.Facts) (hUpRefIdeal : Cert.UpRefIdeal.Facts) (hHeads : Cert.Heads.Facts) (hHeadsIdeal : Cert.HeadsIdeal.Facts) (hHeadsRefIdeal : Cert.HeadsRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hOutln : Cert.Outln.Facts) (hOutlnIdeal : Cert.OutlnIdeal.Facts) (hOutlnRefIdeal : Cert.OutlnRefIdeal.Facts) (hComb : Cert.Comb.Facts) (hCombIdeal : Cert.CombIdeal.Facts) (hCombRefIdeal : Cert.CombRefIdeal.Facts) (hGatef : Cert.Gatef.Facts) (hGatefIdeal : Cert.GatefIdeal.Facts) (hGatefRefIdeal : Cert.GatefRefIdeal.Facts) (hDila : Cert.Dila.Facts) (hDilaIdeal : Cert.DilaIdeal.Facts) (hDilaRefIdeal : Cert.DilaRefIdeal.Facts) (hPre_pre_down : Cert.Pre_pre_down.Facts) (hPre_pre_mla : Cert.Pre_pre_mla.Facts) (hPre_pre_mlaf : Cert.Pre_pre_mlaf.Facts) (hPre_pre_up : Cert.Pre_pre_up.Facts) (hPre_pre_gate : Cert.Pre_pre_gate.Facts),
    quiescent_Down (hDown := hDown)
    ∧ quiescent_DownIdeal (hDownIdeal := hDownIdeal)
    ∧ quiescent_DownIdeal_pre_pre_down (hDownIdeal := hDownIdeal) (hPre_pre_down := hPre_pre_down)
    ∧ quiescent_DownRefIdeal (hDownRefIdeal := hDownRefIdeal)
    ∧ quiescent_DownRefIdeal_pre_pre_down (hDownRefIdeal := hDownRefIdeal) (hPre_pre_down := hPre_pre_down)
    ∧ quiescent_Mla (hMla := hMla)
    ∧ quiescent_MlaIdeal (hMlaIdeal := hMlaIdeal)
    ∧ quiescent_MlaIdeal_pre_pre_mla (hMlaIdeal := hMlaIdeal) (hPre_pre_mla := hPre_pre_mla)
    ∧ quiescent_MlaRefIdeal (hMlaRefIdeal := hMlaRefIdeal)
    ∧ quiescent_MlaRefIdeal_pre_pre_mla (hMlaRefIdeal := hMlaRefIdeal) (hPre_pre_mla := hPre_pre_mla)
    ∧ quiescent_Mlaf (hMlaf := hMlaf)
    ∧ quiescent_MlafIdeal (hMlafIdeal := hMlafIdeal)
    ∧ quiescent_MlafIdeal_pre_pre_mlaf (hMlafIdeal := hMlafIdeal) (hPre_pre_mlaf := hPre_pre_mlaf)
    ∧ quiescent_MlafRefIdeal (hMlafRefIdeal := hMlafRefIdeal)
    ∧ quiescent_MlafRefIdeal_pre_pre_mlaf (hMlafRefIdeal := hMlafRefIdeal) (hPre_pre_mlaf := hPre_pre_mlaf)
    ∧ quiescent_Up (hUp := hUp)
    ∧ quiescent_UpIdeal (hUpIdeal := hUpIdeal)
    ∧ quiescent_UpIdeal_pre_pre_up (hUpIdeal := hUpIdeal) (hPre_pre_up := hPre_pre_up)
    ∧ quiescent_UpRefIdeal (hUpRefIdeal := hUpRefIdeal)
    ∧ quiescent_UpRefIdeal_pre_pre_up (hUpRefIdeal := hUpRefIdeal) (hPre_pre_up := hPre_pre_up)
    ∧ quiescent_Heads (hHeads := hHeads)
    ∧ quiescent_HeadsIdeal (hHeadsIdeal := hHeadsIdeal)
    ∧ quiescent_HeadsRefIdeal (hHeadsRefIdeal := hHeadsRefIdeal)
    ∧ quiescent_Gate (hGate := hGate)
    ∧ quiescent_GateIdeal (hGateIdeal := hGateIdeal)
    ∧ quiescent_GateIdeal_pre_pre_gate (hGateIdeal := hGateIdeal) (hPre_pre_gate := hPre_pre_gate)
    ∧ quiescent_GateRefIdeal (hGateRefIdeal := hGateRefIdeal)
    ∧ quiescent_GateRefIdeal_pre_pre_gate (hGateRefIdeal := hGateRefIdeal) (hPre_pre_gate := hPre_pre_gate)
    ∧ quiescent_Merge (hMerge := hMerge)
    ∧ quiescent_MergeIdeal (hMergeIdeal := hMergeIdeal)
    ∧ quiescent_MergeRefIdeal (hMergeRefIdeal := hMergeRefIdeal)
    ∧ quiescent_Outln (hOutln := hOutln)
    ∧ quiescent_OutlnIdeal (hOutlnIdeal := hOutlnIdeal)
    ∧ quiescent_OutlnRefIdeal (hOutlnRefIdeal := hOutlnRefIdeal)
    ∧ quiescent_Comb (hComb := hComb)
    ∧ quiescent_CombIdeal (hCombIdeal := hCombIdeal)
    ∧ quiescent_CombRefIdeal (hCombRefIdeal := hCombRefIdeal)
    ∧ quiescent_Gatef (hGatef := hGatef)
    ∧ quiescent_GatefIdeal (hGatefIdeal := hGatefIdeal)
    ∧ quiescent_GatefRefIdeal (hGatefRefIdeal := hGatefRefIdeal)
    ∧ quiescent_Dila (hDila := hDila)
    ∧ quiescent_DilaIdeal (hDilaIdeal := hDilaIdeal)
    ∧ quiescent_DilaRefIdeal (hDilaRefIdeal := hDilaRefIdeal)
    ∧ preserves_Down_DownIdeal
    ∧ algebraic_DownIdeal_DownRefIdeal_pre_pre_down (hDownIdeal := hDownIdeal) (hDownRefIdeal := hDownRefIdeal) (hPre_pre_down := hPre_pre_down)
    ∧ preserves_Mla_MlaIdeal
    ∧ algebraic_MlaIdeal_MlaRefIdeal_pre_pre_mla (hMlaIdeal := hMlaIdeal) (hMlaRefIdeal := hMlaRefIdeal) (hPre_pre_mla := hPre_pre_mla)
    ∧ preserves_Mlaf_MlafIdeal
    ∧ algebraic_MlafIdeal_MlafRefIdeal_pre_pre_mlaf (hMlafIdeal := hMlafIdeal) (hMlafRefIdeal := hMlafRefIdeal) (hPre_pre_mlaf := hPre_pre_mlaf)
    ∧ preserves_Up_UpIdeal
    ∧ algebraic_UpIdeal_UpRefIdeal_pre_pre_up (hUpIdeal := hUpIdeal) (hUpRefIdeal := hUpRefIdeal) (hPre_pre_up := hPre_pre_up)
    ∧ preserves_Heads_HeadsIdeal
    ∧ algebraic_HeadsIdeal_HeadsRefIdeal (hHeadsIdeal := hHeadsIdeal) (hHeadsRefIdeal := hHeadsRefIdeal)
    ∧ preserves_Gate_GateIdeal
    ∧ algebraic_GateIdeal_GateRefIdeal_pre_pre_gate (hGateIdeal := hGateIdeal) (hGateRefIdeal := hGateRefIdeal) (hPre_pre_gate := hPre_pre_gate)
    ∧ preserves_Merge_MergeIdeal
    ∧ algebraic_MergeIdeal_MergeRefIdeal (hMergeIdeal := hMergeIdeal) (hMergeRefIdeal := hMergeRefIdeal)
    ∧ preserves_Outln_OutlnIdeal
    ∧ algebraic_OutlnIdeal_OutlnRefIdeal (hOutlnIdeal := hOutlnIdeal) (hOutlnRefIdeal := hOutlnRefIdeal)
    ∧ preserves_Comb_CombIdeal
    ∧ algebraic_CombIdeal_CombRefIdeal (hCombIdeal := hCombIdeal) (hCombRefIdeal := hCombRefIdeal)
    ∧ preserves_Gatef_GatefIdeal
    ∧ algebraic_GatefIdeal_GatefRefIdeal (hGatefIdeal := hGatefIdeal) (hGatefRefIdeal := hGatefRefIdeal)
    ∧ preserves_Dila_DilaIdeal
-- ==== Pre_pre_down.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x2816 .f32) (main_arg1 : FVec F S2816x1024 .f32) (main_arg2 : FVec F S4096x1024 .f32) (main_arg3 : FVec F S1024 .f32) (main_arg4 : FVec F S1024 .f32) (main_arg5 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_pre_gate.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5632 .f32) (main_arg1 : FVec F S3x5632 .f32) (main_arg2 : FVec F S5632 .f32) (main_arg3 : FVec F S2816x1024 .f32) (main_arg4 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_pre_mla.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v13 : IVec S_ 1) (main_v16 : IVec S4096x8x64 1) : IVec S_ 1 :=
  let main_c_5 : IVec S_ 1 := constantI S_ 1 1#1
  let main_v17 : IVec S_ 1 := (fun x v => Host.reduce IntOp.andi x v reducesTo_S4096x8x64_S_d0_1_2 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x8x64 .f32 := Host.absf main_arg3
  let main_cst_4 : FVec F S_ .f32 := constant S_ .f32 0x7F800000#32
  let main_v15 : FVec F S4096x8x64 .f32 := broadcastInDim S4096x8x64 ![] bcast_S_S4096x8x64 main_cst_4
  let main_v16 : IVec S4096x8x64 1 := cmpf .olt main_v14 main_v15
  fn_part1 (F := F) main_v13 main_v16
-- ==== Pre_pre_mlaf.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn {F : FTy → Type} [FloatOps F] (main_arg0 : FVec F S4096x8x96 .f32) (main_arg1 : FVec F S4096x8x96 .f32) (main_arg2 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  main_v13
-- ==== Pre_pre_up.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x5632 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x5632 .f32 := Host.absf main_arg4
  let main_cst_6 : FVec F S_ .f32 := constant S_ .f32 0x7F800000#32
  let main_v20 : FVec F S4096x5632 .f32 := broadcastInDim S4096x5632 ![] bcast_S_S4096x5632 main_cst_6
  let main_v21 : IVec S4096x5632 1 := cmpf .olt main_v19 main_v20
  let main_c_7 : IVec S_ 1 := constantI S_ 1 1#1
  let main_v22 : IVec S_ 1 := (fun x v => Host.reduce IntOp.andi x v reducesTo_S4096x5632_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x5632 .f32) (main_arg3 : FVec F S4096x1024 .f32) (main_arg4 : FVec F S4096x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1x128, .f32⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S1x128, .f32⟩
  | .hbm, ⟨115, _⟩ => ⟨S1x1024, .f32⟩
  | .hbm, ⟨116, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Mla.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x4096x64 : Shape := ⟨3, ![8, 4096, 64]⟩
abbrev S8x4096x96 : Shape := ⟨3, ![8, 4096, 96]⟩
abbrev S8x4096x128 : Shape := ⟨3, ![8, 4096, 128]⟩
abbrev S8x1x4096 : Shape := ⟨3, ![8, 1, 4096]⟩
abbrev S4x512x128 : Shape := ⟨3, ![4, 512, 128]⟩
abbrev S4x512x64 : Shape := ⟨3, ![4, 512, 64]⟩
abbrev S4x1x512 : Shape := ⟨3, ![4, 1, 512]⟩
abbrev S4x4096x128 : Shape := ⟨3, ![4, 4096, 128]⟩
abbrev S8x4x512x128 : Shape := ⟨4, ![8, 4, 512, 128]⟩
abbrev S4x512x512 : Shape := ⟨3, ![4, 512, 512]⟩
abbrev S512x512 : Shape := ⟨2, ![512, 512]⟩
abbrev S1x512x512 : Shape := ⟨3, ![1, 512, 512]⟩
abbrev S1x4x512x128 : Shape := ⟨4, ![1, 4, 512, 128]⟩

abbrev nBuf : Space → Nat
  | .hbm => 58
  | .vmem => 21
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x64, .f32⟩
  | .hbm, ⟨33, _⟩ => ⟨S8x4096x1, .f32⟩
  | .hbm, ⟨34, _⟩ => ⟨S8x4096x1, .f32⟩
  | .hbm, ⟨35, _⟩ => ⟨S8x4096, .f32⟩
  | .hbm, ⟨36, _⟩ => ⟨S8x4096x64, .f32⟩
  | .hbm, ⟨37, _⟩ => ⟨S8x4096x64, .f32⟩
  | .hbm, ⟨38, _⟩ => ⟨S_, .f32⟩
  | .hbm, ⟨39, _⟩ => ⟨S8x4096, .f32⟩
  | .hbm, ⟨40, _⟩ => ⟨S4096x8x96, .bf16⟩
  | .hbm, ⟨41, _⟩ => ⟨S8x4096x96, .bf16⟩
  | .hbm, ⟨42, _⟩ => ⟨S_, .i32⟩
  | .hbm, ⟨43, _⟩ => ⟨S_, .bf16⟩
  | .hbm, ⟨44, _⟩ => ⟨S8x4096x128, .bf16⟩
  | .hbm, ⟨45, _⟩ => ⟨S4096x8x96, .bf16⟩
  | .hbm, ⟨46, _⟩ => ⟨S8x4096x96, .bf16⟩
  | .hbm, ⟨47, _⟩ => ⟨S_, .i32⟩
  | .hbm, ⟨48, _⟩ => ⟨S_, .bf16⟩
  | .hbm, ⟨49, _⟩ => ⟨S8x4096x128, .bf16⟩
  | .hbm, ⟨50, _⟩ => ⟨S4096x8x64, .bf16⟩
  | .hbm, ⟨51, _⟩ => ⟨S8x4096x64, .bf16⟩
  | .hbm, ⟨52, _⟩ => ⟨S8x4096x64, .bf16⟩
  | .hbm, ⟨53, _⟩ => ⟨S8x1x4096, .f32⟩
  | .hbm, ⟨54, _⟩ => ⟨S8x1x4096, .f32⟩
  | .hbm, ⟨55, _⟩ => ⟨S8x4096x128, .f32⟩
  | .hbm, ⟨56, _⟩ => ⟨S8x4096x128, .f32⟩
  | .hbm, ⟨57, _⟩ => ⟨S8x4096x64, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x64, .bf16⟩
  | .local _ .vmem, ⟨5, _⟩ => ⟨S4x512x64, .bf16⟩
  | .local _ .vmem, ⟨6, _⟩ => ⟨S4x512x64, .bf16⟩
  | .local _ .vmem, ⟨7, _⟩ => ⟨S4x512x64, .bf16⟩
  | .local _ .vmem, ⟨8, _⟩ => ⟨S4x1x512, .f32⟩
  | .local _ .vmem, ⟨9, _⟩ => ⟨S4x1x512, .f32⟩
  | .local _ .vmem, ⟨10, _⟩ => ⟨S4x1x512, .f32⟩
  | .local _ .vmem, ⟨11, _⟩ => ⟨S4x1x512, .f32⟩
  | .local _ .vmem, ⟨12, _⟩ => ⟨S4x4096x128, .f32⟩
  | .local _ .vmem, ⟨13, _⟩ => ⟨S4x4096x128, .f32⟩
  | .local _ .vmem, ⟨14, _⟩ => ⟨S4x512x128, .f32⟩
  | .local _ .vmem, ⟨15, _⟩ => ⟨S4x512x128, .f32⟩
  | .local _ .vmem, ⟨16, _⟩ => ⟨S4x512x64, .f32⟩
  | .local _ .vmem, ⟨17, _⟩ => ⟨S4x512x64, .f32⟩
  | .local _ .vmem, ⟨18, _⟩ => ⟨S8x4x512x128, .f32⟩
  | .local _ .vmem, ⟨19, _⟩ => ⟨S4x512x128, .f32⟩
  | .local _ .vmem, ⟨20, _⟩ => ⟨S4x512x64, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .eq arg2 arg1
  let v9 : BitVec 32 := Scalar.extui v8
  let c0_i32_4 : BitVec 32 := 0#32
  let v10 : BitVec 1 := Scalar.cmpi .ne v9 c0_i32_4
  v10

def k0_off1 (i : grid0.Coords) : Fin 4 → Nat :=
  let arg2 : BitVec 32 := BitVec.ofNat 32 (i 2).val
  let v68 : Index := Scalar.indexCast arg2
  let c0_45 : Index := 0#32
  let c0_46 : Index := 0#32
  let c0_47 : Index := 0#32
  ![v68.toNat, 0, 0, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .sgt arg2 arg1
  let v12 : BitVec 32 := Scalar.extui v11
  let c0_i32_5 : BitVec 32 := 0#32
  let v13 : BitVec 1 := Scalar.cmpi .ne v12 c0_i32_5
  v13

def k0_off2 (i : grid0.Coords) : Fin 4 → Nat :=
  let arg2 : BitVec 32 := BitVec.ofNat 32 (i 2).val
  let v60 : Index := Scalar.indexCast arg2
  let c0_44 : Index := 0#32
  let c0_45 : Index := 0#32
  let c0_46 : Index := 0#32
  ![v60.toNat, 0, 0, 0]
def k0_cond6 (i : grid0.Coords) : BitVec 1 :=
  let arg1 : BitVec 32 := BitVec.ofNat 32 (i 1).val
  let c7_i32_7 : BitVec 32 := 7#32
  let v17 : BitVec 1 := Scalar.cmpi .eq arg1 c7_i32_7
  let arg2 : BitVec 32 := BitVec.ofNat 32 (i 2).val
  let c7_i32_8 : BitVec 32 := 7#32
  let v18 : BitVec 1 := Scalar.cmpi .eq arg2 c7_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlaIdeal.lean ====
variable {F : FTy → Type} [FloatOps F] [Named F]
def κ : String → Option EReal := fun
  | "mask" => some ⊥
  | _ => none
-- ==== MlaRefIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S8x4096x128 : Shape := ⟨3, ![8, 4096, 128]⟩
abbrev S8x4096x64 : Shape := ⟨3, ![8, 4096, 64]⟩

abbrev nBuf : Space → Nat
  | .hbm => 100
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x64x4096, .f32⟩
  | .hbm, ⟨62, _⟩ => ⟨S4096x8x64, .f32⟩
  | .hbm, ⟨63, _⟩ => ⟨S8x64x4096, .f32⟩
  | .hbm, ⟨64, _⟩ => ⟨S8x4096x4096, .f32⟩
  | .hbm, ⟨65, _⟩ => ⟨S8x64x4096, .f32⟩
  | .hbm, ⟨66, _⟩ => ⟨S4096x8x64, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096x4096, .f32⟩
  | .hbm, ⟨86, _⟩ => ⟨S8x4096x4096, .f32⟩
  | .hbm, ⟨87, _⟩ => ⟨S8x4096x96, .f32⟩
  | .hbm, ⟨88, _⟩ => ⟨S4096x8x96, .f32⟩
  | .hbm, ⟨89, _⟩ => ⟨S8x4096x96, .f32⟩
  | .hbm, ⟨90, _⟩ => ⟨S4096x8x96, .f32⟩
  | .hbm, ⟨91, _⟩ => ⟨S8x4096x96, .f32⟩
  | .hbm, ⟨92, _⟩ => ⟨S_, .i32⟩
  | .hbm, ⟨93, _⟩ => ⟨S_, .f32⟩
  | .hbm, ⟨94, _⟩ => ⟨S8x4096x128, .f32⟩
  | .hbm, ⟨95, _⟩ => ⟨S8x4096x96, .f32⟩
  | .hbm, ⟨96, _⟩ => ⟨S_, .i32⟩
  | .hbm, ⟨97, _⟩ => ⟨S_, .f32⟩
  | .hbm, ⟨98, _⟩ => ⟨S8x4096x128, .f32⟩
  | .hbm, ⟨99, _⟩ => ⟨S8x4096x64, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Mlaf.lean ====
abbrev S4096x8x96 : Shape := ⟨3, ![4096, 8, 96]⟩
abbrev S4096x8x64 : Shape := ⟨3, ![4096, 8, 64]⟩
abbrev S8x4096x96 : Shape := ⟨3, ![8, 4096, 96]⟩
abbrev S_ : Shape := ⟨0, ![]⟩
abbrev S8x4096x128 : Shape := ⟨3, ![8, 4096, 128]⟩
abbrev S8x64x4096 : Shape := ⟨3, ![8, 64, 4096]⟩
abbrev S8x1x4096 : Shape := ⟨3, ![8, 1, 4096]⟩
abbrev S8x512x128 : Shape := ⟨3, ![8, 512, 128]⟩
abbrev S8x64x512 : Shape := ⟨3, ![8, 64, 512]⟩
abbrev S8x1x512 : Shape := ⟨3, ![8, 1, 512]⟩
abbrev S8x512x512 : Shape := ⟨3, ![8, 512, 512]⟩
abbrev S8x512 : Shape := ⟨2, ![8, 512]⟩
abbrev S512x512 : Shape := ⟨2, ![512, 512]⟩
abbrev S1x512x512 : Shape := ⟨3, ![1, 512, 512]⟩

abbrev nBuf : Space → Nat
  | .hbm => 17
  | .vmem => 13
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x96, .bf16⟩
  | .hbm, ⟨4, _⟩ => ⟨S8x4096x96, .bf16⟩
  | .hbm, ⟨5, _⟩ => ⟨S_, .i32⟩
  | .hbm, ⟨6, _⟩ => ⟨S_, .bf16⟩
  | .hbm, ⟨7, _⟩ => ⟨S8x4096x128, .bf16⟩
  | .hbm, ⟨8, _⟩ => ⟨S4096x8x96, .bf16⟩
  | .hbm, ⟨9, _⟩ => ⟨S8x4096x96, .bf16⟩
  | .hbm, ⟨10, _⟩ => ⟨S_, .i32⟩
  | .hbm, ⟨11, _⟩ => ⟨S_, .bf16⟩
  | .hbm, ⟨12, _⟩ => ⟨S8x4096x128, .bf16⟩
  | .hbm, ⟨13, _⟩ => ⟨S4096x8x64, .bf16⟩
  | .hbm, ⟨14, _⟩ => ⟨S8x64x4096, .bf16⟩
  | .hbm, ⟨15, _⟩ => ⟨S8x64x4096, .f32⟩
  | .hbm, ⟨16, _⟩ => ⟨S8x1x4096, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .f32⟩
  | .local _ .vmem, ⟨7, _⟩ => ⟨S8x64x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S8x64x512, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlafIdeal.lean ====
variable {F : FTy → Type} [FloatOps F] [Named F]
def κ : String → Option EReal := fun
  | "mask" => some ⊥
  | "scale2" => some (((3424635 / 33554432) * (Real.log 2)⁻¹ : ℝ) : EReal)
  | _ => none
-- ==== MlafRefIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x1x4096 : Shape := ⟨3, ![8, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S8x4096, .f32⟩
  | .hbm, ⟨44, _⟩ => ⟨S8x64x4096, .f32⟩
  | .hbm, ⟨45, _⟩ => ⟨S4096x8x64, .f32⟩
  | .hbm, ⟨46, _⟩ => ⟨S8x64x4096, .f32⟩
  | .hbm, ⟨47, _⟩ => ⟨S8x1x4096, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Up.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S5632x1024 : Shape := ⟨2, ![5632, 1024]⟩
abbrev S1x1024 : Shape := ⟨2, ![1, 1024]⟩
abbrev S256x2816 : Shape := ⟨2, ![256, 2816]⟩
abbrev S2816x1024 : Shape := ⟨2, ![2816, 1024]⟩
abbrev S256x1024 : Shape := ⟨2, ![256, 1024]⟩
abbrev S256x1 : Shape := ⟨2, ![256, 1]⟩
abbrev S256 : Shape := ⟨1, ![256]⟩

abbrev nBuf : Space → Nat
  | .hbm => 36
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2816, .f32⟩
  | .hbm, ⟨25, _⟩ => ⟨S4096x2816, .bf16⟩
  | .hbm, ⟨26, _⟩ => ⟨S4096x2816, .f32⟩
  | .hbm, ⟨27, _⟩ => ⟨S4096x2816, .bf16⟩
  | .hbm, ⟨28, _⟩ => ⟨S1024x5632, .bf16⟩
  | .hbm, ⟨29, _⟩ => ⟨S5632x1024, .bf16⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S1x1024, .f32⟩
  | .hbm, ⟨35, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UpRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x5632, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S1x1024, .f32⟩
  | .hbm, ⟨97, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Heads.lean ====
abbrev S4096x1024 : Shape := ⟨2, ![4096, 1024]⟩
abbrev S1024x1024 : Shape := ⟨2, ![1024, 1024]⟩
abbrev S4096x512 : Shape := ⟨2, ![4096, 512]⟩
abbrev S8x4096x64 : Shape := ⟨3, ![8, 4096, 64]⟩
abbrev S4096x16 : Shape := ⟨2, ![4096, 16]⟩
abbrev S8x4x1024x64 : Shape := ⟨4, ![8, 4, 1024, 64]⟩
abbrev S8x16x256x64 : Shape := ⟨4, ![8, 16, 256, 64]⟩
abbrev S512x1024 : Shape := ⟨2, ![512, 1024]⟩
abbrev S512x512 : Shape := ⟨2, ![512, 512]⟩
abbrev S8x512x64 : Shape := ⟨3, ![8, 512, 64]⟩
abbrev S512x16 : Shape := ⟨2, ![512, 16]⟩
abbrev S8x4x128x64 : Shape := ⟨4, ![8, 4, 128, 64]⟩
abbrev S8x16x32x64 : Shape := ⟨4, ![8, 16, 32, 64]⟩
abbrev S1024x512 : Shape := ⟨2, ![1024, 512]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S8x128x64 : Shape := ⟨3, ![8, 128, 64]⟩
abbrev S8x1x128x64 : Shape := ⟨4, ![8, 1, 128, 64]⟩
abbrev S8x32x64 : Shape := ⟨3, ![8, 32, 64]⟩
abbrev S8x1x32x64 : Shape := ⟨4, ![8, 1, 32, 64]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S1024x1024, .bf16⟩
  | .hbm, ⟨5, _⟩ => ⟨S1024x1024, .bf16⟩
  | .hbm, ⟨6, _⟩ => ⟨S8x4096x64, .bf16⟩
  | .hbm, ⟨7, _⟩ => ⟨S4096x16, .f32⟩
  | .hbm, ⟨8, _⟩ => ⟨S8x4096x64, .f32⟩
  | .hbm, ⟨9, _⟩ => ⟨S8x4x1024x64, .f32⟩
  | .hbm, ⟨10, _⟩ => ⟨S8x16x256x64, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S8x512x64, .bf16⟩
  | .local _ .vmem, ⟨8, _⟩ => ⟨S8x512x64, .bf16⟩
  | .local _ .vmem, ⟨9, _⟩ => ⟨S512x16, .f32⟩
  | .local _ .vmem, ⟨10, _⟩ => ⟨S512x16, .f32⟩
  | .local _ .vmem, ⟨11, _⟩ => ⟨S8x512x64, .f32⟩
  | .local _ .vmem, ⟨12, _⟩ => ⟨S8x512x64, .f32⟩
  | .local _ .vmem, ⟨13, _⟩ => ⟨S8x4x128x64, .f32⟩
  | .local _ .vmem, ⟨14, _⟩ => ⟨S8x4x128x64, .f32⟩
  | .local _ .vmem, ⟨15, _⟩ => ⟨S8x16x32x64, .f32⟩
  | .local _ .vmem, ⟨16, _⟩ => ⟨S8x16x32x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadsRefIdeal.lean ====
abbrev S4096x1024 : Shape := ⟨2, ![4096, 1024]⟩
abbrev S1024x1024 : Shape := ⟨2, ![1024, 1024]⟩
abbrev S4096x512 : Shape := ⟨2, ![4096, 512]⟩
abbrev S4096x1x8x64 : Shape := ⟨4, ![4096, 1, 8, 64]⟩
abbrev S8x1x4096x64 : Shape := ⟨4, ![8, 1, 4096, 64]⟩
abbrev S8x4096x64 : Shape := ⟨3, ![8, 4096, 64]⟩
abbrev S4096x8x64 : Shape := ⟨3, ![4096, 8, 64]⟩
abbrev S_ : Shape := ⟨0, ![]⟩
abbrev S4096x8 : Shape := ⟨2, ![4096, 8]⟩
abbrev S4096x16 : Shape := ⟨2, ![4096, 16]⟩
abbrev S1024x4x8x64 : Shape := ⟨4, ![1024, 4, 8, 64]⟩
abbrev S8x4x1024x64 : Shape := ⟨4, ![8, 4, 1024, 64]⟩
abbrev S256x16x8x64 : Shape := ⟨4, ![256, 16, 8, 64]⟩
abbrev S8x16x256x64 : Shape := ⟨4, ![8, 16, 256, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1x8x64, .f32⟩
  | .hbm, ⟨10, _⟩ => ⟨S8x1x4096x64, .f32⟩
  | .hbm, ⟨11, _⟩ => ⟨S8x4096x64, .f32⟩
  | .hbm, ⟨12, _⟩ => ⟨S8x4096x64, .bf16⟩
  | .hbm, ⟨13, _⟩ => ⟨S4096x512, .f32⟩
  | .hbm, ⟨14, _⟩ => ⟨S4096x8x64, .f32⟩
  | .hbm, ⟨15, _⟩ => ⟨S_, .f32⟩
  | .hbm, ⟨16, _⟩ => ⟨S4096x8, .f32⟩
  | .hbm, ⟨17, _⟩ => ⟨S4096x512, .f32⟩
  | .hbm, ⟨18, _⟩ => ⟨S4096x8x64, .f32⟩
  | .hbm, ⟨19, _⟩ => ⟨S_, .f32⟩
  | .hbm, ⟨20, _⟩ => ⟨S4096x8, .f32⟩
  | .hbm, ⟨21, _⟩ => ⟨S4096x16, .f32⟩
  | .hbm, ⟨22, _⟩ => ⟨S4096x1x8x64, .f32⟩
  | .hbm, ⟨23, _⟩ => ⟨S8x1x4096x64, .f32⟩
  | .hbm, ⟨24, _⟩ => ⟨S8x4096x64, .f32⟩
  | .hbm, ⟨25, _⟩ => ⟨S1024x4x8x64, .f32⟩
  | .hbm, ⟨26, _⟩ => ⟨S8x4x1024x64, .f32⟩
  | .hbm, ⟨27, _⟩ => ⟨S256x16x8x64, .f32⟩
  | .hbm, ⟨28, _⟩ => ⟨S8x16x256x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Gate.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1024x2816 : Shape := ⟨2, ![1024, 2816]⟩
abbrev S3x2816 : Shape := ⟨2, ![3, 2816]⟩
abbrev S1x2816 : Shape := ⟨2, ![1, 2816]⟩
abbrev S256x1408 : Shape := ⟨2, ![256, 1408]⟩
abbrev S8x1408 : Shape := ⟨2, ![8, 1408]⟩
abbrev S256x1024 : Shape := ⟨2, ![256, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S248x1408 : Shape := ⟨2, ![248, 1408]⟩
abbrev S1408 : Shape := ⟨1, ![1408]⟩

abbrev nBuf : Space → Nat
  | .hbm => 91
  | .vmem => 42
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4096x1024, .f32⟩
  | .hbm, ⟨5, _⟩ => ⟨S1x5632, .f32⟩
  | .hbm, ⟨6, _⟩ => ⟨S5632, .f32⟩
  | .hbm, ⟨7, _⟩ => ⟨S_, .f32⟩
  | .hbm, ⟨8, _⟩ => ⟨S2x5632, .f32⟩
  | .hbm, ⟨9, _⟩ => ⟨S4094x5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S_, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S_, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S_, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S4096x2816, .f32⟩
  | .hbm, ⟨72, _⟩ => ⟨S4096x2816, .f32⟩
  | .hbm, ⟨73, _⟩ => ⟨S_, .f32⟩
  | .hbm, ⟨74, _⟩ => ⟨S4096x2816, .f32⟩
  | .hbm, ⟨75, _⟩ => ⟨S4096x2816, .f32⟩
  | .hbm, ⟨76, _⟩ => ⟨S_, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S2816x1024, .bf16⟩
  | .hbm, ⟨84, _⟩ => ⟨S1024x2816, .bf16⟩
  | .hbm, ⟨85, _⟩ => ⟨S4096x2816, .bf16⟩
  | .hbm, ⟨86, _⟩ => ⟨S4096x2816, .bf16⟩
  | .hbm, ⟨87, _⟩ => ⟨S3x2816, .f32⟩
  | .hbm, ⟨88, _⟩ => ⟨S3x2816, .f32⟩
  | .hbm, ⟨89, _⟩ => ⟨S1x2816, .f32⟩
  | .hbm, ⟨90, _⟩ => ⟨S1x2816, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S8x1408, .f32⟩
  | .local _ .vmem, ⟨5, _⟩ => ⟨S8x1408, .f32⟩
  | .local _ .vmem, ⟨6, _⟩ => ⟨S8x1408, .f32⟩
  | .local _ .vmem, ⟨7, _⟩ => ⟨S8x1408, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S1024x1408, .bf16⟩
  | .local _ .vmem, ⟨13, _⟩ => ⟨S1024x1408, .bf16⟩
  | .local _ .vmem, ⟨14, _⟩ => ⟨S256x1408, .f32⟩
  | .local _ .vmem, ⟨15, _⟩ => ⟨S256x1408, .f32⟩
  | .local _ .vmem, ⟨16, _⟩ => ⟨S8x1408, .f32⟩
  | .local _ .vmem, ⟨17, _⟩ => ⟨S8x1408, .f32⟩
  | .local _ .vmem, ⟨18, _⟩ => ⟨S256x1408, .f32⟩
  | .local _ .vmem, ⟨19, _⟩ => ⟨S256x1408, .f32⟩
  | .local _ .vmem, ⟨20, _⟩ => ⟨S8x1408, .f32⟩
  | .local _ .vmem, ⟨21, _⟩ => ⟨S8x1408, .f32⟩
  | .local _ .vmem, ⟨22, _⟩ => ⟨S256x1408, .f32⟩
  | .local _ .vmem, ⟨23, _⟩ => ⟨S256x1408, .f32⟩
  | .local _ .vmem, ⟨24, _⟩ => ⟨S8x1408, .f32⟩
  | .local _ .vmem, ⟨25, _⟩ => ⟨S8x1408, .f32⟩
  | .local _ .vmem, ⟨26, _⟩ => ⟨S3x1408, .f32⟩
  | .local _ .vmem, ⟨27, _⟩ => ⟨S3x1408, .f32⟩
  | .local _ .vmem, ⟨28, _⟩ => ⟨S3x1408, .f32⟩
  | .local _ .vmem, ⟨29, _⟩ => ⟨S3x1408, .f32⟩
  | .local _ .vmem, ⟨30, _⟩ => ⟨S256x1408, .bf16⟩
  | .local _ .vmem, ⟨31, _⟩ => ⟨S256x1408, .bf16⟩
  | .local _ .vmem, ⟨32, _⟩ => ⟨S256x1408, .bf16⟩
  | .local _ .vmem, ⟨33, _⟩ => ⟨S256x1408, .bf16⟩
  | .local _ .vmem, ⟨34, _⟩ => ⟨S3x1408, .f32⟩
  | .local _ .vmem, ⟨35, _⟩ => ⟨S3x1408, .f32⟩
  | .local _ .vmem, ⟨36, _⟩ => ⟨S3x1408, .f32⟩
  | .local _ .vmem, ⟨37, _⟩ => ⟨S3x1408, .f32⟩
  | .local _ .vmem, ⟨38, _⟩ => ⟨S1x1408, .f32⟩
  | .local _ .vmem, ⟨39, _⟩ => ⟨S1x1408, .f32⟩
  | .local _ .vmem, ⟨40, _⟩ => ⟨S1x1408, .f32⟩
  | .local _ .vmem, ⟨41, _⟩ => ⟨S1x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66_0 : Ref sig .tc := ⟨.hbm, 85, rfl⟩
abbrev main_v66_1 : Ref sig .tc := ⟨.hbm, 86, rfl⟩
abbrev main_v66_2 : Ref sig .tc := ⟨.hbm, 87, rfl⟩
abbrev main_v66_3 : Ref sig .tc := ⟨.hbm, 88, rfl⟩
abbrev main_v66_4 : Ref sig .tc := ⟨.hbm, 89, rfl⟩
abbrev main_v66_5 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1408 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S3x1408 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S3x1408 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1408 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1408 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== GateRefIdeal.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩
abbrev S2x5632 : Shape := ⟨2, ![2, 5632]⟩
abbrev S4094x5632 : Shape := ⟨2, ![4094, 5632]⟩
abbrev S1x5632 : Shape := ⟨2, ![1, 5632]⟩
abbrev S4095x5632 : Shape := ⟨2, ![4095, 5632]⟩
abbrev S4096x2816 : Shape := ⟨2, ![4096, 2816]⟩
abbrev S3x2816 : Shape := ⟨2, ![3, 2816]⟩
abbrev S2816 : Shape := ⟨1, ![2816]⟩
abbrev S1x2816 : Shape := ⟨2, ![1, 2816]⟩

abbrev nBuf : Space → Nat
  | .hbm => 152
  | .vmem => 0
  | .smem => 0
  | _ => 0

abbrev hbmTy0_0 (i : Nat) : BufTy := match i % 128 with
  | 0 => ⟨S4096x5632, .f32⟩
  | 1 => ⟨S3x5632, .f32⟩
  | 2 => ⟨S5632, .f32⟩
  | 3 => ⟨S2816x1024, .f32⟩
  | 4 => ⟨S4096x1024, .f32⟩
  | 5 => ⟨S_, .f32⟩
  | 6 => ⟨S2x5632, .f32⟩
  | 7 => ⟨S4094x5632, .f32⟩
  | 8 => ⟨S4096x5632, .f32⟩
  | 9 => ⟨S_, .f32⟩
  | 10 => ⟨S2x5632, .f32⟩
  | 11 => ⟨S1x5632, .f32⟩
  | 12 => ⟨S5632, .f32⟩
  | 13 => ⟨S1x5632, .f32⟩
  | 14 => ⟨S4096x5632, .f32⟩
  | 15 => ⟨S4096x5632, .f32⟩
  | 16 => ⟨S1x5632, .f32⟩
  | 17 => ⟨S4096x5632, .f32⟩
  | 18 => ⟨S4096x5632, .f32⟩
  | 19 => ⟨S_, .f32⟩
  | 20 => ⟨S1x5632, .f32⟩
  | 21 => ⟨S4095x5632, .f32⟩
  | 22 => ⟨S4096x5632, .f32⟩
  | 23 => ⟨S_, .f32⟩
  | 24 => ⟨S1x5632, .f32⟩
  | 25 => ⟨S1x5632, .f32⟩
  | 26 => ⟨S5632, .f32⟩
  | 27 => ⟨S1x5632, .f32⟩
  | 28 => ⟨S4096x5632, .f32⟩
  | 29 => ⟨S4096x5632, .f32⟩
  | 30 => ⟨S4096x5632, .f32⟩
  | 31 => ⟨S1x5632, .f32⟩
  | 32 => ⟨S5632, .f32⟩
  | 33 => ⟨S1x5632, .f32⟩
  | 34 => ⟨S4096x5632, .f32⟩
  | 35 => ⟨S4096x5632, .f32⟩
  | 36 => ⟨S4096x5632, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S_, .f32⟩
  | 50 => ⟨S4096x2816, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S_, .f32⟩
  | 64 => ⟨S4096x2816, .f32⟩
  | 65 => ⟨S4096x2816, .f32⟩
  | 66 => ⟨S4096x2816, .f32⟩
  | 67 => ⟨S4096x2816, .f32⟩
  | 68 => ⟨S4096x1024, .f32⟩
  | 69 => ⟨S4096x2816, .f32⟩
  | 70 => ⟨S4096x2816, .f32⟩
  | 71 => ⟨S4096x2816, .f32⟩
  | 72 => ⟨S4096x2816, .f32⟩
  | 73 => ⟨S4096x2816, .f32⟩
  | 74 => ⟨S_, .f32⟩
  | 75 => ⟨S4096x2816, .f32⟩
  | 76 => ⟨S4096x2816, .f32⟩
  | 77 => ⟨S4096x2816, .f32⟩
  | 78 => ⟨S_, .f32⟩
  | 79 => ⟨S4096x2816, .f32⟩
  | 80 => ⟨S4096x2816, .f32⟩
  | 81 => ⟨S4096x2816, .f32⟩
  | 82 => ⟨S_, .f32⟩
  | 83 => ⟨S4096x2816, .f32⟩
  | 84 => ⟨S4096x2816, .f32⟩
  | 85 => ⟨S4096x2816, .f32⟩
  | 86 => ⟨S4096x2816, .f32⟩
  | 87 => ⟨S_, .f32⟩
  | 88 => ⟨S4096x5632, .f32⟩
  | 89 => ⟨S_, .f32⟩
  | 90 => ⟨S4096x5632, .f32⟩
  | 91 => ⟨S4096x5632, .f32⟩
  | 92 => ⟨S4096x5632, .f32⟩
  | 93 => ⟨S4096x5632, .f32⟩
  | 94 => ⟨S4096x5632, .f32⟩
  | 95 => ⟨S_, .f32⟩
  | 96 => ⟨S5632, .f32⟩
  | 97 => ⟨S1x5632, .f32⟩
  | 98 => ⟨S_, .f32⟩
  | 99 => ⟨S5632, .f32⟩
  | 100 => ⟨S1x5632, .f32⟩
  | 101 => ⟨S_, .f32⟩
  | 102 => ⟨S3x5632, .f32⟩
  | 103 => ⟨S4096x5632, .f32⟩
  | 104 => ⟨S4096x5632, .f32⟩
  | 105 => ⟨S4096x5632, .f32⟩
  | 106 => ⟨S_, .f32⟩
  | 107 => ⟨S5632, .f32⟩
  | 108 => ⟨S1x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S1x5632, .f32⟩
  | 116 => ⟨S4095x5632, .f32⟩
  | 117 => ⟨S_, .f32⟩
  | 118 => ⟨S4096x5632, .f32⟩
  | 119 => ⟨S4096x5632, .f32⟩
  | 120 => ⟨S_, .f32⟩
  | 121 => ⟨S5632, .f32⟩
  | 122 => ⟨S1x5632, .f32⟩
  | 123 => ⟨S_, .f32⟩
  | 124 => ⟨S5632, .f32⟩
  | 125 => ⟨S4096x5632, .f32⟩
  | 126 => ⟨S4096x5632, .f32⟩
  | 127 => ⟨S4096x5632, .f32⟩
  | _ => ⟨S4096x5632, .f32⟩

abbrev hbmTy0_1 (i : Nat) : BufTy := match i % 128 with
  | 0 => ⟨S_, .f32⟩
  | 1 => ⟨S5632, .f32⟩
  | 2 => ⟨S1x5632, .f32⟩
  | 3 => ⟨S_, .f32⟩
  | 4 => ⟨S5632, .f32⟩
  | 5 => ⟨S1x5632, .f32⟩
  | 6 => ⟨S_, .f32⟩
  | 7 => ⟨S3x5632, .f32⟩
  | 8 => ⟨S3x5632, .f32⟩
  | 9 => ⟨S2x5632, .f32⟩
  | 10 => ⟨S4094x5632, .f32⟩
  | 11 => ⟨S_, .f32⟩
  | 12 => ⟨S4096x5632, .f32⟩
  | 13 => ⟨S4096x5632, .f32⟩
  | 14 => ⟨S4096x2816, .f32⟩
  | 15 => ⟨S4096x2816, .bf16⟩
  | 16 => ⟨S4096x2816, .f32⟩
  | 17 => ⟨S4096x2816, .bf16⟩
  | 18 => ⟨S3x2816, .f32⟩
  | 19 => ⟨S3x2816, .f32⟩
  | 20 => ⟨S2816, .f32⟩
  | 21 => ⟨S1x2816, .f32⟩
  | 22 => ⟨S2816, .f32⟩
  | 23 => ⟨S1x2816, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_cst_23 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_24 : Ref sig .tc := ⟨.hbm, 128, rfl⟩
abbrev main_v98 : Ref sig .tc := ⟨.hbm, 129, rfl⟩
abbrev main_v99 : Ref sig .tc := ⟨.hbm, 130, rfl⟩
abbrev main_cst_25 : Ref sig .tc := ⟨.hbm, 131, rfl⟩
abbrev main_v100 : Ref sig .tc := ⟨.hbm, 132, rfl⟩
abbrev main_v101 : Ref sig .tc := ⟨.hbm, 133, rfl⟩
abbrev main_cst_26 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_27 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]
-- ==== Merge.lean ====
abbrev S4096x8x64 : Shape := ⟨3, ![4096, 8, 64]⟩
abbrev S4096x1x8x64 : Shape := ⟨4, ![4096, 1, 8, 64]⟩
abbrev S8x1x4096x64 : Shape := ⟨4, ![8, 1, 4096, 64]⟩
abbrev S8x4096x64 : Shape := ⟨3, ![8, 4096, 64]⟩
abbrev S1024x4x8x64 : Shape := ⟨4, ![1024, 4, 8, 64]⟩
abbrev S8x4x1024x64 : Shape := ⟨4, ![8, 4, 1024, 64]⟩
abbrev S256x16x8x64 : Shape := ⟨4, ![256, 16, 8, 64]⟩
abbrev S8x16x256x64 : Shape := ⟨4, ![8, 16, 256, 64]⟩
abbrev S4096x1536 : Shape := ⟨2, ![4096, 1536]⟩
abbrev S8x512x64 : Shape := ⟨3, ![8, 512, 64]⟩
abbrev S8x4x128x64 : Shape := ⟨4, ![8, 4, 128, 64]⟩
abbrev S8x16x32x64 : Shape := ⟨4, ![8, 16, 32, 64]⟩
abbrev S512x1536 : Shape := ⟨2, ![512, 1536]⟩
abbrev S8x128x64 : Shape := ⟨3, ![8, 128, 64]⟩
abbrev S8x1x128x64 : Shape := ⟨4, ![8, 1, 128, 64]⟩
abbrev S8x32x64 : Shape := ⟨3, ![8, 32, 64]⟩
abbrev S8x1x32x64 : Shape := ⟨4, ![8, 1, 32, 64]⟩
abbrev S1x512x64 : Shape := ⟨3, ![1, 512, 64]⟩
abbrev S512x64 : Shape := ⟨2, ![512, 64]⟩

abbrev nBuf : Space → Nat
  | .hbm => 43
  | .vmem => 21
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x8x64, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S4096x1x8x64, .f32⟩
  | .hbm, ⟨10, _⟩ => ⟨S8x1x4096x64, .f32⟩
  | .hbm, ⟨11, _⟩ => ⟨S8x4096x64, .f32⟩
  | .hbm, ⟨12, _⟩ => ⟨S4096x1x8x64, .f32⟩
  | .hbm, ⟨13, _⟩ => ⟨S8x1x4096x64, .f32⟩
  | .hbm, ⟨14, _⟩ => ⟨S8x4096x64, .f32⟩
  | .hbm, ⟨15, _⟩ => ⟨S4096x1x8x64, .f32⟩
  | .hbm, ⟨16, _⟩ => ⟨S8x1x4096x64, .f32⟩
  | .hbm, ⟨17, _⟩ => ⟨S8x4096x64, .f32⟩
  | .hbm, ⟨18, _⟩ => ⟨S1024x4x8x64, .f32⟩
  | .hbm, ⟨19, _⟩ => ⟨S8x4x1024x64, .f32⟩
  | .hbm, ⟨20, _⟩ => ⟨S8x4096x64, .f32⟩
  | .hbm, ⟨21, _⟩ => ⟨S1024x4x8x64, .f32⟩
  | .hbm, ⟨22, _⟩ => ⟨S8x4x1024x64, .f32⟩
  | .hbm, ⟨23, _⟩ => ⟨S8x4096x64, .f32⟩
  | .hbm, ⟨24, _⟩ => ⟨S1024x4x8x64, .f32⟩
  | .hbm, ⟨25, _⟩ => ⟨S8x4x1024x64, .f32⟩
  | .hbm, ⟨26, _⟩ => ⟨S8x4096x64, .f32⟩
  | .hbm, ⟨27, _⟩ => ⟨S256x16x8x64, .f32⟩
  | .hbm, ⟨28, _⟩ => ⟨S8x16x256x64, .f32⟩
  | .hbm, ⟨29, _⟩ => ⟨S8x4096x64, .f32⟩
  | .hbm, ⟨30, _⟩ => ⟨S256x16x8x64, .f32⟩
  | .hbm, ⟨31, _⟩ => ⟨S8x16x256x64, .f32⟩
  | .hbm, ⟨32, _⟩ => ⟨S8x4096x64, .f32⟩
  | .hbm, ⟨33, _⟩ => ⟨S256x16x8x64, .f32⟩
  | .hbm, ⟨34, _⟩ => ⟨S8x16x256x64, .f32⟩
  | .hbm, ⟨35, _⟩ => ⟨S8x4096x64, .f32⟩
  | .hbm, ⟨36, _⟩ => ⟨S8x4x1024x64, .f32⟩
  | .hbm, ⟨37, _⟩ => ⟨S8x4x1024x64, .f32⟩
  | .hbm, ⟨38, _⟩ => ⟨S8x4x1024x64, .f32⟩
  | .hbm, ⟨39, _⟩ => ⟨S8x16x256x64, .f32⟩
  | .hbm, ⟨40, _⟩ => ⟨S8x16x256x64, .f32⟩
  | .hbm, ⟨41, _⟩ => ⟨S8x16x256x64, .f32⟩
  | .hbm, ⟨42, _⟩ => ⟨S4096x1536, .bf16⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x4x128x64, .f32⟩
  | .local _ .vmem, ⟨7, _⟩ => ⟨S8x4x128x64, .f32⟩
  | .local _ .vmem, ⟨8, _⟩ => ⟨S8x4x128x64, .f32⟩
  | .local _ .vmem, ⟨9, _⟩ => ⟨S8x4x128x64, .f32⟩
  | .local _ .vmem, ⟨10, _⟩ => ⟨S8x4x128x64, .f32⟩
  | .local _ .vmem, ⟨11, _⟩ => ⟨S8x4x128x64, .f32⟩
  | .local _ .vmem, ⟨12, _⟩ => ⟨S8x16x32x64, .f32⟩
  | .local _ .vmem, ⟨13, _⟩ => ⟨S8x16x32x64, .f32⟩
  | .local _ .vmem, ⟨14, _⟩ => ⟨S8x16x32x64, .f32⟩
  | .local _ .vmem, ⟨15, _⟩ => ⟨S8x16x32x64, .f32⟩
  | .local _ .vmem, ⟨16, _⟩ => ⟨S8x16x32x64, .f32⟩
  | .local _ .vmem, ⟨17, _⟩ => ⟨S8x16x32x64, .f32⟩
  | .local _ .vmem, ⟨18, _⟩ => ⟨S512x1536, .bf16⟩
  | .local _ .vmem, ⟨19, _⟩ => ⟨S512x1536, .bf16⟩
  | .local _ .vmem, ⟨20, _⟩ => ⟨S8x512x64, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4096x8x64 : Shape := ⟨3, ![4096, 8, 64]⟩
abbrev S_ : Shape := ⟨0, ![]⟩
abbrev S4096x1536 : Shape := ⟨2, ![4096, 1536]⟩
abbrev S4096x512 : Shape := ⟨2, ![4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x8x64, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S_, .f32⟩
  | .hbm, ⟨10, _⟩ => ⟨S4096x1536, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x8x64, .f32⟩
  | .hbm, ⟨15, _⟩ => ⟨S4096x8x64, .f32⟩
  | .hbm, ⟨16, _⟩ => ⟨S4096x8x64, .f32⟩
  | .hbm, ⟨17, _⟩ => ⟨S4096x8x64, .f32⟩
  | .hbm, ⟨18, _⟩ => ⟨S4096x8x64, .f32⟩
  | .hbm, ⟨19, _⟩ => ⟨S4096x8x64, .f32⟩
  | .hbm, ⟨20, _⟩ => ⟨S4096x8x64, .f32⟩
  | .hbm, ⟨21, _⟩ => ⟨S4096x8x64, .f32⟩
  | .hbm, ⟨22, _⟩ => ⟨S4096x8x64, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x1536, .f32⟩
  | .hbm, ⟨27, _⟩ => ⟨S4096x1536, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Outln.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutlnRefIdeal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Comb.lean ====
abbrev S4096x8x64 : Shape := ⟨3, ![4096, 8, 64]⟩
abbrev S4096x8 : Shape := ⟨2, ![4096, 8]⟩
abbrev S4096x1x8x64 : Shape := ⟨4, ![4096, 1, 8, 64]⟩
abbrev S8x1x4096x64 : Shape := ⟨4, ![8, 1, 4096, 64]⟩
abbrev S8x4096x64 : Shape := ⟨3, ![8, 4096, 64]⟩
abbrev S1024x4x8x64 : Shape := ⟨4, ![1024, 4, 8, 64]⟩
abbrev S8x4x1024x64 : Shape := ⟨4, ![8, 4, 1024, 64]⟩
abbrev S256x16x8x64 : Shape := ⟨4, ![256, 16, 8, 64]⟩
abbrev S8x16x256x64 : Shape := ⟨4, ![8, 16, 256, 64]⟩
abbrev S8x4096 : Shape := ⟨2, ![8, 4096]⟩
abbrev S8x1x4096 : Shape := ⟨3, ![8, 1, 4096]⟩
abbrev S4096x512 : Shape := ⟨2, ![4096, 512]⟩
abbrev S8x512x64 : Shape := ⟨3, ![8, 512, 64]⟩
abbrev S8x4x128x64 : Shape := ⟨4, ![8, 4, 128, 64]⟩
abbrev S8x16x32x64 : Shape := ⟨4, ![8, 16, 32, 64]⟩
abbrev S8x1x512 : Shape := ⟨3, ![8, 1, 512]⟩
abbrev S512x512 : Shape := ⟨2, ![512, 512]⟩
abbrev S8x1x128x64 : Shape := ⟨4, ![8, 1, 128, 64]⟩
abbrev S8x128x64 : Shape := ⟨3, ![8, 128, 64]⟩
abbrev S8x1x32x64 : Shape := ⟨4, ![8, 1, 32, 64]⟩
abbrev S8x32x64 : Shape := ⟨3, ![8, 32, 64]⟩
abbrev S8x512x1 : Shape := ⟨3, ![8, 512, 1]⟩
abbrev S1x512x64 : Shape := ⟨3, ![1, 512, 64]⟩
abbrev S512x64 : Shape := ⟨2, ![512, 64]⟩

abbrev nBuf : Space → Nat
  | .hbm => 25
  | .vmem => 18
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S4096x1x8x64, .f32⟩
  | .hbm, ⟨7, _⟩ => ⟨S8x1x4096x64, .f32⟩
  | .hbm, ⟨8, _⟩ => ⟨S8x4096x64, .f32⟩
  | .hbm, ⟨9, _⟩ => ⟨S1024x4x8x64, .f32⟩
  | .hbm, ⟨10, _⟩ => ⟨S8x4x1024x64, .f32⟩
  | .hbm, ⟨11, _⟩ => ⟨S8x4096x64, .f32⟩
  | .hbm, ⟨12, _⟩ => ⟨S256x16x8x64, .f32⟩
  | .hbm, ⟨13, _⟩ => ⟨S8x16x256x64, .f32⟩
  | .hbm, ⟨14, _⟩ => ⟨S8x4096x64, .f32⟩
  | .hbm, ⟨15, _⟩ => ⟨S8x4096, .f32⟩
  | .hbm, ⟨16, _⟩ => ⟨S8x1x4096, .f32⟩
  | .hbm, ⟨17, _⟩ => ⟨S8x4096, .f32⟩
  | .hbm, ⟨18, _⟩ => ⟨S8x1x4096, .f32⟩
  | .hbm, ⟨19, _⟩ => ⟨S8x4096, .f32⟩
  | .hbm, ⟨20, _⟩ => ⟨S8x1x4096, .f32⟩
  | .hbm, ⟨21, _⟩ => ⟨S8x4x1024x64, .f32⟩
  | .hbm, ⟨22, _⟩ => ⟨S8x16x256x64, .f32⟩
  | .hbm, ⟨23, _⟩ => ⟨S4096x512, .f32⟩
  | .hbm, ⟨24, _⟩ => ⟨S8x1x4096, .f32⟩
  | .local _ .vmem, ⟨0, _⟩ => ⟨S8x512x64, .f32⟩
  | .local _ .vmem, ⟨1, _⟩ => ⟨S8x512x64, .f32⟩
  | .local _ .vmem, ⟨2, _⟩ => ⟨S8x4x128x64, .f32⟩
  | .local _ .vmem, ⟨3, _⟩ => ⟨S8x4x128x64, .f32⟩
  | .local _ .vmem, ⟨4, _⟩ => ⟨S8x16x32x64, .f32⟩
  | .local _ .vmem, ⟨5, _⟩ => ⟨S8x16x32x64, .f32⟩
  | .local _ .vmem, ⟨6, _⟩ => ⟨S8x1x512, .f32⟩
  | .local _ .vmem, ⟨7, _⟩ => ⟨S8x1x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S512x512, .f32⟩
  | .local _ .vmem, ⟨13, _⟩ => ⟨S512x512, .f32⟩
  | .local _ .vmem, ⟨14, _⟩ => ⟨S8x1x512, .f32⟩
  | .local _ .vmem, ⟨15, _⟩ => ⟨S8x1x512, .f32⟩
  | .local _ .vmem, ⟨16, _⟩ => ⟨S8x512x64, .f32⟩
  | .local _ .vmem, ⟨17, _⟩ => ⟨S8x512x64, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombRefIdeal.lean ====
abbrev S4096x8x64 : Shape := ⟨3, ![4096, 8, 64]⟩
abbrev S4096x8 : Shape := ⟨2, ![4096, 8]⟩
abbrev S1x4096x8 : Shape := ⟨3, ![1, 4096, 8]⟩
abbrev S3x4096x8 : Shape := ⟨3, ![3, 4096, 8]⟩
abbrev S_ : Shape := ⟨0, ![]⟩
abbrev S3x4096x8x1 : Shape := ⟨4, ![3, 4096, 8, 1]⟩
abbrev S1x4096x8x64 : Shape := ⟨4, ![1, 4096, 8, 64]⟩
abbrev S3x4096x8x64 : Shape := ⟨4, ![3, 4096, 8, 64]⟩
abbrev S4096x512 : Shape := ⟨2, ![4096, 512]⟩
abbrev S8x4096 : Shape := ⟨2, ![8, 4096]⟩
abbrev S8x1x4096 : Shape := ⟨3, ![8, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S1x4096x8, .f32⟩
  | .hbm, ⟨7, _⟩ => ⟨S1x4096x8, .f32⟩
  | .hbm, ⟨8, _⟩ => ⟨S1x4096x8, .f32⟩
  | .hbm, ⟨9, _⟩ => ⟨S3x4096x8, .f32⟩
  | .hbm, ⟨10, _⟩ => ⟨S_, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S1x4096x8, .f32⟩
  | .hbm, ⟨16, _⟩ => ⟨S3x4096x8, .f32⟩
  | .hbm, ⟨17, _⟩ => ⟨S3x4096x8, .f32⟩
  | .hbm, ⟨18, _⟩ => ⟨S3x4096x8, .f32⟩
  | .hbm, ⟨19, _⟩ => ⟨S_, .f32⟩
  | .hbm, ⟨20, _⟩ => ⟨S4096x8, .f32⟩
  | .hbm, ⟨21, _⟩ => ⟨S1x4096x8, .f32⟩
  | .hbm, ⟨22, _⟩ => ⟨S3x4096x8, .f32⟩
  | .hbm, ⟨23, _⟩ => ⟨S3x4096x8, .f32⟩
  | .hbm, ⟨24, _⟩ => ⟨S3x4096x8x1, .f32⟩
  | .hbm, ⟨25, _⟩ => ⟨S1x4096x8x64, .f32⟩
  | .hbm, ⟨26, _⟩ => ⟨S1x4096x8x64, .f32⟩
  | .hbm, ⟨27, _⟩ => ⟨S1x4096x8x64, .f32⟩
  | .hbm, ⟨28, _⟩ => ⟨S3x4096x8x64, .f32⟩
  | .hbm, ⟨29, _⟩ => ⟨S3x4096x8x64, .f32⟩
  | .hbm, ⟨30, _⟩ => ⟨S3x4096x8x64, .f32⟩
  | .hbm, ⟨31, _⟩ => ⟨S_, .f32⟩
  | .hbm, ⟨32, _⟩ => ⟨S4096x8x64, .f32⟩
  | .hbm, ⟨33, _⟩ => ⟨S_, .f32⟩
  | .hbm, ⟨34, _⟩ => ⟨S4096x8, .f32⟩
  | .hbm, ⟨35, _⟩ => ⟨S1x4096x8, .f32⟩
  | .hbm, ⟨36, _⟩ => ⟨S3x4096x8, .f32⟩
  | .hbm, ⟨37, _⟩ => ⟨S3x4096x8, .f32⟩
  | .hbm, ⟨38, _⟩ => ⟨S3x4096x8, .f32⟩
  | .hbm, ⟨39, _⟩ => ⟨S_, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x512, .f32⟩
  | .hbm, ⟨44, _⟩ => ⟨S8x4096, .f32⟩
  | .hbm, ⟨45, _⟩ => ⟨S8x1x4096, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Gatef.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S1x5632 : Shape := ⟨2, ![1, 5632]⟩
abbrev S4096x2816 : Shape := ⟨2, ![4096, 2816]⟩
abbrev S256x1024 : Shape := ⟨2, ![256, 1024]⟩
abbrev S8x1024 : Shape := ⟨2, ![8, 1024]⟩
abbrev S1x1024x1408 : Shape := ⟨3, ![1, 1024, 1408]⟩
abbrev S3x1408 : Shape := ⟨2, ![3, 1408]⟩
abbrev S1x1408 : Shape := ⟨2, ![1, 1408]⟩
abbrev S256x1408 : Shape := ⟨2, ![256, 1408]⟩
abbrev S1024x1408 : Shape := ⟨2, ![1024, 1408]⟩
abbrev S8x1408 : Shape := ⟨2, ![8, 1408]⟩
abbrev S248x1408 : Shape := ⟨2, ![248, 1408]⟩

abbrev nBuf : Space → Nat
  | .hbm => 15
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x1024, .bf16⟩
  | .hbm, ⟨8, _⟩ => ⟨S1x5632, .f32⟩
  | .hbm, ⟨9, _⟩ => ⟨S4096x2816, .f32⟩
  | .hbm, ⟨10, _⟩ => ⟨S4096x2816, .f32⟩
  | .hbm, ⟨11, _⟩ => ⟨S4096x2816, .bf16⟩
  | .hbm, ⟨12, _⟩ => ⟨S4096x2816, .f32⟩
  | .hbm, ⟨13, _⟩ => ⟨S4096x2816, .f32⟩
  | .hbm, ⟨14, _⟩ => ⟨S4096x2816, .f32⟩
  | .local _ .vmem, ⟨0, _⟩ => ⟨S256x1024, .bf16⟩
  | .local _ .vmem, ⟨1, _⟩ => ⟨S256x1024, .bf16⟩
  | .local _ .vmem, ⟨2, _⟩ => ⟨S8x1024, .f32⟩
  | .local _ .vmem, ⟨3, _⟩ => ⟨S8x1024, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .bf16⟩
  | .local _ .vmem, ⟨21, _⟩ => ⟨S256x1408, .bf16⟩
  | .local _ .vmem, ⟨22, _⟩ => ⟨S256x1408, .f32⟩
  | .local _ .vmem, ⟨23, _⟩ => ⟨S256x1408, .f32⟩
  | .local _ .vmem, ⟨24, _⟩ => ⟨S256x1408, .f32⟩
  | .local _ .vmem, ⟨25, _⟩ => ⟨S256x1408, .f32⟩
  | .local _ .vmem, ⟨26, _⟩ => ⟨S256x1408, .f32⟩
  | .local _ .vmem, ⟨27, _⟩ => ⟨S256x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== GatefRefIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S2x5632 : Shape := ⟨2, ![2, 5632]⟩
abbrev S4094x5632 : Shape := ⟨2, ![4094, 5632]⟩
abbrev S1x5632 : Shape := ⟨2, ![1, 5632]⟩
abbrev S4095x5632 : Shape := ⟨2, ![4095, 5632]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4094x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S1x5632, .f32⟩
  | .hbm, ⟨19, _⟩ => ⟨S4095x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Dila.lean ====
abbrev S4096x8x64 : Shape := ⟨3, ![4096, 8, 64]⟩
abbrev S8 : Shape := ⟨1, ![8]⟩
abbrev S_ : Shape := ⟨0, ![]⟩
abbrev S4096x1x8x64 : Shape := ⟨4, ![4096, 1, 8, 64]⟩
abbrev S1x4096x8x64 : Shape := ⟨4, ![1, 4096, 8, 64]⟩
abbrev S1x32x128x8x64 : Shape := ⟨5, ![1, 32, 128, 8, 64]⟩
abbrev S1x1x128x8x64 : Shape := ⟨5, ![1, 1, 128, 8, 64]⟩
abbrev S1x31x128x8x64 : Shape := ⟨5, ![1, 31, 128, 8, 64]⟩
abbrev S1x32x256x8x64 : Shape := ⟨5, ![1, 32, 256, 8, 64]⟩
abbrev S1x32x8x128x256 : Shape := ⟨5, ![1, 32, 8, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x8x1x1 : Shape := ⟨4, ![1, 8, 1, 1]⟩
abbrev S32x1x128x256 : Shape := ⟨4, ![32, 1, 128, 256]⟩
abbrev S32x8x128x256 : Shape := ⟨4, ![32, 8, 128, 256]⟩
abbrev S1x32x8x128 : Shape := ⟨4, ![1, 32, 8, 128]⟩
abbrev S1x32x8x128x1 : Shape := ⟨5, ![1, 32, 8, 128, 1]⟩
abbrev S1x32x8x64x128 : Shape := ⟨5, ![1, 32, 8, 64, 128]⟩
abbrev S1x32x128x8 : Shape := ⟨4, ![1, 32, 128, 8]⟩
abbrev S1x4096x8 : Shape := ⟨3, ![1, 4096, 8]⟩
abbrev S4096x1x8 : Shape := ⟨3, ![4096, 1, 8]⟩
abbrev S4096x8 : Shape := ⟨2, ![4096, 8]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S4x1x128x8x64 : Shape := ⟨5, ![4, 1, 128, 8, 64]⟩
abbrev S4x7x128x8x64 : Shape := ⟨5, ![4, 7, 128, 8, 64]⟩
abbrev S4x8x256x8x64 : Shape := ⟨5, ![4, 8, 256, 8, 64]⟩
abbrev S4x8x8x128x256 : Shape := ⟨5, ![4, 8, 8, 128, 256]⟩
abbrev S8x1 : Shape := ⟨2, ![8, 1]⟩
abbrev S8x128 : Shape := ⟨2, ![8, 128]⟩
abbrev S8x256 : Shape := ⟨2, ![8, 256]⟩
abbrev S8x128x1 : Shape := ⟨3, ![8, 128, 1]⟩
abbrev S8x1x256 : Shape := ⟨3, ![8, 1, 256]⟩
abbrev S8x128x256 : Shape := ⟨3, ![8, 128, 256]⟩
abbrev S8x1x128x256 : Shape := ⟨4, ![8, 1, 128, 256]⟩
abbrev S8x8x128x256 : Shape := ⟨4, ![8, 8, 128, 256]⟩
abbrev S1x8x8x128x256 : Shape := ⟨5, ![1, 8, 8, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4x1024x8 : Shape := ⟨3, ![4, 1024, 8]⟩
abbrev S1024x4x8 : Shape := ⟨3, ![1024, 4, 8]⟩
abbrev S256x16x8x64 : Shape := ⟨4, ![256, 16, 8, 64]⟩
abbrev S16x256x8x64 : Shape := ⟨4, ![16, 256, 8, 64]⟩
abbrev S16x2x128x8x64 : Shape := ⟨5, ![16, 2, 128, 8, 64]⟩
abbrev S16x1x128x8x64 : Shape := ⟨5, ![16, 1, 128, 8, 64]⟩
abbrev S16x2x256x8x64 : Shape := ⟨5, ![16, 2, 256, 8, 64]⟩
abbrev S16x2x8x128x256 : Shape := ⟨5, ![16, 2, 8, 128, 256]⟩
abbrev S2 : Shape := ⟨1, ![2]⟩
abbrev S2x1 : Shape := ⟨2, ![2, 1]⟩
abbrev S2x128 : Shape := ⟨2, ![2, 128]⟩
abbrev S2x256 : Shape := ⟨2, ![2, 256]⟩
abbrev S2x128x1 : Shape := ⟨3, ![2, 128, 1]⟩
abbrev S2x1x256 : Shape := ⟨3, ![2, 1, 256]⟩
abbrev S2x128x256 : Shape := ⟨3, ![2, 128, 256]⟩
abbrev S2x1x128x256 : Shape := ⟨4, ![2, 1, 128, 256]⟩
abbrev S2x8x128x256 : Shape := ⟨4, ![2, 8, 128, 256]⟩
abbrev S1x2x8x128x256 : Shape := ⟨5, ![1, 2, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x256x8 : Shape := ⟨3, ![16, 256, 8]⟩
abbrev S256x16x8 : Shape := ⟨3, ![256, 16, 8]⟩
abbrev S4096x8x1 : Shape := ⟨3, ![4096, 8, 1]⟩
abbrev S8x4096 : Shape := ⟨2, ![8, 4096]⟩
abbrev S8x1x4096 : Shape := ⟨3, ![8, 1, 4096]⟩
abbrev S8x1x4096x64 : Shape := ⟨4, ![8, 1, 4096, 64]⟩
abbrev S8x4096x64 : Shape := ⟨3, ![8, 4096, 64]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x512x64 : Shape := ⟨3, ![8, 512, 64]⟩
abbrev S8x128x64 : Shape := ⟨3, ![8, 128, 64]⟩
abbrev S8x1x512 : Shape := ⟨3, ![8, 1, 512]⟩
abbrev S8x1x128 : Shape := ⟨3, ![8, 1, 128]⟩

abbrev nBuf : Space → Nat
  | .hbm => 452
  | .vmem => 32
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096x1x8x64, .f32⟩
  | 18 => ⟨S1x4096x8x64, .f32⟩
  | 19 => ⟨S1x32x128x8x64, .f32⟩
  | 20 => ⟨S4096x1x8x64, .f32⟩
  | 21 => ⟨S1x4096x8x64, .f32⟩
  | 22 => ⟨S1x32x128x8x64, .f32⟩
  | 23 => ⟨S1x1x128x8x64, .f32⟩
  | 24 => ⟨S_, .f32⟩
  | 25 => ⟨S1x1x128x8x64, .f32⟩
  | 26 => ⟨S1x31x128x8x64, .f32⟩
  | 27 => ⟨S1x32x128x8x64, .f32⟩
  | 28 => ⟨S1x32x256x8x64, .f32⟩
  | 29 => ⟨S4096x1x8x64, .f32⟩
  | 30 => ⟨S1x4096x8x64, .f32⟩
  | 31 => ⟨S1x32x128x8x64, .f32⟩
  | 32 => ⟨S1x1x128x8x64, .f32⟩
  | 33 => ⟨S_, .f32⟩
  | 34 => ⟨S1x1x128x8x64, .f32⟩
  | 35 => ⟨S1x31x128x8x64, .f32⟩
  | 36 => ⟨S1x32x128x8x64, .f32⟩
  | 37 => ⟨S1x32x256x8x64, .f32⟩
  | 38 => ⟨S1x32x8x128x256, .f32⟩
  | 39 => ⟨S_, .f32⟩
  | 40 => ⟨S1x32x8x128x256, .f32⟩
  | 41 => ⟨S1x32x8x128x256, .f32⟩
  | 42 => ⟨S32, .i32⟩
  | 43 => ⟨S32x1, .i32⟩
  | 44 => ⟨S_, .i32⟩
  | 45 => ⟨S32x1, .i32⟩
  | 46 => ⟨S32x1, .i32⟩
  | 47 => ⟨S128, .i32⟩
  | 48 => ⟨S1x128, .i32⟩
  | 49 => ⟨S32x128, .i32⟩
  | 50 => ⟨S32x128, .i32⟩
  | 51 => ⟨S32x128, .i32⟩
  | 52 => ⟨S32, .i32⟩
  | 53 => ⟨S32x1, .i32⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i32⟩
  | 60 => ⟨S256, .i32⟩
  | 61 => ⟨S1x256, .i32⟩
  | 62 => ⟨S32x256, .i32⟩
  | 63 => ⟨S32x256, .i32⟩
  | 64 => ⟨S32x256, .i32⟩
  | 65 => ⟨S32x128x1, .i32⟩
  | 66 => ⟨S32x1x256, .i32⟩
  | 67 => ⟨S32x128x256, .i32⟩
  | 68 => ⟨S32x128x256, .i32⟩
  | 69 => ⟨S32x128x256, .i32⟩
  | 70 => ⟨S_, .i32⟩
  | 71 => ⟨S32x128x256, .i32⟩
  | 72 => ⟨S32x128x256, .i1⟩
  | 73 => ⟨S_, .i32⟩
  | 74 => ⟨S32x128x256, .i32⟩
  | 75 => ⟨S32x128x256, .i1⟩
  | 76 => ⟨S32x128x256, .i1⟩
  | 77 => ⟨S32x1x256, .i32⟩
  | 78 => ⟨S_, .i32⟩
  | 79 => ⟨S32x1x256, .i32⟩
  | 80 => ⟨S32x1x256, .i1⟩
  | 81 => ⟨S32x128x256, .i1⟩
  | 82 => ⟨S32x128x256, .i1⟩
  | 83 => ⟨S_, .i32⟩
  | 84 => ⟨S32x128x256, .i32⟩
  | 85 => ⟨S32x128x256, .i32⟩
  | 86 => ⟨S32x128x256, .f32⟩
  | 87 => ⟨S1x8x1x1, .f32⟩
  | 88 => ⟨S1x8x1x1, .f32⟩
  | 89 => ⟨S32x1x128x256, .f32⟩
  | 90 => ⟨S32x8x128x256, .f32⟩
  | 91 => ⟨S32x8x128x256, .f32⟩
  | 92 => ⟨S32x8x128x256, .f32⟩
  | 93 => ⟨S32x1x128x256, .i1⟩
  | 94 => ⟨S1x32x8x128x256, .f32⟩
  | 95 => ⟨S1x32x8x128x256, .f32⟩
  | 96 => ⟨S_, .f32⟩
  | 97 => ⟨S_, .f32⟩
  | 98 => ⟨S1x32x8x128x256, .i1⟩
  | 99 => ⟨S1x32x8x128x256, .f32⟩
  | 100 => ⟨S1x32x8x128x256, .f32⟩
  | 101 => ⟨S_, .f32⟩
  | 102 => ⟨S1x32x8x128, .f32⟩
  | 103 => ⟨S1x32x8x128x1, .f32⟩
  | 104 => ⟨S1x32x8x128x256, .f32⟩
  | 105 => ⟨S1x32x8x128x256, .f32⟩
  | 106 => ⟨S1x32x8x128x256, .f32⟩
  | 107 => ⟨S_, .f32⟩
  | 108 => ⟨S1x32x8x128, .f32⟩
  | 109 => ⟨S1x32x8x128, .f32⟩
  | 110 => ⟨S1x32x8x128, .f32⟩
  | 111 => ⟨S1x32x8x128x1, .f32⟩
  | 112 => ⟨S1x32x8x128x256, .f32⟩
  | 113 => ⟨S1x32x8x128x256, .f32⟩
  | 114 => ⟨S1x32x8x128x256, .f32⟩
  | 115 => ⟨S1x32x8x64x128, .f32⟩
  | 116 => ⟨S1x32x128x8x64, .f32⟩
  | 117 => ⟨S1x4096x8x64, .f32⟩
  | 118 => ⟨S4096x1x8x64, .f32⟩
  | 119 => ⟨S4096x8x64, .f32⟩
  | 120 => ⟨S1x32x128x8, .f32⟩
  | 121 => ⟨S1x4096x8, .f32⟩
  | 122 => ⟨S4096x1x8, .f32⟩
  | 123 => ⟨S4096x8, .f32⟩
  | 124 => ⟨S1024x4x8x64, .f32⟩
  | 125 => ⟨S4x1024x8x64, .f32⟩
  | 126 => ⟨S4x8x128x8x64, .f32⟩
  | 127 => ⟨S1024x4x8x64, .f32⟩
  | _ => ⟨S4096x8x64, .f32⟩

abbrev hbmTy0_1 (i : Nat) : BufTy := match i % 128 with
  | 0 => ⟨S4x1024x8x64, .f32⟩
  | 1 => ⟨S4x8x128x8x64, .f32⟩
  | 2 => ⟨S4x1x128x8x64, .f32⟩
  | 3 => ⟨S_, .f32⟩
  | 4 => ⟨S4x1x128x8x64, .f32⟩
  | 5 => ⟨S4x7x128x8x64, .f32⟩
  | 6 => ⟨S4x8x128x8x64, .f32⟩
  | 7 => ⟨S4x8x256x8x64, .f32⟩
  | 8 => ⟨S1024x4x8x64, .f32⟩
  | 9 => ⟨S4x1024x8x64, .f32⟩
  | 10 => ⟨S4x8x128x8x64, .f32⟩
  | 11 => ⟨S4x1x128x8x64, .f32⟩
  | 12 => ⟨S_, .f32⟩
  | 13 => ⟨S4x1x128x8x64, .f32⟩
  | 14 => ⟨S4x7x128x8x64, .f32⟩
  | 15 => ⟨S4x8x128x8x64, .f32⟩
  | 16 => ⟨S4x8x256x8x64, .f32⟩
  | 17 => ⟨S4x8x8x128x256, .f32⟩
  | 18 => ⟨S_, .f32⟩
  | 19 => ⟨S4x8x8x128x256, .f32⟩
  | 20 => ⟨S4x8x8x128x256, .f32⟩
  | 21 => ⟨S8, .i32⟩
  | 22 => ⟨S8x1, .i32⟩
  | 23 => ⟨S_, .i32⟩
  | 24 => ⟨S8x1, .i32⟩
  | 25 => ⟨S8x1, .i32⟩
  | 26 => ⟨S128, .i32⟩
  | 27 => ⟨S1x128, .i32⟩
  | 28 => ⟨S8x128, .i32⟩
  | 29 => ⟨S8x128, .i32⟩
  | 30 => ⟨S8x128, .i32⟩
  | 31 => ⟨S8, .i32⟩
  | 32 => ⟨S8x1, .i32⟩
  | 33 => ⟨S_, .i32⟩
  | 34 => ⟨S8x1, .i32⟩
  | 35 => ⟨S8x1, .i32⟩
  | 36 => ⟨S_, .i32⟩
  | 37 => ⟨S8x1, .i32⟩
  | 38 => ⟨S8x1, .i32⟩
  | 39 => ⟨S256, .i32⟩
  | 40 => ⟨S1x256, .i32⟩
  | 41 => ⟨S8x256, .i32⟩
  | 42 => ⟨S8x256, .i32⟩
  | 43 => ⟨S8x256, .i32⟩
  | 44 => ⟨S8x128x1, .i32⟩
  | 45 => ⟨S8x1x256, .i32⟩
  | 46 => ⟨S8x128x256, .i32⟩
  | 47 => ⟨S8x128x256, .i32⟩
  | 48 => ⟨S8x128x256, .i32⟩
  | 49 => ⟨S_, .i32⟩
  | 50 => ⟨S8x128x256, .i32⟩
  | 51 => ⟨S8x128x256, .i1⟩
  | 52 => ⟨S_, .i32⟩
  | 53 => ⟨S8x128x256, .i32⟩
  | 54 => ⟨S8x128x256, .i1⟩
  | 55 => ⟨S8x128x256, .i1⟩
  | 56 => ⟨S8x1x256, .i32⟩
  | 57 => ⟨S_, .i32⟩
  | 58 => ⟨S8x1x256, .i32⟩
  | 59 => ⟨S8x1x256, .i1⟩
  | 60 => ⟨S8x128x256, .i1⟩
  | 61 => ⟨S8x128x256, .i1⟩
  | 62 => ⟨S_, .i32⟩
  | 63 => ⟨S8x128x256, .i32⟩
  | 64 => ⟨S8x128x256, .i32⟩
  | 65 => ⟨S8x128x256, .f32⟩
  | 66 => ⟨S1x8x1x1, .f32⟩
  | 67 => ⟨S1x8x1x1, .f32⟩
  | 68 => ⟨S8x1x128x256, .f32⟩
  | 69 => ⟨S8x8x128x256, .f32⟩
  | 70 => ⟨S8x8x128x256, .f32⟩
  | 71 => ⟨S8x8x128x256, .f32⟩
  | 72 => ⟨S8x1x128x256, .i1⟩
  | 73 => ⟨S1x8x8x128x256, .f32⟩
  | 74 => ⟨S4x8x8x128x256, .f32⟩
  | 75 => ⟨S4x8x8x128x256, .f32⟩
  | 76 => ⟨S_, .f32⟩
  | 77 => ⟨S_, .f32⟩
  | 78 => ⟨S4x8x8x128x256, .i1⟩
  | 79 => ⟨S4x8x8x128x256, .f32⟩
  | 80 => ⟨S4x8x8x128x256, .f32⟩
  | 81 => ⟨S_, .f32⟩
  | 82 => ⟨S4x8x8x128, .f32⟩
  | 83 => ⟨S4x8x8x128x1, .f32⟩
  | 84 => ⟨S4x8x8x128x256, .f32⟩
  | 85 => ⟨S4x8x8x128x256, .f32⟩
  | 86 => ⟨S4x8x8x128x256, .f32⟩
  | 87 => ⟨S_, .f32⟩
  | 88 => ⟨S4x8x8x128, .f32⟩
  | 89 => ⟨S4x8x8x128, .f32⟩
  | 90 => ⟨S4x8x8x128, .f32⟩
  | 91 => ⟨S4x8x8x128x1, .f32⟩
  | 92 => ⟨S4x8x8x128x256, .f32⟩
  | 93 => ⟨S4x8x8x128x256, .f32⟩
  | 94 => ⟨S4x8x8x128x256, .f32⟩
  | 95 => ⟨S4x8x8x64x128, .f32⟩
  | 96 => ⟨S4x8x128x8x64, .f32⟩
  | 97 => ⟨S4x1024x8x64, .f32⟩
  | 98 => ⟨S1024x4x8x64, .f32⟩
  | 99 => ⟨S4096x8x64, .f32⟩
  | 100 => ⟨S4x8x128x8, .f32⟩
  | 101 => ⟨S4x1024x8, .f32⟩
  | 102 => ⟨S1024x4x8, .f32⟩
  | 103 => ⟨S4096x8, .f32⟩
  | 104 => ⟨S256x16x8x64, .f32⟩
  | 105 => ⟨S16x256x8x64, .f32⟩
  | 106 => ⟨S16x2x128x8x64, .f32⟩
  | 107 => ⟨S256x16x8x64, .f32⟩
  | 108 => ⟨S16x256x8x64, .f32⟩
  | 109 => ⟨S16x2x128x8x64, .f32⟩
  | 110 => ⟨S16x1x128x8x64, .f32⟩
  | 111 => ⟨S_, .f32⟩
  | 112 => ⟨S16x1x128x8x64, .f32⟩
  | 113 => ⟨S16x1x128x8x64, .f32⟩
  | 114 => ⟨S16x2x128x8x64, .f32⟩
  | 115 => ⟨S16x2x256x8x64, .f32⟩
  | 116 => ⟨S256x16x8x64, .f32⟩
  | 117 => ⟨S16x256x8x64, .f32⟩
  | 118 => ⟨S16x2x128x8x64, .f32⟩
  | 119 => ⟨S16x1x128x8x64, .f32⟩
  | 120 => ⟨S_, .f32⟩
  | 121 => ⟨S16x1x128x8x64, .f32⟩
  | 122 => ⟨S16x1x128x8x64, .f32⟩
  | 123 => ⟨S16x2x128x8x64, .f32⟩
  | 124 => ⟨S16x2x256x8x64, .f32⟩
  | 125 => ⟨S16x2x8x128x256, .f32⟩
  | 126 => ⟨S_, .f32⟩
  | 127 => ⟨S16x2x8x128x256, .f32⟩
  | _ => ⟨S4096x8x64, .f32⟩

abbrev hbmTy0_2 (i : Nat) : BufTy := match i % 128 with
  | 0 => ⟨S16x2x8x128x256, .f32⟩
  | 1 => ⟨S2, .i32⟩
  | 2 => ⟨S2x1, .i32⟩
  | 3 => ⟨S_, .i32⟩
  | 4 => ⟨S2x1, .i32⟩
  | 5 => ⟨S2x1, .i32⟩
  | 6 => ⟨S128, .i32⟩
  | 7 => ⟨S1x128, .i32⟩
  | 8 => ⟨S2x128, .i32⟩
  | 9 => ⟨S2x128, .i32⟩
  | 10 => ⟨S2x128, .i32⟩
  | 11 => ⟨S2, .i32⟩
  | 12 => ⟨S2x1, .i32⟩
  | 13 => ⟨S_, .i32⟩
  | 14 => ⟨S2x1, .i32⟩
  | 15 => ⟨S2x1, .i32⟩
  | 16 => ⟨S_, .i32⟩
  | 17 => ⟨S2x1, .i32⟩
  | 18 => ⟨S2x1, .i32⟩
  | 19 => ⟨S256, .i32⟩
  | 20 => ⟨S1x256, .i32⟩
  | 21 => ⟨S2x256, .i32⟩
  | 22 => ⟨S2x256, .i32⟩
  | 23 => ⟨S2x256, .i32⟩
  | 24 => ⟨S2x128x1, .i32⟩
  | 25 => ⟨S2x1x256, .i32⟩
  | 26 => ⟨S2x128x256, .i32⟩
  | 27 => ⟨S2x128x256, .i32⟩
  | 28 => ⟨S2x128x256, .i32⟩
  | 29 => ⟨S_, .i32⟩
  | 30 => ⟨S2x128x256, .i32⟩
  | 31 => ⟨S2x128x256, .i1⟩
  | 32 => ⟨S_, .i32⟩
  | 33 => ⟨S2x128x256, .i32⟩
  | 34 => ⟨S2x128x256, .i1⟩
  | 35 => ⟨S2x128x256, .i1⟩
  | 36 => ⟨S2x1x256, .i32⟩
  | 37 => ⟨S_, .i32⟩
  | 38 => ⟨S2x1x256, .i32⟩
  | 39 => ⟨S2x1x256, .i1⟩
  | 40 => ⟨S2x128x256, .i1⟩
  | 41 => ⟨S2x128x256, .i1⟩
  | 42 => ⟨S_, .i32⟩
  | 43 => ⟨S2x128x256, .i32⟩
  | 44 => ⟨S2x128x256, .i32⟩
  | 45 => ⟨S2x128x256, .f32⟩
  | 46 => ⟨S1x8x1x1, .f32⟩
  | 47 => ⟨S1x8x1x1, .f32⟩
  | 48 => ⟨S2x1x128x256, .f32⟩
  | 49 => ⟨S2x8x128x256, .f32⟩
  | 50 => ⟨S2x8x128x256, .f32⟩
  | 51 => ⟨S2x8x128x256, .f32⟩
  | 52 => ⟨S2x1x128x256, .i1⟩
  | 53 => ⟨S1x2x8x128x256, .f32⟩
  | 54 => ⟨S16x2x8x128x256, .f32⟩
  | 55 => ⟨S16x2x8x128x256, .f32⟩
  | 56 => ⟨S_, .f32⟩
  | 57 => ⟨S_, .f32⟩
  | 58 => ⟨S16x2x8x128x256, .i1⟩
  | 59 => ⟨S16x2x8x128x256, .f32⟩
  | 60 => ⟨S16x2x8x128x256, .f32⟩
  | 61 => ⟨S_, .f32⟩
  | 62 => ⟨S16x2x8x128, .f32⟩
  | 63 => ⟨S16x2x8x128x1, .f32⟩
  | 64 => ⟨S16x2x8x128x256, .f32⟩
  | 65 => ⟨S16x2x8x128x256, .f32⟩
  | 66 => ⟨S16x2x8x128x256, .f32⟩
  | 67 => ⟨S_, .f32⟩
  | 68 => ⟨S16x2x8x128, .f32⟩
  | 69 => ⟨S16x2x8x128, .f32⟩
  | 70 => ⟨S16x2x8x128, .f32⟩
  | 71 => ⟨S16x2x8x128x1, .f32⟩
  | 72 => ⟨S16x2x8x128x256, .f32⟩
  | 73 => ⟨S16x2x8x128x256, .f32⟩
  | 74 => ⟨S16x2x8x128x256, .f32⟩
  | 75 => ⟨S16x2x8x64x128, .f32⟩
  | 76 => ⟨S16x2x128x8x64, .f32⟩
  | 77 => ⟨S16x256x8x64, .f32⟩
  | 78 => ⟨S256x16x8x64, .f32⟩
  | 79 => ⟨S4096x8x64, .f32⟩
  | 80 => ⟨S16x2x128x8, .f32⟩
  | 81 => ⟨S16x256x8, .f32⟩
  | 82 => ⟨S256x16x8, .f32⟩
  | 83 => ⟨S4096x8, .f32⟩
  | 84 => ⟨S4096x8, .f32⟩
  | 85 => ⟨S4096x8, .f32⟩
  | 86 => ⟨S4096x8, .f32⟩
  | 87 => ⟨S4096x8, .f32⟩
  | 88 => ⟨S4096x8, .f32⟩
  | 89 => ⟨S4096x8, .f32⟩
  | 90 => ⟨S4096x8, .f32⟩
  | 91 => ⟨S4096x8, .f32⟩
  | 92 => ⟨S4096x8, .f32⟩
  | 93 => ⟨S4096x8, .f32⟩
  | 94 => ⟨S4096x8, .f32⟩
  | 95 => ⟨S4096x8x1, .f32⟩
  | 96 => ⟨S4096x8x64, .f32⟩
  | 97 => ⟨S4096x8x64, .f32⟩
  | 98 => ⟨S4096x8, .f32⟩
  | 99 => ⟨S4096x8x1, .f32⟩
  | 100 => ⟨S4096x8x64, .f32⟩
  | 101 => ⟨S4096x8x64, .f32⟩
  | 102 => ⟨S4096x8x64, .f32⟩
  | 103 => ⟨S4096x8, .f32⟩
  | 104 => ⟨S4096x8x1, .f32⟩
  | 105 => ⟨S4096x8x64, .f32⟩
  | 106 => ⟨S4096x8x64, .f32⟩
  | 107 => ⟨S4096x8x64, .f32⟩
  | 108 => ⟨S4096x8, .f32⟩
  | 109 => ⟨S4096x8, .f32⟩
  | 110 => ⟨S8x4096, .f32⟩
  | 111 => ⟨S8x1x4096, .f32⟩
  | 112 => ⟨S8x4096, .f32⟩
  | 113 => ⟨S8x1x4096, .f32⟩
  | 114 => ⟨S4096x8x64, .bf16⟩
  | 115 => ⟨S4096x1x8x64, .bf16⟩
  | 116 => ⟨S8x1x4096x64, .bf16⟩
  | 117 => ⟨S8x4096x64, .bf16⟩
  | 118 => ⟨S4096x8x64, .bf16⟩
  | 119 => ⟨S4096x1x8x64, .bf16⟩
  | 120 => ⟨S8x1x4096x64, .bf16⟩
  | 121 => ⟨S8x4096x64, .bf16⟩
  | 122 => ⟨S4096x8x64, .bf16⟩
  | 123 => ⟨S4096x1x8x64, .bf16⟩
  | 124 => ⟨S8x1x4096x64, .bf16⟩
  | 125 => ⟨S8x4096x64, .bf16⟩
  | 126 => ⟨S4096x1x8x64, .f32⟩
  | 127 => ⟨S8x1x4096x64, .f32⟩
  | _ => ⟨S4096x8x64, .f32⟩

abbrev hbmTy0_3 (i : Nat) : BufTy := match i % 128 with
  | 0 => ⟨S8x4096x64, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S128, .i32⟩
  | 15 => ⟨S128x1, .i32⟩
  | 16 => ⟨S128, .i32⟩
  | 17 => ⟨S1x128, .i32⟩
  | 18 => ⟨S128x128, .i32⟩
  | 19 => ⟨S128x128, .i32⟩
  | 20 => ⟨S128x128, .i32⟩
  | 21 => ⟨S128x128, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S8x1x1, .f32⟩
  | 28 => ⟨S8x1x1, .f32⟩
  | 29 => ⟨S_, .i32⟩
  | 30 => ⟨S128x128, .i32⟩
  | 31 => ⟨S128x128, .i32⟩
  | 32 => ⟨S128x128, .f32⟩
  | 33 => ⟨S1x128x128, .f32⟩
  | 34 => ⟨S8x128x128, .f32⟩
  | 35 => ⟨S8x128x128, .f32⟩
  | 36 => ⟨S8x128x128, .f32⟩
  | 37 => ⟨S8x1x1, .f32⟩
  | 38 => ⟨S8x1x1, .f32⟩
  | 39 => ⟨S_, .i32⟩
  | 40 => ⟨S128x128, .i32⟩
  | 41 => ⟨S128x128, .i32⟩
  | 42 => ⟨S128x128, .f32⟩
  | 43 => ⟨S1x128x128, .f32⟩
  | 44 => ⟨S8x128x128, .f32⟩
  | 45 => ⟨S8x128x128, .f32⟩
  | 46 => ⟨S8x128x128, .f32⟩
  | 47 => ⟨S_, .i32⟩
  | 48 => ⟨S128x128, .i32⟩
  | 49 => ⟨S128x128, .i1⟩
  | 50 => ⟨S1x128x128, .i1⟩
  | 51 => ⟨S_, .f32⟩
  | 52 => ⟨S_, .f32⟩
  | 53 => ⟨S8x128x128, .i1⟩
  | 54 => ⟨S8x128x128, .f32⟩
  | 55 => ⟨S8x128x128, .f32⟩
  | 56 => ⟨S_, .i32⟩
  | 57 => ⟨S128x128, .i32⟩
  | 58 => ⟨S128x128, .i1⟩
  | 59 => ⟨S1x128x128, .i1⟩
  | 60 => ⟨S_, .f32⟩
  | 61 => ⟨S_, .f32⟩
  | 62 => ⟨S8x128x128, .i1⟩
  | 63 => ⟨S8x128x128, .f32⟩
  | 64 => ⟨S8x128x128, .f32⟩
  | 65 => ⟨S8x4096x64, .f32⟩
  | 66 => ⟨S8x4096x64, .f32⟩
  | 67 => ⟨S8x4096x64, .f32⟩
  | _ => ⟨S4096x8x64, .f32⟩

abbrev hbmTy (i : Nat) : BufTy := match i / 128 with
  | 0 => hbmTy0_0 i
  | 1 => hbmTy0_1 i
  | 2 => hbmTy0_2 i
  | 3 => hbmTy0_3 i
  | _ => ⟨S4096x8x64, .f32⟩

abbrev bufTy : (tb : Table) → Fin (tcTables nBuf tb) → BufTy
  | .hbm, ⟨i, _⟩ => hbmTy i
  | .local _ .vmem, ⟨0, _⟩ => ⟨S8x512x64, .bf16⟩
  | .local _ .vmem, ⟨1, _⟩ => ⟨S8x512x64, .bf16⟩
  | .local _ .vmem, ⟨2, _⟩ => ⟨S8x128x64, .bf16⟩
  | .local _ .vmem, ⟨3, _⟩ => ⟨S8x128x64, .bf16⟩
  | .local _ .vmem, ⟨4, _⟩ => ⟨S8x512x64, .bf16⟩
  | .local _ .vmem, ⟨5, _⟩ => ⟨S8x512x64, .bf16⟩
  | .local _ .vmem, ⟨6, _⟩ => ⟨S8x128x64, .bf16⟩
  | .local _ .vmem, ⟨7, _⟩ => ⟨S8x128x64, .bf16⟩
  | .local _ .vmem, ⟨8, _⟩ => ⟨S8x512x64, .bf16⟩
  | .local _ .vmem, ⟨9, _⟩ => ⟨S8x512x64, .bf16⟩
  | .local _ .vmem, ⟨10, _⟩ => ⟨S8x128x64, .bf16⟩
  | .local _ .vmem, ⟨11, _⟩ => ⟨S8x128x64, .bf16⟩
  | .local _ .vmem, ⟨12, _⟩ => ⟨S8x512x64, .f32⟩
  | .local _ .vmem, ⟨13, _⟩ => ⟨S8x512x64, .f32⟩
  | .local _ .vmem, ⟨14, _⟩ => ⟨S8x128x64, .f32⟩
  | .local _ .vmem, ⟨15, _⟩ => ⟨S8x128x64, .f32⟩
  | .local _ .vmem, ⟨16, _⟩ => ⟨S8x1x512, .f32⟩
  | .local _ .vmem, ⟨17, _⟩ => ⟨S8x1x512, .f32⟩
  | .local _ .vmem, ⟨18, _⟩ => ⟨S8x1x128, .f32⟩
  | .local _ .vmem, ⟨19, _⟩ => ⟨S8x1x128, .f32⟩
  | .local _ .vmem, ⟨20, _⟩ => ⟨S8x1x512, .f32⟩
  | .local _ .vmem, ⟨21, _⟩ => ⟨S8x1x512, .f32⟩
  | .local _ .vmem, ⟨22, _⟩ => ⟨S8x1x128, .f32⟩
  | .local _ .vmem, ⟨23, _⟩ => ⟨S8x1x128, .f32⟩
  | .local _ .vmem, ⟨24, _⟩ => ⟨S8x128x128, .f32⟩
  | .local _ .vmem, ⟨25, _⟩ => ⟨S8x128x128, .f32⟩
  | .local _ .vmem, ⟨26, _⟩ => ⟨S8x512x64, .f32⟩
  | .local _ .vmem, ⟨27, _⟩ => ⟨S8x512x64, .f32⟩
  | .local _ .vmem, ⟨28, _⟩ => ⟨S8x512x64, .f32⟩
  | .local _ .vmem, ⟨29, _⟩ => ⟨S8x512x64, .f32⟩
  | .local _ .vmem, ⟨30, _⟩ => ⟨S8x512x64, .f32⟩
  | .local _ .vmem, ⟨31, _⟩ => ⟨S8x512x64, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_c_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_15 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_16 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_17 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_18 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_19 : Ref sig .tc := ⟨.hbm, 161, rfl⟩
abbrev main_v133 : Ref sig .tc := ⟨.hbm, 162, rfl⟩
abbrev main_v134 : Ref sig .tc := ⟨.hbm, 163, rfl⟩
abbrev main_c_20 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_c_21 : Ref sig .tc := ⟨.hbm, 177, rfl⟩
abbrev main_v147 : Ref sig .tc := ⟨.hbm, 178, rfl⟩
abbrev main_v148 : Ref sig .tc := ⟨.hbm, 179, rfl⟩
abbrev main_c_22 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_c_23 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_c_24 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_25 : Ref sig .tc := ⟨.hbm, 204, rfl⟩
abbrev main_call1_v0 : Ref sig .tc := ⟨.hbm, 205, rfl⟩
abbrev main_call1_v1 : Ref sig .tc := ⟨.hbm, 206, rfl⟩
abbrev main_call1_v2 : Ref sig .tc := ⟨.hbm, 207, rfl⟩
abbrev main_v170 : Ref sig .tc := ⟨.hbm, 208, rfl⟩
abbrev main_cst_26 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_27 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_cst_28 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_29 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_cst_30 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_c_31 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_c_32 : Ref sig .tc := ⟨.hbm, 269, rfl⟩
abbrev main_v225 : Ref sig .tc := ⟨.hbm, 270, rfl⟩
abbrev main_v226 : Ref sig .tc := ⟨.hbm, 271, rfl⟩
abbrev main_c_33 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_c_34 : Ref sig .tc := ⟨.hbm, 285, rfl⟩
abbrev main_v239 : Ref sig .tc := ⟨.hbm, 286, rfl⟩
abbrev main_v240 : Ref sig .tc := ⟨.hbm, 287, rfl⟩
abbrev main_c_35 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_c_36 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_c_37 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_cst_38 : Ref sig .tc := ⟨.hbm, 312, rfl⟩
abbrev main_call2_v0 : Ref sig .tc := ⟨.hbm, 313, rfl⟩
abbrev main_call2_v1 : Ref sig .tc := ⟨.hbm, 314, rfl⟩
abbrev main_call2_v2 : Ref sig .tc := ⟨.hbm, 315, rfl⟩
abbrev main_v262 : Ref sig .tc := ⟨.hbm, 316, rfl⟩
abbrev main_cst_39 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_cst_40 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_cst_41 : Ref sig .tc := ⟨.hbm, 386, rfl⟩
abbrev main_v330 : Ref sig .tc := ⟨.hbm, 387, rfl⟩
abbrev main_v331 : Ref sig .tc := ⟨.hbm, 388, rfl⟩
abbrev main_cst_42 : Ref sig .tc := ⟨.hbm, 389, rfl⟩
abbrev main_v332 : Ref sig .tc := ⟨.hbm, 390, rfl⟩
abbrev main_v333 : Ref sig .tc := ⟨.hbm, 391, rfl⟩
abbrev main_cst_43 : Ref sig .tc := ⟨.hbm, 392, rfl⟩
abbrev main_v334 : Ref sig .tc := ⟨.hbm, 393, rfl⟩
abbrev main_v335 : Ref sig .tc := ⟨.hbm, 394, rfl⟩
abbrev main_cst_44 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_c_45 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_c_46 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_c_47 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_c_48 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_cst_49 : Ref sig .tc := ⟨.hbm, 435, rfl⟩
abbrev main_call3_v0 : Ref sig .tc := ⟨.hbm, 436, rfl⟩
abbrev main_call3_v1 : Ref sig .tc := ⟨.hbm, 437, rfl⟩
abbrev main_call3_v2 : Ref sig .tc := ⟨.hbm, 438, rfl⟩
abbrev main_v371 : Ref sig .tc := ⟨.hbm, 439, rfl⟩
abbrev main_c_50 : Ref sig .tc := ⟨.hbm, 440, rfl⟩
abbrev main_v372 : Ref sig .tc := ⟨.hbm, 441, rfl⟩
abbrev main_v373 : Ref sig .tc := ⟨.hbm, 442, rfl⟩
abbrev main_v374 : Ref sig .tc := ⟨.hbm, 443, rfl⟩
abbrev main_cst_51 : Ref sig .tc := ⟨.hbm, 444, rfl⟩
abbrev main_call4_v0 : Ref sig .tc := ⟨.hbm, 445, rfl⟩
abbrev main_call4_v1 : Ref sig .tc := ⟨.hbm, 446, rfl⟩
abbrev main_call4_v2 : Ref sig .tc := ⟨.hbm, 447, rfl⟩
abbrev main_v375 : Ref sig .tc := ⟨.hbm, 448, rfl⟩
abbrev main_v376_0 : Ref sig .tc := ⟨.hbm, 449, rfl⟩
abbrev main_v376_1 : Ref sig .tc := ⟨.hbm, 450, rfl⟩
abbrev main_v376_2 : Ref sig .tc := ⟨.hbm, 451, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, c0_i32_0.toNat, v2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, c0_i32_0.toNat, v2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== DilaRefIdeal.lean ====
abbrev S4096x8x64 : Shape := ⟨3, ![4096, 8, 64]⟩
abbrev S8 : Shape := ⟨1, ![8]⟩
abbrev S_ : Shape := ⟨0, ![]⟩
abbrev S4096x1x8x64 : Shape := ⟨4, ![4096, 1, 8, 64]⟩
abbrev S1x4096x8x64 : Shape := ⟨4, ![1, 4096, 8, 64]⟩
abbrev S1x32x128x8x64 : Shape := ⟨5, ![1, 32, 128, 8, 64]⟩
abbrev S1x1x128x8x64 : Shape := ⟨5, ![1, 1, 128, 8, 64]⟩
abbrev S1x31x128x8x64 : Shape := ⟨5, ![1, 31, 128, 8, 64]⟩
abbrev S1x32x256x8x64 : Shape := ⟨5, ![1, 32, 256, 8, 64]⟩
abbrev S1x32x8x128x256 : Shape := ⟨5, ![1, 32, 8, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x8x1x1 : Shape := ⟨4, ![1, 8, 1, 1]⟩
abbrev S32x1x128x256 : Shape := ⟨4, ![32, 1, 128, 256]⟩
abbrev S32x8x128x256 : Shape := ⟨4, ![32, 8, 128, 256]⟩
abbrev S1x32x8x128 : Shape := ⟨4, ![1, 32, 8, 128]⟩
abbrev S1x32x8x128x1 : Shape := ⟨5, ![1, 32, 8, 128, 1]⟩
abbrev S1x32x8x64x128 : Shape := ⟨5, ![1, 32, 8, 64, 128]⟩
abbrev S1x32x128x8 : Shape := ⟨4, ![1, 32, 128, 8]⟩
abbrev S1x4096x8 : Shape := ⟨3, ![1, 4096, 8]⟩
abbrev S4096x1x8 : Shape := ⟨3, ![4096, 1, 8]⟩
abbrev S4096x8 : Shape := ⟨2, ![4096, 8]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S4x1x128x8x64 : Shape := ⟨5, ![4, 1, 128, 8, 64]⟩
abbrev S4x7x128x8x64 : Shape := ⟨5, ![4, 7, 128, 8, 64]⟩
abbrev S4x8x256x8x64 : Shape := ⟨5, ![4, 8, 256, 8, 64]⟩
abbrev S4x8x8x128x256 : Shape := ⟨5, ![4, 8, 8, 128, 256]⟩
abbrev S8x1 : Shape := ⟨2, ![8, 1]⟩
abbrev S8x128 : Shape := ⟨2, ![8, 128]⟩
abbrev S8x256 : Shape := ⟨2, ![8, 256]⟩
abbrev S8x128x1 : Shape := ⟨3, ![8, 128, 1]⟩
abbrev S8x1x256 : Shape := ⟨3, ![8, 1, 256]⟩
abbrev S8x128x256 : Shape := ⟨3, ![8, 128, 256]⟩
abbrev S8x1x128x256 : Shape := ⟨4, ![8, 1, 128, 256]⟩
abbrev S8x8x128x256 : Shape := ⟨4, ![8, 8, 128, 256]⟩
abbrev S1x8x8x128x256 : Shape := ⟨5, ![1, 8, 8, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4x1024x8 : Shape := ⟨3, ![4, 1024, 8]⟩
abbrev S1024x4x8 : Shape := ⟨3, ![1024, 4, 8]⟩
abbrev S256x16x8x64 : Shape := ⟨4, ![256, 16, 8, 64]⟩
abbrev S16x256x8x64 : Shape := ⟨4, ![16, 256, 8, 64]⟩
abbrev S16x2x128x8x64 : Shape := ⟨5, ![16, 2, 128, 8, 64]⟩
abbrev S16x1x128x8x64 : Shape := ⟨5, ![16, 1, 128, 8, 64]⟩
abbrev S16x2x256x8x64 : Shape := ⟨5, ![16, 2, 256, 8, 64]⟩
abbrev S16x2x8x128x256 : Shape := ⟨5, ![16, 2, 8, 128, 256]⟩
abbrev S2 : Shape := ⟨1, ![2]⟩
abbrev S2x1 : Shape := ⟨2, ![2, 1]⟩
abbrev S2x128 : Shape := ⟨2, ![2, 128]⟩
abbrev S2x256 : Shape := ⟨2, ![2, 256]⟩
abbrev S2x128x1 : Shape := ⟨3, ![2, 128, 1]⟩
abbrev S2x1x256 : Shape := ⟨3, ![2, 1, 256]⟩
abbrev S2x128x256 : Shape := ⟨3, ![2, 128, 256]⟩
abbrev S2x1x128x256 : Shape := ⟨4, ![2, 1, 128, 256]⟩
abbrev S2x8x128x256 : Shape := ⟨4, ![2, 8, 128, 256]⟩
abbrev S1x2x8x128x256 : Shape := ⟨5, ![1, 2, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x256x8 : Shape := ⟨3, ![16, 256, 8]⟩
abbrev S256x16x8 : Shape := ⟨3, ![256, 16, 8]⟩
abbrev S3x4096x8 : Shape := ⟨3, ![3, 4096, 8]⟩
abbrev S3x4096x8x1 : Shape := ⟨4, ![3, 4096, 8, 1]⟩
abbrev S3x4096x8x64 : Shape := ⟨4, ![3, 4096, 8, 64]⟩
abbrev S1x32x8x64x256 : Shape := ⟨5, ![1, 32, 8, 64, 256]⟩
abbrev S32x8x128 : Shape := ⟨3, ![32, 8, 128]⟩
abbrev S1x32x8x256x64 : Shape := ⟨5, ![1, 32, 8, 256, 64]⟩
abbrev S1x32x8x128x64 : Shape := ⟨5, ![1, 32, 8, 128, 64]⟩
abbrev S8x1x4096x64 : Shape := ⟨4, ![8, 1, 4096, 64]⟩
abbrev S8x4096x64 : Shape := ⟨3, ![8, 4096, 64]⟩

abbrev nBuf : Space → Nat
  | .hbm => 512
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096x1x8x64, .f32⟩
  | 18 => ⟨S1x4096x8x64, .f32⟩
  | 19 => ⟨S1x32x128x8x64, .f32⟩
  | 20 => ⟨S4096x1x8x64, .f32⟩
  | 21 => ⟨S1x4096x8x64, .f32⟩
  | 22 => ⟨S1x32x128x8x64, .f32⟩
  | 23 => ⟨S1x1x128x8x64, .f32⟩
  | 24 => ⟨S_, .f32⟩
  | 25 => ⟨S1x1x128x8x64, .f32⟩
  | 26 => ⟨S1x31x128x8x64, .f32⟩
  | 27 => ⟨S1x32x128x8x64, .f32⟩
  | 28 => ⟨S_, .f32⟩
  | 29 => ⟨S1x1x128x8x64, .f32⟩
  | 30 => ⟨S1x32x256x8x64, .f32⟩
  | 31 => ⟨S4096x1x8x64, .f32⟩
  | 32 => ⟨S1x4096x8x64, .f32⟩
  | 33 => ⟨S1x32x128x8x64, .f32⟩
  | 34 => ⟨S1x1x128x8x64, .f32⟩
  | 35 => ⟨S_, .f32⟩
  | 36 => ⟨S1x1x128x8x64, .f32⟩
  | 37 => ⟨S1x31x128x8x64, .f32⟩
  | 38 => ⟨S1x32x128x8x64, .f32⟩
  | 39 => ⟨S_, .f32⟩
  | 40 => ⟨S1x1x128x8x64, .f32⟩
  | 41 => ⟨S1x32x256x8x64, .f32⟩
  | 42 => ⟨S1x32x8x128x256, .f32⟩
  | 43 => ⟨S_, .f32⟩
  | 44 => ⟨S1x32x8x128x256, .f32⟩
  | 45 => ⟨S1x32x8x128x256, .f32⟩
  | 46 => ⟨S32, .i32⟩
  | 47 => ⟨S32x1, .i32⟩
  | 48 => ⟨S_, .i32⟩
  | 49 => ⟨S32x1, .i32⟩
  | 50 => ⟨S32x1, .i32⟩
  | 51 => ⟨S128, .i32⟩
  | 52 => ⟨S1x128, .i32⟩
  | 53 => ⟨S32x128, .i32⟩
  | 54 => ⟨S32x128, .i32⟩
  | 55 => ⟨S32x128, .i32⟩
  | 56 => ⟨S32, .i32⟩
  | 57 => ⟨S32x1, .i32⟩
  | 58 => ⟨S_, .i32⟩
  | 59 => ⟨S32x1, .i32⟩
  | 60 => ⟨S32x1, .i32⟩
  | 61 => ⟨S_, .i32⟩
  | 62 => ⟨S32x1, .i32⟩
  | 63 => ⟨S32x1, .i32⟩
  | 64 => ⟨S256, .i32⟩
  | 65 => ⟨S1x256, .i32⟩
  | 66 => ⟨S32x256, .i32⟩
  | 67 => ⟨S32x256, .i32⟩
  | 68 => ⟨S32x256, .i32⟩
  | 69 => ⟨S32x128x1, .i32⟩
  | 70 => ⟨S32x1x256, .i32⟩
  | 71 => ⟨S32x128x256, .i32⟩
  | 72 => ⟨S32x128x256, .i32⟩
  | 73 => ⟨S32x128x256, .i32⟩
  | 74 => ⟨S_, .i32⟩
  | 75 => ⟨S32x128x256, .i32⟩
  | 76 => ⟨S32x128x256, .i1⟩
  | 77 => ⟨S_, .i32⟩
  | 78 => ⟨S32x128x256, .i32⟩
  | 79 => ⟨S32x128x256, .i1⟩
  | 80 => ⟨S32x128x256, .i1⟩
  | 81 => ⟨S32x1x256, .i32⟩
  | 82 => ⟨S_, .i32⟩
  | 83 => ⟨S32x1x256, .i32⟩
  | 84 => ⟨S32x1x256, .i1⟩
  | 85 => ⟨S32x128x256, .i1⟩
  | 86 => ⟨S32x128x256, .i1⟩
  | 87 => ⟨S_, .i32⟩
  | 88 => ⟨S32x128x256, .i32⟩
  | 89 => ⟨S32x128x256, .i32⟩
  | 90 => ⟨S32x128x256, .f32⟩
  | 91 => ⟨S1x8x1x1, .f32⟩
  | 92 => ⟨S1x8x1x1, .f32⟩
  | 93 => ⟨S32x1x128x256, .f32⟩
  | 94 => ⟨S32x8x128x256, .f32⟩
  | 95 => ⟨S32x8x128x256, .f32⟩
  | 96 => ⟨S32x8x128x256, .f32⟩
  | 97 => ⟨S32x1x128x256, .i1⟩
  | 98 => ⟨S1x32x8x128x256, .f32⟩
  | 99 => ⟨S1x32x8x128x256, .f32⟩
  | 100 => ⟨S_, .f32⟩
  | 101 => ⟨S_, .f32⟩
  | 102 => ⟨S1x32x8x128x256, .i1⟩
  | 103 => ⟨S1x32x8x128x256, .f32⟩
  | 104 => ⟨S1x32x8x128x256, .f32⟩
  | 105 => ⟨S_, .f32⟩
  | 106 => ⟨S1x32x8x128x256, .f32⟩
  | 107 => ⟨S_, .f32⟩
  | 108 => ⟨S1x32x8x128, .f32⟩
  | 109 => ⟨S1x32x8x128x1, .f32⟩
  | 110 => ⟨S1x32x8x128x256, .f32⟩
  | 111 => ⟨S1x32x8x128x256, .i1⟩
  | 112 => ⟨S1x32x8x128x256, .f32⟩
  | 113 => ⟨S_, .f32⟩
  | 114 => ⟨S1x32x8x128, .f32⟩
  | 115 => ⟨S1x32x8x128x1, .f32⟩
  | 116 => ⟨S1x32x8x128x256, .f32⟩
  | 117 => ⟨S1x32x8x128x256, .f32⟩
  | 118 => ⟨S1x32x8x128x256, .f32⟩
  | 119 => ⟨S_, .f32⟩
  | 120 => ⟨S1x32x8x128, .f32⟩
  | 121 => ⟨S1x32x8x128, .f32⟩
  | 122 => ⟨S1x32x8x128, .f32⟩
  | 123 => ⟨S1x32x8x128x1, .f32⟩
  | 124 => ⟨S1x32x8x128x256, .f32⟩
  | 125 => ⟨S1x32x8x128x256, .f32⟩
  | 126 => ⟨S1x32x8x128x256, .f32⟩
  | 127 => ⟨S1x32x8x64x128, .f32⟩
  | _ => ⟨S4096x8x64, .f32⟩

abbrev hbmTy0_1 (i : Nat) : BufTy := match i % 128 with
  | 0 => ⟨S1x32x128x8x64, .f32⟩
  | 1 => ⟨S1x4096x8x64, .f32⟩
  | 2 => ⟨S4096x1x8x64, .f32⟩
  | 3 => ⟨S4096x8x64, .f32⟩
  | 4 => ⟨S1x32x128x8, .f32⟩
  | 5 => ⟨S1x4096x8, .f32⟩
  | 6 => ⟨S4096x1x8, .f32⟩
  | 7 => ⟨S4096x8, .f32⟩
  | 8 => ⟨S1024x4x8x64, .f32⟩
  | 9 => ⟨S4x1024x8x64, .f32⟩
  | 10 => ⟨S4x8x128x8x64, .f32⟩
  | 11 => ⟨S1024x4x8x64, .f32⟩
  | 12 => ⟨S4x1024x8x64, .f32⟩
  | 13 => ⟨S4x8x128x8x64, .f32⟩
  | 14 => ⟨S4x1x128x8x64, .f32⟩
  | 15 => ⟨S_, .f32⟩
  | 16 => ⟨S4x1x128x8x64, .f32⟩
  | 17 => ⟨S4x7x128x8x64, .f32⟩
  | 18 => ⟨S4x8x128x8x64, .f32⟩
  | 19 => ⟨S4x8x256x8x64, .f32⟩
  | 20 => ⟨S1024x4x8x64, .f32⟩
  | 21 => ⟨S4x1024x8x64, .f32⟩
  | 22 => ⟨S4x8x128x8x64, .f32⟩
  | 23 => ⟨S4x1x128x8x64, .f32⟩
  | 24 => ⟨S_, .f32⟩
  | 25 => ⟨S4x1x128x8x64, .f32⟩
  | 26 => ⟨S4x7x128x8x64, .f32⟩
  | 27 => ⟨S4x8x128x8x64, .f32⟩
  | 28 => ⟨S4x8x256x8x64, .f32⟩
  | 29 => ⟨S4x8x8x128x256, .f32⟩
  | 30 => ⟨S_, .f32⟩
  | 31 => ⟨S4x8x8x128x256, .f32⟩
  | 32 => ⟨S4x8x8x128x256, .f32⟩
  | 33 => ⟨S8, .i32⟩
  | 34 => ⟨S8x1, .i32⟩
  | 35 => ⟨S_, .i32⟩
  | 36 => ⟨S8x1, .i32⟩
  | 37 => ⟨S8x1, .i32⟩
  | 38 => ⟨S128, .i32⟩
  | 39 => ⟨S1x128, .i32⟩
  | 40 => ⟨S8x128, .i32⟩
  | 41 => ⟨S8x128, .i32⟩
  | 42 => ⟨S8x128, .i32⟩
  | 43 => ⟨S8, .i32⟩
  | 44 => ⟨S8x1, .i32⟩
  | 45 => ⟨S_, .i32⟩
  | 46 => ⟨S8x1, .i32⟩
  | 47 => ⟨S8x1, .i32⟩
  | 48 => ⟨S_, .i32⟩
  | 49 => ⟨S8x1, .i32⟩
  | 50 => ⟨S8x1, .i32⟩
  | 51 => ⟨S256, .i32⟩
  | 52 => ⟨S1x256, .i32⟩
  | 53 => ⟨S8x256, .i32⟩
  | 54 => ⟨S8x256, .i32⟩
  | 55 => ⟨S8x256, .i32⟩
  | 56 => ⟨S8x128x1, .i32⟩
  | 57 => ⟨S8x1x256, .i32⟩
  | 58 => ⟨S8x128x256, .i32⟩
  | 59 => ⟨S8x128x256, .i32⟩
  | 60 => ⟨S8x128x256, .i32⟩
  | 61 => ⟨S_, .i32⟩
  | 62 => ⟨S8x128x256, .i32⟩
  | 63 => ⟨S8x128x256, .i1⟩
  | 64 => ⟨S_, .i32⟩
  | 65 => ⟨S8x128x256, .i32⟩
  | 66 => ⟨S8x128x256, .i1⟩
  | 67 => ⟨S8x128x256, .i1⟩
  | 68 => ⟨S8x1x256, .i32⟩
  | 69 => ⟨S_, .i32⟩
  | 70 => ⟨S8x1x256, .i32⟩
  | 71 => ⟨S8x1x256, .i1⟩
  | 72 => ⟨S8x128x256, .i1⟩
  | 73 => ⟨S8x128x256, .i1⟩
  | 74 => ⟨S_, .i32⟩
  | 75 => ⟨S8x128x256, .i32⟩
  | 76 => ⟨S8x128x256, .i32⟩
  | 77 => ⟨S8x128x256, .f32⟩
  | 78 => ⟨S1x8x1x1, .f32⟩
  | 79 => ⟨S1x8x1x1, .f32⟩
  | 80 => ⟨S8x1x128x256, .f32⟩
  | 81 => ⟨S8x8x128x256, .f32⟩
  | 82 => ⟨S8x8x128x256, .f32⟩
  | 83 => ⟨S8x8x128x256, .f32⟩
  | 84 => ⟨S8x1x128x256, .i1⟩
  | 85 => ⟨S1x8x8x128x256, .f32⟩
  | 86 => ⟨S4x8x8x128x256, .f32⟩
  | 87 => ⟨S4x8x8x128x256, .f32⟩
  | 88 => ⟨S_, .f32⟩
  | 89 => ⟨S_, .f32⟩
  | 90 => ⟨S4x8x8x128x256, .i1⟩
  | 91 => ⟨S4x8x8x128x256, .f32⟩
  | 92 => ⟨S4x8x8x128x256, .f32⟩
  | 93 => ⟨S_, .f32⟩
  | 94 => ⟨S4x8x8x128, .f32⟩
  | 95 => ⟨S4x8x8x128x1, .f32⟩
  | 96 => ⟨S4x8x8x128x256, .f32⟩
  | 97 => ⟨S4x8x8x128x256, .f32⟩
  | 98 => ⟨S4x8x8x128x256, .f32⟩
  | 99 => ⟨S_, .f32⟩
  | 100 => ⟨S4x8x8x128, .f32⟩
  | 101 => ⟨S4x8x8x128, .f32⟩
  | 102 => ⟨S4x8x8x128, .f32⟩
  | 103 => ⟨S4x8x8x128x1, .f32⟩
  | 104 => ⟨S4x8x8x128x256, .f32⟩
  | 105 => ⟨S4x8x8x128x256, .f32⟩
  | 106 => ⟨S4x8x8x128x256, .f32⟩
  | 107 => ⟨S4x8x8x64x128, .f32⟩
  | 108 => ⟨S4x8x128x8x64, .f32⟩
  | 109 => ⟨S4x1024x8x64, .f32⟩
  | 110 => ⟨S1024x4x8x64, .f32⟩
  | 111 => ⟨S4096x8x64, .f32⟩
  | 112 => ⟨S4x8x128x8, .f32⟩
  | 113 => ⟨S4x1024x8, .f32⟩
  | 114 => ⟨S1024x4x8, .f32⟩
  | 115 => ⟨S4096x8, .f32⟩
  | 116 => ⟨S256x16x8x64, .f32⟩
  | 117 => ⟨S16x256x8x64, .f32⟩
  | 118 => ⟨S16x2x128x8x64, .f32⟩
  | 119 => ⟨S256x16x8x64, .f32⟩
  | 120 => ⟨S16x256x8x64, .f32⟩
  | 121 => ⟨S16x2x128x8x64, .f32⟩
  | 122 => ⟨S16x1x128x8x64, .f32⟩
  | 123 => ⟨S_, .f32⟩
  | 124 => ⟨S16x1x128x8x64, .f32⟩
  | 125 => ⟨S16x1x128x8x64, .f32⟩
  | 126 => ⟨S16x2x128x8x64, .f32⟩
  | 127 => ⟨S16x2x256x8x64, .f32⟩
  | _ => ⟨S4096x8x64, .f32⟩

abbrev hbmTy0_2 (i : Nat) : BufTy := match i % 128 with
  | 0 => ⟨S256x16x8x64, .f32⟩
  | 1 => ⟨S16x256x8x64, .f32⟩
  | 2 => ⟨S16x2x128x8x64, .f32⟩
  | 3 => ⟨S16x1x128x8x64, .f32⟩
  | 4 => ⟨S_, .f32⟩
  | 5 => ⟨S16x1x128x8x64, .f32⟩
  | 6 => ⟨S16x1x128x8x64, .f32⟩
  | 7 => ⟨S16x2x128x8x64, .f32⟩
  | 8 => ⟨S16x2x256x8x64, .f32⟩
  | 9 => ⟨S16x2x8x128x256, .f32⟩
  | 10 => ⟨S_, .f32⟩
  | 11 => ⟨S16x2x8x128x256, .f32⟩
  | 12 => ⟨S16x2x8x128x256, .f32⟩
  | 13 => ⟨S2, .i32⟩
  | 14 => ⟨S2x1, .i32⟩
  | 15 => ⟨S_, .i32⟩
  | 16 => ⟨S2x1, .i32⟩
  | 17 => ⟨S2x1, .i32⟩
  | 18 => ⟨S128, .i32⟩
  | 19 => ⟨S1x128, .i32⟩
  | 20 => ⟨S2x128, .i32⟩
  | 21 => ⟨S2x128, .i32⟩
  | 22 => ⟨S2x128, .i32⟩
  | 23 => ⟨S2, .i32⟩
  | 24 => ⟨S2x1, .i32⟩
  | 25 => ⟨S_, .i32⟩
  | 26 => ⟨S2x1, .i32⟩
  | 27 => ⟨S2x1, .i32⟩
  | 28 => ⟨S_, .i32⟩
  | 29 => ⟨S2x1, .i32⟩
  | 30 => ⟨S2x1, .i32⟩
  | 31 => ⟨S256, .i32⟩
  | 32 => ⟨S1x256, .i32⟩
  | 33 => ⟨S2x256, .i32⟩
  | 34 => ⟨S2x256, .i32⟩
  | 35 => ⟨S2x256, .i32⟩
  | 36 => ⟨S2x128x1, .i32⟩
  | 37 => ⟨S2x1x256, .i32⟩
  | 38 => ⟨S2x128x256, .i32⟩
  | 39 => ⟨S2x128x256, .i32⟩
  | 40 => ⟨S2x128x256, .i32⟩
  | 41 => ⟨S_, .i32⟩
  | 42 => ⟨S2x128x256, .i32⟩
  | 43 => ⟨S2x128x256, .i1⟩
  | 44 => ⟨S_, .i32⟩
  | 45 => ⟨S2x128x256, .i32⟩
  | 46 => ⟨S2x128x256, .i1⟩
  | 47 => ⟨S2x128x256, .i1⟩
  | 48 => ⟨S2x1x256, .i32⟩
  | 49 => ⟨S_, .i32⟩
  | 50 => ⟨S2x1x256, .i32⟩
  | 51 => ⟨S2x1x256, .i1⟩
  | 52 => ⟨S2x128x256, .i1⟩
  | 53 => ⟨S2x128x256, .i1⟩
  | 54 => ⟨S_, .i32⟩
  | 55 => ⟨S2x128x256, .i32⟩
  | 56 => ⟨S2x128x256, .i32⟩
  | 57 => ⟨S2x128x256, .f32⟩
  | 58 => ⟨S1x8x1x1, .f32⟩
  | 59 => ⟨S1x8x1x1, .f32⟩
  | 60 => ⟨S2x1x128x256, .f32⟩
  | 61 => ⟨S2x8x128x256, .f32⟩
  | 62 => ⟨S2x8x128x256, .f32⟩
  | 63 => ⟨S2x8x128x256, .f32⟩
  | 64 => ⟨S2x1x128x256, .i1⟩
  | 65 => ⟨S1x2x8x128x256, .f32⟩
  | 66 => ⟨S16x2x8x128x256, .f32⟩
  | 67 => ⟨S16x2x8x128x256, .f32⟩
  | 68 => ⟨S_, .f32⟩
  | 69 => ⟨S_, .f32⟩
  | 70 => ⟨S16x2x8x128x256, .i1⟩
  | 71 => ⟨S16x2x8x128x256, .f32⟩
  | 72 => ⟨S16x2x8x128x256, .f32⟩
  | 73 => ⟨S_, .f32⟩
  | 74 => ⟨S16x2x8x128, .f32⟩
  | 75 => ⟨S16x2x8x128x1, .f32⟩
  | 76 => ⟨S16x2x8x128x256, .f32⟩
  | 77 => ⟨S16x2x8x128x256, .f32⟩
  | 78 => ⟨S16x2x8x128x256, .f32⟩
  | 79 => ⟨S_, .f32⟩
  | 80 => ⟨S16x2x8x128, .f32⟩
  | 81 => ⟨S16x2x8x128, .f32⟩
  | 82 => ⟨S16x2x8x128, .f32⟩
  | 83 => ⟨S16x2x8x128x1, .f32⟩
  | 84 => ⟨S16x2x8x128x256, .f32⟩
  | 85 => ⟨S16x2x8x128x256, .f32⟩
  | 86 => ⟨S16x2x8x128x256, .f32⟩
  | 87 => ⟨S16x2x8x64x128, .f32⟩
  | 88 => ⟨S16x2x128x8x64, .f32⟩
  | 89 => ⟨S16x256x8x64, .f32⟩
  | 90 => ⟨S256x16x8x64, .f32⟩
  | 91 => ⟨S4096x8x64, .f32⟩
  | 92 => ⟨S16x2x128x8, .f32⟩
  | 93 => ⟨S16x256x8, .f32⟩
  | 94 => ⟨S256x16x8, .f32⟩
  | 95 => ⟨S4096x8, .f32⟩
  | 96 => ⟨S1x4096x8, .f32⟩
  | 97 => ⟨S1x4096x8, .f32⟩
  | 98 => ⟨S1x4096x8, .f32⟩
  | 99 => ⟨S3x4096x8, .f32⟩
  | 100 => ⟨S_, .f32⟩
  | 101 => ⟨S4096x8, .f32⟩
  | 102 => ⟨S_, .f32⟩
  | 103 => ⟨S4096x8, .f32⟩
  | 104 => ⟨S_, .f32⟩
  | 105 => ⟨S4096x8, .f32⟩
  | 106 => ⟨S1x4096x8, .f32⟩
  | 107 => ⟨S3x4096x8, .f32⟩
  | 108 => ⟨S3x4096x8, .i1⟩
  | 109 => ⟨S3x4096x8, .f32⟩
  | 110 => ⟨S_, .f32⟩
  | 111 => ⟨S4096x8, .f32⟩
  | 112 => ⟨S_, .f32⟩
  | 113 => ⟨S4096x8, .f32⟩
  | 114 => ⟨S4096x8, .f32⟩
  | 115 => ⟨S_, .f32⟩
  | 116 => ⟨S4096x8, .f32⟩
  | 117 => ⟨S4096x8, .i1⟩
  | 118 => ⟨S_, .f32⟩
  | 119 => ⟨S4096x8, .f32⟩
  | 120 => ⟨S4096x8, .i1⟩
  | 121 => ⟨S_, .f32⟩
  | 122 => ⟨S4096x8, .f32⟩
  | 123 => ⟨S_, .f32⟩
  | 124 => ⟨S4096x8, .f32⟩
  | 125 => ⟨S_, .f32⟩
  | 126 => ⟨S4096x8, .f32⟩
  | 127 => ⟨S4096x8, .f32⟩
  | _ => ⟨S4096x8x64, .f32⟩

abbrev hbmTy0_3 (i : Nat) : BufTy := match i % 128 with
  | 0 => ⟨S4096x8, .f32⟩
  | 1 => ⟨S1x4096x8, .f32⟩
  | 2 => ⟨S3x4096x8, .f32⟩
  | 3 => ⟨S3x4096x8, .f32⟩
  | 4 => ⟨S3x4096x8, .f32⟩
  | 5 => ⟨S_, .f32⟩
  | 6 => ⟨S4096x8, .f32⟩
  | 7 => ⟨S1x4096x8, .f32⟩
  | 8 => ⟨S3x4096x8, .f32⟩
  | 9 => ⟨S3x4096x8, .f32⟩
  | 10 => ⟨S1x4096x8, .f32⟩
  | 11 => ⟨S_, .f32⟩
  | 12 => ⟨S1x4096x8, .f32⟩
  | 13 => ⟨S1x4096x8, .f32⟩
  | 14 => ⟨S3x4096x8x1, .f32⟩
  | 15 => ⟨S1x4096x8x64, .f32⟩
  | 16 => ⟨S1x4096x8x64, .f32⟩
  | 17 => ⟨S1x4096x8x64, .f32⟩
  | 18 => ⟨S3x4096x8x64, .f32⟩
  | 19 => ⟨S_, .f32⟩
  | 20 => ⟨S4096x8x64, .f32⟩
  | 21 => ⟨S_, .f32⟩
  | 22 => ⟨S4096x8x64, .f32⟩
  | 23 => ⟨S3x4096x8x64, .f32⟩
  | 24 => ⟨S3x4096x8x64, .f32⟩
  | 25 => ⟨S_, .f32⟩
  | 26 => ⟨S4096x8x64, .f32⟩
  | 27 => ⟨S3x4096x8x64, .f32⟩
  | 28 => ⟨S3x4096x8x64, .f32⟩
  | 29 => ⟨S3x4096x8x64, .f32⟩
  | 30 => ⟨S3x4096x8x64, .f32⟩
  | 31 => ⟨S_, .f32⟩
  | 32 => ⟨S3x4096x8, .f32⟩
  | 33 => ⟨S3x4096x8x1, .f32⟩
  | 34 => ⟨S1x4096x8x64, .f32⟩
  | 35 => ⟨S4096x8x64, .f32⟩
  | 36 => ⟨S1x4096x8x64, .f32⟩
  | 37 => ⟨S4096x8x64, .f32⟩
  | 38 => ⟨S1x4096x8x64, .f32⟩
  | 39 => ⟨S4096x8x64, .f32⟩
  | 40 => ⟨S_, .f32⟩
  | 41 => ⟨S3x4096x8, .f32⟩
  | 42 => ⟨S3x4096x8, .f32⟩
  | 43 => ⟨S3x4096x8, .f32⟩
  | 44 => ⟨S3x4096x8, .f32⟩
  | 45 => ⟨S_, .f32⟩
  | 46 => ⟨S4096x8, .f32⟩
  | 47 => ⟨S1x4096x8, .f32⟩
  | 48 => ⟨S1x4096x8, .f32⟩
  | 49 => ⟨S3x4096x8, .f32⟩
  | 50 => ⟨S3x4096x8, .f32⟩
  | 51 => ⟨S_, .f32⟩
  | 52 => ⟨S4096x8, .f32⟩
  | 53 => ⟨S3x4096x8, .f32⟩
  | 54 => ⟨S3x4096x8, .f32⟩
  | 55 => ⟨S3x4096x8, .f32⟩
  | 56 => ⟨S1x4096x8, .f32⟩
  | 57 => ⟨S4096x8, .f32⟩
  | 58 => ⟨S1x4096x8, .f32⟩
  | 59 => ⟨S4096x8, .f32⟩
  | 60 => ⟨S1x4096x8, .f32⟩
  | 61 => ⟨S4096x8, .f32⟩
  | 62 => ⟨S4096x1x8, .f32⟩
  | 63 => ⟨S1x4096x8, .f32⟩
  | 64 => ⟨S1x32x128x8, .f32⟩
  | 65 => ⟨S1x32x8x128, .f32⟩
  | 66 => ⟨S4096x1x8x64, .f32⟩
  | 67 => ⟨S1x4096x8x64, .f32⟩
  | 68 => ⟨S1x32x128x8x64, .f32⟩
  | 69 => ⟨S1x32x8x64x128, .f32⟩
  | 70 => ⟨S1x32x8x128x256, .f32⟩
  | 71 => ⟨S1x32x8x64x256, .f32⟩
  | 72 => ⟨S1x32x256x8x64, .f32⟩
  | 73 => ⟨S1x32x8x128x256, .f32⟩
  | 74 => ⟨S1x32x8x128x256, .f32⟩
  | 75 => ⟨S_, .f32⟩
  | 76 => ⟨S1x32x8x128, .f32⟩
  | 77 => ⟨S1x32x8x128x1, .f32⟩
  | 78 => ⟨S_, .f32⟩
  | 79 => ⟨S32x8x128, .f32⟩
  | 80 => ⟨S1x32x8x128, .f32⟩
  | 81 => ⟨S1x32x8x128, .f32⟩
  | 82 => ⟨S1x32x8x128, .f32⟩
  | 83 => ⟨S1x32x8x128x256, .f32⟩
  | 84 => ⟨S1x32x8x128x256, .f32⟩
  | 85 => ⟨S1x32x8x128x256, .f32⟩
  | 86 => ⟨S_, .f32⟩
  | 87 => ⟨S1x32x8x128x256, .f32⟩
  | 88 => ⟨S1x32x8x128x256, .f32⟩
  | 89 => ⟨S_, .f32⟩
  | 90 => ⟨S1x32x8x128x256, .f32⟩
  | 91 => ⟨S1x32x8x128x256, .f32⟩
  | 92 => ⟨S1x32x8x256x64, .f32⟩
  | 93 => ⟨S1x32x256x8x64, .f32⟩
  | 94 => ⟨S1x32x8x128x64, .f32⟩
  | 95 => ⟨S1x32x128x8x64, .f32⟩
  | 96 => ⟨S1x32x128x8x64, .f32⟩
  | 97 => ⟨S1x32x128x8x64, .f32⟩
  | 98 => ⟨S1x1x128x8x64, .f32⟩
  | 99 => ⟨S1x31x128x8x64, .f32⟩
  | 100 => ⟨S_, .f32⟩
  | 101 => ⟨S1x32x128x8x64, .f32⟩
  | 102 => ⟨S1x32x128x8x64, .f32⟩
  | 103 => ⟨S1x4096x8x64, .f32⟩
  | 104 => ⟨S4096x1x8x64, .f32⟩
  | 105 => ⟨S4096x8x64, .f32⟩
  | 106 => ⟨S1x32x128x8x64, .f32⟩
  | 107 => ⟨S1x32x128x8x64, .f32⟩
  | 108 => ⟨S1x1x128x8x64, .f32⟩
  | 109 => ⟨S1x31x128x8x64, .f32⟩
  | 110 => ⟨S_, .f32⟩
  | 111 => ⟨S1x32x128x8x64, .f32⟩
  | 112 => ⟨S1x32x128x8x64, .f32⟩
  | 113 => ⟨S1x4096x8x64, .f32⟩
  | 114 => ⟨S4096x1x8x64, .f32⟩
  | 115 => ⟨S4096x8x64, .f32⟩
  | 116 => ⟨S1x4096x8x64, .f32⟩
  | 117 => ⟨S4096x1x8x64, .f32⟩
  | 118 => ⟨S4096x8x64, .f32⟩
  | 119 => ⟨S4096x1x8x64, .f32⟩
  | 120 => ⟨S8x1x4096x64, .f32⟩
  | 121 => ⟨S8x4096x64, .f32⟩
  | 122 => ⟨S4096x1x8x64, .f32⟩
  | 123 => ⟨S8x1x4096x64, .f32⟩
  | 124 => ⟨S8x4096x64, .f32⟩
  | 125 => ⟨S4096x1x8x64, .f32⟩
  | 126 => ⟨S8x1x4096x64, .f32⟩
  | 127 => ⟨S8x4096x64, .f32⟩
  | _ => ⟨S4096x8x64, .f32⟩

abbrev hbmTy (i : Nat) : BufTy := match i / 128 with
  | 0 => hbmTy0_0 i
  | 1 => hbmTy0_1 i
  | 2 => hbmTy0_2 i
  | 3 => hbmTy0_3 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_10 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_call0_v0 : Ref sig .tc := ⟨.hbm, 101, rfl⟩
abbrev main_v80_1 : Ref sig .tc := ⟨.hbm, 102, rfl⟩
abbrev main_call0_v2 : Ref sig .tc := ⟨.hbm, 103, rfl⟩
abbrev main_v80_0 : Ref sig .tc := ⟨.hbm, 104, rfl⟩
abbrev main_call0_cst : Ref sig .tc := ⟨.hbm, 105, rfl⟩
abbrev main_v80_2 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_18 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_20 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_c_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_22 : Ref sig .tc := ⟨.hbm, 173, rfl⟩
abbrev main_v140 : Ref sig .tc := ⟨.hbm, 174, rfl⟩
abbrev main_v141 : Ref sig .tc := ⟨.hbm, 175, rfl⟩
abbrev main_c_23 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_c_24 : Ref sig .tc := ⟨.hbm, 189, rfl⟩
abbrev main_v154 : Ref sig .tc := ⟨.hbm, 190, rfl⟩
abbrev main_v155 : Ref sig .tc := ⟨.hbm, 191, rfl⟩
abbrev main_c_25 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_c_26 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_c_27 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_28 : Ref sig .tc := ⟨.hbm, 216, rfl⟩
abbrev main_call1_v0 : Ref sig .tc := ⟨.hbm, 217, rfl⟩
abbrev main_call1_v1 : Ref sig .tc := ⟨.hbm, 218, rfl⟩
abbrev main_call1_v2 : Ref sig .tc := ⟨.hbm, 219, rfl⟩
abbrev main_v177 : Ref sig .tc := ⟨.hbm, 220, rfl⟩
abbrev main_cst_29 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_30 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_cst_31 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_cst_32 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_cst_33 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_c_34 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_c_35 : Ref sig .tc := ⟨.hbm, 281, rfl⟩
abbrev main_v232 : Ref sig .tc := ⟨.hbm, 282, rfl⟩
abbrev main_v233 : Ref sig .tc := ⟨.hbm, 283, rfl⟩
abbrev main_c_36 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_c_37 : Ref sig .tc := ⟨.hbm, 297, rfl⟩
abbrev main_v246 : Ref sig .tc := ⟨.hbm, 298, rfl⟩
abbrev main_v247 : Ref sig .tc := ⟨.hbm, 299, rfl⟩
abbrev main_c_38 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_c_39 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_c_40 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_cst_41 : Ref sig .tc := ⟨.hbm, 324, rfl⟩
abbrev main_call2_v0 : Ref sig .tc := ⟨.hbm, 325, rfl⟩
abbrev main_call2_v1 : Ref sig .tc := ⟨.hbm, 326, rfl⟩
abbrev main_call2_v2 : Ref sig .tc := ⟨.hbm, 327, rfl⟩
abbrev main_v269 : Ref sig .tc := ⟨.hbm, 328, rfl⟩
abbrev main_cst_42 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_cst_43 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_cst_44 : Ref sig .tc := ⟨.hbm, 356, rfl⟩
abbrev main_v295 : Ref sig .tc := ⟨.hbm, 357, rfl⟩
abbrev main_cst_45 : Ref sig .tc := ⟨.hbm, 358, rfl⟩
abbrev main_v296 : Ref sig .tc := ⟨.hbm, 359, rfl⟩
abbrev main_cst_46 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_cst_47 : Ref sig .tc := ⟨.hbm, 366, rfl⟩
abbrev main_v302 : Ref sig .tc := ⟨.hbm, 367, rfl⟩
abbrev main_cst_48 : Ref sig .tc := ⟨.hbm, 368, rfl⟩
abbrev main_v303 : Ref sig .tc := ⟨.hbm, 369, rfl⟩
abbrev main_v304 : Ref sig .tc := ⟨.hbm, 370, rfl⟩
abbrev main_cst_49 : Ref sig .tc := ⟨.hbm, 371, rfl⟩
abbrev main_v305 : Ref sig .tc := ⟨.hbm, 372, rfl⟩
abbrev main_v306 : Ref sig .tc := ⟨.hbm, 373, rfl⟩
abbrev main_cst_50 : Ref sig .tc := ⟨.hbm, 374, rfl⟩
abbrev main_v307 : Ref sig .tc := ⟨.hbm, 375, rfl⟩
abbrev main_v308 : Ref sig .tc := ⟨.hbm, 376, rfl⟩
abbrev main_cst_51 : Ref sig .tc := ⟨.hbm, 377, rfl⟩
abbrev main_v309 : Ref sig .tc := ⟨.hbm, 378, rfl⟩
abbrev main_cst_52 : Ref sig .tc := ⟨.hbm, 379, rfl⟩
abbrev main_v310 : Ref sig .tc := ⟨.hbm, 380, rfl⟩
abbrev main_cst_53 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_cst_54 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_cst_55 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_cst_56 : Ref sig .tc := ⟨.hbm, 403, rfl⟩
abbrev main_v330 : Ref sig .tc := ⟨.hbm, 404, rfl⟩
abbrev main_cst_57 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_cst_58 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_cst_59 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_cst_60 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_cst_61 : Ref sig .tc := ⟨.hbm, 429, rfl⟩
abbrev main_v351 : Ref sig .tc := ⟨.hbm, 430, rfl⟩
abbrev main_v352 : Ref sig .tc := ⟨.hbm, 431, rfl⟩
abbrev main_v353 : Ref sig .tc := ⟨.hbm, 432, rfl⟩
abbrev main_v354 : Ref sig .tc := ⟨.hbm, 433, rfl⟩
abbrev main_v355 : Ref sig .tc := ⟨.hbm, 434, rfl⟩
abbrev main_cst_62 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_cst_63 : Ref sig .tc := ⟨.hbm, 459, rfl⟩
abbrev main_v379 : Ref sig .tc := ⟨.hbm, 460, rfl⟩
abbrev main_v380 : Ref sig .tc := ⟨.hbm, 461, rfl⟩
abbrev main_cst_64 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_v386 : Ref sig .tc := ⟨.hbm, 468, rfl⟩
abbrev main_v387 : Ref sig .tc := ⟨.hbm, 469, rfl⟩
abbrev main_call3_cst : Ref sig .tc := ⟨.hbm, 470, rfl⟩
abbrev main_call3_v0 : Ref sig .tc := ⟨.hbm, 471, rfl⟩
abbrev main_v388 : Ref sig .tc := ⟨.hbm, 472, rfl⟩
abbrev main_cst_65 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_cst_66 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_cst_67 : Ref sig .tc := ⟨.hbm, 494, rfl⟩
abbrev main_v408 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_v415 : Ref sig .tc := ⟨.hbm, 502, rfl⟩
abbrev main_v416 : Ref sig .tc := ⟨.hbm, 503, rfl⟩
abbrev main_v417 : Ref sig .tc := ⟨.hbm, 504, rfl⟩
abbrev main_v418 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_v422 : Ref sig .tc := ⟨.hbm, 509, rfl⟩
abbrev main_v423 : Ref sig .tc := ⟨.hbm, 510, rfl⟩
abbrev main_v424 : Ref sig .tc := ⟨.hbm, 511, rfl⟩

abbrev nD : Nat := 1
abbrev τ : Topo := Topo.v7x

variable {F : FTy → Type} [FloatOps F]
-- ==== Proof.Down.Block.lean ====
/-
  What one point of the grid leaves in the four output blocks: the words of `Payloads` at the point's six input blocks,
  the loss and the two weight gradients added to what the point before left (to zero at the first point).
-/
module

public import proofs.«01_k».proof.Proof.Gen.DownIdeal.Value

@[expose] public section

noncomputable section

namespace Cert.DownIdeal.Block

open Cert.DownIdeal Cert.DownIdeal.Gen Idealize.ShloMosaic Idealize.ShloMosaic.TcCoe Idealize.SL.Sem
open Idealize.ShloMosaic.Pipeline (Dat)

variable {F : FTy → Type} [FloatOps F]

section
variable (x0 : Vec F S512x2816 .bf16) (x1 : Vec F S2816x1024 .bf16) (x2 : Vec F S512x1024 .f32) (x3 x4 : Vec F S1x1024 .f32)
  (x5 : Vec F S512x1024 .f32)

/-- The output of the norm. -/
abbrev y : Vec F S512x1024 .f32 := k0_pay9 x3 x2 x0 x1 x4

/-- The gradient of the rows before the norm. -/
abbrev dz : Vec F S512x1024 .f32 :=
  k0_pay1 (k0_pay7 x2 x0 x1) (k0_pay8 x2 x0 x1) (k0_pay15 (k0_pay5 x3) (y x0 x1 x2 x3 x4) x5)
    (k0_pay16 (k0_pay5 x3) (y x0 x1 x2 x3 x4) x5) k0_pay17

/-- The loss, added to `o`. -/
abbrev loss (o : Vec F S1x128 .f32) : Vec F S1x128 .f32 := k0_pay11 (y x0 x1 x2 x3 x4) x5 o

/-- The gradient of the norm's scale, added to `o`. -/
abbrev dg (o : Vec F S1x1024 .f32) : Vec F S1x1024 .f32 := k0_pay13 (k0_pay8 x2 x0 x1) (y x0 x1 x2 x3 x4) x5 o

/-- The gradient of the norm's shift, added to `o`. -/
abbrev db (o : Vec F S1x1024 .f32) : Vec F S1x1024 .f32 := k0_pay14 (y x0 x1 x2 x3 x4) x5 o

end

theorem hz : (![0, 0] : Fin 2 → Nat) = fun _ => 0 := funext fun a => by fin_cases a <;> rfl

variable (m : (ℓ : Loc nD τ sig) → Buf (Elt F) ℓ)

/-- The first point: the sums start from zero. -/
theorem outs_A (c : Dev nD) (t : Fin cfg0.N) (h0 : t.val % 8 = 0) : outsAt0 m c t.val t.isLt
    = (dz (iblk m c 0 t) (iblk m c 1 t) (iblk m c 2 t) (iblk m c 3 t) (iblk m c 4 t) (iblk m c 5 t),
      loss (iblk m c 0 t) (iblk m c 1 t) (iblk m c 2 t) (iblk m c 3 t) (iblk m c 4 t) (iblk m c 5 t) k0_pay2,
      dg (iblk m c 0 t) (iblk m c 1 t) (iblk m c 2 t) (iblk m c 3 t) (iblk m c 4 t) (iblk m c 5 t) k0_pay3,
      db (iblk m c 0 t) (iblk m c 1 t) (iblk m c 2 t) (iblk m c 3 t) (iblk m c 4 t) (iblk m c 5 t) k0_pay4) := by
  rw [outsAt0_A m c t h0]
  refine Prod.ext ?_ (Prod.ext ?_ (Prod.ext ?_ ?_))
  all_goals
    dsimp only
    first
      | unfold out0_A_6; rw [View.read_writes_eq_canon _ _ _ fun q => cover0_A_6 (y := q) ..]
      | unfold out0_A_7; rw [View.read_writes_eq_canon _ _ _ fun q => cover0_A_7 (y := q) ..]
      | unfold out0_A_8; rw [View.read_writes_eq_canon _ _ _ fun q => cover0_A_8 (y := q) ..]
      | unfold out0_A_9; rw [View.read_writes_eq_canon _ _ _ fun q => cover0_A_9 (y := q) ..]
    unfold kernelRun0_A
    dsimp only
    sl_unfold_words
    first
      | rw [View.canon_unit_zero hz]
      | rw [View.canon_cons_unit_zero (S := S1x128) hz, View.readCov_unit_zero (S := S1x128) _ hz]
      | rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread,
      (hs0_4 t).read_unread, (hs0_5 t).read_unread, (hs0_7 t).read_unread, (hs0_8 t).read_unread, (hs0_9 t).read_unread,
      View.ld_unit_zero (S := S512x2816) hz, View.ld_unit_zero (S := S2816x1024) hz, View.ld_unit_zero (S := S512x1024) hz,
      View.ld_unit_zero (S := S1x1024) hz, View.ld_unit_zero (S := S1x128) hz, shapeCast_self]

/-- Every later point: the sums go on. -/
theorem outs_B (c : Dev nD) (t : Fin cfg0.N) (h0 : ¬t.val % 8 = 0) : outsAt0 m c t.val t.isLt
    = (dz (iblk m c 0 t) (iblk m c 1 t) (iblk m c 2 t) (iblk m c 3 t) (iblk m c 4 t) (iblk m c 5 t),
      loss (iblk m c 0 t) (iblk m c 1 t) (iblk m c 2 t) (iblk m c 3 t) (iblk m c 4 t) (iblk m c 5 t) (outsAt0 m c (t.val - 1) (by omega)).2.1,
      dg (iblk m c 0 t) (iblk m c 1 t) (iblk m c 2 t) (iblk m c 3 t) (iblk m c 4 t) (iblk m c 5 t) (outsAt0 m c (t.val - 1) (by omega)).2.2.1,
      db (iblk m c 0 t) (iblk m c 1 t) (iblk m c 2 t) (iblk m c 3 t) (iblk m c 4 t) (iblk m c 5 t) (outsAt0 m c (t.val - 1) (by omega)).2.2.2) := by
  rw [outsAt0_B m c t h0]
  refine Prod.ext ?_ (Prod.ext ?_ (Prod.ext ?_ ?_))
  all_goals
    dsimp only
    first
      | unfold out0_B_6; rw [View.read_writes_eq_canon _ _ _ fun q => cover0_B_6 (y := q) ..]
      | unfold out0_B_7; rw [View.read_writes_eq_canon _ _ _ fun q => cover0_B_7 (y := q) ..]
      | unfold out0_B_8; rw [View.read_writes_eq_canon _ _ _ fun q => cover0_B_8 (y := q) ..]
      | unfold out0_B_9; rw [View.read_writes_eq_canon _ _ _ fun q => cover0_B_9 (y := q) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_7 t).read_unread, (hs0_8 t).read_unread, (hs0_9 t).read_unread,
      View.ld_unit_zero (S := S512x2816) hz, View.ld_unit_zero (S := S2816x1024) hz, View.ld_unit_zero (S := S512x1024) hz,
      View.ld_unit_zero (S := S1x1024) hz, View.ld_unit_zero (S := S1x128) hz, shapeCast_self]

end Cert.DownIdeal.Block

end
-- ==== Proof.Base.Reals.lean ====
/-
  Real numbers inside the extended reals: the ideal operations at finite operands, and finiteness read off a
  precondition that says `|x| < ∞` of every entry.
-/
module

public import Idealize.ShloMosaic.Lib.ValueIdx
public import Idealize.ShloMosaic.Lib.ReduceAll
public import Idealize.ShloMosaic.Lib.Pipeline.Value
public import Idealize.ShloMosaic.PureOps.Ideal.Laws

@[expose] public section

noncomputable section

namespace Cert.Reals

open Idealize.ShloMosaic

/-- A finite sum of reals, taken among the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division of two reals, the divisor not zero. -/
theorem div_coe {x y : ℝ} (h : y ≠ 0) : Ideal.div (x : EReal) (y : EReal) = ((x / y : ℝ) : EReal) := by
  rw [Ideal.div_coe h, ← EReal.coe_mul, mul_one_div]

/-- A sum of products of reals. -/
theorem sum_mulf {ι : Type*} [Fintype ι] {φ : FTy} (f g : ι → ℝ) :
    ∑ i, (FloatOps.mulf (F := Ideal) (φ := φ) ((f i : ℝ) : EReal) ((g i : ℝ) : EReal) : EReal) = ((∑ i, f i * g i : ℝ) : EReal) :=
  (Finset.sum_congr rfl fun _ _ => (EReal.coe_mul _ _).symm).trans (sum_coe _ _)

/-- The inverse square root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The logarithm of a positive real. -/
theorem log_coe {x : ℝ} (h : 0 < x) : Ideal.log (x : EReal) = ((Real.log x : ℝ) : EReal) := by
  rw [Ideal.log_coe, if_neg (not_le.mpr h)]

/-- The real entries of an array. -/
def re {s : Shape} {φ : FTy} (x : FVec Ideal s φ) (i : s.Idx) : ℝ := EReal.toReal (x i)

/-- An extended real strictly below `∞` in absolute value is a real. -/
theorem coe_toReal_of_lt {x : EReal} (h : max x (-x) < ⊤) : ((x.toReal : ℝ) : EReal) = x := by
  refine EReal.coe_toReal ?_ ?_
  · rintro rfl; simp at h
  · rintro rfl; simp at h

/-- The word of `+∞`. -/
theorem ofBits_inf : Ideal.ofBits .f32 0x7F800000#32 = ⊤ := by simp [Ideal.ofBits, Ideal.ieee]

/-- A true `|x| < ∞` says that `x` is its own real part. -/
theorem coe_toReal_of_cmp {x : EReal}
    (h : Ideal.cmp .olt (max x (-x)) (Ideal.ofBits .f32 0x7F800000#32) = 1#1) : ((x.toReal : ℝ) : EReal) = x := by
  refine coe_toReal_of_lt ?_
  rw [ofBits_inf] at h
  by_contra hn
  simp [Ideal.cmp, hn] at h

/-- The conjunct of a precondition that says every entry of one array is finite, read at an entry. -/
theorem coe_re {s t u z : Shape} {axes : List (Fin s.rank)} [Subsingleton t.Idx] (x : FVec Ideal s .f32)
    (dims : Fin z.rank → Fin s.rank) (hb : z.BroadcastsInDim s dims) (init : IVec u 1) (hr : s.ReducesTo axes t)
    (hu : 0 < u.numel) (j : t.Idx)
    (h : Host.reduce IntOp.andi (cmpf .olt (Host.absf x) (broadcastInDim s dims hb (constant z .f32 0x7F800000#32)))
      init hr hu j = 1#1) (i : s.Idx) : ((re x i : ℝ) : EReal) = x i :=
  coe_toReal_of_cmp (Host.reduce_andi_all _ _ hr hu j h i)

/-- A true conjunction of two flags has both true. -/
theorem andi_split {s : Shape} {a b : IVec s 1} {i : s.Idx} (h : andi a b i = 1#1) : a i = 1#1 ∧ b i = 1#1 := by
  have h' : IntOp.andi (a i) (b i) = 1#1 := h
  generalize a i = p at h' ⊢
  generalize b i = q at h' ⊢
  revert p q
  decide

end Cert.Reals

end
-- ==== Proof.Base.At.lean ====
/-
  Layout operations, sums and matrix products of rank-two arrays, read at an index.
-/
module

public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.At

open Idealize.ShloMosaic ValueIdx

variable {α : Type} {m n k : ℕ}

/-- A column copied over `n` columns. -/
theorem col (v : (⟨2, ![m, 1]⟩ : Shape).Idx → α) (h : Shape.Broadcasts ⟨2, ![m, 1]⟩ ⟨2, ![m, n]⟩)
    (p : Fin m) (q : Fin n) : broadcastTo ⟨2, ![m, n]⟩ v h (ix2 p q) = v (ix2 p 0) := by
  refine broadcastTo_apply v h _ _ fun a => ?_
  match a with
  | ⟨0, _⟩ =>
    show p.val = if m = 1 then 0 else p.val
    have := p.isLt
    split <;> omega
  | ⟨1, _⟩ => rfl

/-- A row copied over `m` rows. -/
theorem row (v : (⟨2, ![1, n]⟩ : Shape).Idx → α) (h : Shape.Broadcasts ⟨2, ![1, n]⟩ ⟨2, ![m, n]⟩)
    (p : Fin m) (q : Fin n) : broadcastTo ⟨2, ![m, n]⟩ v h (ix2 p q) = v (ix2 0 q) := by
  refine broadcastTo_apply v h _ _ fun a => ?_
  match a with
  | ⟨0, _⟩ => rfl
  | ⟨1, _⟩ =>
    show q.val = if n = 1 then 0 else q.val
    have := q.isLt
    split <;> omega

/-- A vector stood up as a column. -/
theorem toCol (v : (⟨1, ![m]⟩ : Shape).Idx → α) (h : Shape.ShapeCasts ⟨1, ![m]⟩ ⟨2, ![m, 1]⟩)
    (p : Fin m) (q : Fin 1) : shapeCast ⟨2, ![m, 1]⟩ v h (ix2 p q) = v (ix1 p) := by
  refine shapeCast_apply v h _ _ ?_
  rw [Shape.rowMajor_val_one, Shape.rowMajor_val_two]
  show p.val = p.val * 1 + q.val
  omega

/-- A vector laid down as a row. -/
theorem toRow (v : (⟨1, ![n]⟩ : Shape).Idx → α) (h : Shape.ShapeCasts ⟨1, ![n]⟩ ⟨2, ![1, n]⟩)
    (p : Fin 1) (q : Fin n) : shapeCast ⟨2, ![1, n]⟩ v h (ix2 p q) = v (ix1 q) := by
  refine shapeCast_apply v h _ _ ?_
  rw [Shape.rowMajor_val_one, Shape.rowMajor_val_two]
  show q.val = p.val * n + q.val
  have h0 : p.val = 0 := by omega
  rw [h0]; omega

/-- The word every sum starts from. -/
abbrev Zero : Prop := @Eq (BitVec FTy.f32.bits) 0x00000000#32 0x00000000#32

/-- The sums of the rows. -/
theorem sumRow (x : FVec Ideal ⟨2, ![m, n]⟩ .f32) (h : Shape.Reduces ⟨2, ![m, n]⟩ [1] ⟨1, ![m]⟩)
    (hφ : FKind.Formats .f32) (ha : Zero) (p : Fin m) :
    multiReduction .add [1] ⟨1, ![m]⟩ x 0x00000000#32 h hφ ha (ix1 p) = ∑ q : Fin n, x (ix2 p q) := by
  refine (Ideal.multiReduction_add_single x 0x00000000#32 h (.inl rfl) rfl _).trans ?_
  refine Finset.sum_congr rfl fun q _ => congrArg x (funext fun a => Fin.ext ?_)
  match a with
  | ⟨0, _⟩ => rfl
  | ⟨1, _⟩ => rfl

/-- The sums of the columns. -/
theorem sumCol (x : FVec Ideal ⟨2, ![m, n]⟩ .f32) (h : Shape.Reduces ⟨2, ![m, n]⟩ [0] ⟨1, ![n]⟩)
    (hφ : FKind.Formats .f32) (ha : Zero) (q : Fin n) :
    multiReduction .add [0] ⟨1, ![n]⟩ x 0x00000000#32 h hφ ha (ix1 q) = ∑ p : Fin m, x (ix2 p q) := by
  refine (Ideal.multiReduction_add_single x 0x00000000#32 h (.inl rfl) rfl _).trans ?_
  refine Finset.sum_congr rfl fun q _ => congrArg x (funext fun a => Fin.ext ?_)
  match a with
  | ⟨0, _⟩ => rfl
  | ⟨1, _⟩ => rfl

/-- The sum of a column seen as a block of one page. -/
theorem sumPage (x : FVec Ideal ⟨2, ![m, 1]⟩ .f32)
    (hc : Shape.ShapeCasts ⟨2, ![m, 1]⟩ ⟨3, ![1, m, 1]⟩) (h : Shape.Reduces ⟨3, ![1, m, 1]⟩ [1, 2] ⟨1, ![1]⟩)
    (hφ : FKind.Formats .f32) (ha : Zero) (i : (⟨1, ![1]⟩ : Shape).Idx) :
    multiReduction .add [1, 2] ⟨1, ![1]⟩ (shapeCast ⟨3, ![1, m, 1]⟩ x hc) 0x00000000#32 h hφ ha i = ∑ q : Fin m, x (ix2 q 0) := by
  refine (Ideal.multiReduction_add_total (shapeCast ⟨3, ![1, m, 1]⟩ x hc) 0x00000000#32 h
    (fun b => by match b with | ⟨0, _⟩ => rfl) (.inl rfl) rfl i).trans ?_
  let e : (⟨3, ![1, m, 1]⟩ : Shape).Idx ≃ Fin m :=
    { toFun := fun j => j 1
      invFun := fun q => ix3 0 q 0
      left_inv := fun j => by
        have h0 : (j 0).val < 1 := (j 0).isLt
        have h2 : (j 2).val < 1 := (j 2).isLt
        funext a
        match a with
        | ⟨0, _⟩ => exact Fin.ext (by show 0 = (j 0).val; omega)
        | ⟨1, _⟩ => rfl
        | ⟨2, _⟩ => exact Fin.ext (by show 0 = (j 2).val; omega)
      right_inv := fun q => rfl }
  refine Fintype.sum_equiv e _ _ fun j => shapeCast_apply x hc j _ ?_
  rw [Shape.rowMajor_val_two, Shape.rowMajor_val_three]
  have h0 : (j 0).val < 1 := (j 0).isLt
  have h2 : (j 2).val < 1 := (j 2).isLt
  show (j 1).val * 1 + 0 = ((j 0).val * m + (j 1).val) * 1 + (j 2).val
  rw [show (j 0).val = 0 by omega, show (j 2).val = 0 by omega]
  omega

/-- A block times a block. -/
theorem mm {φ₁ φ₂ : FTy} {d : DotDims ⟨2, ![m, k]⟩ ⟨2, ![k, n]⟩ ⟨2, ![m, n]⟩} (hd : d = DotDims.plain m k n)
    (prec : Option ContractPrecision) (l : FVec Ideal ⟨2, ![m, k]⟩ φ₁) (r : FVec Ideal ⟨2, ![k, n]⟩ φ₂)
    (p : Fin m) (q : Fin n) :
    matmul d prec l r (constant ⟨2, ![m, n]⟩ .f32 0x00000000#32) (ix2 p q) = ∑ j : Fin k, l (ix2 p j) * r (ix2 j q) := by
  subst hd
  refine (Ideal.matmul_plain_apply prec l r _ _ _).trans ?_
  rw [show constant (F := Ideal) ⟨2, ![m, n]⟩ .f32 0x00000000#32 (ix2 p q) = 0 from Ideal.ofBits_zero_f32, zero_add]

end Cert.At

end
-- ==== Proof.Base.Words.lean ====
/-
  The float literals of the programs, as the rationals their words are.
-/
module

public import Idealize.ShloMosaic.PureOps.Ideal.Laws
public import Mathlib.Tactic.NormNum

@[expose] public section

noncomputable section

namespace Cert.Words

open Idealize.ShloMosaic

/-- The shift the layer norm adds to a variance. -/
def lnEps : ℝ := 10995116 / 2 ^ 40

/-- The weight of the residual. -/
def dnAlpha : ℝ := 9975792 / 2 ^ 23

theorem lnEps_pos : 0 < lnEps := by unfold lnEps; norm_num

theorem w_lnEps : Ideal.ofBits .f32 0x3727C5AC#32 = ((lnEps : ℝ) : EReal) := by
  simp [Ideal.ofBits, Ideal.ieee, lnEps, -EReal.coe_mul]
  norm_num

theorem w_dnAlpha : Ideal.ofBits .f32 0x3F9837F0#32 = ((dnAlpha : ℝ) : EReal) := by
  simp [Ideal.ofBits, Ideal.ieee, dnAlpha, -EReal.coe_mul]
  norm_num

theorem w_1024 : Ideal.ofBits .f32 0x44800000#32 = ((1024 : ℝ) : EReal) := by
  simp [Ideal.ofBits, Ideal.ieee, -EReal.coe_mul]
  norm_num

theorem w_half : Ideal.ofBits .f32 0x3F000000#32 = ((1 / 2 : ℝ) : EReal) := by
  simp [Ideal.ofBits, Ideal.ieee, -EReal.coe_mul]
  norm_num

theorem w_neg_half : Ideal.ofBits .f32 0xBF000000#32 = ((-(1 / 2) : ℝ) : EReal) := by
  simp [Ideal.ofBits, Ideal.ieee, -EReal.coe_mul]
  norm_num

theorem w_one : Ideal.ofBits .f32 0x3F800000#32 = ((1 : ℝ) : EReal) := by
  simp [Ideal.ofBits, Ideal.ieee, -EReal.coe_mul]
  norm_num

theorem w_two : Ideal.ofBits .f32 0x40000000#32 = ((2 : ℝ) : EReal) := by
  simp [Ideal.ofBits, Ideal.ieee, -EReal.coe_mul]
  norm_num

theorem w_inv1024 : Ideal.ofBits .f32 0x3A800000#32 = ((1 / 1024 : ℝ) : EReal) := by
  simp [Ideal.ofBits, Ideal.ieee, -EReal.coe_mul]
  norm_num

end Cert.Words

end
-- ==== Proof.Base.LayerNorm.lean ====
/-
  The layer norm of one row of real numbers and the gradient that flows back through it.
-/
module

public import Idealize.ShloMosaic.PureOps.Ideal.Laws

@[expose] public section

noncomputable section

namespace Cert.LayerNorm

variable {n : ℕ}

/-- The mean of a row. -/
def mean (z : Fin n → ℝ) : ℝ := (∑ k, z k) / n

/-- The row less its mean. -/
def cen (z : Fin n → ℝ) (k : Fin n) : ℝ := z k - mean z

/-- The variance of the row, shifted by `ε`. -/
def var (ε : ℝ) (z : Fin n → ℝ) : ℝ := (∑ k, cen z k * cen z k) / n + ε

/-- The inverse deviation. -/
def rs (ε : ℝ) (z : Fin n → ℝ) : ℝ := (Real.sqrt (var ε z))⁻¹

/-- The normalised row. -/
def xh (ε : ℝ) (z : Fin n → ℝ) (k : Fin n) : ℝ := cen z k * rs ε z

/-- The gradient of the row, from the gradient `u` of the normalised row, in the closed form with two means. -/
def bwd (ε : ℝ) (z u : Fin n → ℝ) (k : Fin n) : ℝ :=
  rs ε z * (u k - mean u - xh ε z k * mean fun q => u q * xh ε z q)

/-- What the gradient of the inverse deviation sends to each squared entry. -/
def toSquare (ε : ℝ) (z u : Fin n → ℝ) : ℝ :=
  (∑ q, cen z q * u q) * (-(1 / 2) * (rs ε z / var ε z)) / n

theorem var_pos {ε : ℝ} (hε : 0 < ε) (z : Fin n → ℝ) : 0 < var ε z :=
  add_pos_of_nonneg_of_pos (div_nonneg (Finset.sum_nonneg fun k _ => mul_self_nonneg _) (Nat.cast_nonneg n)) hε

theorem sum_cen (hn : n ≠ 0) (z : Fin n → ℝ) : ∑ k, cen z k = 0 := by
  have h : (n : ℝ) ≠ 0 := Nat.cast_ne_zero.mpr hn
  simp only [cen, Finset.sum_sub_distrib, Finset.sum_const, Finset.card_univ, Fintype.card_fin, nsmul_eq_mul, mean]
  field_simp
  ring

/-- The gradient taken through the steps of the forward computation (the mean, the squares of the centred row, the
    inverse deviation) is the closed form. -/
theorem chain_eq_bwd {ε : ℝ} (hε : 0 < ε) (hn : n ≠ 0) (z u : Fin n → ℝ) (k : Fin n) :
    u k * rs ε z + toSquare ε z u * (2 * cen z k)
      + ((∑ q, -(u q * rs ε z)) + ∑ q, -(toSquare ε z u * (2 * cen z q))) / n = bwd ε z u k := by
  have h : (n : ℝ) ≠ 0 := Nat.cast_ne_zero.mpr hn
  have hv := var_pos hε z
  have h1 : ∑ q, -(toSquare ε z u * (2 * cen z q)) = 0 := by
    have : ∀ q, -(toSquare ε z u * (2 * cen z q)) = (-(toSquare ε z u) * 2) * cen z q := fun q => by ring
    simp only [this, ← Finset.mul_sum, sum_cen hn, mul_zero]
  have h2 : ∑ q, -(u q * rs ε z) = -((∑ q, u q) * rs ε z) := by
    rw [Finset.sum_neg_distrib, Finset.sum_mul]
  have h3 : rs ε z / var ε z = rs ε z * (rs ε z * rs ε z) := by
    have : rs ε z * rs ε z = (var ε z)⁻¹ := by
      unfold rs
      rw [← mul_inv, Real.mul_self_sqrt hv.le]
    rw [this, div_eq_mul_inv]
  have h4 : ∑ q, u q * xh ε z q = (∑ q, cen z q * u q) * rs ε z := by
    rw [Finset.sum_mul]
    exact Finset.sum_congr rfl fun q _ => by unfold xh; ring
  rw [h1, h2]
  unfold bwd toSquare mean
  rw [h3, h4]
  unfold xh
  field_simp
  ring

end Cert.LayerNorm

end
-- ==== Proof.Down.Payloads.lean ====
/-
  The arithmetic of the kernel that closes the feed-forward (down projection, second layer norm, loss and the
  gradient of both) on one block of 512 rows, over the reals: what each stored word is, entry by entry, when the
  block's rows before the norm are the reals `Z`, the norm's weights `G` and `B`, and the target `T`.
-/
module

public import proofs.«01_k».proof.Proof.Base.Reals
public import proofs.«01_k».proof.Proof.Base.At
public import proofs.«01_k».proof.Proof.Base.Words
public import proofs.«01_k».proof.Proof.Base.LayerNorm
public import proofs.«01_k».proof.Proof.Gen.DownIdeal.Skeleton

@[expose] public section

noncomputable section

namespace Cert.DownIdeal.Payloads

open Cert.DownIdeal Cert.DownIdeal.Gen Idealize.ShloMosaic ValueIdx Cert.LayerNorm Cert.Words Cert.Reals

variable {Z X Y T : Fin 512 → Fin 1024 → ℝ} {G B : Fin 1024 → ℝ} {R : Fin 512 → ℝ}

section Shapes

variable (x : FVec Ideal S512x1024 .f32) (hφ : FKind.Formats .f32) (ha : At.Zero)

theorem sumR (p : Fin 512) :
    multiReduction .add [1] S512 x 0x00000000#32 reduces_S512x1024_S512 hφ ha (ix1 p) = ∑ q, x (ix2 p q) :=
  At.sumRow x _ _ _ p

theorem sumC (q : Fin 1024) :
    multiReduction .add [0] S1024 x 0x00000000#32 reduces_S512x1024_S1024 hφ ha (ix1 q) = ∑ p, x (ix2 p q) :=
  At.sumCol x _ _ _ q

theorem sumP (x : FVec Ideal S512x1 .f32) (i : S1.Idx) :
    multiReduction .add [1, 2] S1 (shapeCast S1x512x1 x shapeCasts_S512x1_S1x512x1) 0x00000000#32 reduces_S1x512x1_S1 hφ ha i
      = ∑ p : Fin 512, x (ix2 p 0) :=
  At.sumPage x _ _ _ _ i

theorem prod (l : FVec Ideal S512x2816 .bf16) (r : FVec Ideal S2816x1024 .bf16) (p : Fin 512) (q : Fin 1024) :
    matmul dot_S512x2816_S2816x1024_S512x1024_1_0_0_1_n_n none l r (constant S512x1024 .f32 0x00000000#32) (ix2 p q)
      = ∑ j : Fin 2816, l (ix2 p j) * r (ix2 j q) :=
  At.mm rfl ..

end Shapes

section Forward

variable {v5 : Vec Ideal S512x1024 .f32} {v8 : Vec Ideal S512x2816 .bf16} {v10 : Vec Ideal S2816x1024 .bf16}
variable (hz : ∀ p k, ((dnAlpha : ℝ) : EReal) * v5 (ix2 p k) + ∑ q : Fin 2816, v8 (ix2 p q) * v10 (ix2 q k) = ((Z p k : ℝ) : EReal))
include hz

/-- The centred rows. -/
theorem pay6 (p : Fin 512) (k : Fin 1024) : k0_pay6 v5 v8 v10 (ix2 p k) = ((cen (Z p) k : ℝ) : EReal) := by
  unfold k0_pay6
  dsimp only
  simp only [subf_apply, At.col, divf_apply, At.toCol, broadcast_apply]
  rw [sumR]
  simp only [broadcast_apply, addf_apply, mulf_apply, prod,
    shapeCast_self, show (Scalar.ofBits .f32 0x3F9837F0#32 : Ideal .f32) = _ from w_dnAlpha, hz, sum_coe]
  rw [show (Scalar.ofBits .f32 0x44800000#32 : Ideal .f32) = _ from w_1024, div_coe (by norm_num), ← EReal.coe_sub]
  simp only [cen, mean, Nat.cast_ofNat]

/-- The inverse deviations. -/
theorem pay7 (p : Fin 512) : k0_pay7 v5 v8 v10 (ix2 p 0) = ((rs lnEps (Z p) : ℝ) : EReal) := by
  unfold k0_pay7
  dsimp only
  show Ideal.rsqrt _ = _
  simp only [addf_apply, divf_apply, At.toCol, broadcast_apply]
  rw [sumR]
  simp only [mulf_apply, pay6 hz, ← EReal.coe_mul, sum_coe]
  rw [show (Scalar.ofBits .f32 0x44800000#32 : Ideal .f32) = _ from w_1024, div_coe (by norm_num),
    show (Scalar.ofBits .f32 0x3727C5AC#32 : Ideal .f32) = _ from w_lnEps, ← EReal.coe_add]
  have := var_pos lnEps_pos (Z p)
  simp only [var, Nat.cast_ofNat] at this
  refine (rsqrt_coe this).trans ?_
  simp only [rs, var, Nat.cast_ofNat]

/-- The normalised rows. -/
theorem pay8 (p : Fin 512) (k : Fin 1024) : k0_pay8 v5 v8 v10 (ix2 p k) = ((xh lnEps (Z p) k : ℝ) : EReal) := by
  unfold k0_pay8
  rw [mulf_apply, At.col, pay6 hz, pay7 hz, ← EReal.coe_mul]
  rfl

/-- The norm's output. -/
theorem pay9 {v3 v14 : Vec Ideal S1x1024 .f32} (hG : ∀ k, v3 (ix2 0 k) = ((G k : ℝ) : EReal))
    (hB : ∀ k, v14 (ix2 0 k) = ((B k : ℝ) : EReal)) (p : Fin 512) (k : Fin 1024) :
    k0_pay9 v3 v5 v8 v10 v14 (ix2 p k) = ((xh lnEps (Z p) k * G k + B k : ℝ) : EReal) := by
  unfold k0_pay9 k0_pay5
  rw [addf_apply, mulf_apply, At.row, At.row, pay8 hz, shapeCast_self, shapeCast_self, hG, hB, ← EReal.coe_mul, ← EReal.coe_add]

end Forward

section Backward

variable {v35 v36 v31 : Vec Ideal S512x1024 .f32} {v4 : Vec Ideal S1x1024 .f32}
variable (hY : ∀ p k, v35 (ix2 p k) = ((Y p k : ℝ) : EReal)) (hT : ∀ p k, v36 (ix2 p k) = ((T p k : ℝ) : EReal))
include hY hT

/-- The error. -/
theorem pay10 (p : Fin 512) (k : Fin 1024) : k0_pay10 v35 v36 (ix2 p k) = ((Y p k - T p k : ℝ) : EReal) := by
  unfold k0_pay10
  rw [subf_apply, hY, hT, ← EReal.coe_sub]

/-- The block adds half the sum, over its rows, of the mean squared error. -/
theorem pay11 (v38 : Vec Ideal S1x128 .f32) (k : Fin 128) : k0_pay11 v35 v36 v38 (ix2 0 k)
    = v38 (ix2 0 k) + ((1 / 2 * ∑ p, (∑ k, (Y p k - T p k) * (Y p k - T p k)) / 1024 : ℝ) : EReal) := by
  unfold k0_pay11
  dsimp only
  rw [addf_apply, shapeCast_self, broadcast_apply]
  refine congrArg (v38 (ix2 0 k) + ·) ?_
  refine (congrArg (Scalar.mulf (F := Ideal) (φ := .f32) _) (sumP (.inl rfl) rfl _ _)).trans ?_
  simp only [divf_apply, At.toCol, broadcast_apply]
  rw [Finset.sum_congr rfl fun p _ => congrArg (Ideal.div · _) (sumR _ _ _ p)]
  simp only [mulf_apply, pay10 hY hT, ← EReal.coe_mul, sum_coe]
  simp only [show (Scalar.ofBits .f32 0x44800000#32 : Ideal .f32) = _ from w_1024, div_coe (show (1024 : ℝ) ≠ 0 by norm_num), sum_coe]
  show (Scalar.ofBits .f32 0x3F000000#32 : Ideal .f32) * _ = _
  rw [show (Scalar.ofBits .f32 0x3F000000#32 : Ideal .f32) = _ from w_half, ← EReal.coe_mul]

/-- The gradient of the norm's output. -/
theorem pay12 (p : Fin 512) (k : Fin 1024) : k0_pay12 v35 v36 (ix2 p k) = (((Y p k - T p k) * (1 / 1024) : ℝ) : EReal) := by
  unfold k0_pay12
  rw [mulf_apply, pay10 hY hT, broadcast_apply, show (Scalar.ofBits .f32 0x3A800000#32 : Ideal .f32) = _ from w_inv1024, ← EReal.coe_mul]

/-- The block adds the gradient of the norm's scale. -/
theorem pay13 (hX : ∀ p k, v31 (ix2 p k) = ((X p k : ℝ) : EReal)) (v55 : Vec Ideal S1x1024 .f32) (k : Fin 1024) :
    k0_pay13 v31 v35 v36 v55 (ix2 0 k) = v55 (ix2 0 k) + ((∑ p, (Y p k - T p k) * (1 / 1024) * X p k : ℝ) : EReal) := by
  unfold k0_pay13
  dsimp only
  simp only [addf_apply, shapeCast_self, At.toRow]
  rw [sumC]
  simp only [mulf_apply, pay12 hY hT, hX, ← EReal.coe_mul, sum_coe]

/-- The block adds the gradient of the norm's shift. -/
theorem pay14 (v62 : Vec Ideal S1x1024 .f32) (k : Fin 1024) :
    k0_pay14 v35 v36 v62 (ix2 0 k) = v62 (ix2 0 k) + ((∑ p, (Y p k - T p k) * (1 / 1024) : ℝ) : EReal) := by
  unfold k0_pay14
  dsimp only
  simp only [addf_apply, shapeCast_self, At.toRow]
  rw [sumC]
  simp only [pay12 hY hT, sum_coe]

variable (hG : ∀ k, v4 (ix2 0 k) = ((G k : ℝ) : EReal))
include hG

/-- The gradient of the normalised rows. -/
theorem pay15 (p : Fin 512) (k : Fin 1024) :
    k0_pay15 v4 v35 v36 (ix2 p k) = (((Y p k - T p k) * (1 / 1024) * G k : ℝ) : EReal) := by
  unfold k0_pay15
  rw [mulf_apply, pay12 hY hT, At.row, hG, ← EReal.coe_mul]

/-- Its row sums. -/
theorem pay16 (p : Fin 512) :
    k0_pay16 v4 v35 v36 (ix2 p 0) = ((∑ k, (Y p k - T p k) * (1 / 1024) * G k : ℝ) : EReal) := by
  unfold k0_pay16
  dsimp only
  rw [At.toCol, sumR]
  simp only [pay15 hY hT hG, sum_coe]

end Backward

/-- The gradient of the rows before the norm. -/
theorem pay1 {U : Fin 512 → Fin 1024 → ℝ} {v29 v71 v72 : FVec Ideal S512x1 .f32} {v31 v69 : FVec Ideal S512x1024 .f32}
    (h29 : ∀ p, v29 (ix2 p 0) = ((rs lnEps (Z p) : ℝ) : EReal)) (h31 : ∀ p k, v31 (ix2 p k) = ((xh lnEps (Z p) k : ℝ) : EReal))
    (h69 : ∀ p k, v69 (ix2 p k) = ((U p k : ℝ) : EReal)) (h71 : ∀ p, v71 (ix2 p 0) = ((∑ k, U p k : ℝ) : EReal))
    (h72 : ∀ p, v72 (ix2 p 0) = ((1024 : ℝ) : EReal)) (p : Fin 512) (k : Fin 1024) :
    k0_pay1 v29 v31 v69 v71 v72 (ix2 p k) = ((bwd lnEps (Z p) (U p) k : ℝ) : EReal) := by
  unfold k0_pay1
  dsimp only
  simp only [mulf_apply, subf_apply, At.col, divf_apply, At.toCol, broadcast_apply, h29, h31, h69, h71, h72]
  rw [sumR]
  simp only [mulf_apply, h31, h69, ← EReal.coe_mul, sum_coe]
  rw [show (Scalar.ofBits .f32 0x44800000#32 : Ideal .f32) = _ from w_1024, div_coe (by norm_num), div_coe (by norm_num)]
  simp only [← EReal.coe_mul, ← EReal.coe_sub, bwd, mean, Nat.cast_ofNat]

/-- The divisor of the means. -/
theorem pay17 (p : Fin 512) : k0_pay17 (F := Ideal) (ix2 p 0) = ((1024 : ℝ) : EReal) := w_1024

end Cert.DownIdeal.Payloads

end
-- ==== Proof.Down.Math.lean ====
/-
  The part's mathematics over the reals: `Z` the rows before the norm, `G` and `B` the norm's weights, `T` the target.
-/
module

public import proofs.«01_k».proof.Proof.Base.LayerNorm
public import proofs.«01_k».proof.Proof.Base.Words

@[expose] public section

noncomputable section

namespace Cert.Down.Math

open Cert.LayerNorm Cert.Words

/-- The rows before the norm: the residual, scaled, plus the down projection. -/
def rows (A : Fin 4096 → Fin 2816 → ℝ) (W : Fin 2816 → Fin 1024 → ℝ) (X : Fin 4096 → Fin 1024 → ℝ) (r : Fin 4096) (k : Fin 1024) : ℝ :=
  dnAlpha * X r k + ∑ q, A r q * W q k

variable (Z T : Fin 4096 → Fin 1024 → ℝ) (G B : Fin 1024 → ℝ)

/-- The norm's output. -/
def y (r : Fin 4096) (k : Fin 1024) : ℝ := xh lnEps (Z r) k * G k + B k

/-- The gradient of the norm's output. -/
def dy (r : Fin 4096) (k : Fin 1024) : ℝ := (y Z G B r k - T r k) * (1 / 1024)

/-- The gradient of the rows before the norm. -/
def dz (r : Fin 4096) (k : Fin 1024) : ℝ := bwd lnEps (Z r) (fun q => dy Z T G B r q * G q) k

/-- One row's squared error, averaged. -/
def err (r : Fin 4096) : ℝ := (∑ k, (y Z G B r k - T r k) * (y Z G B r k - T r k)) / 1024

/-- The loss. -/
def loss : ℝ := 1 / 2 * ∑ r, err Z T G B r

/-- The gradient of the norm's scale. -/
def dg (k : Fin 1024) : ℝ := ∑ r, dy Z T G B r k * xh lnEps (Z r) k

/-- The gradient of the norm's shift. -/
def db (k : Fin 1024) : ℝ := ∑ r, dy Z T G B r k

end Cert.Down.Math

end
-- ==== Proof.Base.Rows.lean ====
/-
  The rows of an array, block by block: a sum over all rows is the sum, over the blocks, of the sums over their rows.
-/
module

public import Idealize.ShloMosaic.PureOps.Ideal.Laws

@[expose] public section

namespace Cert.Rows

open Finset

/-- Row `p` of block `t`, the blocks of `b` rows. -/
def row {n : ℕ} [NeZero n] (b t : ℕ) (p : Fin b) : Fin n := Fin.ofNat n (b * t + p.val)

theorem row_val {n : ℕ} [NeZero n] {b t : ℕ} (p : Fin b) (a : ℕ) (hn : a * b = n) (ht : t < a) :
    (row b t p : Fin n).val = b * t + p.val := by
  refine Nat.mod_eq_of_lt ?_
  have hp := p.isLt
  have : b * (t + 1) ≤ b * a := Nat.mul_le_mul_left b ht
  rw [Nat.mul_add, Nat.mul_comm b a, hn] at this
  omega

/-- The sum over the rows. -/
theorem sum_rows {M : Type} [AddCommMonoid M] {n : ℕ} [NeZero n] (a b : ℕ) (hn : a * b = n) (f : Fin n → M) :
    ∑ t ∈ range a, ∑ p : Fin b, f (row b t p) = ∑ r, f r := by
  subst hn
  rw [Finset.sum_range, ← Fintype.sum_prod_type' fun (t : Fin a) (p : Fin b) => f (row b t p)]
  refine Fintype.sum_equiv finProdFinEquiv _ _ fun x => congrArg f (Fin.ext ?_)
  rw [row_val x.2 a rfl x.1.isLt]
  simp only [finProdFinEquiv_apply_val]
  omega

end Cert.Rows
-- ==== Proof.Down.Values.lean ====
/-
  The arrays the kernel leaves, over the reals: the gradient of the rows block by block, and the loss and the two
  weight gradients as sums over all rows.
-/
module

public import proofs.«01_k».proof.Proof.Down.Block
public import proofs.«01_k».proof.Proof.Down.Payloads
public import proofs.«01_k».proof.Proof.Down.Math
public import proofs.«01_k».proof.Proof.Base.Rows

@[expose] public section

noncomputable section

namespace Cert.DownIdeal.Values

open Cert.DownIdeal Cert.DownIdeal.Gen Cert.Rows Idealize.ShloMosaic Idealize.ShloMosaic.TcCoe Idealize.SL.Sem ValueIdx

variable (m : (ℓ : Loc nD τ sig) → Buf (Elt Ideal) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)

theorem row_lt (t : Fin cfg0.N) (p : Fin 512) : (row 512 t.val p : Fin 4096).val = 512 * t.val + p.val :=
  row_val p 8 rfl (lt_of_lt_of_eq t.isLt N_0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

/-! ## What the points read -/

abbrev bAct (t : Fin cfg0.N) : Vec Ideal S512x2816 .bf16 := iblk m c 0 t
abbrev bW (t : Fin cfg0.N) : Vec Ideal S2816x1024 .bf16 := iblk m c 1 t
abbrev bX (t : Fin cfg0.N) : Vec Ideal S512x1024 .f32 := iblk m c 2 t
abbrev bG (t : Fin cfg0.N) : Vec Ideal S1x1024 .f32 := iblk m c 3 t
abbrev bB (t : Fin cfg0.N) : Vec Ideal S1x1024 .f32 := iblk m c 4 t
abbrev bT (t : Fin cfg0.N) : Vec Ideal S512x1024 .f32 := iblk m c 5 t

theorem act_at (t : Fin cfg0.N) (p : Fin 512) (q : Fin 2816) :
    bAct m c t (ix2 p q) = m ((c : Thread nD τ).loc main_arg0) (ix2 (row 512 t.val p) q) := by
  unfold bAct iblk
  rw [View.read_apply]
  show V m c main_v0 _ = _
  rw [show V m c main_v0 = m ((c : Thread nD τ).loc main_arg0) from rfl]
  congr 1
  funext a
  apply Fin.ext
  match a with
  | ⟨0, _⟩ => show win0_0.index t 0 * 512 + 1 * p.val = (row 512 t.val p : Fin 4096).val; rw [(index0 t).1, row_lt]; omega
  | ⟨1, _⟩ => show win0_0.index t 1 * 2816 + 1 * q.val = q.val; rw [(index0 t).2]; omega

theorem w_at (t : Fin cfg0.N) (p : Fin 2816) (q : Fin 1024) :
    bW m c t (ix2 p q) = m ((c : Thread nD τ).loc main_arg1) (ix2 p q) := by
  unfold bW iblk
  rw [View.read_apply]
  show V m c main_v1 _ = _
  rw [show V m c main_v1 = m ((c : Thread nD τ).loc main_arg1) from rfl]
  congr 1
  funext a
  apply Fin.ext
  match a with
  | ⟨0, _⟩ => show win0_1.index t 0 * 2816 + 1 * p.val = p.val; rw [(index1 t).1]; omega
  | ⟨1, _⟩ => show win0_1.index t 1 * 1024 + 1 * q.val = q.val; rw [(index1 t).2]; omega

theorem x1_at (t : Fin cfg0.N) (p : Fin 512) (q : Fin 1024) :
    bX m c t (ix2 p q) = m ((c : Thread nD τ).loc main_arg2) (ix2 (row 512 t.val p) q) := by
  unfold bX iblk
  rw [View.read_apply]
  show V m c main_arg2 _ = _
  rw [V_main_arg2]
  congr 1
  funext a
  apply Fin.ext
  match a with
  | ⟨0, _⟩ => show win0_2.index t 0 * 512 + 1 * p.val = (row 512 t.val p : Fin 4096).val; rw [(index2 t).1, row_lt]; omega
  | ⟨1, _⟩ => show win0_2.index t 1 * 1024 + 1 * q.val = q.val; rw [(index2 t).2]; omega

theorem g_at (t : Fin cfg0.N) (q : Fin 1024) :
    bG m c t (ix2 0 q) = m ((c : Thread nD τ).loc main_arg3) (ix1 q) := by
  unfold bG iblk
  rw [View.read_apply]
  show V m c main_v2 _ = _
  refine Eq.trans ?_ (At.toRow (m ((c : Thread nD τ).loc main_arg3)) shapeCasts_S1024_S1x1024 0 q)
  rw [show V m c main_v2 = shapeCast S1x1024 (m ((c : Thread nD τ).loc main_arg3)) shapeCasts_S1024_S1x1024 from rfl]
  congr 1
  funext a
  apply Fin.ext
  match a with
  | ⟨0, _⟩ => show win0_3.index t 0 * 1 + 1 * 0 = 0; rw [(index3 t).1]
  | ⟨1, _⟩ => show win0_3.index t 1 * 1024 + 1 * q.val = q.val; rw [(index3 t).2]; omega

theorem b_at (t : Fin cfg0.N) (q : Fin 1024) :
    bB m c t (ix2 0 q) = m ((c : Thread nD τ).loc main_arg4) (ix1 q) := by
  unfold bB iblk
  rw [View.read_apply]
  show V m c main_v3 _ = _
  refine Eq.trans ?_ (At.toRow (m ((c : Thread nD τ).loc main_arg4)) shapeCasts_S1024_S1x1024 0 q)
  rw [show V m c main_v3 = shapeCast S1x1024 (m ((c : Thread nD τ).loc main_arg4)) shapeCasts_S1024_S1x1024 from rfl]
  congr 1
  funext a
  apply Fin.ext
  match a with
  | ⟨0, _⟩ => show win0_4.index t 0 * 1 + 1 * 0 = 0; rw [(index4 t).1]
  | ⟨1, _⟩ => show win0_4.index t 1 * 1024 + 1 * q.val = q.val; rw [(index4 t).2]; omega

theorem t_at (t : Fin cfg0.N) (p : Fin 512) (q : Fin 1024) :
    bT m c t (ix2 p q) = m ((c : Thread nD τ).loc main_arg5) (ix2 (row 512 t.val p) q) := by
  unfold bT iblk
  rw [View.read_apply]
  show V m c main_arg5 _ = _
  rw [V_main_arg5]
  congr 1
  funext a
  apply Fin.ext
  match a with
  | ⟨0, _⟩ => show win0_5.index t 0 * 512 + 1 * p.val = (row 512 t.val p : Fin 4096).val; rw [(index5 t).1, row_lt]; omega
  | ⟨1, _⟩ => show win0_5.index t 1 * 1024 + 1 * q.val = q.val; rw [(index5 t).2]; omega

/-! ## What the points leave, when the arguments are real -/

/-- The arguments are the real arrays. -/
structure Are (A : Fin 4096 → Fin 2816 → ℝ) (W : Fin 2816 → Fin 1024 → ℝ) (X T : Fin 4096 → Fin 1024 → ℝ) (G B : Fin 1024 → ℝ) : Prop where
  act : ∀ r q, m ((c : Thread nD τ).loc main_arg0) (ix2 r q) = ((A r q : ℝ) : EReal)
  w : ∀ r q, m ((c : Thread nD τ).loc main_arg1) (ix2 r q) = ((W r q : ℝ) : EReal)
  x1 : ∀ r q, m ((c : Thread nD τ).loc main_arg2) (ix2 r q) = ((X r q : ℝ) : EReal)
  g : ∀ q, m ((c : Thread nD τ).loc main_arg3) (ix1 q) = ((G q : ℝ) : EReal)
  b : ∀ q, m ((c : Thread nD τ).loc main_arg4) (ix1 q) = ((B q : ℝ) : EReal)
  t : ∀ r q, m ((c : Thread nD τ).loc main_arg5) (ix2 r q) = ((T r q : ℝ) : EReal)

open Cert.Down Cert.LayerNorm Cert.Words Cert.Reals Payloads Block

variable {m c}
variable {A : Fin 4096 → Fin 2816 → ℝ} {W : Fin 2816 → Fin 1024 → ℝ} {X T : Fin 4096 → Fin 1024 → ℝ} {G B : Fin 1024 → ℝ}
variable (h : Are m c A W X T G B)
include h

theorem rows_at (t : Fin cfg0.N) (p : Fin 512) (k : Fin 1024) :
    ((dnAlpha : ℝ) : EReal) * bX m c t (ix2 p k)
      + ∑ q : Fin 2816, bAct m c t (ix2 p q) * bW m c t (ix2 q k)
      = ((Math.rows A W X (row 512 t.val p) k : ℝ) : EReal) := by
  simp only [x1_at, act_at, w_at, h.act, h.w, h.x1, ← EReal.coe_mul, sum_coe, ← EReal.coe_add, Math.rows]

theorem tgt_at (t : Fin cfg0.N) (p : Fin 512) (k : Fin 1024) :
    bT m c t (ix2 p k) = ((T (row 512 t.val p) k : ℝ) : EReal) := by
  rw [t_at, h.t]

theorem scale_at (t : Fin cfg0.N) (k : Fin 1024) : bG m c t (ix2 0 k) = ((G k : ℝ) : EReal) := by
  rw [g_at, h.g]

theorem y_at (t : Fin cfg0.N) (p : Fin 512) (k : Fin 1024) :
    y (bAct m c t) (bW m c t) (bX m c t) (bG m c t) (bB m c t) (ix2 p k)
      = ((Math.y (Math.rows A W X) G B (row 512 t.val p) k : ℝ) : EReal) :=
  pay9 (v5 := bX m c t) (v8 := bAct m c t) (v10 := bW m c t) (rows_at h t) (v3 := bG m c t) (v14 := bB m c t) (scale_at h t)
    (fun k => by rw [b_at, h.b]) p k

theorem dz_at (t : Fin cfg0.N) (p : Fin 512) (k : Fin 1024) :
    dz (bAct m c t) (bW m c t) (bX m c t) (bG m c t) (bB m c t) (bT m c t) (ix2 p k)
      = ((Math.dz (Math.rows A W X) T G B (row 512 t.val p) k : ℝ) : EReal) := by
  have hG : ∀ k, k0_pay5 (bG m c t) (ix2 0 k) = ((G k : ℝ) : EReal) := fun k => by
    unfold k0_pay5
    rw [shapeCast_self, scale_at h]
  have h7 := pay7 (v5 := bX m c t) (v8 := bAct m c t) (v10 := bW m c t) (rows_at h t)
  have h8 := pay8 (v5 := bX m c t) (v8 := bAct m c t) (v10 := bW m c t) (rows_at h t)
  have h15 := pay15 (v36 := bT m c t) (y_at h t) (tgt_at h t) hG
  have h16 := pay16 (v36 := bT m c t) (y_at h t) (tgt_at h t) hG
  exact pay1 h7 h8 h15 h16 pay17 p k

theorem loss_at (t : Fin cfg0.N) (o : Vec Ideal S1x128 .f32) (k : Fin 128) :
    loss (bAct m c t) (bW m c t) (bX m c t) (bG m c t) (bB m c t) (bT m c t) o (ix2 0 k)
      = o (ix2 0 k) + ((1 / 2 * ∑ p : Fin 512, Math.err (Math.rows A W X) T G B (row 512 t.val p) : ℝ) : EReal) :=
  pay11 (v36 := bT m c t) (y_at h t) (tgt_at h t) o k

theorem dg_at (t : Fin cfg0.N) (o : Vec Ideal S1x1024 .f32) (k : Fin 1024) :
    dg (bAct m c t) (bW m c t) (bX m c t) (bG m c t) (bB m c t) (bT m c t) o (ix2 0 k)
      = o (ix2 0 k) + ((∑ p : Fin 512, Math.dy (Math.rows A W X) T G B (row 512 t.val p) k
          * xh lnEps (Math.rows A W X (row 512 t.val p)) k : ℝ) : EReal) :=
  pay13 (v36 := bT m c t) (y_at h t) (tgt_at h t) (pay8 (v5 := bX m c t) (v8 := bAct m c t) (v10 := bW m c t) (rows_at h t)) o k

theorem db_at (t : Fin cfg0.N) (o : Vec Ideal S1x1024 .f32) (k : Fin 1024) :
    db (bAct m c t) (bW m c t) (bX m c t) (bG m c t) (bB m c t) (bT m c t) o (ix2 0 k)
      = o (ix2 0 k) + ((∑ p : Fin 512, Math.dy (Math.rows A W X) T G B (row 512 t.val p) k : ℝ) : EReal) :=
  pay14 (v36 := bT m c t) (y_at h t) (tgt_at h t) o k

/-! ## The sums after each point -/

open Finset

theorem sums (n : ℕ) (hn : n < cfg0.N) :
    (∀ k, (outsAt0 m c n hn).2.1 (ix2 0 k) = ((∑ t ∈ range (n + 1), 1 / 2 * ∑ p : Fin 512, Math.err (Math.rows A W X) T G B (row 512 t p) : ℝ) : EReal))
    ∧ (∀ k, (outsAt0 m c n hn).2.2.1 (ix2 0 k) = ((∑ t ∈ range (n + 1), ∑ p : Fin 512, Math.dy (Math.rows A W X) T G B (row 512 t p) k
          * xh lnEps (Math.rows A W X (row 512 t p)) k : ℝ) : EReal))
    ∧ ∀ k, (outsAt0 m c n hn).2.2.2 (ix2 0 k) = ((∑ t ∈ range (n + 1), ∑ p : Fin 512, Math.dy (Math.rows A W X) T G B (row 512 t p) k : ℝ) : EReal) := by
  induction n with
  | zero =>
    have e := outs_A m c ⟨0, hn⟩ rfl
    dsimp only at e
    rw [e]
    refine ⟨fun k => ?_, fun k => ?_, fun k => ?_⟩
    · rw [show range (0 + 1) = {0} from rfl, sum_singleton]
      exact (loss_at h ⟨0, hn⟩ _ k).trans ((congrArg (· + _) Ideal.ofBits_zero_f32).trans (zero_add _))
    · rw [show range (0 + 1) = {0} from rfl, sum_singleton]
      exact (dg_at h ⟨0, hn⟩ _ k).trans ((congrArg (· + _) Ideal.ofBits_zero_f32).trans (zero_add _))
    · rw [show range (0 + 1) = {0} from rfl, sum_singleton]
      exact (db_at h ⟨0, hn⟩ _ k).trans ((congrArg (· + _) Ideal.ofBits_zero_f32).trans (zero_add _))
  | succ n ih =>
    have hN : n + 1 < 8 := lt_of_lt_of_eq hn N_0
    have e := outs_B m c ⟨n + 1, hn⟩ (by dsimp only; omega)
    dsimp only at e
    obtain ⟨i1, i2, i3⟩ := ih (Nat.lt_of_succ_lt hn)
    rw [e]
    refine ⟨fun k => ?_, fun k => ?_, fun k => ?_⟩
    · rw [sum_range_succ, EReal.coe_add, ← i1 k]
      exact loss_at h ⟨n + 1, hn⟩ _ k
    · rw [sum_range_succ, EReal.coe_add, ← i2 k]
      exact dg_at h ⟨n + 1, hn⟩ _ k
    · rw [sum_range_succ, EReal.coe_add, ← i3 k]
      exact db_at h ⟨n + 1, hn⟩ _ k

end Cert.DownIdeal.Values

end
-- ==== Proof.Down.Final.lean ====
/-
  The kernel's run over the reals: each result array at its mathematics.
-/
module

public import proofs.«01_k».proof.Proof.Down.Values
public import proofs.«01_k».proof.Proof.Gen.DownIdeal.Value

@[expose] public section

noncomputable section

namespace Cert.DownIdeal.Final

open Cert.DownIdeal Cert.DownIdeal.Gen Cert.DownIdeal.Values Cert.Rows Cert.Down
open Idealize.ShloMosaic Idealize.ShloMosaic.TcCoe Idealize.SL.Sem ValueIdx

variable (m : (ℓ : Loc nD τ sig) → Buf (Elt Ideal) ℓ) (c : Dev nD)

theorem index6 : ∀ t : Fin cfg0.N, win0_6.index t 0 = t.val ∧ win0_6.index t 1 = 0 :=
  (by decide +kernel : ∀ t : Fin grid0.N, win0_6.index t 0 = t.val ∧ win0_6.index t 1 = 0)

theorem index789 : ∀ t : Fin cfg0.N, (win0_7.index t 0 = 0 ∧ win0_7.index t 1 = 0) ∧ (win0_8.index t 0 = 0 ∧ win0_8.index t 1 = 0)
    ∧ win0_9.index t 0 = 0 ∧ win0_9.index t 1 = 0 :=
  (by decide +kernel : ∀ t : Fin grid0.N, (win0_7.index t 0 = 0 ∧ win0_7.index t 1 = 0) ∧ (win0_8.index t 0 = 0 ∧ win0_8.index t 1 = 0)
    ∧ win0_9.index t 0 = 0 ∧ win0_9.index t 1 = 0)

/-- The last point, which writes the sums back. -/
abbrev last : Fin cfg0.N := t0_7

/-- A row of the first result is the row its block was written with. -/
theorem at6 (t : Fin cfg0.N) (p : Fin 512) (k : Fin 1024) :
    ((dats m 0 c).arrAt 6 cfg0.N : Vec Ideal S4096x1024 .f32) (ix2 (row 512 t.val p) k)
      = (outsAt0 m c t.val t.isLt).1 (ix2 p k) := by
  have e := congrFun ((Value.blocks6 m c t (flush0_6 t)).trans (Value.flushed6 m c t)) (ix2 p k)
  rw [View.read_apply] at e
  refine Eq.trans ?_ e
  show _ = (dats m 0 c).arrAt 6 cfg0.N _
  congr 1
  funext a
  apply Fin.ext
  match a with
  | ⟨0, _⟩ => show (row 512 t.val p : Fin 4096).val = win0_6.index t 0 * 512 + 1 * p.val; rw [(index6 t).1, row_lt]; omega
  | ⟨1, _⟩ => show k.val = win0_6.index t 1 * 1024 + 1 * k.val; rw [(index6 t).2]; omega

theorem only7 (t t' : Fin cfg0.N) (f : (cfg0.win 7).flush t = true) (f' : (cfg0.win 7).flush t' = true) (hne : t ≠ t') :
    Disjoint ((cfg0.win 7).blk t).view.set ((cfg0.win 7).blk t').view.set := by
  have h := (flush0_7 t).mp f
  have h' := (flush0_7 t').mp f'
  have := lt_of_lt_of_eq t.isLt N_0
  have := lt_of_lt_of_eq t'.isLt N_0
  exact absurd (Fin.ext (by omega)) hne

theorem only8 (t t' : Fin cfg0.N) (f : (cfg0.win 8).flush t = true) (f' : (cfg0.win 8).flush t' = true) (hne : t ≠ t') :
    Disjoint ((cfg0.win 8).blk t).view.set ((cfg0.win 8).blk t').view.set :=
  absurd (Fin.ext (by
    have h := (flush0_8 t).mp f
    have h' := (flush0_8 t').mp f'
    have := lt_of_lt_of_eq t.isLt N_0
    have := lt_of_lt_of_eq t'.isLt N_0
    omega)) hne

theorem only9 (t t' : Fin cfg0.N) (f : (cfg0.win 9).flush t = true) (f' : (cfg0.win 9).flush t' = true) (hne : t ≠ t') :
    Disjoint ((cfg0.win 9).blk t).view.set ((cfg0.win 9).blk t').view.set :=
  absurd (Fin.ext (by
    have h := (flush0_9 t).mp f
    have h' := (flush0_9 t').mp f'
    have := lt_of_lt_of_eq t.isLt N_0
    have := lt_of_lt_of_eq t'.isLt N_0
    omega)) hne

theorem at7 (k : Fin 128) : ((dats m 0 c).arrAt 7 cfg0.N : Vec Ideal S1x128 .f32) (ix2 0 k)
      = (outsAt0 m c last.val last.isLt).2.1 (ix2 0 k) := by
  have e := congrFun (((dats m 0 c).read_blk_arrAt_eq_flushed 7 only7 cfg0.N last last.isLt ((flush0_7 last).mpr rfl)).trans
    (Value.flushed7 m c last)) (ix2 0 k)
  rw [View.read_apply] at e
  refine Eq.trans ?_ e
  show _ = (dats m 0 c).arrAt 7 cfg0.N _
  congr 1
  funext a
  apply Fin.ext
  match a with
  | ⟨0, _⟩ => show 0 = win0_7.index last 0 * 1 + 1 * 0; rw [(index789 last).1.1]
  | ⟨1, _⟩ => show k.val = win0_7.index last 1 * 128 + 1 * k.val; rw [(index789 last).1.2]; omega

theorem at8 (k : Fin 1024) : ((dats m 0 c).arrAt 8 cfg0.N : Vec Ideal S1x1024 .f32) (ix2 0 k)
      = (outsAt0 m c last.val last.isLt).2.2.1 (ix2 0 k) := by
  have e := congrFun (((dats m 0 c).read_blk_arrAt_eq_flushed 8 only8 cfg0.N last last.isLt ((flush0_8 last).mpr rfl)).trans
    (Value.flushed8 m c last)) (ix2 0 k)
  rw [View.read_apply] at e
  refine Eq.trans ?_ e
  show _ = (dats m 0 c).arrAt 8 cfg0.N _
  congr 1
  funext a
  apply Fin.ext
  match a with
  | ⟨0, _⟩ => show 0 = win0_8.index last 0 * 1 + 1 * 0; rw [(index789 last).2.1.1]
  | ⟨1, _⟩ => show k.val = win0_8.index last 1 * 1024 + 1 * k.val; rw [(index789 last).2.1.2]; omega

theorem at9 (k : Fin 1024) : ((dats m 0 c).arrAt 9 cfg0.N : Vec Ideal S1x1024 .f32) (ix2 0 k)
      = (outsAt0 m c last.val last.isLt).2.2.2 (ix2 0 k) := by
  have e := congrFun (((dats m 0 c).read_blk_arrAt_eq_flushed 9 only9 cfg0.N last last.isLt ((flush0_9 last).mpr rfl)).trans
    (Value.flushed9 m c last)) (ix2 0 k)
  rw [View.read_apply] at e
  refine Eq.trans ?_ e
  show _ = (dats m 0 c).arrAt 9 cfg0.N _
  congr 1
  funext a
  apply Fin.ext
  match a with
  | ⟨0, _⟩ => show 0 = win0_9.index last 0 * 1 + 1 * 0; rw [(index789 last).2.2.1]
  | ⟨1, _⟩ => show k.val = win0_9.index last 1 * 1024 + 1 * k.val; rw [(index789 last).2.2.2]; omega

/-! ## The results over the reals -/

variable {m c}
variable {A : Fin 4096 → Fin 2816 → ℝ} {W : Fin 2816 → Fin 1024 → ℝ} {X T : Fin 4096 → Fin 1024 → ℝ} {G B : Fin 1024 → ℝ}
variable (h : Are m c A W X T G B)
include h

theorem dz_eq (r : Fin 4096) (k : Fin 1024) : ((dats m 0 c).arrAt 6 cfg0.N : Vec Ideal S4096x1024 .f32) (ix2 r k)
    = ((Math.dz (Math.rows A W X) T G B r k : ℝ) : EReal) := by
  have hr : r.val / 512 < cfg0.N := by rw [show cfg0.N = 8 from N_0]; omega
  have e : r = row 512 (⟨r.val / 512, hr⟩ : Fin cfg0.N).val (⟨r.val % 512, Nat.mod_lt _ (by omega)⟩ : Fin 512) :=
    Fin.ext (by rw [row_lt]; dsimp only; omega)
  generalize (⟨r.val / 512, hr⟩ : Fin cfg0.N) = t at e
  generalize (⟨r.val % 512, Nat.mod_lt _ (by omega)⟩ : Fin 512) = p at e
  subst e
  rw [at6]
  by_cases h0 : t.val % 8 = 0
  · rw [Block.outs_A m c t h0]
    exact dz_at h t p k
  · rw [Block.outs_B m c t h0]
    exact dz_at h t p k

theorem loss_eq (k : Fin 128) : ((dats m 0 c).arrAt 7 cfg0.N : Vec Ideal S1x128 .f32) (ix2 0 k)
    = ((Math.loss (Math.rows A W X) T G B : ℝ) : EReal) := by
  rw [at7, (sums h last.val last.isLt).1]
  unfold Math.loss
  rw [← Finset.mul_sum]
  exact congrArg (fun x : ℝ => ((1 / 2 * x : ℝ) : EReal)) (sum_rows 8 512 rfl _)

theorem dg_eq (k : Fin 1024) : ((dats m 0 c).arrAt 8 cfg0.N : Vec Ideal S1x1024 .f32) (ix2 0 k)
    = ((Math.dg (Math.rows A W X) T G B k : ℝ) : EReal) := by
  rw [at8, (sums h last.val last.isLt).2.1]
  exact congrArg (fun x : ℝ => (x : EReal)) (sum_rows 8 512 rfl fun r => Math.dy (Math.rows A W X) T G B r k * LayerNorm.xh Words.lnEps (Math.rows A W X r) k)

theorem db_eq (k : Fin 1024) : ((dats m 0 c).arrAt 9 cfg0.N : Vec Ideal S1x1024 .f32) (ix2 0 k)
    = ((Math.db (Math.rows A W X) T G B k : ℝ) : EReal) := by
  rw [at9, (sums h last.val last.isLt).2.2]
  exact congrArg (fun x : ℝ => (x : EReal)) (sum_rows 8 512 rfl fun r => Math.dy (Math.rows A W X) T G B r k)

end Cert.DownIdeal.Final

end
-- ==== Proof.Down.Reference.lean ====
/-
  What the reference leaves, over the reals: its operations one by one, from the forward lines down to the gradient
  taken through them.
-/
module

public import proofs.«01_k».proof.Proof.Down.Math
public import proofs.«01_k».proof.Proof.Base.Reals
public import proofs.«01_k».proof.Proof.Gen.DownRefIdeal.Read

@[expose] public section

noncomputable section

namespace Cert.DownRefIdeal.Reference

open Cert.DownRefIdeal Cert.DownRefIdeal.Read Cert.Reals Cert.Words Cert.LayerNorm Cert.Down Idealize.ShloMosaic ValueIdx

/-! ## The coordinates of an index -/

def rc (i : S4096x1024.Idx) : Fin 4096 := i 0
def cc (i : S4096x1024.Idx) : Fin 1024 := i 1
def r1 (i : S4096x1.Idx) : Fin 4096 := i 0
def r0 (i : S4096.Idx) : Fin 4096 := i 0
def c0 (i : S1024.Idx) : Fin 1024 := i 0

/-- The arguments are the real arrays. -/
structure Are (x0 : Vec Ideal S4096x2816 .f32) (x1 : Vec Ideal S2816x1024 .f32) (x2 : Vec Ideal S4096x1024 .f32)
    (x3 x4 : Vec Ideal S1024 .f32) (x5 : Vec Ideal S4096x1024 .f32)
    (A : Fin 4096 → Fin 2816 → ℝ) (W : Fin 2816 → Fin 1024 → ℝ) (X T : Fin 4096 → Fin 1024 → ℝ) (G B : Fin 1024 → ℝ) : Prop where
  act : ∀ i, x0 i = ((A (i 0) (i 1) : ℝ) : EReal)
  w : ∀ i, x1 i = ((W (i 0) (i 1) : ℝ) : EReal)
  x1 : ∀ i, x2 i = ((X (i 0) (i 1) : ℝ) : EReal)
  g : ∀ i, x3 i = ((G (i 0) : ℝ) : EReal)
  b : ∀ i, x4 i = ((B (i 0) : ℝ) : EReal)
  t : ∀ i, x5 i = ((T (i 0) (i 1) : ℝ) : EReal)

variable {x0 : Vec Ideal S4096x2816 .f32} {x1 : Vec Ideal S2816x1024 .f32} {x2 : Vec Ideal S4096x1024 .f32}
variable {x3 x4 : Vec Ideal S1024 .f32} {x5 : Vec Ideal S4096x1024 .f32}
variable {A : Fin 4096 → Fin 2816 → ℝ} {W : Fin 2816 → Fin 1024 → ℝ} {X T : Fin 4096 → Fin 1024 → ℝ} {G B : Fin 1024 → ℝ}
variable (h : Are x0 x1 x2 x3 x4 x5 A W X T G B)
include h

/-! ## The forward lines -/

theorem z_at (i : S4096x1024.Idx) : val_main_v3 x0 x1 x2 i = ((Math.rows A W X (rc i) (cc i) : ℝ) : EReal) := by
  rw [val_main_v3_apply, val_main_v1_apply, val_main_v0_apply, val_main_cst_apply, val_main_v2_apply]
  simp only [h.act, h.w, h.x1, ← EReal.coe_mul, sum_coe]
  rw [show (FloatOps.ofBits .f32 0x3F9837F0#32 : Ideal .f32) = _ from w_dnAlpha]
  exact (congrArg (· + _) (EReal.coe_mul _ _).symm).trans (EReal.coe_add _ _).symm

theorem mean_at (i : S4096x1.Idx) : val_main_v7 x0 x1 x2 i = ((mean (Math.rows A W X (r1 i)) : ℝ) : EReal) := by
  rw [val_main_v7_apply, val_main_v5_apply, val_main_v6_apply, val_main_cst_1_apply, val_main_v4_apply, val_main_cst_0_apply]
  simp only [z_at h, sum_coe]
  rw [show (FloatOps.ofBits .f32 0x44800000#32 : Ideal .f32) = _ from w_1024,
    show (FloatOps.ofBits .f32 0x00000000#32 : Ideal .f32) = _ from Ideal.ofBits_zero_f32, zero_add]
  exact div_coe (by norm_num)

theorem cen_at (i : S4096x1024.Idx) : val_main_v18 x0 x1 x2 i = ((cen (Math.rows A W X (rc i)) (cc i) : ℝ) : EReal) := by
  rw [val_main_v18_apply, val_main_v17_apply, z_at h, mean_at h]
  exact (EReal.coe_sub _ _).symm

theorem twice_at (i : S4096x1024.Idx) : val_main_v12 x0 x1 x2 i = ((2 * cen (Math.rows A W X (rc i)) (cc i) : ℝ) : EReal) := by
  rw [val_main_v12_apply, val_main_v11_apply, val_main_cst_2_apply, show val_main_v9 x0 x1 x2 i = _ from cen_at h i,
    show (FloatOps.ofBits .f32 0x40000000#32 : Ideal .f32) = _ from w_two]
  exact (EReal.coe_mul _ _).symm

theorem var_at (i : S4096x1.Idx) : val_main_v20 x0 x1 x2 i = ((var lnEps (Math.rows A W X (r1 i)) : ℝ) : EReal) := by
  rw [val_main_v20_apply, val_main_v19_apply, val_main_cst_5_apply, val_main_v16_apply, val_main_v15_apply, val_main_cst_4_apply,
    val_main_v14_apply, val_main_v13_apply, val_main_cst_3_apply]
  simp only [val_main_v10_apply, show ∀ i, val_main_v9 x0 x1 x2 i = _ from cen_at h]
  rw [show (FloatOps.ofBits .f32 0x44800000#32 : Ideal .f32) = _ from w_1024,
    show (FloatOps.ofBits .f32 0x3727C5AC#32 : Ideal .f32) = _ from w_lnEps,
    show (FloatOps.ofBits .f32 0x00000000#32 : Ideal .f32) = _ from Ideal.ofBits_zero_f32, zero_add]
  rw [sum_mulf]
  exact (congrArg (· + _) (div_coe (by norm_num))).trans (EReal.coe_add _ _).symm

theorem rs_at (i : S4096x1.Idx) : val_main_v21 x0 x1 x2 i = ((rs lnEps (Math.rows A W X (r1 i)) : ℝ) : EReal) := by
  rw [val_main_v21_apply, var_at h]
  exact rsqrt_coe (var_pos lnEps_pos _)

theorem xh_at (i : S4096x1024.Idx) : val_main_v26 x0 x1 x2 i = ((xh lnEps (Math.rows A W X (rc i)) (cc i) : ℝ) : EReal) := by
  rw [val_main_v26_apply, val_main_v25_apply, cen_at h, rs_at h]
  exact (EReal.coe_mul _ _).symm

theorem diff_at (i : S4096x1024.Idx) :
    val_main_v33 x0 x1 x2 x3 x4 x5 i = ((Math.y (Math.rows A W X) G B (rc i) (cc i) - T (rc i) (cc i) : ℝ) : EReal) := by
  rw [val_main_v33_apply, val_main_v32_apply, val_main_v29_apply, val_main_v28_apply, val_main_v27_apply, val_main_v31_apply,
    val_main_v30_apply, xh_at h, h.g, h.b, h.t]
  exact ((congrArg (· - _) ((congrArg (· + _) (EReal.coe_mul _ _).symm).trans (EReal.coe_add _ _).symm)).trans (EReal.coe_sub _ _).symm)

theorem err_at (i : S4096.Idx) : val_main_v39 x0 x1 x2 x3 x4 x5 i = ((Math.err (Math.rows A W X) T G B (r0 i) : ℝ) : EReal) := by
  rw [val_main_v39_apply, val_main_v38_apply, val_main_cst_9_apply, val_main_v37_apply, val_main_cst_8_apply]
  simp only [val_main_v34_apply, diff_at h]
  rw [show (FloatOps.ofBits .f32 0x44800000#32 : Ideal .f32) = _ from w_1024,
    show (FloatOps.ofBits .f32 0x00000000#32 : Ideal .f32) = _ from Ideal.ofBits_zero_f32, zero_add]
  rw [sum_mulf]
  exact div_coe (by norm_num)

/-- The loss, in every column of its row. -/
theorem loss_at (i : S1x128.Idx) : val_main_v81 x0 x1 x2 x3 x4 x5 i = ((Math.loss (Math.rows A W X) T G B : ℝ) : EReal) := by
  rw [val_main_v81_apply, val_main_v41_apply, val_main_cst_11_apply, val_main_v40_apply, val_main_cst_10_apply]
  simp only [err_at h]
  rw [show (FloatOps.ofBits .f32 0x3F000000#32 : Ideal .f32) = _ from w_half,
    show (FloatOps.ofBits .f32 0x00000000#32 : Ideal .f32) = _ from Ideal.ofBits_zero_f32, zero_add, sum_coe]
  refine (EReal.coe_mul _ _).symm.trans ?_
  refine congrArg (fun x : ℝ => ((1 / 2 * x : ℝ) : EReal)) ?_
  exact Fintype.sum_equiv ⟨r0, ix1, fun i => funext fun a => by match a with | ⟨0, _⟩ => rfl, fun _ => rfl⟩ _ _ fun _ => rfl

/-! ## The gradient of the norm's output -/

theorem dy_at (i : S4096x1024.Idx) : val_main_v47 x0 x1 x2 x3 x4 x5 i = ((Math.dy (Math.rows A W X) T G B (rc i) (cc i) : ℝ) : EReal) := by
  rw [val_main_v47_apply, val_main_v46_apply, val_main_v45_apply, val_main_v44_apply, val_main_cst_14_apply, val_main_v43_apply,
    val_main_v42_apply, val_main_cst_12_apply, val_main_cst_13_apply, val_main_v36_apply, val_main_v35_apply, val_main_cst_7_apply,
    diff_at h, show (FloatOps.ofBits .f32 0x44800000#32 : Ideal .f32) = _ from w_1024,
    show (FloatOps.ofBits .f32 0x3F000000#32 : Ideal .f32) = _ from w_half,
    show (FloatOps.ofBits .f32 0x3F800000#32 : Ideal .f32) = _ from w_one,
    show (FloatOps.ofBits .f32 0x40000000#32 : Ideal .f32) = _ from w_two]
  show Ideal.div (((1 / 2 : ℝ) : EReal) * ((1 : ℝ) : EReal)) ((1024 : ℝ) : EReal) * (((2 : ℝ) : EReal) * _) = _
  rw [← EReal.coe_mul, ← EReal.coe_mul, div_coe (by norm_num), ← EReal.coe_mul]
  refine congrArg Real.toEReal ?_
  unfold Math.dy
  ring

/-- The gradient of the norm's shift. -/
theorem db_at (i : S1x1024.Idx) : val_main_v83 x0 x1 x2 x3 x4 x5 i = ((Math.db (Math.rows A W X) T G B (c0 (idx_main_v83 i)) : ℝ) : EReal) := by
  rw [val_main_v83_apply, val_main_v50_apply, val_main_cst_16_apply]
  simp only [val_main_v49_apply, val_main_v48_apply, val_main_cst_15_apply, dy_at h, sum_coe]
  rw [show (FloatOps.ofBits .f32 0x00000000#32 : Ideal .f32) = _ from Ideal.ofBits_zero_f32, zero_add, Fin.sum_univ_one, zero_add]
  refine congrArg Real.toEReal (Finset.sum_congr rfl fun r _ => congrArg (Math.dy (Math.rows A W X) T G B r) (Fin.ext ?_))
  show 0 * 1024 + (c0 (idx_main_v83 i)).val = _
  omega

/-- The gradient of the norm's scale. -/
theorem dg_at (i : S1x1024.Idx) : val_main_v82 x0 x1 x2 x3 x4 x5 i = ((Math.dg (Math.rows A W X) T G B (c0 (idx_main_v82 i)) : ℝ) : EReal) := by
  rw [val_main_v82_apply, val_main_v56_apply, val_main_cst_18_apply]
  simp only [val_main_v53_apply, val_main_v52_apply, val_main_cst_17_apply, val_main_v51_apply, dy_at h, xh_at h]
  rw [show (FloatOps.ofBits .f32 0x00000000#32 : Ideal .f32) = _ from Ideal.ofBits_zero_f32, zero_add, Fin.sum_univ_one, zero_add]
  refine (Finset.sum_congr rfl fun k _ => (EReal.coe_mul _ _).symm).trans ((sum_coe _ _).trans ?_)
  refine congrArg Real.toEReal (Finset.sum_congr rfl fun r _ => ?_)
  have e : cc (idx_main_v52 (idx_main_v53 (idx_main_v56 (idx_main_v82 i) 0)) r) = c0 (idx_main_v82 i) := Fin.ext (by
    show 0 * 1024 + (c0 (idx_main_v82 i)).val = _
    omega)
  rw [e, mul_comm]
  rfl

/-! ## The gradient through the norm -/

theorem u_at (i : S4096x1024.Idx) :
    val_main_v55 x0 x1 x2 x3 x4 x5 i = ((Math.dy (Math.rows A W X) T G B (rc i) (cc i) * G (cc i) : ℝ) : EReal) := by
  rw [val_main_v55_apply, val_main_v54_apply, val_main_v27_apply, dy_at h, h.g]
  exact (EReal.coe_mul _ _).symm

theorem toRow_at (i : S4096x1024.Idx) : val_main_v61 x0 x1 x2 x3 x4 x5 i
    = ((Math.dy (Math.rows A W X) T G B (rc i) (cc i) * G (cc i) * rs lnEps (Math.rows A W X (rc i)) : ℝ) : EReal) := by
  rw [val_main_v61_apply, val_main_v60_apply, u_at h, rs_at h]
  exact (EReal.coe_mul _ _).symm

theorem toSquare_at (i : S4096.Idx) : val_main_v68 x0 x1 x2 x3 x4 x5 i
    = ((toSquare lnEps (Math.rows A W X (r0 i)) (fun q => Math.dy (Math.rows A W X) T G B (r0 i) q * G q) : ℝ) : EReal) := by
  rw [val_main_v68_apply, val_main_cst_22_apply, show (FloatOps.ofBits .f32 0x00000000#32 : Ideal .f32) = _ from Ideal.ofBits_zero_f32,
    zero_add, Fin.sum_univ_one, val_main_v67_apply, val_main_v66_apply, val_main_cst_21_apply, val_main_v62_apply, val_main_v59_apply,
    val_main_v58_apply, val_main_cst_19_apply, val_main_v24_apply, val_main_v23_apply, val_main_cst_6_apply, val_main_v22_apply,
    rs_at h, var_at h]
  simp only [val_main_v57_apply, cen_at h, u_at h]
  rw [show (FloatOps.ofBits .f32 0x44800000#32 : Ideal .f32) = _ from w_1024,
    show (FloatOps.ofBits .f32 0xBF000000#32 : Ideal .f32) = _ from w_neg_half,
    show (FloatOps.ofBits .f32 0x00000000#32 : Ideal .f32) = _ from Ideal.ofBits_zero_f32, zero_add]
  have hs : r0 (idx_main_v59 (idx_main_v68 i 0)) = r0 i := Fin.ext (by show (r0 i).val * 1 + 0 = _; omega)
  rw [sum_mulf]
  refine (congrArg (fun s => Ideal.div (_ * (_ * s)) _) (div_coe (var_pos lnEps_pos _).ne')).trans ?_
  refine (congrArg (fun s => Ideal.div (_ * s) _) (EReal.coe_mul _ _).symm).trans ?_
  refine (congrArg (fun s => Ideal.div s _) (EReal.coe_mul _ _).symm).trans ?_
  refine (div_coe (by norm_num)).trans (congrArg Real.toEReal ?_)
  show (∑ k, cen (Math.rows A W X (r0 (idx_main_v59 (idx_main_v68 i 0)))) k * (Math.dy (Math.rows A W X) T G B (r0 (idx_main_v59 (idx_main_v68 i 0))) k * G k))
    * (-(1 / 2) * (rs lnEps (Math.rows A W X (r0 i)) / var lnEps (Math.rows A W X (r0 i)))) / 1024 = _
  rw [hs]
  unfold toSquare
  norm_num

theorem toCen_at (i : S4096x1024.Idx) : val_main_v70 x0 x1 x2 x3 x4 x5 i
    = ((toSquare lnEps (Math.rows A W X (rc i)) (fun q => Math.dy (Math.rows A W X) T G B (rc i) q * G q) * (2 * cen (Math.rows A W X (rc i)) (cc i)) : ℝ) : EReal) := by
  rw [val_main_v70_apply, val_main_v69_apply, toSquare_at h, twice_at h]
  exact (EReal.coe_mul _ _).symm

theorem minus_at (i : S4096x1.Idx) : val_main_v65 x0 x1 x2 x3 x4 x5 i
    = ((∑ q, -(Math.dy (Math.rows A W X) T G B (r1 i) q * G q * rs lnEps (Math.rows A W X (r1 i))) : ℝ) : EReal) := by
  rw [val_main_v65_apply, val_main_v64_apply, val_main_cst_20_apply]
  simp only [val_main_v63_apply, toRow_at h]
  rw [show (FloatOps.ofBits .f32 0x00000000#32 : Ideal .f32) = _ from Ideal.ofBits_zero_f32, zero_add]
  refine (Finset.sum_congr rfl fun k _ => (EReal.coe_neg _).symm).trans ((sum_coe _ _).trans (congrArg Real.toEReal ?_))
  have hs : r0 (idx_main_v65 i) = r1 i := Fin.ext (by
    have := (i 1).isLt
    show (i 0).val * 1 + (i 1).val = (i 0).val
    have h1 : (i 1).val < 1 := (i 1).isLt
    omega)
  rw [← hs]
  rfl

theorem minusCen_at (i : S4096x1.Idx) : val_main_v73 x0 x1 x2 x3 x4 x5 i
    = ((∑ q, -(toSquare lnEps (Math.rows A W X (r1 i)) (fun q => Math.dy (Math.rows A W X) T G B (r1 i) q * G q) * (2 * cen (Math.rows A W X (r1 i)) q)) : ℝ) : EReal) := by
  rw [val_main_v73_apply, val_main_v72_apply, val_main_cst_23_apply]
  simp only [val_main_v71_apply, toCen_at h]
  rw [show (FloatOps.ofBits .f32 0x00000000#32 : Ideal .f32) = _ from Ideal.ofBits_zero_f32, zero_add]
  refine (Finset.sum_congr rfl fun k _ => (EReal.coe_neg _).symm).trans ((sum_coe _ _).trans (congrArg Real.toEReal ?_))
  have hs : r0 (idx_main_v73 i) = r1 i := Fin.ext (by
    show (i 0).val * 1 + (i 1).val = (i 0).val
    have h1 : (i 1).val < 1 := (i 1).isLt
    omega)
  rw [← hs]
  rfl

/-- The gradient of the rows before the norm. -/
theorem dz_at (i : S4096x1024.Idx) : val_main_v80 x0 x1 x2 x3 x4 x5 i = ((Math.dz (Math.rows A W X) T G B (rc i) (cc i) : ℝ) : EReal) := by
  rw [val_main_v80_apply, val_main_v74_apply, val_main_v79_apply, val_main_v78_apply, val_main_cst_25_apply,
    show (FloatOps.ofBits .f32 0x00000000#32 : Ideal .f32) = _ from Ideal.ofBits_zero_f32, zero_add, Fin.sum_univ_one,
    val_main_v77_apply, val_main_v76_apply, val_main_cst_24_apply, val_main_v75_apply, toRow_at h, toCen_at h, minus_at h, minusCen_at h,
    show (FloatOps.ofBits .f32 0x44800000#32 : Ideal .f32) = _ from w_1024]
  refine (congrArg (fun s => _ + Ideal.div s _) (EReal.coe_add _ _).symm).trans ?_
  refine (congrArg (fun s => _ + s) (div_coe (by norm_num))).trans ?_
  refine (congrArg (· + _) (EReal.coe_add _ _).symm).trans ?_
  refine (EReal.coe_add _ _).symm.trans (congrArg Real.toEReal ?_)
  refine Eq.trans ?_ (chain_eq_bwd lnEps_pos (n := 1024) (by norm_num) (Math.rows A W X (rc i)) (fun q => Math.dy (Math.rows A W X) T G B (rc i) q * G q) (cc i))
  norm_num
  rfl

end Cert.DownRefIdeal.Reference

end
-- ==== Proof.Down.Equation.lean ====
/-
  The two programs leave the same arrays when the arguments are finite.
-/
module

public import proofs.«01_k».proof.Defs
public import proofs.«01_k».proof.Proof.Down.Final
public import proofs.«01_k».proof.Proof.Down.Reference
public import proofs.«01_k».proof.Proof.Gen.Pre_pre_down

@[expose] public section

noncomputable section

namespace Cert.Down.Equation

open Cert.Reals Idealize.ShloMosaic Idealize.ShloMosaic.TcCoe Idealize.SL.Sem ValueIdx

section Finite

variable {a0 : FVec Ideal Pre_pre_down.S4096x2816 .f32} {a1 : FVec Ideal Pre_pre_down.S2816x1024 .f32}
variable {a2 a5 : FVec Ideal Pre_pre_down.S4096x1024 .f32} {a3 a4 : FVec Ideal Pre_pre_down.S1024 .f32}

/-- Under the precondition each argument is its array of real parts. -/
theorem finite [Pre_pre_down.Facts] (h : Pre_pre_down.fn (F := Ideal) a0 a1 a2 a3 a4 a5 = fun _ => 1#1) :
    (∀ i, ((re a0 i : ℝ) : EReal) = a0 i) ∧ (∀ i, ((re a1 i : ℝ) : EReal) = a1 i) ∧ (∀ i, ((re a2 i : ℝ) : EReal) = a2 i)
    ∧ (∀ i, ((re a3 i : ℝ) : EReal) = a3 i) ∧ (∀ i, ((re a4 i : ℝ) : EReal) = a4 i) ∧ ∀ i, ((re a5 i : ℝ) : EReal) = a5 i := by
  have h' := congrFun h ix0
  unfold Pre_pre_down.fn Pre_pre_down.fn_part1 at h'
  dsimp only at h'
  obtain ⟨h', h5⟩ := andi_split h'
  obtain ⟨h', h4⟩ := andi_split h'
  obtain ⟨h', h3⟩ := andi_split h'
  obtain ⟨h', h2⟩ := andi_split h'
  obtain ⟨h0, h1⟩ := andi_split h'
  exact ⟨coe_re _ _ _ _ _ _ _ h0, coe_re _ _ _ _ _ _ _ h1, coe_re _ _ _ _ _ _ _ h2, coe_re _ _ _ _ _ _ _ h3,
    coe_re _ _ _ _ _ _ _ h4, coe_re _ _ _ _ _ _ _ h5⟩

end Finite

/-- The reference terminates, keeps its arguments, and has no semaphore. -/
theorem frame_ref : Cert.quiescent_DownRefIdeal := fun m ρ _ =>
  (θ_run DownRefIdeal.defs _ _).mono (fun r h => ⟨fun c => (h c).2.2.2.2, sem_eq_zero_of_no_sems (by decide) r.2⟩)
    (DownRefIdeal.Value.run (F := Ideal) m ρ)

/-- The down projection with the second norm's and the loss's gradient: kernel and reference agree. -/
theorem algebraic [Pre_pre_down.Facts] : Cert.algebraic_DownIdeal_DownRefIdeal_pre_pre_down := by
  intro m g m' g' hpre heq
  refine ⟨fun c => (DownIdeal.Gen.dats m 0 c).arrAt 6 DownIdeal.cfg0.N, fun c => (DownIdeal.Gen.dats m 0 c).arrAt 7 DownIdeal.cfg0.N,
    fun c => (DownIdeal.Gen.dats m 0 c).arrAt 8 DownIdeal.cfg0.N, fun c => (DownIdeal.Gen.dats m 0 c).arrAt 9 DownIdeal.cfg0.N,
    DownIdeal.Value.run_blocks m g, ?_⟩
  refine (θ_run _ _ _).mono (fun r h c => ?_) (DownRefIdeal.Value.run m' g')
  obtain ⟨h0, h1, h2, h3, hargs⟩ := h c
  obtain ⟨f0, f1, f2, f3, f4, f5⟩ := finite (hpre c)
  obtain ⟨e0, e1, e2, e3, e4, e5⟩ := heq c
  have hk : DownIdeal.Values.Are m c (fun p q => re (m ((c : Thread DownIdeal.nD DownIdeal.τ).loc DownIdeal.main_arg0)) (ix2 p q))
      (fun p q => re (m ((c : Thread DownIdeal.nD DownIdeal.τ).loc DownIdeal.main_arg1)) (ix2 p q))
      (fun p q => re (m ((c : Thread DownIdeal.nD DownIdeal.τ).loc DownIdeal.main_arg2)) (ix2 p q))
      (fun p q => re (m ((c : Thread DownIdeal.nD DownIdeal.τ).loc DownIdeal.main_arg5)) (ix2 p q))
      (fun q => re (m ((c : Thread DownIdeal.nD DownIdeal.τ).loc DownIdeal.main_arg3)) (ix1 q))
      (fun q => re (m ((c : Thread DownIdeal.nD DownIdeal.τ).loc DownIdeal.main_arg4)) (ix1 q)) :=
    ⟨fun _ _ => (f0 _).symm, fun _ _ => (f1 _).symm, fun _ _ => (f2 _).symm, fun _ => (f3 _).symm, fun _ => (f4 _).symm,
      fun _ _ => (f5 _).symm⟩
  have hr : DownRefIdeal.Reference.Are (m ((c : Thread DownIdeal.nD DownIdeal.τ).loc DownIdeal.main_arg0))
      (m ((c : Thread DownIdeal.nD DownIdeal.τ).loc DownIdeal.main_arg1)) (m ((c : Thread DownIdeal.nD DownIdeal.τ).loc DownIdeal.main_arg2))
      (m ((c : Thread DownIdeal.nD DownIdeal.τ).loc DownIdeal.main_arg3)) (m ((c : Thread DownIdeal.nD DownIdeal.τ).loc DownIdeal.main_arg4))
      (m ((c : Thread DownIdeal.nD DownIdeal.τ).loc DownIdeal.main_arg5)) (fun p q => re (m ((c : Thread DownIdeal.nD DownIdeal.τ).loc DownIdeal.main_arg0)) (ix2 p q))
      (fun p q => re (m ((c : Thread DownIdeal.nD DownIdeal.τ).loc DownIdeal.main_arg1)) (ix2 p q))
      (fun p q => re (m ((c : Thread DownIdeal.nD DownIdeal.τ).loc DownIdeal.main_arg2)) (ix2 p q))
      (fun p q => re (m ((c : Thread DownIdeal.nD DownIdeal.τ).loc DownIdeal.main_arg5)) (ix2 p q))
      (fun q => re (m ((c : Thread DownIdeal.nD DownIdeal.τ).loc DownIdeal.main_arg3)) (ix1 q))
      (fun q => re (m ((c : Thread DownIdeal.nD DownIdeal.τ).loc DownIdeal.main_arg4)) (ix1 q)) :=
    ⟨fun i => (f0 i).symm.trans (congrArg (fun j => ((re _ j : ℝ) : EReal)) (eq_ix2 i)),
      fun i => (f1 i).symm.trans (congrArg (fun j => ((re _ j : ℝ) : EReal)) (eq_ix2 i)),
      fun i => (f2 i).symm.trans (congrArg (fun j => ((re _ j : ℝ) : EReal)) (eq_ix2 i)),
      fun i => (f3 i).symm.trans (congrArg (fun j => ((re _ j : ℝ) : EReal)) (eq_ix1 i)),
      fun i => (f4 i).symm.trans (congrArg (fun j => ((re _ j : ℝ) : EReal)) (eq_ix1 i)),
      fun i => (f5 i).symm.trans (congrArg (fun j => ((re _ j : ℝ) : EReal)) (eq_ix2 i))⟩
  refine ⟨h0.trans ?_, h1.trans ?_, h2.trans ?_, h3.trans ?_, hargs⟩
  · rw [DownRefIdeal.Read.val_main_v80_eq, e0, e1, e2, e3, e4, e5]
    refine funext fun i => ?_
    obtain ⟨p, k, rfl⟩ : ∃ (p : Fin 4096) (k : Fin 1024), i = ix2 p k := ⟨i 0, i 1, eq_ix2 i⟩
    exact (DownRefIdeal.Reference.dz_at hr _).trans (DownIdeal.Final.dz_eq hk p k).symm
  · rw [DownRefIdeal.Read.val_main_v81_eq, e0, e1, e2, e3, e4, e5]
    refine funext fun i => ?_
    obtain ⟨k, rfl⟩ : ∃ k : Fin 128, i = ix2 0 k := ⟨i 1, (eq_ix2 i).trans (congrArg (ix2 · _) (Fin.fin_one_eq_zero _))⟩
    exact (DownRefIdeal.Reference.loss_at hr _).trans (DownIdeal.Final.loss_eq hk k).symm
  · rw [DownRefIdeal.Read.val_main_v82_eq, e0, e1, e2, e3, e4, e5]
    refine funext fun i => ?_
    obtain ⟨k, rfl⟩ : ∃ k : Fin 1024, i = ix2 0 k := ⟨i 1, (eq_ix2 i).trans (congrArg (ix2 · _) (Fin.fin_one_eq_zero _))⟩
    refine (DownRefIdeal.Reference.dg_at hr _).trans (Eq.trans ?_ (DownIdeal.Final.dg_eq hk k).symm)
    rw [show DownRefIdeal.Reference.c0 (DownRefIdeal.Read.idx_main_v82 (ix2 0 k)) = k from Fin.ext (by show 0 * 1024 + k.val = _; omega)]
  · rw [DownRefIdeal.Read.val_main_v83_eq, e0, e1, e2, e3, e4, e5]
    refine funext fun i => ?_
    obtain ⟨k, rfl⟩ : ∃ k : Fin 1024, i = ix2 0 k := ⟨i 1, (eq_ix2 i).trans (congrArg (ix2 · _) (Fin.fin_one_eq_zero _))⟩
    refine (DownRefIdeal.Reference.db_at hr _).trans (Eq.trans ?_ (DownIdeal.Final.db_eq hk k).symm)
    rw [show DownRefIdeal.Reference.c0 (DownRefIdeal.Read.idx_main_v83 (ix2 0 k)) = k from Fin.ext (by show 0 * 1024 + k.val = _; omega)]

end Cert.Down.Equation

end
-- ==== Proof.Mla.Payloads.lean ====
/-
  The arithmetic of the latent attention's backward kernel on one pair of blocks (512 keys, 512 queries, four heads),
  over the reals: what is added to the gradients of the values, the keys and the queries.
-/
module

public import proofs.«01_k».proof.Proof.Base.Reals
public import proofs.«01_k».proof.Proof.Base.Words
public import proofs.«01_k».proof.Proof.Gen.MlaIdeal.Skeleton
public import Idealize.ShloMosaic.Lib.ValueIdx
public import Idealize.ShloMosaic.Lib.WordCmp
public import Idealize.ShloMosaic.Lib.Pointwise.Contract
public import Idealize.ShloMosaic.Lib.Pipeline.Value

@[expose] public section

noncomputable section

namespace Cert.MlaIdeal.Payloads

open Idealize.ShloMosaic hiding ix1 ix2 ix3 ix4
open Cert.MlaIdeal Cert.MlaIdeal.Gen Idealize.ShloMosaic.ValueIdx Cert.Words Cert.Reals

/-- The scale of the scores, as the kernel's word has it. -/
def sc : ℝ := 13698540 / 2 ^ 27

theorem w_sc : Ideal.ofBits .f32 0x3DD105EC#32 = ((sc : ℝ) : EReal) := by
  simp [Ideal.ofBits, Ideal.ieee, sc, -EReal.coe_mul]
  norm_num

section Products

/-- Rows of the keys against rows of the queries. -/
theorem dotKQ (l : FVec Ideal S4x512x128 .bf16) (r : FVec Ideal S4x512x128 .bf16) (h : Fin 4) (a b : Fin 512) :
    matmul dot_S4x512x128_S4x512x128_S4x512x512_2_2_1_1_0_0 none l r (constant S4x512x512 .f32 0x00000000#32) (ix3 h a b)
      = ∑ e : Fin 128, l (ix3 h a e) * r (ix3 h b e) := by
  refine (Ideal.matmul_apply₁_of _ (a := 2) rfl (K := 128) rfl l r _ (ix3 h a b) (fun e => (ix3 h a e)) (fun e => (ix3 h b e))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S4x512x512 .f32 0x00000000#32 (ix3 h a b) = 0 from Ideal.ofBits_zero_f32, zero_add]

/-- Rows of the values against rows of the cotangent. -/
theorem dotVO (l : FVec Ideal S4x512x64 .bf16) (r : FVec Ideal S4x512x64 .bf16) (h : Fin 4) (a b : Fin 512) :
    matmul dot_S4x512x64_S4x512x64_S4x512x512_2_2_1_1_0_0 none l r (constant S4x512x512 .f32 0x00000000#32) (ix3 h a b)
      = ∑ e : Fin 64, l (ix3 h a e) * r (ix3 h b e) := by
  refine (Ideal.matmul_apply₁_of _ (a := 2) rfl (K := 64) rfl l r _ (ix3 h a b) (fun e => (ix3 h a e)) (fun e => (ix3 h b e))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S4x512x512 .f32 0x00000000#32 (ix3 h a b) = 0 from Ideal.ofBits_zero_f32, zero_add]

/-- The weights of a key against the columns of the cotangent. -/
theorem dotPO (l : FVec Ideal S4x512x512 .bf16) (r : FVec Ideal S4x512x64 .bf16) (h : Fin 4) (a : Fin 512) (k : Fin 64) :
    matmul dot_S4x512x512_S4x512x64_S4x512x64_2_1_1_2_0_0 none l r (constant S4x512x64 .f32 0x00000000#32) (ix3 h a k)
      = ∑ e : Fin 512, l (ix3 h a e) * r (ix3 h e k) := by
  refine (Ideal.matmul_apply₁_of _ (a := 2) rfl (K := 512) rfl l r _ (ix3 h a k) (fun e => (ix3 h a e)) (fun e => (ix3 h e k))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S4x512x64 .f32 0x00000000#32 (ix3 h a k) = 0 from Ideal.ofBits_zero_f32, zero_add]

/-- The slopes of a key against the columns of the queries. -/
theorem dotSQ (l : FVec Ideal S4x512x512 .bf16) (r : FVec Ideal S4x512x128 .bf16) (h : Fin 4) (a : Fin 512) (k : Fin 128) :
    matmul dot_S4x512x512_S4x512x128_S4x512x128_2_1_1_2_0_0 none l r (constant S4x512x128 .f32 0x00000000#32) (ix3 h a k)
      = ∑ e : Fin 512, l (ix3 h a e) * r (ix3 h e k) := by
  refine (Ideal.matmul_apply₁_of _ (a := 2) rfl (K := 512) rfl l r _ (ix3 h a k) (fun e => (ix3 h a e)) (fun e => (ix3 h e k))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S4x512x128 .f32 0x00000000#32 (ix3 h a k) = 0 from Ideal.ofBits_zero_f32, zero_add]

/-- The slopes of a query against the columns of the keys. -/
theorem dotSK (l : FVec Ideal S4x512x512 .bf16) (r : FVec Ideal S4x512x128 .bf16) (h : Fin 4) (b : Fin 512) (k : Fin 128) :
    matmul dot_S4x512x512_S4x512x128_S4x512x128_1_1_2_2_0_0 none l r (constant S4x512x128 .f32 0x00000000#32) (ix3 h b k)
      = ∑ e : Fin 512, l (ix3 h e b) * r (ix3 h e k) := by
  refine (Ideal.matmul_apply₁_of _ (a := 1) rfl (K := 512) rfl l r _ (ix3 h b k) (fun e => (ix3 h e b)) (fun e => (ix3 h e k))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S4x512x128 .f32 0x00000000#32 (ix3 h b k) = 0 from Ideal.ofBits_zero_f32, zero_add]

end Products

section Layout

variable {α : Type}

/-- A row per head, copied over all keys. -/
theorem rowOver (v : S4x1x512.Idx → α) (h : Fin 4) (a b : Fin 512) :
    broadcastTo S4x512x512 v broadcasts_S4x1x512_S4x512x512 (ix3 h a b) = v (ix3 h 0 b) := by
  refine broadcastTo_apply v _ _ _ fun x => ?_
  match x with
  | ⟨0, _⟩ => rfl
  | ⟨1, _⟩ => rfl
  | ⟨2, _⟩ => rfl

/-- A mask copied over the heads. -/
theorem maskOver (v : S512x512.Idx → α) (h : Fin 4) (a b : Fin 512) :
    broadcastTo S4x512x512 (shapeCast S1x512x512 v shapeCasts_S512x512_S1x512x512) broadcasts_S1x512x512_S4x512x512 (ix3 h a b) = v (ix2 a b) := by
  refine (broadcastTo_apply _ _ _ (ix3 0 a b) fun x => ?_).trans (shapeCast_apply v _ _ _ ?_)
  · match x with
    | ⟨0, _⟩ => rfl
    | ⟨1, _⟩ => rfl
    | ⟨2, _⟩ => rfl
  · rw [Shape.rowMajor_val_two, Shape.rowMajor_val_three]
    show a.val * 512 + b.val = ((0 : Fin 1).val * 512 + a.val) * 512 + b.val
    simp

/-- One page out of one. -/
theorem page (v : S1x4x512x128.Idx → α) (h : Fin 4) (a : Fin 512) (k : Fin 128) :
    shapeCast S4x512x128 v shapeCasts_S1x4x512x128_S4x512x128 (ix3 h a k) = v (ix4 0 h a k) := by
  refine shapeCast_apply v _ _ _ ?_
  rw [Shape.rowMajor_val_four, Shape.rowMajor_val_three]
  show (((0 : Fin 1).val * 4 + h.val) * 512 + a.val) * 128 + k.val = (h.val * 512 + a.val) * 128 + k.val
  simp

/-- One page put back. -/
theorem unpage (v : S4x512x128.Idx → α) (h : Fin 4) (a : Fin 512) (k : Fin 128) :
    shapeCast S1x4x512x128 v shapeCasts_S4x512x128_S1x4x512x128 (ix4 0 h a k) = v (ix3 h a k) := by
  refine shapeCast_apply v _ _ _ ?_
  rw [Shape.rowMajor_val_four, Shape.rowMajor_val_three]
  show (h.val * 512 + a.val) * 128 + k.val = (((0 : Fin 1).val * 4 + h.val) * 512 + a.val) * 128 + k.val
  simp

end Layout

/-- The blocks over the reals: queries, keys, values, cotangent, the rows' log-sums and the rows' sums `do·o`. -/
structure Blk where
  Q : Fin 4 → Fin 512 → Fin 128 → ℝ
  K : Fin 4 → Fin 512 → Fin 128 → ℝ
  V : Fin 4 → Fin 512 → Fin 64 → ℝ
  O : Fin 4 → Fin 512 → Fin 64 → ℝ
  L : Fin 4 → Fin 512 → ℝ
  D : Fin 4 → Fin 512 → ℝ

namespace Blk

variable (B : Blk) (masked : Bool)

/-- The weight of key `a` for query `b`; on the diagonal a key after the query has none. -/
def wt (h : Fin 4) (a b : Fin 512) : ℝ :=
  if masked = true ∧ b < a then 0 else Real.exp ((∑ e, B.K h a e * B.Q h b e) * sc - B.L h b)

/-- The slope of the score of key `a` for query `b`. -/
def ds (h : Fin 4) (a b : Fin 512) : ℝ :=
  B.wt masked h a b * ((∑ e, B.V h a e * B.O h b e) - B.D h b) * sc

/-- What the block adds to the gradient of the values. -/
def dv (h : Fin 4) (a : Fin 512) (k : Fin 64) : ℝ := ∑ b, B.wt masked h a b * B.O h b k

/-- What the block adds to the gradient of the keys. -/
def dk (h : Fin 4) (a : Fin 512) (k : Fin 128) : ℝ := ∑ b, B.ds masked h a b * B.Q h b k

/-- What the block adds to the gradient of the queries. -/
def dq (h : Fin 4) (b : Fin 512) (k : Fin 128) : ℝ := ∑ a, B.ds masked h a b * B.K h a k

end Blk

section Block

variable {B : Blk} {xq xk : FVec Ideal S4x512x128 .bf16} {xv xo : FVec Ideal S4x512x64 .bf16} {xl xd : FVec Ideal S4x1x512 .f32}

/-- The block's arrays hold the block's reals. -/
structure Holds (B : Blk) (xq xk : FVec Ideal S4x512x128 .bf16) (xv xo : FVec Ideal S4x512x64 .bf16)
    (xl xd : FVec Ideal S4x1x512 .f32) : Prop where
  q : ∀ h a e, xq (ix3 h a e) = ((B.Q h a e : ℝ) : EReal)
  k : ∀ h a e, xk (ix3 h a e) = ((B.K h a e : ℝ) : EReal)
  v : ∀ h a e, xv (ix3 h a e) = ((B.V h a e : ℝ) : EReal)
  o : ∀ h a e, xo (ix3 h a e) = ((B.O h a e : ℝ) : EReal)
  l : ∀ h b, xl (ix3 h 0 b) = ((B.L h b : ℝ) : EReal)
  d : ∀ h b, xd (ix3 h 0 b) = ((B.D h b : ℝ) : EReal)

variable (H : Holds B xq xk xv xo xl xd)
include H

theorem scores (h : Fin 4) (a b : Fin 512) :
    matmul dot_S4x512x128_S4x512x128_S4x512x512_2_2_1_1_0_0 none xk xq (constant S4x512x512 .f32 0x00000000#32) (ix3 h a b)
      = ((∑ e, B.K h a e * B.Q h b e : ℝ) : EReal) := by
  rw [dotKQ]
  simp only [H.q, H.k]
  exact sum_mulf (φ := .f32) _ _

theorem dp (h : Fin 4) (a b : Fin 512) :
    matmul dot_S4x512x64_S4x512x64_S4x512x512_2_2_1_1_0_0 none xv xo (constant S4x512x512 .f32 0x00000000#32) (ix3 h a b)
      = ((∑ e, B.V h a e * B.O h b e : ℝ) : EReal) := by
  rw [dotVO]
  simp only [H.v, H.o]
  exact sum_mulf (φ := .f32) _ _

/-- The weights off the diagonal. -/
theorem pay22 (h : Fin 4) (a b : Fin 512) : k0_pay22 (F := Ideal) xq xk xl (ix3 h a b) = ((B.wt false h a b : ℝ) : EReal) := by
  unfold k0_pay22 k0_pay20 k0_pay19
  dsimp only
  simp only [shapeCast_self]
  show Ideal.exp (FloatOps.subf (F := Ideal) (φ := .f32) (FloatOps.mulf (F := Ideal) (φ := .f32) (matmul _ _ _ _ _ (ix3 h a b)) (Ideal.ofBits .f32 0x3DD105EC#32)) (broadcastTo _ _ _ (ix3 h a b))) = _
  rw [scores H, w_sc, rowOver, H.l]
  show Ideal.exp (((_ : ℝ) : EReal) * ((_ : ℝ) : EReal) - ((_ : ℝ) : EReal)) = _
  rw [← EReal.coe_mul, ← EReal.coe_sub, Ideal.exp_coe]
  unfold Blk.wt
  rw [if_neg (by simp)]

/-- The weights on the diagonal. -/
theorem pay16 (h : Fin 4) (a b : Fin 512) : k0_pay16 (F := Ideal) xq xk xl (ix3 h a b) = ((B.wt true h a b : ℝ) : EReal) := by
  unfold k0_pay16 k0_pay14 k0_pay13
  dsimp only
  simp only [shapeCast_self]
  show Ideal.exp (FloatOps.subf (F := Ideal) (φ := .f32) (Scalar.select (broadcastTo S4x512x512 _ _ (ix3 h a b)) (FloatOps.mulf (F := Ideal) (φ := .f32) (matmul _ _ _ _ _ (ix3 h a b)) (Ideal.ofBits .f32 0x3DD105EC#32)) (Named.named (F := Ideal) κ "mask" 0xF149F2CA#32)) (broadcastTo _ _ _ (ix3 h a b))) = _
  rw [maskOver, scores H, w_sc, rowOver, H.l, IdealRules.named_const.ideal_named_scalar _ _ _ _ rfl]
  show Ideal.exp (Scalar.select (IntOp.cmpi .sge (iota .tc S512x512 32 [1] iota_S512x512_d1_w32 (ix2 a b)) (iota .tc S512x512 32 [0] iota_S512x512_d0_w32 (ix2 a b))) (((_ : ℝ) : EReal) * ((_ : ℝ) : EReal)) (⊥ : EReal) - ((_ : ℝ) : EReal)) = _
  rw [iota_single_apply, iota_single_apply]
  show Ideal.exp (Scalar.select (IntOp.cmpi .sge (BitVec.ofNat 32 b.val) (BitVec.ofNat 32 a.val)) _ _ - _) = _
  have ha := a.isLt
  have hb := b.isLt
  rw [WordCmp.cmpi_sge_ofNat (by omega) (by omega)]
  unfold Blk.wt
  by_cases hab : b < a
  · rw [if_pos ⟨rfl, hab⟩, show decide (a.val ≤ b.val) = false from decide_eq_false (by have := Fin.lt_def.mp hab; omega)]
    rfl
  · rw [if_neg fun h => hab h.2, show decide (a.val ≤ b.val) = true from decide_eq_true (by have := fun h => hab (Fin.lt_def.mpr h); omega)]
    show Ideal.exp (((_ : ℝ) : EReal) * ((_ : ℝ) : EReal) - ((_ : ℝ) : EReal)) = _
    rw [← EReal.coe_mul, ← EReal.coe_sub, Ideal.exp_coe]

omit H

/-- The weights added to the values' gradient. -/
theorem addV {m : Bool} {P : FVec Ideal S4x512x512 .f32} (H : Holds B xq xk xv xo xl xd)
    (hP : ∀ h a b, P (ix3 h a b) = ((B.wt m h a b : ℝ) : EReal)) (h : Fin 4) (a : Fin 512) (k : Fin 64) :
    matmul dot_S4x512x512_S4x512x64_S4x512x64_2_1_1_2_0_0 none (truncf .bf16 P bitsLt_bf16_f32) xo
      (constant S4x512x64 .f32 0x00000000#32) (ix3 h a k) = ((B.dv m h a k : ℝ) : EReal) := by
  rw [dotPO]
  simp only [H.o]
  refine (Finset.sum_congr rfl fun b _ => ?_).trans (sum_mulf (φ := .f32) (B.wt m h a) fun b => B.O h b k)
  exact congrArg (· * _) (hP h a b)

/-- The slopes added to the keys' gradient. -/
theorem addK {m : Bool} {S : FVec Ideal S4x512x512 .bf16} (H : Holds B xq xk xv xo xl xd)
    (hS : ∀ h a b, S (ix3 h a b) = ((B.ds m h a b : ℝ) : EReal)) (h : Fin 4) (a : Fin 512) (k : Fin 128) :
    matmul dot_S4x512x512_S4x512x128_S4x512x128_2_1_1_2_0_0 none S xq
      (constant S4x512x128 .f32 0x00000000#32) (ix3 h a k) = ((B.dk m h a k : ℝ) : EReal) := by
  rw [dotSQ]
  simp only [H.q, hS]
  exact sum_mulf (φ := .f32) (B.ds m h a) fun b => B.Q h b k

/-- The slopes added to the queries' gradient. -/
theorem addQ {m : Bool} {S : FVec Ideal S4x512x512 .bf16} (H : Holds B xq xk xv xo xl xd)
    (hS : ∀ h a b, S (ix3 h a b) = ((B.ds m h a b : ℝ) : EReal)) (h : Fin 4) (b : Fin 512) (k : Fin 128) :
    matmul dot_S4x512x512_S4x512x128_S4x512x128_1_1_2_2_0_0 none S xk
      (constant S4x512x128 .f32 0x00000000#32) (ix3 h b k) = ((B.dq m h b k : ℝ) : EReal) := by
  rw [dotSK]
  simp only [H.k, hS]
  exact sum_mulf (φ := .f32) (fun a => B.ds m h a b) fun a => B.K h a k

/-! ### On the diagonal -/

section Diagonal

variable (H : Holds B xq xk xv xo xl xd)
include H

theorem pay17 (old : FVec Ideal S4x512x64 .f32) (h : Fin 4) (a : Fin 512) (k : Fin 64) :
    k0_pay17 (F := Ideal) xq xk xo xl old (ix3 h a k) = (old (ix3 h a k) : EReal) + ((B.dv true h a k : ℝ) : EReal) := by
  unfold k0_pay17 k0_pay15
  dsimp only
  simp only [shapeCast_self]
  exact congrArg ((old (ix3 h a k) : EReal) + ·) (addV H (pay16 H) h a k)

theorem pay4 (h : Fin 4) (a b : Fin 512) :
    k0_pay4 (F := Ideal) (k0_pay16 (F := Ideal) xq xk xl) (k0_pay18 (F := Ideal) xo xv) xd (ix3 h a b) = ((B.ds true h a b : ℝ) : EReal) := by
  unfold k0_pay4 k0_pay18 k0_pay15
  dsimp only
  simp only [shapeCast_self]
  show ((k0_pay16 (F := Ideal) xq xk xl (ix3 h a b) : EReal) * ((matmul (F := Ideal) _ _ _ _ _ (ix3 h a b) : EReal) - (broadcastTo _ _ _ (ix3 h a b) : EReal)) * (Ideal.ofBits .f32 0x3DD105EC#32 : EReal) : EReal) = _
  rw [pay16 H, dp H, rowOver, H.d, w_sc, ← EReal.coe_sub, ← EReal.coe_mul, ← EReal.coe_mul]
  rfl

theorem pay5 (old : FVec Ideal S4x512x128 .f32) (h : Fin 4) (a : Fin 512) (k : Fin 128) :
    k0_pay5 (F := Ideal) (k0_pay13 (F := Ideal) xq) (k0_pay16 (F := Ideal) xq xk xl) (k0_pay18 (F := Ideal) xo xv) xd old (ix3 h a k)
      = (old (ix3 h a k) : EReal) + ((B.dk true h a k : ℝ) : EReal) := by
  unfold k0_pay5 k0_pay13
  dsimp only
  simp only [shapeCast_self]
  exact congrArg ((old (ix3 h a k) : EReal) + ·) (addK H (pay4 H) h a k)

theorem pay6 (old : FVec Ideal S1x4x512x128 .f32) (h : Fin 4) (b : Fin 512) (k : Fin 128) :
    k0_pay6 (F := Ideal) (k0_pay14 (F := Ideal) xk) (k0_pay16 (F := Ideal) xq xk xl) (k0_pay18 (F := Ideal) xo xv) xd old (ix4 0 h b k)
      = (old (ix4 0 h b k) : EReal) + ((B.dq true h b k : ℝ) : EReal) := by
  unfold k0_pay6 k0_pay14
  dsimp only
  simp only [shapeCast_self]
  rw [unpage]
  refine (addf_apply _ _ _).trans ?_
  rw [page]
  exact congrArg ((old (ix4 0 h b k) : EReal) + ·) (addQ H (pay4 H) h b k)

end Diagonal

/-! ### Off the diagonal -/

section Below

variable (H : Holds B xq xk xv xo xl xd)
include H

theorem pay23 (old : FVec Ideal S4x512x64 .f32) (h : Fin 4) (a : Fin 512) (k : Fin 64) :
    k0_pay23 (F := Ideal) xq xk xo xl old (ix3 h a k) = (old (ix3 h a k) : EReal) + ((B.dv false h a k : ℝ) : EReal) := by
  unfold k0_pay23 k0_pay21
  dsimp only
  simp only [shapeCast_self]
  exact congrArg ((old (ix3 h a k) : EReal) + ·) (addV H (pay22 H) h a k)

theorem pay7 (h : Fin 4) (a b : Fin 512) :
    k0_pay7 (F := Ideal) (k0_pay24 (F := Ideal) xq xk xo xl xv xd) (k0_pay25 (F := Ideal)) (ix3 h a b) = ((B.ds false h a b : ℝ) : EReal) := by
  unfold k0_pay7 k0_pay24 k0_pay25 k0_pay21
  dsimp only
  simp only [shapeCast_self]
  show ((k0_pay22 (F := Ideal) xq xk xl (ix3 h a b) : EReal) * ((matmul (F := Ideal) _ _ _ _ _ (ix3 h a b) : EReal) - (broadcastTo _ _ _ (ix3 h a b) : EReal)) * (Ideal.ofBits .f32 0x3DD105EC#32 : EReal) : EReal) = _
  rw [pay22 H, dp H, rowOver, H.d, w_sc, ← EReal.coe_sub, ← EReal.coe_mul, ← EReal.coe_mul]
  rfl

theorem pay8 (old : FVec Ideal S4x512x128 .f32) (h : Fin 4) (a : Fin 512) (k : Fin 128) :
    k0_pay8 (F := Ideal) (k0_pay19 (F := Ideal) xq) (k0_pay24 (F := Ideal) xq xk xo xl xv xd) (k0_pay25 (F := Ideal)) old (ix3 h a k)
      = (old (ix3 h a k) : EReal) + ((B.dk false h a k : ℝ) : EReal) := by
  unfold k0_pay8 k0_pay19
  dsimp only
  simp only [shapeCast_self]
  exact congrArg ((old (ix3 h a k) : EReal) + ·) (addK H (pay7 H) h a k)

theorem pay9 (old : FVec Ideal S1x4x512x128 .f32) (h : Fin 4) (b : Fin 512) (k : Fin 128) :
    k0_pay9 (F := Ideal) (k0_pay20 (F := Ideal) xk) (k0_pay24 (F := Ideal) xq xk xo xl xv xd) (k0_pay25 (F := Ideal)) old (ix4 0 h b k)
      = (old (ix4 0 h b k) : EReal) + ((B.dq false h b k : ℝ) : EReal) := by
  unfold k0_pay9 k0_pay20
  dsimp only
  simp only [shapeCast_self]
  rw [unpage]
  refine (addf_apply _ _ _).trans ?_
  rw [page]
  exact congrArg ((old (ix4 0 h b k) : EReal) + ·) (addQ H (pay7 H) h b k)

end Below

end Block

end Cert.MlaIdeal.Payloads

end
-- ==== Proof.Mla.Block.lean ====
/-
  What one grid point leaves in the running sums and in the output blocks: the block's part of the gradients added,
  or the sums as they were, by the place of the keys' block relative to the queries' block.
-/
module

public import proofs.«01_k».proof.Proof.Mla.Payloads
public import proofs.«01_k».proof.Proof.Gen.MlaIdeal.Frame
public import Idealize.ShloMosaic.Lib.WritesUnit

@[expose] public section

noncomputable section

namespace Cert.MlaIdeal.Block

open Idealize.ShloMosaic hiding ix1 ix2 ix3 ix4
open Cert.MlaIdeal Cert.MlaIdeal.Gen Cert.MlaIdeal.Payloads Idealize.ShloMosaic.ValueIdx Idealize.ShloMosaic.TcCoe Idealize.SL.Sem

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Row

variable {sig : RefSig} {κ : Kind} {sp : Space} (v : View sig κ sp S8x4x512x128 .f32) (f : v.ty.Contents (Elt Ideal))

/-- A page stored at place `j₀`: that page is the new one, every other page as before. -/
theorem page_write {off : Fin 4 → ℕ} {j₀ : ℕ} (ho : off = ![j₀, 0, 0, 0]) (inb : ∀ a, off a + (![1, 4, 512, 128] : Fin 4 → ℕ) a ≤ S8x4x512x128.size a)
    (w : S1x4x512x128.Idx → Elt Ideal .f32) (L : List (View.Piece (Elt Ideal) S8x4x512x128 .f32))
    (j : Fin 8) (h : Fin 4) (b : Fin 512) (e : Fin 128) :
    v.read (Elt Ideal) (v.writes (Elt Ideal) f (⟨Rect.unit (s := S8x4x512x128) off ![1, 4, 512, 128] inb, w⟩ :: L)) (ix4 j h b e)
      = if j.val = j₀ then w (ix4 (0 : Fin 1) h b e) else v.read (Elt Ideal) (v.writes (Elt Ideal) f L) (ix4 j h b e) := by
  by_cases hj : j.val = j₀
  · rw [if_pos hj]
    refine View.read_writes_cons_unit_of_mem v f inb w L _ (ix4 (0 : Fin 1) h b e) ho fun a => ?_
    match a with
    | ⟨0, _⟩ => exact hj
    | ⟨1, _⟩ => exact (Nat.zero_add _).symm
    | ⟨2, _⟩ => exact (Nat.zero_add _).symm
    | ⟨3, _⟩ => exact (Nat.zero_add _).symm
  · rw [if_neg hj]
    refine View.read_writes_cons_unit_of_not_mem v f inb w L _ ho 0 ?_
    show j.val < j₀ ∨ j₀ + 1 ≤ j.val
    omega

/-- A page read at place `j₀`. -/
theorem page_read {off : Fin 4 → ℕ} (j₀ : Fin 8) (ho : off = ![j₀.val, 0, 0, 0]) (inb : ∀ a, off a + (![1, 4, 512, 128] : Fin 4 → ℕ) a ≤ S8x4x512x128.size a)
    (X : S8x4x512x128.Idx → Elt Ideal .f32) (h : Fin 4) (b : Fin 512) (e : Fin 128) :
    View.ld X (Rect.unit (s := S8x4x512x128) off ![1, 4, 512, 128] inb) (ix4 (0 : Fin 1) h b e : S1x4x512x128.Idx) = X (ix4 j₀ h b e) := by
  subst ho
  refine congrArg X (funext fun a => Fin.ext ?_)
  match a with
  | ⟨0, _⟩ => show j₀.val + 1 * 0 = j₀.val; omega
  | ⟨1, _⟩ => show 0 + 1 * h.val = h.val; omega
  | ⟨2, _⟩ => show 0 + 1 * b.val = b.val; omega
  | ⟨3, _⟩ => show 0 + 1 * e.val = e.val; omega

/-- An array filled at once. -/
theorem fill_read (inb : ∀ a, (![0, 0, 0, 0] : Fin 4 → ℕ) a + (![8, 4, 512, 128] : Fin 4 → ℕ) a ≤ S8x4x512x128.size a)
    (w : S8x4x512x128.Idx → Elt Ideal .f32) (i : S8x4x512x128.Idx) :
    v.read (Elt Ideal) (v.writes (Elt Ideal) f [⟨Rect.unit (s := S8x4x512x128) ![0, 0, 0, 0] ![8, 4, 512, 128] inb, w⟩]) i = w i :=
  View.read_writes_cons_unit_of_mem v f inb w [] i i hz4 fun a => (Nat.zero_add _).symm

end Row

theorem pay1_apply (i : S8x4x512x128.Idx) : k0_pay1 (F := Ideal) i = (0 : EReal) := by
  unfold k0_pay1; simp only [shapeCast_self]; exact Ideal.ofBits_zero_f32

theorem pay2_apply (i : S4x512x128.Idx) : k0_pay2 (F := Ideal) i = (0 : EReal) := by
  unfold k0_pay2; simp only [shapeCast_self]; exact Ideal.ofBits_zero_f32

theorem pay3_apply (i : S4x512x64.Idx) : k0_pay3 (F := Ideal) i = (0 : EReal) := by
  unfold k0_pay3; simp only [shapeCast_self]; exact Ideal.ofBits_zero_f32

/-- The page of the point's queries. -/
theorem place (t : Fin cfg0.N) : (BitVec.ofNat 32 (grid0.coords t 2).val).toNat = t.val % 8 := by
  revert t; decide +kernel

theorem place4 (t : Fin cfg0.N) :
    ![BitVec.toNat (Scalar.indexCast (BitVec.ofNat 32 (grid0.coords t 2).val)), 0, 0, 0] = ![t.val % 8, 0, 0, 0] := by
  rw [← place t]; rfl

variable (m : (ℓ : Loc nD τ sig) → Buf (Elt Ideal) ℓ) (c : Dev nD) (t : Fin cfg0.N)

abbrev bQ : FVec Ideal S4x512x128 .bf16 := iblk m c 0 t
abbrev bK : FVec Ideal S4x512x128 .bf16 := iblk m c 1 t
abbrev bV : FVec Ideal S4x512x64 .bf16 := iblk m c 2 t
abbrev bO : FVec Ideal S4x512x64 .bf16 := iblk m c 3 t
abbrev bL : FVec Ideal S4x1x512 .f32 := iblk m c 4 t
abbrev bD : FVec Ideal S4x1x512 .f32 := iblk m c 5 t

/-- The three running sums: the gradients of the queries, of the keys and of the values. -/
abbrev Sums : Type := Vec Ideal S8x4x512x128 .f32 × Vec Ideal S4x512x128 .f32 × Vec Ideal S4x512x64 .f32

/-- The sums with a block's part added, the queries' at page `j₀`. -/
structure Adds (B : Blk) (masked : Bool) (j₀ : ℕ) (old new : Sums) : Prop where
  q : ∀ j h b e, new.1 (ix4 j h b e)
    = ((old.1 (ix4 j h b e) : EReal) + (if j.val = j₀ then ((B.dq masked h b e : ℝ) : EReal) else 0) : EReal)
  k : ∀ h a e, new.2.1 (ix3 h a e) = ((old.2.1 (ix3 h a e) : EReal) + ((B.dk masked h a e : ℝ) : EReal) : EReal)
  v : ∀ h a e, new.2.2 (ix3 h a e) = ((old.2.2 (ix3 h a e) : EReal) + ((B.dv masked h a e : ℝ) : EReal) : EReal)

variable {m c t} {B : Blk} (H : Holds B (bQ m c t) (bK m c t) (bV m c t) (bO m c t) (bL m c t) (bD m c t))

section
include H

/-- The first point of a head group. -/
theorem adds_first (h0 : t.val % 64 = 0) :
    Adds B true (t.val % 8) (fun _ => (0 : EReal), fun _ => (0 : EReal), fun _ => (0 : EReal)) (outsAt0 m c t.val t.isLt).2.2.2 := by
  rw [outsAt0_A m c t h0 (by omega) (by omega) (by omega) (by omega) (by omega)]
  refine ⟨fun j h b e => ?_, fun h a e => ?_, fun h a e => ?_⟩
  all_goals
      dsimp only
      first
        | unfold sout0_A_0 kernelRun0_A
        | unfold sout0_A_1; rw [View.read_writes_eq_canon _ _ _ fun q => scover0_A_1 (y := q) ..]; unfold kernelRun0_A
        | unfold sout0_A_2; rw [View.read_writes_eq_canon _ _ _ fun q => scover0_A_2 (y := q) ..]; unfold kernelRun0_A
      dsimp only
      sl_unfold_words
      simp only [View.readAt_eq_ld, (hs0_0 t).read_unread, (hs0_1 t).read_unread, (hs0_2 t).read_unread, (hs0_3 t).read_unread,
        (hs0_4 t).read_unread, (hs0_5 t).read_unread, (Memref.isWhole_whole _).read_unread,
        View.ld_unit_zero (S := S4x512x128) hz3, View.ld_unit_zero (S := S4x512x64) hz3, View.ld_unit_zero (S := S4x1x512) hz3]
  · refine (page_write _ _ (place4 t) _ _ _ j h b e).trans ?_
    by_cases hj : j.val = t.val % 8
    · rw [if_pos hj, if_pos hj]
      refine (pay6 H _ h b e).trans (congrArg (· + ((B.dq true h b e : ℝ) : EReal)) ?_)
      exact (page_read j ((place4 t).trans (by rw [hj])) _ _ h b e).trans ((fill_read _ _ _ _ _).trans (pay1_apply _))
    · rw [if_neg hj, if_neg hj, add_zero]
      exact (fill_read _ _ _ _ _).trans (pay1_apply _)
  · rw [View.canon_cons_unit_zero (S := S4x512x128) hz3, View.readCov_unit_zero (S := S4x512x128) _ hz3]
    exact (pay5 H _ h a e).trans (congrArg (· + ((B.dk true h a e : ℝ) : EReal)) (pay2_apply _))
  · rw [View.canon_cons_unit_zero (S := S4x512x64) hz3, View.readCov_unit_zero (S := S4x512x64) _ hz3]
    exact (pay17 H _ h a e).trans (congrArg (· + ((B.dv true h a e : ℝ) : EReal)) (pay3_apply _))

/-- Every later point on the diagonal. -/
theorem adds_diag (h0 : ¬t.val % 64 = 0) (h2 : t.val / 8 % 8 = t.val % 8) :
    Adds B true (t.val % 8)
      (outsAt0 m c (t.val - 1) (Nat.lt_of_le_of_lt (Nat.sub_le _ _) t.isLt)).2.2.2 (outsAt0 m c t.val t.isLt).2.2.2 := by
  have ht : t.val < 128 := lt_of_lt_of_eq t.isLt N_0
  by_cases h4 : t.val % 8 = 7
  on_goal 1 => rw [outsAt0_G m c t h0 (by omega) h2 (by omega) h4 (by omega)]
  on_goal 2 => rw [outsAt0_E m c t h0 (by omega) h2 (by omega) h4 (by omega)]
  all_goals
    refine ⟨fun j h b e => ?_, fun h a e => ?_, fun h a e => ?_⟩
    all_goals
      dsimp only
      first
        | unfold sout0_G_0 kernelRun0_G
        | unfold sout0_G_1; rw [View.read_writes_eq_canon _ _ _ fun q => scover0_G_1 (y := q) ..]; unfold kernelRun0_G
        | unfold sout0_G_2; rw [View.read_writes_eq_canon _ _ _ fun q => scover0_G_2 (y := q) ..]; unfold kernelRun0_G
        | unfold sout0_E_0 kernelRun0_E
        | unfold sout0_E_1; rw [View.read_writes_eq_canon _ _ _ fun q => scover0_E_1 (y := q) ..]; unfold kernelRun0_E
        | unfold sout0_E_2; rw [View.read_writes_eq_canon _ _ _ fun q => scover0_E_2 (y := q) ..]; unfold kernelRun0_E
      dsimp only
      sl_unfold_words
      try rw [View.canon_unit_zero hz3]
      simp only [View.readAt_eq_ld, (hs0_0 t).read_unread, (hs0_1 t).read_unread, (hs0_2 t).read_unread, (hs0_3 t).read_unread,
        (hs0_4 t).read_unread, (hs0_5 t).read_unread, (Memref.isWhole_whole _).read_unread,
        View.ld_unit_zero (S := S4x512x128) hz3, View.ld_unit_zero (S := S4x512x64) hz3, View.ld_unit_zero (S := S4x1x512) hz3]
    · refine (page_write _ _ (place4 t) _ _ _ j h b e).trans ?_
      by_cases hj : j.val = t.val % 8
      · rw [if_pos hj, if_pos hj]
        refine (pay6 H _ h b e).trans (congrArg (· + ((B.dq true h b e : ℝ) : EReal)) ?_)
        exact page_read j ((place4 t).trans (by rw [hj])) _ _ h b e
      · rw [if_neg hj, if_neg hj, add_zero]
        exact congrFun ((Memref.isWhole_whole _).read_unread _) _
    · exact pay5 H _ h a e
    · exact pay17 H _ h a e

/-- Every point above the diagonal. -/
theorem adds_above (h0 : ¬t.val % 64 = 0) (h2 : t.val / 8 % 8 < t.val % 8) :
    Adds B false (t.val % 8)
      (outsAt0 m c (t.val - 1) (Nat.lt_of_le_of_lt (Nat.sub_le _ _) t.isLt)).2.2.2 (outsAt0 m c t.val t.isLt).2.2.2 := by
  have ht : t.val < 128 := lt_of_lt_of_eq t.isLt N_0
  by_cases h4 : t.val % 8 = 7
  on_goal 1 => rw [outsAt0_C m c t h0 (by omega) (by omega) (by omega) h4 (by omega)]
  on_goal 2 => rw [outsAt0_B m c t h0 (by omega) (by omega) (by omega) h4 (by omega)]
  all_goals
    refine ⟨fun j h b e => ?_, fun h a e => ?_, fun h a e => ?_⟩
    all_goals
      dsimp only
      first
        | unfold sout0_C_0 kernelRun0_C
        | unfold sout0_C_1; rw [View.read_writes_eq_canon _ _ _ fun q => scover0_C_1 (y := q) ..]; unfold kernelRun0_C
        | unfold sout0_C_2; rw [View.read_writes_eq_canon _ _ _ fun q => scover0_C_2 (y := q) ..]; unfold kernelRun0_C
        | unfold sout0_B_0 kernelRun0_B
        | unfold sout0_B_1; rw [View.read_writes_eq_canon _ _ _ fun q => scover0_B_1 (y := q) ..]; unfold kernelRun0_B
        | unfold sout0_B_2; rw [View.read_writes_eq_canon _ _ _ fun q => scover0_B_2 (y := q) ..]; unfold kernelRun0_B
      dsimp only
      sl_unfold_words
      try rw [View.canon_unit_zero hz3]
      simp only [View.readAt_eq_ld, (hs0_0 t).read_unread, (hs0_1 t).read_unread, (hs0_2 t).read_unread, (hs0_3 t).read_unread,
        (hs0_4 t).read_unread, (hs0_5 t).read_unread, (Memref.isWhole_whole _).read_unread,
        View.ld_unit_zero (S := S4x512x128) hz3, View.ld_unit_zero (S := S4x512x64) hz3, View.ld_unit_zero (S := S4x1x512) hz3]
    · refine (page_write _ _ (place4 t) _ _ _ j h b e).trans ?_
      by_cases hj : j.val = t.val % 8
      · rw [if_pos hj, if_pos hj]
        refine (pay9 H _ h b e).trans (congrArg (· + ((B.dq false h b e : ℝ) : EReal)) ?_)
        exact page_read j ((place4 t).trans (by rw [hj])) _ _ h b e
      · rw [if_neg hj, if_neg hj, add_zero]
        exact congrFun ((Memref.isWhole_whole _).read_unread _) _
    · exact pay8 H _ h a e
    · exact pay23 H _ h a e

end

variable (m c t)

/-- The first point of a later row of blocks below the diagonal: the keys' and values' sums start again. -/
theorem keeps_start (h0 : ¬t.val % 64 = 0) (h1 : t.val % 8 = 0) :
    (outsAt0 m c t.val t.isLt).2.2.2 = ((outsAt0 m c (t.val - 1) (Nat.lt_of_le_of_lt (Nat.sub_le _ _) t.isLt)).2.2.2.1,
      fun _ => (0 : EReal), fun _ => (0 : EReal)) := by
  have ht : t.val < 128 := lt_of_lt_of_eq t.isLt N_0
  rw [outsAt0_D m c t h0 h1 (by omega) (by omega) (by omega) (by omega)]
  refine Prod.ext rfl (Prod.ext ?_ ?_)
  · dsimp only
    unfold sout0_D_1; rw [View.read_writes_eq_canon _ _ _ fun q => scover0_D_1 (y := q) ..]; unfold kernelRun0_D
    dsimp only
    rw [View.canon_unit_zero hz3]
    exact funext pay2_apply
  · dsimp only
    unfold sout0_D_2; rw [View.read_writes_eq_canon _ _ _ fun q => scover0_D_2 (y := q) ..]; unfold kernelRun0_D
    dsimp only
    rw [View.canon_unit_zero hz3]
    exact funext pay3_apply

/-- A point below the diagonal leaves the sums alone. -/
theorem keeps (h1 : ¬t.val % 8 = 0) (hlt : t.val % 8 < t.val / 8 % 8) :
    (outsAt0 m c t.val t.isLt).2.2.2 = (outsAt0 m c (t.val - 1) (Nat.lt_of_le_of_lt (Nat.sub_le _ _) t.isLt)).2.2.2 := by
  have ht : t.val < 128 := lt_of_lt_of_eq t.isLt N_0
  rw [outsAt0_F m c t (by omega) h1 (by omega) (by omega) (by omega) (by omega)]
  rfl

/-- At the end of a row of blocks the keys' sum is the block written back. -/
theorem flush_k (h4 : t.val % 8 = 7) : (outsAt0 m c t.val t.isLt).2.1 = (outsAt0 m c t.val t.isLt).2.2.2.2.1 := by
  have ht : t.val < 128 := lt_of_lt_of_eq t.isLt N_0
  by_cases h5 : t.val % 64 = 63
  · rw [outsAt0_G m c t (by omega) (by omega) (by omega) (by omega) h4 h5]
    dsimp only
    unfold out0_G_7 sout0_G_1
    refine (View.read_writes_eq_canon _ _ _ fun q => cover0_G_7 (y := q) ..).trans (Eq.trans ?_ (View.read_writes_eq_canon _ _ _ fun q => scover0_G_1 (y := q) ..).symm)
    unfold kernelRun0_G
    dsimp only
    sl_unfold_words
    simp only [View.readAt_eq_ld, (hs0_0 t).read_unread, (hs0_1 t).read_unread, (hs0_2 t).read_unread, (hs0_3 t).read_unread,
      (hs0_4 t).read_unread, (hs0_5 t).read_unread, (Memref.isWhole_whole _).read_unread,
      View.ld_unit_zero (S := S4x512x128) hz3, View.ld_unit_zero (S := S4x512x64) hz3, View.ld_unit_zero (S := S4x1x512) hz3]
    refine (View.canon_unit_zero (S := S4x512x128) hz3 _ _).trans (Eq.trans ?_ (View.canon_unit_zero (S := S4x512x128) hz3 _ _).symm)
    exact View.readCov_unit_zero (S := S4x512x128) _ hz3 _ _
  · rw [outsAt0_C m c t (by omega) (by omega) (by omega) (by omega) h4 h5]
    dsimp only
    unfold out0_C_7 sout0_C_1
    refine (View.read_writes_eq_canon _ _ _ fun q => cover0_C_7 (y := q) ..).trans (Eq.trans ?_ (View.read_writes_eq_canon _ _ _ fun q => scover0_C_1 (y := q) ..).symm)
    unfold kernelRun0_C
    dsimp only
    sl_unfold_words
    simp only [View.readAt_eq_ld, (hs0_0 t).read_unread, (hs0_1 t).read_unread, (hs0_2 t).read_unread, (hs0_3 t).read_unread,
      (hs0_4 t).read_unread, (hs0_5 t).read_unread, (Memref.isWhole_whole _).read_unread,
      View.ld_unit_zero (S := S4x512x128) hz3, View.ld_unit_zero (S := S4x512x64) hz3, View.ld_unit_zero (S := S4x1x512) hz3]
    refine (View.canon_unit_zero (S := S4x512x128) hz3 _ _).trans (Eq.trans ?_ (View.canon_unit_zero (S := S4x512x128) hz3 _ _).symm)
    exact View.readCov_unit_zero (S := S4x512x128) _ hz3 _ _

/-- So is the values' sum. -/
theorem flush_v (h4 : t.val % 8 = 7) : (outsAt0 m c t.val t.isLt).2.2.1 = (outsAt0 m c t.val t.isLt).2.2.2.2.2 := by
  have ht : t.val < 128 := lt_of_lt_of_eq t.isLt N_0
  by_cases h5 : t.val % 64 = 63
  · rw [outsAt0_G m c t (by omega) (by omega) (by omega) (by omega) h4 h5]
    dsimp only
    unfold out0_G_8 sout0_G_2
    refine (View.read_writes_eq_canon _ _ _ fun q => cover0_G_8 (y := q) ..).trans (Eq.trans ?_ (View.read_writes_eq_canon _ _ _ fun q => scover0_G_2 (y := q) ..).symm)
    unfold kernelRun0_G
    dsimp only
    sl_unfold_words
    simp only [View.readAt_eq_ld, (hs0_0 t).read_unread, (hs0_1 t).read_unread, (hs0_2 t).read_unread, (hs0_3 t).read_unread,
      (hs0_4 t).read_unread, (hs0_5 t).read_unread, (Memref.isWhole_whole _).read_unread,
      View.ld_unit_zero (S := S4x512x128) hz3, View.ld_unit_zero (S := S4x512x64) hz3, View.ld_unit_zero (S := S4x1x512) hz3]
    refine (View.canon_unit_zero (S := S4x512x64) hz3 _ _).trans (Eq.trans ?_ (View.canon_unit_zero (S := S4x512x64) hz3 _ _).symm)
    exact View.readCov_unit_zero (S := S4x512x64) _ hz3 _ _
  · rw [outsAt0_C m c t (by omega) (by omega) (by omega) (by omega) h4 h5]
    dsimp only
    unfold out0_C_8 sout0_C_2
    refine (View.read_writes_eq_canon _ _ _ fun q => cover0_C_8 (y := q) ..).trans (Eq.trans ?_ (View.read_writes_eq_canon _ _ _ fun q => scover0_C_2 (y := q) ..).symm)
    unfold kernelRun0_C
    dsimp only
    sl_unfold_words
    simp only [View.readAt_eq_ld, (hs0_0 t).read_unread, (hs0_1 t).read_unread, (hs0_2 t).read_unread, (hs0_3 t).read_unread,
      (hs0_4 t).read_unread, (hs0_5 t).read_unread, (Memref.isWhole_whole _).read_unread,
      View.ld_unit_zero (S := S4x512x128) hz3, View.ld_unit_zero (S := S4x512x64) hz3, View.ld_unit_zero (S := S4x1x512) hz3]
    refine (View.canon_unit_zero (S := S4x512x64) hz3 _ _).trans (Eq.trans ?_ (View.canon_unit_zero (S := S4x512x64) hz3 _ _).symm)
    exact View.readCov_unit_zero (S := S4x512x64) _ hz3 _ _

/-- The pages of the queries' sum laid one after another. -/
def rowsOf (X : S8x4x512x128.Idx → Elt Ideal .f32) (i : S4x4096x128.Idx) : Elt Ideal .f32 :=
  X (ix4 (⟨(i 1).val / 512, by have : (i 1).val < 4096 := (i 1).isLt; omega⟩ : Fin 8) (i 0 : Fin 4)
    (⟨(i 1).val % 512, Nat.mod_lt _ (by decide)⟩ : Fin 512) (i 2 : Fin 128))

theorem rows_piece {sig : RefSig} {κ : Kind} {sp : Space} {v : View sig κ sp S8x4x512x128 .f32} {f : v.ty.Contents (Elt Ideal)}
    {X : S8x4x512x128.Idx → Elt Ideal .f32} (hX : v.read (Elt Ideal) f = X) (j : Fin 8) (o : ℕ) (ho : o = 512 * j.val)
    {off : Fin 4 → ℕ} (hoff : off = ![j.val, 0, 0, 0])
    (inb : ∀ a, off a + (![1, 4, 512, 128] : Fin 4 → ℕ) a ≤ S8x4x512x128.size a)
    (inb' : ∀ a, (![0, o, 0] : Fin 3 → ℕ) a + (![4, 512, 128] : Fin 3 → ℕ) a ≤ S4x4096x128.size a) (x : S4x512x128.Idx) :
    shapeCast S4x512x128 (v.readAt (Elt Ideal) (Rect.unit (s := S8x4x512x128) off ![1, 4, 512, 128] inb).toLoadRect f : S1x4x512x128.Idx → Elt Ideal .f32)
        shapeCasts_S1x4x512x128_S4x512x128 x
      = rowsOf X ((Rect.unit (s := S4x4096x128) ![0, o, 0] ![4, 512, 128] inb').emb x) := by
  subst hX
  have hx : x = ix3 (x 0 : Fin 4) (x 1 : Fin 512) (x 2 : Fin 128) := by
    funext a
    match a with
    | ⟨0, _⟩ => rfl
    | ⟨1, _⟩ => rfl
    | ⟨2, _⟩ => rfl
  have h1 : (x 1).val < 512 := (x 1).isLt
  refine (congrArg _ hx).trans ((page _ _ _ _).trans ((page_read j hoff inb (v.read (Elt Ideal) f) _ _ _).trans ?_))
  refine congrArg (v.read (Elt Ideal) f) (funext fun a => Fin.ext ?_)
  match a with
  | ⟨0, _⟩ => show j.val = (o + 1 * (x 1).val) / 512; omega
  | ⟨1, _⟩ => show (x 0).val = 0 + 1 * (x 0).val; omega
  | ⟨2, _⟩ => show (x 1).val = (o + 1 * (x 1).val) % 512; omega
  | ⟨3, _⟩ => show (x 2).val = 0 + 1 * (x 2).val; omega

/-- At the end of a head group the pages of the queries' sum are written back. -/
theorem flush_q (h5 : t.val % 64 = 63) : (outsAt0 m c t.val t.isLt).1 = rowsOf (outsAt0 m c t.val t.isLt).2.2.2.1 := by
  have ht : t.val < 128 := lt_of_lt_of_eq t.isLt N_0
  rw [outsAt0_G m c t (by omega) (by omega) (by omega) (by omega) (by omega) h5]
  dsimp only
  unfold out0_G_6
  funext y
  refine View.read_writes_apply_of_pieces _ _ _ _ ?_ y (cover0_G_6 (y := y) ..)
  unfold sout0_G_0 kernelRun0_G
  dsimp only
  sl_unfold_words
  unfold k0_pay10 k0_pay11 k0_pay12 k0_pay26 k0_pay27 k0_pay28 k0_pay29 k0_pay30
  dsimp only
  generalize View.writes (View.whole cc0_scratch0) (Elt Ideal) _ _ = W
  refine List.forall_mem_cons.mpr ⟨fun x => rows_piece (v := View.whole cc0_scratch0) (f := W) rfl 7 3584 rfl (off := ![7, 0, 0, 0]) rfl _ inb_S4x4096x128_S4x512x128_0_3584_0 x, ?_⟩
  refine List.forall_mem_cons.mpr ⟨fun x => rows_piece (v := View.whole cc0_scratch0) (f := W) rfl 6 3072 rfl (off := ![6, 0, 0, 0]) rfl _ inb_S4x4096x128_S4x512x128_0_3072_0 x, ?_⟩
  refine List.forall_mem_cons.mpr ⟨fun x => rows_piece (v := View.whole cc0_scratch0) (f := W) rfl 5 2560 rfl (off := ![5, 0, 0, 0]) rfl _ inb_S4x4096x128_S4x512x128_0_2560_0 x, ?_⟩
  refine List.forall_mem_cons.mpr ⟨fun x => rows_piece (v := View.whole cc0_scratch0) (f := W) rfl 4 2048 rfl (off := ![4, 0, 0, 0]) rfl _ inb_S4x4096x128_S4x512x128_0_2048_0 x, ?_⟩
  refine List.forall_mem_cons.mpr ⟨fun x => rows_piece (v := View.whole cc0_scratch0) (f := W) rfl 3 1536 rfl (off := ![3, 0, 0, 0]) rfl _ inb_S4x4096x128_S4x512x128_0_1536_0 x, ?_⟩
  refine List.forall_mem_cons.mpr ⟨fun x => rows_piece (v := View.whole cc0_scratch0) (f := W) rfl 2 1024 rfl (off := ![2, 0, 0, 0]) rfl _ inb_S4x4096x128_S4x512x128_0_1024_0 x, ?_⟩
  refine List.forall_mem_cons.mpr ⟨fun x => rows_piece (v := View.whole cc0_scratch0) (f := W) rfl 1 512 rfl (off := ![1, 0, 0, 0]) rfl _ inb_S4x4096x128_S4x512x128_0_512_0 x, ?_⟩
  exact List.forall_mem_cons.mpr ⟨fun x => rows_piece (v := View.whole cc0_scratch0) (f := W) rfl 0 0 rfl (off := ![0, 0, 0, 0]) rfl _ inb_S4x4096x128_S4x512x128_0_0_0 x, fun _ h => absurd h List.not_mem_nil⟩

end Cert.MlaIdeal.Block

end
-- ==== Proof.Mla.Math.lean ====
/-
  The gradient of the causal attention over whole arrays of reals, and the parts of it that one pair of a key block
  and a query block gives.
-/
module

public import proofs.«01_k».proof.Proof.Mla.Payloads
public import proofs.«01_k».proof.Proof.Base.Rows

@[expose] public section

noncomputable section

namespace Cert.MlaIdeal.Math

open Cert.Rows Cert.MlaIdeal.Payloads

/-- Head by head the rows of the queries, keys, values and cotangents, the log-sum of each query's row and the row's
    sum of cotangent times output. -/
structure Arr where
  Q : Fin 8 → Fin 4096 → Fin 128 → ℝ
  K : Fin 8 → Fin 4096 → Fin 128 → ℝ
  V : Fin 8 → Fin 4096 → Fin 64 → ℝ
  O : Fin 8 → Fin 4096 → Fin 64 → ℝ
  L : Fin 8 → Fin 4096 → ℝ
  D : Fin 8 → Fin 4096 → ℝ

namespace Arr

variable (A : Arr)

/-- The weight of key `r` for query `p`. -/
def wt (h : Fin 8) (p r : Fin 4096) : ℝ :=
  if p < r then 0 else Real.exp ((∑ e, A.K h r e * A.Q h p e) * sc - A.L h p)

/-- The slope of the score of key `r` for query `p`. -/
def ds (h : Fin 8) (p r : Fin 4096) : ℝ := A.wt h p r * ((∑ e, A.V h r e * A.O h p e) - A.D h p) * sc

def dV (h : Fin 8) (r : Fin 4096) (e : Fin 64) : ℝ := ∑ p, A.wt h p r * A.O h p e
def dK (h : Fin 8) (r : Fin 4096) (e : Fin 128) : ℝ := ∑ p, A.ds h p r * A.Q h p e
def dQ (h : Fin 8) (p : Fin 4096) (e : Fin 128) : ℝ := ∑ r, A.ds h p r * A.K h r e

/-- Head group `g`, key block `i`, query block `j`. -/
def blk (g i j : ℕ) : Blk where
  Q h b e := A.Q (row 4 g h) (row 512 j b) e
  K h a e := A.K (row 4 g h) (row 512 i a) e
  V h a e := A.V (row 4 g h) (row 512 i a) e
  O h b e := A.O (row 4 g h) (row 512 j b) e
  L h b := A.L (row 4 g h) (row 512 j b)
  D h b := A.D (row 4 g h) (row 512 j b)

def partV (g i j : ℕ) (h : Fin 4) (a : Fin 512) (e : Fin 64) : ℝ :=
  ∑ b : Fin 512, A.wt (row 4 g h) (row 512 j b) (row 512 i a) * A.O (row 4 g h) (row 512 j b) e
def partK (g i j : ℕ) (h : Fin 4) (a : Fin 512) (e : Fin 128) : ℝ :=
  ∑ b : Fin 512, A.ds (row 4 g h) (row 512 j b) (row 512 i a) * A.Q (row 4 g h) (row 512 j b) e
def partQ (g i j : ℕ) (h : Fin 4) (b : Fin 512) (e : Fin 128) : ℝ :=
  ∑ a : Fin 512, A.ds (row 4 g h) (row 512 j b) (row 512 i a) * A.K (row 4 g h) (row 512 i a) e

variable {A} {g i j : ℕ}

theorem row_lt {i : ℕ} (hi : i < 8) (a : Fin 512) : (row 512 i a : Fin 4096).val = 512 * i + a.val := row_val a 8 rfl hi

theorem wt_blk {masked : Bool} (hi : i < 8) (hj : j < 8) (hm : if masked = true then i = j else i < j) (h : Fin 4) (a b : Fin 512) :
    (A.blk g i j).wt masked h a b = A.wt (row 4 g h) (row 512 j b) (row 512 i a) := by
  unfold wt Blk.wt
  refine if_congr ?_ rfl rfl
  rw [Fin.lt_def, Fin.lt_def, row_lt hi, row_lt hj]
  have := a.isLt
  have := b.isLt
  cases masked
  · rw [if_neg (by decide)] at hm; simp only [Bool.false_eq_true, false_and, false_iff]; omega
  · rw [if_pos rfl] at hm; simp only [true_and]; omega

theorem ds_blk {masked : Bool} (hi : i < 8) (hj : j < 8) (hm : if masked = true then i = j else i < j) (h : Fin 4) (a b : Fin 512) :
    (A.blk g i j).ds masked h a b = A.ds (row 4 g h) (row 512 j b) (row 512 i a) := by
  unfold ds Blk.ds
  rw [wt_blk hi hj hm]
  rfl

theorem dv_blk {masked : Bool} (hi : i < 8) (hj : j < 8) (hm : if masked = true then i = j else i < j) (h : Fin 4) (a : Fin 512)
    (e : Fin 64) : (A.blk g i j).dv masked h a e = A.partV g i j h a e :=
  Finset.sum_congr rfl fun b _ => by rw [wt_blk hi hj hm]; rfl

theorem dk_blk {masked : Bool} (hi : i < 8) (hj : j < 8) (hm : if masked = true then i = j else i < j) (h : Fin 4) (a : Fin 512)
    (e : Fin 128) : (A.blk g i j).dk masked h a e = A.partK g i j h a e :=
  Finset.sum_congr rfl fun b _ => by rw [ds_blk hi hj hm]; rfl

theorem dq_blk {masked : Bool} (hi : i < 8) (hj : j < 8) (hm : if masked = true then i = j else i < j) (h : Fin 4) (b : Fin 512)
    (e : Fin 128) : (A.blk g i j).dq masked h b e = A.partQ g i j h b e :=
  Finset.sum_congr rfl fun a _ => by rw [ds_blk hi hj hm]; rfl

/-- No query sees a later block of keys. -/
theorem wt_below (hi : i < 8) (hj : j < i) (h : Fin 8) (a b : Fin 512) : A.wt h (row 512 j b) (row 512 i a) = 0 := by
  unfold wt
  refine if_pos ?_
  rw [Fin.lt_def, row_lt hi, row_lt (by omega)]
  have := b.isLt
  omega

theorem partV_below (hi : i < 8) (hj : j < i) (h : Fin 4) (a : Fin 512) (e : Fin 64) : A.partV g i j h a e = 0 :=
  Finset.sum_eq_zero fun b _ => by rw [wt_below hi hj, zero_mul]

theorem partK_below (hi : i < 8) (hj : j < i) (h : Fin 4) (a : Fin 512) (e : Fin 128) : A.partK g i j h a e = 0 :=
  Finset.sum_eq_zero fun b _ => by unfold ds; rw [wt_below hi hj, zero_mul, zero_mul, zero_mul]

theorem partQ_below (hi : i < 8) (hj : j < i) (h : Fin 4) (b : Fin 512) (e : Fin 128) : A.partQ g i j h b e = 0 :=
  Finset.sum_eq_zero fun a _ => by unfold ds; rw [wt_below hi hj, zero_mul, zero_mul, zero_mul]

/-! ## All blocks -/

theorem sum_partV (h : Fin 4) (a : Fin 512) (e : Fin 64) :
    ∑ j : Fin 8, A.partV g i j.val h a e = A.dV (row 4 g h) (row 512 i a) e := by
  rw [← Finset.sum_range (fun j => A.partV g i j h a e)]
  exact sum_rows 8 512 rfl fun p => A.wt (row 4 g h) p (row 512 i a) * A.O (row 4 g h) p e

theorem sum_partK (h : Fin 4) (a : Fin 512) (e : Fin 128) :
    ∑ j : Fin 8, A.partK g i j.val h a e = A.dK (row 4 g h) (row 512 i a) e := by
  rw [← Finset.sum_range (fun j => A.partK g i j h a e)]
  exact sum_rows 8 512 rfl fun p => A.ds (row 4 g h) p (row 512 i a) * A.Q (row 4 g h) p e

theorem sum_partQ (h : Fin 4) (b : Fin 512) (e : Fin 128) :
    ∑ i : Fin 8, A.partQ g i.val j h b e = A.dQ (row 4 g h) (row 512 j b) e := by
  rw [← Finset.sum_range (fun i => A.partQ g i j h b e)]
  exact sum_rows 8 512 rfl fun r => A.ds (row 4 g h) (row 512 j b) r * A.K (row 4 g h) r e

end Arr

/-! ## Sums that grow point by point -/

/-- One more block of queries. -/
theorem sum_step {n : ℕ} (hn : n + 1 < 8) (f : Fin 8 → ℝ) :
    (∑ j : Fin 8, if j.val ≤ n + 1 then f j else 0) = (∑ j : Fin 8, if j.val ≤ n then f j else 0) + f ⟨n + 1, hn⟩ := by
  rw [← Fintype.sum_ite_eq' (⟨n + 1, hn⟩ : Fin 8) f, ← Finset.sum_add_distrib]
  refine Finset.sum_congr rfl fun j _ => ?_
  by_cases h1 : j = ⟨n + 1, hn⟩
  · subst h1; simp
  · have : j.val ≠ n + 1 := fun h => h1 (Fin.ext h)
    rw [if_neg h1, add_zero]
    exact if_congr (by omega) rfl rfl

theorem sum_zero (f : Fin 8 → ℝ) : (∑ j : Fin 8, if j.val ≤ 0 then f j else 0) = f 0 := by
  rw [← Fintype.sum_ite_eq' (0 : Fin 8) f]
  exact Finset.sum_congr rfl fun j _ => if_congr (by rw [Fin.ext_iff]; exact Nat.le_zero) rfl rfl

theorem sum_all (f : Fin 8 → ℝ) {n : ℕ} (hn : 7 ≤ n) : (∑ j : Fin 8, if j.val ≤ n then f j else 0) = ∑ j, f j :=
  Finset.sum_congr rfl fun j _ => if_pos (by have := j.isLt; omega)

/-- The points run over the query blocks and then over the key blocks: page `j` grows at its own points. -/
theorem page_step {n : ℕ} (hn : n + 1 < 64) (j : Fin 8) (f : Fin 8 → ℝ) :
    (∑ i : Fin 8, if 8 * i.val + j.val ≤ n + 1 then f i else 0)
      = (∑ i : Fin 8, if 8 * i.val + j.val ≤ n then f i else 0) + (if j.val = (n + 1) % 8 then f ⟨(n + 1) / 8, by omega⟩ else 0) := by
  have hj := j.isLt
  by_cases h : j.val = (n + 1) % 8
  · rw [if_pos h, ← Fintype.sum_ite_eq' (⟨(n + 1) / 8, by omega⟩ : Fin 8) f, ← Finset.sum_add_distrib]
    refine Finset.sum_congr rfl fun i _ => ?_
    by_cases h1 : i = ⟨(n + 1) / 8, by omega⟩
    · have h2 : i.val = (n + 1) / 8 := congrArg Fin.val h1
      rw [if_pos h1, if_pos (by omega), if_neg (by omega), zero_add]
    · have : i.val ≠ (n + 1) / 8 := fun h => h1 (Fin.ext h)
      rw [if_neg h1, add_zero]
      exact if_congr (by omega) rfl rfl
  · rw [if_neg h, add_zero]
    exact Finset.sum_congr rfl fun i _ => if_congr (by omega) rfl rfl

theorem page_zero (j : Fin 8) (f : Fin 8 → ℝ) :
    (∑ i : Fin 8, if 8 * i.val + j.val ≤ 0 then f i else 0) = if j.val = 0 then f 0 else 0 := by
  rw [← Fintype.sum_ite_eq' (0 : Fin 8) f]
  by_cases h : j.val = 0
  · rw [if_pos h]
    exact Finset.sum_congr rfl fun i _ => if_congr (by rw [Fin.ext_iff]; show _ ↔ i.val = 0; omega) rfl rfl
  · rw [if_neg h]
    exact Finset.sum_eq_zero fun i _ => if_neg (by omega)

theorem page_all (j : Fin 8) (f : Fin 8 → ℝ) : (∑ i : Fin 8, if 8 * i.val + j.val ≤ 63 then f i else 0) = ∑ i, f i :=
  Finset.sum_congr rfl fun i _ => if_pos (by have := i.isLt; have := j.isLt; omega)

end Cert.MlaIdeal.Math

end
-- ==== Proof.Mla.Sums.lean ====
/-
  The running sums after each grid point: the parts of the blocks met so far.
-/
module

public import proofs.«01_k».proof.Proof.Mla.Block
public import proofs.«01_k».proof.Proof.Mla.Math

@[expose] public section

noncomputable section

namespace Cert.MlaIdeal.Sums

open Idealize.ShloMosaic hiding ix1 ix2 ix3 ix4
open Cert.MlaIdeal Cert.MlaIdeal.Gen Cert.MlaIdeal.Payloads Cert.MlaIdeal.Block Cert.MlaIdeal.Math Idealize.ShloMosaic.ValueIdx Idealize.ShloMosaic.TcCoe Idealize.SL.Sem

/-- The sums after point `n`. -/
structure Inv (A : Arr) (n : ℕ) (s : Sums) : Prop where
  q : ∀ (j : Fin 8) h b e, s.1 (ix4 j h b e)
    = ((∑ i : Fin 8, if 8 * i.val + j.val ≤ n % 64 then A.partQ (n / 64) i.val j.val h b e else 0 : ℝ) : EReal)
  k : ∀ h a e, s.2.1 (ix3 h a e)
    = ((∑ j : Fin 8, if j.val ≤ n % 8 then A.partK (n / 64) (n / 8 % 8) j.val h a e else 0 : ℝ) : EReal)
  v : ∀ h a e, s.2.2 (ix3 h a e)
    = ((∑ j : Fin 8, if j.val ≤ n % 8 then A.partV (n / 64) (n / 8 % 8) j.val h a e else 0 : ℝ) : EReal)

variable {A : Arr}

/-- The first block of a head group. -/
theorem Inv.first {n : ℕ} (h0 : n % 64 = 0) {s : Sums}
    (h : Adds (A.blk (n / 64) (n / 8 % 8) (n % 8)) true (n % 8) (fun _ => (0 : EReal), fun _ => (0 : EReal), fun _ => (0 : EReal)) s) :
    Inv A n s := by
  have h1 : n % 8 = 0 := by omega
  have h2 : n / 8 % 8 = 0 := by omega
  rw [h1, h2] at h
  refine ⟨fun j g b e => ?_, fun g a e => ?_, fun g a e => ?_⟩
  · rw [h.q, h0, page_zero j fun i => A.partQ (n / 64) i.val j.val g b e, Arr.dq_blk (masked := true) (i := 0) (j := 0) (by decide) (by decide) (by simp)]
    by_cases hj : j.val = 0
    · rw [if_pos hj, if_pos hj, hj]; exact zero_add _
    · rw [if_neg hj, if_neg hj]; exact zero_add _
  · rw [h.k, h1, h2, sum_zero, Arr.dk_blk (masked := true) (i := 0) (j := 0) (by decide) (by decide) (by simp)]; exact zero_add _
  · rw [h.v, h1, h2, sum_zero, Arr.dv_blk (masked := true) (i := 0) (j := 0) (by decide) (by decide) (by simp)]; exact zero_add _

/-- A block more. -/
structure Grows (A : Arr) (n : ℕ) (old new : Sums) : Prop where
  q : ∀ (j : Fin 8) h b e, new.1 (ix4 j h b e)
    = ((old.1 (ix4 j h b e) : EReal) + ((if j.val = n % 8 then A.partQ (n / 64) (n / 8 % 8) j.val h b e else 0 : ℝ) : EReal) : EReal)
  k : ∀ h a e, new.2.1 (ix3 h a e)
    = (((if n % 8 = 0 then (0 : EReal) else (old.2.1 (ix3 h a e) : EReal)) : EReal) + ((A.partK (n / 64) (n / 8 % 8) (n % 8) h a e : ℝ) : EReal) : EReal)
  v : ∀ h a e, new.2.2 (ix3 h a e)
    = (((if n % 8 = 0 then (0 : EReal) else (old.2.2 (ix3 h a e) : EReal)) : EReal) + ((A.partV (n / 64) (n / 8 % 8) (n % 8) h a e : ℝ) : EReal) : EReal)

theorem Grows.of_adds {masked : Bool} {n : ℕ} (hm : if masked = true then n / 8 % 8 = n % 8 else n / 8 % 8 < n % 8) (h0 : ¬n % 8 = 0) {old new : Sums}
    (h : Adds (A.blk (n / 64) (n / 8 % 8) (n % 8)) masked (n % 8) old new) : Grows A n old new := by
  have hi : n / 8 % 8 < 8 := Nat.mod_lt _ (by decide)
  have hj : n % 8 < 8 := Nat.mod_lt _ (by decide)
  refine ⟨fun j g b e => ?_, fun g a e => ?_, fun g a e => ?_⟩
  · rw [h.q, Arr.dq_blk hi hj hm]
    by_cases h1 : j.val = n % 8
    · rw [if_pos h1, if_pos h1, h1]
    · rw [if_neg h1, if_neg h1]; rfl
  · rw [h.k, Arr.dk_blk hi hj hm, if_neg h0]
  · rw [h.v, Arr.dv_blk hi hj hm, if_neg h0]

theorem Inv.next {n : ℕ} (h64 : ¬(n + 1) % 64 = 0) {old new : Sums} (h : Inv A n old) (g : Grows A (n + 1) old new) : Inv A (n + 1) new := by
  have e1 : (n + 1) / 64 = n / 64 := by omega
  have e2 : (n + 1) % 64 = n % 64 + 1 := by omega
  refine ⟨fun j q b e => ?_, fun q a e => ?_, fun q a e => ?_⟩
  · rw [g.q, h.q, e1, e2, page_step (by omega) j fun i => A.partQ (n / 64) i.val j.val q b e, ← EReal.coe_add]
    congr 2
    refine if_congr (by omega) ?_ rfl
    rw [show (n + 1) / 8 % 8 = (n % 64 + 1) / 8 by omega]
  all_goals
    first | rw [g.k, h.k] | rw [g.v, h.v]
    rw [e1]
    by_cases h8 : (n + 1) % 8 = 0
    · rw [if_pos h8, h8, sum_zero]; exact zero_add _
    · rw [if_neg h8, show (n + 1) % 8 = n % 8 + 1 by omega, show (n + 1) / 8 % 8 = n / 8 % 8 by omega, sum_step (by omega), EReal.coe_add]

variable {m : (ℓ : Loc nD τ sig) → Buf (Elt Ideal) ℓ} {c : Dev nD}

/-- The blocks the points read are the arrays' blocks. -/
abbrev Reads (m : (ℓ : Loc nD τ sig) → Buf (Elt Ideal) ℓ) (c : Dev nD) (A : Arr) : Prop :=
  ∀ t : Fin cfg0.N, t.val / 8 % 8 ≤ t.val % 8 →
    Holds (A.blk (t.val / 64) (t.val / 8 % 8) (t.val % 8)) (bQ m c t) (bK m c t) (bV m c t) (bO m c t) (bL m c t) (bD m c t)

theorem grows (hR : Reads m c A) (t : Fin cfg0.N) (h0 : ¬t.val % 64 = 0) :
    Grows A t.val (outsAt0 m c (t.val - 1) (Nat.lt_of_le_of_lt (Nat.sub_le _ _) t.isLt)).2.2.2 (outsAt0 m c t.val t.isLt).2.2.2 := by
  have hi : t.val / 8 % 8 < 8 := Nat.mod_lt _ (by decide)
  rcases Nat.lt_trichotomy (t.val / 8 % 8) (t.val % 8) with h | h | h
  · exact .of_adds (masked := false) (by simpa using h) (by omega) (adds_above (hR t h.le) h0 h)
  · exact .of_adds (masked := true) (by simpa using h) (by omega) (adds_diag (hR t h.le) h0 h)
  · have zq : ∀ (j : Fin 8) q b e, (if j.val = t.val % 8 then A.partQ (t.val / 64) (t.val / 8 % 8) j.val q b e else 0) = 0 := by
      intro j q b e
      by_cases h1 : j.val = t.val % 8
      · rw [if_pos h1, h1, Arr.partQ_below hi h]
      · rw [if_neg h1]
    by_cases h8 : t.val % 8 = 0
    · rw [keeps_start m c t h0 h8]
      refine ⟨fun j q b e => ?_, fun q a e => ?_, fun q a e => ?_⟩
      · rw [zq]; exact (add_zero _).symm
      · rw [if_pos h8, Arr.partK_below hi h]; exact (add_zero _).symm
      · rw [if_pos h8, Arr.partV_below hi h]; exact (add_zero _).symm
    · rw [keeps m c t h8 h]
      refine ⟨fun j q b e => ?_, fun q a e => ?_, fun q a e => ?_⟩
      · rw [zq]; exact (add_zero _).symm
      · rw [if_neg h8, Arr.partK_below hi h]; exact (add_zero _).symm
      · rw [if_neg h8, Arr.partV_below hi h]; exact (add_zero _).symm

theorem inv (hR : Reads m c A) : ∀ (n : ℕ) (hn : n < cfg0.N), Inv A n (outsAt0 m c n hn).2.2.2
  | 0, hn => Inv.first rfl (adds_first (hR ⟨0, hn⟩ (by show 0 / 8 % 8 ≤ 0 % 8; decide)) rfl)
  | n + 1, hn => by
    by_cases h0 : (n + 1) % 64 = 0
    · exact Inv.first h0 (adds_first (t := ⟨n + 1, hn⟩) (hR ⟨n + 1, hn⟩ (by show (n + 1) / 8 % 8 ≤ (n + 1) % 8; omega)) h0)
    · exact (inv hR n (Nat.lt_of_succ_lt hn)).next h0 (grows hR ⟨n + 1, hn⟩ h0)

/-! ## What is written back -/

theorem flushed_k (hR : Reads m c A) (t : Fin cfg0.N) (h4 : t.val % 8 = 7) (h : Fin 4) (a : Fin 512) (e : Fin 128) :
    (outsAt0 m c t.val t.isLt).2.1 (ix3 h a e) = ((A.dK (Rows.row 4 (t.val / 64) h) (Rows.row 512 (t.val / 8 % 8) a) e : ℝ) : EReal) := by
  rw [flush_k m c t h4, (inv hR t.val t.isLt).k, sum_all _ h4.ge, Arr.sum_partK]

theorem flushed_v (hR : Reads m c A) (t : Fin cfg0.N) (h4 : t.val % 8 = 7) (h : Fin 4) (a : Fin 512) (e : Fin 64) :
    (outsAt0 m c t.val t.isLt).2.2.1 (ix3 h a e) = ((A.dV (Rows.row 4 (t.val / 64) h) (Rows.row 512 (t.val / 8 % 8) a) e : ℝ) : EReal) := by
  rw [flush_v m c t h4, (inv hR t.val t.isLt).v, sum_all _ h4.ge, Arr.sum_partV]

theorem flushed_q (hR : Reads m c A) (t : Fin cfg0.N) (h5 : t.val % 64 = 63) (h : Fin 4) (p : Fin 4096) (e : Fin 128) :
    (outsAt0 m c t.val t.isLt).1 (ix3 h p e) = ((A.dQ (Rows.row 4 (t.val / 64) h) p e : ℝ) : EReal) := by
  have hp : p.val / 512 < 8 := by have := p.isLt; omega
  rw [flush_q m c t h5]
  refine ((inv hR t.val t.isLt).q ⟨p.val / 512, hp⟩ h ⟨p.val % 512, Nat.mod_lt _ (by decide)⟩ e).trans ?_
  rw [h5, page_all, Arr.sum_partQ]
  congr 2
  refine Fin.ext ?_
  rw [Arr.row_lt hp]
  show 512 * (p.val / 512) + p.val % 512 = p.val
  omega

end Cert.MlaIdeal.Sums

end
-- ==== Proof.Base.Widen.lean ====
/-
  A head's 96 columns kept in 128, the rest zeros: products do not see the difference.
-/
module

public import proofs.«01_k».proof.Proof.Base.Reals

@[expose] public section

noncomputable section

namespace Cert.Widen

open Idealize.ShloMosaic Idealize.ShloMosaic.ValueIdx

/-- A column past the last is zero. -/
def widen (f : Fin 96 → ℝ) (e : Fin 128) : ℝ := if h : e.val < 96 then f ⟨e.val, h⟩ else 0

theorem sum_widen (f g : Fin 96 → ℝ) : ∑ e, widen f e * widen g e = ∑ e, f e * g e := by
  refine (Fin.sum_univ_add (a := 96) (b := 32) fun e => widen f e * widen g e).trans ?_
  have h2 : ∑ e : Fin 32, widen f (Fin.natAdd 96 e) * widen g (Fin.natAdd 96 e) = 0 :=
    Finset.sum_eq_zero fun e _ => by
      rw [show widen f (Fin.natAdd 96 e) = 0 from dif_neg (by rw [Fin.val_natAdd]; omega), zero_mul]
  rw [h2, add_zero]
  refine Finset.sum_congr rfl fun e _ => ?_
  have h1 : (Fin.castAdd 32 e).val < 96 := e.isLt
  rw [show widen f (Fin.castAdd 32 e) = f e from dif_pos h1, show widen g (Fin.castAdd 32 e) = g e from dif_pos h1]

/-- Columns put at the end of the rows. -/
theorem pad_widen {φ : FTy} {u : Shape} (x : FVec Ideal ⟨3, ![8, 4096, 96]⟩ φ) (z : FVec Ideal u φ)
    (hp : (⟨3, ![8, 4096, 96]⟩ : Shape).Pads ![0, 0, 0] ![0, 0, 32] ![0, 0, 0] ⟨3, ![8, 4096, 128]⟩) (hu : 0 < u.numel)
    (hz : z (Shape.Idx.first hu) = (0 : EReal)) (f : Fin 8 → Fin 4096 → Fin 96 → ℝ)
    (hx : ∀ h p e, x (ix3 h p e) = ((f h p e : ℝ) : EReal)) (h : Fin 8) (p : Fin 4096) (e : Fin 128) :
    pad ⟨3, ![8, 4096, 128]⟩ ![0, 0, 0] ![0, 0, 32] ![0, 0, 0] x z hp hu (ix3 h p e) = ((widen (f h p) e : ℝ) : EReal) := by
  unfold pad widen
  by_cases he : e.val < 96
  · rw [dif_pos, dif_pos he, ← hx]
    · congr 1
      funext a
      apply Fin.ext
      match a with
      | ⟨0, _⟩ => exact Nat.div_one _
      | ⟨1, _⟩ => exact Nat.div_one _
      | ⟨2, _⟩ => exact Nat.div_one _
    · intro a
      match a with
      | ⟨0, _⟩ => exact ⟨Nat.zero_le _, Nat.mod_one _, (Nat.div_one _).trans_lt h.isLt⟩
      | ⟨1, _⟩ => exact ⟨Nat.zero_le _, Nat.mod_one _, (Nat.div_one _).trans_lt p.isLt⟩
      | ⟨2, _⟩ => exact ⟨Nat.zero_le _, Nat.mod_one _, (Nat.div_one _).trans_lt he⟩
  · rw [dif_neg, dif_neg he, hz]
    · rfl
    · intro hin
      exact he ((Nat.div_one _).symm.trans_lt (hin 2).2.2)

end Cert.Widen

end
-- ==== Proof.Mla.Softmax.lean ====
/-
  Causal attention over the reals and its gradient, written with the rows' shifted exponentials; and that the arrays a
  backward pass reads — the rows' log-sums and their sums of cotangent times output — give the same gradient.
-/
module

public import proofs.«01_k».proof.Proof.Mla.Math
public import proofs.«01_k».proof.Proof.Base.Widen

@[expose] public section

noncomputable section

namespace Cert.MlaIdeal.Softmax

open Cert.Widen Cert.MlaIdeal.Payloads Cert.MlaIdeal.Math

/-- Queries, keys, values and cotangents; the shift of each row's scores. -/
structure Att where
  q : Fin 4096 → Fin 8 → Fin 96 → ℝ
  k : Fin 4096 → Fin 8 → Fin 96 → ℝ
  v : Fin 4096 → Fin 8 → Fin 64 → ℝ
  c : Fin 4096 → Fin 8 → Fin 64 → ℝ
  M : Fin 8 → Fin 4096 → ℝ

namespace Att

variable (T : Att)

def S (h : Fin 8) (p r : Fin 4096) : ℝ := (∑ e, T.q p h e * T.k r h e) * sc

/-- The shifted exponential of a score; a later key has none. -/
def E (h : Fin 8) (p r : Fin 4096) : ℝ := if p < r then 0 else Real.exp (T.S h p r - T.M h p)

def l (h : Fin 8) (p : Fin 4096) : ℝ := ∑ r, T.E h p r
def P (h : Fin 8) (p r : Fin 4096) : ℝ := T.E h p r / T.l h p
def o (h : Fin 8) (p : Fin 4096) (e : Fin 64) : ℝ := ∑ r, T.P h p r * T.v r h e

/-- The slope of a weight. -/
def dp (h : Fin 8) (p r : Fin 4096) : ℝ := ∑ e, T.c p h e * T.v r h e

/-- The slope of a score. -/
def ds (h : Fin 8) (p r : Fin 4096) : ℝ := T.P h p r * (T.dp h p r - ∑ r', T.P h p r' * T.dp h p r') * sc

def dv (r : Fin 4096) (h : Fin 8) (e : Fin 64) : ℝ := ∑ p, T.P h p r * T.c p h e
def dk (r : Fin 4096) (h : Fin 8) (e : Fin 96) : ℝ := ∑ p, T.ds h p r * T.q p h e
def dq (p : Fin 4096) (h : Fin 8) (e : Fin 96) : ℝ := ∑ r, T.ds h p r * T.k r h e

theorem E_nonneg (h : Fin 8) (p r : Fin 4096) : 0 ≤ T.E h p r := by
  unfold E
  split_ifs
  · exact le_rfl
  · exact (Real.exp_pos _).le

theorem l_pos (h : Fin 8) (p : Fin 4096) : 0 < T.l h p :=
  Finset.sum_pos' (fun r _ => T.E_nonneg h p r) ⟨p, Finset.mem_univ p, by unfold E; rw [if_neg (lt_irrefl p)]; exact Real.exp_pos _⟩

/-- What the backward pass reads. -/
def arr : Arr where
  Q h p := widen (T.q p h)
  K h r := widen (T.k r h)
  V h r e := T.v r h e
  O h p e := T.c p h e
  L h p := T.M h p + Real.log (T.l h p)
  D h p := ∑ e, T.c p h e * T.o h p e

theorem arr_wt (h : Fin 8) (p r : Fin 4096) : T.arr.wt h p r = T.P h p r := by
  unfold Arr.wt P E
  by_cases hr : p < r
  · rw [if_pos hr, if_pos hr, zero_div]
  · rw [if_neg hr, if_neg hr]
    have hs : (∑ e, T.arr.K h r e * T.arr.Q h p e) * sc = T.S h p r := by
      unfold S
      refine congrArg (· * sc) ((sum_widen (T.k r h) (T.q p h)).trans ?_)
      exact Finset.sum_congr rfl fun e _ => mul_comm _ _
    rw [hs, show T.arr.L h p = T.M h p + Real.log (T.l h p) from rfl, ← sub_sub, Real.exp_sub, Real.exp_log (T.l_pos h p)]

/-- A row's cotangent times its output is the weighted sum of the weights' slopes. -/
theorem row_sum (h : Fin 8) (p : Fin 4096) : ∑ e, T.c p h e * T.o h p e = ∑ r, T.P h p r * T.dp h p r := by
  unfold o dp
  simp only [Finset.mul_sum]
  rw [Finset.sum_comm]
  exact Finset.sum_congr rfl fun r _ => Finset.sum_congr rfl fun e _ => by ring

theorem arr_ds (h : Fin 8) (p r : Fin 4096) : T.arr.ds h p r = T.ds h p r := by
  unfold Arr.ds ds
  rw [arr_wt, show T.arr.D h p = _ from T.row_sum h p]
  refine congrArg (fun x => T.P h p r * (x - _) * sc) (Finset.sum_congr rfl fun e _ => mul_comm _ _)

theorem arr_dV (h : Fin 8) (r : Fin 4096) (e : Fin 64) : T.arr.dV h r e = T.dv r h e :=
  Finset.sum_congr rfl fun p _ => by rw [arr_wt]; rfl

theorem arr_dK (h : Fin 8) (r : Fin 4096) (e : Fin 128) : T.arr.dK h r e = widen (T.dk r h) e := by
  unfold Arr.dK widen
  by_cases he : e.val < 96
  · rw [dif_pos he]
    exact Finset.sum_congr rfl fun p _ => by rw [arr_ds, show T.arr.Q h p e = T.q p h ⟨e.val, he⟩ from dif_pos he]
  · rw [dif_neg he]
    exact Finset.sum_eq_zero fun p _ => by rw [show T.arr.Q h p e = 0 from dif_neg he, mul_zero]

theorem arr_dQ (h : Fin 8) (p : Fin 4096) (e : Fin 128) : T.arr.dQ h p e = widen (T.dq p h) e := by
  unfold Arr.dQ widen
  by_cases he : e.val < 96
  · rw [dif_pos he]
    exact Finset.sum_congr rfl fun r _ => by rw [arr_ds, show T.arr.K h r e = T.k r h ⟨e.val, he⟩ from dif_pos he]
  · rw [dif_neg he]
    exact Finset.sum_eq_zero fun r _ => by rw [show T.arr.K h r e = 0 from dif_neg he, mul_zero]

end Att

end Cert.MlaIdeal.Softmax

end
-- ==== Proof.Mla.Reference.lean ====
/-
  What the reference computes: the softmax's gradient over the reals.
-/
module

public import proofs.«01_k».proof.Proof.Gen.MlaRefIdeal.Read
public import proofs.«01_k».proof.Proof.Mla.Softmax
public import proofs.«01_k».proof.Proof.Base.Reals
public import proofs.«01_k».proof.Proof.Base.Words
public import Idealize.ShloMosaic.Lib.WordCmp
public import Mathlib.Data.Finset.Fold

@[expose] public section

noncomputable section

namespace Cert.MlaRefIdeal.Reference

open Idealize.ShloMosaic hiding ix1 ix2 ix3 ix4
open Cert.Reals Cert.Widen Cert.Words Cert.MlaRefIdeal Cert.MlaRefIdeal.Gen Cert.MlaRefIdeal.Read Cert.MlaIdeal.Payloads Cert.MlaIdeal.Softmax Idealize.ShloMosaic.ValueIdx
open Idealize.ShloMosaic.TcCoe Idealize.SL.Sem

variable {x0 x1 : FVec Ideal S4096x8x96 .f32} {x2 x3 : FVec Ideal S4096x8x64 .f32} {T : Att}

/-- The arguments are the real arrays, and the shifts are the rows' largest scores. -/
structure Are (x0 x1 : FVec Ideal S4096x8x96 .f32) (x2 x3 : FVec Ideal S4096x8x64 .f32) (T : Att) : Prop where
  q : ∀ p h e, x0 (ix3 p h e) = ((T.q p h e : ℝ) : EReal)
  k : ∀ p h e, x1 (ix3 p h e) = ((T.k p h e : ℝ) : EReal)
  v : ∀ p h e, x2 (ix3 p h e) = ((T.v p h e : ℝ) : EReal)
  c : ∀ p h e, x3 (ix3 p h e) = ((T.c p h e : ℝ) : EReal)
  M : ∀ h p, T.M h p = EReal.toReal (val_main_v12 (F := Ideal) x0 x1 (ix2 h p))

/-! ## The coordinates of an index -/

def hh (i : S8x4096x4096.Idx) : Fin 8 := i 0
def pp (i : S8x4096x4096.Idx) : Fin 4096 := i 1
def rr (i : S8x4096x4096.Idx) : Fin 4096 := i 2
def h2 (i : S8x4096.Idx) : Fin 8 := i 0
def p2 (i : S8x4096.Idx) : Fin 4096 := i 1
def h3 (i : S8x4096x1.Idx) : Fin 8 := i 0
def p3 (i : S8x4096x1.Idx) : Fin 4096 := i 1

theorem sitofp_zero {φ : FTy} : (FloatOps.sitofp (F := Ideal) φ (0#32 : BitVec 32) : EReal) = 0 := by
  show ((((0#32 : BitVec 32).toInt : ℤ) : ℝ) : EReal) = 0
  simp

theorem neg_coe (x : ℝ) : (FloatOps.hostNegf (F := Ideal) (φ := .f32) ((x : ℝ) : EReal) : EReal) = ((-x : ℝ) : EReal) := (EReal.coe_neg x).symm

theorem w_ninf : (FloatOps.ofBits .f32 0xFF800000#32 : Ideal .f32) = (⊥ : EReal) := by
  show Ideal.ofBits .f32 0xFF800000#32 = ⊥
  simp [Ideal.ofBits, Ideal.ieee]

variable (H : Are x0 x1 x2 x3 T)
include H

theorem q_at (i : S4096x8x96.Idx) : x0 i = ((T.q (i 0) (i 1) (i 2) : ℝ) : EReal) := (congrArg x0 (ValueIdx.eq_ix3 i)).trans (H.q _ _ _)
theorem k_at (i : S4096x8x96.Idx) : x1 i = ((T.k (i 0) (i 1) (i 2) : ℝ) : EReal) := (congrArg x1 (ValueIdx.eq_ix3 i)).trans (H.k _ _ _)
theorem v_at (i : S4096x8x64.Idx) : x2 i = ((T.v (i 0) (i 1) (i 2) : ℝ) : EReal) := (congrArg x2 (ValueIdx.eq_ix3 i)).trans (H.v _ _ _)
theorem c_at (i : S4096x8x64.Idx) : x3 i = ((T.c (i 0) (i 1) (i 2) : ℝ) : EReal) := (congrArg x3 (ValueIdx.eq_ix3 i)).trans (H.c _ _ _)

/-! ## The forward lines -/

theorem score_at (i : S8x4096x4096.Idx) : val_main_v2 (F := Ideal) x0 x1 i = ((T.S (hh i) (pp i) (rr i) : ℝ) : EReal) := by
  rw [val_main_v2_apply, val_main_v0_apply, val_main_v1_apply, val_main_cst_apply]
  simp only [q_at H, k_at H, ← EReal.coe_mul, sum_coe]
  rw [show (FloatOps.ofBits .f32 0x3DD105EC#32 : Ideal .f32) = _ from w_sc]
  exact (EReal.coe_mul _ _).symm

theorem mask_at (i : S8x4096x4096.Idx) : val_main_v11_1 (F := Ideal) i = BitVec.ofBool (decide (rr i ≤ pp i)) := by
  rw [val_main_v11_1_apply, val_main_v10_apply, val_main_v9_apply, val_main_v7_apply, val_main_v8_apply, val_main_v4_apply,
    val_main_v6_apply, val_main_v3_apply, val_main_v5_apply]
  have h1 := (pp i).isLt
  have h2 := (rr i).isLt
  exact WordCmp.cmpi_sge_ofNat (show (pp i).val < _ by omega) (show (rr i).val < _ by omega)

theorem masked_at (i : S8x4096x4096.Idx) :
    val_main_v11_0 (F := Ideal) x0 x1 i = if pp i < rr i then (⊥ : EReal) else ((T.S (hh i) (pp i) (rr i) : ℝ) : EReal) := by
  rw [val_main_v11_0_apply, mask_at H, score_at H, val_main_call0_v2_apply, val_main_call0_v0_apply, val_main_cst_0_apply, w_ninf]
  by_cases h : pp i < rr i
  · rw [if_pos h, decide_eq_false (not_le.mpr h)]; rfl
  · rw [if_neg h, decide_eq_true (not_lt.mp h)]; rfl

/-- The largest score of a row is a real number: the row has a score that is one, and none is infinite. -/
theorem max_at (i : S8x4096.Idx) : val_main_v12 (F := Ideal) x0 x1 i = ((T.M (h2 i) (p2 i) : ℝ) : EReal) := by
  have e : val_main_v12 (F := Ideal) x0 x1 i = Finset.univ.fold max (⊥ : EReal) fun r : Fin 4096 =>
      if p2 i < r then (⊥ : EReal) else ((T.S (h2 i) (p2 i) r : ℝ) : EReal) := by
    have hr : S8x4096x4096.Reduces [2] S8x4096 := by decide
    unfold val_main_v12
    rw [Host.reduce_eq_fold_single (FloatOps.maximumf (F := Ideal) (φ := .f32)) _ _ reducesTo_S8x4096x4096_S8x4096_d2 hr h_S_ i,
      val_main_cst_1_apply, w_ninf]
    exact congrArg (Finset.fold max (⊥ : EReal) · Finset.univ) (funext fun r => masked_at H (hr.lift i r))
  rw [H.M, ← show i = ix2 (h2 i) (p2 i) from ValueIdx.eq_ix2 i]
  refine (EReal.coe_toReal ?_ ?_).symm
  · rw [e]
    refine ne_of_lt ((Finset.fold_max_lt _).mpr ⟨bot_lt_top, fun r _ => ?_⟩)
    split_ifs
    · exact bot_lt_top
    · exact EReal.coe_lt_top _
  · rw [e]
    refine ne_of_gt ((Finset.lt_fold_max _).mpr (.inr ⟨p2 i, Finset.mem_univ _, ?_⟩))
    rw [if_neg (lt_irrefl _)]
    exact EReal.bot_lt_coe _

omit H in
/-- A masked score less a real. -/
theorem exp_masked {b : Prop} [Decidable b] {s t : ℝ} :
    Ideal.exp ((if b then (⊥ : EReal) else ((s : ℝ) : EReal)) - ((t : ℝ) : EReal)) = ((if b then 0 else Real.exp (s - t) : ℝ) : EReal) := by
  split_ifs
  · rw [EReal.bot_sub, Ideal.exp_bot]; rfl
  · rw [← EReal.coe_sub, Ideal.exp_coe]

theorem e_at (i : S8x4096x4096.Idx) : val_main_v32 (F := Ideal) x0 x1 i = ((T.E (hh i) (pp i) (rr i) : ℝ) : EReal) := by
  rw [val_main_v32_apply, val_main_v31_apply, masked_at H, val_main_v30_apply, val_main_v29_apply, val_main_v19_apply,
    val_main_v18_apply, val_main_cst_3_apply, w_ninf, max_at H]
  exact (congrArg (fun y => Ideal.exp (_ - y)) (max_eq_right bot_le)).trans exp_masked

theorem l_at (i : S8x4096.Idx) : val_main_v33 (F := Ideal) x0 x1 i = ((T.l (h2 i) (p2 i) : ℝ) : EReal) := by
  rw [val_main_v33_apply, val_main_cst_9_apply]
  simp only [e_at H]
  rw [show (FloatOps.ofBits .f32 0x00000000#32 : Ideal .f32) = _ from Ideal.ofBits_zero_f32, zero_add, sum_coe]
  rfl

theorem l3_at (i : S8x4096x1.Idx) : val_main_v34 (F := Ideal) x0 x1 i = ((T.l (h3 i) (p3 i) : ℝ) : EReal) := by
  rw [val_main_v34_apply, l_at H]
  rfl

theorem p_at (i : S8x4096x4096.Idx) : val_main_v36 (F := Ideal) x0 x1 i = ((T.P (hh i) (pp i) (rr i) : ℝ) : EReal) := by
  rw [val_main_v36_apply, val_main_v35_apply, e_at H, l3_at H]
  exact div_coe (T.l_pos _ _).ne'

/-! ## The gradient -/

theorem dp_at (i : S8x4096x4096.Idx) : val_main_v43 (F := Ideal) x2 x3 i = ((T.dp (hh i) (pp i) (rr i) : ℝ) : EReal) := by
  rw [val_main_v43_apply]
  simp only [val_main_v42_apply, c_at H, v_at H, ← EReal.coe_mul, sum_coe]
  rfl

/-- The row's sum of slopes, weighted. -/
theorem row_at (i : S8x4096.Idx) :
    val_main_v49 (F := Ideal) x0 x1 x2 x3 i
      = ((∑ r, T.dp (h2 i) (p2 i) r * (1 / (T.l (h2 i) (p2 i) * T.l (h2 i) (p2 i))) * T.E (h2 i) (p2 i) r : ℝ) : EReal) := by
  rw [val_main_v49_apply, val_main_cst_11_apply]
  simp only [val_main_v48_apply, val_main_v47_apply, val_main_v46_apply, val_main_v39_apply, val_main_v38_apply, val_main_v37_apply,
    val_main_cst_10_apply, dp_at H, e_at H, l3_at H]
  rw [show (FloatOps.ofBits .f32 0x00000000#32 : Ideal .f32) = _ from Ideal.ofBits_zero_f32, zero_add,
    show (FloatOps.ofBits .f32 0x3F800000#32 : Ideal .f32) = _ from w_one]
  refine Eq.trans (Finset.sum_congr rfl fun r _ => ?_) (sum_coe _ _)
  have hl := T.l_pos (h2 i) (p2 i)
  refine (congrArg₂ (· * ·) (congrArg (_ * ·) ((congrArg (Ideal.div _) (EReal.coe_mul _ _).symm).trans (div_coe (mul_pos hl hl).ne'))) rfl).trans ?_
  exact (congrArg (· * _) (EReal.coe_mul _ _).symm).trans (EReal.coe_mul _ _).symm

theorem row3_at (i : S8x4096x1.Idx) :
    val_main_v50 (F := Ideal) x0 x1 x2 x3 i
      = ((∑ r, T.dp (h3 i) (p3 i) r * (1 / (T.l (h3 i) (p3 i) * T.l (h3 i) (p3 i))) * T.E (h3 i) (p3 i) r : ℝ) : EReal) := by
  have a1 : (i 1).val < 4096 := (i 1).isLt
  have a2 : (i 2).val < 1 := (i 2).isLt
  have e1 : h2 (idx_main_v50 i) = h3 i := Fin.ext (by show (((i 0).val * 4096 + (i 1).val) * 1 + (i 2).val) / 4096 = (i 0).val; omega)
  have e2 : p2 (idx_main_v50 i) = p3 i := Fin.ext (by show (((i 0).val * 4096 + (i 1).val) * 1 + (i 2).val) % 4096 = (i 1).val; omega)
  rw [val_main_v50_apply, row_at H, e1, e2]

omit H in
theorem slope_real {l e d : ℝ} {b : Prop} [Decidable b] (hl : 0 < l) (he : b → e = 0) (f g : Fin 4096 → ℝ) :
    (if b then 0 else (d / l + -∑ r, f r * (1 / (l * l)) * g r) * e) * sc = e / l * (d - ∑ r, g r / l * f r) * sc := by
  have hs : ∑ r, f r * (1 / (l * l)) * g r = (∑ r, g r / l * f r) / l := by
    rw [Finset.sum_div]
    exact Finset.sum_congr rfl fun r _ => by field_simp
  rw [hs]
  by_cases hb : b
  · rw [if_pos hb, he hb]; ring
  · rw [if_neg hb]; ring

theorem ds_at (i : S8x4096x4096.Idx) : val_main_v60 (F := Ideal) x0 x1 x2 x3 i = ((T.ds (hh i) (pp i) (rr i) : ℝ) : EReal) := by
  rw [val_main_v60_apply, val_main_v58_apply, mask_at H, val_main_v57_apply, val_main_v56_apply, val_main_v53_apply, val_main_v52_apply,
    val_main_v55_apply, val_main_v54_apply, val_main_cst_12_apply, val_main_call1_v0_apply, val_main_call1_cst_apply,
    val_main_v59_apply, val_main_cst_13_apply, Fin.sum_univ_one, val_main_v51_apply, row3_at H, dp_at H, e_at H, l3_at H,
    show (FloatOps.ofBits .f32 0x00000000#32 : Ideal .f32) = _ from Ideal.ofBits_zero_f32, zero_add,
    show (FloatOps.ofBits .f32 0x3DD105EC#32 : Ideal .f32) = _ from w_sc]
  have hl := T.l_pos (hh i) (pp i)
  have hz : pp i < rr i → T.E (hh i) (pp i) (rr i) = 0 := fun h => if_pos h
  refine Eq.trans ?_ (congrArg (fun x : ℝ => (x : EReal)) (slope_real (b := pp i < rr i) hl hz (T.dp (hh i) (pp i)) (T.E (hh i) (pp i))))
  refine Eq.trans ?_ (EReal.coe_mul _ _).symm
  refine congrArg (· * _) ?_
  by_cases h : pp i < rr i
  · rw [if_pos h, decide_eq_false (not_le.mpr h)]; rfl
  · rw [if_neg h, decide_eq_true (not_lt.mp h)]
    refine Eq.trans ?_ (EReal.coe_mul _ _).symm
    refine congrArg (· * _) ?_
    refine Eq.trans ?_ (EReal.coe_add _ _).symm
    exact congrArg₂ (· + ·) (div_coe hl.ne') (neg_coe _)

theorem dv_at (h : Fin 8) (r : Fin 4096) (e : Fin 64) : val_main_v69 (F := Ideal) x0 x1 x3 (ix3 h r e) = ((T.dv r h e : ℝ) : EReal) := by
  rw [val_main_v69_apply, val_main_v45_apply, val_main_v44_apply]
  simp only [val_main_v42_apply, c_at H, p_at H, ← EReal.coe_mul, sum_coe]
  exact congrArg (fun x : ℝ => (x : EReal)) (Finset.sum_congr rfl fun p _ => mul_comm _ _)

theorem dq96_at (h : Fin 8) (p : Fin 4096) (e : Fin 96) : val_main_v65 (F := Ideal) x0 x1 x2 x3 (ix3 h p e) = ((T.dq p h e : ℝ) : EReal) := by
  rw [val_main_v65_apply, val_main_v64_apply, val_main_v63_apply]
  simp only [ds_at H, k_at H, ← EReal.coe_mul, sum_coe]
  rfl

theorem dk96_at (h : Fin 8) (r : Fin 4096) (e : Fin 96) : val_main_v67 (F := Ideal) x0 x1 x2 x3 (ix3 h r e) = ((T.dk r h e : ℝ) : EReal) := by
  rw [val_main_v67_apply, val_main_v62_apply, val_main_v61_apply]
  simp only [ds_at H, q_at H, ← EReal.coe_mul, sum_coe]
  rfl

theorem dq_at (h : Fin 8) (p : Fin 4096) (e : Fin 128) :
    val_main_v66 (F := Ideal) x0 x1 x2 x3 (ix3 h p e) = ((widen (T.dq p h) e : ℝ) : EReal) :=
  pad_widen _ _ _ h_S_ sitofp_zero (fun h p => T.dq p h) (dq96_at H) h p e

theorem dk_at (h : Fin 8) (r : Fin 4096) (e : Fin 128) :
    val_main_v68 (F := Ideal) x0 x1 x2 x3 (ix3 h r e) = ((widen (T.dk r h) e : ℝ) : EReal) :=
  pad_widen _ _ _ h_S_ sitofp_zero (fun h r => T.dk r h) (dk96_at H) h r e

end Cert.MlaRefIdeal.Reference

end
-- ==== Proof.Mla.Entry.lean ====
/-
  What the region finds: the queries and keys widened by zero columns, the values, the cotangents, the rows' log-sums
  and their sums of cotangent times output; and so what each grid point reads.
-/
module

public import proofs.«01_k».proof.Proof.Mla.Sums
public import proofs.«01_k».proof.Proof.Mla.Reference
public import Idealize.ShloMosaic.Lib.StableHlo.RunRead

@[expose] public section

noncomputable section

namespace Cert.MlaIdeal.Entry

open Idealize.ShloMosaic hiding ix1 ix2 ix3 ix4
open Cert.Reals Cert.Widen Cert.Rows Cert.MlaIdeal Cert.MlaIdeal.Gen Cert.MlaIdeal.Payloads Cert.MlaIdeal.Block Cert.MlaIdeal.Math Cert.MlaIdeal.Softmax
open Cert.MlaRefIdeal.Reference Cert.MlaRefIdeal.Read Idealize.ShloMosaic.ValueIdx Idealize.ShloMosaic.TcCoe Idealize.SL.Sem

variable (x0 x1 : FVec Ideal S4096x8x96 .f32) (x2 x3 : FVec Ideal S4096x8x64 .f32)

/-! ## The lines before the region -/

def vMax : FVec Ideal S8x4096x1 .f32 := broadcastInDim S8x4096x1 ![0, 1] bcast_S8x4096_S8x4096x1_0_1 (val_main_v12 (F := Ideal) x0 x1)
def vExp : FVec Ideal S8x4096x4096 .f32 := Host.exp (subf (val_main_v11_0 (F := Ideal) x0 x1)
  (broadcastInDim S8x4096x4096 ![0, 1, 2] bcast_S8x4096x1_S8x4096x4096_0_1_2 (vMax x0 x1)))
def vSum : FVec Ideal S8x4096x1 .f32 := broadcastInDim S8x4096x1 ![0, 1] bcast_S8x4096_S8x4096x1_0_1
  (Host.reduceAdd (vExp x0 x1) (constant S_ .f32 0x00000000#32) reducesTo_S8x4096x4096_S8x4096_d2 h_S_)
def vP : FVec Ideal S8x4096x4096 .f32 :=
  Host.divf (vExp x0 x1) (broadcastInDim S8x4096x4096 ![0, 1, 2] bcast_S8x4096x1_S8x4096x4096_0_1_2 (vSum x0 x1))
def vO : FVec Ideal S8x4096x64 .f32 := Host.dotGeneral dot_S8x4096x4096_S4096x8x64_S8x4096x64_2_0_1_2_0_1 none (vP x0 x1) x2
def vLse : FVec Ideal S8x1x4096 .f32 := broadcastInDim S8x1x4096 ![0, 2] bcast_S8x4096_S8x1x4096_0_2
  (shapeCast S8x4096 (addf (vMax x0 x1) (Host.log (vSum x0 x1))) shapeCasts_S8x4096x1_S8x4096)
def vCO : FVec Ideal S8x4096x64 .f32 := mulf (transpose S8x4096x64 [1, 0, 2] x3 transposes_S4096x8x64_S8x4096x64_1_0_2) (vO x0 x1 x2)
def vDd : FVec Ideal S8x1x4096 .f32 := broadcastInDim S8x1x4096 ![0, 2] bcast_S8x4096_S8x1x4096_0_2
  (Host.reduceAdd (vCO x0 x1 x2 x3) (constant S_ .f32 0x00000000#32) reducesTo_S8x4096x64_S8x4096_d2 h_S_)
def vWide (x : FVec Ideal S4096x8x96 .f32) : FVec Ideal S8x4096x128 .bf16 :=
  pad S8x4096x128 ![0, 0, 0] ![0, 0, 32] ![0, 0, 0]
    (transpose S8x4096x96 [1, 0, 2] (truncf .bf16 x bitsLt_bf16_f32) transposes_S4096x8x96_S8x4096x96_1_0_2)
    (sitofp .bf16 (constantI S_ 32 0#32)) pads_S8x4096x96_S8x4096x128_000_000_0320 h_S_
def vHeads (x : FVec Ideal S4096x8x64 .f32) : FVec Ideal S8x4096x64 .bf16 :=
  transpose S8x4096x64 [1, 0, 2] (truncf .bf16 x bitsLt_bf16_f32) transposes_S4096x8x64_S8x4096x64_1_0_2

theorem rows2 {α : Type} (x : S8x4096.Idx → α) (h : Fin 8) (p : Fin 4096) (z : Fin 1) :
    broadcastInDim S8x4096x1 ![0, 1] bcast_S8x4096_S8x4096x1_0_1 x (ix3 h p z) = x (ix2 h p) :=
  broadcastInDim_apply _ _ _ _ _ fun a => match a with
    | ⟨0, _⟩ => by show h.val = if (8 : ℕ) = 1 then 0 else h.val; rw [if_neg (by decide)]
    | ⟨1, _⟩ => by show p.val = if (4096 : ℕ) = 1 then 0 else p.val; rw [if_neg (by decide)]

theorem rows3 {α : Type} (x : S8x4096x1.Idx → α) (h : Fin 8) (p r : Fin 4096) :
    broadcastInDim S8x4096x4096 ![0, 1, 2] bcast_S8x4096x1_S8x4096x4096_0_1_2 x (ix3 h p r) = x (ix3 h p (0 : Fin 1)) :=
  broadcastInDim_apply _ _ _ _ _ fun a => match a with
    | ⟨0, _⟩ => by show h.val = if (8 : ℕ) = 1 then 0 else h.val; rw [if_neg (by decide)]
    | ⟨1, _⟩ => by show p.val = if (4096 : ℕ) = 1 then 0 else p.val; rw [if_neg (by decide)]
    | ⟨2, _⟩ => by show (0 : ℕ) = if (1 : ℕ) = 1 then 0 else r.val; rw [if_pos rfl]

theorem rowsMid {α : Type} (x : S8x4096.Idx → α) (h : Fin 8) (p : Fin 4096) :
    broadcastInDim S8x1x4096 ![0, 2] bcast_S8x4096_S8x1x4096_0_2 x (ix3 h (0 : Fin 1) p) = x (ix2 h p) :=
  broadcastInDim_apply _ _ _ _ _ fun a => match a with
    | ⟨0, _⟩ => by show h.val = if (8 : ℕ) = 1 then 0 else h.val; rw [if_neg (by decide)]
    | ⟨1, _⟩ => by show p.val = if (4096 : ℕ) = 1 then 0 else p.val; rw [if_neg (by decide)]

/-- A row's sum. -/
theorem sum_row {n : ℕ} (y : FVec Ideal ⟨3, ![8, 4096, n]⟩ .f32) (hT : (⟨3, ![8, 4096, n]⟩ : Shape).ReducesTo [2] S8x4096)
    (hr : (⟨3, ![8, 4096, n]⟩ : Shape).Reduces [2] S8x4096) (f : Fin n → ℝ) (h : Fin 8) (p : Fin 4096)
    (hy : ∀ e : Fin n, y (ix3 h p e) = ((f e : ℝ) : EReal)) :
    Host.reduceAdd (F := Ideal) y (constant S_ .f32 0x00000000#32) hT h_S_ (ix2 h p) = ((∑ e, f e : ℝ) : EReal) := by
  simp only [Host.reduceAdd, Ideal.hostReduceAdd_def]
  rw [Ideal.hostReduceAdd_single hT hr]
  exact (congrArg₂ (· + ·) Ideal.ofBits_zero_f32 (Finset.sum_congr rfl fun e _ =>
    (congrArg y (ValueIdx.eq_ix3 _)).trans (hy e))).trans ((zero_add _).trans (sum_coe _ _))

/-- The first two axes change places. -/
theorem heads_first {φ : FTy} {n : ℕ} (x : FVec Ideal ⟨3, ![4096, 8, n]⟩ φ) (hT : (⟨3, ![4096, 8, n]⟩ : Shape).Transposes [1, 0, 2] ⟨3, ![8, 4096, n]⟩)
    (h : Fin 8) (p : Fin 4096) (e : Fin n) : transpose ⟨3, ![8, 4096, n]⟩ [1, 0, 2] x hT (ix3 h p e) = x (ix3 p h e) :=
  transpose_apply [1, 0, 2] x hT (ix3 h p e) (ix3 p h e) (fun b => match b with
    | ⟨0, _⟩ => rfl
    | ⟨1, _⟩ => rfl
    | ⟨2, _⟩ => rfl)

/-- Dropping the last axis, of extent one. -/
theorem drop_last {α : Type} {a b : ℕ} (y : (⟨3, ![a, b, 1]⟩ : Shape).Idx → α) (hs : (⟨3, ![a, b, 1]⟩ : Shape).ShapeCasts ⟨2, ![a, b]⟩)
    (h : Fin a) (p : Fin b) : shapeCast ⟨2, ![a, b]⟩ y hs (ix2 h p) = y (ix3 h p (0 : Fin 1)) := by
  refine shapeCast_apply y hs (ix2 h p) (ix3 h p (0 : Fin 1)) ?_
  rw [Shape.rowMajor_val_two, Shape.rowMajor_val_three]
  show (h.val * b + p.val) * 1 + 0 = h.val * b + p.val
  omega

/-- A row's maximum plus the logarithm of its sum. -/
theorem log_sum (y z : FVec Ideal S8x4096x1 .f32) (h : Fin 8) (p : Fin 4096) {a b : ℝ} (hy : y (ix3 h p (0 : Fin 1)) = (a : EReal))
    (hz : z (ix3 h p (0 : Fin 1)) = (b : EReal)) (hb : 0 < b) :
    shapeCast S8x4096 (addf y (Host.log z)) shapeCasts_S8x4096x1_S8x4096 (ix2 h p) = ((a + Real.log b : ℝ) : EReal) := by
  refine (drop_last (addf y (Host.log z)) shapeCasts_S8x4096x1_S8x4096 h p).trans ?_
  exact (congrArg₂ (fun u w : EReal => u + Ideal.log w) hy hz).trans
    ((congrArg (_ + ·) (log_coe hb)).trans (EReal.coe_add _ _).symm)

variable {x0 x1 x2 x3} {T : Att} (H : Are x0 x1 x2 x3 T)
include H

theorem max_eq (h : Fin 8) (p : Fin 4096) (z : Fin 1) : vMax x0 x1 (ix3 h p z) = ((T.M h p : ℝ) : EReal) :=
  (rows2 _ h p z).trans (max_at H (ix2 h p))

theorem exp_eq (h : Fin 8) (p r : Fin 4096) : vExp x0 x1 (ix3 h p r) = ((T.E h p r : ℝ) : EReal) :=
  (congrArg₂ (fun a b : EReal => Ideal.exp (a - b)) (masked_at H (ix3 h p r)) ((rows3 _ h p r).trans (max_eq H h p 0))).trans exp_masked

theorem sum_eq (h : Fin 8) (p : Fin 4096) (z : Fin 1) : vSum x0 x1 (ix3 h p z) = ((T.l h p : ℝ) : EReal) :=
  (rows2 _ h p z).trans (sum_row _ _ (by decide) _ h p (exp_eq H h p))

theorem p_eq (h : Fin 8) (p r : Fin 4096) : vP x0 x1 (ix3 h p r) = ((T.P h p r : ℝ) : EReal) :=
  (congrArg₂ Ideal.div (exp_eq H h p r) ((rows3 _ h p r).trans (sum_eq H h p 0))).trans (div_coe (T.l_pos h p).ne')

theorem o_eq (h : Fin 8) (p : Fin 4096) (e : Fin 64) : vO x0 x1 x2 (ix3 h p e) = ((T.o h p e : ℝ) : EReal) := by
  have hp := p_eq H h p
  unfold vO
  generalize vP x0 x1 = y at hp ⊢
  simp only [Host.dotGeneral]
  rw [Ideal.dotGeneral_apply, ← Equiv.sum_comp (ValueIdx.contrEquiv1 dot_S8x4096x4096_S4096x8x64_S8x4096x64_2_0_1_2_0_1 4096 rfl rfl).symm]
  refine Eq.trans (Finset.sum_congr rfl fun r _ => ?_) (sum_coe _ _)
  have hk := ValueIdx.contrEquiv1_symm_val dot_S8x4096x4096_S4096x8x64_S8x4096x64_2_0_1_2_0_1 4096 rfl rfl r
  generalize (ValueIdx.contrEquiv1 dot_S8x4096x4096_S4096x8x64_S8x4096x64_2_0_1_2_0_1 4096 rfl rfl).symm r = k at hk ⊢
  have el : dot_S8x4096x4096_S4096x8x64_S8x4096x64_2_0_1_2_0_1.lhsIdx (ix3 h p e) k = ix3 h p r := funext fun a => Fin.ext (by
    match a with
    | ⟨0, _⟩ => rfl
    | ⟨1, _⟩ => rfl
    | ⟨2, _⟩ => exact (dot_S8x4096x4096_S4096x8x64_S8x4096x64_2_0_1_2_0_1.lhsIdx_val_of_single rfl _ k).trans hk)
  have er : dot_S8x4096x4096_S4096x8x64_S8x4096x64_2_0_1_2_0_1.rhsIdx (ix3 h p e) k = ix3 r h e := funext fun a => Fin.ext (by
    match a with
    | ⟨0, _⟩ => exact (dot_S8x4096x4096_S4096x8x64_S8x4096x64_2_0_1_2_0_1.rhsIdx_val_of_single rfl _ k).trans hk
    | ⟨1, _⟩ => rfl
    | ⟨2, _⟩ => rfl)
  rw [el, er, H.v, hp]
  exact (EReal.coe_mul _ _).symm

theorem lse_eq (h : Fin 8) (p : Fin 4096) : vLse x0 x1 (ix3 h (0 : Fin 1) p) = ((T.arr.L h p : ℝ) : EReal) :=
  (rowsMid _ h p).trans (log_sum (vMax x0 x1) (vSum x0 x1) h p (max_eq H h p 0) (sum_eq H h p 0) (T.l_pos h p))

theorem dd_eq (h : Fin 8) (p : Fin 4096) : vDd x0 x1 x2 x3 (ix3 h (0 : Fin 1) p) = ((T.arr.D h p : ℝ) : EReal) :=
  (rowsMid _ h p).trans (sum_row _ _ (by decide) (fun e => T.c p h e * T.o h p e) h p fun e =>
    (congrArg₂ (· * ·) ((heads_first x3 _ h p e).trans (H.c p h e)) (o_eq H h p e)).trans (EReal.coe_mul _ _).symm)

theorem q_eq (h : Fin 8) (p : Fin 4096) (e : Fin 128) : vWide x0 (ix3 h p e) = ((T.arr.Q h p e : ℝ) : EReal) :=
  pad_widen _ _ _ h_S_ sitofp_zero (fun h p => T.q p h) (fun h p e => (heads_first x0 _ h p e).trans (H.q p h e)) h p e

theorem k_eq (h : Fin 8) (p : Fin 4096) (e : Fin 128) : vWide x1 (ix3 h p e) = ((T.arr.K h p e : ℝ) : EReal) :=
  pad_widen _ _ _ h_S_ sitofp_zero (fun h p => T.k p h) (fun h p e => (heads_first x1 _ h p e).trans (H.k p h e)) h p e

theorem v_eq (h : Fin 8) (p : Fin 4096) (e : Fin 64) : vHeads x2 (ix3 h p e) = ((T.arr.V h p e : ℝ) : EReal) :=
  (heads_first x2 _ h p e).trans (H.v p h e)

theorem c_eq (h : Fin 8) (p : Fin 4096) (e : Fin 64) : vHeads x3 (ix3 h p e) = ((T.arr.O h p e : ℝ) : EReal) :=
  (heads_first x3 _ h p e).trans (H.c p h e)

omit H

/-! ## What the region finds -/

variable (m : (ℓ : Loc nD τ sig) → Buf (Elt Ideal) ℓ) (c : Dev nD)

theorem found_q : V m c main_v30 = vWide (m ((c : Thread nD τ).loc main_arg0)) := rfl
theorem found_k : V m c main_v33 = vWide (m ((c : Thread nD τ).loc main_arg1)) := rfl
theorem found_v : V m c main_v35 = vHeads (m ((c : Thread nD τ).loc main_arg2)) := rfl
theorem found_c : V m c main_v36 = vHeads (m ((c : Thread nD τ).loc main_arg3)) := rfl
theorem found_l : V m c main_v37 = vLse (m ((c : Thread nD τ).loc main_arg0)) (m ((c : Thread nD τ).loc main_arg1)) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_reads_simp
  rfl

theorem found_d : V m c main_v38 = vDd (m ((c : Thread nD τ).loc main_arg0)) (m ((c : Thread nD τ).loc main_arg1))
    (m ((c : Thread nD τ).loc main_arg2)) (m ((c : Thread nD τ).loc main_arg3)) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_reads_simp
  rfl

end Cert.MlaIdeal.Entry

end
-- ==== Proof.Mla.Reads.lean ====
/-
  What each grid point reads: its blocks of the arrays the region finds.
-/
module

public import proofs.«01_k».proof.Proof.Mla.Entry

@[expose] public section

noncomputable section

namespace Cert.MlaIdeal.Reads

open Idealize.ShloMosaic hiding ix1 ix2 ix3 ix4
open Cert.Rows Cert.MlaIdeal Cert.MlaIdeal.Gen Cert.MlaIdeal.Payloads Cert.MlaIdeal.Block Cert.MlaIdeal.Math Cert.MlaIdeal.Softmax Cert.MlaIdeal.Entry
open Cert.MlaRefIdeal.Reference Idealize.ShloMosaic.ValueIdx Idealize.ShloMosaic.TcCoe Idealize.SL.Sem

variable (m : (ℓ : Loc nD τ sig) → Buf (Elt Ideal) ℓ) (c : Dev nD)

/-- The head group. -/
theorem head : ∀ t : Fin cfg0.N, win0_0.index t 0 = t.val / 64 ∧ win0_1.index t 0 = t.val / 64 ∧ win0_2.index t 0 = t.val / 64
    ∧ win0_3.index t 0 = t.val / 64 ∧ win0_4.index t 0 = t.val / 64 ∧ win0_5.index t 0 = t.val / 64 :=
  (by decide +kernel : ∀ t : Fin grid0.N, win0_0.index t 0 = t.val / 64 ∧ win0_1.index t 0 = t.val / 64 ∧ win0_2.index t 0 = t.val / 64
    ∧ win0_3.index t 0 = t.val / 64 ∧ win0_4.index t 0 = t.val / 64 ∧ win0_5.index t 0 = t.val / 64)

/-- The block of keys. -/
theorem keys : ∀ t : Fin cfg0.N, (win0_1.index t 1 = t.val / 8 % 8 ∧ win0_1.index t 2 = 0) ∧ win0_2.index t 1 = t.val / 8 % 8 ∧ win0_2.index t 2 = 0 :=
  (by decide +kernel : ∀ t : Fin grid0.N, (win0_1.index t 1 = t.val / 8 % 8 ∧ win0_1.index t 2 = 0) ∧ win0_2.index t 1 = t.val / 8 % 8 ∧ win0_2.index t 2 = 0)

/-- The block of queries, where some query of it sees a key. -/
theorem queries : ∀ t : Fin cfg0.N, t.val / 8 % 8 ≤ t.val % 8 → (win0_0.index t 1 = t.val % 8 ∧ win0_0.index t 2 = 0)
    ∧ (win0_3.index t 1 = t.val % 8 ∧ win0_3.index t 2 = 0) ∧ (win0_4.index t 1 = 0 ∧ win0_4.index t 2 = t.val % 8) ∧ win0_5.index t 1 = 0 ∧ win0_5.index t 2 = t.val % 8 :=
  (by decide +kernel : ∀ t : Fin grid0.N, t.val / 8 % 8 ≤ t.val % 8 → (win0_0.index t 1 = t.val % 8 ∧ win0_0.index t 2 = 0)
    ∧ (win0_3.index t 1 = t.val % 8 ∧ win0_3.index t 2 = 0) ∧ (win0_4.index t 1 = 0 ∧ win0_4.index t 2 = t.val % 8) ∧ win0_5.index t 1 = 0 ∧ win0_5.index t 2 = t.val % 8)

theorem head_row (t : Fin cfg0.N) (h : Fin 4) : (row 4 (t.val / 64) h : Fin 8).val = 4 * (t.val / 64) + h.val :=
  row_val h 2 rfl (by have := lt_of_lt_of_eq t.isLt N_0; omega)

variable {m c} {T : Att}
  (H : Are (m ((c : Thread nD τ).loc main_arg0)) (m ((c : Thread nD τ).loc main_arg1)) (m ((c : Thread nD τ).loc main_arg2)) (m ((c : Thread nD τ).loc main_arg3)) T)
include H

theorem q_at (t : Fin cfg0.N) (hle : t.val / 8 % 8 ≤ t.val % 8) (h : Fin 4) (a : Fin 512) (e : Fin 128) :
    bQ m c t (ix3 h a e) = (((T.arr.blk (t.val / 64) (t.val / 8 % 8) (t.val % 8)).Q h a e : ℝ) : EReal) := by
  refine Eq.trans ?_ (q_eq H (row 4 (t.val / 64) h) (row 512 (t.val % 8) a) e)
  unfold bQ iblk
  rw [View.read_apply]
  refine (congrFun (found_q m c) _).trans (congrArg (vWide (m ((c : Thread nD τ).loc main_arg0))) ?_)
  funext x
  apply Fin.ext
  match x with
  | ⟨0, _⟩ => show win0_0.index t 0 * 4 + 1 * h.val = (row 4 (t.val / 64) h : Fin 8).val; rw [(head t).1, head_row]; omega
  | ⟨1, _⟩ => show win0_0.index t 1 * 512 + 1 * a.val = (row 512 (t.val % 8) a : Fin 4096).val; rw [(queries t hle).1.1, Arr.row_lt (Nat.mod_lt _ (by decide))]; omega
  | ⟨2, _⟩ => show win0_0.index t 2 * 128 + 1 * e.val = e.val; rw [(queries t hle).1.2]; omega

theorem k_at (t : Fin cfg0.N) (h : Fin 4) (a : Fin 512) (e : Fin 128) :
    bK m c t (ix3 h a e) = (((T.arr.blk (t.val / 64) (t.val / 8 % 8) (t.val % 8)).K h a e : ℝ) : EReal) := by
  refine Eq.trans ?_ (k_eq H (row 4 (t.val / 64) h) (row 512 (t.val / 8 % 8) a) e)
  unfold bK iblk
  rw [View.read_apply]
  refine (congrFun (found_k m c) _).trans (congrArg (vWide (m ((c : Thread nD τ).loc main_arg1))) ?_)
  funext x
  apply Fin.ext
  match x with
  | ⟨0, _⟩ => show win0_1.index t 0 * 4 + 1 * h.val = (row 4 (t.val / 64) h : Fin 8).val; rw [(head t).2.1, head_row]; omega
  | ⟨1, _⟩ => show win0_1.index t 1 * 512 + 1 * a.val = (row 512 (t.val / 8 % 8) a : Fin 4096).val; rw [(keys t).1.1, Arr.row_lt (Nat.mod_lt _ (by decide))]; omega
  | ⟨2, _⟩ => show win0_1.index t 2 * 128 + 1 * e.val = e.val; rw [(keys t).1.2]; omega

theorem v_at (t : Fin cfg0.N) (h : Fin 4) (a : Fin 512) (e : Fin 64) :
    bV m c t (ix3 h a e) = (((T.arr.blk (t.val / 64) (t.val / 8 % 8) (t.val % 8)).V h a e : ℝ) : EReal) := by
  refine Eq.trans ?_ (v_eq H (row 4 (t.val / 64) h) (row 512 (t.val / 8 % 8) a) e)
  unfold bV iblk
  rw [View.read_apply]
  refine (congrFun (found_v m c) _).trans (congrArg (vHeads (m ((c : Thread nD τ).loc main_arg2))) ?_)
  funext x
  apply Fin.ext
  match x with
  | ⟨0, _⟩ => show win0_2.index t 0 * 4 + 1 * h.val = (row 4 (t.val / 64) h : Fin 8).val; rw [(head t).2.2.1, head_row]; omega
  | ⟨1, _⟩ => show win0_2.index t 1 * 512 + 1 * a.val = (row 512 (t.val / 8 % 8) a : Fin 4096).val; rw [(keys t).2.1, Arr.row_lt (Nat.mod_lt _ (by decide))]; omega
  | ⟨2, _⟩ => show win0_2.index t 2 * 64 + 1 * e.val = e.val; rw [(keys t).2.2]; omega

theorem c_at (t : Fin cfg0.N) (hle : t.val / 8 % 8 ≤ t.val % 8) (h : Fin 4) (a : Fin 512) (e : Fin 64) :
    bO m c t (ix3 h a e) = (((T.arr.blk (t.val / 64) (t.val / 8 % 8) (t.val % 8)).O h a e : ℝ) : EReal) := by
  refine Eq.trans ?_ (c_eq H (row 4 (t.val / 64) h) (row 512 (t.val % 8) a) e)
  unfold bO iblk
  rw [View.read_apply]
  refine (congrFun (found_c m c) _).trans (congrArg (vHeads (m ((c : Thread nD τ).loc main_arg3))) ?_)
  funext x
  apply Fin.ext
  match x with
  | ⟨0, _⟩ => show win0_3.index t 0 * 4 + 1 * h.val = (row 4 (t.val / 64) h : Fin 8).val; rw [(head t).2.2.2.1, head_row]; omega
  | ⟨1, _⟩ => show win0_3.index t 1 * 512 + 1 * a.val = (row 512 (t.val % 8) a : Fin 4096).val; rw [(queries t hle).2.1.1, Arr.row_lt (Nat.mod_lt _ (by decide))]; omega
  | ⟨2, _⟩ => show win0_3.index t 2 * 64 + 1 * e.val = e.val; rw [(queries t hle).2.1.2]; omega

omit H in
theorem l_read (t : Fin cfg0.N) (f : FVec Ideal S8x1x4096 .f32) (y : S4x1x512.Idx) :
    ((cfg0.win 4).blk t).view.read (Elt Ideal) f y = f (((cfg0.win 4).blk t).view.emb y) := rfl

omit H in
theorem l_emb (t : Fin cfg0.N) (hle : t.val / 8 % 8 ≤ t.val % 8) (h : Fin 4) (b : Fin 512) :
    ((cfg0.win 4).blk t).view.emb (ix3 h (0 : Fin 1) b) = ix3 (row 4 (t.val / 64) h) (0 : Fin 1) (row 512 (t.val % 8) b) := by
  funext x
  apply Fin.ext
  match x with
  | ⟨0, _⟩ => show win0_4.index t 0 * 4 + 1 * h.val = (row 4 (t.val / 64) h : Fin 8).val; rw [(head t).2.2.2.2.1, head_row]; omega
  | ⟨1, _⟩ => show win0_4.index t 1 * 1 + 1 * 0 = 0; rw [(queries t hle).2.2.1.1]
  | ⟨2, _⟩ =>
    show win0_4.index t 2 * 512 + 1 * b.val = (row 512 (t.val % 8) b : Fin 4096).val
    rw [(queries t hle).2.2.1.2, Arr.row_lt (Nat.mod_lt _ (by decide))]
    omega

theorem l_at (t : Fin cfg0.N) (hle : t.val / 8 % 8 ≤ t.val % 8) (h : Fin 4) (b : Fin 512) :
    bL m c t (ix3 h 0 b) = (((T.arr.blk (t.val / 64) (t.val / 8 % 8) (t.val % 8)).L h b : ℝ) : EReal) :=
  (l_read t (V m c main_v37) (ix3 h (0 : Fin 1) b)).trans ((congrArg _ (l_emb t hle h b)).trans
    ((congrFun (found_l m c) _).trans (lse_eq H (row 4 (t.val / 64) h) (row 512 (t.val % 8) b))))

omit H in
theorem d_read (t : Fin cfg0.N) (f : FVec Ideal S8x1x4096 .f32) (y : S4x1x512.Idx) :
    ((cfg0.win 5).blk t).view.read (Elt Ideal) f y = f (((cfg0.win 5).blk t).view.emb y) := rfl

omit H in
theorem d_emb (t : Fin cfg0.N) (hle : t.val / 8 % 8 ≤ t.val % 8) (h : Fin 4) (b : Fin 512) :
    ((cfg0.win 5).blk t).view.emb (ix3 h (0 : Fin 1) b) = ix3 (row 4 (t.val / 64) h) (0 : Fin 1) (row 512 (t.val % 8) b) := by
  funext x
  apply Fin.ext
  match x with
  | ⟨0, _⟩ => show win0_5.index t 0 * 4 + 1 * h.val = (row 4 (t.val / 64) h : Fin 8).val; rw [(head t).2.2.2.2.2, head_row]; omega
  | ⟨1, _⟩ => show win0_5.index t 1 * 1 + 1 * 0 = 0; rw [(queries t hle).2.2.2.1]
  | ⟨2, _⟩ =>
    show win0_5.index t 2 * 512 + 1 * b.val = (row 512 (t.val % 8) b : Fin 4096).val
    rw [(queries t hle).2.2.2.2, Arr.row_lt (Nat.mod_lt _ (by decide))]
    omega

theorem d_at (t : Fin cfg0.N) (hle : t.val / 8 % 8 ≤ t.val % 8) (h : Fin 4) (b : Fin 512) :
    bD m c t (ix3 h 0 b) = (((T.arr.blk (t.val / 64) (t.val / 8 % 8) (t.val % 8)).D h b : ℝ) : EReal) :=
  (d_read t (V m c main_v38) (ix3 h (0 : Fin 1) b)).trans ((congrArg _ (d_emb t hle h b)).trans
    ((congrFun (found_d m c) _).trans (dd_eq H (row 4 (t.val / 64) h) (row 512 (t.val % 8) b))))

theorem reads : Sums.Reads m c T.arr := fun t hle =>
  ⟨q_at H t hle, k_at H t, v_at H t, c_at H t hle, l_at H t hle, d_at H t hle⟩

end Cert.MlaIdeal.Reads

end
-- ==== Proof.Mla.Final.lean ====
/-
  The kernel's run over the reals: each result array at its mathematics.
-/
module

public import proofs.«01_k».proof.Proof.Mla.Reads
public import proofs.«01_k».proof.Proof.Gen.MlaIdeal.Value

@[expose] public section

noncomputable section

namespace Cert.MlaIdeal.Final

open Idealize.ShloMosaic hiding ix1 ix2 ix3 ix4
open Cert.Rows Cert.Widen Cert.MlaIdeal Cert.MlaIdeal.Gen Cert.MlaIdeal.Math Cert.MlaIdeal.Softmax Cert.MlaIdeal.Reads
open Cert.MlaRefIdeal.Reference Idealize.ShloMosaic.ValueIdx Idealize.ShloMosaic.TcCoe Idealize.SL.Sem

variable (m : (ℓ : Loc nD τ sig) → Buf (Elt Ideal) ℓ) (c : Dev nD)

theorem index6 : ∀ t : Fin cfg0.N, win0_6.index t 0 = t.val / 64 ∧ win0_6.index t 1 = 0 ∧ win0_6.index t 2 = 0 :=
  (by decide +kernel : ∀ t : Fin grid0.N, win0_6.index t 0 = t.val / 64 ∧ win0_6.index t 1 = 0 ∧ win0_6.index t 2 = 0)

theorem index7 : ∀ t : Fin cfg0.N, win0_7.index t 0 = t.val / 64 ∧ win0_7.index t 1 = t.val / 8 % 8 ∧ win0_7.index t 2 = 0 :=
  (by decide +kernel : ∀ t : Fin grid0.N, win0_7.index t 0 = t.val / 64 ∧ win0_7.index t 1 = t.val / 8 % 8 ∧ win0_7.index t 2 = 0)

theorem index8 : ∀ t : Fin cfg0.N, win0_8.index t 0 = t.val / 64 ∧ win0_8.index t 1 = t.val / 8 % 8 ∧ win0_8.index t 2 = 0 :=
  (by decide +kernel : ∀ t : Fin grid0.N, win0_8.index t 0 = t.val / 64 ∧ win0_8.index t 1 = t.val / 8 % 8 ∧ win0_8.index t 2 = 0)

/-- No two points write one block of a result. -/
theorem apart6 (t t' : Fin cfg0.N) (f : (cfg0.win 6).flush t = true) (f' : (cfg0.win 6).flush t' = true) (hne : t ≠ t') :
    Disjoint ((cfg0.win 6).blk t).view.set ((cfg0.win 6).blk t').view.set :=
  Finset.disjoint_left.mpr fun (i : S8x4096x128.Idx) hi hi' => hne (Fin.ext (by
    have a : win0_6.index t 0 * 4 ≤ (i 0).val ∧ (i 0).val < win0_6.index t 0 * 4 + 4 := (Value.mem_blk6 t i).mp hi 0
    have b : win0_6.index t' 0 * 4 ≤ (i 0).val ∧ (i 0).val < win0_6.index t' 0 * 4 + 4 := (Value.mem_blk6 t' i).mp hi' 0
    rw [(index6 t).1] at a
    rw [(index6 t').1] at b
    have := (flush0_6 t).mp f
    have := (flush0_6 t').mp f'
    omega))

theorem apart7 (t t' : Fin cfg0.N) (f : (cfg0.win 7).flush t = true) (f' : (cfg0.win 7).flush t' = true) (hne : t ≠ t') :
    Disjoint ((cfg0.win 7).blk t).view.set ((cfg0.win 7).blk t').view.set :=
  Finset.disjoint_left.mpr fun (i : S8x4096x128.Idx) hi hi' => hne (Fin.ext (by
    have a : win0_7.index t 0 * 4 ≤ (i 0).val ∧ (i 0).val < win0_7.index t 0 * 4 + 4 := (Value.mem_blk7 t i).mp hi 0
    have b : win0_7.index t' 0 * 4 ≤ (i 0).val ∧ (i 0).val < win0_7.index t' 0 * 4 + 4 := (Value.mem_blk7 t' i).mp hi' 0
    have u : win0_7.index t 1 * 512 ≤ (i 1).val ∧ (i 1).val < win0_7.index t 1 * 512 + 512 := (Value.mem_blk7 t i).mp hi 1
    have w : win0_7.index t' 1 * 512 ≤ (i 1).val ∧ (i 1).val < win0_7.index t' 1 * 512 + 512 := (Value.mem_blk7 t' i).mp hi' 1
    rw [(index7 t).1] at a
    rw [(index7 t').1] at b
    rw [(index7 t).2.1] at u
    rw [(index7 t').2.1] at w
    have := (flush0_7 t).mp f
    have := (flush0_7 t').mp f'
    omega))

theorem apart8 (t t' : Fin cfg0.N) (f : (cfg0.win 8).flush t = true) (f' : (cfg0.win 8).flush t' = true) (hne : t ≠ t') :
    Disjoint ((cfg0.win 8).blk t).view.set ((cfg0.win 8).blk t').view.set :=
  Finset.disjoint_left.mpr fun (i : S8x4096x64.Idx) hi hi' => hne (Fin.ext (by
    have a : win0_8.index t 0 * 4 ≤ (i 0).val ∧ (i 0).val < win0_8.index t 0 * 4 + 4 := (Value.mem_blk8 t i).mp hi 0
    have b : win0_8.index t' 0 * 4 ≤ (i 0).val ∧ (i 0).val < win0_8.index t' 0 * 4 + 4 := (Value.mem_blk8 t' i).mp hi' 0
    have u : win0_8.index t 1 * 512 ≤ (i 1).val ∧ (i 1).val < win0_8.index t 1 * 512 + 512 := (Value.mem_blk8 t i).mp hi 1
    have w : win0_8.index t' 1 * 512 ≤ (i 1).val ∧ (i 1).val < win0_8.index t' 1 * 512 + 512 := (Value.mem_blk8 t' i).mp hi' 1
    rw [(index8 t).1] at a
    rw [(index8 t').1] at b
    rw [(index8 t).2.1] at u
    rw [(index8 t').2.1] at w
    have := (flush0_8 t).mp f
    have := (flush0_8 t').mp f'
    omega))

theorem at6 (t : Fin cfg0.N) (ht : t.val % 64 = 63) (h : Fin 4) (p : Fin 4096) (e : Fin 128) :
    ((dats m 0 c).arrAt 6 cfg0.N : Vec Ideal S8x4096x128 .f32) (ix3 (row 4 (t.val / 64) h) p e) = (outsAt0 m c t.val t.isLt).1 (ix3 h p e) := by
  have w := congrFun (((dats m 0 c).read_blk_arrAt_eq_flushed 6 apart6 cfg0.N t t.isLt ((flush0_6 t).mpr ht)).trans (Value.flushed6 m c t)) (ix3 h p e)
  rw [View.read_apply] at w
  refine Eq.trans ?_ w
  show _ = (dats m 0 c).arrAt 6 cfg0.N _
  congr 1
  funext x
  apply Fin.ext
  match x with
  | ⟨0, _⟩ => show (row 4 (t.val / 64) h : Fin 8).val = win0_6.index t 0 * 4 + 1 * h.val; rw [(index6 t).1, head_row]; omega
  | ⟨1, _⟩ => show p.val = win0_6.index t 1 * 4096 + 1 * p.val; rw [(index6 t).2.1]; omega
  | ⟨2, _⟩ => show e.val = win0_6.index t 2 * 128 + 1 * e.val; rw [(index6 t).2.2]; omega

theorem at7 (t : Fin cfg0.N) (ht : t.val % 8 = 7) (h : Fin 4) (a : Fin 512) (e : Fin 128) :
    ((dats m 0 c).arrAt 7 cfg0.N : Vec Ideal S8x4096x128 .f32) (ix3 (row 4 (t.val / 64) h) (row 512 (t.val / 8 % 8) a) e)
      = (outsAt0 m c t.val t.isLt).2.1 (ix3 h a e) := by
  have w := congrFun (((dats m 0 c).read_blk_arrAt_eq_flushed 7 apart7 cfg0.N t t.isLt ((flush0_7 t).mpr ht)).trans (Value.flushed7 m c t)) (ix3 h a e)
  rw [View.read_apply] at w
  refine Eq.trans ?_ w
  show _ = (dats m 0 c).arrAt 7 cfg0.N _
  congr 1
  funext x
  apply Fin.ext
  match x with
  | ⟨0, _⟩ => show (row 4 (t.val / 64) h : Fin 8).val = win0_7.index t 0 * 4 + 1 * h.val; rw [(index7 t).1, head_row]; omega
  | ⟨1, _⟩ =>
    show (row 512 (t.val / 8 % 8) a : Fin 4096).val = win0_7.index t 1 * 512 + 1 * a.val
    rw [(index7 t).2.1, Arr.row_lt (Nat.mod_lt _ (by decide))]
    omega
  | ⟨2, _⟩ => show e.val = win0_7.index t 2 * 128 + 1 * e.val; rw [(index7 t).2.2]; omega

theorem at8 (t : Fin cfg0.N) (ht : t.val % 8 = 7) (h : Fin 4) (a : Fin 512) (e : Fin 64) :
    ((dats m 0 c).arrAt 8 cfg0.N : Vec Ideal S8x4096x64 .f32) (ix3 (row 4 (t.val / 64) h) (row 512 (t.val / 8 % 8) a) e)
      = (outsAt0 m c t.val t.isLt).2.2.1 (ix3 h a e) := by
  have w := congrFun (((dats m 0 c).read_blk_arrAt_eq_flushed 8 apart8 cfg0.N t t.isLt ((flush0_8 t).mpr ht)).trans (Value.flushed8 m c t)) (ix3 h a e)
  rw [View.read_apply] at w
  refine Eq.trans ?_ w
  show _ = (dats m 0 c).arrAt 8 cfg0.N _
  congr 1
  funext x
  apply Fin.ext
  match x with
  | ⟨0, _⟩ => show (row 4 (t.val / 64) h : Fin 8).val = win0_8.index t 0 * 4 + 1 * h.val; rw [(index8 t).1, head_row]; omega
  | ⟨1, _⟩ =>
    show (row 512 (t.val / 8 % 8) a : Fin 4096).val = win0_8.index t 1 * 512 + 1 * a.val
    rw [(index8 t).2.1, Arr.row_lt (Nat.mod_lt _ (by decide))]
    omega
  | ⟨2, _⟩ => show e.val = win0_8.index t 2 * 64 + 1 * e.val; rw [(index8 t).2.2]; omega

/-! ## The results, when the arguments are real -/

variable {m c} {T : Att}
  (H : Are (m ((c : Thread nD τ).loc main_arg0)) (m ((c : Thread nD τ).loc main_arg1)) (m ((c : Thread nD τ).loc main_arg2)) (m ((c : Thread nD τ).loc main_arg3)) T)
include H

theorem dq_eq (h : Fin 8) (p : Fin 4096) (e : Fin 128) :
    ((dats m 0 c).arrAt 6 cfg0.N : Vec Ideal S8x4096x128 .f32) (ix3 h p e) = ((widen (T.dq p h) e : ℝ) : EReal) := by
  have hh := h.isLt
  have key := at6 m c ⟨64 * (h.val / 4) + 63, lt_of_lt_of_eq (by omega) N_0.symm⟩ (by show (64 * (h.val / 4) + 63) % 64 = 63; omega) ⟨h.val % 4, Nat.mod_lt _ (by decide)⟩ p e
  have er : (row 4 ((64 * (h.val / 4) + 63) / 64) ⟨h.val % 4, Nat.mod_lt _ (by decide)⟩ : Fin 8) = h := Fin.ext
    ((row_val (⟨h.val % 4, Nat.mod_lt _ (by decide)⟩ : Fin 4) 2 rfl (by omega)).trans (by show 4 * ((64 * (h.val / 4) + 63) / 64) + h.val % 4 = h.val; omega))
  have val := Sums.flushed_q (reads H) ⟨64 * (h.val / 4) + 63, lt_of_lt_of_eq (by omega) N_0.symm⟩ (by show (64 * (h.val / 4) + 63) % 64 = 63; omega)
    ⟨h.val % 4, Nat.mod_lt _ (by decide)⟩ p e
  dsimp only at key val
  rw [er] at key val
  rw [key, val, Att.arr_dQ]

theorem dk_eq (h : Fin 8) (r : Fin 4096) (e : Fin 128) :
    ((dats m 0 c).arrAt 7 cfg0.N : Vec Ideal S8x4096x128 .f32) (ix3 h r e) = ((widen (T.dk r h) e : ℝ) : EReal) := by
  have hh := h.isLt
  have hr := r.isLt
  have key := at7 m c ⟨64 * (h.val / 4) + 8 * (r.val / 512) + 7, lt_of_lt_of_eq (by omega) N_0.symm⟩
    (by show (64 * (h.val / 4) + 8 * (r.val / 512) + 7) % 8 = 7; omega) ⟨h.val % 4, Nat.mod_lt _ (by decide)⟩ ⟨r.val % 512, Nat.mod_lt _ (by decide)⟩ e
  have val := Sums.flushed_k (reads H) ⟨64 * (h.val / 4) + 8 * (r.val / 512) + 7, lt_of_lt_of_eq (by omega) N_0.symm⟩
    (by show (64 * (h.val / 4) + 8 * (r.val / 512) + 7) % 8 = 7; omega) ⟨h.val % 4, Nat.mod_lt _ (by decide)⟩ ⟨r.val % 512, Nat.mod_lt _ (by decide)⟩ e
  have eh : (row 4 ((64 * (h.val / 4) + 8 * (r.val / 512) + 7) / 64) ⟨h.val % 4, Nat.mod_lt _ (by decide)⟩ : Fin 8) = h := Fin.ext
    ((row_val (⟨h.val % 4, Nat.mod_lt _ (by decide)⟩ : Fin 4) 2 rfl (by omega)).trans (by show 4 * ((64 * (h.val / 4) + 8 * (r.val / 512) + 7) / 64) + h.val % 4 = h.val; omega))
  have er : (row 512 ((64 * (h.val / 4) + 8 * (r.val / 512) + 7) / 8 % 8) ⟨r.val % 512, Nat.mod_lt _ (by decide)⟩ : Fin 4096) = r := Fin.ext (by
    rw [Arr.row_lt (Nat.mod_lt _ (by decide))]; show 512 * ((64 * (h.val / 4) + 8 * (r.val / 512) + 7) / 8 % 8) + r.val % 512 = r.val; omega)
  dsimp only at key val
  rw [eh, er] at key val
  rw [key, val, Att.arr_dK]

theorem dv_eq (h : Fin 8) (r : Fin 4096) (e : Fin 64) :
    ((dats m 0 c).arrAt 8 cfg0.N : Vec Ideal S8x4096x64 .f32) (ix3 h r e) = ((T.dv r h e : ℝ) : EReal) := by
  have hh := h.isLt
  have hr := r.isLt
  have key := at8 m c ⟨64 * (h.val / 4) + 8 * (r.val / 512) + 7, lt_of_lt_of_eq (by omega) N_0.symm⟩
    (by show (64 * (h.val / 4) + 8 * (r.val / 512) + 7) % 8 = 7; omega) ⟨h.val % 4, Nat.mod_lt _ (by decide)⟩ ⟨r.val % 512, Nat.mod_lt _ (by decide)⟩ e
  have val := Sums.flushed_v (reads H) ⟨64 * (h.val / 4) + 8 * (r.val / 512) + 7, lt_of_lt_of_eq (by omega) N_0.symm⟩
    (by show (64 * (h.val / 4) + 8 * (r.val / 512) + 7) % 8 = 7; omega) ⟨h.val % 4, Nat.mod_lt _ (by decide)⟩ ⟨r.val % 512, Nat.mod_lt _ (by decide)⟩ e
  have eh : (row 4 ((64 * (h.val / 4) + 8 * (r.val / 512) + 7) / 64) ⟨h.val % 4, Nat.mod_lt _ (by decide)⟩ : Fin 8) = h := Fin.ext
    ((row_val (⟨h.val % 4, Nat.mod_lt _ (by decide)⟩ : Fin 4) 2 rfl (by omega)).trans (by show 4 * ((64 * (h.val / 4) + 8 * (r.val / 512) + 7) / 64) + h.val % 4 = h.val; omega))
  have er : (row 512 ((64 * (h.val / 4) + 8 * (r.val / 512) + 7) / 8 % 8) ⟨r.val % 512, Nat.mod_lt _ (by decide)⟩ : Fin 4096) = r := Fin.ext (by
    rw [Arr.row_lt (Nat.mod_lt _ (by decide))]; show 512 * ((64 * (h.val / 4) + 8 * (r.val / 512) + 7) / 8 % 8) + r.val % 512 = r.val; omega)
  dsimp only at key val
  rw [eh, er] at key val
  rw [key, val, Att.arr_dV]

end Cert.MlaIdeal.Final

end
-- ==== Proof.Mla.Equation.lean ====
/-
  The two programs leave the same arrays when the arguments are finite.
-/
module

public import proofs.«01_k».proof.Defs
public import proofs.«01_k».proof.Proof.Mla.Final
public import proofs.«01_k».proof.Proof.Gen.Pre_pre_mla

@[expose] public section

noncomputable section

namespace Cert.Mla.Equation

open Idealize.ShloMosaic hiding ix0 ix1 ix2 ix3 ix4
open Cert.Reals Cert.MlaIdeal.Softmax Idealize.ShloMosaic.TcCoe Idealize.SL.Sem Idealize.ShloMosaic.ValueIdx

section Finite

variable {a0 a1 : FVec Ideal Pre_pre_mla.S4096x8x96 .f32} {a2 a3 : FVec Ideal Pre_pre_mla.S4096x8x64 .f32}

/-- Under the precondition each argument is its array of real parts. -/
theorem finite [Pre_pre_mla.Facts] (h : Pre_pre_mla.fn (F := Ideal) a0 a1 a2 a3 = fun _ => 1#1) :
    (∀ i, ((re a0 i : ℝ) : EReal) = a0 i) ∧ (∀ i, ((re a1 i : ℝ) : EReal) = a1 i) ∧ (∀ i, ((re a2 i : ℝ) : EReal) = a2 i)
    ∧ ∀ i, ((re a3 i : ℝ) : EReal) = a3 i := by
  have h' := congrFun h ix0
  unfold Pre_pre_mla.fn Pre_pre_mla.fn_part1 at h'
  dsimp only at h'
  obtain ⟨h', h3⟩ := andi_split h'
  obtain ⟨h', h2⟩ := andi_split h'
  obtain ⟨h0, h1⟩ := andi_split h'
  exact ⟨coe_re _ _ _ _ _ _ _ h0, coe_re _ _ _ _ _ _ _ h1, coe_re _ _ _ _ _ _ _ h2, coe_re _ _ _ _ _ _ _ h3⟩

end Finite

/-- The reference terminates, keeps its arguments, and has no semaphore. -/
theorem frame_ref : Cert.quiescent_MlaRefIdeal := fun m ρ _ =>
  (θ_run MlaRefIdeal.defs _ _).mono (fun r h => ⟨fun c => (h c).2.2.2, sem_eq_zero_of_no_sems (by decide) r.2⟩)
    (MlaRefIdeal.Value.run (F := Ideal) m ρ)

/-- The mask's stand-in is minus infinity. -/
theorem preserves : Cert.preserves_Mla_MlaIdeal :=
  IdealRules.named_const.statement MlaIdeal.κ "mask" .f32 0xF149F2CA#32 ⊥ rfl

/-- The attention of the arguments' real parts. -/
abbrev att (a0 a1 : FVec Ideal MlaRefIdeal.S4096x8x96 .f32) (a2 a3 : FVec Ideal MlaRefIdeal.S4096x8x64 .f32) : Att where
  q p h e := re a0 (ix3 p h e)
  k p h e := re a1 (ix3 p h e)
  v p h e := re a2 (ix3 p h e)
  c p h e := re a3 (ix3 p h e)
  M h p := EReal.toReal (MlaRefIdeal.Read.val_main_v12 (F := Ideal) a0 a1 (ix2 h p))

/-- Finite arguments are the attention's. -/
theorem are {a0 a1 : FVec Ideal MlaRefIdeal.S4096x8x96 .f32} {a2 a3 : FVec Ideal MlaRefIdeal.S4096x8x64 .f32}
    (f0 : ∀ i, ((re a0 i : ℝ) : EReal) = a0 i) (f1 : ∀ i, ((re a1 i : ℝ) : EReal) = a1 i) (f2 : ∀ i, ((re a2 i : ℝ) : EReal) = a2 i)
    (f3 : ∀ i, ((re a3 i : ℝ) : EReal) = a3 i) : MlaRefIdeal.Reference.Are a0 a1 a2 a3 (att a0 a1 a2 a3) where
  q _ _ _ := (f0 _).symm
  k _ _ _ := (f1 _).symm
  v _ _ _ := (f2 _).symm
  c _ _ _ := (f3 _).symm
  M _ _ := by dsimp only [att]

/-- The latent attention's gradients: kernel and reference agree. -/
theorem algebraic [Pre_pre_mla.Facts] : Cert.algebraic_MlaIdeal_MlaRefIdeal_pre_pre_mla := by
  intro m g m' g' hpre heq
  refine ⟨fun c => (MlaIdeal.Gen.dats m 0 c).arrAt 6 MlaIdeal.cfg0.N, fun c => (MlaIdeal.Gen.dats m 0 c).arrAt 7 MlaIdeal.cfg0.N,
    fun c => (MlaIdeal.Gen.dats m 0 c).arrAt 8 MlaIdeal.cfg0.N, MlaIdeal.Value.run_blocks m g, ?_⟩
  refine (θ_run _ _ _).mono (fun r h c => ?_) (MlaRefIdeal.Value.run m' g')
  obtain ⟨h0, h1, h2, hargs⟩ := h c
  obtain ⟨f0, f1, f2, f3⟩ := finite (hpre c)
  obtain ⟨e0, e1, e2, e3⟩ := heq c
  have H := are f0 f1 f2 f3
  refine ⟨h0.trans ?_, h1.trans ?_, h2.trans ?_, hargs⟩
  · rw [MlaRefIdeal.Read.val_main_v66_eq, e0, e1, e2, e3]
    refine funext fun i => ?_
    obtain ⟨h, p, e, rfl⟩ : ∃ (h : Fin 8) (p : Fin 4096) (e : Fin 128), i = ix3 h p e := ⟨i 0, i 1, i 2, ValueIdx.eq_ix3 i⟩
    exact (MlaRefIdeal.Reference.dq_at H h p e).trans (MlaIdeal.Final.dq_eq H h p e).symm
  · rw [MlaRefIdeal.Read.val_main_v68_eq, e0, e1, e2, e3]
    refine funext fun i => ?_
    obtain ⟨h, p, e, rfl⟩ : ∃ (h : Fin 8) (p : Fin 4096) (e : Fin 128), i = ix3 h p e := ⟨i 0, i 1, i 2, ValueIdx.eq_ix3 i⟩
    exact (MlaRefIdeal.Reference.dk_at H h p e).trans (MlaIdeal.Final.dk_eq H h p e).symm
  · rw [MlaRefIdeal.Read.val_main_v69_eq, e0, e1, e3]
    refine funext fun i => ?_
    obtain ⟨h, p, e, rfl⟩ : ∃ (h : Fin 8) (p : Fin 4096) (e : Fin 64), i = ix3 h p e := ⟨i 0, i 1, i 2, ValueIdx.eq_ix3 i⟩
    exact (MlaRefIdeal.Reference.dv_at H h p e).trans (MlaIdeal.Final.dv_eq H h p e).symm

end Cert.Mla.Equation

end
-- ==== Proof.Mlaf.Run.lean ====
/-
  One point of the forward attention's grid, run: with the running maxima, sums and weighted values at any contents, the
  body leaves them as `step` says — started afresh where the point's key block is the first, taken over one block of keys
  where that block lies before the queries, over the diagonal block where it is theirs — and writes its two results at the
  diagonal only.
-/
module

public import proofs.«01_k».proof.Proof.Gen.MlafIdeal.Frame
public import proofs.«01_k».proof.Proof.Gen.MlafIdeal.Skeleton
public import Idealize.ShloMosaic.Lib.Pipeline.TableIdle
public import Idealize.ShloMosaic.Lib.Pipeline.Value

@[expose] public section

set_option maxRecDepth 16384

noncomputable section

namespace Cert.MlafIdeal.Run

open Cert.MlafIdeal Cert.MlafIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first block of keys. -/
abbrev First (i : grid0.Coords) : Prop :=
  (Scalar.cmpi .ne (Scalar.extui (Scalar.cmpi .eq (BitVec.ofNat 32 (i 2).val) 0#32)) 0#32) = 1#1
/-- A block of keys before the queries. -/
abbrev Before (i : grid0.Coords) : Prop :=
  (Scalar.cmpi .ne (Scalar.extui (Scalar.cmpi .slt (BitVec.ofNat 32 (i 2).val) (BitVec.ofNat 32 (i 1).val))) 0#32) = 1#1
/-- The diagonal block. -/
abbrev Diag (i : grid0.Coords) : Prop := k0_cond3 i = 1#1

/-- The running maxima, sums and weighted values, then the two result blocks. -/
structure St (F : FTy → Type) where
  m : Vec F S8x1x512 .f32
  l : Vec F S8x1x512 .f32
  a : Vec F S8x64x512 .f32
  o : Vec F S8x64x512 .f32
  e : Vec F S8x1x512 .f32

/-- Everything started afresh. -/
def fresh (s : St F) : St F := { s with m := k0_pay1, l := k0_pay2, a := k0_pay3 }

/-- One block of keys before the queries. -/
def off (q k : Vec F S8x512x128 .bf16) (v : Vec F S8x64x512 .bf16) (s : St F) : St F :=
  { s with
    m := k0_pay5 (k0_pay11 k q s.m)
    l := k0_pay14 k q s.m s.l
    a := k0_pay4 (k0_pay15 k q s.m s.a) (k0_pay16 v) (k0_pay17 k q s.m) (constant S8x64x512 .f32 0x00000000#32) }

/-- The diagonal block, its maxima, sums and weighted values, -/
def diag (q k : Vec F S8x512x128 .bf16) (v : Vec F S8x64x512 .bf16) (s : St F) : St F :=
  { s with
    m := k0_pay7 (k0_pay19 k q s.m)
    l := k0_pay22 k q s.m s.l
    a := k0_pay6 (k0_pay20 k q s.m) (k0_pay21 k q s.m) s.a v }

/-- and the results of a finished row. -/
def done (s : St F) : St F := { s with o := k0_pay8 s.a s.l, e := k0_pay9 s.m s.l }

open Classical in
/-- What one point does. -/
def step (i : grid0.Coords) (q k : Vec F S8x512x128 .bf16) (v : Vec F S8x64x512 .bf16) (s : St F) : St F :=
  let s := if First i then fresh s else s
  if Diag i then done (diag q k v s) else if Before i then off q k v s else s

section

variable (c : Dev nD) (i : grid0.Coords) (arg3 : Memref sig .tc .vmem S8x512x128 .bf16) (harg3 : arg3.IsWhole)
  (arg4 : Memref sig .tc .vmem S8x512x128 .bf16) (harg4 : arg4.IsWhole) (arg5 : Memref sig .tc .vmem S8x64x512 .bf16) (harg5 : arg5.IsWhole)
  (arg6 : Memref sig .tc .vmem S8x64x512 .f32) (harg6 : arg6.IsWhole) (arg7 : Memref sig .tc .vmem S8x1x512 .f32) (harg7 : arg7.IsWhole)
  (arg8 : Memref sig .tc .vmem S8x1x512 .f32) (harg8 : arg8.IsWhole) (arg9 : Memref sig .tc .vmem S8x1x512 .f32) (harg9 : arg9.IsWhole)
  (arg10 : Memref sig .tc .vmem S8x64x512 .f32) (harg10 : arg10.IsWhole)
  (q k : Vec F S8x512x128 .bf16) (v : Vec F S8x64x512 .bf16)

/-- The eight buffers a point works on. -/
abbrev held (s : St F) : sProp 𝕄 :=
  iprop(owns (c : Thread nD τ) arg3 fullShare q ∗ owns (c : Thread nD τ) arg4 fullShare k ∗ owns (c : Thread nD τ) arg5 fullShare v
    ∗ owns (c : Thread nD τ) arg6 fullShare s.o ∗ owns (c : Thread nD τ) arg7 fullShare s.e
    ∗ owns (c : Thread nD τ) arg8 fullShare s.m ∗ owns (c : Thread nD τ) arg9 fullShare s.l ∗ owns (c : Thread nD τ) arg10 fullShare s.a)

theorem hz : (![0, 0, 0] : Fin 3 → Nat) = fun _ => 0 := funext fun a => by fin_cases a <;> rfl

/-- What a buffer reads after a store of the whole of it. -/
theorem read_last {sg : RefSig} {κ : Kind} {sp : Space} {S : Shape} {e : EltTy} (w : View sg κ sp S e) {off : Fin S.rank → Nat}
    (h : off = fun _ => 0) (inb : ∀ a, off a + S.size a ≤ S.size a) (p : S.Idx → Elt F e) (L : List (View.Piece (Elt F) S e))
    (f : w.ty.Contents (Elt F)) : w.read (Elt F) (w.writes (Elt F) f (⟨Rect.unit off S.size inb, p⟩ :: L)) = p := by
  rw [View.read_writes_eq_canon _ _ _ (fun y => ⟨_, List.mem_cons_self, View.mem_set_unit_zero h inb y⟩)]
  exact View.canon_cons_unit_zero h inb p L

/-- What a load of the whole of a buffer reads, -/
theorem rd {sg : RefSig} {κ : Kind} {sp : Space} {S : Shape} {e : EltTy} (w : View sg κ sp S e) {off : Fin S.rank → Nat}
    (h : off = fun _ => 0) (inb : ∀ a, off a + S.size a ≤ S.size a) (f : w.ty.Contents (Elt F)) :
    w.readAt (Elt F) (Rect.unit off S.size inb).toLoadRect f = w.read (Elt F) f := by
  rw [← View.ld_unit_zero h inb (w.read (Elt F) f)]; rfl

/-- also where a store of the whole of it came before. -/
theorem cov {sg : RefSig} {κ : Kind} {sp : Space} {S : Shape} {e : EltTy} (w : View sg κ sp S e) {off : Fin S.rank → Nat}
    (h : off = fun _ => 0) (inb : ∀ a, off a + S.size a ≤ S.size a) (p : S.Idx → Elt F e) (L : List (View.Piece (Elt F) S e)) :
    w.readCov (⟨Rect.unit off S.size inb, p⟩ :: L) (Rect.unit off S.size inb).toLoadRect = p := by
  rw [View.readCov_eq_canon_ld _ _ _ (fun y => ⟨_, List.mem_cons_self, View.mem_set_unit_zero h inb y⟩),
    View.canon_cons_unit_zero h inb p L, View.ld_unit_zero h inb]

theorem step_FD (h1 : First i) (h2 : ¬Before i) (h3 : Diag i) (s : St F) : step i q k v s = done (diag q k v (fresh s)) := by
  unfold step; simp only [if_pos h1, if_pos h3]

theorem step_FB (h1 : First i) (h2 : Before i) (h3 : ¬Diag i) (s : St F) : step i q k v s = off q k v (fresh s) := by
  unfold step; simp only [if_pos h1, if_neg h3, if_pos h2]

theorem step_D (h1 : ¬First i) (h2 : ¬Before i) (h3 : Diag i) (s : St F) : step i q k v s = done (diag q k v s) := by
  unfold step; simp only [if_neg h1, if_pos h3]

theorem step_B (h1 : ¬First i) (h2 : Before i) (h3 : ¬Diag i) (s : St F) : step i q k v s = off q k v s := by
  unfold step; simp only [if_neg h1, if_neg h3, if_pos h2]

theorem step_N (h1 : ¬First i) (h2 : ¬Before i) (h3 : ¬Diag i) (s : St F) : step i q k v s = s := by
  unfold step; simp only [if_neg h1, if_neg h3, if_neg h2]

set_option maxHeartbeats 2000000 in
include harg3 harg4 harg5 harg6 harg7 harg8 harg9 harg10 in
theorem run (hi : (First i ∧ Diag i ∧ ¬Before i) ∨ (First i ∧ ¬Diag i ∧ Before i) ∨ (¬First i ∧ Diag i ∧ ¬Before i)
      ∨ (¬First i ∧ ¬Diag i ∧ Before i) ∨ (¬First i ∧ ¬Diag i ∧ ¬Before i))
    (s : St F) (E : Set ℕ) (K : PUnit → sProp 𝕄) :
    iprop(held c arg3 arg4 arg5 arg6 arg7 arg8 arg9 arg10 q k v s
        ∗ (held c arg3 arg4 arg5 arg6 arg7 arg8 arg9 arg10 q k v (step i q k v s) -∗ K ⟨⟩))
      ⊢ wp frame (wpE (defs₀ (F := F)) Variants.none c none) E
          (cc0_mla_attn_fwd i arg3 harg3 arg4 harg4 arg5 harg5 arg6 harg6 arg7 harg7 arg8 harg8 arg9 harg9 arg10 harg10) K := by
  simp only [cc0_mla_attn_fwd_eq_skeleton]; unfold cc0_mla_attn_fwd_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  rcases hi with ⟨h1, h3, h2⟩ | ⟨h1, h3, h2⟩ | ⟨h1, h3, h2⟩ | ⟨h1, h3, h2⟩ | ⟨h1, h3, h2⟩
  all_goals
    sl_exec (disch := first | sl_exact h1 | sl_exact h2 | sl_exact h3)
    sl_step
    iapply Hk
    isplitl [H0]; · iexists _; isplitr; swap; · iexact H0
                    ipureintro; exact harg3.read_unread _
    isplitl [H1]; · iexists _; isplitr; swap; · iexact H1
                    ipureintro; exact harg4.read_unread _
    isplitl [H2]; · iexists _; isplitr; swap; · iexact H2
                    ipureintro; exact harg5.read_unread _
    isplitl [H3]; · iexists _; isplitr; swap; · iexact H3
                    ipureintro
                    first | rw [step_FD _ _ _ _ h1 h2 h3] | rw [step_FB _ _ _ _ h1 h2 h3] | rw [step_D _ _ _ _ h1 h2 h3] | rw [step_B _ _ _ _ h1 h2 h3] | rw [step_N _ _ _ _ h1 h2 h3]
                    sl_unfold_run_names; simp only [read_last (S := S8x64x512) _ hz, read_last (S := S8x1x512) _ hz, cov (S := S8x64x512) _ hz, cov (S := S8x1x512) _ hz, rd (S := S8x64x512) _ hz, rd (S := S8x1x512) _ hz, rd (S := S8x512x128) _ hz, Memref.IsWhole.read_unread, fresh, off, diag, done]
    isplitl [H4]; · iexists _; isplitr; swap; · iexact H4
                    ipureintro
                    first | rw [step_FD _ _ _ _ h1 h2 h3] | rw [step_FB _ _ _ _ h1 h2 h3] | rw [step_D _ _ _ _ h1 h2 h3] | rw [step_B _ _ _ _ h1 h2 h3] | rw [step_N _ _ _ _ h1 h2 h3]
                    sl_unfold_run_names; simp only [read_last (S := S8x64x512) _ hz, read_last (S := S8x1x512) _ hz, cov (S := S8x64x512) _ hz, cov (S := S8x1x512) _ hz, rd (S := S8x64x512) _ hz, rd (S := S8x1x512) _ hz, rd (S := S8x512x128) _ hz, Memref.IsWhole.read_unread, fresh, off, diag, done]
    isplitl [H5]; · iexists _; isplitr; swap; · iexact H5
                    ipureintro
                    first | rw [step_FD _ _ _ _ h1 h2 h3] | rw [step_FB _ _ _ _ h1 h2 h3] | rw [step_D _ _ _ _ h1 h2 h3] | rw [step_B _ _ _ _ h1 h2 h3] | rw [step_N _ _ _ _ h1 h2 h3]
                    sl_unfold_run_names; simp only [read_last (S := S8x64x512) _ hz, read_last (S := S8x1x512) _ hz, cov (S := S8x64x512) _ hz, cov (S := S8x1x512) _ hz, rd (S := S8x64x512) _ hz, rd (S := S8x1x512) _ hz, rd (S := S8x512x128) _ hz, Memref.IsWhole.read_unread, fresh, off, diag, done]
    isplitl [H6]; · iexists _; isplitr; swap; · iexact H6
                    ipureintro
                    first | rw [step_FD _ _ _ _ h1 h2 h3] | rw [step_FB _ _ _ _ h1 h2 h3] | rw [step_D _ _ _ _ h1 h2 h3] | rw [step_B _ _ _ _ h1 h2 h3] | rw [step_N _ _ _ _ h1 h2 h3]
                    sl_unfold_run_names; simp only [read_last (S := S8x64x512) _ hz, read_last (S := S8x1x512) _ hz, cov (S := S8x64x512) _ hz, cov (S := S8x1x512) _ hz, rd (S := S8x64x512) _ hz, rd (S := S8x1x512) _ hz, rd (S := S8x512x128) _ hz, Memref.IsWhole.read_unread, fresh, off, diag, done]
    iexists _; isplitr; swap; · iexact H7
    ipureintro
    first | rw [step_FD _ _ _ _ h1 h2 h3] | rw [step_FB _ _ _ _ h1 h2 h3] | rw [step_D _ _ _ _ h1 h2 h3] | rw [step_B _ _ _ _ h1 h2 h3] | rw [step_N _ _ _ _ h1 h2 h3]
    sl_unfold_run_names; simp only [read_last (S := S8x64x512) _ hz, read_last (S := S8x1x512) _ hz, cov (S := S8x64x512) _ hz, cov (S := S8x1x512) _ hz, rd (S := S8x64x512) _ hz, rd (S := S8x1x512) _ hz, rd (S := S8x512x128) _ hz, Memref.IsWhole.read_unread, fresh, off, diag, done]

end

end Cert.MlafIdeal.Run

end
-- ==== Proof.Mlaf.Attention.lean ====
/-
  Causal attention over the reals: a row's exponentials with any shift, their sum and the values weighted by them. The
  quotient and the log-sum do not depend on the shift, so a pass that keeps raising it comes to the same.
-/
module

public import proofs.«01_k».proof.Proof.Base.Rows
public import proofs.«01_k».proof.Proof.Base.Reals

@[expose] public section

noncomputable section

namespace Cert.MlafIdeal.Attention

open Cert.Rows

/-- The scale of the scores. -/
def sc : ℝ := 3424635 / 33554432

theorem sc_pos : 0 < sc := by norm_num [sc]

structure Att where
  q : Fin 4096 → Fin 8 → Fin 96 → ℝ
  k : Fin 4096 → Fin 8 → Fin 96 → ℝ
  v : Fin 4096 → Fin 8 → Fin 64 → ℝ

namespace Att

variable (T : Att)

/-- The score of key `r` for query `p`, not yet scaled. -/
def S (h : Fin 8) (p r : Fin 4096) : ℝ := ∑ e, T.k r h e * T.q p h e

/-- Its exponential less the shift `μ`; a later key has none. -/
def w (μ : ℝ) (h : Fin 8) (p r : Fin 4096) : ℝ := if p < r then 0 else Real.exp ((T.S h p r - μ) * sc)

def sumW (μ : ℝ) (h : Fin 8) (p : Fin 4096) : ℝ := ∑ r, T.w μ h p r
def sumV (μ : ℝ) (h : Fin 8) (p : Fin 4096) (e : Fin 64) : ℝ := ∑ r, T.v r h e * T.w μ h p r

/-- The output, and the row's log-sum. -/
def out (h : Fin 8) (p : Fin 4096) (e : Fin 64) : ℝ := T.sumV 0 h p e / T.sumW 0 h p
def lse (h : Fin 8) (p : Fin 4096) : ℝ := Real.log (T.sumW 0 h p)

/-- The part of block `j`. -/
def blkW (μ : ℝ) (h : Fin 8) (p : Fin 4096) (j : ℕ) : ℝ := ∑ a : Fin 512, T.w μ h p (row 512 j a)
def blkV (μ : ℝ) (h : Fin 8) (p : Fin 4096) (e : Fin 64) (j : ℕ) : ℝ := ∑ a : Fin 512, T.v (row 512 j a) h e * T.w μ h p (row 512 j a)

theorem w_nonneg (μ : ℝ) (h : Fin 8) (p r : Fin 4096) : 0 ≤ T.w μ h p r := by
  unfold w
  split_ifs
  · exact le_rfl
  · exact (Real.exp_pos _).le

theorem sumW_pos (μ : ℝ) (h : Fin 8) (p : Fin 4096) : 0 < T.sumW μ h p :=
  Finset.sum_pos' (fun r _ => T.w_nonneg μ h p r) ⟨p, Finset.mem_univ p, by unfold w; rw [if_neg (lt_irrefl p)]; exact Real.exp_pos _⟩

theorem w_shift (μ ν : ℝ) (h : Fin 8) (p r : Fin 4096) : Real.exp ((μ - ν) * sc) * T.w μ h p r = T.w ν h p r := by
  unfold w
  split_ifs
  · exact mul_zero _
  · rw [← Real.exp_add]
    congr 1
    ring

theorem blkW_shift (μ ν : ℝ) (h : Fin 8) (p : Fin 4096) (j : ℕ) : Real.exp ((μ - ν) * sc) * T.blkW μ h p j = T.blkW ν h p j := by
  unfold blkW
  rw [Finset.mul_sum]
  exact Finset.sum_congr rfl fun a _ => T.w_shift μ ν h p _

theorem blkV_shift (μ ν : ℝ) (h : Fin 8) (p : Fin 4096) (e : Fin 64) (j : ℕ) : Real.exp ((μ - ν) * sc) * T.blkV μ h p e j = T.blkV ν h p e j := by
  unfold blkV
  rw [Finset.mul_sum]
  refine Finset.sum_congr rfl fun a _ => ?_
  rw [← T.w_shift μ ν]
  ring

theorem sumW_shift (μ ν : ℝ) (h : Fin 8) (p : Fin 4096) : Real.exp ((μ - ν) * sc) * T.sumW μ h p = T.sumW ν h p := by
  unfold sumW
  rw [Finset.mul_sum]
  exact Finset.sum_congr rfl fun a _ => T.w_shift μ ν h p _

theorem sumV_shift (μ ν : ℝ) (h : Fin 8) (p : Fin 4096) (e : Fin 64) : Real.exp ((μ - ν) * sc) * T.sumV μ h p e = T.sumV ν h p e := by
  unfold sumV
  rw [Finset.mul_sum]
  refine Finset.sum_congr rfl fun a _ => ?_
  rw [← T.w_shift μ ν]
  ring

theorem out_of (μ : ℝ) (h : Fin 8) (p : Fin 4096) (e : Fin 64) : T.sumV μ h p e / T.sumW μ h p = T.out h p e := by
  unfold out
  rw [← T.sumV_shift μ 0, ← T.sumW_shift μ 0, mul_div_mul_left _ _ (Real.exp_pos _).ne']

theorem lse_of (μ : ℝ) (h : Fin 8) (p : Fin 4096) : μ * sc + Real.log (T.sumW μ h p) = T.lse h p := by
  unfold lse
  rw [← T.sumW_shift μ 0, Real.log_mul (Real.exp_pos _).ne' (T.sumW_pos μ h p).ne', Real.log_exp, sub_zero]

/-- Blocks past the query's hold later keys only. -/
theorem w_later (μ : ℝ) (h : Fin 8) {i j : ℕ} (hj : i < j) (hj8 : j < 8) (a b : Fin 512) : T.w μ h (row 512 i b) (row 512 j a) = 0 := by
  refine if_pos ?_
  show (row 512 i b : Fin 4096).val < (row 512 j a : Fin 4096).val
  rw [row_val b 8 rfl (by omega), row_val a 8 rfl hj8]
  omega

theorem sumW_blocks (μ : ℝ) (h : Fin 8) {i : ℕ} (hi : i < 8) (b : Fin 512) :
    ∑ j ∈ Finset.range (i + 1), T.blkW μ h (row 512 i b) j = T.sumW μ h (row 512 i b) := by
  unfold sumW
  rw [← sum_rows 8 512 rfl]
  refine Finset.sum_subset (Finset.range_subset_range.mpr hi) fun j hj hj' => Finset.sum_eq_zero fun a _ => ?_
  rw [Finset.mem_range] at hj hj'
  exact T.w_later μ h (by omega) hj a b

theorem sumV_blocks (μ : ℝ) (h : Fin 8) {i : ℕ} (hi : i < 8) (b : Fin 512) (e : Fin 64) :
    ∑ j ∈ Finset.range (i + 1), T.blkV μ h (row 512 i b) e j = T.sumV μ h (row 512 i b) e := by
  unfold sumV
  rw [← sum_rows 8 512 rfl]
  refine Finset.sum_subset (Finset.range_subset_range.mpr hi) fun j hj hj' => Finset.sum_eq_zero fun a _ => ?_
  rw [Finset.mem_range] at hj hj'
  rw [T.w_later μ h (by omega) hj a b, mul_zero]

end Att

end Cert.MlafIdeal.Attention

end
-- ==== Proof.Mlaf.Block.lean ====
/-
  What one block of keys makes of the running maximum, the sum of exponentials and the weighted values, read over the reals:
  the old sums rescaled to the new maximum and the block's own terms added. Below the diagonal and on it the same
  arithmetic runs on the scores, those of later keys at −∞.
-/
module

public import proofs.«01_k».proof.Proof.Mlaf.Run
public import proofs.«01_k».proof.Proof.Mlaf.Attention
public import Idealize.ShloMosaic.Lib.ValueIdx
public import Idealize.ShloMosaic.Lib.WordCmp
public import Idealize.ShloMosaic.Lib.Pointwise.Contract
public import Idealize.ShloMosaic.PureOps.IdealRules

@[expose] public section

noncomputable section

namespace Cert.MlafIdeal.Block

open Idealize.ShloMosaic hiding ix1 ix2 ix3 ix4
open Cert.MlafIdeal Cert.MlafIdeal.Gen Idealize.ShloMosaic.ValueIdx Cert.Reals
open Cert.MlafIdeal.Run (St off diag done)
open Cert.MlafIdeal.Attention (sc sc_pos)

/-! ## The update, for any array of scores -/

/-- The scale, per factor of two. -/
def two : Ideal .f32 := Named.named κ "scale2" 0x3E16C740#32

def top (s : FVec Ideal S8x512x512 .f32) (m : FVec Ideal S8x1x512 .f32) : FVec Ideal S8x1x512 .f32 :=
  maximumf m (shapeCast S8x1x512 (multiReduction .maximumf [1] S8x512 s 0xFF800000#32 reduces_S8x512x512_S8x512 (.inl rfl) rfl) shapeCasts_S8x512_S8x1x512)

def wts (s : FVec Ideal S8x512x512 .f32) (m : FVec Ideal S8x1x512 .f32) : FVec Ideal S8x512x512 .f32 :=
  exp2 (mulf (subf s (broadcastTo S8x512x512 (top s m) broadcasts_S8x1x512_S8x512x512)) (broadcast S8x512x512 two))

def fac (s : FVec Ideal S8x512x512 .f32) (m : FVec Ideal S8x1x512 .f32) : FVec Ideal S8x1x512 .f32 :=
  exp2 (mulf (subf m (top s m)) (broadcast S8x1x512 two))

def upd (s : FVec Ideal S8x512x512 .f32) (v : FVec Ideal S8x64x512 .bf16) (st : St Ideal) : St Ideal :=
  { st with
    m := top s st.m
    l := addf (mulf (fac s st.m) st.l)
      (shapeCast S8x1x512 (multiReduction .add [1] S8x512 (wts s st.m) 0x00000000#32 reduces_S8x512x512_S8x512 (.inl rfl) rfl) shapeCasts_S8x512_S8x1x512)
    a := addf (mulf (broadcastTo S8x64x512 (fac s st.m) broadcasts_S8x1x512_S8x64x512) st.a)
      (matmul (φ₂ := .bf16) dot_S8x64x512_S8x512x512_S8x64x512_2_1_1_2_0_0 none v (wts s st.m) (constant S8x64x512 .f32 0x00000000#32)) }

theorem off_eq (q k : FVec Ideal S8x512x128 .bf16) (v : FVec Ideal S8x64x512 .bf16) (st : St Ideal) :
    off q k v st = upd (k0_pay10 k q) v st := by
  unfold off upd k0_pay4 k0_pay5 k0_pay14 k0_pay15 k0_pay16 k0_pay17 k0_pay13 k0_pay12 k0_pay11
  simp only [shapeCast_self]
  rfl

theorem diag_eq (q k : FVec Ideal S8x512x128 .bf16) (v : FVec Ideal S8x64x512 .bf16) (st : St Ideal) :
    diag q k v st = upd (k0_pay18 k q) v st := by
  unfold diag upd k0_pay6 k0_pay7 k0_pay22 k0_pay21 k0_pay20 k0_pay19
  simp only [shapeCast_self]
  rfl

/-! ## Its entries -/

section Layout

variable {α : Type}

theorem overKeys (v : S8x1x512.Idx → α) (h : Fin 8) (a b : Fin 512) :
    broadcastTo S8x512x512 v broadcasts_S8x1x512_S8x512x512 (ix3 h a b) = v (ix3 h 0 b) := by
  refine broadcastTo_apply v _ _ _ fun x => ?_
  match x with
  | ⟨0, _⟩ => rfl
  | ⟨1, _⟩ => rfl
  | ⟨2, _⟩ => rfl

theorem overCols (v : S8x1x512.Idx → α) (h : Fin 8) (e : Fin 64) (b : Fin 512) :
    broadcastTo S8x64x512 v broadcasts_S8x1x512_S8x64x512 (ix3 h e b) = v (ix3 h 0 b) := by
  refine broadcastTo_apply v _ _ _ fun x => ?_
  match x with
  | ⟨0, _⟩ => rfl
  | ⟨1, _⟩ => rfl
  | ⟨2, _⟩ => rfl

theorem asRow (v : S8x512.Idx → α) (h : Fin 8) (b : Fin 512) :
    shapeCast S8x1x512 v shapeCasts_S8x512_S8x1x512 (ix3 h 0 b) = v (ix2 h b) := by
  refine shapeCast_apply v _ _ _ ?_
  rw [Shape.rowMajor_val_two, Shape.rowMajor_val_three]
  show h.val * 512 + b.val = (h.val * 1 + (0 : Fin 1).val) * 512 + b.val
  simp

theorem overHeads (v : S512x512.Idx → α) (h : Fin 8) (a b : Fin 512) :
    broadcastTo S8x512x512 (shapeCast S1x512x512 v shapeCasts_S512x512_S1x512x512) broadcasts_S1x512x512_S8x512x512 (ix3 h a b) = v (ix2 a b) := by
  refine (broadcastTo_apply _ _ _ (ix3 0 a b) fun x => ?_).trans (shapeCast_apply v _ _ _ ?_)
  · match x with
    | ⟨0, _⟩ => rfl
    | ⟨1, _⟩ => rfl
    | ⟨2, _⟩ => rfl
  · rw [Shape.rowMajor_val_two, Shape.rowMajor_val_three]
    show a.val * 512 + b.val = ((0 : Fin 1).val * 512 + a.val) * 512 + b.val
    simp

section Middle

variable {g m n : ℕ}

theorem lift_mid (h : Shape.Reduces ⟨3, ![g, m, n]⟩ [1] ⟨2, ![g, n]⟩) (p : Fin g) (a : Fin m) (q : Fin n) :
    h.lift (ix2 p q) a = ix3 p a q := by
  funext x
  apply Fin.ext
  match x with
  | ⟨0, _⟩ => rfl
  | ⟨1, _⟩ => rfl
  | ⟨2, _⟩ => rfl

/-- The maxima along the middle axis. -/
theorem maxMid (x : FVec Ideal ⟨3, ![g, m, n]⟩ .f32) (h : Shape.Reduces ⟨3, ![g, m, n]⟩ [1] ⟨2, ![g, n]⟩)
    (hφ : FKind.Formats .f32) (ha : (0xFF800000#32 : BitVec 32) = FKind.maximumf.neutral .f32 hφ) (p : Fin g) (q : Fin n) :
    multiReduction .maximumf [1] ⟨2, ![g, n]⟩ x 0xFF800000#32 h hφ ha (ix2 p q)
      = Finset.univ.fold max (⊥ : EReal) fun a : Fin m => x (ix3 p a q) := by
  refine (Ideal.multiReduction_maximumf_single x 0xFF800000#32 h (.inl rfl) rfl (ix2 p q)).trans ?_
  rw [show (FloatOps.ofBits (F := Ideal) .f32 0xFF800000#32 : EReal) = ⊥ from by
    show Ideal.ofBits .f32 0xFF800000#32 = ⊥
    simp [Ideal.ofBits, Ideal.ieee]]
  exact congrArg (Finset.fold max (⊥ : EReal) · Finset.univ) (funext fun a => congrArg x (lift_mid h p a q))

/-- The sums along the middle axis. -/
theorem sumMid (x : FVec Ideal ⟨3, ![g, m, n]⟩ .f32) (h : Shape.Reduces ⟨3, ![g, m, n]⟩ [1] ⟨2, ![g, n]⟩)
    (hφ : FKind.Formats .f32) (ha : (0x00000000#32 : BitVec 32) = FKind.add.neutral .f32 hφ) (p : Fin g) (q : Fin n) :
    multiReduction .add [1] ⟨2, ![g, n]⟩ x 0x00000000#32 h hφ ha (ix2 p q) = ∑ a : Fin m, x (ix3 p a q) :=
  (Ideal.multiReduction_add_single x 0x00000000#32 h (.inl rfl) rfl _).trans
    (Finset.sum_congr rfl fun a _ => congrArg x (lift_mid h p a q))

end Middle

end Layout

/-- Rows of the keys against rows of the queries. -/
theorem dotKQ (l r : FVec Ideal S8x512x128 .bf16) (h : Fin 8) (a b : Fin 512) :
    matmul dot_S8x512x128_S8x512x128_S8x512x512_2_2_1_1_0_0 none l r (constant S8x512x512 .f32 0x00000000#32) (ix3 h a b)
      = ∑ e : Fin 128, l (ix3 h a e) * r (ix3 h b e) := by
  refine (Ideal.matmul_apply₁_of _ (a := 2) rfl (K := 128) rfl l r _ (ix3 h a b) (fun e => (ix3 h a e)) (fun e => (ix3 h b e))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S8x512x512 .f32 0x00000000#32 (ix3 h a b) = 0 from Ideal.ofBits_zero_f32, zero_add]

/-- Columns of the values against the weights of a query. -/
theorem dotVP (l : FVec Ideal S8x64x512 .bf16) (r : FVec Ideal S8x512x512 .bf16) (h : Fin 8) (e : Fin 64) (b : Fin 512) :
    matmul dot_S8x64x512_S8x512x512_S8x64x512_2_1_1_2_0_0 none l r (constant S8x64x512 .f32 0x00000000#32) (ix3 h e b)
      = ∑ a : Fin 512, l (ix3 h e a) * r (ix3 h a b) := by
  refine (Ideal.matmul_apply₁_of _ (a := 2) rfl (K := 512) rfl l r _ (ix3 h e b) (fun a => (ix3 h e a)) (fun a => (ix3 h a b))
    (fun e => funext fun x => ?_) fun e => funext fun x => ?_).trans ?_
  · match x with
    | ⟨0, _⟩ => rfl
    | ⟨1, _⟩ => rfl
    | ⟨2, _⟩ => rfl
  · match x with
    | ⟨0, _⟩ => rfl
    | ⟨1, _⟩ => rfl
    | ⟨2, _⟩ => rfl
  · rw [show constant (F := Ideal) S8x64x512 .f32 0x00000000#32 (ix3 h e b) = 0 from Ideal.ofBits_zero_f32, zero_add]

/-- The scale of the scores, as the word has it. -/
theorem w_sc : Ideal.ofBits .f32 0x3DD105EC#32 = ((sc : ℝ) : EReal) := by
  simp [Ideal.ofBits, Ideal.ieee, sc, -EReal.coe_mul]
  norm_num

theorem two_eq : two = ((sc * (Real.log 2)⁻¹ : ℝ) : EReal) := rfl

/-- The power of two of a scaled difference is its exponential. -/
theorem exp2_two (x : ℝ) : Ideal.exp2 (((x : ℝ) : EReal) * two) = ((Real.exp (x * sc) : ℝ) : EReal) := by
  rw [two_eq, ← EReal.coe_mul, Ideal.exp2_coe]
  congr 1
  show (2 : ℝ) ^ (x * (sc * (Real.log 2)⁻¹)) = _
  rw [Real.rpow_def_of_pos (by norm_num)]
  congr 1
  have : Real.log 2 ≠ 0 := (Real.log_pos (by norm_num)).ne'
  field_simp

theorem exp2_bot : Ideal.exp2 ((⊥ : EReal) * two) = 0 := by
  rw [two_eq, EReal.bot_mul_coe_of_pos (mul_pos sc_pos (inv_pos.mpr (Real.log_pos (by norm_num))))]
  exact Ideal.exp2_bot

/-- A block's scores: reals, −∞ at the dead keys. -/
structure Scores (s : FVec Ideal S8x512x512 .f32) (S : Fin 8 → Fin 512 → Fin 512 → ℝ) (dead : Fin 512 → Fin 512 → Prop)
    [∀ a b, Decidable (dead a b)] : Prop where
  at' : ∀ h a b, s (ix3 h a b) = if dead a b then (⊥ : EReal) else ((S h a b : ℝ) : EReal)
  alive : ∀ b, ∃ a, ¬dead a b

section

variable {s : FVec Ideal S8x512x512 .f32} {S : Fin 8 → Fin 512 → Fin 512 → ℝ} {dead : Fin 512 → Fin 512 → Prop}
  [∀ a b, Decidable (dead a b)] (H : Scores s S dead) (m : FVec Ideal S8x1x512 .f32) (h : Fin 8) (b : Fin 512)
include H

theorem top_at (hm : m (ix3 h 0 b) ≠ (⊤ : EReal)) : ∃ ν : ℝ, top s m (ix3 h 0 b) = ((ν : ℝ) : EReal) := by
  have e : top s m (ix3 h 0 b) = max (m (ix3 h 0 b)) (Finset.univ.fold max (⊥ : EReal) fun a : Fin 512 =>
      if dead a b then (⊥ : EReal) else ((S h a b : ℝ) : EReal)) := by
    refine (maximumf_apply m _ (ix3 h 0 b)).trans (congrArg (fun y : EReal => max (m (ix3 h 0 b)) y) ?_)
    rw [asRow]
    refine (maxMid s _ _ _ h b).trans ?_
    simp only [H.at']
  rw [e]
  refine ⟨EReal.toReal _, (EReal.coe_toReal ?_ ?_).symm⟩
  · refine ne_of_lt (max_lt (lt_top_iff_ne_top.mpr hm) ((Finset.fold_max_lt _).mpr ⟨bot_lt_top, fun r _ => ?_⟩))
    split_ifs
    · exact bot_lt_top
    · exact EReal.coe_lt_top _
  · obtain ⟨a, ha⟩ := H.alive b
    refine ne_of_gt (lt_max_of_lt_right ((Finset.lt_fold_max _).mpr (.inr ⟨a, Finset.mem_univ _, ?_⟩)))
    rw [if_neg ha]
    exact EReal.bot_lt_coe _

theorem wts_at {ν : ℝ} (hν : top s m (ix3 h 0 b) = ((ν : ℝ) : EReal)) (a : Fin 512) :
    wts s m (ix3 h a b) = ((if dead a b then 0 else Real.exp ((S h a b - ν) * sc) : ℝ) : EReal) := by
  unfold wts
  show Ideal.exp2 ((s (ix3 h a b) - broadcastTo _ _ _ (ix3 h a b)) * two) = _
  rw [overKeys, hν, H.at']
  split_ifs
  · rw [EReal.bot_sub, exp2_bot]; rfl
  · rw [← EReal.coe_sub, exp2_two]

omit H in
theorem fac_at {ν : ℝ} (hν : top s m (ix3 h 0 b) = ((ν : ℝ) : EReal)) {μ : EReal} (hμ : m (ix3 h 0 b) = μ) (ht : μ ≠ ⊤) :
    fac s m (ix3 h 0 b) = ((if μ = ⊥ then 0 else Real.exp ((μ.toReal - ν) * sc) : ℝ) : EReal) := by
  unfold fac
  show Ideal.exp2 ((m (ix3 h 0 b) - top s m (ix3 h 0 b)) * two) = _
  rw [hν, hμ]
  split_ifs with hb
  · rw [hb, EReal.bot_sub, exp2_bot]; rfl
  · rw [← EReal.coe_toReal ht hb, ← EReal.coe_sub, exp2_two, EReal.toReal_coe]

end

/-! ## The sums -/

theorem upd_l (s : FVec Ideal S8x512x512 .f32) (v : FVec Ideal S8x64x512 .bf16) (st : St Ideal) (h : Fin 8) (b : Fin 512) :
    (upd s v st).l (ix3 h 0 b) = (fac s st.m (ix3 h 0 b) * st.l (ix3 h 0 b) + ∑ a, wts s st.m (ix3 h a b) : EReal) := by
  refine (addf_apply (mulf (fac s st.m) st.l) _ (ix3 h 0 b)).trans ?_
  refine congrArg (fun y : EReal => fac s st.m (ix3 h 0 b) * st.l (ix3 h 0 b) + y) ((asRow _ h b).trans (sumMid _ _ _ _ h b))

theorem upd_a (s : FVec Ideal S8x512x512 .f32) (v : FVec Ideal S8x64x512 .bf16) (st : St Ideal) (h : Fin 8) (e : Fin 64) (b : Fin 512) :
    (upd s v st).a (ix3 h e b) = (fac s st.m (ix3 h 0 b) * st.a (ix3 h e b) + ∑ a, v (ix3 h e a) * wts s st.m (ix3 h a b) : EReal) := by
  unfold upd
  dsimp only
  refine congrArg₂ (fun x y : EReal => x + y) (congrArg (fun x : EReal => x * st.a (ix3 h e b)) (overCols _ h e b)) (dotVP v (wts s st.m) h e b)

/-! ## The two kinds of scores -/

section

variable {q k : FVec Ideal S8x512x128 .bf16} {Q K : Fin 8 → Fin 512 → Fin 128 → ℝ}
  (hq : ∀ h b e, q (ix3 h b e) = ((Q h b e : ℝ) : EReal)) (hk : ∀ h a e, k (ix3 h a e) = ((K h a e : ℝ) : EReal))
include hq hk

theorem pay10 (h : Fin 8) (a b : Fin 512) : k0_pay10 (F := Ideal) k q (ix3 h a b) = ((∑ e, K h a e * Q h b e : ℝ) : EReal) := by
  unfold k0_pay10
  rw [shapeCast_self, shapeCast_self, dotKQ]
  simp only [hq, hk]
  exact sum_mulf (φ := .f32) _ _

theorem scores_off : Scores (k0_pay10 (F := Ideal) k q) (fun h a b => ∑ e, K h a e * Q h b e) (fun _ _ => False) :=
  ⟨fun h a b => (pay10 hq hk h a b).trans (if_neg id).symm, fun b => ⟨b, id⟩⟩

theorem scores_diag : Scores (k0_pay18 (F := Ideal) k q) (fun h a b => ∑ e, K h a e * Q h b e) (fun a b => b < a) := by
  refine ⟨fun h a b => ?_, fun b => ⟨b, lt_irrefl b⟩⟩
  have e := pay10 hq hk h a b
  unfold k0_pay10 at e
  unfold k0_pay18
  dsimp only at e ⊢
  show Scalar.select (broadcastTo _ _ _ (ix3 h a b)) (matmul _ _ _ _ _ (ix3 h a b)) (Named.named κ "mask" 0xF149F2CA#32) = _
  rw [e, shapeCast_self _ shapeCasts_S1x512x512_S1x512x512, overHeads, IdealRules.named_const.ideal_named_scalar _ _ _ _ rfl]
  show Scalar.select (IntOp.cmpi .sge (iota .tc S512x512 32 [1] iota_S512x512_d1_w32 (ix2 a b)) (iota .tc S512x512 32 [0] iota_S512x512_d0_w32 (ix2 a b))) _ _ = _
  rw [iota_single_apply, iota_single_apply]
  show Scalar.select (IntOp.cmpi .sge (BitVec.ofNat 32 b.val) (BitVec.ofNat 32 a.val)) _ _ = _
  rw [WordCmp.cmpi_sge_ofNat (by omega) (by omega)]
  by_cases hab : b < a
  · rw [if_pos hab, decide_eq_false (show ¬a.val ≤ b.val from not_le.mpr hab)]; rfl
  · rw [if_neg hab, decide_eq_true (show a.val ≤ b.val from not_lt.mp hab)]; rfl

end

end Cert.MlafIdeal.Block

end
-- ==== Proof.Mlaf.Body.lean ====
/-
  The forward attention's pipeline run whole: what each point leaves is `step` of what the point before left, and the two
  results' blocks keep, from a row's diagonal point to the row's end where they are written back, what the diagonal point
  stored. The frame and the final arrays follow from the library's theorem about one region.
-/
module

public import Idealize.ShloMosaic.Lib.Claim
public import proofs.«01_k».proof.Proof.Mlaf.Run

@[expose] public section

set_option maxRecDepth 16384

noncomputable section

namespace Cert.MlafIdeal.Run

open Cert.MlafIdeal Cert.MlafIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid's points -/

theorem cases : ∀ t : Fin cfg0.N, (First (grid0.coords t) ∧ Diag (grid0.coords t) ∧ ¬Before (grid0.coords t))
    ∨ (First (grid0.coords t) ∧ ¬Diag (grid0.coords t) ∧ Before (grid0.coords t))
    ∨ (¬First (grid0.coords t) ∧ Diag (grid0.coords t) ∧ ¬Before (grid0.coords t))
    ∨ (¬First (grid0.coords t) ∧ ¬Diag (grid0.coords t) ∧ Before (grid0.coords t))
    ∨ (¬First (grid0.coords t) ∧ ¬Diag (grid0.coords t) ∧ ¬Before (grid0.coords t)) :=
  (by decide +kernel : ∀ t : Fin grid0.N, _)

theorem first_iff : ∀ t : Fin cfg0.N, First (grid0.coords t) ↔ t.val % 8 = 0 := (by decide +kernel : ∀ t : Fin grid0.N, _)
theorem before_iff : ∀ t : Fin cfg0.N, Before (grid0.coords t) ↔ t.val % 8 < t.val / 8 := (by decide +kernel : ∀ t : Fin grid0.N, _)
theorem diag_iff : ∀ t : Fin cfg0.N, Diag (grid0.coords t) ↔ t.val % 8 = t.val / 8 := (by decide +kernel : ∀ t : Fin grid0.N, _)

theorem idle3 (t : Fin cfg0.N) : cfg0.idle 3 (grid0.coords t) = !decide (t.val % 8 = t.val / 8) := by
  show (!(k0_cond3 (grid0.coords t) == 1#1)) = _
  congr 1
  rw [Bool.eq_iff_iff, beq_iff_eq, decide_eq_true_iff]; exact diag_iff t
theorem idle4 (t : Fin cfg0.N) : cfg0.idle 4 (grid0.coords t) = !decide (t.val % 8 = t.val / 8) := idle3 t

theorem flush3 (t : Fin cfg0.N) : (cfg0.win 3).flush t = decide (t.val % 8 = 7) := by
  rw [Bool.eq_iff_iff, decide_eq_true_iff]; exact flush0_3 t
theorem flush4 (t : Fin cfg0.N) : (cfg0.win 4).flush t = decide (t.val % 8 = 7) := by
  rw [Bool.eq_iff_iff, decide_eq_true_iff]; exact flush0_4 t

theorem table (t : ℕ) (ht : t < 64) :
    decide ((t + 1) % 8 ≤ (t + 1) / 8) = (decide (t % 8 = 7) || (!decide (t % 8 = t / 8) && decide (t % 8 ≤ t / 8))) := by
  rw [Bool.eq_iff_iff]; simp only [Bool.or_eq_true, Bool.and_eq_true, Bool.not_eq_true', decide_eq_true_eq, decide_eq_false_iff_not]; omega

theorem fresh3 (t : Fin cfg0.N) : cfg0.fresh 3 t.val = decide (t.val % 8 ≤ t.val / 8) :=
  cfg0.fresh_tab 3 (fun n => decide (n % 8 ≤ n / 8)) rfl
    (fun t => by rw [flush3 t, show cfg0.grid.coords t = grid0.coords t from rfl, idle3 t]; exact table _ (lt_of_lt_of_eq t.isLt N_0)) t.val t.isLt.le
theorem fresh4 (t : Fin cfg0.N) : cfg0.fresh 4 t.val = decide (t.val % 8 ≤ t.val / 8) :=
  cfg0.fresh_tab 4 (fun n => decide (n % 8 ≤ n / 8)) rfl
    (fun t => by rw [flush4 t, show cfg0.grid.coords t = grid0.coords t from rfl, idle4 t]; exact table _ (lt_of_lt_of_eq t.isLt N_0)) t.val t.isLt.le

/-- What a point leaves in the running buffers depends on them alone, and not even on them where it starts afresh. -/
theorem step_agree (i : grid0.Coords) (q k : Vec F S8x512x128 .bf16) (v : Vec F S8x64x512 .bf16) (s s' : St F)
    (h : First i ∨ (s.m = s'.m ∧ s.l = s'.l ∧ s.a = s'.a)) :
    ((step i q k v s).m = (step i q k v s').m ∧ (step i q k v s).l = (step i q k v s').l ∧ (step i q k v s).a = (step i q k v s').a)
      ∧ (Diag i → (step i q k v s).o = (step i q k v s').o ∧ (step i q k v s).e = (step i q k v s').e)
      ∧ (¬Diag i → (step i q k v s).o = s.o ∧ (step i q k v s).e = s.e) := by
  have key : ∀ s s' : St F, s.m = s'.m → s.l = s'.l → s.a = s'.a → ∀ b : Prop, ∀ d : Decidable b, ∀ b' : Prop, ∀ d' : Decidable b',
      let r (s : St F) := if b then done (diag q k v s) else if b' then off q k v s else s
      ((r s).m = (r s').m ∧ (r s).l = (r s').l ∧ (r s).a = (r s').a) ∧ (b → (r s).o = (r s').o ∧ (r s).e = (r s').e)
        ∧ (¬b → (r s).o = s.o ∧ (r s).e = s.e) := by
    rintro ⟨m, l, a, o, e⟩ ⟨m', l', a', o', e'⟩ hm hl ha b d b' d'
    simp only at hm hl ha
    subst hm hl ha
    intro r
    by_cases hb : b
    · have e : ∀ s, r s = done (diag q k v s) := fun s => if_pos hb
      rw [e, e]; exact ⟨⟨rfl, rfl, rfl⟩, fun _ => ⟨rfl, rfl⟩, fun h => absurd hb h⟩
    · by_cases hb' : b'
      · have e : ∀ s, r s = off q k v s := fun s => (if_neg hb).trans (if_pos hb')
        rw [e, e]; exact ⟨⟨rfl, rfl, rfl⟩, fun h => absurd h hb, fun _ => ⟨rfl, rfl⟩⟩
      · have e : ∀ s, r s = s := fun s => (if_neg hb).trans (if_neg hb')
        rw [e, e]; exact ⟨⟨rfl, rfl, rfl⟩, fun h => absurd h hb, fun _ => ⟨rfl, rfl⟩⟩
  unfold step
  by_cases h1 : First i
  · simp only [if_pos h1]
    exact key (fresh s) (fresh s') rfl rfl rfl (Diag i) _ (Before i) _
  · obtain ⟨hm, hl, ha⟩ := h.resolve_left h1
    simp only [if_neg h1]
    exact key s s' hm hl ha (Diag i) _ (Before i) _

variable (m : (ℓ : Loc nD τ sig) → Buf (Elt F) ℓ) (ρ : Dev nD → PrngReg)

/-! ## What each point leaves -/

/-- The contents before point `n`. -/
def traj (c : Dev nD) : ℕ → St F
  | 0 => ⟨k0_pay1, k0_pay2, k0_pay3, k0_pay3, k0_pay1⟩
  | n + 1 => if h : n < cfg0.N then step (grid0.coords ⟨n, h⟩) (iblk m c 0 ⟨n, h⟩) (iblk m c 1 ⟨n, h⟩) (iblk m c 2 ⟨n, h⟩) (traj c n) else traj c n

theorem traj_succ (c : Dev nD) (t : Fin cfg0.N) :
    traj m c (t.val + 1) = step (grid0.coords t) (iblk m c 0 t) (iblk m c 1 t) (iblk m c 2 t) (traj m c t.val) := by
  rw [traj, dif_pos t.isLt]

abbrev scM0_0 : Memref sig .tc .vmem S8x1x512 .f32 := Memref.whole cc0_scratch0
abbrev scM0_1 : Memref sig .tc .vmem S8x1x512 .f32 := Memref.whole cc0_scratch1
abbrev scM0_2 : Memref sig .tc .vmem S8x64x512 .f32 := Memref.whole cc0_scratch2

/-- The running buffers hold the trajectory's contents, anything before the first point. -/
def carried (c : Dev nD) (n : ℕ) : sProp 𝕄 :=
  iprop(∃ s : St F, ⌜n ≠ 0 → s.m = (traj m c n).m ∧ s.l = (traj m c n).l ∧ s.a = (traj m c n).a⌝
    ∗ owns (c : Thread nD τ) scM0_0 fullShare s.m ∗ owns (c : Thread nD τ) scM0_1 fullShare s.l ∗ owns (c : Thread nD τ) scM0_2 fullShare s.a
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (traj m c (t.val + 1)).o
    | ⟨4, _⟩ => (traj m c (t.val + 1)).e
  Φ t := carried m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (traj m c (t.val + 1)).o := by dsimp only [dats]
theorem after0_4 (c : Dev nD) (t : Fin cfg0.N) : (dats m 0 c).after 4 t = (traj m c (t.val + 1)).e := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from the diagonal the results' blocks stay. -/
theorem traj_keep (c : Dev nD) (t : Fin cfg0.N) (h : ¬t.val % 8 = t.val / 8) :
    (traj m c (t.val + 1)).o = (traj m c t.val).o ∧ (traj m c (t.val + 1)).e = (traj m c t.val).e := by
  rw [traj_succ]
  exact (step_agree _ _ _ _ (traj m c t.val) (traj m c t.val) (.inr ⟨rfl, rfl, rfl⟩)).2.2 fun hd => h ((diag_iff t).mp hd)

/-- What a point past the diagonal finds in the results' blocks. -/
theorem before0_3 (c : Dev nD) (t : Fin cfg0.N) (h : ¬t.val % 8 ≤ t.val / 8) (d) : (dats m 0 c).before 3 t d = (traj m c t.val).o := by
  have h0 : t.val ≠ 0 := by omega
  rw [(dats m 0 c).before_out_traj 3 rfl (fun _ _ => rfl) (fun t ht hi _ => by
    rw [after0_3, after0_3, show t.val - 1 + 1 = t.val by omega]
    refine (traj_keep m c t fun hd => ?_).1
    rw [show cfg0.grid.coords t = grid0.coords t from rfl, idle3 t, decide_eq_true hd] at hi; simp at hi) t.val t rfl d,
    fresh3, if_neg (by simpa using h), after0_3]
  show (traj m c (t.val - 1 + 1)).o = _
  rw [show t.val - 1 + 1 = t.val by omega]
theorem before0_4 (c : Dev nD) (t : Fin cfg0.N) (h : ¬t.val % 8 ≤ t.val / 8) (d) : (dats m 0 c).before 4 t d = (traj m c t.val).e := by
  have h0 : t.val ≠ 0 := by omega
  rw [(dats m 0 c).before_out_traj 4 rfl (fun _ _ => rfl) (fun t ht hi _ => by
    rw [after0_4, after0_4, show t.val - 1 + 1 = t.val by omega]
    refine (traj_keep m c t fun hd => ?_).2
    rw [show cfg0.grid.coords t = grid0.coords t from rfl, idle4 t, decide_eq_true hd] at hi; simp at hi) t.val t rfl d,
    fresh4, if_neg (by simpa using h), after0_4]
  show (traj m c (t.val - 1 + 1)).e = _
  rw [show t.val - 1 + 1 = t.val by omega]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- What the results' buffers hold after a point is what the obligation asks of them. -/
theorem leaves3 (c : Dev nD) (t : Fin cfg0.N) (d : Vec F S8x64x512 .f32) (s : St F) (ho : s.o = (dats m 0 c).before 3 t d)
    (hs : First (grid0.coords t) ∨ (s.m = (traj m c t.val).m ∧ s.l = (traj m c t.val).l ∧ s.a = (traj m c t.val).a)) :
    owns (c : Thread nD τ) (st0_3 t) fullShare (step (grid0.coords t) (iblk m c 0 t) (iblk m c 1 t) (iblk m c 2 t) s).o
      ⊢ ((dats m 0 c).leavesExact 3 t : sProp 𝕄) := by
  obtain ⟨-, hd, hn⟩ := step_agree (grid0.coords t) (iblk m c 0 t) (iblk m c 1 t) (iblk m c 2 t) s (traj m c t.val) hs
  by_cases h : t.val % 8 = t.val / 8
  · rw [(hd ((diag_iff t).mpr h)).1, ← traj_succ, ← after0_3]
    unfold Dat.leavesExact
    rw [show cfg0.grid.coords t = grid0.coords t from rfl, idle3 t, decide_eq_true h]; exact .rfl
  · rw [(hn fun hd => h ((diag_iff t).mp hd)).1, ho]
    by_cases hf : t.val % 8 = 7
    · have hN : t.val < 64 := lt_of_lt_of_eq t.isLt N_0
      rw [before0_3 m c t (by omega) d, ← (traj_keep m c t h).1, ← after0_3]
      unfold Dat.leavesExact
      rw [show cfg0.grid.coords t = grid0.coords t from rfl, idle3 t, decide_eq_false h, flush3, decide_eq_true hf]; exact .rfl
    · rw [Dat.leavesExact_idle (dats m 0 c) 3 t ((idle3 t).trans (by rw [decide_eq_false h]; rfl)) ((flush3 t).trans (decide_eq_false hf))]
      iintro H; iexists d; iexact H

theorem leaves4 (c : Dev nD) (t : Fin cfg0.N) (d : Vec F S8x1x512 .f32) (s : St F) (ho : s.e = (dats m 0 c).before 4 t d)
    (hs : First (grid0.coords t) ∨ (s.m = (traj m c t.val).m ∧ s.l = (traj m c t.val).l ∧ s.a = (traj m c t.val).a)) :
    owns (c : Thread nD τ) (st0_4 t) fullShare (step (grid0.coords t) (iblk m c 0 t) (iblk m c 1 t) (iblk m c 2 t) s).e
      ⊢ ((dats m 0 c).leavesExact 4 t : sProp 𝕄) := by
  obtain ⟨-, hd, hn⟩ := step_agree (grid0.coords t) (iblk m c 0 t) (iblk m c 1 t) (iblk m c 2 t) s (traj m c t.val) hs
  by_cases h : t.val % 8 = t.val / 8
  · rw [(hd ((diag_iff t).mpr h)).2, ← traj_succ, ← after0_4]
    unfold Dat.leavesExact
    rw [show cfg0.grid.coords t = grid0.coords t from rfl, idle4 t, decide_eq_true h]; exact .rfl
  · rw [(hn fun hd => h ((diag_iff t).mp hd)).2, ho]
    by_cases hf : t.val % 8 = 7
    · have hN : t.val < 64 := lt_of_lt_of_eq t.isLt N_0
      rw [before0_4 m c t (by omega) d, ← (traj_keep m c t h).2, ← after0_4]
      unfold Dat.leavesExact
      rw [show cfg0.grid.coords t = grid0.coords t from rfl, idle4 t, decide_eq_false h, flush4, decide_eq_true hf]; exact .rfl
    · rw [Dat.leavesExact_idle (dats m 0 c) 4 t ((idle4 t).trans (by rw [decide_eq_false h]; rfl)) ((flush4 t).trans (decide_eq_false hf))]
      iintro H; iexists d; iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = carried m c (t.val + 1) from rfl, show (dats m 0 c).Φ t.castSucc = carried m c t.val from rfl]
  unfold carried
  rw [show (dats m 0 c).leavesExact 0 t = owns (c : Thread nD τ) (st0_0 t) fullShare (iblk m c 0 t) from by
      unfold Dat.leavesExact; rw [show cfg0.idle 0 (cfg0.grid.coords t) = false from rfl, after0_0],
    show (dats m 0 c).leavesExact 1 t = owns (c : Thread nD τ) (st0_1 t) fullShare (iblk m c 1 t) from by
      unfold Dat.leavesExact; rw [show cfg0.idle 1 (cfg0.grid.coords t) = false from rfl, after0_1],
    show (dats m 0 c).leavesExact 2 t = owns (c : Thread nD τ) (st0_2 t) fullShare (iblk m c 2 t) from by
      unfold Dat.leavesExact; rw [show cfg0.idle 2 (cfg0.grid.coords t) = false from rfl, after0_2]]
  iintro ⟨⟨%s, %hs, HS0, HS1, HS2, Hg⟩, Ho, ⟨%d0, H0⟩, ⟨%d1, H1⟩, ⟨%d2, H2⟩, ⟨%d3, H3⟩, ⟨%d4, H4⟩⟩
  have hs' : First (grid0.coords t) ∨ (s.m = (traj m c t.val).m ∧ s.l = (traj m c t.val).l ∧ s.a = (traj m c t.val).a) := by
    by_cases h0 : t.val = 0
    · exact .inl ((first_iff t).mpr (by omega))
    · exact .inr (hs h0)
  iapply (run c (grid0.coords t) (st0_0 t) _ (st0_1 t) _ (st0_2 t) _ (st0_3 t) _ (st0_4 t) _ scM0_0 _ scM0_1 _ scM0_2 _
    (iblk m c 0 t) (iblk m c 1 t) (iblk m c 2 t) (cases t) ⟨s.m, s.l, s.a, (dats m 0 c).before 3 t d3, (dats m 0 c).before 4 t d4⟩ Set.univ _)
  isplitl [H0 H1 H2 H3 H4 HS0 HS1 HS2]
  · unfold held
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iexact HS2
  unfold held
  iintro ⟨H0, H1, H2, H3, H4, HS0, HS1, HS2⟩
  isplitl [HS0 HS1 HS2 Hg]
  · iexists _
    isplitr
    swap
    · isplitl [HS0]; · iexact HS0
      isplitl [HS1]; · iexact HS1
      isplitl [HS2]; · iexact HS2
      iexact Hg
    ipureintro; intro _
    rw [traj_succ]
    exact (step_agree (grid0.coords t) (iblk m c 0 t) (iblk m c 1 t) (iblk m c 2 t)
      ⟨s.m, s.l, s.a, (dats m 0 c).before 3 t d3, (dats m 0 c).before 4 t d4⟩ (traj m c t.val) hs').1
  isplitl [Ho]; · iexact Ho
  isplitl [H0]; · iexact H0
  isplitl [H1]; · iexact H1
  isplitl [H2]; · iexact H2
  isplitl [H3]
  · iapply (leaves3 m c t d3 ⟨s.m, s.l, s.a, (dats m 0 c).before 3 t d3, (dats m 0 c).before 4 t d4⟩ rfl hs'); iexact H3
  iapply (leaves4 m c t d4 ⟨s.m, s.l, s.a, (dats m 0 c).before 3 t d3, (dats m 0 c).before 4 t d4⟩ rfl hs'); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem hin (c : Dev nD) : Pipeline.ΦA spec0 c ⊢ (dats m 0 c).Φ 0 := by
  rw [show (dats m 0 c).Φ 0 = carried m c 0 from rfl, PhiA0_eq]
  unfold carried
  iintro ⟨⟨⟨%d0, HS0⟩, ⟨%d1, HS1⟩, ⟨%d2, HS2⟩⟩, Hg⟩
  iexists (⟨d0, d1, d2, k0_pay3, k0_pay1⟩ : St F)
  isplitr; · ipureintro; exact fun h => absurd rfl h
  isplitl [HS0]; · iexact HS0
  isplitl [HS1]; · iexact HS1
  isplitl [HS2]; · iexact HS2
  iexact Hg

theorem hout (c : Dev nD) : (dats m 0 c).Φ (Fin.last cfg0.N) ⊢ Pipeline.ΦA spec0 c := by
  rw [show (dats m 0 c).Φ (Fin.last cfg0.N) = carried m c (Fin.last cfg0.N).val from rfl, PhiA0_eq]
  unfold carried
  iintro ⟨%s, -, HS0, HS1, HS2, Hg⟩
  isplitl [HS0 HS1 HS2]
  · isplitl [HS0]; · iexists _; iexact HS0
    isplitl [HS1]; · iexists _; iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_main_quiescent m ρ))

end Cert.MlafIdeal.Run

end
-- ==== Proof.Mlaf.Rows.lean ====
/-
  A row of query blocks from its first block of keys to the diagonal: after `n` blocks the running buffers hold the sums
  over the keys of those blocks, shifted by whatever the running maximum is; at the diagonal the quotient and the log-sum
  are the attention's, and they stay until the row's end.
-/
module

public import proofs.«01_k».proof.Proof.Base.Widen
public import proofs.«01_k».proof.Proof.Mlaf.Block
public import proofs.«01_k».proof.Proof.Mlaf.Body

@[expose] public section

noncomputable section

namespace Cert.MlafIdeal.Rows

open Idealize.ShloMosaic hiding ix1 ix2 ix3 ix4
open Cert.MlafIdeal Cert.MlafIdeal.Gen Idealize.ShloMosaic.ValueIdx Cert.Reals Cert.Rows Cert.Widen
open Cert.MlafIdeal.Run Cert.MlafIdeal.Block Cert.MlafIdeal.Attention

variable (T : Att)

/-- The running buffers after `n` blocks of keys for the queries of block `i`. -/
def Inv (i n : ℕ) (st : St Ideal) : Prop := ∀ (h : Fin 8) (b : Fin 512), ∃ μ : EReal, μ ≠ ⊤ ∧ (μ = ⊥ → n = 0)
  ∧ st.m (ix3 h 0 b) = μ
  ∧ st.l (ix3 h 0 b) = ((∑ j ∈ Finset.range n, T.blkW μ.toReal h (row 512 i b) j : ℝ) : EReal)
  ∧ ∀ e, st.a (ix3 h e b) = ((∑ j ∈ Finset.range n, T.blkV μ.toReal h (row 512 i b) e j : ℝ) : EReal)

theorem start (i : ℕ) (s : St Ideal) : Inv T i 0 (fresh s) := fun h b => by
  refine ⟨⊥, bot_ne_top, fun _ => rfl, ?_, ?_, fun e => ?_⟩
  · show k0_pay1 (F := Ideal) (ix3 h 0 b) = _
    unfold k0_pay1
    rw [shapeCast_self]
    exact IdealRules.named_const.ideal_named_scalar _ _ _ _ rfl
  · show k0_pay2 (F := Ideal) (ix3 h 0 b) = _
    unfold k0_pay2
    rw [shapeCast_self, Finset.range_zero, Finset.sum_empty]
    exact Ideal.ofBits_zero_f32
  · show k0_pay3 (F := Ideal) (ix3 h e b) = _
    unfold k0_pay3
    rw [shapeCast_self, Finset.range_zero, Finset.sum_empty]
    exact Ideal.ofBits_zero_f32

/-- The old sums, rescaled. -/
theorem rescale {μ : EReal} {ν : ℝ} {n : ℕ} (hb : μ = ⊥ → n = 0) (f : ℝ → ℕ → ℝ)
    (hf : ∀ μ j, Real.exp ((μ - ν) * sc) * f μ j = f ν j) :
    (if μ = ⊥ then 0 else Real.exp ((μ.toReal - ν) * sc)) * ∑ j ∈ Finset.range n, f μ.toReal j = ∑ j ∈ Finset.range n, f ν j := by
  split_ifs with h
  · rw [hb h]; simp
  · rw [Finset.mul_sum]
    exact Finset.sum_congr rfl fun j _ => hf _ _

theorem next {i n : ℕ} {st : St Ideal} (hI : Inv T i n st) {s : FVec Ideal S8x512x512 .f32} {v : FVec Ideal S8x64x512 .bf16}
    {dead : Fin 512 → Fin 512 → Prop} [∀ a b, Decidable (dead a b)]
    (hs : Scores s (fun h a b => T.S h (row 512 i b) (row 512 n a)) dead)
    (hd : ∀ a b, dead a b ↔ (row 512 i b : Fin 4096) < row 512 n a)
    (hv : ∀ h e a, v (ix3 h e a) = ((T.v (row 512 n a) h e : ℝ) : EReal)) : Inv T i (n + 1) (upd s v st) := fun h b => by
  obtain ⟨μ, ht, hb, hm, hl, ha⟩ := hI h b
  obtain ⟨ν, hν⟩ := top_at hs st.m h b (by rw [hm]; exact ht)
  have hw : ∀ a, wts s st.m (ix3 h a b) = ((T.w ν h (row 512 i b) (row 512 n a) : ℝ) : EReal) := fun a => by
    rw [wts_at hs st.m h b hν]
    refine congrArg (fun x : ℝ => (x : EReal)) ?_
    unfold Att.w
    simp only [hd]
  have hf := fac_at st.m h b hν hm ht
  refine ⟨((ν : ℝ) : EReal), EReal.coe_ne_top _, fun h => absurd h (EReal.coe_ne_bot _), hν, ?_, fun e => ?_⟩
  · rw [upd_l, hf, hl]
    simp only [hw]
    rw [sum_coe, ← EReal.coe_mul, ← EReal.coe_add, rescale hb (fun μ j => T.blkW μ h (row 512 i b) j) fun μ j => T.blkW_shift μ ν h _ j,
      EReal.toReal_coe, Finset.sum_range_succ]
    rfl
  · rw [upd_a, hf, ha]
    simp only [hw, hv]
    rw [show (∑ a, ((T.v (row 512 n a) h e : ℝ) : EReal) * ((T.w ν h (row 512 i b) (row 512 n a) : ℝ) : EReal)) = ((T.blkV ν h (row 512 i b) e n : ℝ) : EReal) from
        sum_mulf (φ := .f32) _ _,
      ← EReal.coe_mul, ← EReal.coe_add, rescale hb (fun μ j => T.blkV μ h (row 512 i b) e j) fun μ j => T.blkV_shift μ ν h _ e j,
      EReal.toReal_coe, Finset.sum_range_succ]

/-- The results of a row hold the attention's. -/
def Out (i : ℕ) (st : St Ideal) : Prop := ∀ (h : Fin 8) (b : Fin 512),
  (∀ e, st.o (ix3 h e b) = ((T.out h (row 512 i b) e : ℝ) : EReal)) ∧ st.e (ix3 h 0 b) = ((T.lse h (row 512 i b) : ℝ) : EReal)

theorem finish {i : ℕ} (hi : i < 8) {st : St Ideal} (hI : Inv T i (i + 1) st) : Out T i (done st) := fun h b => by
  obtain ⟨μ, ht, hb, hm, hl, ha⟩ := hI h b
  have hμ : μ = ((μ.toReal : ℝ) : EReal) := (EReal.coe_toReal ht fun h => absurd (hb h) (Nat.succ_ne_zero i)).symm
  rw [T.sumW_blocks _ h hi b] at hl
  refine ⟨fun e => ?_, ?_⟩
  · have ha := ha e
    rw [T.sumV_blocks _ h hi b e] at ha
    show k0_pay8 (F := Ideal) st.a st.l (ix3 h e b) = _
    unfold k0_pay8
    rw [ValueIdx.divf_apply, overCols, ha, hl, div_coe (T.sumW_pos _ _ _).ne', T.out_of]
  · show k0_pay9 (F := Ideal) st.m st.l (ix3 h 0 b) = _
    unfold k0_pay9
    rw [ValueIdx.addf_apply, ValueIdx.mulf_apply, hm, hμ]
    show (((μ.toReal : ℝ) : EReal) * Ideal.ofBits .f32 0x3DD105EC#32 + Ideal.log (st.l (ix3 h 0 b)) : EReal) = _
    rw [hl, w_sc, ← EReal.coe_mul, log_coe (T.sumW_pos _ _ _), ← EReal.coe_add, T.lse_of]

/-! ## Along the grid -/

/-- The blocks a point reads hold the attention's rows. -/
structure Reads (m : (ℓ : Loc nD τ sig) → Buf (Elt Ideal) ℓ) (c : Dev nD) : Prop where
  q : ∀ (t : Fin cfg0.N) h b e, (iblk m c 0 t : FVec Ideal S8x512x128 .bf16) (ix3 h b e) = ((widen (T.q (row 512 (t.val / 8) b) h) e : ℝ) : EReal)
  k : ∀ (t : Fin cfg0.N), t.val % 8 ≤ t.val / 8 → ∀ h a e,
    (iblk m c 1 t : FVec Ideal S8x512x128 .bf16) (ix3 h a e) = ((widen (T.k (row 512 (t.val % 8) a) h) e : ℝ) : EReal)
  v : ∀ (t : Fin cfg0.N), t.val % 8 ≤ t.val / 8 → ∀ h e a,
    (iblk m c 2 t : FVec Ideal S8x64x512 .bf16) (ix3 h e a) = ((T.v (row 512 (t.val % 8) a) h e : ℝ) : EReal)

variable {T} {m : (ℓ : Loc nD τ sig) → Buf (Elt Ideal) ℓ} {c : Dev nD} (hR : Reads T m c)
include hR

theorem row_off (t : Fin cfg0.N) (hlt : t.val % 8 < t.val / 8) {st : St Ideal} (hI : Inv T (t.val / 8) (t.val % 8) st) :
    Inv T (t.val / 8) (t.val % 8 + 1) (off (iblk m c 0 t) (iblk m c 1 t) (iblk m c 2 t) st) := by
  have hN : t.val < 64 := lt_of_lt_of_eq t.isLt N_0
  rw [off_eq]
  refine next T hI (dead := fun _ _ => False) ?_ (fun a b => iff_of_false id ?_) (hR.v t hlt.le)
  · have := scores_off (hR.q t) (hR.k t hlt.le)
    simp only [sum_widen] at this
    exact this
  · refine not_lt.mpr ?_
    show (row 512 (t.val % 8) a : Fin 4096).val ≤ (row 512 (t.val / 8) b : Fin 4096).val
    rw [row_val a 8 rfl (by omega), row_val b 8 rfl (by omega)]
    omega

theorem row_diag (t : Fin cfg0.N) (heq : t.val % 8 = t.val / 8) {st : St Ideal} (hI : Inv T (t.val / 8) (t.val % 8) st) :
    Inv T (t.val / 8) (t.val % 8 + 1) (diag (iblk m c 0 t) (iblk m c 1 t) (iblk m c 2 t) st) := by
  rw [diag_eq]
  refine next T hI (dead := fun a b => b < a) ?_ (fun a b => ?_) (hR.v t heq.le)
  · have := scores_diag (hR.q t) (hR.k t heq.le)
    simp only [sum_widen] at this
    exact this
  · show b.val < a.val ↔ (row 512 (t.val / 8) b : Fin 4096).val < (row 512 (t.val % 8) a : Fin 4096).val
    rw [row_val a 8 rfl (by omega), row_val b 8 rfl (by omega)]
    omega

open Classical in
/-- What a point makes of the sums. -/
theorem at_point (t : Fin cfg0.N) {st : St Ideal} (hI : Inv T (t.val / 8) (t.val % 8) (if First (grid0.coords t) then fresh st else st)) :
    (t.val % 8 ≤ t.val / 8 → Inv T (t.val / 8) (t.val % 8 + 1) (step (grid0.coords t) (iblk m c 0 t) (iblk m c 1 t) (iblk m c 2 t) st))
      ∧ (t.val % 8 = t.val / 8 → Out T (t.val / 8) (step (grid0.coords t) (iblk m c 0 t) (iblk m c 1 t) (iblk m c 2 t) st)) := by
  have hN : t.val < 64 := lt_of_lt_of_eq t.isLt N_0
  unfold step
  dsimp only
  by_cases heq : t.val % 8 = t.val / 8
  · rw [if_pos ((diag_iff t).mpr heq)]
    have hI' := row_diag hR t heq hI
    refine ⟨fun _ => hI', fun _ => finish T (by omega) ?_⟩
    rw [← heq] at hI' ⊢
    exact hI'
  · rw [if_neg fun h => heq ((diag_iff t).mp h)]
    refine ⟨fun hle => ?_, fun h => absurd h heq⟩
    rw [if_pos ((before_iff t).mpr (lt_of_le_of_ne hle heq))]
    exact row_off hR t (lt_of_le_of_ne hle heq) hI

theorem along : ∀ n (hn : n < cfg0.N), (n % 8 ≤ n / 8 → Inv T (n / 8) (n % 8 + 1) (traj m c (n + 1)))
    ∧ (n / 8 ≤ n % 8 → Out T (n / 8) (traj m c (n + 1))) := by
  intro n
  induction n with
  | zero =>
    intro hn
    have := at_point hR (c := c) ⟨0, hn⟩ (st := traj m c 0) (by
      rw [if_pos ((first_iff ⟨0, hn⟩).mpr rfl)]; exact start T _ _)
    rw [← traj_succ m c ⟨0, hn⟩] at this
    exact ⟨this.1, fun _ => this.2 (show (0 : ℕ) % 8 = 0 / 8 from rfl)⟩
  | succ n ih =>
    intro hn
    have ih := ih (by omega)
    by_cases hlt : (n + 1) / 8 < (n + 1) % 8
    · refine ⟨fun h => absurd h (by omega), fun _ => ?_⟩
      have hk := traj_keep m c ⟨n + 1, hn⟩ (by show ¬(n + 1) % 8 = (n + 1) / 8; omega)
      have hp := ih.2 (by omega)
      intro h b
      have hp := hp h b
      rw [show n / 8 = (n + 1) / 8 by omega] at hp
      exact ⟨fun e => (congrFun hk.1 _).trans (hp.1 e), (congrFun hk.2 _).trans hp.2⟩
    · have := at_point hR (c := c) ⟨n + 1, hn⟩ (st := traj m c (n + 1)) (by
        by_cases h0 : (n + 1) % 8 = 0
        · rw [if_pos ((first_iff ⟨n + 1, hn⟩).mpr h0)]
          show Inv T ((n + 1) / 8) ((n + 1) % 8) _
          rw [h0]; exact start T _ _
        · rw [if_neg fun h => h0 ((first_iff ⟨n + 1, hn⟩).mp h)]
          have := ih.1 (by omega)
          show Inv T ((n + 1) / 8) ((n + 1) % 8) _
          rwa [show (n + 1) / 8 = n / 8 by omega, show (n + 1) % 8 = n % 8 + 1 by omega])
      rw [← traj_succ m c ⟨n + 1, hn⟩] at this
      exact ⟨this.1, fun h => this.2 (by show (n + 1) % 8 = (n + 1) / 8; omega)⟩

end Cert.MlafIdeal.Rows

end
-- ==== Proof.Mlaf.Reference.lean ====
/-
  What the reference computes: the attention's output and its rows' log-sums over the reals.
-/
module

public import proofs.«01_k».proof.Proof.Gen.MlafRefIdeal.Read
public import proofs.«01_k».proof.Proof.Mlaf.Block
public import Idealize.ShloMosaic.Lib.WordCmp
public import Mathlib.Data.Finset.Fold

@[expose] public section

noncomputable section

namespace Cert.MlafRefIdeal.Reference

open Idealize.ShloMosaic hiding ix1 ix2 ix3 ix4
open Cert.Reals Cert.MlafRefIdeal Cert.MlafRefIdeal.Gen Cert.MlafRefIdeal.Read Cert.MlafIdeal.Attention Cert.MlafIdeal.Block Idealize.ShloMosaic.ValueIdx
open Idealize.ShloMosaic.TcCoe Idealize.SL.Sem

/-- The arguments are the real arrays. -/
structure Are (x0 x1 : FVec Ideal S4096x8x96 .f32) (x2 : FVec Ideal S4096x8x64 .f32) (T : Att) : Prop where
  q : ∀ p h e, x0 (ix3 p h e) = ((T.q p h e : ℝ) : EReal)
  k : ∀ p h e, x1 (ix3 p h e) = ((T.k p h e : ℝ) : EReal)
  v : ∀ p h e, x2 (ix3 p h e) = ((T.v p h e : ℝ) : EReal)

variable {x0 x1 : FVec Ideal S4096x8x96 .f32} {x2 : FVec Ideal S4096x8x64 .f32} {T : Att}

def hh (i : S8x4096x4096.Idx) : Fin 8 := i 0
def pp (i : S8x4096x4096.Idx) : Fin 4096 := i 1
def rr (i : S8x4096x4096.Idx) : Fin 4096 := i 2

theorem w_ninf : (FloatOps.ofBits .f32 0xFF800000#32 : Ideal .f32) = (⊥ : EReal) := by
  show Ideal.ofBits .f32 0xFF800000#32 = ⊥
  simp [Ideal.ofBits, Ideal.ieee]

variable (H : Are x0 x1 x2 T)
include H

theorem q_at (i : S4096x8x96.Idx) : x0 i = ((T.q (i 0) (i 1) (i 2) : ℝ) : EReal) := (congrArg x0 (ValueIdx.eq_ix3 i)).trans (H.q _ _ _)
theorem k_at (i : S4096x8x96.Idx) : x1 i = ((T.k (i 0) (i 1) (i 2) : ℝ) : EReal) := (congrArg x1 (ValueIdx.eq_ix3 i)).trans (H.k _ _ _)
theorem v_at (i : S4096x8x64.Idx) : x2 i = ((T.v (i 0) (i 1) (i 2) : ℝ) : EReal) := (congrArg x2 (ValueIdx.eq_ix3 i)).trans (H.v _ _ _)

theorem score_at (h : Fin 8) (p r : Fin 4096) : val_main_v2 (F := Ideal) x0 x1 (ix3 h p r) = ((T.S h p r * sc : ℝ) : EReal) := by
  rw [val_main_v2_apply, val_main_v0_apply, val_main_v1_apply, val_main_cst_apply]
  simp only [q_at H, k_at H, ← EReal.coe_mul, sum_coe]
  rw [show (FloatOps.ofBits .f32 0x3DD105EC#32 : Ideal .f32) = _ from w_sc]
  refine (EReal.coe_mul _ _).symm.trans (congrArg (fun x : ℝ => ((x * sc : ℝ) : EReal)) ?_)
  exact Finset.sum_congr rfl fun e _ => mul_comm _ _

omit H in
theorem mask_at (i : S8x4096x4096.Idx) : val_main_call0_v1 (F := Ideal) i = BitVec.ofBool (decide (rr i ≤ pp i)) := by
  rw [val_main_call0_v1_apply, val_main_v10_apply, val_main_v9_apply, val_main_v7_apply, val_main_v8_apply, val_main_v4_apply,
    val_main_v6_apply, val_main_v3_apply, val_main_v5_apply]
  have h1 := (pp i).isLt
  have h2 := (rr i).isLt
  exact WordCmp.cmpi_sge_ofNat (show (pp i).val < _ by omega) (show (rr i).val < _ by omega)

theorem masked_at (h : Fin 8) (p r : Fin 4096) :
    val_main_v11 (F := Ideal) x0 x1 (ix3 h p r) = if p < r then (⊥ : EReal) else ((T.S h p r * sc : ℝ) : EReal) := by
  rw [val_main_v11_apply, mask_at, score_at H, val_main_call0_v2_apply, val_main_call0_v0_apply, val_main_cst_0_apply, w_ninf,
    show rr (ix3 h p r) = r from rfl, show pp (ix3 h p r) = p from rfl]
  by_cases h : p < r
  · rw [if_pos h, decide_eq_false (not_le.mpr h)]; rfl
  · rw [if_neg h, decide_eq_true (not_lt.mp h)]; rfl

/-- The largest score of a row is a real number: the row has a score that is one, and none is infinite. -/
theorem max_real (h : Fin 8) (p : Fin 4096) : ∃ M : ℝ, val_main_v12 (F := Ideal) x0 x1 (ix2 h p) = ((M : ℝ) : EReal) := by
  have e : val_main_v12 (F := Ideal) x0 x1 (ix2 h p) = Finset.univ.fold max (⊥ : EReal) fun r : Fin 4096 =>
      if p < r then (⊥ : EReal) else ((T.S h p r * sc : ℝ) : EReal) := by
    have hr : S8x4096x4096.Reduces [2] S8x4096 := by decide
    unfold val_main_v12
    rw [Host.reduce_eq_fold_single (FloatOps.maximumf (F := Ideal) (φ := .f32)) _ _ reducesTo_S8x4096x4096_S8x4096_d2 hr h_S_ (ix2 h p),
      val_main_cst_1_apply, w_ninf]
    exact congrArg (Finset.fold max (⊥ : EReal) · Finset.univ) (funext fun r =>
      (congrArg (val_main_v11 (F := Ideal) x0 x1) (ValueIdx.eq_ix3 _)).trans (masked_at H h p r))
  refine ⟨EReal.toReal (val_main_v12 (F := Ideal) x0 x1 (ix2 h p)), (EReal.coe_toReal ?_ ?_).symm⟩
  · rw [e]
    refine ne_of_lt ((Finset.fold_max_lt _).mpr ⟨bot_lt_top, fun r _ => ?_⟩)
    split_ifs
    · exact bot_lt_top
    · exact EReal.coe_lt_top _
  · rw [e]
    refine ne_of_gt ((Finset.lt_fold_max _).mpr (.inr ⟨p, Finset.mem_univ _, ?_⟩))
    rw [if_neg (lt_irrefl _)]
    exact EReal.bot_lt_coe _

/-- A masked score less a real `M` is the score less `M` over the scale, scaled. -/
theorem exp_masked (M : ℝ) (h : Fin 8) (p r : Fin 4096) :
    Ideal.exp (val_main_v11 (F := Ideal) x0 x1 (ix3 h p r) - ((M : ℝ) : EReal)) = ((T.w (M / sc) h p r : ℝ) : EReal) := by
  rw [masked_at H]
  unfold Att.w
  split_ifs
  · rw [EReal.bot_sub, Ideal.exp_bot]; rfl
  · rw [← EReal.coe_sub, Ideal.exp_coe, sub_mul, div_mul_cancel₀ _ sc_pos.ne']

/-! ## The output -/

theorem e_at {h : Fin 8} {p : Fin 4096} {M : ℝ} (hM : val_main_v12 (F := Ideal) x0 x1 (ix2 h p) = ((M : ℝ) : EReal)) (r : Fin 4096) :
    val_main_v18 (F := Ideal) x0 x1 (ix3 h p r) = ((T.w (M / sc) h p r : ℝ) : EReal) := by
  have ei : idx_main_v15 (idx_main_v16 (ix3 h p r)) = ix2 h p := ValueIdx.eq_ix2 _
  rw [val_main_v18_apply, val_main_v17_apply, val_main_v16_apply, val_main_v15_apply, val_main_v14_apply, ei, hM, val_main_v13_apply,
    val_main_cst_2_apply, w_ninf]
  exact (congrArg (fun y => Ideal.exp (_ - y)) (max_eq_right bot_le)).trans (exp_masked H M h p r)

theorem out_at (h : Fin 8) (e : Fin 64) (p : Fin 4096) : val_main_v33 (F := Ideal) x0 x1 x2 (ix3 h e p) = ((T.out h p e : ℝ) : EReal) := by
  obtain ⟨M, hM⟩ := max_real H h p
  have hs : val_main_v19 (F := Ideal) x0 x1 (ix2 h p) = ((T.sumW (M / sc) h p : ℝ) : EReal) := by
    have er : ∀ r, idx_main_v19 (ix2 h p) r = ix3 h p r := fun r => ValueIdx.eq_ix3 _
    rw [val_main_v19_apply, val_main_cst_3_apply]
    simp only [er, e_at H hM]
    rw [show (FloatOps.ofBits .f32 0x00000000#32 : Ideal .f32) = _ from Ideal.ofBits_zero_f32, zero_add, sum_coe]
    rfl
  have hw : ∀ r, val_main_v22 (F := Ideal) x0 x1 (ix3 h p r) = ((T.w (M / sc) h p r / T.sumW (M / sc) h p : ℝ) : EReal) := fun r => by
    have ei : idx_main_v20 (idx_main_v21 (ix3 h p r)) = ix2 h p := ValueIdx.eq_ix2 _
    rw [val_main_v22_apply, val_main_v21_apply, val_main_v20_apply, ei, hs, e_at H hM]
    exact div_coe (T.sumW_pos _ _ _).ne'
  have ei : idx_main_v32 (idx_main_v33 (ix3 h e p)) = ix3 h e p := ValueIdx.eq_ix3 _
  have er : ∀ r, ridx_main_v31 (ix3 h e p) r = ix3 h p r := fun r => ValueIdx.eq_ix3 _
  have el : ∀ r, lidx_main_v31 (ix3 h e p) r = ix3 r h e := fun r => ValueIdx.eq_ix3 _
  rw [val_main_v33_apply, val_main_v32_apply, ei, val_main_v31_apply]
  simp only [er, el, H.v, hw, ← EReal.coe_mul, sum_coe]
  refine congrArg (fun x : ℝ => (x : EReal)) (Eq.trans ?_ (T.out_of (M / sc) h p e))
  unfold Att.sumV
  rw [Finset.sum_div]
  exact Finset.sum_congr rfl fun r _ => (mul_div_assoc _ _ _).symm

/-! ## The log-sum -/

theorem lse_at (h : Fin 8) (p : Fin 4096) : val_main_v34 (F := Ideal) x0 x1 (ix3 h (0 : Fin 1) p) = ((T.lse h p : ℝ) : EReal) := by
  obtain ⟨M, hM⟩ := max_real H h p
  have hM : val_main_v23 (F := Ideal) x0 x1 (ix2 h p) = ((M : ℝ) : EReal) := hM
  have he : ∀ r, val_main_v27 (F := Ideal) x0 x1 (ix3 h p r) = ((T.w (M / sc) h p r : ℝ) : EReal) := fun r => by
    have ei : idx_main_v24 (idx_main_v25 (ix3 h p r)) = ix2 h p := ValueIdx.eq_ix2 _
    rw [val_main_v27_apply, val_main_v26_apply, val_main_v25_apply, val_main_v24_apply, ei, hM]
    exact exp_masked H M h p r
  have hs : val_main_v28 (F := Ideal) x0 x1 (ix2 h p) = ((T.sumW (M / sc) h p : ℝ) : EReal) := by
    have er : ∀ r, idx_main_v28 (ix2 h p) r = ix3 h p r := fun r => ValueIdx.eq_ix3 _
    rw [val_main_v28_apply, val_main_cst_5_apply]
    simp only [er, he]
    rw [show (FloatOps.ofBits .f32 0x00000000#32 : Ideal .f32) = _ from Ideal.ofBits_zero_f32, zero_add, sum_coe]
    rfl
  have ei : idx_main_v34 (ix3 h (0 : Fin 1) p) = ix2 h p := ValueIdx.eq_ix2 _
  rw [val_main_v34_apply, ei, val_main_v30_apply, val_main_v29_apply, hs, hM]
  refine (congrArg (_ + ·) (log_coe (T.sumW_pos (M / sc) h p))).trans ?_
  refine (EReal.coe_add _ _).symm.trans (congrArg (fun x : ℝ => (x : EReal)) ?_)
  rw [← T.lse_of (M / sc) h p, div_mul_cancel₀ _ sc_pos.ne']

end Cert.MlafRefIdeal.Reference

end
-- ==== Proof.Mlaf.Entry.lean ====
/-
  What the region finds — the queries and keys widened by zero columns, the values column by column — and so what each
  grid point reads.
-/
module

public import proofs.«01_k».proof.Proof.Mlaf.Rows
public import proofs.«01_k».proof.Proof.Mlaf.Reference
public import Idealize.ShloMosaic.Lib.StableHlo.RunRead

@[expose] public section

noncomputable section

namespace Cert.MlafIdeal.Entry

open Idealize.ShloMosaic hiding ix1 ix2 ix3 ix4
open Cert.Rows Cert.Widen Cert.MlafIdeal Cert.MlafIdeal.Gen Cert.MlafIdeal.Attention Cert.MlafIdeal.Run
open Cert.MlafRefIdeal.Reference Idealize.ShloMosaic.ValueIdx Idealize.ShloMosaic.TcCoe Idealize.SL.Sem

/-! ## The lines before the region -/

def vWide (x : FVec Ideal S4096x8x96 .f32) : FVec Ideal S8x4096x128 .bf16 :=
  pad S8x4096x128 ![0, 0, 0] ![0, 0, 32] ![0, 0, 0]
    (transpose S8x4096x96 [1, 0, 2] (truncf .bf16 x bitsLt_bf16_f32) transposes_S4096x8x96_S8x4096x96_1_0_2)
    (sitofp .bf16 (constantI S_ 32 0#32)) pads_S8x4096x96_S8x4096x128_000_000_0320 h_S_
def vCols (x : FVec Ideal S4096x8x64 .f32) : FVec Ideal S8x64x4096 .bf16 :=
  transpose S8x64x4096 [1, 2, 0] (truncf .bf16 x bitsLt_bf16_f32) transposes_S4096x8x64_S8x64x4096_1_2_0

/-- The rows widened. -/
theorem wide_at {x : FVec Ideal S4096x8x96 .f32} {f : Fin 4096 → Fin 8 → Fin 96 → ℝ} (hx : ∀ p h e, x (ix3 p h e) = ((f p h e : ℝ) : EReal))
    (h : Fin 8) (p : Fin 4096) (e : Fin 128) : vWide x (ix3 h p e) = ((widen (f p h) e : ℝ) : EReal) :=
  pad_widen _ _ _ h_S_ (show ((((0#32 : BitVec 32).toInt : ℤ) : ℝ) : EReal) = 0 by simp) (fun h p => f p h)
    (fun h p e => (transpose_apply [1, 0, 2] (truncf .bf16 x bitsLt_bf16_f32) transposes_S4096x8x96_S8x4096x96_1_0_2 (ix3 h p e) (ix3 p h e) (fun b => match b with
      | ⟨0, _⟩ => rfl
      | ⟨1, _⟩ => rfl
      | ⟨2, _⟩ => rfl)).trans (hx p h e)) h p e

/-- The values, column by column. -/
theorem cols_at (x : FVec Ideal S4096x8x64 .f32) (h : Fin 8) (e : Fin 64) (p : Fin 4096) : vCols x (ix3 h e p) = x (ix3 p h e) :=
  transpose_apply [1, 2, 0] (truncf .bf16 x bitsLt_bf16_f32) transposes_S4096x8x64_S8x64x4096_1_2_0 (ix3 h e p) (ix3 p h e) (fun b => match b with
    | ⟨0, _⟩ => rfl
    | ⟨1, _⟩ => rfl
    | ⟨2, _⟩ => rfl)

/-! ## What the region finds -/

variable (m : (ℓ : Loc nD τ sig) → Buf (Elt Ideal) ℓ) (c : Dev nD)

theorem found_q : V m c main_v2 = vWide (m ((c : Thread nD τ).loc main_arg0)) := rfl
theorem found_k : V m c main_v5 = vWide (m ((c : Thread nD τ).loc main_arg1)) := rfl
theorem found_v : V m c main_v7 = vCols (m ((c : Thread nD τ).loc main_arg2)) := rfl

/-! ## What each grid point reads -/

theorem index0 : ∀ t : Fin cfg0.N, win0_0.index t 0 = 0 ∧ win0_0.index t 1 = t.val / 8 ∧ win0_0.index t 2 = 0 :=
  (by decide +kernel : ∀ t : Fin grid0.N, win0_0.index t 0 = 0 ∧ win0_0.index t 1 = t.val / 8 ∧ win0_0.index t 2 = 0)

theorem index1 : ∀ t : Fin cfg0.N, t.val % 8 ≤ t.val / 8 → win0_1.index t 0 = 0 ∧ win0_1.index t 1 = t.val % 8 ∧ win0_1.index t 2 = 0 :=
  (by decide +kernel : ∀ t : Fin grid0.N, t.val % 8 ≤ t.val / 8 → win0_1.index t 0 = 0 ∧ win0_1.index t 1 = t.val % 8 ∧ win0_1.index t 2 = 0)

theorem index2 : ∀ t : Fin cfg0.N, t.val % 8 ≤ t.val / 8 → win0_2.index t 0 = 0 ∧ win0_2.index t 1 = 0 ∧ win0_2.index t 2 = t.val % 8 :=
  (by decide +kernel : ∀ t : Fin grid0.N, t.val % 8 ≤ t.val / 8 → win0_2.index t 0 = 0 ∧ win0_2.index t 1 = 0 ∧ win0_2.index t 2 = t.val % 8)

/-- A row of a block, among all rows. -/
theorem row_lt {i : ℕ} (hi : i < 8) (a : Fin 512) : (row 512 i a : Fin 4096).val = 512 * i + a.val := row_val a 8 rfl hi

variable {m c} {T : Att}

/-- Each point reads its blocks of the attention's rows. -/
theorem reads (H : Are (m ((c : Thread nD τ).loc main_arg0)) (m ((c : Thread nD τ).loc main_arg1)) (m ((c : Thread nD τ).loc main_arg2)) T) :
    Rows.Reads T m c where
  q t h b e := by
    have hN := lt_of_lt_of_eq t.isLt N_0
    refine Eq.trans ?_ (wide_at H.q h (row 512 (t.val / 8) b) e)
    unfold iblk
    rw [View.read_apply]
    refine (congrFun (found_q m c) _).trans (congrArg (vWide (m ((c : Thread nD τ).loc main_arg0))) ?_)
    funext x
    apply Fin.ext
    match x with
    | ⟨0, _⟩ => show win0_0.index t 0 * 8 + 1 * h.val = h.val; rw [(index0 t).1]; omega
    | ⟨1, _⟩ => show win0_0.index t 1 * 512 + 1 * b.val = (row 512 (t.val / 8) b : Fin 4096).val; rw [(index0 t).2.1, row_lt (by omega)]; omega
    | ⟨2, _⟩ => show win0_0.index t 2 * 128 + 1 * e.val = e.val; rw [(index0 t).2.2]; omega
  k t hle h a e := by
    have hN := lt_of_lt_of_eq t.isLt N_0
    refine Eq.trans ?_ (wide_at H.k h (row 512 (t.val % 8) a) e)
    unfold iblk
    rw [View.read_apply]
    refine (congrFun (found_k m c) _).trans (congrArg (vWide (m ((c : Thread nD τ).loc main_arg1))) ?_)
    funext x
    apply Fin.ext
    match x with
    | ⟨0, _⟩ => show win0_1.index t 0 * 8 + 1 * h.val = h.val; rw [(index1 t hle).1]; omega
    | ⟨1, _⟩ => show win0_1.index t 1 * 512 + 1 * a.val = (row 512 (t.val % 8) a : Fin 4096).val; rw [(index1 t hle).2.1, row_lt (by omega)]; omega
    | ⟨2, _⟩ => show win0_1.index t 2 * 128 + 1 * e.val = e.val; rw [(index1 t hle).2.2]; omega
  v t hle h e a := by
    have hN := lt_of_lt_of_eq t.isLt N_0
    refine Eq.trans ?_ ((cols_at _ h e (row 512 (t.val % 8) a)).trans (H.v _ h e))
    unfold iblk
    rw [View.read_apply]
    refine (congrFun (found_v m c) _).trans (congrArg (vCols (m ((c : Thread nD τ).loc main_arg2))) ?_)
    funext x
    apply Fin.ext
    match x with
    | ⟨0, _⟩ => show win0_2.index t 0 * 8 + 1 * h.val = h.val; rw [(index2 t hle).1]; omega
    | ⟨1, _⟩ => show win0_2.index t 1 * 64 + 1 * e.val = e.val; rw [(index2 t hle).2.1]; omega
    | ⟨2, _⟩ => show win0_2.index t 2 * 512 + 1 * a.val = (row 512 (t.val % 8) a : Fin 4096).val; rw [(index2 t hle).2.2, row_lt (by omega)]; omega

end Cert.MlafIdeal.Entry

end
-- ==== Proof.Mlaf.Final.lean ====
/-
  The kernel's run over the reals: each result array at its mathematics.
-/
module

public import proofs.«01_k».proof.Proof.Mlaf.Entry

@[expose] public section

noncomputable section

namespace Cert.MlafIdeal.Final

open Idealize.ShloMosaic hiding ix1 ix2 ix3 ix4
open Cert.Rows Cert.MlafIdeal Cert.MlafIdeal.Gen Cert.MlafIdeal.Attention Cert.MlafIdeal.Run Cert.MlafIdeal.Entry
open Cert.MlafRefIdeal.Reference Idealize.ShloMosaic.ValueIdx Idealize.ShloMosaic.TcCoe Idealize.SL.Sem

variable (m : (ℓ : Loc nD τ sig) → Buf (Elt Ideal) ℓ) (ρ : Dev nD → PrngReg) (c : Dev nD)

theorem index3 : ∀ t : Fin cfg0.N, win0_3.index t 0 = 0 ∧ win0_3.index t 1 = 0 ∧ win0_3.index t 2 = t.val / 8 :=
  (by decide +kernel : ∀ t : Fin grid0.N, win0_3.index t 0 = 0 ∧ win0_3.index t 1 = 0 ∧ win0_3.index t 2 = t.val / 8)

theorem index4 : ∀ t : Fin cfg0.N, win0_4.index t 0 = 0 ∧ win0_4.index t 1 = 0 ∧ win0_4.index t 2 = t.val / 8 :=
  (by decide +kernel : ∀ t : Fin grid0.N, win0_4.index t 0 = 0 ∧ win0_4.index t 1 = 0 ∧ win0_4.index t 2 = t.val / 8)

/-- The columns a point's block of a result holds. -/
theorem cols3 (t : Fin cfg0.N) (i : S8x64x4096.Idx) (hi : i ∈ ((cfg0.win 3).blk t).view.set) :
    win0_3.index t 2 * 512 ≤ (i 2).val ∧ (i 2).val < win0_3.index t 2 * 512 + 512 := by
  have hi : i ∈ ((View.whole main_v8_0).slice (win0_3.rect t)).set := hi
  rw [View.set_slice_whole, Rect.mem_set_unit] at hi
  exact hi 2

theorem cols4 (t : Fin cfg0.N) (i : S8x1x4096.Idx) (hi : i ∈ ((cfg0.win 4).blk t).view.set) :
    win0_4.index t 2 * 512 ≤ (i 2).val ∧ (i 2).val < win0_4.index t 2 * 512 + 512 := by
  have hi : i ∈ ((View.whole main_v8_1).slice (win0_4.rect t)).set := hi
  rw [View.set_slice_whole, Rect.mem_set_unit] at hi
  exact hi 2

/-- No two points write one block of a result. -/
theorem apart3 (t t' : Fin cfg0.N) (f : (cfg0.win 3).flush t = true) (f' : (cfg0.win 3).flush t' = true) (hne : t ≠ t') :
    Disjoint ((cfg0.win 3).blk t).view.set ((cfg0.win 3).blk t').view.set :=
  Finset.disjoint_left.mpr fun (i : S8x64x4096.Idx) hi hi' => hne (Fin.ext (by
    have a := cols3 t i hi
    have b := cols3 t' i hi'
    rw [(index3 t).2.2] at a
    rw [(index3 t').2.2] at b
    have := (flush0_3 t).mp f
    have := (flush0_3 t').mp f'
    omega))

theorem apart4 (t t' : Fin cfg0.N) (f : (cfg0.win 4).flush t = true) (f' : (cfg0.win 4).flush t' = true) (hne : t ≠ t') :
    Disjoint ((cfg0.win 4).blk t).view.set ((cfg0.win 4).blk t').view.set :=
  Finset.disjoint_left.mpr fun (i : S8x1x4096.Idx) hi hi' => hne (Fin.ext (by
    have a := cols4 t i hi
    have b := cols4 t' i hi'
    rw [(index4 t).2.2] at a
    rw [(index4 t').2.2] at b
    have := (flush0_4 t).mp f
    have := (flush0_4 t').mp f'
    omega))

/-- What a point that writes a block back leaves in it. -/
theorem flushed3 (t : Fin cfg0.N) : (dats m 0 c).flushed 3 t = (cfg0.win 3).cut (grid0.coords t) (traj m c (t.val + 1)).o := by
  show (cfg0.win 3).cut (grid0.coords t) ((dats m 0 c).after 3 t) = _
  rw [after0_3]

theorem flushed4 (t : Fin cfg0.N) : (dats m 0 c).flushed 4 t = (cfg0.win 4).cut (grid0.coords t) (traj m c (t.val + 1)).e := by
  show (cfg0.win 4).cut (grid0.coords t) ((dats m 0 c).after 4 t) = _
  rw [after0_4]

theorem at3 (t : Fin cfg0.N) (ht : t.val % 8 = 7) (h : Fin 8) (e : Fin 64) (a : Fin 512) :
    ((dats m 0 c).arrAt 3 cfg0.N : Vec Ideal S8x64x4096 .f32) (ix3 h e (row 512 (t.val / 8) a)) = (traj m c (t.val + 1)).o (ix3 h e a) := by
  have hN := lt_of_lt_of_eq t.isLt N_0
  have w := congrFun (((dats m 0 c).read_blk_arrAt_eq_flushed 3 apart3 cfg0.N t t.isLt ((flush0_3 t).mpr ht)).trans (flushed3 m c t)) (ix3 h e a)
  rw [View.read_apply] at w
  refine Eq.trans ?_ w
  show _ = (dats m 0 c).arrAt 3 cfg0.N _
  congr 1
  funext x
  apply Fin.ext
  match x with
  | ⟨0, _⟩ => show h.val = win0_3.index t 0 * 8 + 1 * h.val; rw [(index3 t).1]; omega
  | ⟨1, _⟩ => show e.val = win0_3.index t 1 * 64 + 1 * e.val; rw [(index3 t).2.1]; omega
  | ⟨2, _⟩ => show (row 512 (t.val / 8) a : Fin 4096).val = win0_3.index t 2 * 512 + 1 * a.val; rw [(index3 t).2.2, row_lt (by omega)]; omega

theorem at4 (t : Fin cfg0.N) (ht : t.val % 8 = 7) (h : Fin 8) (a : Fin 512) :
    ((dats m 0 c).arrAt 4 cfg0.N : Vec Ideal S8x1x4096 .f32) (ix3 h (0 : Fin 1) (row 512 (t.val / 8) a)) = (traj m c (t.val + 1)).e (ix3 h (0 : Fin 1) a) := by
  have hN := lt_of_lt_of_eq t.isLt N_0
  have w := congrFun (((dats m 0 c).read_blk_arrAt_eq_flushed 4 apart4 cfg0.N t t.isLt ((flush0_4 t).mpr ht)).trans (flushed4 m c t)) (ix3 h (0 : Fin 1) a)
  rw [View.read_apply] at w
  refine Eq.trans ?_ w
  show _ = (dats m 0 c).arrAt 4 cfg0.N _
  congr 1
  funext x
  apply Fin.ext
  match x with
  | ⟨0, _⟩ => show h.val = win0_4.index t 0 * 8 + 1 * h.val; rw [(index4 t).1]; omega
  | ⟨1, _⟩ => show 0 = win0_4.index t 1 * 1 + 1 * 0; rw [(index4 t).2.1]
  | ⟨2, _⟩ => show (row 512 (t.val / 8) a : Fin 4096).val = win0_4.index t 2 * 512 + 1 * a.val; rw [(index4 t).2.2, row_lt (by omega)]; omega

/-- The run with each result array named, the arguments unchanged. -/
theorem run_blocks : θ_run defs (onTc (τ := τ) (main (F := Ideal))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩) (θ_run_and (run_main m ρ) (unchanged m ρ))

/-! ## The results, when the arguments are real -/

variable {m c} {T : Att}
  (H : Are (m ((c : Thread nD τ).loc main_arg0)) (m ((c : Thread nD τ).loc main_arg1)) (m ((c : Thread nD τ).loc main_arg2)) T)
include H

/-- The last point of a query's row of blocks, and what it leaves. -/
theorem last (p : Fin 4096) : ∃ (t : Fin cfg0.N) (b : Fin 512), t.val % 8 = 7 ∧ row 512 (t.val / 8) b = p ∧ Rows.Out T (t.val / 8) (traj m c (t.val + 1)) := by
  have hp := p.isLt
  have hN : 8 * (p.val / 512) + 7 < cfg0.N := lt_of_lt_of_eq (by omega) N_0.symm
  refine ⟨⟨8 * (p.val / 512) + 7, hN⟩, ⟨p.val % 512, Nat.mod_lt _ (by decide)⟩, ?_, Fin.ext ?_, (Rows.along (reads H) _ hN).2 (by omega)⟩
  · show (8 * (p.val / 512) + 7) % 8 = 7
    omega
  · rw [row_lt (show (8 * (p.val / 512) + 7) / 8 < 8 by omega)]
    show 512 * ((8 * (p.val / 512) + 7) / 8) + p.val % 512 = p.val
    omega

theorem out_eq (h : Fin 8) (e : Fin 64) (p : Fin 4096) :
    ((dats m 0 c).arrAt 3 cfg0.N : Vec Ideal S8x64x4096 .f32) (ix3 h e p) = ((T.out h p e : ℝ) : EReal) := by
  obtain ⟨t, b, ht, rfl, ho⟩ := last H p
  exact (at3 m c t ht h e b).trans ((ho h b).1 e)

theorem lse_eq (h : Fin 8) (p : Fin 4096) :
    ((dats m 0 c).arrAt 4 cfg0.N : Vec Ideal S8x1x4096 .f32) (ix3 h (0 : Fin 1) p) = ((T.lse h p : ℝ) : EReal) := by
  obtain ⟨t, b, ht, rfl, ho⟩ := last H p
  exact (at4 m c t ht h b).trans (ho h b).2

end Cert.MlafIdeal.Final

end
-- ==== Proof.Mlaf.Kernel.lean ====
/-
  The program as its words run it has the text of the one read over the reals, and its frame is the same theorem.
-/
module

public import proofs.«01_k».proof.Proof.Mlaf.Body
public import proofs.«01_k».proof.Proof.Gen.Mlaf
public import Idealize.ShloMosaic.PureOps.BitExact

@[expose] public section

set_option maxRecDepth 16384

noncomputable section

namespace Cert.MlafIdeal.Run

open Idealize.ShloMosaic Idealize.ShloMosaic.TcCoe Idealize.SL.Sem

/-- Over the words a named constant is the word itself. -/
@[reducible] def words : Named Bits := ⟨fun _ _ {φ} b => Scalar.ofBits φ b⟩

section
attribute [local instance] words

theorem bodies : Cert.Mlaf.defs₀ (F := Bits) = Cert.MlafIdeal.defs₀ (F := Bits) := by
  unfold Cert.Mlaf.defs₀ Cert.MlafIdeal.defs₀
  refine congrArg Defs.onTc (funext fun l => funext fun x => ?_)
  match l, x with
  | 0, (t, s) => rfl
  | ⟨_ + 1, h⟩, _ => exact absurd h (Nat.not_lt.2 (Nat.le_add_left _ _))

theorem tables : Cert.Mlaf.defs (F := Bits) = Cert.MlafIdeal.defs (F := Bits) :=
  congrArg (Pipeline.defs (Cert.MlafIdeal.pcfgs (F := Bits))) bodies
end

theorem frame_words (m : (ℓ : Loc Cert.Mlaf.nD Cert.Mlaf.τ Cert.Mlaf.sig) → Buf (Elt Bits) ℓ) (ρ : Dev Cert.Mlaf.nD → PrngReg) :
    θ_run (Cert.Mlaf.defs (F := Bits)) (onTc (τ := Cert.Mlaf.τ) (Cert.Mlaf.main (F := Bits))) ⟨m, fun _ => 0, ρ⟩ (fun r => (∀ c : Dev Cert.Mlaf.nD,
      r.2.mem ((c.tc : Thread Cert.Mlaf.nD Cert.Mlaf.τ).loc Cert.Mlaf.main_arg0) = m ((c.tc : Thread Cert.Mlaf.nD Cert.Mlaf.τ).loc Cert.Mlaf.main_arg0)
      ∧ r.2.mem ((c.tc : Thread Cert.Mlaf.nD Cert.Mlaf.τ).loc Cert.Mlaf.main_arg1) = m ((c.tc : Thread Cert.Mlaf.nD Cert.Mlaf.τ).loc Cert.Mlaf.main_arg1)
      ∧ r.2.mem ((c.tc : Thread Cert.Mlaf.nD Cert.Mlaf.τ).loc Cert.Mlaf.main_arg2) = m ((c.tc : Thread Cert.Mlaf.nD Cert.Mlaf.τ).loc Cert.Mlaf.main_arg2))
      ∧ r.2.sem = fun _ => 0) :=
  letI := words
  tables ▸ frame (F := Bits) m ρ

end Cert.MlafIdeal.Run

end
-- ==== Proof.Mlaf.Equation.lean ====
/-
  The two programs leave the same arrays when the arguments are finite.
-/
module

public import proofs.«01_k».proof.Defs
public import proofs.«01_k».proof.Proof.Mlaf.Final
public import proofs.«01_k».proof.Proof.Mlaf.Kernel
public import proofs.«01_k».proof.Proof.Gen.Pre_pre_mlaf

@[expose] public section

noncomputable section

namespace Cert.Mlaf.Equation

open Idealize.ShloMosaic hiding ix0 ix1 ix2 ix3 ix4
open Cert.Reals Cert.MlafIdeal.Attention Idealize.ShloMosaic.TcCoe Idealize.SL.Sem Idealize.ShloMosaic.ValueIdx

/-- Under the precondition each argument is its array of real parts. -/
theorem finite [Pre_pre_mlaf.Facts] {a0 a1 : FVec Ideal Pre_pre_mlaf.S4096x8x96 .f32} {a2 : FVec Ideal Pre_pre_mlaf.S4096x8x64 .f32}
    (h : Pre_pre_mlaf.fn (F := Ideal) a0 a1 a2 = fun _ => 1#1) :
    (∀ i, ((re a0 i : ℝ) : EReal) = a0 i) ∧ (∀ i, ((re a1 i : ℝ) : EReal) = a1 i) ∧ ∀ i, ((re a2 i : ℝ) : EReal) = a2 i := by
  have h' := congrFun h ix0
  unfold Pre_pre_mlaf.fn at h'
  dsimp only at h'
  obtain ⟨h', h2⟩ := andi_split h'
  obtain ⟨h0, h1⟩ := andi_split h'
  exact ⟨coe_re _ _ _ _ _ _ _ h0, coe_re _ _ _ _ _ _ _ h1, coe_re _ _ _ _ _ _ _ h2⟩

theorem frame_words : Cert.quiescent_Mlaf := fun m ρ _ => MlafIdeal.Run.frame_words m ρ
theorem frame_ideal : Cert.quiescent_MlafIdeal := fun m ρ _ => MlafIdeal.Run.frame m ρ

/-- The reference terminates, keeps its arguments, and has no semaphore. -/
theorem frame_ref : Cert.quiescent_MlafRefIdeal := fun m ρ _ =>
  (θ_run MlafRefIdeal.defs _ _).mono (fun r h => ⟨fun c => (h c).2.2, sem_eq_zero_of_no_sems (by decide) r.2⟩)
    (MlafRefIdeal.Value.run (F := Ideal) m ρ)

/-- The mask's stand-in is minus infinity, and the scale of the powers of two is the scale of the scores over log 2. -/
theorem preserves : Cert.preserves_Mlaf_MlafIdeal :=
  ⟨IdealRules.named_const.statement MlafIdeal.κ "mask" .f32 0xF149F2CA#32 ⊥ rfl,
    IdealRules.named_const.statement MlafIdeal.κ "scale2" .f32 0x3E16C740#32 _ rfl⟩

/-- The attention of the arguments' real parts. -/
abbrev att (a0 a1 : FVec Ideal MlafRefIdeal.S4096x8x96 .f32) (a2 : FVec Ideal MlafRefIdeal.S4096x8x64 .f32) : Att where
  q p h e := re a0 (ix3 p h e)
  k p h e := re a1 (ix3 p h e)
  v p h e := re a2 (ix3 p h e)

/-- Finite arguments are the attention's. -/
theorem are {a0 a1 : FVec Ideal MlafRefIdeal.S4096x8x96 .f32} {a2 : FVec Ideal MlafRefIdeal.S4096x8x64 .f32}
    (f0 : ∀ i, ((re a0 i : ℝ) : EReal) = a0 i) (f1 : ∀ i, ((re a1 i : ℝ) : EReal) = a1 i) (f2 : ∀ i, ((re a2 i : ℝ) : EReal) = a2 i) :
    MlafRefIdeal.Reference.Are a0 a1 a2 (att a0 a1 a2) where
  q _ _ _ := (f0 _).symm
  k _ _ _ := (f1 _).symm
  v _ _ _ := (f2 _).symm

/-- The latent attention's output and log-sums: kernel and reference agree. -/
theorem algebraic [Pre_pre_mlaf.Facts] : Cert.algebraic_MlafIdeal_MlafRefIdeal_pre_pre_mlaf := by
  intro m g m' g' hpre heq
  refine ⟨fun c => (MlafIdeal.Run.dats m 0 c).arrAt 3 MlafIdeal.cfg0.N, fun c => (MlafIdeal.Run.dats m 0 c).arrAt 4 MlafIdeal.cfg0.N,
    MlafIdeal.Final.run_blocks m g, ?_⟩
  refine (θ_run _ _ _).mono (fun r h c => ?_) (MlafRefIdeal.Value.run m' g')
  obtain ⟨h0, h1, hargs⟩ := h c
  obtain ⟨f0, f1, f2⟩ := finite (hpre c)
  obtain ⟨e0, e1, e2⟩ := heq c
  have H := are f0 f1 f2
  refine ⟨h0.trans ?_, h1.trans ?_, hargs⟩
  · rw [MlafRefIdeal.Read.val_main_v33_eq, e0, e1, e2]
    refine funext fun i => ?_
    obtain ⟨h, e, p, rfl⟩ : ∃ (h : Fin 8) (e : Fin 64) (p : Fin 4096), i = ix3 h e p := ⟨i 0, i 1, i 2, ValueIdx.eq_ix3 i⟩
    exact (MlafRefIdeal.Reference.out_at H h e p).trans (MlafIdeal.Final.out_eq H h e p).symm
  · rw [MlafRefIdeal.Read.val_main_v34_eq, e0, e1]
    refine funext fun i => ?_
    obtain ⟨h, z, p, rfl⟩ : ∃ (h : Fin 8) (z : Fin 1) (p : Fin 4096), i = ix3 h z p := ⟨i 0, i 1, i 2, ValueIdx.eq_ix3 i⟩
    obtain rfl := Subsingleton.elim z 0
    exact (MlafRefIdeal.Reference.lse_at H h p).trans (MlafIdeal.Final.lse_eq H h p).symm

end Cert.Mlaf.Equation

end
-- ==== Proof.Up.Block.lean ====
/-
  What one point of the grid leaves in the three output blocks: the words of `Payloads` at the point's eight input blocks,
  the two weight gradients added to what the point before left (to zero at the first point).
-/
module

public import proofs.«01_k».proof.Proof.Gen.UpIdeal.Value

@[expose] public section

noncomputable section

namespace Cert.UpIdeal.Block

open Cert.UpIdeal Cert.UpIdeal.Gen Idealize.ShloMosaic Idealize.ShloMosaic.TcCoe Idealize.SL.Sem

variable {F : FTy → Type} [FloatOps F] (m : (ℓ : Loc nD τ sig) → Buf (Elt F) ℓ) (c : Dev nD)

abbrev bA (t : Fin cfg0.N) : Vec F S256x2816 .bf16 := iblk m c 0 t
abbrev bB (t : Fin cfg0.N) : Vec F S256x2816 .bf16 := iblk m c 1 t
abbrev bWa (t : Fin cfg0.N) : Vec F S2816x1024 .bf16 := iblk m c 2 t
abbrev bWb (t : Fin cfg0.N) : Vec F S2816x1024 .bf16 := iblk m c 3 t
abbrev bC (t : Fin cfg0.N) : Vec F S256x1024 .f32 := iblk m c 4 t
abbrev bX (t : Fin cfg0.N) : Vec F S256x1024 .f32 := iblk m c 5 t
abbrev bR (t : Fin cfg0.N) : Vec F S256x1 .f32 := iblk m c 6 t
abbrev bG (t : Fin cfg0.N) : Vec F S1x1024 .f32 := iblk m c 7 t

/-- The gradient of the rows before the norm. -/
abbrev dz (t : Fin cfg0.N) : Vec F S256x1024 .f32 :=
  k0_pay1 (k0_pay4 (bC m c t) (bA m c t) (bWa m c t) (bB m c t) (bWb m c t)) (k0_pay5 (bX m c t)) (bR m c t) (bG m c t)

/-- The gradient of the norm's scale, added to `o`. -/
abbrev dg (t : Fin cfg0.N) (o : Vec F S1x1024 .f32) : Vec F S1x1024 .f32 :=
  k0_pay6 (bC m c t) (bA m c t) (bWa m c t) (bB m c t) (bWb m c t) (bX m c t) o

/-- The gradient of the norm's shift, added to `o`. -/
abbrev db (t : Fin cfg0.N) (o : Vec F S1x1024 .f32) : Vec F S1x1024 .f32 :=
  k0_pay7 (bC m c t) (bA m c t) (bWa m c t) (bB m c t) (bWb m c t) o

theorem hz : (![0, 0] : Fin 2 → Nat) = fun _ => 0 := funext fun a => by fin_cases a <;> rfl

/-- The first point: the sums start from zero. -/
theorem outs_A (t : Fin cfg0.N) (h0 : t.val % 16 = 0) :
    outsAt0 m c t.val t.isLt = (dz m c t, dg m c t k0_pay2, db m c t k0_pay3) := by
  rw [outsAt0_A m c t h0]
  refine Prod.ext ?_ (Prod.ext ?_ ?_)
  all_goals
    dsimp only
    first
      | unfold out0_A_8; rw [View.read_writes_eq_canon _ _ _ fun q => cover0_A_8 (y := q) ..]
      | unfold out0_A_9; rw [View.read_writes_eq_canon _ _ _ fun q => cover0_A_9 (y := q) ..]
      | unfold out0_A_10; rw [View.read_writes_eq_canon _ _ _ fun q => cover0_A_10 (y := q) ..]
    unfold kernelRun0_A
    dsimp only
    sl_unfold_words
    first
      | rw [View.canon_unit_zero hz]
      | rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_9 t).read_unread, (hs0_10 t).read_unread,
      View.ld_unit_zero (S := S256x2816) hz, View.ld_unit_zero (S := S2816x1024) hz, View.ld_unit_zero (S := S256x1024) hz,
      View.ld_unit_zero (S := S1x1024) hz, View.ld_unit_zero (S := S256x1) hz, shapeCast_self]

/-- Every later point: the sums go on. -/
theorem outs_B (t : Fin cfg0.N) (h0 : ¬t.val % 16 = 0) : outsAt0 m c t.val t.isLt
    = (dz m c t, dg m c t (outsAt0 m c (t.val - 1) (by omega)).2.1, db m c t (outsAt0 m c (t.val - 1) (by omega)).2.2) := by
  rw [outsAt0_B m c t h0]
  refine Prod.ext ?_ (Prod.ext ?_ ?_)
  all_goals
    dsimp only
    first
      | unfold out0_B_8; rw [View.read_writes_eq_canon _ _ _ fun q => cover0_B_8 (y := q) ..]
      | unfold out0_B_9; rw [View.read_writes_eq_canon _ _ _ fun q => cover0_B_9 (y := q) ..]
      | unfold out0_B_10; rw [View.read_writes_eq_canon _ _ _ fun q => cover0_B_10 (y := q) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_9 t).read_unread, (hs0_10 t).read_unread,
      View.ld_unit_zero (S := S256x2816) hz, View.ld_unit_zero (S := S2816x1024) hz, View.ld_unit_zero (S := S256x1024) hz,
      View.ld_unit_zero (S := S1x1024) hz, View.ld_unit_zero (S := S256x1) hz, shapeCast_self]

end Cert.UpIdeal.Block

end
-- ==== Proof.Up.Payloads.lean ====
/-
  The arithmetic of the kernel on one block of 256 rows, over the reals: what each stored word is, entry by entry, when the
  gradient of the norm's output is the reals `D` on the block.
-/
module

public import proofs.«01_k».proof.Proof.Base.Reals
public import proofs.«01_k».proof.Proof.Base.At
public import proofs.«01_k».proof.Proof.Base.Words
public import proofs.«01_k».proof.Proof.Base.LayerNorm
public import proofs.«01_k».proof.Proof.Gen.UpIdeal.Skeleton

@[expose] public section

noncomputable section

namespace Cert.UpIdeal.Payloads

open Cert.UpIdeal Cert.UpIdeal.Gen Idealize.ShloMosaic ValueIdx Cert.LayerNorm Cert.Words Cert.Reals

variable {Z D : Fin 256 → Fin 1024 → ℝ} {G : Fin 1024 → ℝ}

theorem prod (l : FVec Ideal S256x2816 .bf16) (r : FVec Ideal S2816x1024 .bf16) (p : Fin 256) (q : Fin 1024) :
    matmul dot_S256x2816_S2816x1024_S256x1024_1_0_0_1_n_n none l r (constant S256x1024 .f32 0x00000000#32) (ix2 p q)
      = ∑ j : Fin 2816, l (ix2 p j) * r (ix2 j q) :=
  At.mm rfl ..

section Sums

variable {v3 : Vec Ideal S256x1024 .f32} {v6 v11 : Vec Ideal S256x2816 .bf16} {v8 v13 : Vec Ideal S2816x1024 .bf16}
variable (hd : ∀ p k, ((dnAlpha : ℝ) : EReal) * v3 (ix2 p k)
  + ((∑ q : Fin 2816, v6 (ix2 p q) * v8 (ix2 q k)) + ∑ q : Fin 2816, v11 (ix2 p q) * v13 (ix2 q k)) = ((D p k : ℝ) : EReal))
include hd

/-- The gradient of the norm's output. -/
theorem pay4 (p : Fin 256) (k : Fin 1024) : k0_pay4 v3 v6 v8 v11 v13 (ix2 p k) = ((D p k : ℝ) : EReal) := by
  unfold k0_pay4
  simp only [addf_apply, mulf_apply, broadcast_apply, prod, shapeCast_self,
    show (Scalar.ofBits .f32 0x3F9837F0#32 : Ideal .f32) = _ from w_dnAlpha, hd]

/-- The block adds the gradient of the norm's scale. -/
theorem pay6 {v18 : Vec Ideal S256x1024 .f32} (hx : ∀ p k, v18 (ix2 p k) = ((xh lnEps (Z p) k : ℝ) : EReal))
    (o : Vec Ideal S1x1024 .f32) (k : Fin 1024) : k0_pay6 v3 v6 v8 v11 v13 v18 o (ix2 0 k)
      = o (ix2 0 k) + ((∑ p, D p k * xh lnEps (Z p) k : ℝ) : EReal) := by
  unfold k0_pay6 k0_pay5
  dsimp only
  simp only [addf_apply, shapeCast_self, At.toRow]
  refine congrArg (o (ix2 0 k) + ·) ((At.sumCol _ _ _ _ k).trans ?_)
  simp only [mulf_apply, pay4 hd, hx, ← EReal.coe_mul, sum_coe]

/-- The block adds the gradient of the norm's shift. -/
theorem pay7 (o : Vec Ideal S1x1024 .f32) (k : Fin 1024) :
    k0_pay7 v3 v6 v8 v11 v13 o (ix2 0 k) = o (ix2 0 k) + ((∑ p, D p k : ℝ) : EReal) := by
  unfold k0_pay7
  dsimp only
  simp only [addf_apply, shapeCast_self, At.toRow]
  refine congrArg (o (ix2 0 k) + ·) ((At.sumCol _ _ _ _ k).trans ?_)
  simp only [pay4 hd, sum_coe]

end Sums

/-- The gradient of the rows before the norm. -/
theorem pay1 {v17 v19 : FVec Ideal S256x1024 .f32} {v33 : Vec Ideal S256x1 .f32} {v35 : Vec Ideal S1x1024 .f32}
    (h17 : ∀ p k, v17 (ix2 p k) = ((D p k : ℝ) : EReal)) (h19 : ∀ p k, v19 (ix2 p k) = ((xh lnEps (Z p) k : ℝ) : EReal))
    (h33 : ∀ p, v33 (ix2 p 0) = ((rs lnEps (Z p) : ℝ) : EReal)) (h35 : ∀ k, v35 (ix2 0 k) = ((G k : ℝ) : EReal))
    (p : Fin 256) (k : Fin 1024) :
    k0_pay1 v17 v19 v33 v35 (ix2 p k) = ((bwd lnEps (Z p) (fun q => D p q * G q) k : ℝ) : EReal) := by
  unfold k0_pay1
  dsimp only
  simp only [mulf_apply, subf_apply, At.col, At.row, divf_apply, At.toCol, broadcast_apply, shapeCast_self, h33, h17, h19, h35]
  rw [At.sumRow, At.sumRow]
  simp only [mulf_apply, At.row, h17, h19, h35, ← EReal.coe_mul, sum_coe]
  rw [show (Scalar.ofBits .f32 0x44800000#32 : Ideal .f32) = _ from w_1024, div_coe (by norm_num), div_coe (by norm_num)]
  simp only [← EReal.coe_mul, ← EReal.coe_sub, bwd, mean, Nat.cast_ofNat]

end Cert.UpIdeal.Payloads

end
-- ==== Proof.Up.Math.lean ====
/-
  The part's mathematics over the reals: `Z` the rows before the first norm, `G` the norm's scale, `W` the up weight, `C` the
  gradient that reaches the norm's output along the residual, `U` the gradient of the up projection.
-/
module

public import proofs.«01_k».proof.Proof.Base.LayerNorm
public import proofs.«01_k».proof.Proof.Base.Words

@[expose] public section

noncomputable section

namespace Cert.Up.Math

open Cert.LayerNorm Cert.Words

/-- The arguments. -/
structure Args where
  Z : Fin 4096 → Fin 1024 → ℝ
  G : Fin 1024 → ℝ
  W : Fin 1024 → Fin 5632 → ℝ
  C : Fin 4096 → Fin 1024 → ℝ
  U : Fin 4096 → Fin 5632 → ℝ

variable (T : Args)

/-- The gradient of the norm's output: the residual's, scaled, plus the product with the up weight. -/
def Args.d (r : Fin 4096) (k : Fin 1024) : ℝ := dnAlpha * T.C r k + ∑ j, T.U r j * T.W k j

/-- The gradient of the rows before the norm. -/
def Args.dz (r : Fin 4096) (k : Fin 1024) : ℝ := bwd lnEps (T.Z r) (fun q => T.d r q * T.G q) k

/-- The gradient of the norm's scale. -/
def Args.dg (k : Fin 1024) : ℝ := ∑ r, T.d r k * xh lnEps (T.Z r) k

/-- The gradient of the norm's shift. -/
def Args.db (k : Fin 1024) : ℝ := ∑ r, T.d r k

/-- The product with the up weight is the sum of the products with its two halves. -/
theorem Args.d_halves (r : Fin 4096) (k : Fin 1024) : T.d r k = dnAlpha * T.C r k
    + ((∑ j : Fin 2816, T.U r ⟨j.val, by omega⟩ * T.W k ⟨j.val, by omega⟩)
      + ∑ j : Fin 2816, T.U r ⟨2816 + j.val, by omega⟩ * T.W k ⟨2816 + j.val, by omega⟩) :=
  congrArg (dnAlpha * T.C r k + ·) (Fin.sum_univ_add (a := 2816) (b := 2816) fun j => T.U r j * T.W k j)

end Cert.Up.Math

end
-- ==== Proof.Up.Reference.lean ====
/-
  What the reference leaves, over the reals: its operations one by one, from the norm down to the gradient taken through it.
-/
module

public import proofs.«01_k».proof.Proof.Up.Math
public import proofs.«01_k».proof.Proof.Base.Reals
public import proofs.«01_k».proof.Proof.Gen.UpRefIdeal.Read

@[expose] public section

noncomputable section

namespace Cert.UpRefIdeal.Reference

open Cert.UpRefIdeal Cert.UpRefIdeal.Read Cert.Reals Cert.Words Cert.LayerNorm Cert.Up.Math Idealize.ShloMosaic ValueIdx

/-- The arguments are the real arrays. -/
structure Are (x0 : FVec Ideal S4096x1024 .f32) (x1 : FVec Ideal S1024 .f32) (x2 : FVec Ideal S1024x5632 .f32)
    (x3 : FVec Ideal S4096x1024 .f32) (x4 : FVec Ideal S4096x5632 .f32) (T : Args) : Prop where
  z : ∀ i, x0 i = ((T.Z (i 0) (i 1) : ℝ) : EReal)
  g : ∀ i, x1 i = ((T.G (i 0) : ℝ) : EReal)
  w : ∀ i, x2 i = ((T.W (i 0) (i 1) : ℝ) : EReal)
  c : ∀ i, x3 i = ((T.C (i 0) (i 1) : ℝ) : EReal)
  u : ∀ i, x4 i = ((T.U (i 0) (i 1) : ℝ) : EReal)

variable {x0 : FVec Ideal S4096x1024 .f32} {x1 : FVec Ideal S1024 .f32} {x2 : FVec Ideal S1024x5632 .f32}
variable {x3 : FVec Ideal S4096x1024 .f32} {x4 : FVec Ideal S4096x5632 .f32} {T : Args} (h : Are x0 x1 x2 x3 x4 T)
include h

/-! ## The norm -/

theorem mean_at (p : Fin 4096) (z : Fin 1) : val_main_v4 (F := Ideal) x0 (ix2 p z) = ((mean (T.Z p) : ℝ) : EReal) := by
  rw [val_main_v4_apply, val_main_v2_apply, val_main_v3_apply, val_main_cst_1_apply, val_main_v1_apply, val_main_cst_0_apply]
  simp only [h.z, sum_coe]
  rw [show (FloatOps.ofBits .f32 0x44800000#32 : Ideal .f32) = _ from w_1024,
    show (FloatOps.ofBits .f32 0x00000000#32 : Ideal .f32) = _ from Ideal.ofBits_zero_f32, zero_add]
  exact div_coe (by norm_num)

theorem cen_at (p : Fin 4096) (k : Fin 1024) : val_main_v15 (F := Ideal) x0 (ix2 p k) = ((cen (T.Z p) k : ℝ) : EReal) := by
  have e : idx_main_v14 (ix2 p k) = ix2 p 0 := ValueIdx.eq_ix2 _
  rw [val_main_v15_apply, val_main_v14_apply, e, h.z, mean_at h]
  exact (EReal.coe_sub _ _).symm

theorem cen_at' (p : Fin 4096) (k : Fin 1024) : val_main_v6 (F := Ideal) x0 (ix2 p k) = ((cen (T.Z p) k : ℝ) : EReal) :=
  cen_at h p k

theorem twice_at (p : Fin 4096) (k : Fin 1024) : val_main_v9 (F := Ideal) x0 (ix2 p k) = ((2 * cen (T.Z p) k : ℝ) : EReal) := by
  rw [val_main_v9_apply, val_main_v8_apply, val_main_cst_2_apply, cen_at' h,
    show (FloatOps.ofBits .f32 0x40000000#32 : Ideal .f32) = _ from w_two]
  exact (EReal.coe_mul _ _).symm

theorem var_at (p : Fin 4096) (z : Fin 1) : val_main_v17 (F := Ideal) x0 (ix2 p z) = ((var lnEps (T.Z p) : ℝ) : EReal) := by
  rw [val_main_v17_apply, val_main_v16_apply, val_main_cst_5_apply, val_main_v13_apply, val_main_v12_apply, val_main_cst_4_apply,
    val_main_v11_apply, val_main_v10_apply, val_main_cst_3_apply]
  have e : ∀ k, val_main_v7 (F := Ideal) x0 (idx_main_v10 (idx_main_v11 (ix2 p z)) k) = ((cen (T.Z p) k * cen (T.Z p) k : ℝ) : EReal) := fun k => by
    have e : idx_main_v10 (idx_main_v11 (ix2 p z)) k = ix2 p k := ValueIdx.eq_ix2 _
    rw [e, val_main_v7_apply, cen_at' h]
    exact (EReal.coe_mul _ _).symm
  simp only [e, sum_coe]
  rw [show (FloatOps.ofBits .f32 0x44800000#32 : Ideal .f32) = _ from w_1024,
    show (FloatOps.ofBits .f32 0x3727C5AC#32 : Ideal .f32) = _ from w_lnEps,
    show (FloatOps.ofBits .f32 0x00000000#32 : Ideal .f32) = _ from Ideal.ofBits_zero_f32, zero_add]
  exact (congrArg (· + _) (div_coe (by norm_num))).trans (EReal.coe_add _ _).symm

theorem rs_at (p : Fin 4096) (z : Fin 1) : val_main_v18 (F := Ideal) x0 (ix2 p z) = ((rs lnEps (T.Z p) : ℝ) : EReal) := by
  rw [val_main_v18_apply, var_at h]
  exact rsqrt_coe (var_pos lnEps_pos _)

theorem xh_at (p : Fin 4096) (k : Fin 1024) : val_main_v23 (F := Ideal) x0 (ix2 p k) = ((xh lnEps (T.Z p) k : ℝ) : EReal) := by
  have e : idx_main_v22 (ix2 p k) = ix2 p 0 := ValueIdx.eq_ix2 _
  rw [val_main_v23_apply, val_main_v22_apply, e, cen_at h, rs_at h]
  exact (EReal.coe_mul _ _).symm

/-! ## The gradient of the norm's output -/

theorem d_at (p : Fin 4096) (k : Fin 1024) : val_main_v36 (F := Ideal) x2 x3 x4 (ix2 p k) = ((T.d p k : ℝ) : EReal) := by
  rw [val_main_v36_apply, val_main_v33_apply, val_main_v35_apply, val_main_v34_apply, val_main_cst_8_apply,
    show (FloatOps.ofBits .f32 0x3F9837F0#32 : Ideal .f32) = _ from w_dnAlpha]
  simp only [h.c, h.w, h.u, ← EReal.coe_mul, sum_coe]
  show ((_ : ℝ) : EReal) + ((dnAlpha : ℝ) : EReal) * ((_ : ℝ) : EReal) = _
  rw [← EReal.coe_mul, ← EReal.coe_add, add_comm]
  rfl

/-- The gradient of the norm's shift. -/
theorem db_at (k : Fin 1024) : val_main_v71 (F := Ideal) x2 x3 x4 (ix2 0 k) = ((T.db k : ℝ) : EReal) := by
  have e : ∀ r, idx_main_v37 (idx_main_v38 (idx_main_v39 (idx_main_v71 (ix2 0 k)) 0)) r = ix2 r k := fun r =>
    (ValueIdx.eq_ix2 _).trans (congrArg (ix2 r) (Fin.ext (by show 0 * 1024 + (0 * 1024 + k.val) = k.val; omega)))
  rw [val_main_v71_apply, val_main_v39_apply, val_main_cst_10_apply, Fin.sum_univ_one, val_main_v38_apply, val_main_v37_apply, val_main_cst_9_apply]
  simp only [e, d_at h, sum_coe]
  rw [show (FloatOps.ofBits .f32 0x00000000#32 : Ideal .f32) = _ from Ideal.ofBits_zero_f32, zero_add, zero_add]
  rfl

/-- The gradient of the norm's scale. -/
theorem dg_at (k : Fin 1024) : val_main_v70 (F := Ideal) x0 x2 x3 x4 (ix2 0 k) = ((T.dg k : ℝ) : EReal) := by
  have e : ∀ r, idx_main_v41 (idx_main_v42 (idx_main_v45 (idx_main_v70 (ix2 0 k)) 0)) r = ix2 r k := fun r =>
    (ValueIdx.eq_ix2 _).trans (congrArg (ix2 r) (Fin.ext (by show 0 * 1024 + (0 * 1024 + k.val) = k.val; omega)))
  rw [val_main_v70_apply, val_main_v45_apply, val_main_cst_12_apply, Fin.sum_univ_one, val_main_v42_apply, val_main_v41_apply, val_main_cst_11_apply]
  simp only [e, val_main_v40_apply, d_at h, xh_at h]
  rw [show (FloatOps.ofBits .f32 0x00000000#32 : Ideal .f32) = _ from Ideal.ofBits_zero_f32, zero_add, zero_add]
  refine (Finset.sum_congr rfl fun r _ => (EReal.coe_mul _ _).symm).trans ((sum_coe _ _).trans (congrArg Real.toEReal ?_))
  exact Finset.sum_congr rfl fun r _ => mul_comm _ _

/-! ## The gradient through the norm -/

theorem v_at (p : Fin 4096) (k : Fin 1024) : val_main_v44 (F := Ideal) x1 x2 x3 x4 (ix2 p k) = ((T.d p k * T.G k : ℝ) : EReal) := by
  rw [val_main_v44_apply, val_main_v43_apply, val_main_v24_apply, d_at h, h.g]
  refine (EReal.coe_mul _ _).symm.trans (congrArg (fun q => ((T.d p k * T.G q : ℝ) : EReal)) (Fin.ext rfl))

theorem row_at (p : Fin 4096) (k : Fin 1024) :
    val_main_v50 (F := Ideal) x0 x1 x2 x3 x4 (ix2 p k) = ((T.d p k * T.G k * rs lnEps (T.Z p) : ℝ) : EReal) := by
  have e : idx_main_v49 (ix2 p k) = ix2 p 0 := ValueIdx.eq_ix2 _
  rw [val_main_v50_apply, val_main_v49_apply, e, v_at h, rs_at h]
  exact (EReal.coe_mul _ _).symm

theorem square_at (p : Fin 4096) (k : Fin 1024) : val_main_v59 (F := Ideal) x0 x1 x2 x3 x4 (ix2 p k)
    = ((toSquare lnEps (T.Z p) (fun q => T.d p q * T.G q) * (2 * cen (T.Z p) k) : ℝ) : EReal) := by
  have e1 : idx_main_v57 (idx_main_v58 (ix2 p k)) 0 = ix2 p 0 := ValueIdx.eq_ix2 _
  have e2 : ∀ q, idx_main_v47 (idx_main_v48 (ix2 p 0)) q = ix2 p q := fun q =>
    (ValueIdx.eq_ix2 _).trans (congrArg (ix2 · q) (Fin.ext (by show p.val * 1 + 0 = p.val; omega)))
  rw [val_main_v59_apply, val_main_v58_apply, twice_at h, val_main_v57_apply, val_main_cst_16_apply,
    show (FloatOps.ofBits .f32 0x00000000#32 : Ideal .f32) = _ from Ideal.ofBits_zero_f32, zero_add, Fin.sum_univ_one, e1,
    val_main_v56_apply, val_main_v55_apply, val_main_cst_15_apply, val_main_v51_apply, val_main_v48_apply, val_main_v47_apply,
    val_main_cst_13_apply, val_main_v21_apply, val_main_v20_apply, val_main_cst_6_apply, val_main_v19_apply, rs_at h, var_at h]
  simp only [e2, val_main_v46_apply, cen_at h, v_at h]
  rw [show (FloatOps.ofBits .f32 0x44800000#32 : Ideal .f32) = _ from w_1024,
    show (FloatOps.ofBits .f32 0xBF000000#32 : Ideal .f32) = _ from w_neg_half,
    show (FloatOps.ofBits .f32 0x00000000#32 : Ideal .f32) = _ from Ideal.ofBits_zero_f32, zero_add, sum_mulf]
  refine (congrArg (fun s => Ideal.div (_ * (_ * s)) _ * _) (div_coe (var_pos lnEps_pos _).ne')).trans ?_
  refine (congrArg (fun s => Ideal.div (_ * s) _ * _) (EReal.coe_mul _ _).symm).trans ?_
  refine (congrArg (fun s => Ideal.div s _ * _) (EReal.coe_mul _ _).symm).trans ?_
  refine (congrArg (· * _) (div_coe (by norm_num))).trans ((EReal.coe_mul _ _).symm.trans (congrArg Real.toEReal ?_))
  unfold toSquare
  norm_num

theorem minus_at (p : Fin 4096) (z : Fin 1) : val_main_v64 (F := Ideal) x0 x1 x2 x3 x4 (ix2 p z)
    = (((∑ q, -(T.d p q * T.G q * rs lnEps (T.Z p)))
      + ∑ q, -(toSquare lnEps (T.Z p) (fun q => T.d p q * T.G q) * (2 * cen (T.Z p) q)) : ℝ) : EReal) := by
  have e1 : ∀ q, idx_main_v53 (idx_main_v54 (ix2 p z)) q = ix2 p q := fun q =>
    (ValueIdx.eq_ix2 _).trans (congrArg (ix2 · q) (Fin.ext (by show p.val * 1 + z.val = p.val; omega)))
  have e2 : ∀ q, idx_main_v61 (idx_main_v62 (ix2 p z)) q = ix2 p q := fun q =>
    (ValueIdx.eq_ix2 _).trans (congrArg (ix2 · q) (Fin.ext (by show p.val * 1 + z.val = p.val; omega)))
  rw [val_main_v64_apply, val_main_v54_apply, val_main_v53_apply, val_main_cst_14_apply, val_main_v62_apply, val_main_v61_apply,
    val_main_cst_17_apply]
  simp only [e1, e2, val_main_v52_apply, val_main_v60_apply, row_at h, square_at h]
  rw [show (FloatOps.ofBits .f32 0x00000000#32 : Ideal .f32) = _ from Ideal.ofBits_zero_f32, zero_add, zero_add]
  exact (congrArg₂ (· + ·) ((Finset.sum_congr rfl fun k _ => (EReal.coe_neg _).symm).trans (sum_coe _ _))
    ((Finset.sum_congr rfl fun k _ => (EReal.coe_neg _).symm).trans (sum_coe _ _))).trans (EReal.coe_add _ _).symm

/-- The gradient of the rows before the norm. -/
theorem dz_at (p : Fin 4096) (k : Fin 1024) : val_main_v69 (F := Ideal) x0 x1 x2 x3 x4 (ix2 p k) = ((T.dz p k : ℝ) : EReal) := by
  have e : idx_main_v67 (idx_main_v68 (ix2 p k)) 0 = ix2 p 0 := ValueIdx.eq_ix2 _
  rw [val_main_v69_apply, val_main_v63_apply, val_main_v68_apply, val_main_v67_apply, val_main_cst_19_apply,
    show (FloatOps.ofBits .f32 0x00000000#32 : Ideal .f32) = _ from Ideal.ofBits_zero_f32, zero_add, Fin.sum_univ_one, e,
    val_main_v66_apply, val_main_v65_apply, val_main_cst_18_apply, row_at h, square_at h, minus_at h,
    show (FloatOps.ofBits .f32 0x44800000#32 : Ideal .f32) = _ from w_1024]
  refine (congrArg (_ + ·) (div_coe (by norm_num))).trans ?_
  refine (congrArg (· + _) (EReal.coe_add _ _).symm).trans ((EReal.coe_add _ _).symm.trans (congrArg Real.toEReal ?_))
  refine Eq.trans ?_ (chain_eq_bwd lnEps_pos (n := 1024) (by norm_num) (T.Z p) (fun q => T.d p q * T.G q) k)
  norm_num

end Cert.UpRefIdeal.Reference

end
-- ==== Proof.Up.Values.lean ====
/-
  The arrays the kernel leaves, over the reals: what its points read, and the two weight gradients as sums over the rows seen.
-/
module

public import proofs.«01_k».proof.Proof.Up.Block
public import proofs.«01_k».proof.Proof.Up.Payloads
public import proofs.«01_k».proof.Proof.Up.Reference
public import proofs.«01_k».proof.Proof.Base.Rows
public import Idealize.ShloMosaic.Lib.StableHlo.RunRead

@[expose] public section

noncomputable section

namespace Cert.UpIdeal.Values

open Cert.UpIdeal Cert.UpIdeal.Gen Cert.UpIdeal.Block Cert.Rows Cert.Up.Math Cert.UpRefIdeal.Reference Cert.UpRefIdeal.Read
open Idealize.ShloMosaic Idealize.ShloMosaic.TcCoe Idealize.SL.Sem ValueIdx

/-! ## The lines before the region -/

/-- Half of the columns, from the `o`-th on. -/
theorem half_at (x : FVec Ideal S4096x5632 .f32) (o : ℕ) (ho : o + 2816 ≤ 5632) (hs : S4096x5632.Slices ![0, o] S4096x2816) (r : Fin 4096) (j : Fin 2816) :
    truncf (F := Ideal) .bf16 (extractStridedSlice S4096x2816 ![0, o] x hs) bitsLt_bf16_f32 (ix2 r j) = x (ix2 r ⟨o + j.val, by omega⟩) :=
  congrArg x (funext fun a => Fin.ext (by
    match a with
    | ⟨0, _⟩ => show 0 + r.val = r.val; omega
    | ⟨1, _⟩ => rfl))

/-- The weight, on its side. -/
def vW (x : FVec Ideal S1024x5632 .f32) : FVec Ideal S5632x1024 .bf16 :=
  transpose S5632x1024 [1, 0] (truncf .bf16 x bitsLt_bf16_f32) transposes_S1024x5632_S5632x1024_1_0

theorem turned_at (x : FVec Ideal S1024x5632 .f32) (j : Fin 5632) (k : Fin 1024) : vW x (ix2 j k) = x (ix2 k j) :=
  transpose_apply [1, 0] (truncf .bf16 x bitsLt_bf16_f32) transposes_S1024x5632_S5632x1024_1_0 (ix2 j k) (ix2 k j) (fun b => match b with
    | ⟨0, _⟩ => rfl
    | ⟨1, _⟩ => rfl)

variable (m : (ℓ : Loc nD τ sig) → Buf (Elt Ideal) ℓ) (c : Dev nD)

theorem found_w : V m c main_v19 = vW (m ((c : Thread nD τ).loc main_arg2)) := rfl

theorem found_r : V m c main_v13 = val_main_v18 (F := Ideal) (m ((c : Thread nD τ).loc main_arg0)) := by
  show StableHlo.after _ _ _ = _
  simp only [hostOps0, List.flatten_cons, List.flatten_nil, List.append_nil, List.cons_append, List.nil_append]
  after_reads_simp
  rfl

theorem found_x : V m c main_v21 = val_main_v23 (F := Ideal) (m ((c : Thread nD τ).loc main_arg0)) := by
  show StableHlo.after _ _ _ = _
  simp only [hostOps0, List.flatten_cons, List.flatten_nil, List.append_nil, List.cons_append, List.nil_append]
  after_reads_simp
  rfl

/-! ## The blocks -/

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 1 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ win0_7.index t 0 = 0 ∧ win0_7.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 1 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ win0_7.index t 0 = 0 ∧ win0_7.index t 1 = 0)

theorem row_lt (t : Fin cfg0.N) (p : Fin 256) : (row 256 t.val p : Fin 4096).val = 256 * t.val + p.val :=
  row_val p 16 rfl (lt_of_lt_of_eq t.isLt N_0)

variable {m c} {T : Args}
  (h : Are (m ((c : Thread nD τ).loc main_arg0)) (m ((c : Thread nD τ).loc main_arg1)) (m ((c : Thread nD τ).loc main_arg2))
    (m ((c : Thread nD τ).loc main_arg3)) (m ((c : Thread nD τ).loc main_arg4)) T)
include h

theorem a_at (t : Fin cfg0.N) (p : Fin 256) (j : Fin 2816) :
    bA m c t (ix2 p j) = ((T.U (row 256 t.val p) ⟨j.val, by omega⟩ : ℝ) : EReal) := by
  refine Eq.trans ?_ ((half_at (m ((c : Thread nD τ).loc main_arg4)) 0 (by decide) slices_S4096x5632_S4096x2816_0_0 (row 256 t.val p) j).trans
    ((h.u _).trans (congrArg (fun q => ((T.U (row 256 t.val p) q : ℝ) : EReal)) (Fin.ext (Nat.zero_add _)))))
  unfold bA iblk
  rw [View.read_apply]
  refine congrArg (V m c main_v15) (funext fun a => Fin.ext ?_)
  match a with
  | ⟨0, _⟩ => show win0_0.index t 0 * 256 + 1 * p.val = (row 256 t.val p : Fin 4096).val; rw [(index t).1.1, row_lt]; omega
  | ⟨1, _⟩ => show win0_0.index t 1 * 2816 + 1 * j.val = j.val; rw [(index t).1.2]; omega

theorem b_at (t : Fin cfg0.N) (p : Fin 256) (j : Fin 2816) :
    bB m c t (ix2 p j) = ((T.U (row 256 t.val p) ⟨2816 + j.val, by omega⟩ : ℝ) : EReal) := by
  refine Eq.trans ?_ ((half_at (m ((c : Thread nD τ).loc main_arg4)) 2816 (by decide) slices_S4096x5632_S4096x2816_0_2816 (row 256 t.val p) j).trans (h.u _))
  unfold bB iblk
  rw [View.read_apply]
  refine congrArg (V m c main_v17) (funext fun a => Fin.ext ?_)
  match a with
  | ⟨0, _⟩ => show win0_1.index t 0 * 256 + 1 * p.val = (row 256 t.val p : Fin 4096).val; rw [(index t).2.1.1, row_lt]; omega
  | ⟨1, _⟩ => show win0_1.index t 1 * 2816 + 1 * j.val = j.val; rw [(index t).2.1.2]; omega

theorem wa_at (t : Fin cfg0.N) (j : Fin 2816) (k : Fin 1024) : bWa m c t (ix2 j k) = ((T.W k ⟨j.val, by omega⟩ : ℝ) : EReal) := by
  refine Eq.trans ?_ ((turned_at (m ((c : Thread nD τ).loc main_arg2)) ⟨j.val, by omega⟩ k).trans (h.w _))
  unfold bWa iblk
  rw [View.read_apply]
  refine (congrFun (found_w m c) _).trans (congrArg (vW (m ((c : Thread nD τ).loc main_arg2))) (funext fun a => Fin.ext ?_))
  match a with
  | ⟨0, _⟩ => show win0_2.index t 0 * 2816 + 1 * j.val = j.val; rw [(index t).2.2.1.1]; omega
  | ⟨1, _⟩ => show win0_2.index t 1 * 1024 + 1 * k.val = k.val; rw [(index t).2.2.1.2]; omega

theorem wb_at (t : Fin cfg0.N) (j : Fin 2816) (k : Fin 1024) : bWb m c t (ix2 j k) = ((T.W k ⟨2816 + j.val, by omega⟩ : ℝ) : EReal) := by
  refine Eq.trans ?_ ((turned_at (m ((c : Thread nD τ).loc main_arg2)) ⟨2816 + j.val, by omega⟩ k).trans (h.w _))
  unfold bWb iblk
  rw [View.read_apply]
  refine (congrFun (found_w m c) _).trans (congrArg (vW (m ((c : Thread nD τ).loc main_arg2))) (funext fun a => Fin.ext ?_))
  match a with
  | ⟨0, _⟩ => show win0_3.index t 0 * 2816 + 1 * j.val = 2816 + j.val; rw [(index t).2.2.2.1.1]; omega
  | ⟨1, _⟩ => show win0_3.index t 1 * 1024 + 1 * k.val = k.val; rw [(index t).2.2.2.1.2]; omega

theorem c_at (t : Fin cfg0.N) (p : Fin 256) (k : Fin 1024) : bC m c t (ix2 p k) = ((T.C (row 256 t.val p) k : ℝ) : EReal) := by
  refine Eq.trans ?_ (h.c (ix2 (row 256 t.val p) k))
  unfold bC iblk
  rw [View.read_apply]
  refine (congrFun (V_main_arg3 m c) _).trans (congrArg (m ((c : Thread nD τ).loc main_arg3)) (funext fun a => Fin.ext ?_))
  match a with
  | ⟨0, _⟩ => show win0_4.index t 0 * 256 + 1 * p.val = (row 256 t.val p : Fin 4096).val; rw [(index t).2.2.2.2.1.1, row_lt]; omega
  | ⟨1, _⟩ => show win0_4.index t 1 * 1024 + 1 * k.val = k.val; rw [(index t).2.2.2.2.1.2]; omega

open Cert.LayerNorm Cert.Words

theorem x_at (t : Fin cfg0.N) (p : Fin 256) (k : Fin 1024) : bX m c t (ix2 p k) = ((xh lnEps (T.Z (row 256 t.val p)) k : ℝ) : EReal) := by
  refine Eq.trans ?_ (xh_at h (row 256 t.val p) k)
  unfold bX iblk
  rw [View.read_apply]
  refine (congrFun (found_x m c) _).trans (congrArg (val_main_v23 (F := Ideal) (m ((c : Thread nD τ).loc main_arg0))) (funext fun a => Fin.ext ?_))
  match a with
  | ⟨0, _⟩ => show win0_5.index t 0 * 256 + 1 * p.val = (row 256 t.val p : Fin 4096).val; rw [(index t).2.2.2.2.2.1.1, row_lt]; omega
  | ⟨1, _⟩ => show win0_5.index t 1 * 1024 + 1 * k.val = k.val; rw [(index t).2.2.2.2.2.1.2]; omega

theorem r_at (t : Fin cfg0.N) (p : Fin 256) : bR m c t (ix2 p 0) = ((rs lnEps (T.Z (row 256 t.val p)) : ℝ) : EReal) := by
  refine Eq.trans ?_ (rs_at h (row 256 t.val p) 0)
  unfold bR iblk
  rw [View.read_apply]
  refine (congrFun (found_r m c) _).trans (congrArg (val_main_v18 (F := Ideal) (m ((c : Thread nD τ).loc main_arg0))) (funext fun a => Fin.ext ?_))
  match a with
  | ⟨0, _⟩ => show win0_6.index t 0 * 256 + 1 * p.val = (row 256 t.val p : Fin 4096).val; rw [(index t).2.2.2.2.2.2.1.1, row_lt]; omega
  | ⟨1, _⟩ => show win0_6.index t 1 * 1 + 1 * 0 = 0; rw [(index t).2.2.2.2.2.2.1.2]

theorem g_at (t : Fin cfg0.N) (k : Fin 1024) : bG m c t (ix2 0 k) = ((T.G k : ℝ) : EReal) := by
  refine Eq.trans ?_ ((At.toRow (m ((c : Thread nD τ).loc main_arg1)) shapeCasts_S1024_S1x1024 0 k).trans (h.g _))
  unfold bG iblk
  rw [View.read_apply]
  refine congrArg (V m c main_v22) (funext fun a => Fin.ext ?_)
  match a with
  | ⟨0, _⟩ => show win0_7.index t 0 * 1 + 1 * 0 = 0; rw [(index t).2.2.2.2.2.2.2.1]
  | ⟨1, _⟩ => show win0_7.index t 1 * 1024 + 1 * k.val = k.val; rw [(index t).2.2.2.2.2.2.2.2]; omega

/-! ## What the points leave -/

open Cert.Reals Payloads

theorem d_blk (t : Fin cfg0.N) (p : Fin 256) (k : Fin 1024) : ((dnAlpha : ℝ) : EReal) * bC m c t (ix2 p k)
    + ((∑ q : Fin 2816, bA m c t (ix2 p q) * bWa m c t (ix2 q k)) + ∑ q : Fin 2816, bB m c t (ix2 p q) * bWb m c t (ix2 q k))
      = ((T.d (row 256 t.val p) k : ℝ) : EReal) := by
  simp only [c_at h, a_at h, b_at h, wa_at h, wb_at h, ← EReal.coe_mul, sum_coe, ← EReal.coe_add]
  rw [T.d_halves]

theorem dz_blk (t : Fin cfg0.N) (p : Fin 256) (k : Fin 1024) : dz m c t (ix2 p k) = ((T.dz (row 256 t.val p) k : ℝ) : EReal) :=
  pay1 (Z := fun p => T.Z (row 256 t.val p)) (pay4 (d_blk h t)) (fun p k => by unfold k0_pay5; rw [shapeCast_self]; exact x_at h t p k) (r_at h t) (g_at h t) p k

theorem dg_blk (t : Fin cfg0.N) (o : Vec Ideal S1x1024 .f32) (k : Fin 1024) : dg m c t o (ix2 0 k)
    = o (ix2 0 k) + ((∑ p : Fin 256, T.d (row 256 t.val p) k * xh lnEps (T.Z (row 256 t.val p)) k : ℝ) : EReal) :=
  pay6 (Z := fun p => T.Z (row 256 t.val p)) (d_blk h t) (x_at h t) o k

theorem db_blk (t : Fin cfg0.N) (o : Vec Ideal S1x1024 .f32) (k : Fin 1024) : db m c t o (ix2 0 k)
    = o (ix2 0 k) + ((∑ p : Fin 256, T.d (row 256 t.val p) k : ℝ) : EReal) :=
  pay7 (d_blk h t) o k

open Finset

/-- The sums after each point. -/
theorem sums (k : Fin 1024) (n : ℕ) (hn : n < cfg0.N) :
    (outsAt0 m c n hn).2.1 (ix2 0 k) = ((∑ t ∈ range (n + 1), ∑ p : Fin 256, T.d (row 256 t p) k * xh lnEps (T.Z (row 256 t p)) k : ℝ) : EReal)
    ∧ (outsAt0 m c n hn).2.2 (ix2 0 k) = ((∑ t ∈ range (n + 1), ∑ p : Fin 256, T.d (row 256 t p) k : ℝ) : EReal) := by
  induction n with
  | zero =>
    have e := outs_A m c ⟨0, hn⟩ rfl
    dsimp only at e
    rw [e, show range (0 + 1) = {0} from rfl, sum_singleton, sum_singleton]
    exact ⟨(dg_blk h ⟨0, hn⟩ _ k).trans ((congrArg (· + _) Ideal.ofBits_zero_f32).trans (zero_add _)),
      (db_blk h ⟨0, hn⟩ _ k).trans ((congrArg (· + _) Ideal.ofBits_zero_f32).trans (zero_add _))⟩
  | succ n ih =>
    have hN : n + 1 < 16 := lt_of_lt_of_eq hn N_0
    have e := outs_B m c ⟨n + 1, hn⟩ (by dsimp only; omega)
    dsimp only at e
    obtain ⟨i1, i2⟩ := ih (Nat.lt_of_succ_lt hn)
    rw [e, sum_range_succ (n := n + 1), sum_range_succ (n := n + 1), EReal.coe_add, EReal.coe_add, ← i1, ← i2]
    exact ⟨dg_blk h ⟨n + 1, hn⟩ _ k, db_blk h ⟨n + 1, hn⟩ _ k⟩

end Cert.UpIdeal.Values

end
-- ==== Proof.Up.Final.lean ====
/-
  The kernel's run over the reals: each result array at its mathematics.
-/
module

public import proofs.«01_k».proof.Proof.Up.Values
public import proofs.«01_k».proof.Proof.Gen.UpIdeal.Value

@[expose] public section

noncomputable section

namespace Cert.UpIdeal.Final

open Cert.UpIdeal Cert.UpIdeal.Gen Cert.UpIdeal.Values Cert.Rows Cert.Up.Math Cert.UpRefIdeal.Reference
open Idealize.ShloMosaic Idealize.ShloMosaic.TcCoe Idealize.SL.Sem ValueIdx

variable (m : (ℓ : Loc nD τ sig) → Buf (Elt Ideal) ℓ) (c : Dev nD)

theorem index_out : ∀ t : Fin cfg0.N, (win0_8.index t 0 = t.val ∧ win0_8.index t 1 = 0) ∧ (win0_9.index t 0 = 0 ∧ win0_9.index t 1 = 0)
    ∧ win0_10.index t 0 = 0 ∧ win0_10.index t 1 = 0 :=
  (by decide +kernel : ∀ t : Fin grid0.N, (win0_8.index t 0 = t.val ∧ win0_8.index t 1 = 0) ∧ (win0_9.index t 0 = 0 ∧ win0_9.index t 1 = 0)
    ∧ win0_10.index t 0 = 0 ∧ win0_10.index t 1 = 0)

/-- The last point, which writes the sums back. -/
abbrev last : Fin cfg0.N := t0_15

/-- A row of the first result is the row its block was written with. -/
theorem at8 (t : Fin cfg0.N) (p : Fin 256) (k : Fin 1024) :
    ((dats m 0 c).arrAt 8 cfg0.N : Vec Ideal S4096x1024 .f32) (ix2 (row 256 t.val p) k) = (outsAt0 m c t.val t.isLt).1 (ix2 p k) := by
  have e := congrFun ((Value.blocks8 m c t (flush0_8 t)).trans (Value.flushed8 m c t)) (ix2 p k)
  rw [View.read_apply] at e
  refine Eq.trans (congrArg ((dats m 0 c).arrAt 8 cfg0.N) (funext fun a => Fin.ext ?_)) e
  match a with
  | ⟨0, _⟩ => show (row 256 t.val p : Fin 4096).val = win0_8.index t 0 * 256 + 1 * p.val; rw [(index_out t).1.1, row_lt]; omega
  | ⟨1, _⟩ => show k.val = win0_8.index t 1 * 1024 + 1 * k.val; rw [(index_out t).1.2]; omega

theorem once {t t' : Fin cfg0.N} (h : t.val + 1 = 16) (h' : t'.val + 1 = 16) : t = t' := Fin.ext (by omega)

theorem at9 (k : Fin 1024) : ((dats m 0 c).arrAt 9 cfg0.N : Vec Ideal S1x1024 .f32) (ix2 0 k) = (outsAt0 m c last.val last.isLt).2.1 (ix2 0 k) := by
  have e := congrFun (((dats m 0 c).read_blk_arrAt_eq_flushed 9 (fun t t' f f' hne => absurd (once (t := t) (t' := t') (by
    have h := (flush0_9 t).mp f
    have := lt_of_lt_of_eq t.isLt N_0
    omega) (by
    have h := (flush0_9 t').mp f'
    have := lt_of_lt_of_eq t'.isLt N_0
    omega)) hne) cfg0.N last last.isLt ((flush0_9 last).mpr rfl)).trans (Value.flushed9 m c last)) (ix2 0 k)
  rw [View.read_apply] at e
  refine Eq.trans (congrArg ((dats m 0 c).arrAt 9 cfg0.N) (funext fun a => Fin.ext ?_)) e
  match a with
  | ⟨0, _⟩ => show 0 = win0_9.index last 0 * 1 + 1 * 0; rw [(index_out last).2.1.1]
  | ⟨1, _⟩ => show k.val = win0_9.index last 1 * 1024 + 1 * k.val; rw [(index_out last).2.1.2]; omega

theorem at10 (k : Fin 1024) : ((dats m 0 c).arrAt 10 cfg0.N : Vec Ideal S1x1024 .f32) (ix2 0 k) = (outsAt0 m c last.val last.isLt).2.2 (ix2 0 k) := by
  have e := congrFun (((dats m 0 c).read_blk_arrAt_eq_flushed 10 (fun t t' f f' hne => absurd (once (t := t) (t' := t') (by
    have h := (flush0_10 t).mp f
    have := lt_of_lt_of_eq t.isLt N_0
    omega) (by
    have h := (flush0_10 t').mp f'
    have := lt_of_lt_of_eq t'.isLt N_0
    omega)) hne) cfg0.N last last.isLt ((flush0_10 last).mpr rfl)).trans (Value.flushed10 m c last)) (ix2 0 k)
  rw [View.read_apply] at e
  refine Eq.trans (congrArg ((dats m 0 c).arrAt 10 cfg0.N) (funext fun a => Fin.ext ?_)) e
  match a with
  | ⟨0, _⟩ => show 0 = win0_10.index last 0 * 1 + 1 * 0; rw [(index_out last).2.2.1]
  | ⟨1, _⟩ => show k.val = win0_10.index last 1 * 1024 + 1 * k.val; rw [(index_out last).2.2.2]; omega

/-! ## The results over the reals -/

variable {m c} {T : Args}
  (h : Are (m ((c : Thread nD τ).loc main_arg0)) (m ((c : Thread nD τ).loc main_arg1)) (m ((c : Thread nD τ).loc main_arg2))
    (m ((c : Thread nD τ).loc main_arg3)) (m ((c : Thread nD τ).loc main_arg4)) T)
include h

theorem dz_eq (r : Fin 4096) (k : Fin 1024) :
    ((dats m 0 c).arrAt 8 cfg0.N : Vec Ideal S4096x1024 .f32) (ix2 r k) = ((T.dz r k : ℝ) : EReal) := by
  have hr : r.val / 256 < cfg0.N := by rw [show cfg0.N = 16 from N_0]; omega
  have e : r = row 256 (⟨r.val / 256, hr⟩ : Fin cfg0.N).val (⟨r.val % 256, Nat.mod_lt _ (by omega)⟩ : Fin 256) :=
    Fin.ext (by rw [row_lt]; dsimp only; omega)
  generalize (⟨r.val / 256, hr⟩ : Fin cfg0.N) = t at e
  generalize (⟨r.val % 256, Nat.mod_lt _ (by omega)⟩ : Fin 256) = p at e
  subst e
  rw [at8]
  by_cases h0 : t.val % 16 = 0
  · rw [Block.outs_A m c t h0]
    exact dz_blk h t p k
  · rw [Block.outs_B m c t h0]
    exact dz_blk h t p k

theorem dg_eq (k : Fin 1024) : ((dats m 0 c).arrAt 9 cfg0.N : Vec Ideal S1x1024 .f32) (ix2 0 k) = ((T.dg k : ℝ) : EReal) := by
  rw [at9, (sums h k last.val last.isLt).1]
  exact congrArg (fun x : ℝ => (x : EReal)) (sum_rows 16 256 rfl fun r => T.d r k * LayerNorm.xh Words.lnEps (T.Z r) k)

theorem db_eq (k : Fin 1024) : ((dats m 0 c).arrAt 10 cfg0.N : Vec Ideal S1x1024 .f32) (ix2 0 k) = ((T.db k : ℝ) : EReal) := by
  rw [at10, (sums h k last.val last.isLt).2]
  exact congrArg (fun x : ℝ => (x : EReal)) (sum_rows 16 256 rfl fun r => T.d r k)

end Cert.UpIdeal.Final

end
-- ==== Proof.Up.Equation.lean ====
/-
  The two programs leave the same arrays when the arguments are finite.
-/
module

public import proofs.«01_k».proof.Defs
public import proofs.«01_k».proof.Proof.Up.Final
public import proofs.«01_k».proof.Proof.Gen.Pre_pre_up

@[expose] public section

noncomputable section

namespace Cert.Up.Equation

open Cert.Reals Cert.Up.Math Idealize.ShloMosaic Idealize.ShloMosaic.TcCoe Idealize.SL.Sem ValueIdx

variable {a0 a3 : FVec Ideal Pre_pre_up.S4096x1024 .f32} {a1 : FVec Ideal Pre_pre_up.S1024 .f32} {a2 : FVec Ideal Pre_pre_up.S1024x5632 .f32}
  {a4 : FVec Ideal Pre_pre_up.S4096x5632 .f32}

/-- The real parts of the arguments. -/
def args (a0 a3 : FVec Ideal Pre_pre_up.S4096x1024 .f32) (a1 : FVec Ideal Pre_pre_up.S1024 .f32) (a2 : FVec Ideal Pre_pre_up.S1024x5632 .f32)
    (a4 : FVec Ideal Pre_pre_up.S4096x5632 .f32) : Args where
  Z p q := re a0 (ix2 p q)
  G q := re a1 (ix1 q)
  W p q := re a2 (ix2 p q)
  C p q := re a3 (ix2 p q)
  U p q := re a4 (ix2 p q)

/-- Under the precondition each argument is its array of real parts. -/
theorem are [Pre_pre_up.Facts] (h : Pre_pre_up.fn (F := Ideal) a0 a1 a2 a3 a4 = fun _ => 1#1) :
    UpRefIdeal.Reference.Are a0 a1 a2 a3 a4 (args a0 a3 a1 a2 a4) := by
  have h' := congrFun h ix0
  unfold Pre_pre_up.fn Pre_pre_up.fn_part1 at h'
  dsimp only at h'
  obtain ⟨h', h4⟩ := andi_split h'
  obtain ⟨h', h3⟩ := andi_split h'
  obtain ⟨h', h2⟩ := andi_split h'
  obtain ⟨h0, h1⟩ := andi_split h'
  exact ⟨fun i => (coe_re _ _ _ _ _ _ _ h0 i).symm.trans (congrArg (fun j => ((re a0 j : ℝ) : EReal)) (eq_ix2 i)),
    fun i => (coe_re _ _ _ _ _ _ _ h1 i).symm.trans (congrArg (fun j => ((re a1 j : ℝ) : EReal)) (eq_ix1 i)),
    fun i => (coe_re _ _ _ _ _ _ _ h2 i).symm.trans (congrArg (fun j => ((re a2 j : ℝ) : EReal)) (eq_ix2 i)),
    fun i => (coe_re _ _ _ _ _ _ _ h3 i).symm.trans (congrArg (fun j => ((re a3 j : ℝ) : EReal)) (eq_ix2 i)),
    fun i => (coe_re _ _ _ _ _ _ _ h4 i).symm.trans (congrArg (fun j => ((re a4 j : ℝ) : EReal)) (eq_ix2 i))⟩

/-- The reference terminates, keeps its arguments, and has no semaphore. -/
theorem frame_ref : Cert.quiescent_UpRefIdeal := fun m ρ _ =>
  (θ_run UpRefIdeal.defs _ _).mono (fun r h => ⟨fun c => (h c).2.2.2, sem_eq_zero_of_no_sems (by decide) r.2⟩)
    (UpRefIdeal.Value.run (F := Ideal) m ρ)

/-- The product with the up weight and the first norm's gradient: kernel and reference agree. -/
theorem algebraic [Pre_pre_up.Facts] : Cert.algebraic_UpIdeal_UpRefIdeal_pre_pre_up := by
  intro m g m' g' hpre heq
  refine ⟨fun c => (UpIdeal.Gen.dats m 0 c).arrAt 8 UpIdeal.cfg0.N, fun c => (UpIdeal.Gen.dats m 0 c).arrAt 9 UpIdeal.cfg0.N,
    fun c => (UpIdeal.Gen.dats m 0 c).arrAt 10 UpIdeal.cfg0.N, UpIdeal.Value.run_blocks m g, ?_⟩
  refine (θ_run _ _ _).mono (fun r h c => ?_) (UpRefIdeal.Value.run m' g')
  obtain ⟨h0, h1, h2, hargs⟩ := h c
  obtain ⟨e0, e1, e2, e3, e4⟩ := heq c
  have hk := are (hpre c)
  refine ⟨h0.trans ?_, h1.trans ?_, h2.trans ?_, hargs⟩
  · rw [UpRefIdeal.Read.val_main_v69_eq, e0, e1, e2, e3, e4]
    refine funext fun i => ?_
    obtain ⟨p, k, rfl⟩ : ∃ (p : Fin 4096) (k : Fin 1024), i = ix2 p k := ⟨i 0, i 1, eq_ix2 i⟩
    exact (UpRefIdeal.Reference.dz_at hk p k).trans (UpIdeal.Final.dz_eq hk p k).symm
  · rw [UpRefIdeal.Read.val_main_v70_eq, e0, e2, e3, e4]
    refine funext fun i => ?_
    obtain ⟨k, rfl⟩ : ∃ k : Fin 1024, i = ix2 0 k := ⟨i 1, (eq_ix2 i).trans (congrArg (ix2 · _) (Fin.fin_one_eq_zero _))⟩
    exact (UpRefIdeal.Reference.dg_at hk k).trans (UpIdeal.Final.dg_eq hk k).symm
  · rw [UpRefIdeal.Read.val_main_v71_eq, e2, e3, e4]
    refine funext fun i => ?_
    obtain ⟨k, rfl⟩ : ∃ k : Fin 1024, i = ix2 0 k := ⟨i 1, (eq_ix2 i).trans (congrArg (ix2 · _) (Fin.fin_one_eq_zero _))⟩
    exact (UpRefIdeal.Reference.db_at hk k).trans (UpIdeal.Final.db_eq hk k).symm

end Cert.Up.Equation

end
-- ==== Proof.Heads.Tiles.lean ====
/-
  The words of one stored piece, read at the place of the block the piece holds.
-/
module

public import Idealize.ShloMosaic.Lib.Pipeline.ValueKit.Tiles
public import proofs.«01_k».proof.Proof.Base.At

@[expose] public section

noncomputable section

namespace Cert.HeadTiles

open Idealize.ShloMosaic ValueIdx

/-- The column `e` of head `hd` among all columns. -/
abbrev headCol (hd : Fin 8) (e : Fin 64) : Fin 512 := ⟨64 * hd.val + e.val, by omega⟩

/-- The row `q` of residue `r` among the rows of a block. -/
abbrev resRow {D n : ℕ} (h : D * n = 512) (r : Fin D) (q : Fin n) : Fin 512 :=
  ⟨D * q.val + r.val, by have := Nat.mul_le_mul_left D q.isLt; rw [Nat.mul_succ, h] at this; have := r.isLt; omega⟩

/-- A head's part: 64 columns from the `o`-th on. -/
theorem headTile (A : (⟨2, ![512, 512]⟩ : Shape).Idx → EReal) {h o : ℕ} (ho : o = 64 * h)
    (hs : Shape.Slices ⟨2, ![512, 512]⟩ ![0, o] ⟨2, ![512, 64]⟩) (hc : Shape.ShapeCasts ⟨2, ![512, 64]⟩ ⟨3, ![1, 512, 64]⟩)
    (hd : Fin 8) (p : Fin 512) (e : Fin 64) (x : (⟨3, ![1, 512, 64]⟩ : Shape).Idx)
    (hx : ∀ a : Fin 3, (ix3 hd p e a : ℕ) = (![h, 0, 0] : Fin 3 → ℕ) a + x a) :
    shapeCast ⟨3, ![1, 512, 64]⟩ (extractStridedSlice ⟨2, ![512, 64]⟩ ![0, o] A hs) hc x = A (ix2 p (headCol hd e)) := by
  have h0 : hd.val = h + (x 0).val := hx 0
  have h1 : p.val = 0 + (x 1).val := hx 1
  have h2 : e.val = 0 + (x 2).val := hx 2
  have hz : (x 0).val < 1 := (x 0).isLt
  refine (shapeCast_apply _ hc _ (ix2 p e) ?_).trans (congrArg A (funext fun a => Fin.ext ?_))
  · rw [Shape.rowMajor_val_two, Shape.rowMajor_val_three]
    show p.val * 64 + e.val = ((x 0).val * 512 + (x 1).val) * 64 + (x 2).val
    omega
  · match a with
    | ⟨0, _⟩ => exact Nat.zero_add _
    | ⟨1, _⟩ => show o + e.val = 64 * hd.val + e.val; omega

/-- A head's sums of its columns. -/
theorem sumTile (A : FVec Ideal ⟨2, ![512, 512]⟩ .f32) {h j o : ℕ} (hd : Fin 8) (ho : j = h + hd.val → o = 64 * hd.val)
    (hs : Shape.Slices ⟨2, ![512, 512]⟩ ![0, o] ⟨2, ![512, 64]⟩) (hr : Shape.Reduces ⟨2, ![512, 64]⟩ [1] ⟨1, ![512]⟩)
    (hφ : FKind.Formats .f32) (ha : At.Zero) (hc : Shape.ShapeCasts ⟨1, ![512]⟩ ⟨2, ![512, 1]⟩)
    (p : Fin 512) (k : Fin 16) (hk : k.val = h + hd.val) (x : (⟨2, ![512, 1]⟩ : Shape).Idx)
    (hx : ∀ a : Fin 2, (ix2 p k a : ℕ) = (![0, j] : Fin 2 → ℕ) a + x a) :
    shapeCast ⟨2, ![512, 1]⟩ (multiReduction .add [1] ⟨1, ![512]⟩ (extractStridedSlice ⟨2, ![512, 64]⟩ ![0, o] A hs) 0x00000000#32 hr hφ ha) hc x
      = ∑ e : Fin 64, A (ix2 p (headCol hd e)) := by
  have h0 : p.val = 0 + (x 0).val := hx 0
  have h1 : k.val = j + (x 1).val := hx 1
  have hz : (x 1).val < 1 := (x 1).isLt
  have ho := ho (by omega)
  obtain rfl : x = ix2 p 0 := funext fun a => Fin.ext (by
    match a with
    | ⟨0, _⟩ => show (x 0).val = p.val; omega
    | ⟨1, _⟩ => show (x 1).val = 0; omega)
  rw [At.toCol, At.sumRow]
  refine Finset.sum_congr rfl fun e _ => congrArg A (funext fun a => Fin.ext ?_)
  match a with
  | ⟨0, _⟩ => exact Nat.zero_add _
  | ⟨1, _⟩ => show o + e.val = 64 * hd.val + e.val; omega

/-- A piece that does not hold the column. -/
theorem noTile {α : Type} (w : (⟨2, ![512, 1]⟩ : Shape).Idx → α) (v : α) {j : ℕ} (p : Fin 512) (k : Fin 16) (hk : k.val ≠ j)
    (x : (⟨2, ![512, 1]⟩ : Shape).Idx) (hx : ∀ a : Fin 2, (ix2 p k a : ℕ) = (![0, j] : Fin 2 → ℕ) a + x a) : w x = v := by
  have h1 : k.val = j + (x 1).val := hx 1
  have hz : (x 1).val < 1 := (x 1).isLt
  omega

/-- The rows of one residue. -/
theorem resTile {D n : ℕ} (hn : D * n = 512) (G : (⟨3, ![8, 512, 64]⟩ : Shape).Idx → EReal) {k : ℕ}
    (inb : ∀ a, (![8, n, 64] : Fin 3 → ℕ) a = 0 ∨ (![0, k, 0] : Fin 3 → ℕ) a + (![1, D, 1] : Fin 3 → ℕ) a * ((![8, n, 64] : Fin 3 → ℕ) a - 1) < (⟨3, ![8, 512, 64]⟩ : Shape).size a)
    (h1 : Shape.ShapeCasts ⟨3, ![8, n, 64]⟩ ⟨3, ![8, n, 64]⟩) (h2 : Shape.ShapeCasts ⟨3, ![8, n, 64]⟩ ⟨4, ![8, 1, n, 64]⟩)
    (hd : Fin 8) (r : Fin D) (q : Fin n) (e : Fin 64) (x : (⟨4, ![8, 1, n, 64]⟩ : Shape).Idx)
    (hx : ∀ a : Fin 4, (ix4 hd r q e a : ℕ) = (![0, k, 0, 0] : Fin 4 → ℕ) a + x a) :
    shapeCast ⟨4, ![8, 1, n, 64]⟩ (shapeCast ⟨3, ![8, n, 64]⟩
      (fun j => G (({ off := ![0, k, 0], size := ![8, n, 64], stride := ![1, D, 1], inb := inb } : LoadRect ⟨3, ![8, 512, 64]⟩).idx j)) h1) h2 x
      = G (ix3 hd (resRow hn r q) e) := by
  have h0 : hd.val = 0 + (x 0).val := hx 0
  have h1 : r.val = k + (x 1).val := hx 1
  have h2 : q.val = 0 + (x 2).val := hx 2
  have h3 : e.val = 0 + (x 3).val := hx 3
  have hz : (x 1).val < 1 := (x 1).isLt
  have z1 : (x 1).val = 0 := by omega
  rw [shapeCast_self]
  refine (shapeCast_apply _ _ _ (ix3 hd q e) ?_).trans (congrArg G (funext fun a => Fin.ext ?_))
  · rw [Shape.rowMajor_val_three, Shape.rowMajor_val_four]
    show (hd.val * n + q.val) * 64 + e.val = (((x 0).val * 1 + (x 1).val) * n + (x 2).val) * 64 + (x 3).val
    rw [z1, h0, h2, h3]
    simp only [Nat.zero_add, Nat.mul_one, Nat.add_zero]
  · match a with
    | ⟨0, _⟩ => show 0 + 1 * hd.val = hd.val; omega
    | ⟨1, _⟩ => show k + D * q.val = D * q.val + r.val; omega
    | ⟨2, _⟩ => show 0 + 1 * e.val = e.val; omega

end Cert.HeadTiles

end
-- ==== Proof.Heads.Block.lean ====
/-
  What one point of the grid leaves in its five output blocks, as entries of its two products: the heads' parts put first,
  the heads' sums of products, and the rows put in order of their residues.
-/
module

public import proofs.«01_k».proof.Proof.Gen.HeadsIdeal.Value
public import proofs.«01_k».proof.Proof.Heads.Tiles

@[expose] public section

noncomputable section

namespace Cert.HeadsIdeal.Block

open Cert.HeadsIdeal Cert.HeadsIdeal.Gen Cert.HeadTiles Idealize.ShloMosaic Idealize.ShloMosaic.TcCoe Idealize.SL.Sem ValueIdx

variable (m : (ℓ : Loc nD τ sig) → Buf (Elt Ideal) ℓ) (c : Dev nD)

abbrev bZ (t : Fin cfg0.N) : Vec Ideal S512x1024 .f32 := iblk m c 0 t
abbrev bW (t : Fin cfg0.N) : Vec Ideal S1024x1024 .bf16 := iblk m c 1 t
abbrev bM (t : Fin cfg0.N) : Vec Ideal S512x512 .f32 := iblk m c 2 t
abbrev bD (t : Fin cfg0.N) : Vec Ideal S512x512 .f32 := iblk m c 3 t

/-- The first product: the gradient of the latent heads' output. -/
abbrev dM (t : Fin cfg0.N) : FVec Ideal S512x512 .f32 :=
  k0_pay3 (bZ m c t) (View.ld (bW m c t) (Rect.unit (s := S1024x1024) ![0, 0] ![1024, 512] inb_S1024x1024_S1024x512_0_0))

/-- The second product: the gradient of the dilated heads' output. -/
abbrev dD (t : Fin cfg0.N) : FVec Ideal S512x512 .f32 :=
  k0_pay23 (k0_pay2 (bZ m c t)) (View.ld (bW m c t) (Rect.unit (s := S1024x1024) ![0, 512] ![1024, 512] inb_S1024x1024_S1024x512_0_512))

theorem hz : (![0, 0] : Fin 2 → Nat) = fun _ => 0 := funext fun a => by fin_cases a <;> rfl

set_option maxRecDepth 16384 in
theorem out4 (t : Fin cfg0.N) (hd : Fin 8) (p : Fin 512) (e : Fin 64) : (outsAt0 m c t).1 (ix3 hd p e) = dM m c t (ix2 p (headCol hd e)) := by
  unfold outsAt0
  dsimp only
  unfold out0_A_4
  rw [View.read_writes_eq_canon _ _ _ fun q => cover0_A_4 (y := q) ..]
  refine View.canon_eq_of_allAt _ _ _ (cover0_A_4 (y := ix3 hd p e) ..) ?_
  unfold kernelRun0_A
  dsimp only
  sl_unfold_words
  simp only [View.readAt_eq_ld, (hs0_0 t).read_unread, (hs0_1 t).read_unread, (hs0_2 t).read_unread, (hs0_3 t).read_unread,
    View.ld_unit_zero (S := S512x1024) hz, View.ld_unit_zero (S := S512x512) hz]
  repeat' refine View.allAt_cons_unit _ _ _ _ _ (fun x hx => ?_) ?_
  all_goals first
    | exact View.allAt_nil _ _
    | exact headTile (dM m c t) (by norm_num) (by decide) (by decide) hd p e x hx

set_option maxRecDepth 16384 in
theorem out6 (t : Fin cfg0.N) (hd : Fin 8) (p : Fin 512) (e : Fin 64) : (outsAt0 m c t).2.2.1 (ix3 hd p e) = dD m c t (ix2 p (headCol hd e)) := by
  unfold outsAt0
  dsimp only
  unfold out0_A_6
  rw [View.read_writes_eq_canon _ _ _ fun q => cover0_A_6 (y := q) ..]
  refine View.canon_eq_of_allAt _ _ _ (cover0_A_6 (y := ix3 hd p e) ..) ?_
  unfold kernelRun0_A
  dsimp only
  sl_unfold_words
  simp only [View.readAt_eq_ld, (hs0_0 t).read_unread, (hs0_1 t).read_unread, (hs0_2 t).read_unread, (hs0_3 t).read_unread,
    View.ld_unit_zero (S := S512x1024) hz, View.ld_unit_zero (S := S512x512) hz]
  repeat' refine View.allAt_cons_unit _ _ _ _ _ (fun x hx => ?_) ?_
  all_goals first
    | exact View.allAt_nil _ _
    | exact headTile (dD m c t) (by norm_num) (by decide) (by decide) hd p e x hx

set_option maxRecDepth 16384 in
theorem out5a (t : Fin cfg0.N) (p : Fin 512) (hd : Fin 8) : (outsAt0 m c t).2.1 (ix2 p ⟨hd.val, by omega⟩)
    = ∑ e : Fin 64, dM m c t (ix2 p (headCol hd e)) * bM m c t (ix2 p (headCol hd e)) := by
  unfold outsAt0
  dsimp only
  unfold out0_A_5
  rw [View.read_writes_eq_canon _ _ _ fun q => cover0_A_5 (y := q) ..]
  refine View.canon_eq_of_allAt _ _ _ (cover0_A_5 (y := ix2 p ⟨hd.val, by omega⟩) ..) ?_
  unfold kernelRun0_A
  dsimp only
  sl_unfold_words
  simp only [View.readAt_eq_ld, (hs0_0 t).read_unread, (hs0_1 t).read_unread, (hs0_2 t).read_unread, (hs0_3 t).read_unread,
    View.ld_unit_zero (S := S512x1024) hz, View.ld_unit_zero (S := S512x512) hz]
  repeat' refine View.allAt_cons_unit _ _ _ _ _ (fun x hx => ?_) ?_
  all_goals first
    | exact View.allAt_nil _ _
    | exact noTile _ _ p _ (by dsimp only; omega) x hx
    | exact sumTile (mulf (F := Ideal) (dM m c t) (bM m c t)) (h := 0) hd (by omega) (by decide) (by decide) (.inl rfl) rfl (by decide) p _ (Nat.zero_add _).symm x hx

set_option maxRecDepth 16384 in
theorem out5b (t : Fin cfg0.N) (p : Fin 512) (hd : Fin 8) : (outsAt0 m c t).2.1 (ix2 p ⟨8 + hd.val, by omega⟩)
    = ∑ e : Fin 64, dD m c t (ix2 p (headCol hd e)) * bD m c t (ix2 p (headCol hd e)) := by
  unfold outsAt0
  dsimp only
  unfold out0_A_5
  rw [View.read_writes_eq_canon _ _ _ fun q => cover0_A_5 (y := q) ..]
  refine View.canon_eq_of_allAt _ _ _ (cover0_A_5 (y := ix2 p ⟨8 + hd.val, by omega⟩) ..) ?_
  unfold kernelRun0_A
  dsimp only
  sl_unfold_words
  simp only [View.readAt_eq_ld, (hs0_0 t).read_unread, (hs0_1 t).read_unread, (hs0_2 t).read_unread, (hs0_3 t).read_unread,
    View.ld_unit_zero (S := S512x1024) hz, View.ld_unit_zero (S := S512x512) hz]
  repeat' refine View.allAt_cons_unit _ _ _ _ _ (fun x hx => ?_) ?_
  all_goals first
    | exact View.allAt_nil _ _
    | exact noTile _ _ p _ (by dsimp only; omega) x hx
    | exact sumTile (mulf (F := Ideal) (dD m c t) (bD m c t)) (h := 8) hd (by omega) (by decide) (by decide) (.inl rfl) rfl (by decide) p _ rfl x hx

set_option maxRecDepth 16384 in
theorem out7 (t : Fin cfg0.N) (hd : Fin 8) (r : Fin 4) (q : Fin 128) (e : Fin 64) :
    (outsAt0 m c t).2.2.2.1 (ix4 hd r q e) = dD m c t (ix2 (resRow (D := 4) (n := 128) rfl r q) (headCol hd e)) := by
  refine Eq.trans ?_ (out6 m c t hd (resRow (D := 4) (n := 128) rfl r q) e)
  unfold outsAt0
  dsimp only
  unfold out0_A_6 out0_A_7
  rw [View.read_writes_eq_canon _ _ _ fun q => cover0_A_6 (y := q) .., View.read_writes_eq_canon _ _ _ fun q => cover0_A_7 (y := q) ..]
  unfold kernelRun0_A
  dsimp only
  sl_unfold_words
  simp only [View.readCov_eq_canon', k0_pay42, k0_pay43]
  generalize View.canon (Val := Elt Ideal) (s := S8x512x64) (e := .f32) _ = G
  refine View.canon_eq_of_allAt _ _ _ (View.cover_of_tiledL (s := S8x4x128x64) _ S8x1x128x64.size (by sl_kernel_rfl) _) ?_
  repeat' refine View.allAt_cons_unit _ _ _ _ _ (fun x hx => ?_) ?_
  all_goals first
    | exact View.allAt_nil _ _
    | exact resTile rfl G (by decide) (by decide) (by decide) hd r q e x hx

set_option maxRecDepth 16384 in
theorem out8 (t : Fin cfg0.N) (hd : Fin 8) (r : Fin 16) (q : Fin 32) (e : Fin 64) :
    (outsAt0 m c t).2.2.2.2 (ix4 hd r q e) = dD m c t (ix2 (resRow (D := 16) (n := 32) rfl r q) (headCol hd e)) := by
  refine Eq.trans ?_ (out6 m c t hd (resRow (D := 16) (n := 32) rfl r q) e)
  unfold outsAt0
  dsimp only
  unfold out0_A_6 out0_A_8
  rw [View.read_writes_eq_canon _ _ _ fun q => cover0_A_6 (y := q) .., View.read_writes_eq_canon _ _ _ fun q => cover0_A_8 (y := q) ..]
  unfold kernelRun0_A
  dsimp only
  sl_unfold_words
  simp only [View.readCov_eq_canon', k0_pay48, k0_pay49, k0_pay58, k0_pay59]
  generalize View.canon (Val := Elt Ideal) (s := S8x512x64) (e := .f32) _ = G
  refine View.canon_eq_of_allAt _ _ _ (View.cover_of_tiledL (s := S8x16x32x64) _ S8x1x32x64.size (by sl_kernel_rfl) _) ?_
  repeat' refine View.allAt_cons_unit _ _ _ _ _ (fun x hx => ?_) ?_
  all_goals first
    | exact View.allAt_nil _ _
    | exact resTile rfl G (by decide) (by decide) (by decide) hd r q e x hx

end Cert.HeadsIdeal.Block

end
-- ==== Proof.Heads.Reference.lean ====
/-
  What the reference leaves: entries of one product, cut into heads and residues, and the heads' sums of products.
-/
module

public import proofs.«01_k».proof.Proof.Heads.Tiles
public import proofs.«01_k».proof.Proof.Gen.HeadsRefIdeal.Read

@[expose] public section

noncomputable section

namespace Cert.HeadsRefIdeal.Reference

open Cert.HeadsRefIdeal Cert.HeadsRefIdeal.Read Cert.HeadTiles Idealize.ShloMosaic Idealize.ShloMosaic.TcCoe ValueIdx

/-- An entry of the product with the output weight on its side. -/
def prod (x0 : FVec Ideal S4096x1024 .f32) (x1 : FVec Ideal S1024x1024 .f32) (r : Fin 4096) (j : Fin 1024) : EReal :=
  ∑ k : Fin 1024, x0 (ix2 r k) * x1 (ix2 j k)

/-- A column of the first half. -/
abbrev lo (j : Fin 512) : Fin 1024 := ⟨j.val, by omega⟩

/-- A column of the second half. -/
abbrev hi (j : Fin 512) : Fin 1024 := ⟨512 + j.val, by omega⟩

variable (x0 : FVec Ideal S4096x1024 .f32) (x1 : FVec Ideal S1024x1024 .f32) (x2 x3 : FVec Ideal S4096x512 .f32)

theorem prod_at (i : S4096x1024.Idx) : val_main_v2 (F := Ideal) x0 x1 i = prod x0 x1 (i 0) (i 1) := by
  rw [val_main_v2_apply]
  exact Finset.sum_congr rfl fun k _ => congrArg₂ (fun a b => x0 a * x1 b) (ValueIdx.eq_ix2 _) (ValueIdx.eq_ix2 _)

theorem lo_at (i : S4096x512.Idx) (r : Fin 4096) (j : Fin 512) (h0 : (i 0).val = r.val) (h1 : (i 1).val = j.val) :
    val_main_v3 (F := Ideal) x0 x1 i = prod x0 x1 r (lo j) := by
  rw [val_main_v3_apply, prod_at]
  exact congrArg₂ (prod x0 x1) (Fin.ext h0) (Fin.ext h1)

theorem hi_at (i : S4096x512.Idx) (r : Fin 4096) (j : Fin 512) (h0 : (i 0).val = r.val) (h1 : (i 1).val = j.val) :
    val_main_v4 (F := Ideal) x0 x1 i = prod x0 x1 r (hi j) := by
  rw [val_main_v4_apply, prod_at]
  exact congrArg₂ (prod x0 x1) (Fin.ext h0) (Fin.ext (congrArg (512 + ·) h1))

theorem idx7 (hd : Fin 8) (s : Fin 4096) (e : Fin 64) : idx_main_v7 (ix3 hd s e) = ix4 hd 0 s e := funext fun a => Fin.ext (by
  match a with
  | ⟨0, _⟩ => dsimp [ix3, ix4]; omega
  | ⟨1, _⟩ => rfl
  | ⟨2, _⟩ => dsimp [ix3, ix4]; omega
  | ⟨3, _⟩ => dsimp [ix3, ix4]; omega)

theorem v8_at (hd : Fin 8) (s : Fin 4096) (e : Fin 64) : val_main_v8 (F := Ideal) x0 x1 (ix3 hd s e) = prod x0 x1 s (lo (headCol hd e)) := by
  rw [val_main_v8_apply]
  show val_main_v7 (F := Ideal) x0 x1 (ix3 hd s e) = _
  rw [val_main_v7_apply, idx7, val_main_v6_apply, val_main_v5_apply]
  refine lo_at x0 x1 _ _ _ ?_ ?_
  · dsimp [ix4]; omega
  · dsimp [ix4]; omega

theorem idx18 (hd : Fin 8) (s : Fin 4096) (e : Fin 64) : idx_main_v18 (ix3 hd s e) = ix4 hd 0 s e := funext fun a => Fin.ext (by
  match a with
  | ⟨0, _⟩ => dsimp [ix3, ix4]; omega
  | ⟨1, _⟩ => rfl
  | ⟨2, _⟩ => dsimp [ix3, ix4]; omega
  | ⟨3, _⟩ => dsimp [ix3, ix4]; omega)

theorem v18_at (hd : Fin 8) (s : Fin 4096) (e : Fin 64) : val_main_v18 (F := Ideal) x0 x1 (ix3 hd s e) = prod x0 x1 s (hi (headCol hd e)) := by
  rw [val_main_v18_apply, idx18, val_main_v17_apply, val_main_v16_apply]
  refine hi_at x0 x1 _ _ _ ?_ ?_
  · dsimp [ix4]; omega
  · dsimp [ix4]; omega

theorem v20_at (hd : Fin 8) (r : Fin 4) (q : Fin 1024) (e : Fin 64) :
    val_main_v20 (F := Ideal) x0 x1 (ix4 hd r q e) = prod x0 x1 ⟨4 * q.val + r.val, by omega⟩ (hi (headCol hd e)) := by
  rw [val_main_v20_apply, val_main_v19_apply]
  refine hi_at x0 x1 _ _ _ ?_ ?_
  · dsimp [ix4]; omega
  · dsimp [ix4]; omega

theorem v22_at (hd : Fin 8) (r : Fin 16) (q : Fin 256) (e : Fin 64) :
    val_main_v22 (F := Ideal) x0 x1 (ix4 hd r q e) = prod x0 x1 ⟨16 * q.val + r.val, by omega⟩ (hi (headCol hd e)) := by
  rw [val_main_v22_apply, val_main_v21_apply]
  refine hi_at x0 x1 _ _ _ ?_ ?_
  · dsimp [ix4]; omega
  · dsimp [ix4]; omega

theorem v11_at (s : Fin 4096) (hd : Fin 8) : val_main_v11 (F := Ideal) x0 x1 x2 (ix2 s hd)
    = ∑ e : Fin 64, prod x0 x1 s (lo (headCol hd e)) * x2 (ix2 s (headCol hd e)) := by
  rw [val_main_v11_apply, val_main_cst_apply, show (FloatOps.ofBits .f32 0x00000000#32 : Ideal .f32) = _ from Ideal.ofBits_zero_f32, zero_add]
  refine Finset.sum_congr rfl fun e _ => ?_
  have h0 : (idx_main_v10 (idx_main_v11 (ix2 s hd) e) 0).val = s.val := by dsimp [ix2]; omega
  have h1 : (idx_main_v10 (idx_main_v11 (ix2 s hd) e) 1).val = (headCol hd e).val := by dsimp [ix2]; omega
  rw [val_main_v10_apply, val_main_v9_apply, lo_at x0 x1 _ s (headCol hd e) h0 h1,
    show idx_main_v10 (idx_main_v11 (ix2 s hd) e) = ix2 s (headCol hd e) from
      (ValueIdx.eq_ix2 _).trans (congrArg₂ ix2 (Fin.ext h0) (Fin.ext h1))]
  rfl

theorem v14_at (s : Fin 4096) (hd : Fin 8) : val_main_v14 (F := Ideal) x0 x1 x3 (ix2 s hd)
    = ∑ e : Fin 64, prod x0 x1 s (hi (headCol hd e)) * x3 (ix2 s (headCol hd e)) := by
  rw [val_main_v14_apply, val_main_cst_0_apply, show (FloatOps.ofBits .f32 0x00000000#32 : Ideal .f32) = _ from Ideal.ofBits_zero_f32, zero_add]
  refine Finset.sum_congr rfl fun e _ => ?_
  have h0 : (idx_main_v13 (idx_main_v14 (ix2 s hd) e) 0).val = s.val := by dsimp [ix2]; omega
  have h1 : (idx_main_v13 (idx_main_v14 (ix2 s hd) e) 1).val = (headCol hd e).val := by dsimp [ix2]; omega
  rw [val_main_v13_apply, val_main_v12_apply, hi_at x0 x1 _ s (headCol hd e) h0 h1,
    show idx_main_v13 (idx_main_v14 (ix2 s hd) e) = ix2 s (headCol hd e) from
      (ValueIdx.eq_ix2 _).trans (congrArg₂ ix2 (Fin.ext h0) (Fin.ext h1))]
  rfl

theorem v15_lo (s : Fin 4096) (hd : Fin 8) : val_main_v15 (F := Ideal) x0 x1 x2 x3 (ix2 s ⟨hd.val, by omega⟩)
    = ∑ e : Fin 64, prod x0 x1 s (lo (headCol hd e)) * x2 (ix2 s (headCol hd e)) := by
  refine Eq.trans ?_ (v11_at x0 x1 x2 s hd)
  unfold val_main_v15
  refine concatenate_pair_apply_left (t := S4096x16) (s₁ := S4096x8) (s₂ := S4096x8) (1 : Fin 2) _ _ _ _ rfl _ fun b => ?_
  match b with
  | ⟨0, _⟩ => rfl
  | ⟨1, _⟩ => rfl

theorem v15_hi (s : Fin 4096) (hd : Fin 8) : val_main_v15 (F := Ideal) x0 x1 x2 x3 (ix2 s ⟨8 + hd.val, by omega⟩)
    = ∑ e : Fin 64, prod x0 x1 s (hi (headCol hd e)) * x3 (ix2 s (headCol hd e)) := by
  refine Eq.trans ?_ (v14_at x0 x1 x3 s hd)
  unfold val_main_v15
  refine concatenate_pair_apply_right (t := S4096x16) (s₁ := S4096x8) (s₂ := S4096x8) (1 : Fin 2) _ _ _ _ rfl rfl _ (fun b hb => ?_) ?_
  rotate_left
  · exact Nat.add_comm _ _
  · match b with
    | ⟨0, _⟩ => rfl
    | ⟨1, _⟩ => exact absurd rfl hb

end Cert.HeadsRefIdeal.Reference

end
-- ==== Proof.Heads.Final.lean ====
/-
  The arrays the kernel leaves, over the reals: each entry an entry of the product, or a head's sum of products.
-/
module

public import proofs.«01_k».proof.Proof.Heads.Block
public import proofs.«01_k».proof.Proof.Heads.Reference
public import proofs.«01_k».proof.Proof.Base.Rows

@[expose] public section

noncomputable section

namespace Cert.HeadsIdeal.Final

open Cert.HeadsIdeal Cert.HeadsIdeal.Gen Cert.HeadsIdeal.Block Cert.HeadTiles Cert.Rows
open Cert.HeadsRefIdeal.Reference (prod lo hi)
open Idealize.ShloMosaic Idealize.ShloMosaic.TcCoe Idealize.SL.Sem ValueIdx

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 0 = t.val ∧ win0_3.index t 1 = 0)

theorem index_out : ∀ t : Fin cfg0.N, (win0_4.index t 0 = 0 ∧ win0_4.index t 1 = t.val ∧ win0_4.index t 2 = 0)
    ∧ (win0_5.index t 0 = t.val ∧ win0_5.index t 1 = 0) ∧ (win0_6.index t 0 = 0 ∧ win0_6.index t 1 = t.val ∧ win0_6.index t 2 = 0)
    ∧ (win0_7.index t 0 = 0 ∧ win0_7.index t 1 = 0 ∧ win0_7.index t 2 = t.val ∧ win0_7.index t 3 = 0)
    ∧ win0_8.index t 0 = 0 ∧ win0_8.index t 1 = 0 ∧ win0_8.index t 2 = t.val ∧ win0_8.index t 3 = 0 :=
  (by decide +kernel : ∀ t : Fin grid0.N, (win0_4.index t 0 = 0 ∧ win0_4.index t 1 = t.val ∧ win0_4.index t 2 = 0)
    ∧ (win0_5.index t 0 = t.val ∧ win0_5.index t 1 = 0) ∧ (win0_6.index t 0 = 0 ∧ win0_6.index t 1 = t.val ∧ win0_6.index t 2 = 0)
    ∧ (win0_7.index t 0 = 0 ∧ win0_7.index t 1 = 0 ∧ win0_7.index t 2 = t.val ∧ win0_7.index t 3 = 0)
    ∧ win0_8.index t 0 = 0 ∧ win0_8.index t 1 = 0 ∧ win0_8.index t 2 = t.val ∧ win0_8.index t 3 = 0)

theorem N_8 (t : Fin cfg0.N) : t.val < 8 := lt_of_lt_of_eq t.isLt (by decide)

theorem row_lt (t : Fin cfg0.N) (p : Fin 512) : (row 512 t.val p : Fin 4096).val = 512 * t.val + p.val :=
  row_val p 8 rfl (N_8 t)

/-! ## The blocks read -/

abbrev a0 : FVec Ideal S4096x1024 .f32 := m ((c : Thread nD τ).loc main_arg0)
abbrev a1 : FVec Ideal S1024x1024 .f32 := m ((c : Thread nD τ).loc main_arg1)
abbrev a2 : FVec Ideal S4096x512 .f32 := m ((c : Thread nD τ).loc main_arg2)
abbrev a3 : FVec Ideal S4096x512 .f32 := m ((c : Thread nD τ).loc main_arg3)

theorem z_at (t : Fin cfg0.N) (p : Fin 512) (k : Fin 1024) : bZ m c t (ix2 p k) = a0 m c (ix2 (row 512 t.val p) k) := by
  unfold bZ iblk
  rw [View.read_apply]
  refine (congrFun (V_main_arg0 m c) _).trans (congrArg (a0 m c) (funext fun a => Fin.ext ?_))
  match a with
  | ⟨0, _⟩ => show win0_0.index t 0 * 512 + 1 * p.val = (row 512 t.val p : Fin 4096).val; rw [(index t).1.1, row_lt]; omega
  | ⟨1, _⟩ => show win0_0.index t 1 * 1024 + 1 * k.val = k.val; rw [(index t).1.2]; omega

/-- The weight, on its side. -/
def vW (x : FVec Ideal S1024x1024 .f32) : FVec Ideal S1024x1024 .bf16 :=
  transpose S1024x1024 [1, 0] (truncf .bf16 x bitsLt_bf16_f32) transposes_S1024x1024_S1024x1024_1_0

theorem turned_at (x : FVec Ideal S1024x1024 .f32) (k j : Fin 1024) : vW x (ix2 k j) = x (ix2 j k) :=
  transpose_apply [1, 0] (truncf .bf16 x bitsLt_bf16_f32) transposes_S1024x1024_S1024x1024_1_0 (ix2 k j) (ix2 j k) (fun b => match b with
    | ⟨0, _⟩ => rfl
    | ⟨1, _⟩ => rfl)

theorem found_w : V m c main_v1 = vW (a1 m c) := rfl

theorem w_at (t : Fin cfg0.N) (k j : Fin 1024) : bW m c t (ix2 k j) = a1 m c (ix2 j k) := by
  refine Eq.trans ?_ (turned_at (a1 m c) k j)
  unfold bW iblk
  rw [View.read_apply]
  refine (congrFun (found_w m c) _).trans (congrArg (vW (a1 m c)) (funext fun a => Fin.ext ?_))
  match a with
  | ⟨0, _⟩ => show win0_1.index t 0 * 1024 + 1 * k.val = k.val; rw [(index t).2.1.1]; omega
  | ⟨1, _⟩ => show win0_1.index t 1 * 1024 + 1 * j.val = j.val; rw [(index t).2.1.2]; omega

theorem m_at (t : Fin cfg0.N) (p j : Fin 512) : bM m c t (ix2 p j) = a2 m c (ix2 (row 512 t.val p) j) := by
  unfold bM iblk
  rw [View.read_apply]
  refine (congrFun (V_main_arg2 m c) _).trans (congrArg (a2 m c) (funext fun a => Fin.ext ?_))
  match a with
  | ⟨0, _⟩ => show win0_2.index t 0 * 512 + 1 * p.val = (row 512 t.val p : Fin 4096).val; rw [(index t).2.2.1.1, row_lt]; omega
  | ⟨1, _⟩ => show win0_2.index t 1 * 512 + 1 * j.val = j.val; rw [(index t).2.2.1.2]; omega

theorem d_at (t : Fin cfg0.N) (p j : Fin 512) : bD m c t (ix2 p j) = a3 m c (ix2 (row 512 t.val p) j) := by
  unfold bD iblk
  rw [View.read_apply]
  refine (congrFun (V_main_arg3 m c) _).trans (congrArg (a3 m c) (funext fun a => Fin.ext ?_))
  match a with
  | ⟨0, _⟩ => show win0_3.index t 0 * 512 + 1 * p.val = (row 512 t.val p : Fin 4096).val; rw [(index t).2.2.2.1, row_lt]; omega
  | ⟨1, _⟩ => show win0_3.index t 1 * 512 + 1 * j.val = j.val; rw [(index t).2.2.2.2]; omega

/-! ## The products of a point -/

theorem dM_at (t : Fin cfg0.N) (p j : Fin 512) : dM m c t (ix2 p j) = prod (a0 m c) (a1 m c) (row 512 t.val p) (lo j) := by
  unfold dM k0_pay3 k0_pay2
  dsimp only
  rw [shapeCast_self]
  refine (At.mm rfl none _ _ p j).trans (Finset.sum_congr rfl fun k _ => congrArg₂ (· * ·) (z_at m c t p k) ?_)
  refine Eq.trans (congrArg (bW m c t) (funext fun a => Fin.ext ?_)) (w_at m c t k (lo j))
  match a with
  | ⟨0, _⟩ => show 0 + 1 * k.val = k.val; omega
  | ⟨1, _⟩ => show 0 + 1 * j.val = j.val; omega

theorem dD_at (t : Fin cfg0.N) (p j : Fin 512) : dD m c t (ix2 p j) = prod (a0 m c) (a1 m c) (row 512 t.val p) (hi j) := by
  unfold dD k0_pay23 k0_pay2
  dsimp only
  rw [shapeCast_self]
  refine (At.mm rfl none _ _ p j).trans (Finset.sum_congr rfl fun k _ => congrArg₂ (· * ·) (z_at m c t p k) ?_)
  refine Eq.trans (congrArg (bW m c t) (funext fun a => Fin.ext ?_)) (w_at m c t k (hi j))
  match a with
  | ⟨0, _⟩ => show 0 + 1 * k.val = k.val; omega
  | ⟨1, _⟩ => show 512 + 1 * j.val = 512 + j.val; omega

/-! ## The arrays -/

/-- A row is a row of some point's block. -/
theorem of_row (r : Fin 4096) : ∃ (t : Fin cfg0.N) (p : Fin 512), r = row 512 t.val p := by
  have hr : r.val / 512 < cfg0.N := by rw [show cfg0.N = 8 by decide]; omega
  exact ⟨⟨r.val / 512, hr⟩, ⟨r.val % 512, Nat.mod_lt _ (by omega)⟩, Fin.ext (by rw [row_lt]; dsimp only; omega)⟩

theorem at4 (hd : Fin 8) (r : Fin 4096) (e : Fin 64) :
    ((dats m 0 c).arrAt 4 cfg0.N : Vec Ideal S8x4096x64 .bf16) (ix3 hd r e) = prod (a0 m c) (a1 m c) r (lo (headCol hd e)) := by
  obtain ⟨t, p, rfl⟩ := of_row r
  refine Eq.trans ?_ ((out4 m c t hd p e).trans (dM_at m c t p _))
  have h := congrFun ((Value.blocks4 m c t (flush0_4 t)).trans (Value.flushed4 m c t)) (ix3 hd p e)
  rw [View.read_apply] at h
  refine Eq.trans (congrArg ((dats m 0 c).arrAt 4 cfg0.N) (funext fun a => Fin.ext ?_)) h
  match a with
  | ⟨0, _⟩ => show hd.val = win0_4.index t 0 * 8 + 1 * hd.val; rw [(index_out t).1.1]; omega
  | ⟨1, _⟩ => show (row 512 t.val p : Fin 4096).val = win0_4.index t 1 * 512 + 1 * p.val; rw [(index_out t).1.2.1, row_lt]; omega
  | ⟨2, _⟩ => show e.val = win0_4.index t 2 * 64 + 1 * e.val; rw [(index_out t).1.2.2]; omega

theorem at6 (hd : Fin 8) (r : Fin 4096) (e : Fin 64) :
    ((dats m 0 c).arrAt 6 cfg0.N : Vec Ideal S8x4096x64 .f32) (ix3 hd r e) = prod (a0 m c) (a1 m c) r (hi (headCol hd e)) := by
  obtain ⟨t, p, rfl⟩ := of_row r
  refine Eq.trans ?_ ((out6 m c t hd p e).trans (dD_at m c t p _))
  have h := congrFun ((Value.blocks6 m c t (flush0_6 t)).trans (Value.flushed6 m c t)) (ix3 hd p e)
  rw [View.read_apply] at h
  refine Eq.trans (congrArg ((dats m 0 c).arrAt 6 cfg0.N) (funext fun a => Fin.ext ?_)) h
  match a with
  | ⟨0, _⟩ => show hd.val = win0_6.index t 0 * 8 + 1 * hd.val; rw [(index_out t).2.2.1.1]; omega
  | ⟨1, _⟩ => show (row 512 t.val p : Fin 4096).val = win0_6.index t 1 * 512 + 1 * p.val; rw [(index_out t).2.2.1.2.1, row_lt]; omega
  | ⟨2, _⟩ => show e.val = win0_6.index t 2 * 64 + 1 * e.val; rw [(index_out t).2.2.1.2.2]; omega

/-- An entry of the row sums is the entry its point left. -/
theorem at5 (t : Fin cfg0.N) (p : Fin 512) (k : Fin 16) :
    ((dats m 0 c).arrAt 5 cfg0.N : Vec Ideal S4096x16 .f32) (ix2 (row 512 t.val p) k) = (outsAt0 m c t).2.1 (ix2 p k) := by
  have h := congrFun ((Value.blocks5 m c t (flush0_5 t)).trans (Value.flushed5 m c t)) (ix2 p k)
  rw [View.read_apply] at h
  refine Eq.trans (congrArg ((dats m 0 c).arrAt 5 cfg0.N) (funext fun a => Fin.ext ?_)) h
  match a with
  | ⟨0, _⟩ => show (row 512 t.val p : Fin 4096).val = win0_5.index t 0 * 512 + 1 * p.val; rw [(index_out t).2.1.1, row_lt]; omega
  | ⟨1, _⟩ => show k.val = win0_5.index t 1 * 16 + 1 * k.val; rw [(index_out t).2.1.2]; omega

theorem at5_lo (r : Fin 4096) (hd : Fin 8) : ((dats m 0 c).arrAt 5 cfg0.N : Vec Ideal S4096x16 .f32) (ix2 r ⟨hd.val, by omega⟩)
    = ∑ e : Fin 64, prod (a0 m c) (a1 m c) r (lo (headCol hd e)) * a2 m c (ix2 r (headCol hd e)) := by
  obtain ⟨t, p, rfl⟩ := of_row r
  refine (at5 m c t p ⟨hd.val, by omega⟩).trans ((out5a m c t p hd).trans ?_)
  exact Finset.sum_congr (M := EReal) rfl fun e _ => congrArg₂ (· * ·) (dM_at m c t p _) (m_at m c t p _)

theorem at5_hi (r : Fin 4096) (hd : Fin 8) : ((dats m 0 c).arrAt 5 cfg0.N : Vec Ideal S4096x16 .f32) (ix2 r ⟨8 + hd.val, by omega⟩)
    = ∑ e : Fin 64, prod (a0 m c) (a1 m c) r (hi (headCol hd e)) * a3 m c (ix2 r (headCol hd e)) := by
  obtain ⟨t, p, rfl⟩ := of_row r
  refine (at5 m c t p ⟨8 + hd.val, by omega⟩).trans ((out5b m c t p hd).trans ?_)
  exact Finset.sum_congr (M := EReal) rfl fun e _ => congrArg₂ (· * ·) (dD_at m c t p _) (d_at m c t p _)

theorem at7 (hd : Fin 8) (r : Fin 4) (q : Fin 1024) (e : Fin 64) : ((dats m 0 c).arrAt 7 cfg0.N : Vec Ideal S8x4x1024x64 .f32) (ix4 hd r q e)
    = prod (a0 m c) (a1 m c) ⟨4 * q.val + r.val, by omega⟩ (hi (headCol hd e)) := by
  have hq : q.val / 128 < cfg0.N := by rw [show cfg0.N = 8 by decide]; omega
  let t : Fin cfg0.N := ⟨q.val / 128, hq⟩
  let s : Fin 128 := ⟨q.val % 128, Nat.mod_lt _ (by omega)⟩
  refine Eq.trans ?_ ((out7 m c t hd r s e).trans ((dD_at m c t _ _).trans (congrArg (fun x => prod (a0 m c) (a1 m c) x (hi (headCol hd e))) (Fin.ext ?_))))
  · have h := congrFun ((Value.blocks7 m c t (flush0_7 t)).trans (Value.flushed7 m c t)) (ix4 hd r s e)
    rw [View.read_apply] at h
    refine Eq.trans (congrArg ((dats m 0 c).arrAt 7 cfg0.N) (funext fun a => Fin.ext ?_)) h
    match a with
    | ⟨0, _⟩ => show hd.val = win0_7.index t 0 * 8 + 1 * hd.val; rw [(index_out t).2.2.2.1.1]; omega
    | ⟨1, _⟩ => show r.val = win0_7.index t 1 * 4 + 1 * r.val; rw [(index_out t).2.2.2.1.2.1]; omega
    | ⟨2, _⟩ => show q.val = win0_7.index t 2 * 128 + 1 * (q.val % 128); rw [(index_out t).2.2.2.1.2.2.1]; show q.val = q.val / 128 * 128 + 1 * (q.val % 128); omega
    | ⟨3, _⟩ => show e.val = win0_7.index t 3 * 64 + 1 * e.val; rw [(index_out t).2.2.2.1.2.2.2]; omega
  · rw [row_lt]
    show 512 * (q.val / 128) + (4 * (q.val % 128) + r.val) = 4 * q.val + r.val
    omega

theorem at8 (hd : Fin 8) (r : Fin 16) (q : Fin 256) (e : Fin 64) : ((dats m 0 c).arrAt 8 cfg0.N : Vec Ideal S8x16x256x64 .f32) (ix4 hd r q e)
    = prod (a0 m c) (a1 m c) ⟨16 * q.val + r.val, by omega⟩ (hi (headCol hd e)) := by
  have hq : q.val / 32 < cfg0.N := by rw [show cfg0.N = 8 by decide]; omega
  let t : Fin cfg0.N := ⟨q.val / 32, hq⟩
  let s : Fin 32 := ⟨q.val % 32, Nat.mod_lt _ (by omega)⟩
  refine Eq.trans ?_ ((out8 m c t hd r s e).trans ((dD_at m c t _ _).trans (congrArg (fun x => prod (a0 m c) (a1 m c) x (hi (headCol hd e))) (Fin.ext ?_))))
  · have h := congrFun ((Value.blocks8 m c t (flush0_8 t)).trans (Value.flushed8 m c t)) (ix4 hd r s e)
    rw [View.read_apply] at h
    refine Eq.trans (congrArg ((dats m 0 c).arrAt 8 cfg0.N) (funext fun a => Fin.ext ?_)) h
    match a with
    | ⟨0, _⟩ => show hd.val = win0_8.index t 0 * 8 + 1 * hd.val; rw [(index_out t).2.2.2.2.1]; omega
    | ⟨1, _⟩ => show r.val = win0_8.index t 1 * 16 + 1 * r.val; rw [(index_out t).2.2.2.2.2.1]; omega
    | ⟨2, _⟩ => show q.val = win0_8.index t 2 * 32 + 1 * (q.val % 32); rw [(index_out t).2.2.2.2.2.2.1]; show q.val = q.val / 32 * 32 + 1 * (q.val % 32); omega
    | ⟨3, _⟩ => show e.val = win0_8.index t 3 * 64 + 1 * e.val; rw [(index_out t).2.2.2.2.2.2.2]; omega
  · rw [row_lt]
    show 512 * (q.val / 32) + (16 * (q.val % 32) + r.val) = 16 * q.val + r.val
    omega

end Cert.HeadsIdeal.Final

end
-- ==== Proof.Heads.Equation.lean ====
/-
  The two programs leave the same arrays.
-/
module

public import proofs.«01_k».proof.Defs
public import proofs.«01_k».proof.Proof.Heads.Final

@[expose] public section

noncomputable section

namespace Cert.Heads.Equation

open Cert.HeadTiles Cert.HeadsRefIdeal.Reference Idealize.ShloMosaic Idealize.ShloMosaic.TcCoe Idealize.SL.Sem ValueIdx

/-- The reference terminates, keeps its arguments, and has no semaphore. -/
theorem frame_ref : Cert.quiescent_HeadsRefIdeal := fun m ρ _ =>
  (θ_run HeadsRefIdeal.defs _ _).mono (fun r h => ⟨fun c => (h c).2.2.2.2.2, sem_eq_zero_of_no_sems (by decide) r.2⟩)
    (HeadsRefIdeal.Value.run (F := Ideal) m ρ)

/-- The gradients of the heads' outputs, put heads first and in order of residues, and their row sums: kernel and reference agree. -/
theorem algebraic : Cert.algebraic_HeadsIdeal_HeadsRefIdeal := by
  intro m g m' g' _ heq
  refine ⟨fun c => (HeadsIdeal.Gen.dats m 0 c).arrAt 4 HeadsIdeal.cfg0.N, fun c => (HeadsIdeal.Gen.dats m 0 c).arrAt 5 HeadsIdeal.cfg0.N,
    fun c => (HeadsIdeal.Gen.dats m 0 c).arrAt 6 HeadsIdeal.cfg0.N, fun c => (HeadsIdeal.Gen.dats m 0 c).arrAt 7 HeadsIdeal.cfg0.N,
    fun c => (HeadsIdeal.Gen.dats m 0 c).arrAt 8 HeadsIdeal.cfg0.N, HeadsIdeal.Value.run_blocks m g, ?_⟩
  refine (θ_run _ _ _).mono (fun r h c => ?_) (HeadsRefIdeal.Value.run m' g')
  obtain ⟨h0, h1, h2, h3, h4, hargs⟩ := h c
  obtain ⟨e0, e1, e2, e3⟩ := heq c
  refine ⟨h0.trans ?_, h1.trans ?_, h2.trans ?_, h3.trans ?_, h4.trans ?_, hargs⟩
  · rw [HeadsRefIdeal.Read.val_main_v8_eq, e0, e1]
    refine funext fun i => ?_
    rw [ValueIdx.eq_ix3 i]
    exact (v8_at _ _ _ _ _).trans (HeadsIdeal.Final.at4 m c _ _ _).symm
  · rw [HeadsRefIdeal.Read.val_main_v15_eq, e0, e1, e2, e3]
    refine funext fun i => ?_
    obtain ⟨s, k, rfl⟩ : ∃ (s : Fin 4096) (k : Fin 16), i = ix2 s k := ⟨i 0, i 1, eq_ix2 i⟩
    by_cases hk : k.val < 8
    · exact (v15_lo _ _ _ _ s ⟨k.val, hk⟩).trans (HeadsIdeal.Final.at5_lo m c s ⟨k.val, hk⟩).symm
    · have hb : k.val - 8 < 8 := by omega
      have e : k = ⟨8 + (⟨k.val - 8, hb⟩ : Fin 8).val, by dsimp only; omega⟩ := Fin.ext (by dsimp only; omega)
      rw [e]
      exact (v15_hi _ _ _ _ s ⟨k.val - 8, hb⟩).trans (HeadsIdeal.Final.at5_hi m c s ⟨k.val - 8, hb⟩).symm
  · rw [HeadsRefIdeal.Read.val_main_v18_eq, e0, e1]
    refine funext fun i => ?_
    rw [ValueIdx.eq_ix3 i]
    exact (v18_at _ _ _ _ _).trans (HeadsIdeal.Final.at6 m c _ _ _).symm
  · rw [HeadsRefIdeal.Read.val_main_v20_eq, e0, e1]
    refine funext fun i => ?_
    rw [ValueIdx.eq_ix4 i]
    exact (v20_at _ _ _ _ _ _).trans (HeadsIdeal.Final.at7 m c _ _ _ _).symm
  · rw [HeadsRefIdeal.Read.val_main_v22_eq, e0, e1]
    refine funext fun i => ?_
    rw [ValueIdx.eq_ix4 i]
    exact (v22_at _ _ _ _ _ _).trans (HeadsIdeal.Final.at8 m c _ _ _ _).symm

end Cert.Heads.Equation

end
-- ==== Proof.Gate.Run.lean ====
/-
  One point of the gate's backward grid, run: from fifteen input blocks and six output blocks at any contents the body leaves
  the inputs as they are, the two halves of the rows' gradient in their blocks, and the gradients of the taps and of the shift
  added to what their blocks held, to zero at the first point of a column block.
-/
module

public import proofs.«01_k».proof.Proof.Gen.GateIdeal.Frame.Runs
public import proofs.«01_k».proof.Proof.Gen.GateIdeal.Skeleton
public import Idealize.ShloMosaic.Lib.Pipeline.Value

@[expose] public section

set_option maxRecDepth 16384

noncomputable section

namespace Cert.GateIdeal.Run

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The input blocks: the rows' two halves and the eight rows before each, the cotangent's rows and the eight after, the
    weight, the gate's branch, its value and its slope with the eight rows after each, the taps' two halves. -/
structure In (F : FTy → Type) where
  ua : Vec F S256x1408 .f32
  ug : Vec F S256x1408 .f32
  ha : Vec F S8x1408 .f32
  hg : Vec F S8x1408 .f32
  z : Vec F S256x1024 .f32
  zn : Vec F S8x1024 .f32
  wd : Vec F S1024x1408 .bf16
  a : Vec F S256x1408 .f32
  an : Vec F S8x1408 .f32
  e : Vec F S256x1408 .f32
  en : Vec F S8x1408 .f32
  s : Vec F S256x1408 .f32
  sn : Vec F S8x1408 .f32
  wa : Vec F S3x1408 .f32
  wg : Vec F S3x1408 .f32

/-- The output blocks: the gradients of the rows, of the taps and of the shift, each in two halves. -/
structure St (F : FTy → Type) where
  ua : Vec F S256x1408 .bf16
  ug : Vec F S256x1408 .bf16
  wa : Vec F S3x1408 .f32
  wg : Vec F S3x1408 .f32
  ba : Vec F S1x1408 .f32
  bg : Vec F S1x1408 .f32

/-- The first point of a column block. -/
abbrev First (i : grid0.Coords) : Prop := cond0_0 i

/-- The point's row block. -/
abbrev rowb (i : grid0.Coords) : BitVec 32 := BitVec.ofNat 32 (i 1).val

section
variable (i : grid0.Coords) (x : In F)

/-- The gradient of the convolution in the values' columns and in the gate's, the latter also on the eight rows after. -/
def da : FVec F S256x1408 .f32 := k0_pay24 x.wd x.z x.e
def dg : FVec F S256x1408 .f32 := k0_pay25 (k0_pay23 x.wd x.z) x.a x.s
def dgn : FVec F S8x1408 .f32 := k0_pay28 (rowb i) (k0_pay22 x.wd) x.zn x.an x.sn

/-- The gradients of the rows. -/
def dua : FVec F S256x1408 .bf16 :=
  k0_pay36 x.wa (k0_pay24 x.wd x.z x.e) (k0_pay29 (k0_pay24 x.wd x.z x.e)) (k0_pay30 (k0_pay24 x.wd x.z x.e))
    (k0_pay32 (rowb i) (k0_pay22 x.wd) (k0_pay24 x.wd x.z x.e) x.zn x.en)
    (k0_pay33 (rowb i) (k0_pay22 x.wd) (k0_pay24 x.wd x.z x.e) x.zn x.en)
def dug : FVec F S256x1408 .bf16 :=
  k0_pay39 (k0_pay35 (dg x) (dgn i x)) (k0_pay37 x.wg (dg x) (dgn i x)) (k0_pay38 x.wg)

/-- The gradients of the taps, added to `o`. -/
def dwa (o : Vec F S3x1408 .f32) : FVec F S3x1408 .f32 :=
  k0_pay40 (k0_pay6 x.ua) (k0_pay17 (k0_pay10 x.ua) (k0_pay14 i x.ua x.ha))
    (k0_pay18 (k0_pay11 x.ua) (k0_pay12 i x.ha) (k0_pay13 i x.ha) k0_pay15 k0_pay16) (da x) o
def dwg (o : Vec F S3x1408 .f32) : FVec F S3x1408 .f32 :=
  k0_pay41 (k0_pay7 x.ug) (k0_pay20 (k0_pay7 x.ug) (k0_pay9 i x.hg)) (k0_pay21 (k0_pay7 x.ug) (k0_pay9 i x.hg)) (dg x) o

/-- The gradients of the shift, added to `o`. -/
def dba (o : Vec F S1x1408 .f32) : FVec F S1x1408 .f32 := k0_pay42 (da x) o
def dbg (o : Vec F S1x1408 .f32) : FVec F S1x1408 .f32 := k0_pay1 (dg x) o

/-- What a point leaves where the sums begin, -/
def begun : St F := ⟨dua i x, dug i x, dwa i x k0_pay2, dwg i x k0_pay3, dba x k0_pay4, dbg x k0_pay5⟩
/-- and where they go on. -/
def more (s : St F) : St F := ⟨dua i x, dug i x, dwa i x s.wa, dwg i x s.wg, dba x s.ba, dbg x s.bg⟩

end

section

variable (c : Dev nD) (i : grid0.Coords)
  (arg2 : Memref sig .tc .vmem S256x1408 .f32) (harg2 : arg2.IsWhole) (arg3 : Memref sig .tc .vmem S256x1408 .f32) (harg3 : arg3.IsWhole)
  (arg4 : Memref sig .tc .vmem S8x1408 .f32) (harg4 : arg4.IsWhole) (arg5 : Memref sig .tc .vmem S8x1408 .f32) (harg5 : arg5.IsWhole)
  (arg6 : Memref sig .tc .vmem S256x1024 .f32) (harg6 : arg6.IsWhole) (arg7 : Memref sig .tc .vmem S8x1024 .f32) (harg7 : arg7.IsWhole)
  (arg8 : Memref sig .tc .vmem S1024x1408 .bf16) (harg8 : arg8.IsWhole) (arg9 : Memref sig .tc .vmem S256x1408 .f32) (harg9 : arg9.IsWhole)
  (arg10 : Memref sig .tc .vmem S8x1408 .f32) (harg10 : arg10.IsWhole) (arg11 : Memref sig .tc .vmem S256x1408 .f32) (harg11 : arg11.IsWhole)
  (arg12 : Memref sig .tc .vmem S8x1408 .f32) (harg12 : arg12.IsWhole) (arg13 : Memref sig .tc .vmem S256x1408 .f32) (harg13 : arg13.IsWhole)
  (arg14 : Memref sig .tc .vmem S8x1408 .f32) (harg14 : arg14.IsWhole) (arg15 : Memref sig .tc .vmem S3x1408 .f32) (harg15 : arg15.IsWhole)
  (arg16 : Memref sig .tc .vmem S3x1408 .f32) (harg16 : arg16.IsWhole) (arg17 : Memref sig .tc .vmem S256x1408 .bf16) (harg17 : arg17.IsWhole)
  (arg18 : Memref sig .tc .vmem S256x1408 .bf16) (harg18 : arg18.IsWhole) (arg19 : Memref sig .tc .vmem S3x1408 .f32) (harg19 : arg19.IsWhole)
  (arg20 : Memref sig .tc .vmem S3x1408 .f32) (harg20 : arg20.IsWhole) (arg21 : Memref sig .tc .vmem S1x1408 .f32) (harg21 : arg21.IsWhole)
  (arg22 : Memref sig .tc .vmem S1x1408 .f32) (harg22 : arg22.IsWhole)
  (x : In F)

/-- The fifteen input buffers. -/
abbrev ins : sProp 𝕄 :=
  iprop(owns (c : Thread nD τ) arg2 fullShare x.ua ∗ owns (c : Thread nD τ) arg3 fullShare x.ug ∗ owns (c : Thread nD τ) arg4 fullShare x.ha
    ∗ owns (c : Thread nD τ) arg5 fullShare x.hg ∗ owns (c : Thread nD τ) arg6 fullShare x.z ∗ owns (c : Thread nD τ) arg7 fullShare x.zn
    ∗ owns (c : Thread nD τ) arg8 fullShare x.wd ∗ owns (c : Thread nD τ) arg9 fullShare x.a ∗ owns (c : Thread nD τ) arg10 fullShare x.an
    ∗ owns (c : Thread nD τ) arg11 fullShare x.e ∗ owns (c : Thread nD τ) arg12 fullShare x.en ∗ owns (c : Thread nD τ) arg13 fullShare x.s
    ∗ owns (c : Thread nD τ) arg14 fullShare x.sn ∗ owns (c : Thread nD τ) arg15 fullShare x.wa ∗ owns (c : Thread nD τ) arg16 fullShare x.wg)

/-- The six output buffers. -/
abbrev res (s : St F) : sProp 𝕄 :=
  iprop(owns (c : Thread nD τ) arg17 fullShare s.ua ∗ owns (c : Thread nD τ) arg18 fullShare s.ug ∗ owns (c : Thread nD τ) arg19 fullShare s.wa
    ∗ owns (c : Thread nD τ) arg20 fullShare s.wg ∗ owns (c : Thread nD τ) arg21 fullShare s.ba ∗ owns (c : Thread nD τ) arg22 fullShare s.bg)

theorem hz : (![0, 0] : Fin 2 → Nat) = fun _ => 0 := funext fun a => by fin_cases a <;> rfl

/-- What a buffer reads after a store of the whole of it. -/
theorem read_last {sg : RefSig} {κ : Kind} {sp : Space} {S : Shape} {e : EltTy} (w : View sg κ sp S e) {off : Fin S.rank → Nat}
    (h : off = fun _ => 0) (inb : ∀ a, off a + S.size a ≤ S.size a) (p : S.Idx → Elt F e) (L : List (View.Piece (Elt F) S e))
    (f : w.ty.Contents (Elt F)) : w.read (Elt F) (w.writes (Elt F) f (⟨Rect.unit off S.size inb, p⟩ :: L)) = p := by
  rw [View.read_writes_eq_canon _ _ _ (fun y => ⟨_, List.mem_cons_self, View.mem_set_unit_zero h inb y⟩)]
  exact View.canon_cons_unit_zero h inb p L

/-- What a load of the whole of a buffer reads, -/
theorem rd {sg : RefSig} {κ : Kind} {sp : Space} {S : Shape} {e : EltTy} (w : View sg κ sp S e) {off : Fin S.rank → Nat}
    (h : off = fun _ => 0) (inb : ∀ a, off a + S.size a ≤ S.size a) (f : w.ty.Contents (Elt F)) :
    w.readAt (Elt F) (Rect.unit off S.size inb).toLoadRect f = w.read (Elt F) f := by
  rw [← View.ld_unit_zero h inb (w.read (Elt F) f)]; rfl

/-- also where a store of the whole of it came before. -/
theorem cov {sg : RefSig} {κ : Kind} {sp : Space} {S : Shape} {e : EltTy} (w : View sg κ sp S e) {off : Fin S.rank → Nat}
    (h : off = fun _ => 0) (inb : ∀ a, off a + S.size a ≤ S.size a) (p : S.Idx → Elt F e) (L : List (View.Piece (Elt F) S e)) :
    w.readCov (⟨Rect.unit off S.size inb, p⟩ :: L) (Rect.unit off S.size inb).toLoadRect = p := by
  rw [View.readCov_eq_canon_ld _ _ _ (fun y => ⟨_, List.mem_cons_self, View.mem_set_unit_zero h inb y⟩),
    View.canon_cons_unit_zero h inb p L, View.ld_unit_zero h inb]

set_option maxHeartbeats 8000000 in
include harg2 harg3 harg4 harg5 harg6 harg7 harg8 harg9 harg10 harg11 harg12 harg13 harg14 harg15 harg16 harg17 harg18 harg19 harg20 harg21 harg22 in
theorem run_first (h : First i) (s : St F) (E : Set ℕ) (K : PUnit → sProp 𝕄) :
    iprop(ins c arg2 arg3 arg4 arg5 arg6 arg7 arg8 arg9 arg10 arg11 arg12 arg13 arg14 arg15 arg16 x ∗ res c arg17 arg18 arg19 arg20 arg21 arg22 s
        ∗ (iprop(ins c arg2 arg3 arg4 arg5 arg6 arg7 arg8 arg9 arg10 arg11 arg12 arg13 arg14 arg15 arg16 x ∗ res c arg17 arg18 arg19 arg20 arg21 arg22 (begun i x)) -∗ K ⟨⟩))
      ⊢ wp frame (wpE (defs₀ (F := F)) Variants.none c none) E
          (cc0_gate_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gate_bwd_eq_skeleton]; unfold cc0_gate_bwd_skel
  simp only [k0_part1_eq_skeleton, k0_part2_eq_skeleton, k0_part3_eq_skeleton, k0_part4_eq_skeleton, k0_part5_eq_skeleton]
  unfold ins res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨⟨%f15, %hf15, H15⟩, ⟨%f16, %hf16, H16⟩, ⟨%f17, %hf17, H17⟩, ⟨%f18, %hf18, H18⟩, ⟨%f19, %hf19, H19⟩, ⟨%f20, %hf20, H20⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  obtain rfl := harg17.eq_unread hf15; obtain rfl := harg18.eq_unread hf16; obtain rfl := harg19.eq_unread hf17; obtain rfl := harg20.eq_unread hf18; obtain rfl := harg21.eq_unread hf19; obtain rfl := harg22.eq_unread hf20
  sl_exec (disch := first | sl_exact h)
  sl_step
  iapply Hk
  isplitl [H0 H1 H2 H3 H4 H5 H6 H7 H8 H9 H10 H11 H12 H13 H14]
  · isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact harg13.read_unread _
    isplitl [H12]
    · iexists _; isplitr; swap; · iexact H12
      ipureintro; exact harg14.read_unread _
    isplitl [H13]
    · iexists _; isplitr; swap; · iexact H13
      ipureintro; exact harg15.read_unread _
    iexists _; isplitr; swap; · iexact H14
    ipureintro; exact harg16.read_unread _
  isplitl [H15]
  · iexists _; isplitr; swap; · iexact H15
    ipureintro
    sl_unfold_run_names; simp only [read_last (S := S256x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H16]
  · iexists _; isplitr; swap; · iexact H16
    ipureintro
    sl_unfold_run_names; simp only [read_last (S := S256x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H17]
  · iexists _; isplitr; swap; · iexact H17
    ipureintro
    sl_unfold_run_names; simp only [read_last (S := S3x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H18]
  · iexists _; isplitr; swap; · iexact H18
    ipureintro
    sl_unfold_run_names; simp only [read_last (S := S3x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H19]
  · iexists _; isplitr; swap; · iexact H19
    ipureintro
    sl_unfold_run_names; simp only [read_last (S := S1x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  iexists _; isplitr; swap; · iexact H20
  ipureintro
  sl_unfold_run_names; simp only [read_last (S := S1x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl

set_option maxHeartbeats 8000000 in
include harg2 harg3 harg4 harg5 harg6 harg7 harg8 harg9 harg10 harg11 harg12 harg13 harg14 harg15 harg16 harg17 harg18 harg19 harg20 harg21 harg22 in
theorem run_more (h : ¬First i) (s : St F) (E : Set ℕ) (K : PUnit → sProp 𝕄) :
    iprop(ins c arg2 arg3 arg4 arg5 arg6 arg7 arg8 arg9 arg10 arg11 arg12 arg13 arg14 arg15 arg16 x ∗ res c arg17 arg18 arg19 arg20 arg21 arg22 s
        ∗ (iprop(ins c arg2 arg3 arg4 arg5 arg6 arg7 arg8 arg9 arg10 arg11 arg12 arg13 arg14 arg15 arg16 x ∗ res c arg17 arg18 arg19 arg20 arg21 arg22 (more i x s)) -∗ K ⟨⟩))
      ⊢ wp frame (wpE (defs₀ (F := F)) Variants.none c none) E
          (cc0_gate_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gate_bwd_eq_skeleton]; unfold cc0_gate_bwd_skel
  simp only [k0_part1_eq_skeleton, k0_part2_eq_skeleton, k0_part3_eq_skeleton, k0_part4_eq_skeleton, k0_part5_eq_skeleton]
  unfold ins res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨⟨%f15, %hf15, H15⟩, ⟨%f16, %hf16, H16⟩, ⟨%f17, %hf17, H17⟩, ⟨%f18, %hf18, H18⟩, ⟨%f19, %hf19, H19⟩, ⟨%f20, %hf20, H20⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  obtain rfl := harg17.eq_unread hf15; obtain rfl := harg18.eq_unread hf16; obtain rfl := harg19.eq_unread hf17; obtain rfl := harg20.eq_unread hf18; obtain rfl := harg21.eq_unread hf19; obtain rfl := harg22.eq_unread hf20
  sl_exec (disch := first | sl_exact h)
  sl_step
  iapply Hk
  isplitl [H0 H1 H2 H3 H4 H5 H6 H7 H8 H9 H10 H11 H12 H13 H14]
  · isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact harg13.read_unread _
    isplitl [H12]
    · iexists _; isplitr; swap; · iexact H12
      ipureintro; exact harg14.read_unread _
    isplitl [H13]
    · iexists _; isplitr; swap; · iexact H13
      ipureintro; exact harg15.read_unread _
    iexists _; isplitr; swap; · iexact H14
    ipureintro; exact harg16.read_unread _
  isplitl [H15]
  · iexists _; isplitr; swap; · iexact H15
    ipureintro
    sl_unfold_run_names; simp only [read_last (S := S256x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H16]
  · iexists _; isplitr; swap; · iexact H16
    ipureintro
    sl_unfold_run_names; simp only [read_last (S := S256x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H17]
  · iexists _; isplitr; swap; · iexact H17
    ipureintro
    sl_unfold_run_names; simp only [read_last (S := S3x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H18]
  · iexists _; isplitr; swap; · iexact H18
    ipureintro
    sl_unfold_run_names; simp only [read_last (S := S3x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  isplitl [H19]
  · iexists _; isplitr; swap; · iexact H19
    ipureintro
    sl_unfold_run_names; simp only [read_last (S := S1x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl
  iexists _; isplitr; swap; · iexact H20
  ipureintro
  sl_unfold_run_names; simp only [read_last (S := S1x1408) _ hz, cov (S := S3x1408) _ hz, cov (S := S1x1408) _ hz, rd (S := S256x1408) _ hz, rd (S := S8x1408) _ hz, rd (S := S256x1024) _ hz, rd (S := S8x1024) _ hz, rd (S := S1024x1408) _ hz, rd (S := S3x1408) _ hz, rd (S := S1x1408) _ hz, Memref.IsWhole.read_unread]; rfl

end

end Cert.GateIdeal.Run

end
-- ==== Proof.Gate.Body.lean ====
/-
  The gate's backward pipeline run whole: what each point leaves is what its blocks make of what the point before left. The frame
  follows from the library's theorem about one region, and with it what each point writes back.
-/
module

public import Idealize.ShloMosaic.Lib.Claim
public import proofs.«01_k».proof.Proof.Gate.Run

@[expose] public section

set_option maxRecDepth 16384

noncomputable section

namespace Cert.GateIdeal.Run

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The point's input blocks. -/
def blocks (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The first point. -/
def start : Fin cfg0.N := ⟨0, by decide⟩

/-- What point `n - 1` left. -/
def left (c : Dev nD) : ℕ → St F
  | 0 => begun (grid0.coords start) (blocks m c start)
  | n + 1 => if h : n < cfg0.N then
      (if n % 16 = 0 then begun (grid0.coords ⟨n, h⟩) (blocks m c ⟨n, h⟩) else more (grid0.coords ⟨n, h⟩) (blocks m c ⟨n, h⟩) (left c n))
    else left c n

theorem left_first (c : Dev nD) (t : Fin cfg0.N) (h : t.val % 16 = 0) :
    left m c (t.val + 1) = begun (grid0.coords t) (blocks m c t) := by
  rw [left, dif_pos t.isLt, if_pos h]

theorem left_more (c : Dev nD) (t : Fin cfg0.N) (h : ¬t.val % 16 = 0) :
    left m c (t.val + 1) = more (grid0.coords t) (blocks m c t) (left m c t.val) := by
  rw [left, dif_pos t.isLt, if_neg h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (left m c (t.val + 1)).ua
    | ⟨16, _⟩ => (left m c (t.val + 1)).ug
    | ⟨17, _⟩ => (left m c (t.val + 1)).wa
    | ⟨18, _⟩ => (left m c (t.val + 1)).wg
    | ⟨19, _⟩ => (left m c (t.val + 1)).ba
    | ⟨20, _⟩ => (left m c (t.val + 1)).bg
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_15 (c : Dev nD) (t : Fin cfg0.N) : (dats m 0 c).after 15 t = (left m c (t.val + 1)).ua := by dsimp only [dats]
theorem after0_16 (c : Dev nD) (t : Fin cfg0.N) : (dats m 0 c).after 16 t = (left m c (t.val + 1)).ug := by dsimp only [dats]
theorem after0_17 (c : Dev nD) (t : Fin cfg0.N) : (dats m 0 c).after 17 t = (left m c (t.val + 1)).wa := by dsimp only [dats]
theorem after0_18 (c : Dev nD) (t : Fin cfg0.N) : (dats m 0 c).after 18 t = (left m c (t.val + 1)).wg := by dsimp only [dats]
theorem after0_19 (c : Dev nD) (t : Fin cfg0.N) : (dats m 0 c).after 19 t = (left m c (t.val + 1)).ba := by dsimp only [dats]
theorem after0_20 (c : Dev nD) (t : Fin cfg0.N) : (dats m 0 c).after 20 t = (left m c (t.val + 1)).bg := by dsimp only [dats]
theorem before0_0 (c : Dev nD) (t : Fin cfg0.N) (d) : (dats m 0 c).before 0 t d = (blocks m c t).ua :=
  before0_0_of m (dats m 0 c) (A_eq m c 0) (fun t => by dsimp only [dats]) t d
theorem before0_1 (c : Dev nD) (t : Fin cfg0.N) (d) : (dats m 0 c).before 1 t d = (blocks m c t).ug :=
  before0_1_of m (dats m 0 c) (A_eq m c 1) (fun t => by dsimp only [dats]) t d
theorem before0_2 (c : Dev nD) (t : Fin cfg0.N) (d) : (dats m 0 c).before 2 t d = (blocks m c t).ha :=
  before0_2_of m (dats m 0 c) (A_eq m c 2) (fun t => by dsimp only [dats]) t d
theorem before0_3 (c : Dev nD) (t : Fin cfg0.N) (d) : (dats m 0 c).before 3 t d = (blocks m c t).hg :=
  before0_3_of m (dats m 0 c) (A_eq m c 3) (fun t => by dsimp only [dats]) t d
theorem before0_4 (c : Dev nD) (t : Fin cfg0.N) (d) : (dats m 0 c).before 4 t d = (blocks m c t).z :=
  before0_4_of m (dats m 0 c) (A_eq m c 4) (fun t => by dsimp only [dats]) t d
theorem before0_5 (c : Dev nD) (t : Fin cfg0.N) (d) : (dats m 0 c).before 5 t d = (blocks m c t).zn :=
  before0_5_of m (dats m 0 c) (A_eq m c 5) (fun t => by dsimp only [dats]) t d
theorem before0_6 (c : Dev nD) (t : Fin cfg0.N) (d) : (dats m 0 c).before 6 t d = (blocks m c t).wd :=
  before0_6_of m (dats m 0 c) (A_eq m c 6) (fun t => by dsimp only [dats]) t d
theorem before0_7 (c : Dev nD) (t : Fin cfg0.N) (d) : (dats m 0 c).before 7 t d = (blocks m c t).a :=
  before0_7_of m (dats m 0 c) (A_eq m c 7) (fun t => by dsimp only [dats]) t d
theorem before0_8 (c : Dev nD) (t : Fin cfg0.N) (d) : (dats m 0 c).before 8 t d = (blocks m c t).an :=
  before0_8_of m (dats m 0 c) (A_eq m c 8) (fun t => by dsimp only [dats]) t d
theorem before0_9 (c : Dev nD) (t : Fin cfg0.N) (d) : (dats m 0 c).before 9 t d = (blocks m c t).e :=
  before0_9_of m (dats m 0 c) (A_eq m c 9) (fun t => by dsimp only [dats]) t d
theorem before0_10 (c : Dev nD) (t : Fin cfg0.N) (d) : (dats m 0 c).before 10 t d = (blocks m c t).en :=
  before0_10_of m (dats m 0 c) (A_eq m c 10) (fun t => by dsimp only [dats]) t d
theorem before0_11 (c : Dev nD) (t : Fin cfg0.N) (d) : (dats m 0 c).before 11 t d = (blocks m c t).s :=
  before0_11_of m (dats m 0 c) (A_eq m c 11) (fun t => by dsimp only [dats]) t d
theorem before0_12 (c : Dev nD) (t : Fin cfg0.N) (d) : (dats m 0 c).before 12 t d = (blocks m c t).sn :=
  before0_12_of m (dats m 0 c) (A_eq m c 12) (fun t => by dsimp only [dats]) t d
theorem before0_13 (c : Dev nD) (t : Fin cfg0.N) (d) : (dats m 0 c).before 13 t d = (blocks m c t).wa :=
  before0_13_of m (dats m 0 c) (A_eq m c 13) (fun t => by dsimp only [dats]) t d
theorem before0_14 (c : Dev nD) (t : Fin cfg0.N) (d) : (dats m 0 c).before 14 t d = (blocks m c t).wg :=
  before0_14_of m (dats m 0 c) (A_eq m c 14) (fun t => by dsimp only [dats]) t d

/-- Past a column block's first point the sums' buffers hold what the point before left. -/
theorem before0_17 (c : Dev nD) (t : Fin cfg0.N) (h : ¬t.val % 16 = 0) (d) : (dats m 0 c).before 17 t d = (left m c t.val).wa := by
  rw [Dat.before_out_kept _ 17 rfl t (by omega) (Bool.eq_false_iff.mpr fun e => by have := (flush0_17 _).mp e; dsimp only at this; omega)
    (fun _ => rfl) (fun _ _ => rfl), after0_17]
  dsimp only; rw [Nat.sub_add_cancel (by omega)]
theorem before0_18 (c : Dev nD) (t : Fin cfg0.N) (h : ¬t.val % 16 = 0) (d) : (dats m 0 c).before 18 t d = (left m c t.val).wg := by
  rw [Dat.before_out_kept _ 18 rfl t (by omega) (Bool.eq_false_iff.mpr fun e => by have := (flush0_18 _).mp e; dsimp only at this; omega)
    (fun _ => rfl) (fun _ _ => rfl), after0_18]
  dsimp only; rw [Nat.sub_add_cancel (by omega)]
theorem before0_19 (c : Dev nD) (t : Fin cfg0.N) (h : ¬t.val % 16 = 0) (d) : (dats m 0 c).before 19 t d = (left m c t.val).ba := by
  rw [Dat.before_out_kept _ 19 rfl t (by omega) (Bool.eq_false_iff.mpr fun e => by have := (flush0_19 _).mp e; dsimp only at this; omega)
    (fun _ => rfl) (fun _ _ => rfl), after0_19]
  dsimp only; rw [Nat.sub_add_cancel (by omega)]
theorem before0_20 (c : Dev nD) (t : Fin cfg0.N) (h : ¬t.val % 16 = 0) (d) : (dats m 0 c).before 20 t d = (left m c t.val).bg := by
  rw [Dat.before_out_kept _ 20 rfl t (by omega) (Bool.eq_false_iff.mpr fun e => by have := (flush0_20 _).mp e; dsimp only at this; omega)
    (fun _ => rfl) (fun _ _ => rfl), after0_20]
  dsimp only; rw [Nat.sub_add_cancel (by omega)]

/-! ## The body at a point -/

/-- The buffers before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)) ∗ (∃ d, owns (c : Thread nD τ) (st0_9 t) fullShare ((dats m 0 c).before 9 t d))
    ∗ (∃ d, owns (c : Thread nD τ) (st0_10 t) fullShare ((dats m 0 c).before 10 t d)) ∗ (∃ d, owns (c : Thread nD τ) (st0_11 t) fullShare ((dats m 0 c).before 11 t d))
    ∗ (∃ d, owns (c : Thread nD τ) (st0_12 t) fullShare ((dats m 0 c).before 12 t d)) ∗ (∃ d, owns (c : Thread nD τ) (st0_13 t) fullShare ((dats m 0 c).before 13 t d))
    ∗ (∃ d, owns (c : Thread nD τ) (st0_14 t) fullShare ((dats m 0 c).before 14 t d)) ∗ (∃ d, owns (c : Thread nD τ) (st0_15 t) fullShare ((dats m 0 c).before 15 t d))
    ∗ (∃ d, owns (c : Thread nD τ) (st0_16 t) fullShare ((dats m 0 c).before 16 t d)) ∗ (∃ d, owns (c : Thread nD τ) (st0_17 t) fullShare ((dats m 0 c).before 17 t d))
    ∗ (∃ d, owns (c : Thread nD τ) (st0_18 t) fullShare ((dats m 0 c).before 18 t d)) ∗ (∃ d, owns (c : Thread nD τ) (st0_19 t) fullShare ((dats m 0 c).before 19 t d))
    ∗ (∃ d, owns (c : Thread nD τ) (st0_20 t) fullShare ((dats m 0 c).before 20 t d)))

/-- after it, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t) ∗ owns (c : Thread nD τ) (st0_9 t) fullShare ((dats m 0 c).after 9 t)
    ∗ owns (c : Thread nD τ) (st0_10 t) fullShare ((dats m 0 c).after 10 t) ∗ owns (c : Thread nD τ) (st0_11 t) fullShare ((dats m 0 c).after 11 t)
    ∗ owns (c : Thread nD τ) (st0_12 t) fullShare ((dats m 0 c).after 12 t) ∗ owns (c : Thread nD τ) (st0_13 t) fullShare ((dats m 0 c).after 13 t)
    ∗ owns (c : Thread nD τ) (st0_14 t) fullShare ((dats m 0 c).after 14 t) ∗ owns (c : Thread nD τ) (st0_15 t) fullShare ((dats m 0 c).after 15 t)
    ∗ owns (c : Thread nD τ) (st0_16 t) fullShare ((dats m 0 c).after 16 t) ∗ owns (c : Thread nD τ) (st0_17 t) fullShare ((dats m 0 c).after 17 t)
    ∗ owns (c : Thread nD τ) (st0_18 t) fullShare ((dats m 0 c).after 18 t) ∗ owns (c : Thread nD τ) (st0_19 t) fullShare ((dats m 0 c).after 19 t)
    ∗ owns (c : Thread nD τ) (st0_20 t) fullShare ((dats m 0 c).after 20 t))

/-- and after it, grouped. -/
def grouped (c : Dev nD) (t : Fin cfg0.N) (s : St F) : sProp 𝕄 :=
  iprop(ins c (st0_0 t) (st0_1 t) (st0_2 t) (st0_3 t) (st0_4 t) (st0_5 t) (st0_6 t) (st0_7 t) (st0_8 t) (st0_9 t) (st0_10 t) (st0_11 t) (st0_12 t) (st0_13 t) (st0_14 t) (blocks m c t)
    ∗ res c (st0_15 t) (st0_16 t) (st0_17 t) (st0_18 t) (st0_19 t) (st0_20 t) s)

theorem regroup (c : Dev nD) (t : Fin cfg0.N) :
    iprop((dats m 0 c).Φ t.castSucc ∗ (dats m 0 c).owesAt () t.castSucc ∗ grouped m c t (left m c (t.val + 1))) ⊢ bodyPost m c t := by
  unfold grouped bodyPost
  rw [show (dats m 0 c).Φ t.succ = (dats m 0 c).Φ t.castSucc from rfl, show (dats m 0 c).owesAt () t.succ = (dats m 0 c).owesAt () t.castSucc from rfl]
  rw [after0_15, after0_16, after0_17, after0_18, after0_19, after0_20]
  iintro ⟨HΦ, Ho, ⟨H0, H1, H2, H3, H4, H5, H6, H7, H8, H9, H10, H11, H12, H13, H14⟩, ⟨H15, H16, H17, H18, H19, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7, before0_8, before0_9, before0_10, before0_11, before0_12, before0_13, before0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  by_cases h : t.val % 16 = 0
  · iapply (run_first c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _
      (blocks m c t) ((hcond0_0 t).mpr h) ⟨(dats m 0 c).before 15 t d15, (dats m 0 c).before 16 t d16, (dats m 0 c).before 17 t d17, (dats m 0 c).before 18 t d18, (dats m 0 c).before 19 t d19, (dats m 0 c).before 20 t d20⟩ Set.univ _)
    isplitl [H0 H1 H2 H3 H4 H5 H6 H7 H8 H9 H10 H11 H12 H13 H14]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15 H16 H17 H18 H19 H20]
    · unfold res
      isplitl [H15]; · iexact H15
      isplitl [H16]; · iexact H16
      isplitl [H17]; · iexact H17
      isplitl [H18]; · iexact H18
      isplitl [H19]; · iexact H19
      iexact H20
    rw [← left_first m c t h]
    iintro Hs
    iapply (regroup m c t)
    isplitl [HΦ]; · iexact HΦ
    isplitl [Ho]; · iexact Ho
    unfold grouped; iexact Hs
  · rw [before0_17 m c t h d17, before0_18 m c t h d18, before0_19 m c t h d19, before0_20 m c t h d20]
    iapply (run_more c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _
      (blocks m c t) (fun e => h ((hcond0_0 t).mp e)) ⟨(dats m 0 c).before 15 t d15, (dats m 0 c).before 16 t d16, (left m c t.val).wa, (left m c t.val).wg, (left m c t.val).ba, (left m c t.val).bg⟩ Set.univ _)
    isplitl [H0 H1 H2 H3 H4 H5 H6 H7 H8 H9 H10 H11 H12 H13 H14]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15 H16 H17 H18 H19 H20]
    · unfold res
      isplitl [H15]; · iexact H15
      isplitl [H16]; · iexact H16
      isplitl [H17]; · iexact H17
      isplitl [H18]; · iexact H18
      isplitl [H19]; · iexact H19
      iexact H20
    rw [show more (grid0.coords t) (blocks m c t) ⟨(dats m 0 c).before 15 t d15, (dats m 0 c).before 16 t d16, (left m c t.val).wa, (left m c t.val).wg, (left m c t.val).ba, (left m c t.val).bg⟩
      = more (grid0.coords t) (blocks m c t) (left m c t.val) from rfl]
    rw [← left_more m c t h]
    iintro Hs
    iapply (regroup m c t)
    isplitl [HΦ]; · iexact HΦ
    isplitl [Ho]; · iexact Ho
    unfold grouped; iexact Hs

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.GateIdeal.Run

end
-- ==== Proof.Gate.Math.lean ====
/-
  The part's mathematics over the reals: `U` the rows the convolution reads, `W` its three taps, `B` its shift, `D` the down
  weight, `C` the gradient of the product with it. The first 2816 columns hold the values, the others the gate.
-/
module

public import proofs.«01_k».proof.Proof.Base.Words
public import Mathlib.Analysis.SpecialFunctions.Trigonometric.DerivHyp

@[expose] public section

noncomputable section

namespace Cert.Gate.Math

open Idealize.ShloMosaic

/-! ## The gate's literals -/

/-- The weight of the cube in the gate. -/
def cube : ℝ := 12003091 / 2 ^ 28

/-- The scale inside the gate's hyperbolic tangent. -/
def scale : ℝ := 13386282 / 2 ^ 24

theorem w_cube : Ideal.ofBits .f32 0x3D372713#32 = ((cube : ℝ) : EReal) := by
  simp [Ideal.ofBits, Ideal.ieee, cube, -EReal.coe_mul]
  norm_num

theorem w_scale : Ideal.ofBits .f32 0x3F4C422A#32 = ((scale : ℝ) : EReal) := by
  simp [Ideal.ofBits, Ideal.ieee, scale, -EReal.coe_mul]
  norm_num

theorem w_three : Ideal.ofBits .f32 0x40400000#32 = ((3 : ℝ) : EReal) := by
  simp [Ideal.ofBits, Ideal.ieee, -EReal.coe_mul]
  norm_num

/-! ## The gate and the rows moved -/

/-- The hyperbolic tangent in the gate. -/
def tan (g : ℝ) : ℝ := Real.tanh (scale * (g + cube * (g * g * g)))

/-- The gate. -/
def gelu (g : ℝ) : ℝ := g * (1 / 2 * (1 + tan g))

/-- Its slope. -/
def slope (g : ℝ) : ℝ := 1 / 2 * (1 + tan g) + 1 / 2 * g * (1 - tan g * tan g) * (scale * (1 + 3 * (cube * (g * g))))

/-- A column read `n` rows before, zero above the first row. -/
def back (n : ℕ) (X : Fin 4096 → ℝ) (r : Fin 4096) : ℝ := if n ≤ r.val then X ⟨r.val - n, by omega⟩ else 0

/-- A column read `n` rows after, zero below the last row. -/
def ahead (n : ℕ) (X : Fin 4096 → ℝ) (r : Fin 4096) : ℝ := if h : r.val + n < 4096 then X ⟨r.val + n, h⟩ else 0

/-- The column of a value, and of its gate. -/
abbrev lo (j : Fin 2816) : Fin 5632 := ⟨j.val, by omega⟩
abbrev hi (j : Fin 2816) : Fin 5632 := ⟨2816 + j.val, by omega⟩

/-- The arguments. -/
structure Args where
  U : Fin 4096 → Fin 5632 → ℝ
  W : Fin 3 → Fin 5632 → ℝ
  B : Fin 5632 → ℝ
  D : Fin 2816 → Fin 1024 → ℝ
  C : Fin 4096 → Fin 1024 → ℝ

variable (T : Args)

/-- The convolution. -/
def Args.y (r : Fin 4096) (q : Fin 5632) : ℝ :=
  T.B q + T.W 0 q * back 2 (T.U · q) r + T.W 1 q * back 1 (T.U · q) r + T.W 2 q * T.U r q

/-- The gradient of the gated values. -/
def Args.d (r : Fin 4096) (j : Fin 2816) : ℝ := ∑ k, T.C r k * T.D j k

/-- The gradient of the convolution in the values' columns, and in the gate's. -/
def Args.da (r : Fin 4096) (j : Fin 2816) : ℝ := T.d r j * gelu (T.y r (hi j))
def Args.dg (r : Fin 4096) (j : Fin 2816) : ℝ := T.d r j * T.y r (lo j) * slope (T.y r (hi j))

/-- The gradient of the rows, from the gradient `E` of one column of the convolution. -/
def Args.du (E : Fin 4096 → ℝ) (q : Fin 5632) (r : Fin 4096) : ℝ := T.W 2 q * E r + T.W 1 q * ahead 1 E r + T.W 0 q * ahead 2 E r

/-- The gradient of the taps, from the gradient `E` of one column of the convolution. -/
def Args.dw (E : Fin 4096 → ℝ) (q : Fin 5632) (k : Fin 3) : ℝ := ∑ r, E r * back (2 - k.val) (T.U · q) r

theorem back_zero (X : Fin 4096 → ℝ) (r : Fin 4096) : back 0 X r = X r := if_pos (Nat.zero_le _)

end Cert.Gate.Math

end
-- ==== Proof.Gate.Blocks.lean ====
/-
  Where the blocks of the gate's backward grid lie in their arrays.
-/
module

public import proofs.«01_k».proof.Proof.Gen.GateIdeal.Frame.Runs
public import proofs.«01_k».proof.Proof.Base.Rows
public import proofs.«01_k».proof.Proof.Base.At
public import proofs.«01_k».proof.Proof.Gate.Math
public import Idealize.ShloMosaic.Lib.Pipeline.Value
public import Idealize.ShloMosaic.PureOps.Ideal

@[expose] public section

noncomputable section

namespace Cert.GateIdeal.Blocks

open Cert.GateIdeal Cert.GateIdeal.Gen Cert.Rows Cert.Gate.Math Idealize.ShloMosaic Idealize.ShloMosaic.TcCoe ValueIdx

/-! ## Where the blocks lie -/

theorem coords : ∀ t : Fin cfg0.N, (grid0.coords t 1).val = t.val % 16 :=
  (by decide +kernel : ∀ t : Fin grid0.N, (grid0.coords t 1).val = t.val % 16)

/-- The rows' blocks, -/
theorem at_rows : ∀ t : Fin cfg0.N, (win0_0.index t 0 = t.val % 16 ∧ win0_0.index t 1 = t.val / 16) ∧ (win0_1.index t 0 = t.val % 16 ∧ win0_1.index t 1 = t.val / 16) ∧ (win0_7.index t 0 = t.val % 16 ∧ win0_7.index t 1 = t.val / 16) ∧ (win0_9.index t 0 = t.val % 16 ∧ win0_9.index t 1 = t.val / 16) ∧ (win0_11.index t 0 = t.val % 16 ∧ win0_11.index t 1 = t.val / 16) :=
  (by decide +kernel : ∀ t : Fin grid0.N, (win0_0.index t 0 = t.val % 16 ∧ win0_0.index t 1 = t.val / 16) ∧ (win0_1.index t 0 = t.val % 16 ∧ win0_1.index t 1 = t.val / 16) ∧ (win0_7.index t 0 = t.val % 16 ∧ win0_7.index t 1 = t.val / 16) ∧ (win0_9.index t 0 = t.val % 16 ∧ win0_9.index t 1 = t.val / 16) ∧ (win0_11.index t 0 = t.val % 16 ∧ win0_11.index t 1 = t.val / 16))

/-- the eight rows before, -/
theorem at_before : ∀ t : Fin cfg0.N, (win0_2.index t 0 = 32 * (t.val % 16) - 1 ∧ win0_2.index t 1 = t.val / 16) ∧ (win0_3.index t 0 = 32 * (t.val % 16) - 1 ∧ win0_3.index t 1 = t.val / 16) :=
  (by decide +kernel : ∀ t : Fin grid0.N, (win0_2.index t 0 = 32 * (t.val % 16) - 1 ∧ win0_2.index t 1 = t.val / 16) ∧ (win0_3.index t 0 = 32 * (t.val % 16) - 1 ∧ win0_3.index t 1 = t.val / 16))

/-- the eight rows after, -/
theorem at_after : ∀ t : Fin cfg0.N, (win0_8.index t 0 = min (32 * (t.val % 16 + 1)) 511 ∧ win0_8.index t 1 = t.val / 16) ∧ (win0_10.index t 0 = min (32 * (t.val % 16 + 1)) 511 ∧ win0_10.index t 1 = t.val / 16) ∧ (win0_12.index t 0 = min (32 * (t.val % 16 + 1)) 511 ∧ win0_12.index t 1 = t.val / 16) :=
  (by decide +kernel : ∀ t : Fin grid0.N, (win0_8.index t 0 = min (32 * (t.val % 16 + 1)) 511 ∧ win0_8.index t 1 = t.val / 16) ∧ (win0_10.index t 0 = min (32 * (t.val % 16 + 1)) 511 ∧ win0_10.index t 1 = t.val / 16) ∧ (win0_12.index t 0 = min (32 * (t.val % 16 + 1)) 511 ∧ win0_12.index t 1 = t.val / 16))

/-- the cotangent's rows, the weight, the taps. -/
theorem at_rest : ∀ t : Fin cfg0.N, (win0_4.index t 0 = t.val % 16 ∧ win0_4.index t 1 = 0) ∧ (win0_5.index t 0 = min (32 * (t.val % 16 + 1)) 511 ∧ win0_5.index t 1 = 0)
    ∧ (win0_6.index t 0 = 0 ∧ win0_6.index t 1 = t.val / 16) ∧ (win0_13.index t 0 = 0 ∧ win0_13.index t 1 = t.val / 16)
    ∧ (win0_14.index t 0 = 0 ∧ win0_14.index t 1 = t.val / 16 + 2) :=
  (by decide +kernel : ∀ t : Fin grid0.N, (win0_4.index t 0 = t.val % 16 ∧ win0_4.index t 1 = 0) ∧ (win0_5.index t 0 = min (32 * (t.val % 16 + 1)) 511 ∧ win0_5.index t 1 = 0)
    ∧ (win0_6.index t 0 = 0 ∧ win0_6.index t 1 = t.val / 16) ∧ (win0_13.index t 0 = 0 ∧ win0_13.index t 1 = t.val / 16)
    ∧ (win0_14.index t 0 = 0 ∧ win0_14.index t 1 = t.val / 16 + 2))

theorem lt32 (t : Fin cfg0.N) : t.val < 32 := lt_of_lt_of_eq t.isLt N_0
theorem mod_lt (t : Fin cfg0.N) : t.val % 16 < 16 := Nat.mod_lt _ (by decide)

/-- A column of the point's column block. -/
def col (t : Fin cfg0.N) (q : Fin 1408) : Fin 2816 := ⟨1408 * (t.val / 16) + q.val, by have := lt32 t; omega⟩

theorem row_lt {i : ℕ} (hi : i < 16) (p : Fin 256) : (row 256 i p : Fin 4096).val = 256 * i + p.val := row_val p 16 rfl hi

theorem read0 (A : FVec Ideal S4096x2816 .f32) (t : Fin cfg0.N) (p : Fin 256) (q : Fin 1408) :
    ((cfg0.win 0).blk t).view.read (Elt Ideal) A (ix2 p q) = A (ix2 (row 256 (t.val % 16) p) (col t q)) := by
  rw [View.read_apply]
  refine congrArg A (funext fun x => Fin.ext ?_)
  match x with
  | ⟨0, _⟩ =>
    show win0_0.index t 0 * 256 + 1 * p.val = (row 256 (t.val % 16) p : Fin 4096).val
    rw [(at_rows t).1.1, row_lt (mod_lt t)]
    omega
  | ⟨1, _⟩ =>
    show win0_0.index t 1 * 1408 + 1 * q.val = 1408 * (t.val / 16) + q.val
    rw [(at_rows t).1.2]
    omega

theorem read1 (A : FVec Ideal S4096x2816 .f32) (t : Fin cfg0.N) (p : Fin 256) (q : Fin 1408) :
    ((cfg0.win 1).blk t).view.read (Elt Ideal) A (ix2 p q) = A (ix2 (row 256 (t.val % 16) p) (col t q)) := by
  rw [View.read_apply]
  refine congrArg A (funext fun x => Fin.ext ?_)
  match x with
  | ⟨0, _⟩ =>
    show win0_1.index t 0 * 256 + 1 * p.val = (row 256 (t.val % 16) p : Fin 4096).val
    rw [(at_rows t).2.1.1, row_lt (mod_lt t)]
    omega
  | ⟨1, _⟩ =>
    show win0_1.index t 1 * 1408 + 1 * q.val = 1408 * (t.val / 16) + q.val
    rw [(at_rows t).2.1.2]
    omega

theorem read7 (A : FVec Ideal S4096x2816 .f32) (t : Fin cfg0.N) (p : Fin 256) (q : Fin 1408) :
    ((cfg0.win 7).blk t).view.read (Elt Ideal) A (ix2 p q) = A (ix2 (row 256 (t.val % 16) p) (col t q)) := by
  rw [View.read_apply]
  refine congrArg A (funext fun x => Fin.ext ?_)
  match x with
  | ⟨0, _⟩ =>
    show win0_7.index t 0 * 256 + 1 * p.val = (row 256 (t.val % 16) p : Fin 4096).val
    rw [(at_rows t).2.2.1.1, row_lt (mod_lt t)]
    omega
  | ⟨1, _⟩ =>
    show win0_7.index t 1 * 1408 + 1 * q.val = 1408 * (t.val / 16) + q.val
    rw [(at_rows t).2.2.1.2]
    omega

theorem read9 (A : FVec Ideal S4096x2816 .f32) (t : Fin cfg0.N) (p : Fin 256) (q : Fin 1408) :
    ((cfg0.win 9).blk t).view.read (Elt Ideal) A (ix2 p q) = A (ix2 (row 256 (t.val % 16) p) (col t q)) := by
  rw [View.read_apply]
  refine congrArg A (funext fun x => Fin.ext ?_)
  match x with
  | ⟨0, _⟩ =>
    show win0_9.index t 0 * 256 + 1 * p.val = (row 256 (t.val % 16) p : Fin 4096).val
    rw [(at_rows t).2.2.2.1.1, row_lt (mod_lt t)]
    omega
  | ⟨1, _⟩ =>
    show win0_9.index t 1 * 1408 + 1 * q.val = 1408 * (t.val / 16) + q.val
    rw [(at_rows t).2.2.2.1.2]
    omega

theorem read11 (A : FVec Ideal S4096x2816 .f32) (t : Fin cfg0.N) (p : Fin 256) (q : Fin 1408) :
    ((cfg0.win 11).blk t).view.read (Elt Ideal) A (ix2 p q) = A (ix2 (row 256 (t.val % 16) p) (col t q)) := by
  rw [View.read_apply]
  refine congrArg A (funext fun x => Fin.ext ?_)
  match x with
  | ⟨0, _⟩ =>
    show win0_11.index t 0 * 256 + 1 * p.val = (row 256 (t.val % 16) p : Fin 4096).val
    rw [(at_rows t).2.2.2.2.1, row_lt (mod_lt t)]
    omega
  | ⟨1, _⟩ =>
    show win0_11.index t 1 * 1408 + 1 * q.val = 1408 * (t.val / 16) + q.val
    rw [(at_rows t).2.2.2.2.2]
    omega

theorem read2 (A : FVec Ideal S4096x2816 .f32) (t : Fin cfg0.N) (k : Fin 8) (q : Fin 1408) (r : Fin 4096)
    (hr : r.val + 8 = 256 * (t.val % 16) + k.val) :
    ((cfg0.win 2).blk t).view.read (Elt Ideal) A (ix2 k q) = A (ix2 r (col t q)) := by
  rw [View.read_apply]
  refine congrArg A (funext fun x => Fin.ext ?_)
  match x with
  | ⟨0, _⟩ =>
    show win0_2.index t 0 * 8 + 1 * k.val = r.val
    rw [(at_before t).1.1]
    omega
  | ⟨1, _⟩ =>
    show win0_2.index t 1 * 1408 + 1 * q.val = 1408 * (t.val / 16) + q.val
    rw [(at_before t).1.2]
    omega

theorem read3 (A : FVec Ideal S4096x2816 .f32) (t : Fin cfg0.N) (k : Fin 8) (q : Fin 1408) (r : Fin 4096)
    (hr : r.val + 8 = 256 * (t.val % 16) + k.val) :
    ((cfg0.win 3).blk t).view.read (Elt Ideal) A (ix2 k q) = A (ix2 r (col t q)) := by
  rw [View.read_apply]
  refine congrArg A (funext fun x => Fin.ext ?_)
  match x with
  | ⟨0, _⟩ =>
    show win0_3.index t 0 * 8 + 1 * k.val = r.val
    rw [(at_before t).2.1]
    omega
  | ⟨1, _⟩ =>
    show win0_3.index t 1 * 1408 + 1 * q.val = 1408 * (t.val / 16) + q.val
    rw [(at_before t).2.2]
    omega

theorem read8 (A : FVec Ideal S4096x2816 .f32) (t : Fin cfg0.N) (k : Fin 8) (q : Fin 1408) (r : Fin 4096)
    (hr : r.val = 256 * (t.val % 16 + 1) + k.val) :
    ((cfg0.win 8).blk t).view.read (Elt Ideal) A (ix2 k q) = A (ix2 r (col t q)) := by
  rw [View.read_apply]
  refine congrArg A (funext fun x => Fin.ext ?_)
  match x with
  | ⟨0, _⟩ =>
    show win0_8.index t 0 * 8 + 1 * k.val = r.val
    rw [(at_after t).1.1]
    omega
  | ⟨1, _⟩ =>
    show win0_8.index t 1 * 1408 + 1 * q.val = 1408 * (t.val / 16) + q.val
    rw [(at_after t).1.2]
    omega

theorem read10 (A : FVec Ideal S4096x2816 .f32) (t : Fin cfg0.N) (k : Fin 8) (q : Fin 1408) (r : Fin 4096)
    (hr : r.val = 256 * (t.val % 16 + 1) + k.val) :
    ((cfg0.win 10).blk t).view.read (Elt Ideal) A (ix2 k q) = A (ix2 r (col t q)) := by
  rw [View.read_apply]
  refine congrArg A (funext fun x => Fin.ext ?_)
  match x with
  | ⟨0, _⟩ =>
    show win0_10.index t 0 * 8 + 1 * k.val = r.val
    rw [(at_after t).2.1.1]
    omega
  | ⟨1, _⟩ =>
    show win0_10.index t 1 * 1408 + 1 * q.val = 1408 * (t.val / 16) + q.val
    rw [(at_after t).2.1.2]
    omega

theorem read12 (A : FVec Ideal S4096x2816 .f32) (t : Fin cfg0.N) (k : Fin 8) (q : Fin 1408) (r : Fin 4096)
    (hr : r.val = 256 * (t.val % 16 + 1) + k.val) :
    ((cfg0.win 12).blk t).view.read (Elt Ideal) A (ix2 k q) = A (ix2 r (col t q)) := by
  rw [View.read_apply]
  refine congrArg A (funext fun x => Fin.ext ?_)
  match x with
  | ⟨0, _⟩ =>
    show win0_12.index t 0 * 8 + 1 * k.val = r.val
    rw [(at_after t).2.2.1]
    omega
  | ⟨1, _⟩ =>
    show win0_12.index t 1 * 1408 + 1 * q.val = 1408 * (t.val / 16) + q.val
    rw [(at_after t).2.2.2]
    omega

theorem read4 (A : FVec Ideal S4096x1024 .f32) (t : Fin cfg0.N) (p : Fin 256) (k : Fin 1024) :
    ((cfg0.win 4).blk t).view.read (Elt Ideal) A (ix2 p k) = A (ix2 (row 256 (t.val % 16) p) k) := by
  rw [View.read_apply]
  refine congrArg A (funext fun x => Fin.ext ?_)
  match x with
  | ⟨0, _⟩ =>
    show win0_4.index t 0 * 256 + 1 * p.val = (row 256 (t.val % 16) p : Fin 4096).val
    rw [(at_rest t).1.1, row_lt (mod_lt t)]
    omega
  | ⟨1, _⟩ =>
    show win0_4.index t 1 * 1024 + 1 * k.val = k.val
    rw [(at_rest t).1.2]
    omega

theorem read5 (A : FVec Ideal S4096x1024 .f32) (t : Fin cfg0.N) (p : Fin 8) (k : Fin 1024) (r : Fin 4096)
    (hr : r.val = 256 * (t.val % 16 + 1) + p.val) :
    ((cfg0.win 5).blk t).view.read (Elt Ideal) A (ix2 p k) = A (ix2 r k) := by
  rw [View.read_apply]
  refine congrArg A (funext fun x => Fin.ext ?_)
  match x with
  | ⟨0, _⟩ =>
    show win0_5.index t 0 * 8 + 1 * p.val = r.val
    rw [(at_rest t).2.1.1]
    omega
  | ⟨1, _⟩ =>
    show win0_5.index t 1 * 1024 + 1 * k.val = k.val
    rw [(at_rest t).2.1.2]
    omega

theorem read6 (A : FVec Ideal S1024x2816 .bf16) (t : Fin cfg0.N) (k : Fin 1024) (q : Fin 1408) :
    ((cfg0.win 6).blk t).view.read (Elt Ideal) A (ix2 k q) = A (ix2 k (col t q)) := by
  rw [View.read_apply]
  refine congrArg A (funext fun x => Fin.ext ?_)
  match x with
  | ⟨0, _⟩ =>
    show win0_6.index t 0 * 1024 + 1 * k.val = k.val
    rw [(at_rest t).2.2.1.1]
    omega
  | ⟨1, _⟩ =>
    show win0_6.index t 1 * 1408 + 1 * q.val = 1408 * (t.val / 16) + q.val
    rw [(at_rest t).2.2.1.2]
    omega

theorem read13 (A : FVec Ideal S3x5632 .f32) (t : Fin cfg0.N) (k : Fin 3) (q : Fin 1408) :
    ((cfg0.win 13).blk t).view.read (Elt Ideal) A (ix2 k q) = A (ix2 k (lo (col t q))) := by
  rw [View.read_apply]
  refine congrArg A (funext fun x => Fin.ext ?_)
  match x with
  | ⟨0, _⟩ =>
    show win0_13.index t 0 * 3 + 1 * k.val = k.val
    rw [(at_rest t).2.2.2.1.1]
    omega
  | ⟨1, _⟩ =>
    show win0_13.index t 1 * 1408 + 1 * q.val = 1408 * (t.val / 16) + q.val
    rw [(at_rest t).2.2.2.1.2]
    omega

theorem read14 (A : FVec Ideal S3x5632 .f32) (t : Fin cfg0.N) (k : Fin 3) (q : Fin 1408) :
    ((cfg0.win 14).blk t).view.read (Elt Ideal) A (ix2 k q) = A (ix2 k (hi (col t q))) := by
  rw [View.read_apply]
  refine congrArg A (funext fun x => Fin.ext ?_)
  match x with
  | ⟨0, _⟩ =>
    show win0_14.index t 0 * 3 + 1 * k.val = k.val
    rw [(at_rest t).2.2.2.2.1]
    omega
  | ⟨1, _⟩ =>
    show win0_14.index t 1 * 1408 + 1 * q.val = 2816 + (1408 * (t.val / 16) + q.val)
    rw [(at_rest t).2.2.2.2.2]
    omega

end Cert.GateIdeal.Blocks

end
-- ==== Proof.Gate.Payloads.lean ====
/-
  What a point of the gate's backward grid computes, entry by entry: a column moved down or up its rows with the rows of the
  neighbouring block put in, and the sums over a block's rows.
-/
module

public import proofs.«01_k».proof.Proof.Gen.GateIdeal.Skeleton
public import proofs.«01_k».proof.Proof.Base.At
public import proofs.«01_k».proof.Proof.Base.Rows
public import proofs.«01_k».proof.Proof.Base.Reals
public import proofs.«01_k».proof.Proof.Gate.Blocks
public import Idealize.ShloMosaic.Lib.KernelVsHost
public import Idealize.ShloMosaic.Lib.Pointwise.ElementwiseCore

@[expose] public section

set_option maxRecDepth 16384

noncomputable section

namespace Cert.GateIdeal.Payloads

open Cert.GateIdeal Cert.GateIdeal.Gen Cert.GateIdeal.Blocks Cert.Gate.Math Cert.Rows Cert.Reals
open Idealize.ShloMosaic ValueIdx

/-! ## The layout -/

theorem turn (x : FVec Ideal S256x1408 .f32) (n : BitVec 32) (p p' : Fin 256) (q : Fin 1408) (hp : p'.val = (p.val + 256 - n.toNat % 256) % 256) :
    dynamicRotate 0 n none x rotates_S256x1408_d0 (ix2 p q) = x (ix2 p' q) :=
  dynamicRotate_apply 0 n x rotates_S256x1408_d0 (ix2 p q) (ix2 p' q) fun b => match b with
    | ⟨0, _⟩ => hp
    | ⟨1, _⟩ => rfl

/-- One row put in at row `k` of eight. -/
theorem put (k : Fin 8) (w : BitVec 32) (hw : w = BitVec.ofNat 32 k.val) (r : FVec Ideal S1x1408 .f32) (e : FVec Ideal S8x1408 .f32) (p : Fin 8) (q : Fin 1408) :
    select (cmpi .eq (iota .tc S8x1408 32 [0] iota_S8x1408_d0_w32) (broadcast S8x1408 w))
      (broadcastTo S8x1408 (shapeCast S1x1408 r shapeCasts_S1x1408_S1x1408) broadcasts_S1x1408_S8x1408) e (ix2 p q)
      = if p = k then r (ix2 0 q) else e (ix2 p q) := by
  subst hw
  rw [select_apply, cmpi_apply, iota_single_apply, shapeCast_self, At.row]
  show Scalar.select (IntOp.cmpi .eq (BitVec.ofNat 32 p.val) (BitVec.ofNat 32 k.val)) _ _ = _
  have e : IntOp.cmpi .eq (BitVec.ofNat 32 p.val) (BitVec.ofNat 32 k.val) = if p = k then 1#1 else 0#1 := by
    revert p k
    decide
  rw [e]
  split <;> rfl

theorem part8 (x : FVec Ideal S256x1408 .f32) (o : ℕ) (hs : S256x1408.Slices ![o, 0] S8x1408) (p : Fin 8) (p' : Fin 256) (q : Fin 1408) (hp : p'.val = o + p.val) :
    extractStridedSlice S8x1408 ![o, 0] x hs (ix2 p q) = x (ix2 p' q) :=
  extractStridedSlice_apply ![o, 0] x hs (ix2 p q) (ix2 p' q) fun a => match a with
    | ⟨0, _⟩ => hp
    | ⟨1, _⟩ => (Nat.zero_add _).symm

theorem part248 (x : FVec Ideal S256x1408 .f32) (o : ℕ) (hs : S256x1408.Slices ![o, 0] S248x1408) (p : Fin 248) (p' : Fin 256) (q : Fin 1408) (hp : p'.val = o + p.val) :
    extractStridedSlice S248x1408 ![o, 0] x hs (ix2 p q) = x (ix2 p' q) :=
  extractStridedSlice_apply ![o, 0] x hs (ix2 p q) (ix2 p' q) fun a => match a with
    | ⟨0, _⟩ => hp
    | ⟨1, _⟩ => (Nat.zero_add _).symm

theorem one8 (h : FVec Ideal S8x1408 .f32) (o : Fin 8) (n : ℕ) (hn : n = o.val) (hs : S8x1408.Slices ![n, 0] S1x1408) (q : Fin 1408) :
    extractStridedSlice S1x1408 ![n, 0] h hs (ix2 0 q) = h (ix2 o q) :=
  extractStridedSlice_apply ![n, 0] h hs (ix2 0 q) (ix2 o q) fun a => match a with
    | ⟨0, _⟩ => by show o.val = n + 0; omega
    | ⟨1, _⟩ => (Nat.zero_add _).symm

theorem one3 (w : FVec Ideal S3x1408 .f32) (o : Fin 3) (n : ℕ) (hn : n = o.val) (hs : S3x1408.Slices ![n, 0] S1x1408) (q : Fin 1408) :
    extractStridedSlice S1x1408 ![n, 0] w hs (ix2 0 q) = w (ix2 o q) :=
  extractStridedSlice_apply ![n, 0] w hs (ix2 0 q) (ix2 o q) fun a => match a with
    | ⟨0, _⟩ => by show o.val = n + 0; omega
    | ⟨1, _⟩ => (Nat.zero_add _).symm

/-- Eight rows on top of the others. -/
theorem over (a : FVec Ideal S8x1408 .f32) (b : FVec Ideal S248x1408 .f32) (p : Fin 256) (q : Fin 1408) :
    concatenate S256x1408 0 [⟨S8x1408, a⟩, ⟨S248x1408, b⟩] concatenates_S8x1408_S248x1408_S256x1408_d0 (ix2 p q)
      = if h : p.val < 8 then a (ix2 ⟨p.val, h⟩ q) else b (ix2 ⟨p.val - 8, by omega⟩ q) := by
  split
  · exact concatenate_pair_apply_left (t := S256x1408) (s₁ := S8x1408) (s₂ := S248x1408) (0 : Fin 2) _ _ _ _ rfl (ix2 _ q) fun b => match b with
      | ⟨0, _⟩ => rfl
      | ⟨1, _⟩ => rfl
  · refine concatenate_pair_apply_right (t := S256x1408) (s₁ := S8x1408) (s₂ := S248x1408) (0 : Fin 2) _ _ _ _ rfl rfl (ix2 _ q) (fun b hb => ?_) ?_
    · match b with
      | ⟨0, _⟩ => exact absurd rfl hb
      | ⟨1, _⟩ => rfl
    · show p.val - 8 + 8 = p.val
      omega

/-- Eight rows below the others. -/
theorem under (a : FVec Ideal S248x1408 .f32) (b : FVec Ideal S8x1408 .f32) (p : Fin 256) (q : Fin 1408) :
    concatenate S256x1408 0 [⟨S248x1408, a⟩, ⟨S8x1408, b⟩] concatenates_S248x1408_S8x1408_S256x1408_d0 (ix2 p q)
      = if h : p.val < 248 then a (ix2 ⟨p.val, h⟩ q) else b (ix2 ⟨p.val - 248, by omega⟩ q) := by
  split
  · exact concatenate_pair_apply_left (t := S256x1408) (s₁ := S248x1408) (s₂ := S8x1408) (0 : Fin 2) _ _ _ _ rfl (ix2 _ q) fun b => match b with
      | ⟨0, _⟩ => rfl
      | ⟨1, _⟩ => rfl
  · refine concatenate_pair_apply_right (t := S256x1408) (s₁ := S248x1408) (s₂ := S8x1408) (0 : Fin 2) _ _ _ _ rfl rfl (ix2 _ q) (fun b hb => ?_) ?_
    · match b with
      | ⟨0, _⟩ => exact absurd rfl hb
      | ⟨1, _⟩ => rfl
    · show p.val - 248 + 248 = p.val
      omega

/-! ## A column moved -/

section
variable (x : FVec Ideal S256x1408 .f32) (h : FVec Ideal S8x1408 .f32) (p : Fin 256) (q : Fin 1408)

theorem prev1 : k0_pay20 x h (ix2 p q) = if p.val = 0 then h (ix2 7 q) else x (ix2 ⟨p.val - 1, by omega⟩ q) := by
  unfold k0_pay20 k0_pay19
  dsimp only
  rw [over]
  split
  · rw [put 0 0#32 rfl, part8 _ 0 _ _ p q (Nat.zero_add _).symm]
    by_cases hp : p.val = 0
    · rw [if_pos (Fin.ext hp), if_pos hp, one8 h 7 7 rfl]
    · rw [if_neg fun e => hp (congrArg Fin.val e), if_neg hp]
      exact turn x 1#32 p ⟨p.val - 1, by omega⟩ q (by show p.val - 1 = (p.val + 256 - 1) % 256; omega)
  · rw [part248 _ 8 _ _ p q (by show p.val = 8 + (p.val - 8); omega), if_neg (by omega)]
    exact turn x 1#32 p ⟨p.val - 1, by omega⟩ q (by show p.val - 1 = (p.val + 256 - 1) % 256; omega)

theorem prev2 : k0_pay21 x h (ix2 p q) = if p.val = 0 then h (ix2 6 q) else if p.val = 1 then h (ix2 7 q) else x (ix2 ⟨p.val - 2, by omega⟩ q) := by
  unfold k0_pay21 k0_pay19
  dsimp only
  rw [over]
  split
  · rw [put 0 0#32 rfl, put 1 1#32 rfl, part8 _ 0 _ _ p q (Nat.zero_add _).symm]
    by_cases hp : p.val = 0
    · rw [if_pos (Fin.ext hp), if_pos hp, one8 h 6 6 rfl]
    · rw [if_neg fun e => hp (congrArg Fin.val e), if_neg hp]
      by_cases hp1 : p.val = 1
      · rw [if_pos (Fin.ext hp1), if_pos hp1, one8 h 7 7 rfl]
      · rw [if_neg fun e => hp1 (congrArg Fin.val e), if_neg hp1]
        exact turn x 2#32 p ⟨p.val - 2, by omega⟩ q (by show p.val - 2 = (p.val + 256 - 2) % 256; omega)
  · rw [part248 _ 8 _ _ p q (by show p.val = 8 + (p.val - 8); omega), if_neg (by omega), if_neg (by omega)]
    exact turn x 2#32 p ⟨p.val - 2, by omega⟩ q (by show p.val - 2 = (p.val + 256 - 2) % 256; omega)

theorem next2 : k0_pay35 x h (ix2 p q)
    = if h2 : p.val + 2 < 256 then x (ix2 ⟨p.val + 2, h2⟩ q) else if p.val = 255 then h (ix2 1 q) else h (ix2 0 q) := by
  unfold k0_pay35 k0_pay34
  dsimp only
  rw [under]
  split
  · rw [part248 _ 0 _ _ p q (Nat.zero_add _).symm, dif_pos (by omega)]
    exact turn x 254#32 p ⟨p.val + 2, by omega⟩ q (by show p.val + 2 = (p.val + 256 - 254) % 256; omega)
  · rw [put 7 7#32 rfl, put 6 6#32 rfl, part8 _ 248 _ _ p q (by show p.val = 248 + (p.val - 248); omega)]
    by_cases hp : p.val = 255
    · rw [if_pos (Fin.ext (by show p.val - 248 = 7; omega)), dif_neg (by omega), if_pos hp, one8 h 1 1 rfl]
    · rw [if_neg fun e => hp (by have : p.val - 248 = 7 := congrArg Fin.val e; omega)]
      by_cases hp1 : p.val = 254
      · rw [if_pos (Fin.ext (by show p.val - 248 = 6; omega)), dif_neg (by omega), if_neg hp, one8 h 0 0 rfl]
      · rw [if_neg fun e => hp1 (by have : p.val - 248 = 6 := congrArg Fin.val e; omega), dif_pos (by omega)]
        exact turn x 254#32 p ⟨p.val + 2, by omega⟩ q (by show p.val + 2 = (p.val + 256 - 254) % 256; omega)

theorem next1 (w : FVec Ideal S3x1408 .f32) : k0_pay37 w x h (ix2 p q)
    = w (ix2 2 q) * x (ix2 p q) + w (ix2 1 q) * (if h1 : p.val + 1 < 256 then x (ix2 ⟨p.val + 1, h1⟩ q) else h (ix2 0 q)) := by
  unfold k0_pay37 k0_pay34
  dsimp only
  rw [addf_apply, mulf_apply, mulf_apply, At.row, At.row, one3 w 2 2 rfl, one3 w 1 1 rfl, under]
  congr 2
  split
  · rw [part248 _ 0 _ _ p q (Nat.zero_add _).symm, dif_pos (by omega)]
    exact turn x 255#32 p ⟨p.val + 1, by omega⟩ q (by show p.val + 1 = (p.val + 256 - 255) % 256; omega)
  · rw [put 7 7#32 rfl, part8 _ 248 _ _ p q (by show p.val = 248 + (p.val - 248); omega)]
    by_cases hp : p.val = 255
    · rw [if_pos (Fin.ext (by show p.val - 248 = 7; omega)), dif_neg (by omega), one8 h 0 0 rfl]
    · rw [if_neg fun e => hp (by have : p.val - 248 = 7 := congrArg Fin.val e; omega), dif_pos (by omega)]
      exact turn x 255#32 p ⟨p.val + 1, by omega⟩ q (by show p.val + 1 = (p.val + 256 - 255) % 256; omega)

end

/-! ## Over the reals -/

section
variable {x : FVec Ideal S256x1408 .f32} {h : FVec Ideal S8x1408 .f32} {q : Fin 1408} {i : ℕ} {X : Fin 4096 → ℝ}

theorem back_eq {n n' : ℕ} {r r' : Fin 4096} (e : (n : ℤ) - r.val = n' - r'.val) : back n X r = back n' X r' := by
  unfold back
  by_cases hn : n ≤ r.val
  · rw [if_pos hn, if_pos (by omega)]
    exact congrArg X (Fin.ext (by show r.val - n = r'.val - n'; omega))
  · rw [if_neg hn, if_neg (by omega)]

theorem ahead_eq {n n' : ℕ} {r r' : Fin 4096} (e : r.val + n = r'.val + n') : ahead n X r = ahead n' X r' := by
  unfold ahead
  by_cases hn : r.val + n < 4096
  · rw [dif_pos hn, dif_pos (by omega)]
    exact congrArg X (Fin.ext e)
  · rw [dif_neg hn, dif_neg (by omega)]

theorem ahead_zero (r : Fin 4096) : ahead 0 X r = X r := dif_pos r.isLt

section
variable (hi : i < 16) (hx : ∀ p : Fin 256, x (ix2 p q) = ((X (row 256 i p) : ℝ) : EReal))
include hi hx

section
variable (hh : ∀ k : Fin 8, h (ix2 k q) = ((back (8 - k.val) X (row 256 i 0) : ℝ) : EReal))
include hh

theorem back1 (p : Fin 256) : k0_pay20 x h (ix2 p q) = ((back 1 X (row 256 i p) : ℝ) : EReal) := by
  have h0 := row_lt hi p
  have h1 := row_lt hi 0
  rw [prev1]
  split
  · rw [hh]
    exact congrArg (fun y : ℝ => (y : EReal)) (back_eq (by rw [h0, h1]; simp; omega))
  · have h2 := row_lt hi ⟨p.val - 1, by omega⟩
    rw [hx, ← back_zero X]
    exact congrArg (fun y : ℝ => (y : EReal)) (back_eq (by rw [h0, h2]; simp; omega))

theorem back2 (p : Fin 256) : k0_pay21 x h (ix2 p q) = ((back 2 X (row 256 i p) : ℝ) : EReal) := by
  have h0 := row_lt hi p
  have h1 := row_lt hi 0
  rw [prev2]
  split
  · rw [hh]
    exact congrArg (fun y : ℝ => (y : EReal)) (back_eq (by rw [h0, h1]; simp; omega))
  · split
    · rw [hh]
      exact congrArg (fun y : ℝ => (y : EReal)) (back_eq (by rw [h0, h1]; simp; omega))
    · have h2 := row_lt hi ⟨p.val - 2, by omega⟩
      rw [hx, ← back_zero X]
      exact congrArg (fun y : ℝ => (y : EReal)) (back_eq (by rw [h0, h2]; simp; omega))

end

section
variable (hh : ∀ k : Fin 8, h (ix2 k q) = ((ahead (k.val + 1) X (row 256 i 255) : ℝ) : EReal))
include hh

theorem ahead1 (p : Fin 256) : (if h1 : p.val + 1 < 256 then x (ix2 ⟨p.val + 1, h1⟩ q) else h (ix2 0 q)) = ((ahead 1 X (row 256 i p) : ℝ) : EReal) := by
  have h0 := row_lt hi p
  have h1 := row_lt hi 255
  split
  · rename_i hp
    have h2 := row_lt hi ⟨p.val + 1, hp⟩
    rw [hx, ← ahead_zero (X := X)]
    exact congrArg (fun y : ℝ => (y : EReal)) (ahead_eq (by rw [h0, h2]; simp; omega))
  · rw [hh]
    exact congrArg (fun y : ℝ => (y : EReal)) (ahead_eq (by rw [h0, h1]; simp; omega))

theorem ahead2 (p : Fin 256) : k0_pay35 x h (ix2 p q) = ((ahead 2 X (row 256 i p) : ℝ) : EReal) := by
  have h0 := row_lt hi p
  have h1 := row_lt hi 255
  rw [next2]
  split
  · rename_i hp
    have h2 := row_lt hi ⟨p.val + 2, hp⟩
    rw [hx, ← ahead_zero (X := X)]
    exact congrArg (fun y : ℝ => (y : EReal)) (ahead_eq (by rw [h0, h2]; simp; omega))
  · split <;> rw [hh] <;> exact congrArg (fun y : ℝ => (y : EReal)) (ahead_eq (by rw [h0, h1]; simp; omega))

/-- The gradient of the rows. -/
theorem rows (T : Args) (c : Fin 5632) {w : FVec Ideal S3x1408 .f32} (hw : ∀ k, w (ix2 k q) = ((T.W k c : ℝ) : EReal)) (p : Fin 256) :
    k0_pay39 (k0_pay35 x h) (k0_pay37 w x h) (k0_pay38 w) (ix2 p q) = ((T.du X c (row 256 i p) : ℝ) : EReal) := by
  unfold k0_pay39 k0_pay38
  show k0_pay37 w x h (ix2 p q) + broadcastTo _ _ _ (ix2 p q) * k0_pay35 x h (ix2 p q) = _
  rw [next1, ahead1 hi hx hh, ahead2 hi hx hh, At.row, one3 w 0 0 rfl, hw, hw, hw, hx, ← EReal.coe_mul, ← EReal.coe_mul, ← EReal.coe_mul,
    ← EReal.coe_add, ← EReal.coe_add]
  rfl

end

/-- The gradient of the taps, from the gradient `y` of the convolution. -/
theorem taps {E : Fin 4096 → ℝ} {y : FVec Ideal S256x1408 .f32} (hy : ∀ p : Fin 256, y (ix2 p q) = ((E (row 256 i p) : ℝ) : EReal))
    (hh : ∀ k : Fin 8, h (ix2 k q) = ((back (8 - k.val) X (row 256 i 0) : ℝ) : EReal)) (o : FVec Ideal S3x1408 .f32) (k : Fin 3) :
    k0_pay41 x (k0_pay20 x h) (k0_pay21 x h) y o (ix2 k q)
      = o (ix2 k q) + ((∑ p : Fin 256, E (row 256 i p) * back (2 - k.val) X (row 256 i p) : ℝ) : EReal) := by
  have s (b : FVec Ideal S256x1408 .f32) (n : ℕ) (hb : ∀ p : Fin 256, b (ix2 p q) = ((back n X (row 256 i p) : ℝ) : EReal)) :
      shapeCast S1x1408 (multiReduction .add [0] S1408 (mulf y b) 0x00000000#32 reduces_S256x1408_S1408 (.inl rfl) rfl) shapeCasts_S1408_S1x1408 (ix2 0 q)
        = ((∑ p : Fin 256, E (row 256 i p) * back n X (row 256 i p) : ℝ) : EReal) := by
    refine (At.toRow _ _ 0 q).trans ((At.sumCol (mulf y b) _ _ _ q).trans ?_)
    simp only [mulf_apply, hy, hb, ← EReal.coe_mul, sum_coe]
  unfold k0_pay41
  dsimp only
  rw [addf_apply, shapeCast_self]
  congr 1
  match k with
  | ⟨0, _⟩ =>
    refine (concatenate_apply_piece (t := S3x1408) (0 : Fin 2) _ _ _ 0 (by show 0 < 3; decide) S1x1408 _ rfl rfl 0 rfl (ix2 0 q) (fun b hb => ?_) rfl).trans (s _ 2 (back2 hi hx hh))
    match b with
    | ⟨0, _⟩ => exact absurd rfl hb
    | ⟨1, _⟩ => rfl
  | ⟨1, _⟩ =>
    refine (concatenate_apply_piece (t := S3x1408) (0 : Fin 2) _ _ _ 1 (by show 1 < 3; decide) S1x1408 _ rfl rfl 1 rfl (ix2 0 q) (fun b hb => ?_) rfl).trans (s _ 1 (back1 hi hx hh))
    match b with
    | ⟨0, _⟩ => exact absurd rfl hb
    | ⟨1, _⟩ => rfl
  | ⟨2, _⟩ =>
    refine (concatenate_apply_piece (t := S3x1408) (0 : Fin 2) _ _ _ 2 (by show 2 < 3; decide) S1x1408 _ rfl rfl 2 rfl (ix2 0 q) (fun b hb => ?_) rfl).trans
      (s _ 0 fun p => (hx p).trans (congrArg (fun y : ℝ => (y : EReal)) (back_zero X _).symm))
    match b with
    | ⟨0, _⟩ => exact absurd rfl hb
    | ⟨1, _⟩ => rfl

/-- The gradient of the shift. -/
theorem shift (o : FVec Ideal S1x1408 .f32) : k0_pay1 x o (ix2 0 q) = o (ix2 0 q) + ((∑ p : Fin 256, X (row 256 i p) : ℝ) : EReal) := by
  unfold k0_pay1
  dsimp only
  rw [addf_apply, shapeCast_self, At.toRow, At.sumCol]
  simp only [hx, sum_coe]

end

/-! ## The rows of the neighbouring blocks -/

/-- Two rows of the block before, zero at the first block. -/
theorem before (j : grid0.Coords) (hj : (j 1).val < 16) (k : Fin 8) : k0_pay8 j h (ix2 k q) = if (j 1).val = 0 then 0 else h (ix2 k q) := by
  unfold k0_pay8
  dsimp only
  rw [shapeCast_self]
  have e : ∀ n : Fin 16, Scalar.cmpi .sgt (BitVec.ofNat 32 n.val) 0#32 = if n.val = 0 then 0#1 else 1#1 := by decide
  rw [e ⟨_, hj⟩]
  by_cases hz : (j 1).val = 0
  · rw [if_pos hz, if_pos hz]
    exact Ideal.ofBits_zero_f32
  · rw [if_neg hz, if_neg hz]
    rfl

theorem prod (wd : FVec Ideal S1024x1408 .bf16) (z : FVec Ideal S256x1024 .f32) (p : Fin 256) :
    k0_pay23 wd z (ix2 p q) = ∑ k : Fin 1024, z (ix2 p k) * wd (ix2 k q) := by
  unfold k0_pay23 k0_pay22
  dsimp only
  rw [shapeCast_self]
  exact At.mm rfl none _ _ p q

theorem prod8 (j : ℕ) (hj : j < 16) (wd : FVec Ideal S1024x1408 .bf16) (z : FVec Ideal S8x1024 .f32) (p : Fin 8) :
    k0_pay26 (BitVec.ofNat 32 j) (k0_pay22 wd) z (ix2 p q) = if j < 15 then ∑ k : Fin 1024, z (ix2 p k) * wd (ix2 k q) else 0 := by
  unfold k0_pay26 k0_pay22
  dsimp only
  rw [shapeCast_self]
  have e : ∀ n : Fin 16, Scalar.cmpi .slt (BitVec.ofNat 32 n.val) 15#32 = if n.val < 15 then 1#1 else 0#1 := by decide
  rw [e ⟨j, hj⟩]
  by_cases hz : j < 15
  · rw [if_pos hz, if_pos hz]
    exact At.mm rfl none _ _ p q
  · rw [if_neg hz, if_neg hz]
    exact Ideal.ofBits_zero_f32

end

end Cert.GateIdeal.Payloads

end
-- ==== Proof.Gate.Reference.lean ====
/-
  What the reference leaves, over the reals: its operations one by one, from the convolution down to the gradients.
-/
module

public import proofs.«01_k».proof.Proof.Gate.Math
public import proofs.«01_k».proof.Proof.Base.Reals
public import proofs.«01_k».proof.Proof.Gen.GateRefIdeal.Read
public import Idealize.ShloMosaic.Lib.KernelVsHost

@[expose] public section

noncomputable section

namespace Cert.GateRefIdeal.Reference

open Cert.GateRefIdeal Cert.GateRefIdeal.Read Cert.Reals Cert.Words Cert.Gate.Math Idealize.ShloMosaic ValueIdx

/-- The arguments are the real arrays. -/
structure Are (x0 : FVec Ideal S4096x5632 .f32) (x1 : FVec Ideal S3x5632 .f32) (x2 : FVec Ideal S5632 .f32)
    (x3 : FVec Ideal S2816x1024 .f32) (x4 : FVec Ideal S4096x1024 .f32) (T : Args) : Prop where
  u : ∀ i, x0 i = ((T.U (i 0) (i 1) : ℝ) : EReal)
  w : ∀ i, x1 i = ((T.W (i 0) (i 1) : ℝ) : EReal)
  b : ∀ i, x2 i = ((T.B (i 0) : ℝ) : EReal)
  d : ∀ i, x3 i = ((T.D (i 0) (i 1) : ℝ) : EReal)
  c : ∀ i, x4 i = ((T.C (i 0) (i 1) : ℝ) : EReal)

theorem zero_word : (FloatOps.ofBits .f32 0x00000000#32 : Ideal .f32) = (0 : EReal) := Ideal.ofBits_zero_f32

/-! ## Rows padded -/

section Pads

variable {m M n : ℕ} {x : FVec Ideal ⟨2, ![m, n]⟩ .f32} {a b : ℕ}
  {h : Shape.Pads ⟨2, ![m, n]⟩ ![a, 0] ![b, 0] ![0, 0] ⟨2, ![M, n]⟩} {v : FVec Ideal S_ .f32} {hu : 0 < S_.numel}

theorem pad_in (r : Fin M) (q : Fin n) (p : Fin m) (hr : r.val = a + p.val) :
    pad ⟨2, ![M, n]⟩ ![a, 0] ![b, 0] ![0, 0] x v h hu (ix2 r q) = x (ix2 p q) :=
  pad_apply_of_inside ![a, 0] ![b, 0] ![0, 0] x v h hu (ix2 r q) (ix2 p q) fun k => match k with
    | ⟨0, _⟩ => by show r.val = a + p.val * (0 + 1); omega
    | ⟨1, _⟩ => by show q.val = 0 + q.val * (0 + 1); omega

theorem pad_out (r : Fin M) (q : Fin n) (hr : r.val < a ∨ a + m ≤ r.val) :
    pad ⟨2, ![M, n]⟩ ![a, 0] ![b, 0] ![0, 0] x v h hu (ix2 r q) = v (Shape.Idx.first hu) :=
  pad_apply_of_not_inside ![a, 0] ![b, 0] ![0, 0] x v h hu (ix2 r q) (0 : Fin 2) fun e => by
    have e : a ≤ r.val ∧ (r.val - a) % (0 + 1) = 0 ∧ (r.val - a) / (0 + 1) < m := e
    omega

end Pads

variable {x0 : FVec Ideal S4096x5632 .f32} {x1 : FVec Ideal S3x5632 .f32} {x2 : FVec Ideal S5632 .f32}
variable {x3 : FVec Ideal S2816x1024 .f32} {x4 : FVec Ideal S4096x1024 .f32} {T : Args} (h : Are x0 x1 x2 x3 x4 T)
include h

/-! ## The convolution -/

theorem back2_at (r : Fin 4096) (q : Fin 5632) : val_main_v2 (F := Ideal) x0 (ix2 r q) = ((back 2 (T.U · q) r : ℝ) : EReal) := by
  unfold val_main_v2 back
  by_cases hr : 2 ≤ r.val
  · rw [if_pos hr]
    refine (concatenate_pair_apply_right (t := S4096x5632) (s₁ := S2x5632) (s₂ := S4094x5632) (0 : Fin 2) _ _ _ _ rfl rfl
      (ix2 (⟨r.val - 2, by omega⟩ : Fin 4094) q) (fun b hb => match b with
        | ⟨0, _⟩ => absurd rfl hb
        | ⟨1, _⟩ => rfl) (by show r.val - 2 + 2 = r.val; omega)).trans ?_
    rw [val_main_v1_apply, h.u]
    exact congrArg (fun p => ((T.U p q : ℝ) : EReal)) (Fin.ext rfl)
  · rw [if_neg hr]
    refine (concatenate_pair_apply_left (t := S4096x5632) (s₁ := S2x5632) (s₂ := S4094x5632) (0 : Fin 2) _ _ _ _ rfl
      (ix2 (⟨r.val, by omega⟩ : Fin 2) q) (fun b => match b with
        | ⟨0, _⟩ => rfl
        | ⟨1, _⟩ => rfl)).trans ?_
    rw [val_main_v0_apply, val_main_cst_apply]
    exact zero_word

theorem back1_at (r : Fin 4096) (q : Fin 5632) : val_main_v14 (F := Ideal) x0 (ix2 r q) = ((back 1 (T.U · q) r : ℝ) : EReal) := by
  unfold val_main_v14 back
  by_cases hr : 1 ≤ r.val
  · rw [if_pos hr]
    refine (concatenate_pair_apply_right (t := S4096x5632) (s₁ := S1x5632) (s₂ := S4095x5632) (0 : Fin 2) _ _ _ _ rfl rfl
      (ix2 (⟨r.val - 1, by omega⟩ : Fin 4095) q) (fun b hb => match b with
        | ⟨0, _⟩ => absurd rfl hb
        | ⟨1, _⟩ => rfl) (by show r.val - 1 + 1 = r.val; omega)).trans ?_
    rw [val_main_v13_apply, h.u]
    exact congrArg (fun p => ((T.U p q : ℝ) : EReal)) (Fin.ext rfl)
  · rw [if_neg hr]
    refine (concatenate_pair_apply_left (t := S4096x5632) (s₁ := S1x5632) (s₂ := S4095x5632) (0 : Fin 2) _ _ _ _ rfl
      (ix2 (⟨r.val, by omega⟩ : Fin 1) q) (fun b => match b with
        | ⟨0, _⟩ => rfl
        | ⟨1, _⟩ => rfl)).trans ?_
    rw [val_main_v12_apply, val_main_cst_1_apply]
    exact zero_word

theorem w0_at (z : Fin 1) (q : Fin 5632) : val_main_v6 (F := Ideal) x1 (ix2 z q) = ((T.W 0 q : ℝ) : EReal) := by
  rw [val_main_v6_apply, val_main_v5_apply, val_main_v4_apply, h.w]
  refine congrArg₂ (fun a b => ((T.W a b : ℝ) : EReal)) (Fin.ext rfl) (Fin.ext ?_)
  exact Nat.mod_eq_of_lt q.isLt

theorem w1_at (z : Fin 1) (q : Fin 5632) : val_main_v18 (F := Ideal) x1 (ix2 z q) = ((T.W 1 q : ℝ) : EReal) := by
  rw [val_main_v18_apply, val_main_v17_apply, val_main_v16_apply, h.w]
  refine congrArg₂ (fun a b => ((T.W a b : ℝ) : EReal)) (Fin.ext rfl) (Fin.ext ?_)
  exact Nat.mod_eq_of_lt q.isLt

theorem w2_at (z : Fin 1) (q : Fin 5632) : val_main_v24 (F := Ideal) x1 (ix2 z q) = ((T.W 2 q : ℝ) : EReal) := by
  rw [val_main_v24_apply, val_main_v23_apply, val_main_v22_apply, h.w]
  refine congrArg₂ (fun a b => ((T.W a b : ℝ) : EReal)) (Fin.ext rfl) (Fin.ext ?_)
  exact Nat.mod_eq_of_lt q.isLt

theorem y_at (r : Fin 4096) (q : Fin 5632) : val_main_v27 (F := Ideal) x0 x1 x2 (ix2 r q) = ((T.y r q : ℝ) : EReal) := by
  have e0 : idx_main_v7 (ix2 r q) = ix2 0 q := ValueIdx.eq_ix2 _
  have e1 : idx_main_v19 (ix2 r q) = ix2 0 q := ValueIdx.eq_ix2 _
  have e2 : idx_main_v25 (ix2 r q) = ix2 0 q := ValueIdx.eq_ix2 _
  rw [val_main_v27_apply, val_main_v26_apply, val_main_v25_apply, e2, val_main_v21_apply, val_main_v20_apply, val_main_v19_apply, e1,
    val_main_v11_apply, val_main_v10_apply, val_main_v9_apply, val_main_v8_apply, val_main_v7_apply, e0,
    w0_at h, w1_at h, w2_at h, back1_at h, back2_at h, h.b, h.u]
  rfl

/-! ## The gate -/

theorem a_at (r : Fin 4096) (j : Fin 2816) : val_main_v28 (F := Ideal) x0 x1 x2 (ix2 r j) = ((T.y r (lo j) : ℝ) : EReal) := by
  have e : idx_main_v28 (ix2 r j) = ix2 r (lo j) :=
    (ValueIdx.eq_ix2 _).trans (congrArg₂ ix2 (Fin.ext rfl) (Fin.ext rfl))
  rw [val_main_v28_apply, e, y_at h]

theorem g_at (r : Fin 4096) (j : Fin 2816) : val_main_v29 (F := Ideal) x0 x1 x2 (ix2 r j) = ((T.y r (hi j) : ℝ) : EReal) := by
  have e : idx_main_v29 (ix2 r j) = ix2 r (hi j) :=
    (ValueIdx.eq_ix2 _).trans (congrArg₂ ix2 (Fin.ext rfl) (Fin.ext rfl))
  rw [val_main_v29_apply, e, y_at h]

theorem tan_at (r : Fin 4096) (j : Fin 2816) : val_main_v40 (F := Ideal) x0 x1 x2 (ix2 r j) = ((tan (T.y r (hi j)) : ℝ) : EReal) := by
  rw [val_main_v40_apply, val_main_v39_apply, val_main_v38_apply, val_main_cst_5_apply, val_main_v37_apply, val_main_v36_apply,
    val_main_v35_apply, val_main_cst_4_apply, val_main_v31_apply, val_main_v30_apply, g_at h,
    show (FloatOps.ofBits .f32 0x3D372713#32 : Ideal .f32) = _ from w_cube,
    show (FloatOps.ofBits .f32 0x3F4C422A#32 : Ideal .f32) = _ from w_scale]
  rfl

theorem half_at (r : Fin 4096) (j : Fin 2816) :
    val_main_v49 (F := Ideal) x0 x1 x2 (ix2 r j) = ((1 / 2 * (1 + tan (T.y r (hi j))) : ℝ) : EReal) := by
  rw [val_main_v49_apply, val_main_v48_apply, val_main_cst_9_apply, val_main_v47_apply, val_main_v46_apply, val_main_cst_8_apply, tan_at h,
    show (FloatOps.ofBits .f32 0x3F000000#32 : Ideal .f32) = _ from w_half,
    show (FloatOps.ofBits .f32 0x3F800000#32 : Ideal .f32) = _ from w_one]
  rfl

theorem d_at (r : Fin 4096) (j : Fin 2816) : val_main_v53 (F := Ideal) x3 x4 (ix2 r j) = ((T.d r j : ℝ) : EReal) := by
  rw [val_main_v53_apply]
  simp only [h.c, h.d, ← EReal.coe_mul, sum_coe]
  rfl

theorem da_at (r : Fin 4096) (j : Fin 2816) : val_main_v54 (F := Ideal) x0 x1 x2 x3 x4 (ix2 r j) = ((T.da r j : ℝ) : EReal) := by
  rw [val_main_v54_apply, val_main_v50_apply, g_at h, half_at h, d_at h]
  refine Eq.trans ?_ (congrArg Real.toEReal (mul_comm (gelu (T.y r (hi j))) (T.d r j)))
  rfl

theorem dg_at (r : Fin 4096) (j : Fin 2816) : val_main_v67 (F := Ideal) x0 x1 x2 x3 x4 (ix2 r j) = ((T.dg r j : ℝ) : EReal) := by
  rw [val_main_v67_apply, val_main_v66_apply, val_main_v65_apply, val_main_v64_apply, val_main_cst_12_apply, val_main_v34_apply,
    val_main_v33_apply, val_main_cst_3_apply, val_main_v32_apply, val_main_v63_apply, val_main_v62_apply, val_main_v61_apply,
    val_main_cst_11_apply, val_main_v60_apply, val_main_v59_apply, val_main_v58_apply, val_main_cst_10_apply, val_main_v57_apply,
    val_main_v56_apply, val_main_v55_apply, val_main_v45_apply, val_main_v44_apply, val_main_v43_apply, val_main_cst_7_apply,
    val_main_v42_apply, val_main_v41_apply, val_main_cst_6_apply, g_at h, a_at h, half_at h, d_at h, tan_at h,
    show (FloatOps.ofBits .f32 0x3D372713#32 : Ideal .f32) = _ from w_cube,
    show (FloatOps.ofBits .f32 0x3F4C422A#32 : Ideal .f32) = _ from w_scale,
    show (FloatOps.ofBits .f32 0x40400000#32 : Ideal .f32) = _ from w_three,
    show (FloatOps.ofBits .f32 0x3F000000#32 : Ideal .f32) = _ from w_half,
    show (FloatOps.ofBits .f32 0x3F800000#32 : Ideal .f32) = _ from w_one]
  unfold Args.dg Gate.Math.slope
  generalize tan (T.y r (hi j)) = t
  generalize T.y r (hi j) = g
  generalize T.y r (lo j) = a
  generalize T.d r j = d
  show ((_ : ℝ) : EReal) = _
  refine congrArg Real.toEReal (?_ : d * a * (1 / 2 * (1 + t)) + scale * (1 / 2 * (g * (d * a)) * ((1 + t) * (1 - t)))
    + cube * (scale * (1 / 2 * (g * (d * a)) * ((1 + t) * (1 - t)))) * (3 * (g * g)) = _)
  ring

/-! ## The gradient of the convolution -/

theorem dy_lo (r : Fin 4096) (j : Fin 2816) : val_main_v70 (F := Ideal) x0 x1 x2 x3 x4 (ix2 r (lo j)) = ((T.da r j : ℝ) : EReal) := by
  rw [val_main_v70_apply]
  unfold val_main_v68 val_main_v69
  rw [pad_apply_of_not_inside _ _ _ _ _ _ _ (ix2 r (lo j)) (1 : Fin 2) (fun e => by
      have e : 2816 ≤ j.val ∧ (j.val - 2816) % (0 + 1) = 0 ∧ (j.val - 2816) / (0 + 1) < 2816 := e
      omega),
    pad_apply_of_inside _ _ _ _ _ _ _ (ix2 r (lo j)) (ix2 r j) (fun k => match k with
      | ⟨0, _⟩ => by show r.val = 0 + r.val * (0 + 1); omega
      | ⟨1, _⟩ => by show j.val = 0 + j.val * (0 + 1); omega), da_at h, val_main_cst_13_apply, zero_word]
  exact zero_add _

theorem dy_hi (r : Fin 4096) (j : Fin 2816) : val_main_v70 (F := Ideal) x0 x1 x2 x3 x4 (ix2 r (hi j)) = ((T.dg r j : ℝ) : EReal) := by
  rw [val_main_v70_apply]
  unfold val_main_v68 val_main_v69
  rw [pad_apply_of_inside _ _ _ _ _ _ _ (ix2 r (hi j)) (ix2 r j) (fun k => match k with
      | ⟨0, _⟩ => by show r.val = 0 + r.val * (0 + 1); omega
      | ⟨1, _⟩ => by show 2816 + j.val = 2816 + j.val * (0 + 1); omega),
    pad_apply_of_not_inside _ _ _ _ _ _ _ (ix2 r (hi j)) (1 : Fin 2) (fun e => by
      have e : 0 ≤ 2816 + j.val ∧ (2816 + j.val - 0) % (0 + 1) = 0 ∧ (2816 + j.val - 0) / (0 + 1) < 2816 := e
      omega), dg_at h, val_main_cst_14_apply, zero_word]
  exact add_zero _

section Column

variable {q : Fin 5632} {E : Fin 4096 → ℝ} (hE : ∀ r, val_main_v70 (F := Ideal) x0 x1 x2 x3 x4 (ix2 r q) = ((E r : ℝ) : EReal))
include hE

/-- The gradient of the rows, one column. -/
theorem du_at (r : Fin 4096) : val_main_v107 (F := Ideal) x0 x1 x2 x3 x4 (ix2 r q) = ((T.du E q r : ℝ) : EReal) := by
  have e2 : ∀ r, idx_main_v71 (ix2 r q) = ix2 0 q := fun r => ValueIdx.eq_ix2 _
  have e1 : ∀ r, idx_main_v79 (ix2 r q) = ix2 0 q := fun r => ValueIdx.eq_ix2 _
  have e0 : ∀ r, idx_main_v95 (ix2 r q) = ix2 0 q := fun r => ValueIdx.eq_ix2 _
  have a1 : val_main_v90 (F := Ideal) x0 x1 x2 x3 x4 (ix2 r q) = ((T.W 1 q * ahead 1 E r : ℝ) : EReal) := by
    unfold val_main_v90 ahead
    by_cases hr : r.val + 1 < 4096
    · rw [dif_pos hr, pad_in r q (⟨r.val, by omega⟩ : Fin 4095) (Nat.zero_add _).symm, val_main_v89_apply,
        (ValueIdx.eq_ix2 _ : idx_main_v89 (ix2 (⟨r.val, by omega⟩ : Fin 4095) q) = _)]
      refine Eq.trans (congrArg (val_main_v80 (F := Ideal) x0 x1 x2 x3 x4) (congrArg₂ ix2 (Fin.ext (Nat.add_comm 1 _)) (Fin.ext rfl) :
        _ = ix2 (⟨r.val + 1, hr⟩ : Fin 4096) q)) ?_
      rw [val_main_v80_apply, val_main_v79_apply, e1, w1_at h, hE]
      rfl
    · rw [dif_neg hr, pad_out r q (by omega), val_main_cst_21_apply, mul_zero]
      exact zero_word
  have a2 : val_main_v106 (F := Ideal) x0 x1 x2 x3 x4 (ix2 r q) = ((T.W 0 q * ahead 2 E r : ℝ) : EReal) := by
    unfold val_main_v106 ahead
    by_cases hr : r.val + 2 < 4096
    · rw [dif_pos hr, pad_in r q (⟨r.val, by omega⟩ : Fin 4094) (Nat.zero_add _).symm, val_main_v105_apply,
        (ValueIdx.eq_ix2 _ : idx_main_v105 (ix2 (⟨r.val, by omega⟩ : Fin 4094) q) = _)]
      refine Eq.trans (congrArg (val_main_v96 (F := Ideal) x0 x1 x2 x3 x4) (congrArg₂ ix2 (Fin.ext (Nat.add_comm 2 _)) (Fin.ext rfl) :
        _ = ix2 (⟨r.val + 2, hr⟩ : Fin 4096) q)) ?_
      rw [val_main_v96_apply, val_main_v95_apply, e0, w0_at h, hE]
      rfl
    · rw [dif_neg hr, pad_out r q (by omega), val_main_cst_27_apply, mul_zero]
      exact zero_word
  rw [val_main_v107_apply, val_main_v91_apply, val_main_v72_apply, val_main_v71_apply, e2, w2_at h, hE, a1, a2]
  rfl

/-- The gradient of the shift, one column. -/
theorem db_at (i : S5632.Idx) (hi : i = ix1 q) : val_main_v94 (F := Ideal) x0 x1 x2 x3 x4 i = ((∑ r, E r : ℝ) : EReal) := by
  subst hi
  have e : ∀ r, idx_main_v92 (idx_main_v93 (idx_main_v94 (ix1 q) 0)) r = ix2 r q := fun r =>
    (ValueIdx.eq_ix2 _).trans (congrArg (ix2 r) (Fin.ext (by show 0 * 5632 + q.val = q.val; omega)))
  rw [val_main_v94_apply, val_main_cst_23_apply, Fin.sum_univ_one, val_main_v93_apply, val_main_v92_apply, val_main_cst_22_apply]
  simp only [e, hE, sum_coe]
  rw [zero_word, zero_add, zero_add]

theorem dw2_at : val_main_v77 (F := Ideal) x0 x1 x2 x3 x4 (ix2 0 q) = ((T.dw E q 2 : ℝ) : EReal) := by
  have e : ∀ r, idx_main_v74 (idx_main_v75 (idx_main_v76 (idx_main_v77 (ix2 0 q)) 0)) r = ix2 r q := fun r =>
    (ValueIdx.eq_ix2 _).trans (congrArg (ix2 r) (Fin.ext (by show 0 * 5632 + q.val = q.val; omega)))
  rw [val_main_v77_apply, val_main_v76_apply, val_main_cst_16_apply, Fin.sum_univ_one, val_main_v75_apply, val_main_v74_apply, val_main_cst_15_apply]
  simp only [e, val_main_v73_apply, hE, h.u]
  rw [zero_word, zero_add, zero_add, sum_mulf]
  exact congrArg Real.toEReal (Finset.sum_congr rfl fun r _ => congrArg (E r * ·) (back_zero (T.U · q) r).symm)

theorem dw1_at : val_main_v85 (F := Ideal) x0 x1 x2 x3 x4 (ix2 0 q) = ((T.dw E q 1 : ℝ) : EReal) := by
  have e : ∀ r, idx_main_v82 (idx_main_v83 (idx_main_v84 (idx_main_v85 (ix2 0 q)) 0)) r = ix2 r q := fun r =>
    (ValueIdx.eq_ix2 _).trans (congrArg (ix2 r) (Fin.ext (by show 0 * 5632 + q.val = q.val; omega)))
  rw [val_main_v85_apply, val_main_v84_apply, val_main_cst_19_apply, Fin.sum_univ_one, val_main_v83_apply, val_main_v82_apply, val_main_cst_18_apply]
  simp only [e, val_main_v81_apply, hE, back1_at h]
  rw [zero_word, zero_add, zero_add, sum_mulf]
  rfl

theorem dw0_at : val_main_v101 (F := Ideal) x0 x1 x2 x3 x4 (ix2 0 q) = ((T.dw E q 0 : ℝ) : EReal) := by
  have e : ∀ r, idx_main_v98 (idx_main_v99 (idx_main_v100 (idx_main_v101 (ix2 0 q)) 0)) r = ix2 r q := fun r =>
    (ValueIdx.eq_ix2 _).trans (congrArg (ix2 r) (Fin.ext (by show 0 * 5632 + q.val = q.val; omega)))
  rw [val_main_v101_apply, val_main_v100_apply, val_main_cst_25_apply, Fin.sum_univ_one, val_main_v99_apply, val_main_v98_apply, val_main_cst_24_apply]
  simp only [e, val_main_v97_apply, hE, back2_at h]
  rw [zero_word, zero_add, zero_add, sum_mulf]
  rfl

/-- The gradient of the taps, one column. -/
theorem dw_at (k : Fin 3) : val_main_v103 (F := Ideal) x0 x1 x2 x3 x4 (ix2 k q) = ((T.dw E q k : ℝ) : EReal) := by
  rw [val_main_v103_apply, val_main_v87_apply]
  unfold val_main_v78 val_main_v86 val_main_v102
  match k with
  | ⟨0, _⟩ =>
    rw [pad_out _ q (.inl (by show (_ : ℕ) < _; norm_num)), pad_out _ q (.inl (by show (_ : ℕ) < _; norm_num)), pad_in _ q 0 rfl, dw0_at h hE, val_main_cst_17_apply, val_main_cst_20_apply,
      zero_word]
    exact (congrArg (· + _) (zero_add _)).trans (zero_add _)
  | ⟨1, _⟩ =>
    rw [pad_out _ q (.inl (by show (_ : ℕ) < _; norm_num)), pad_in _ q 0 rfl, pad_out _ q (.inr (by norm_num)), dw1_at h hE, val_main_cst_17_apply, val_main_cst_26_apply,
      zero_word]
    exact (congrArg (· + _) (zero_add _)).trans (add_zero _)
  | ⟨2, _⟩ =>
    rw [pad_in _ q 0 rfl, pad_out _ q (.inr (by norm_num)), pad_out _ q (.inr (by norm_num)), dw2_at h hE, val_main_cst_20_apply, val_main_cst_26_apply,
      zero_word]
    exact (congrArg (· + _) (add_zero _)).trans (add_zero _)

end Column

end Cert.GateRefIdeal.Reference

end
-- ==== Proof.Gate.Saved.lean ====
/-
  The host lines before the gate's backward call, over the reals: the convolved values, the gate and its slope, the columns'
  halves and the weight on its side.
-/
module

public import proofs.«01_k».proof.Proof.Gen.GateIdeal.Frame.Runs
public import proofs.«01_k».proof.Proof.Gate.Reference
public import Idealize.ShloMosaic.Lib.StableHlo.RunRead

@[expose] public section

noncomputable section

namespace Cert.GateIdeal.Saved

open Cert.GateIdeal Cert.GateIdeal.Gen Cert.Gate.Math Cert.GateRefIdeal.Reference Cert.GateRefIdeal.Read Cert.Words
open Idealize.ShloMosaic Idealize.ShloMosaic.TcCoe Idealize.SL.Sem ValueIdx

/-! ## The gate and its slope -/

section
variable (g : FVec Ideal S4096x2816 .f32)

abbrev lit (w : BitVec 32) : FVec Ideal S4096x2816 .f32 := broadcastInDim S4096x2816 ![] bcast_S_S4096x2816 (constant S_ .f32 w)

theorem lit_at (w : BitVec 32) (i : S4096x2816.Idx) : lit w i = Ideal.ofBits .f32 w := rfl

def vTan : FVec Ideal S4096x2816 .f32 := Host.tanh (mulf (lit 0x3F4C422A#32) (addf g (mulf (lit 0x3D372713#32) (mulf (mulf g g) g))))
def vHalf : FVec Ideal S4096x2816 .f32 := mulf (lit 0x3F000000#32) (addf (lit 0x3F800000#32) (vTan g))
def vGelu : FVec Ideal S4096x2816 .f32 := mulf g (vHalf g)
def vSlope : FVec Ideal S4096x2816 .f32 :=
  addf (vHalf g) (mulf (mulf (mulf (lit 0x3F000000#32) g) (subf (lit 0x3F800000#32) (mulf (vTan g) (vTan g))))
    (mulf (lit 0x3F4C422A#32) (addf (lit 0x3F800000#32) (mulf (lit 0x40400000#32) (mulf (lit 0x3D372713#32) (mulf g g))))))

variable {g} {i : S4096x2816.Idx} {G : ℝ} (hg : g i = ((G : ℝ) : EReal))
include hg

theorem vTan_at : vTan g i = ((tan G : ℝ) : EReal) := by
  have e : mulf (lit 0x3F4C422A#32) (addf g (mulf (lit 0x3D372713#32) (mulf (mulf g g) g))) i = ((scale * (G + cube * (G * G * G)) : ℝ) : EReal) := by
    simp only [mulf_apply, addf_apply, hg, lit_at, w_cube, w_scale, ← EReal.coe_mul, ← EReal.coe_add]
  exact (congrArg (FloatOps.hostUnary (F := Ideal) (φ := .f32) .tanh) e).trans rfl

theorem vHalf_at : vHalf g i = ((1 / 2 * (1 + tan G) : ℝ) : EReal) := by
  unfold vHalf
  simp only [mulf_apply, addf_apply, vTan_at hg, lit_at, w_half, w_one, ← EReal.coe_mul, ← EReal.coe_add]

theorem vGelu_at : vGelu g i = ((gelu G : ℝ) : EReal) := by
  unfold vGelu
  rw [mulf_apply, vHalf_at hg, hg, ← EReal.coe_mul]
  rfl

theorem vSlope_at : vSlope g i = ((Cert.Gate.Math.slope G : ℝ) : EReal) := by
  unfold vSlope
  simp only [mulf_apply, addf_apply, subf_apply, vHalf_at hg, vTan_at hg, hg, lit_at, w_half, w_one, w_cube, w_scale, w_three, ← EReal.coe_mul,
    ← EReal.coe_add, ← EReal.coe_sub]
  rfl

end

/-! ## The arrays found -/

/-- The weight, on its side. -/
def vD (x : FVec Ideal S2816x1024 .f32) : FVec Ideal S1024x2816 .bf16 :=
  transpose S1024x2816 [1, 0] (truncf .bf16 x bitsLt_bf16_f32) transposes_S2816x1024_S1024x2816_1_0

theorem turned_at (x : FVec Ideal S2816x1024 .f32) (k : Fin 1024) (j : Fin 2816) : vD x (ix2 k j) = x (ix2 j k) :=
  transpose_apply [1, 0] (truncf .bf16 x bitsLt_bf16_f32) transposes_S2816x1024_S1024x2816_1_0 (ix2 k j) (ix2 j k) (fun b => match b with
    | ⟨0, _⟩ => rfl
    | ⟨1, _⟩ => rfl)

/-- Half of the columns, from the `o`-th on. -/
theorem half_at (x : FVec Ideal S4096x5632 .f32) (o : ℕ) (ho : o + 2816 ≤ 5632) (hs : S4096x5632.Slices ![0, o] S4096x2816) (r : Fin 4096) (j : Fin 2816) :
    extractStridedSlice S4096x2816 ![0, o] x hs (ix2 r j) = x (ix2 r ⟨o + j.val, by omega⟩) :=
  congrArg x (funext fun a => Fin.ext (by
    match a with
    | ⟨0, _⟩ => show 0 + r.val = r.val; omega
    | ⟨1, _⟩ => rfl))

variable (m : (ℓ : Loc nD τ sig) → Buf (Elt Ideal) ℓ) (c : Dev nD)

theorem found_d : V m c main_v65 = vD (m ((c : Thread nD τ).loc main_arg3)) := by
  show StableHlo.after _ _ _ = _
  simp only [hostOps0, List.flatten_cons, List.flatten_nil, List.append_nil, List.cons_append, List.nil_append]
  after_reads_simp
  rfl

theorem found_ua : V m c main_v62 = extractStridedSlice S4096x2816 ![0, 0] (m ((c : Thread nD τ).loc main_arg0)) slices_S4096x5632_S4096x2816_0_0 := by
  show StableHlo.after _ _ _ = _
  simp only [hostOps0, List.flatten_cons, List.flatten_nil, List.append_nil, List.cons_append, List.nil_append]
  after_reads_simp

theorem found_ug : V m c main_v63 = extractStridedSlice S4096x2816 ![0, 2816] (m ((c : Thread nD τ).loc main_arg0)) slices_S4096x5632_S4096x2816_0_2816 := by
  show StableHlo.after _ _ _ = _
  simp only [hostOps0, List.flatten_cons, List.flatten_nil, List.append_nil, List.cons_append, List.nil_append]
  after_reads_simp

theorem found_a : V m c main_v26 = val_main_v28 (F := Ideal) (m ((c : Thread nD τ).loc main_arg0)) (m ((c : Thread nD τ).loc main_arg1))
    (m ((c : Thread nD τ).loc main_arg2)) := by
  show StableHlo.after _ _ _ = _
  simp only [hostOps0, List.flatten_cons, List.flatten_nil, List.append_nil, List.cons_append, List.nil_append]
  after_reads_simp
  rfl

theorem found_e : V m c main_v40 = vGelu (val_main_v29 (F := Ideal) (m ((c : Thread nD τ).loc main_arg0)) (m ((c : Thread nD τ).loc main_arg1))
    (m ((c : Thread nD τ).loc main_arg2))) := by
  show StableHlo.after _ _ _ = _
  simp only [hostOps0, List.flatten_cons, List.flatten_nil, List.append_nil, List.cons_append, List.nil_append]
  after_reads_simp
  rfl

theorem found_s : V m c main_v61 = vSlope (val_main_v29 (F := Ideal) (m ((c : Thread nD τ).loc main_arg0)) (m ((c : Thread nD τ).loc main_arg1))
    (m ((c : Thread nD τ).loc main_arg2))) := by
  show StableHlo.after _ _ _ = _
  simp only [hostOps0, List.flatten_cons, List.flatten_nil, List.append_nil, List.cons_append, List.nil_append]
  after_reads_simp
  rfl

/-! ## Their entries -/

variable {m c} {T : Args}
  (h : Are (m ((c : Thread nD τ).loc main_arg0)) (m ((c : Thread nD τ).loc main_arg1)) (m ((c : Thread nD τ).loc main_arg2))
    (m ((c : Thread nD τ).loc main_arg3)) (m ((c : Thread nD τ).loc main_arg4)) T)
  (r : Fin 4096) (j : Fin 2816)
include h

theorem ua_at : V m c main_v62 (ix2 r j) = ((T.U r (lo j) : ℝ) : EReal) := by
  rw [found_ua]
  exact (half_at _ 0 (by decide) _ r j).trans ((h.u _).trans (congrArg (fun q => ((T.U r q : ℝ) : EReal)) (Fin.ext (Nat.zero_add _))))

theorem ug_at : V m c main_v63 (ix2 r j) = ((T.U r (hi j) : ℝ) : EReal) := by
  rw [found_ug]
  exact (half_at _ 2816 (by decide) _ r j).trans (h.u _)

theorem d_at (k : Fin 1024) : V m c main_v65 (ix2 k j) = ((T.D j k : ℝ) : EReal) := by
  rw [found_d]
  exact (turned_at _ k j).trans (h.d _)

theorem a_at : V m c main_v26 (ix2 r j) = ((T.y r (lo j) : ℝ) : EReal) := by
  rw [found_a]
  exact Cert.GateRefIdeal.Reference.a_at h r j

theorem e_at : V m c main_v40 (ix2 r j) = ((gelu (T.y r (hi j)) : ℝ) : EReal) := by
  rw [found_e]
  exact vGelu_at (g_at h r j)

theorem s_at : V m c main_v61 (ix2 r j) = ((Cert.Gate.Math.slope (T.y r (hi j)) : ℝ) : EReal) := by
  rw [found_s]
  exact vSlope_at (g_at h r j)

end Cert.GateIdeal.Saved

end
-- ==== Proof.Gate.Values.lean ====
/-
  What a point of the gate's backward grid reads, and what it leaves, over the reals.
-/
module

public import proofs.«01_k».proof.Proof.Gate.Body
public import proofs.«01_k».proof.Proof.Gate.Payloads
public import proofs.«01_k».proof.Proof.Gate.Saved
public import proofs.«01_k».proof.Proof.Gate.Blocks

@[expose] public section

noncomputable section

namespace Cert.GateIdeal.Values

open Cert.GateIdeal Cert.GateIdeal.Gen Cert.GateIdeal.Run Cert.Rows Cert.Gate.Math Cert.GateRefIdeal.Reference Payloads Blocks
open Idealize.ShloMosaic Idealize.ShloMosaic.TcCoe Idealize.SL.Sem ValueIdx

variable {m : (ℓ : Loc nD τ sig) → Buf (Elt Ideal) ℓ} {c : Dev nD} {T : Args}
  (h : Are (m ((c : Thread nD τ).loc main_arg0)) (m ((c : Thread nD τ).loc main_arg1)) (m ((c : Thread nD τ).loc main_arg2))
    (m ((c : Thread nD τ).loc main_arg3)) (m ((c : Thread nD τ).loc main_arg4)) T)
  (t : Fin cfg0.N) (q : Fin 1408)
include h

/-! ## What the point reads -/

theorem ua_at (p : Fin 256) : (blocks m c t).ua (ix2 p q) = ((T.U (row 256 (t.val % 16) p) (lo (col t q)) : ℝ) : EReal) :=
  (read0 (V m c main_v62) t p q).trans (Saved.ua_at h _ _)

theorem ug_at (p : Fin 256) : (blocks m c t).ug (ix2 p q) = ((T.U (row 256 (t.val % 16) p) (hi (col t q)) : ℝ) : EReal) :=
  (read1 (V m c main_v63) t p q).trans (Saved.ug_at h _ _)

theorem a_at (p : Fin 256) : (blocks m c t).a (ix2 p q) = ((T.y (row 256 (t.val % 16) p) (lo (col t q)) : ℝ) : EReal) :=
  (read7 (V m c main_v26) t p q).trans (Saved.a_at h _ _)

theorem e_at (p : Fin 256) : (blocks m c t).e (ix2 p q) = ((gelu (T.y (row 256 (t.val % 16) p) (hi (col t q))) : ℝ) : EReal) :=
  (read9 (V m c main_v40) t p q).trans (Saved.e_at h _ _)

theorem s_at (p : Fin 256) : (blocks m c t).s (ix2 p q) = ((Cert.Gate.Math.slope (T.y (row 256 (t.val % 16) p) (hi (col t q))) : ℝ) : EReal) :=
  (read11 (V m c main_v61) t p q).trans (Saved.s_at h _ _)

theorem ha_at (k : Fin 8) (r : Fin 4096) (hr : r.val + 8 = 256 * (t.val % 16) + k.val) :
    (blocks m c t).ha (ix2 k q) = ((T.U r (lo (col t q)) : ℝ) : EReal) :=
  (read2 (V m c main_v62) t k q r hr).trans (Saved.ua_at h _ _)

theorem hg_at (k : Fin 8) (r : Fin 4096) (hr : r.val + 8 = 256 * (t.val % 16) + k.val) :
    (blocks m c t).hg (ix2 k q) = ((T.U r (hi (col t q)) : ℝ) : EReal) :=
  (read3 (V m c main_v63) t k q r hr).trans (Saved.ug_at h _ _)

theorem an_at (k : Fin 8) (r : Fin 4096) (hr : r.val = 256 * (t.val % 16 + 1) + k.val) :
    (blocks m c t).an (ix2 k q) = ((T.y r (lo (col t q)) : ℝ) : EReal) :=
  (read8 (V m c main_v26) t k q r hr).trans (Saved.a_at h _ _)

theorem en_at (k : Fin 8) (r : Fin 4096) (hr : r.val = 256 * (t.val % 16 + 1) + k.val) :
    (blocks m c t).en (ix2 k q) = ((gelu (T.y r (hi (col t q))) : ℝ) : EReal) :=
  (read10 (V m c main_v40) t k q r hr).trans (Saved.e_at h _ _)

theorem sn_at (k : Fin 8) (r : Fin 4096) (hr : r.val = 256 * (t.val % 16 + 1) + k.val) :
    (blocks m c t).sn (ix2 k q) = ((Cert.Gate.Math.slope (T.y r (hi (col t q))) : ℝ) : EReal) :=
  (read12 (V m c main_v61) t k q r hr).trans (Saved.s_at h _ _)

theorem z_at (p : Fin 256) (k : Fin 1024) : (blocks m c t).z (ix2 p k) = ((T.C (row 256 (t.val % 16) p) k : ℝ) : EReal) :=
  (read4 (V m c main_arg4) t p k).trans ((congrFun (V_main_arg4 m c) _).trans (h.c _))

theorem zn_at (p : Fin 8) (k : Fin 1024) (r : Fin 4096) (hr : r.val = 256 * (t.val % 16 + 1) + p.val) :
    (blocks m c t).zn (ix2 p k) = ((T.C r k : ℝ) : EReal) :=
  (read5 (V m c main_arg4) t p k r hr).trans ((congrFun (V_main_arg4 m c) _).trans (h.c _))

theorem wd_at (k : Fin 1024) : (blocks m c t).wd (ix2 k q) = ((T.D (col t q) k : ℝ) : EReal) :=
  (read6 (V m c main_v65) t k q).trans (Saved.d_at h _ _)

theorem wa_at (k : Fin 3) : (blocks m c t).wa (ix2 k q) = ((T.W k (lo (col t q)) : ℝ) : EReal) :=
  (read13 (V m c main_arg1) t k q).trans ((congrFun (V_main_arg1 m c) _).trans (h.w _))

theorem wg_at (k : Fin 3) : (blocks m c t).wg (ix2 k q) = ((T.W k (hi (col t q)) : ℝ) : EReal) :=
  (read14 (V m c main_arg1) t k q).trans ((congrFun (V_main_arg1 m c) _).trans (h.w _))

/-! ## What it computes -/

theorem d_blk (p : Fin 256) : k0_pay23 (blocks m c t).wd (blocks m c t).z (ix2 p q) = ((T.d (row 256 (t.val % 16) p) (col t q) : ℝ) : EReal) := by
  rw [prod]
  simp only [z_at h, wd_at h, ← EReal.coe_mul, Cert.Reals.sum_coe]
  rfl

theorem da_blk (p : Fin 256) : da (blocks m c t) (ix2 p q) = ((T.da (row 256 (t.val % 16) p) (col t q) : ℝ) : EReal) := by
  unfold da k0_pay24
  rw [mulf_apply, shapeCast_self, d_blk h, e_at h, ← EReal.coe_mul]
  rfl

theorem dg_blk (p : Fin 256) : dg (blocks m c t) (ix2 p q) = ((T.dg (row 256 (t.val % 16) p) (col t q) : ℝ) : EReal) := by
  unfold dg k0_pay25
  rw [mulf_apply, mulf_apply, shapeCast_self, shapeCast_self, d_blk h, a_at h, s_at h, ← EReal.coe_mul, ← EReal.coe_mul]
  rfl

/-- The eight rows after, zero behind the last block. -/
theorem dn_blk (k : Fin 8) (r : Fin 4096) (hr : r.val = 256 * (t.val % 16 + 1) + k.val) :
    k0_pay26 (rowb (grid0.coords t)) (k0_pay22 (blocks m c t).wd) (blocks m c t).zn (ix2 k q) = ((T.d r (col t q) : ℝ) : EReal) := by
  rw [rowb, coords, prod8 _ (mod_lt t), if_pos (by have := r.isLt; omega)]
  simp only [zn_at h t k _ r hr, wd_at h, ← EReal.coe_mul, Cert.Reals.sum_coe]
  rfl

omit h in
theorem dn_last (k : Fin 8) (ht : ¬t.val % 16 < 15) :
    k0_pay26 (rowb (grid0.coords t)) (k0_pay22 (blocks m c t).wd) (blocks m c t).zn (ix2 k q) = 0 := by
  rw [rowb, coords, prod8 _ (mod_lt t), if_neg ht]

omit h in
theorem after_eq {E : Fin 4096 → ℝ} {x : EReal} (k : Fin 8) (hx : ∀ r : Fin 4096, r.val = 256 * (t.val % 16 + 1) + k.val → x = ((E r : ℝ) : EReal))
    (h0 : ¬t.val % 16 < 15 → x = 0) : x = ((ahead (k.val + 1) E (row 256 (t.val % 16) 255) : ℝ) : EReal) := by
  have e := row_lt (mod_lt t) 255
  have e' : (255 : Fin 256).val = 255 := rfl
  unfold ahead
  split
  · rename_i hr
    exact hx _ (by dsimp only; omega)
  · exact h0 (by omega)

theorem dan_blk (k : Fin 8) : k0_pay27 (rowb (grid0.coords t)) (k0_pay22 (blocks m c t).wd) (blocks m c t).zn (blocks m c t).en (ix2 k q)
    = ((ahead (k.val + 1) (T.da · (col t q)) (row 256 (t.val % 16) 255) : ℝ) : EReal) := by
  refine after_eq t k (fun r hr => ?_) fun ht => ?_ <;> unfold k0_pay27 <;> rw [mulf_apply, shapeCast_self]
  · rw [dn_blk h t q k r hr, en_at h t q k r hr, ← EReal.coe_mul]
    rfl
  · rw [dn_last t q k ht, zero_mul]

theorem dgn_blk (k : Fin 8) : dgn (grid0.coords t) (blocks m c t) (ix2 k q)
    = ((ahead (k.val + 1) (T.dg · (col t q)) (row 256 (t.val % 16) 255) : ℝ) : EReal) := by
  refine after_eq t k (fun r hr => ?_) fun ht => ?_ <;> unfold dgn k0_pay28 <;> rw [mulf_apply, mulf_apply, shapeCast_self, shapeCast_self]
  · rw [dn_blk h t q k r hr, an_at h t q k r hr, sn_at h t q k r hr, ← EReal.coe_mul, ← EReal.coe_mul]
    rfl
  · rw [dn_last t q k ht, zero_mul, zero_mul]

/-- The eight rows before, zero before the first block. -/
theorem before_eq {X : Fin 4096 → ℝ} {x : FVec Ideal S8x1408 .f32} (k : Fin 8)
    (hx : ∀ r : Fin 4096, r.val + 8 = 256 * (t.val % 16) + k.val → x (ix2 k q) = ((X r : ℝ) : EReal)) :
    k0_pay8 (F := Ideal) (grid0.coords t) x (ix2 k q) = ((back (8 - k.val) X (row 256 (t.val % 16) 0) : ℝ) : EReal) := by
  have e := row_lt (mod_lt t) 0
  have e' : (0 : Fin 256).val = 0 := rfl
  rw [before (grid0.coords t) (by rw [coords]; exact mod_lt t), coords]
  unfold back
  by_cases ht : t.val % 16 = 0
  · rw [if_pos ht, if_neg (by omega)]
    rfl
  · rw [if_neg ht, if_pos (by omega)]
    exact hx _ (by dsimp only; omega)

theorem dua_blk (p : Fin 256) : dua (grid0.coords t) (blocks m c t) (ix2 p q)
    = ((T.du (T.da · (col t q)) (lo (col t q)) (row 256 (t.val % 16) p) : ℝ) : EReal) :=
  rows (x := da (blocks m c t)) (h := k0_pay27 (rowb (grid0.coords t)) (k0_pay22 (blocks m c t).wd) (blocks m c t).zn (blocks m c t).en)
    (mod_lt t) (da_blk h t q) (dan_blk h t q) T _ (wa_at h t q) p

theorem dug_blk (p : Fin 256) : dug (grid0.coords t) (blocks m c t) (ix2 p q)
    = ((T.du (T.dg · (col t q)) (hi (col t q)) (row 256 (t.val % 16) p) : ℝ) : EReal) :=
  rows (x := dg (blocks m c t)) (h := dgn (grid0.coords t) (blocks m c t)) (mod_lt t) (dg_blk h t q) (dgn_blk h t q) T _ (wg_at h t q) p

theorem ua_cast (p : Fin 256) : k0_pay6 (blocks m c t).ua (ix2 p q) = ((T.U (row 256 (t.val % 16) p) (lo (col t q)) : ℝ) : EReal) := by
  unfold k0_pay6
  rw [shapeCast_self]
  exact ua_at h t q p

theorem ug_cast (p : Fin 256) : k0_pay7 (blocks m c t).ug (ix2 p q) = ((T.U (row 256 (t.val % 16) p) (hi (col t q)) : ℝ) : EReal) := by
  unfold k0_pay7
  rw [shapeCast_self]
  exact ug_at h t q p

/-- A block's part of the gradient of a tap. -/
def part (T : Args) (E : Fin 4096 → ℝ) (j : Fin 5632) (k : Fin 3) (i : ℕ) : ℝ := ∑ p : Fin 256, E (row 256 i p) * back (2 - k.val) (T.U · j) (row 256 i p)

theorem dwa_blk (o : Vec Ideal S3x1408 .f32) (k : Fin 3) : dwa (grid0.coords t) (blocks m c t) o (ix2 k q)
    = o (ix2 k q) + ((part T (T.da · (col t q)) (lo (col t q)) k (t.val % 16) : ℝ) : EReal) :=
  taps (X := (T.U · (lo (col t q)))) (E := (T.da · (col t q))) (x := k0_pay6 (blocks m c t).ua) (h := k0_pay8 (grid0.coords t) (blocks m c t).ha) (mod_lt t) (ua_cast h t q) (da_blk h t q)
    (fun k => before_eq h t q k (ha_at h t q k)) o k

theorem dwg_blk (o : Vec Ideal S3x1408 .f32) (k : Fin 3) : dwg (grid0.coords t) (blocks m c t) o (ix2 k q)
    = o (ix2 k q) + ((part T (T.dg · (col t q)) (hi (col t q)) k (t.val % 16) : ℝ) : EReal) :=
  taps (X := (T.U · (hi (col t q)))) (E := (T.dg · (col t q))) (x := k0_pay7 (blocks m c t).ug) (h := k0_pay9 (grid0.coords t) (blocks m c t).hg) (mod_lt t) (ug_cast h t q) (dg_blk h t q)
    (fun k => before_eq h t q k (hg_at h t q k)) o k

theorem dba_blk (o : Vec Ideal S1x1408 .f32) : dba (blocks m c t) o (ix2 0 q)
    = o (ix2 0 q) + ((∑ p : Fin 256, T.da (row 256 (t.val % 16) p) (col t q) : ℝ) : EReal) :=
  shift (X := (T.da · (col t q))) (x := da (blocks m c t)) (mod_lt t) (da_blk h t q) o

theorem dbg_blk (o : Vec Ideal S1x1408 .f32) : dbg (blocks m c t) o (ix2 0 q)
    = o (ix2 0 q) + ((∑ p : Fin 256, T.dg (row 256 (t.val % 16) p) (col t q) : ℝ) : EReal) :=
  shift (X := (T.dg · (col t q))) (x := dg (blocks m c t)) (mod_lt t) (dg_blk h t q) o

/-! ## The sums after each point -/

open Finset

/-- What the sums of a column hold once `n` row blocks are seen. -/
def Seen (T : Args) (s : St Ideal) (t : Fin cfg0.N) (n : ℕ) (q : Fin 1408) : Prop :=
  (∀ k, s.wa (ix2 k q) = ((∑ i ∈ range n, part T (T.da · (col t q)) (lo (col t q)) k i : ℝ) : EReal))
  ∧ (∀ k, s.wg (ix2 k q) = ((∑ i ∈ range n, part T (T.dg · (col t q)) (hi (col t q)) k i : ℝ) : EReal))
  ∧ s.ba (ix2 0 q) = ((∑ i ∈ range n, ∑ p : Fin 256, T.da (row 256 i p) (col t q) : ℝ) : EReal)
  ∧ s.bg (ix2 0 q) = ((∑ i ∈ range n, ∑ p : Fin 256, T.dg (row 256 i p) (col t q) : ℝ) : EReal)

/-- A point adds its row block. -/
theorem seen_more (s : St Ideal) (hs : Seen T s t (t.val % 16) q) : Seen T (more (grid0.coords t) (blocks m c t) s) t (t.val % 16 + 1) q := by
  obtain ⟨h0, h1, h2, h3⟩ := hs
  refine ⟨fun k => ?_, fun k => ?_, ?_, ?_⟩ <;> rw [sum_range_succ, EReal.coe_add]
  · exact (dwa_blk h t q s.wa k).trans (congrArg (· + _) (h0 k))
  · exact (dwg_blk h t q s.wg k).trans (congrArg (· + _) (h1 k))
  · exact (dba_blk h t q s.ba).trans (congrArg (· + _) h2)
  · exact (dbg_blk h t q s.bg).trans (congrArg (· + _) h3)

omit h in
/-- Before the first row block the sums are zero. -/
theorem seen_zero (a b : Vec Ideal S256x1408 .bf16) : Seen T ⟨a, b, k0_pay2 (F := Ideal), k0_pay3 (F := Ideal), k0_pay4 (F := Ideal), k0_pay5 (F := Ideal)⟩ t 0 q :=
  ⟨fun _ => Ideal.ofBits_zero_f32, fun _ => Ideal.ofBits_zero_f32, Ideal.ofBits_zero_f32, Ideal.ofBits_zero_f32⟩

theorem seen (n : ℕ) (t : Fin cfg0.N) (hn : t.val = n) : Seen T (left m c (t.val + 1)) t (t.val % 16 + 1) q := by
  induction n generalizing t with
  | zero =>
    rw [left_first m c t (by omega)]
    refine seen_more h t q ⟨dua (grid0.coords t) (blocks m c t), dug (grid0.coords t) (blocks m c t), k0_pay2 (F := Ideal), k0_pay3 (F := Ideal), k0_pay4 (F := Ideal), k0_pay5 (F := Ideal)⟩ ?_
    rw [show t.val % 16 = 0 by omega]
    exact seen_zero t q _ _
  | succ n ih =>
    by_cases h0 : t.val % 16 = 0
    · rw [left_first m c t h0]
      refine seen_more h t q ⟨dua (grid0.coords t) (blocks m c t), dug (grid0.coords t) (blocks m c t), k0_pay2 (F := Ideal), k0_pay3 (F := Ideal), k0_pay4 (F := Ideal), k0_pay5 (F := Ideal)⟩ ?_
      rw [h0]
      exact seen_zero t q _ _
    · rw [left_more m c t h0]
      refine seen_more h t q _ ?_
      have hN := lt32 t
      have e := ih ⟨n, by rw [show cfg0.N = 32 from N_0]; omega⟩ rfl
      dsimp only at e
      rw [show n + 1 = t.val from hn.symm, show n % 16 + 1 = t.val % 16 by omega] at e
      unfold Seen at e ⊢
      rw [show col t q = col ⟨n, by rw [show cfg0.N = 32 from N_0]; omega⟩ q from Fin.ext (by show 1408 * (t.val / 16) + q.val = 1408 * (n / 16) + q.val; omega)]
      exact e

end Cert.GateIdeal.Values

end
-- ==== Proof.Gate.Final.lean ====
/-
  The gate's backward kernel over the reals: each result array at its mathematics.
-/
module

public import proofs.«01_k».proof.Proof.Gate.Values
public import Idealize.ShloMosaic.Lib.Pipeline.ValueKit.Geometry

@[expose] public section

noncomputable section

namespace Cert.GateIdeal.Final

open Cert.GateIdeal Cert.GateIdeal.Gen Cert.GateIdeal.Run Cert.Rows Cert.Gate.Math Cert.GateRefIdeal.Reference Cert.GateIdeal.Blocks Cert.GateIdeal.Values
open Idealize.ShloMosaic Idealize.ShloMosaic.TcCoe Idealize.SL.Sem ValueIdx
open Idealize.ShloMosaic.Pipeline (Window)

/-! ## Where the results lie -/

theorem at15 : ∀ t : Fin cfg0.N, win0_15.index t 0 = t.val % 16 ∧ win0_15.index t 1 = t.val / 16 :=
  (by decide +kernel : ∀ t : Fin grid0.N, win0_15.index t 0 = t.val % 16 ∧ win0_15.index t 1 = t.val / 16)
theorem at16 : ∀ t : Fin cfg0.N, win0_16.index t 0 = t.val % 16 ∧ win0_16.index t 1 = t.val / 16 :=
  (by decide +kernel : ∀ t : Fin grid0.N, win0_16.index t 0 = t.val % 16 ∧ win0_16.index t 1 = t.val / 16)
theorem at17 : ∀ t : Fin cfg0.N, win0_17.index t 0 = 0 ∧ win0_17.index t 1 = t.val / 16 :=
  (by decide +kernel : ∀ t : Fin grid0.N, win0_17.index t 0 = 0 ∧ win0_17.index t 1 = t.val / 16)
theorem at18 : ∀ t : Fin cfg0.N, win0_18.index t 0 = 0 ∧ win0_18.index t 1 = t.val / 16 :=
  (by decide +kernel : ∀ t : Fin grid0.N, win0_18.index t 0 = 0 ∧ win0_18.index t 1 = t.val / 16)
theorem at19 : ∀ t : Fin cfg0.N, win0_19.index t 0 = 0 ∧ win0_19.index t 1 = t.val / 16 :=
  (by decide +kernel : ∀ t : Fin grid0.N, win0_19.index t 0 = 0 ∧ win0_19.index t 1 = t.val / 16)
theorem at20 : ∀ t : Fin cfg0.N, win0_20.index t 0 = 0 ∧ win0_20.index t 1 = t.val / 16 :=
  (by decide +kernel : ∀ t : Fin grid0.N, win0_20.index t 0 = 0 ∧ win0_20.index t 1 = t.val / 16)

/-- Two points at one row block and one column block are one point, -/
theorem same {t t' : Fin cfg0.N} {i i' : Fin 2 → ℕ} (h : i 0 = t.val % 16 ∧ i 1 = t.val / 16) (h' : i' 0 = t'.val % 16 ∧ i' 1 = t'.val / 16) (e : i = i') : t = t' := by
  subst e
  exact Fin.ext (by omega)

/-- and two last points at one column block. -/
theorem same_last {t t' : Fin cfg0.N} {i i' : Fin 2 → ℕ} (f : t.val % 16 = 15) (f' : t'.val % 16 = 15) (h : i 1 = t.val / 16) (h' : i' 1 = t'.val / 16) (e : i = i') : t = t' := by
  subst e
  exact Fin.ext (by omega)

theorem apart15 : ∀ t t' : Fin cfg0.N, (cfg0.win 15).flush t = true → (cfg0.win 15).flush t' = true → t ≠ t' →
    Disjoint ((cfg0.win 15).blk t).view.set ((cfg0.win 15).blk t').view.set :=
  Window.hdisj_of_index_inj (cfg0.win 15) fun t t' _ _ e => same (at15 t) (at15 t') e
theorem apart16 : ∀ t t' : Fin cfg0.N, (cfg0.win 16).flush t = true → (cfg0.win 16).flush t' = true → t ≠ t' →
    Disjoint ((cfg0.win 16).blk t).view.set ((cfg0.win 16).blk t').view.set :=
  Window.hdisj_of_index_inj (cfg0.win 16) fun t t' _ _ e => same (at16 t) (at16 t') e
theorem apart17 : ∀ t t' : Fin cfg0.N, (cfg0.win 17).flush t = true → (cfg0.win 17).flush t' = true → t ≠ t' →
    Disjoint ((cfg0.win 17).blk t).view.set ((cfg0.win 17).blk t').view.set :=
  Window.hdisj_of_index_inj (cfg0.win 17) fun t t' f f' e => same_last ((flush0_17 t).mp f) ((flush0_17 t').mp f') (at17 t).2 (at17 t').2 e
theorem apart18 : ∀ t t' : Fin cfg0.N, (cfg0.win 18).flush t = true → (cfg0.win 18).flush t' = true → t ≠ t' →
    Disjoint ((cfg0.win 18).blk t).view.set ((cfg0.win 18).blk t').view.set :=
  Window.hdisj_of_index_inj (cfg0.win 18) fun t t' f f' e => same_last ((flush0_18 t).mp f) ((flush0_18 t').mp f') (at18 t).2 (at18 t').2 e
theorem apart19 : ∀ t t' : Fin cfg0.N, (cfg0.win 19).flush t = true → (cfg0.win 19).flush t' = true → t ≠ t' →
    Disjoint ((cfg0.win 19).blk t).view.set ((cfg0.win 19).blk t').view.set :=
  Window.hdisj_of_index_inj (cfg0.win 19) fun t t' f f' e => same_last ((flush0_19 t).mp f) ((flush0_19 t').mp f') (at19 t).2 (at19 t').2 e
theorem apart20 : ∀ t t' : Fin cfg0.N, (cfg0.win 20).flush t = true → (cfg0.win 20).flush t' = true → t ≠ t' →
    Disjoint ((cfg0.win 20).blk t).view.set ((cfg0.win 20).blk t').view.set :=
  Window.hdisj_of_index_inj (cfg0.win 20) fun t t' f f' e => same_last ((flush0_20 t).mp f) ((flush0_20 t').mp f') (at20 t).2 (at20 t').2 e

theorem read15 (A : FVec Ideal S4096x2816 .bf16) (t : Fin cfg0.N) (p : Fin 256) (q : Fin 1408) :
    ((cfg0.win 15).blk t).view.read (Elt Ideal) A (ix2 p q) = A (ix2 (row 256 (t.val % 16) p) (col t q)) := by
  rw [View.read_apply]
  refine congrArg A (funext fun x => Fin.ext ?_)
  match x with
  | ⟨0, _⟩ =>
    show win0_15.index t 0 * 256 + 1 * p.val = (row 256 (t.val % 16) p : Fin 4096).val
    rw [(at15 t).1, row_lt (mod_lt t)]
    omega
  | ⟨1, _⟩ =>
    show win0_15.index t 1 * 1408 + 1 * q.val = 1408 * (t.val / 16) + q.val
    rw [(at15 t).2]
    omega

theorem read16 (A : FVec Ideal S4096x2816 .bf16) (t : Fin cfg0.N) (p : Fin 256) (q : Fin 1408) :
    ((cfg0.win 16).blk t).view.read (Elt Ideal) A (ix2 p q) = A (ix2 (row 256 (t.val % 16) p) (col t q)) := by
  rw [View.read_apply]
  refine congrArg A (funext fun x => Fin.ext ?_)
  match x with
  | ⟨0, _⟩ =>
    show win0_16.index t 0 * 256 + 1 * p.val = (row 256 (t.val % 16) p : Fin 4096).val
    rw [(at16 t).1, row_lt (mod_lt t)]
    omega
  | ⟨1, _⟩ =>
    show win0_16.index t 1 * 1408 + 1 * q.val = 1408 * (t.val / 16) + q.val
    rw [(at16 t).2]
    omega

/-- A block of a result of few rows: its rows are the array's, its columns the point's. -/
theorem place {n : ℕ} {i : Fin 2 → ℕ} {t : Fin cfg0.N} (h : i 0 = 0 ∧ i 1 = t.val / 16) (k : Fin n) (q : Fin 1408) :
    i 0 * n + 1 * k.val = k.val ∧ i 1 * 1408 + 1 * q.val = (col t q).val := by
  show _ ∧ _ = 1408 * (t.val / 16) + q.val
  rw [h.1, h.2]
  omega

theorem read17 (A : FVec Ideal S3x2816 .f32) (t : Fin cfg0.N) (k : Fin 3) (q : Fin 1408) :
    ((cfg0.win 17).blk t).view.read (Elt Ideal) A (ix2 k q) = A (ix2 k (col t q)) := by
  rw [View.read_apply]
  exact congrArg A (funext fun x => Fin.ext (match x with
    | ⟨0, _⟩ => (place (at17 t) k q).1
    | ⟨1, _⟩ => (place (at17 t) k q).2))

theorem read18 (A : FVec Ideal S3x2816 .f32) (t : Fin cfg0.N) (k : Fin 3) (q : Fin 1408) :
    ((cfg0.win 18).blk t).view.read (Elt Ideal) A (ix2 k q) = A (ix2 k (col t q)) := by
  rw [View.read_apply]
  exact congrArg A (funext fun x => Fin.ext (match x with
    | ⟨0, _⟩ => (place (at18 t) k q).1
    | ⟨1, _⟩ => (place (at18 t) k q).2))

theorem read19 (A : FVec Ideal S1x2816 .f32) (t : Fin cfg0.N) (k : Fin 1) (q : Fin 1408) :
    ((cfg0.win 19).blk t).view.read (Elt Ideal) A (ix2 k q) = A (ix2 k (col t q)) := by
  rw [View.read_apply]
  exact congrArg A (funext fun x => Fin.ext (match x with
    | ⟨0, _⟩ => (place (at19 t) k q).1
    | ⟨1, _⟩ => (place (at19 t) k q).2))

theorem read20 (A : FVec Ideal S1x2816 .f32) (t : Fin cfg0.N) (k : Fin 1) (q : Fin 1408) :
    ((cfg0.win 20).blk t).view.read (Elt Ideal) A (ix2 k q) = A (ix2 k (col t q)) := by
  rw [View.read_apply]
  exact congrArg A (funext fun x => Fin.ext (match x with
    | ⟨0, _⟩ => (place (at20 t) k q).1
    | ⟨1, _⟩ => (place (at20 t) k q).2))

variable (m : (ℓ : Loc nD τ sig) → Buf (Elt Ideal) ℓ) (ρ : Dev nD → PrngReg) (c : Dev nD)

/-! ## The results, entry by entry -/

/-- The gradients of the rows do not depend on the points before. -/
theorem left_u (t : Fin cfg0.N) : (left m c (t.val + 1)).ua = dua (grid0.coords t) (blocks m c t) ∧ (left m c (t.val + 1)).ug = dug (grid0.coords t) (blocks m c t) := by
  by_cases h : t.val % 16 = 0
  · rw [left_first m c t h]
    exact ⟨rfl, rfl⟩
  · rw [left_more m c t h]
    exact ⟨rfl, rfl⟩

theorem flushed15 (t : Fin cfg0.N) : (dats m 0 c).flushed 15 t = (cfg0.win 15).cut (grid0.coords t) (left m c (t.val + 1)).ua := by
  show (cfg0.win 15).cut (grid0.coords t) ((dats m 0 c).after 15 t) = _
  rw [after0_15]
theorem flushed16 (t : Fin cfg0.N) : (dats m 0 c).flushed 16 t = (cfg0.win 16).cut (grid0.coords t) (left m c (t.val + 1)).ug := by
  show (cfg0.win 16).cut (grid0.coords t) ((dats m 0 c).after 16 t) = _
  rw [after0_16]
theorem flushed17 (t : Fin cfg0.N) : (dats m 0 c).flushed 17 t = (cfg0.win 17).cut (grid0.coords t) (left m c (t.val + 1)).wa := by
  show (cfg0.win 17).cut (grid0.coords t) ((dats m 0 c).after 17 t) = _
  rw [after0_17]
theorem flushed18 (t : Fin cfg0.N) : (dats m 0 c).flushed 18 t = (cfg0.win 18).cut (grid0.coords t) (left m c (t.val + 1)).wg := by
  show (cfg0.win 18).cut (grid0.coords t) ((dats m 0 c).after 18 t) = _
  rw [after0_18]
theorem flushed19 (t : Fin cfg0.N) : (dats m 0 c).flushed 19 t = (cfg0.win 19).cut (grid0.coords t) (left m c (t.val + 1)).ba := by
  show (cfg0.win 19).cut (grid0.coords t) ((dats m 0 c).after 19 t) = _
  rw [after0_19]
theorem flushed20 (t : Fin cfg0.N) : (dats m 0 c).flushed 20 t = (cfg0.win 20).cut (grid0.coords t) (left m c (t.val + 1)).bg := by
  show (cfg0.win 20).cut (grid0.coords t) ((dats m 0 c).after 20 t) = _
  rw [after0_20]

theorem entry15 (t : Fin cfg0.N) (p : Fin 256) (q : Fin 1408) :
    ((dats m 0 c).arrAt 15 cfg0.N : FVec Ideal S4096x2816 .bf16) (ix2 (row 256 (t.val % 16) p) (col t q)) = (left m c (t.val + 1)).ua (ix2 p q) :=
  (read15 ((dats m 0 c).arrAt 15 cfg0.N) t p q).symm.trans
    (congrFun (((dats m 0 c).read_blk_arrAt_eq_flushed 15 apart15 cfg0.N t t.isLt (flush0_15 t)).trans (flushed15 m c t)) (ix2 p q))
theorem entry16 (t : Fin cfg0.N) (p : Fin 256) (q : Fin 1408) :
    ((dats m 0 c).arrAt 16 cfg0.N : FVec Ideal S4096x2816 .bf16) (ix2 (row 256 (t.val % 16) p) (col t q)) = (left m c (t.val + 1)).ug (ix2 p q) :=
  (read16 ((dats m 0 c).arrAt 16 cfg0.N) t p q).symm.trans
    (congrFun (((dats m 0 c).read_blk_arrAt_eq_flushed 16 apart16 cfg0.N t t.isLt (flush0_16 t)).trans (flushed16 m c t)) (ix2 p q))
theorem entry17 (t : Fin cfg0.N) (ht : t.val % 16 = 15) (k : Fin 3) (q : Fin 1408) :
    ((dats m 0 c).arrAt 17 cfg0.N : FVec Ideal S3x2816 .f32) (ix2 k (col t q)) = (left m c (t.val + 1)).wa (ix2 k q) :=
  (read17 ((dats m 0 c).arrAt 17 cfg0.N) t k q).symm.trans
    (congrFun (((dats m 0 c).read_blk_arrAt_eq_flushed 17 apart17 cfg0.N t t.isLt ((flush0_17 t).mpr ht)).trans (flushed17 m c t)) (ix2 k q))
theorem entry18 (t : Fin cfg0.N) (ht : t.val % 16 = 15) (k : Fin 3) (q : Fin 1408) :
    ((dats m 0 c).arrAt 18 cfg0.N : FVec Ideal S3x2816 .f32) (ix2 k (col t q)) = (left m c (t.val + 1)).wg (ix2 k q) :=
  (read18 ((dats m 0 c).arrAt 18 cfg0.N) t k q).symm.trans
    (congrFun (((dats m 0 c).read_blk_arrAt_eq_flushed 18 apart18 cfg0.N t t.isLt ((flush0_18 t).mpr ht)).trans (flushed18 m c t)) (ix2 k q))
theorem entry19 (t : Fin cfg0.N) (ht : t.val % 16 = 15) (q : Fin 1408) :
    ((dats m 0 c).arrAt 19 cfg0.N : FVec Ideal S1x2816 .f32) (ix2 0 (col t q)) = (left m c (t.val + 1)).ba (ix2 0 q) :=
  (read19 ((dats m 0 c).arrAt 19 cfg0.N) t 0 q).symm.trans
    (congrFun (((dats m 0 c).read_blk_arrAt_eq_flushed 19 apart19 cfg0.N t t.isLt ((flush0_19 t).mpr ht)).trans (flushed19 m c t)) (ix2 0 q))
theorem entry20 (t : Fin cfg0.N) (ht : t.val % 16 = 15) (q : Fin 1408) :
    ((dats m 0 c).arrAt 20 cfg0.N : FVec Ideal S1x2816 .f32) (ix2 0 (col t q)) = (left m c (t.val + 1)).bg (ix2 0 q) :=
  (read20 ((dats m 0 c).arrAt 20 cfg0.N) t 0 q).symm.trans
    (congrFun (((dats m 0 c).read_blk_arrAt_eq_flushed 20 apart20 cfg0.N t t.isLt ((flush0_20 t).mpr ht)).trans (flushed20 m c t)) (ix2 0 q))

/-- The run with each result array named, the arguments unchanged. -/
theorem run_blocks : θ_run defs (onTc (τ := τ) (main (F := Ideal))) ⟨m, fun _ => 0, ρ⟩ fun r => ∀ c : Dev nD,
      r.2.mem ((c : Thread nD τ).loc main_v66_0) = (dats m 0 c).arrAt 15 cfg0.N
      ∧ r.2.mem ((c : Thread nD τ).loc main_v66_1) = (dats m 0 c).arrAt 16 cfg0.N
      ∧ r.2.mem ((c : Thread nD τ).loc main_v66_2) = (dats m 0 c).arrAt 17 cfg0.N
      ∧ r.2.mem ((c : Thread nD τ).loc main_v66_3) = (dats m 0 c).arrAt 18 cfg0.N
      ∧ r.2.mem ((c : Thread nD τ).loc main_v66_4) = (dats m 0 c).arrAt 19 cfg0.N
      ∧ r.2.mem ((c : Thread nD τ).loc main_v66_5) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 15, (h.1 c).1 16, (h.1 c).1 17, (h.1 c).1 18, (h.1 c).1 19, (h.1 c).1 20, h.2 c⟩)
    (θ_run_and (run_main m ρ) (frame_of m ρ (dats m) (A_eq m) (run_main m ρ)))

/-! ## The results, when the arguments are real -/

/-- The point and the place in its block of an entry, -/
theorem spot (r : Fin 4096) (j : Fin 2816) : ∃ (t : Fin cfg0.N) (p : Fin 256) (q : Fin 1408), row 256 (t.val % 16) p = r ∧ col t q = j := by
  have hr := r.isLt
  have hj := j.isLt
  have hN : 16 * (j.val / 1408) + r.val / 256 < cfg0.N := lt_of_lt_of_eq (by omega) N_0.symm
  refine ⟨⟨16 * (j.val / 1408) + r.val / 256, hN⟩, ⟨r.val % 256, Nat.mod_lt _ (by decide)⟩, ⟨j.val % 1408, Nat.mod_lt _ (by decide)⟩, Fin.ext ?_, Fin.ext ?_⟩
  · rw [row_lt (Nat.mod_lt _ (by decide))]
    show 256 * ((16 * (j.val / 1408) + r.val / 256) % 16) + r.val % 256 = r.val
    omega
  · show 1408 * ((16 * (j.val / 1408) + r.val / 256) / 16) + j.val % 1408 = j.val
    omega

/-- and the last point of a column. -/
theorem last (j : Fin 2816) : ∃ (t : Fin cfg0.N) (q : Fin 1408), t.val % 16 = 15 ∧ col t q = j := by
  have hj := j.isLt
  have hN : 16 * (j.val / 1408) + 15 < cfg0.N := lt_of_lt_of_eq (by omega) N_0.symm
  refine ⟨⟨16 * (j.val / 1408) + 15, hN⟩, ⟨j.val % 1408, Nat.mod_lt _ (by decide)⟩, ?_, Fin.ext ?_⟩
  · show (16 * (j.val / 1408) + 15) % 16 = 15
    omega
  · show 1408 * ((16 * (j.val / 1408) + 15) / 16) + j.val % 1408 = j.val
    omega

variable {m c} {T : Args}
  (h : Are (m ((c : Thread nD τ).loc main_arg0)) (m ((c : Thread nD τ).loc main_arg1)) (m ((c : Thread nD τ).loc main_arg2))
    (m ((c : Thread nD τ).loc main_arg3)) (m ((c : Thread nD τ).loc main_arg4)) T)
include h

theorem dua_eq (r : Fin 4096) (j : Fin 2816) :
    ((dats m 0 c).arrAt 15 cfg0.N : FVec Ideal S4096x2816 .bf16) (ix2 r j) = ((T.du (T.da · j) (lo j) r : ℝ) : EReal) := by
  obtain ⟨t, p, q, rfl, rfl⟩ := spot r j
  exact (entry15 m c t p q).trans ((congrFun (left_u m c t).1 _).trans (dua_blk h t q p))

theorem dug_eq (r : Fin 4096) (j : Fin 2816) :
    ((dats m 0 c).arrAt 16 cfg0.N : FVec Ideal S4096x2816 .bf16) (ix2 r j) = ((T.du (T.dg · j) (hi j) r : ℝ) : EReal) := by
  obtain ⟨t, p, q, rfl, rfl⟩ := spot r j
  exact (entry16 m c t p q).trans ((congrFun (left_u m c t).2 _).trans (dug_blk h t q p))

/-- The sums over the row blocks are the sums over the rows. -/
theorem seen_all (t : Fin cfg0.N) (q : Fin 1408) (ht : t.val % 16 = 15) :
    (∀ k, (left m c (t.val + 1)).wa (ix2 k q) = ((T.dw (T.da · (col t q)) (lo (col t q)) k : ℝ) : EReal))
    ∧ (∀ k, (left m c (t.val + 1)).wg (ix2 k q) = ((T.dw (T.dg · (col t q)) (hi (col t q)) k : ℝ) : EReal))
    ∧ (left m c (t.val + 1)).ba (ix2 0 q) = ((∑ r, T.da r (col t q) : ℝ) : EReal)
    ∧ (left m c (t.val + 1)).bg (ix2 0 q) = ((∑ r, T.dg r (col t q) : ℝ) : EReal) := by
  obtain ⟨h0, h1, h2, h3⟩ := seen h q t.val t rfl
  rw [show t.val % 16 + 1 = 16 by omega] at h0 h1 h2 h3
  exact ⟨fun k => (h0 k).trans (congrArg _ (sum_rows 16 256 rfl fun r => T.da r (col t q) * back (2 - k.val) (T.U · (lo (col t q))) r)),
    fun k => (h1 k).trans (congrArg _ (sum_rows 16 256 rfl fun r => T.dg r (col t q) * back (2 - k.val) (T.U · (hi (col t q))) r)),
    h2.trans (congrArg _ (sum_rows 16 256 rfl fun r => T.da r (col t q))),
    h3.trans (congrArg _ (sum_rows 16 256 rfl fun r => T.dg r (col t q)))⟩

theorem dwa_eq (k : Fin 3) (j : Fin 2816) :
    ((dats m 0 c).arrAt 17 cfg0.N : FVec Ideal S3x2816 .f32) (ix2 k j) = ((T.dw (T.da · j) (lo j) k : ℝ) : EReal) := by
  obtain ⟨t, q, ht, rfl⟩ := last j
  exact (entry17 m c t ht k q).trans ((seen_all h t q ht).1 k)

theorem dwg_eq (k : Fin 3) (j : Fin 2816) :
    ((dats m 0 c).arrAt 18 cfg0.N : FVec Ideal S3x2816 .f32) (ix2 k j) = ((T.dw (T.dg · j) (hi j) k : ℝ) : EReal) := by
  obtain ⟨t, q, ht, rfl⟩ := last j
  exact (entry18 m c t ht k q).trans ((seen_all h t q ht).2.1 k)

theorem dba_eq (j : Fin 2816) :
    ((dats m 0 c).arrAt 19 cfg0.N : FVec Ideal S1x2816 .f32) (ix2 0 j) = ((∑ r, T.da r j : ℝ) : EReal) := by
  obtain ⟨t, q, ht, rfl⟩ := last j
  exact (entry19 m c t ht q).trans (seen_all h t q ht).2.2.1

theorem dbg_eq (j : Fin 2816) :
    ((dats m 0 c).arrAt 20 cfg0.N : FVec Ideal S1x2816 .f32) (ix2 0 j) = ((∑ r, T.dg r j : ℝ) : EReal) := by
  obtain ⟨t, q, ht, rfl⟩ := last j
  exact (entry20 m c t ht q).trans (seen_all h t q ht).2.2.2

end Cert.GateIdeal.Final

end
-- ==== Proof.Gate.Kernel.lean ====
/-
  The program as its words run it has the text of the one read over the reals, and its frame is the same theorem.
-/
module

public import proofs.«01_k».proof.Proof.Gate.Body
public import proofs.«01_k».proof.Proof.Gen.Gate
public import Idealize.ShloMosaic.PureOps.BitExact

@[expose] public section

set_option maxRecDepth 16384
set_option maxHeartbeats 8000000

noncomputable section

namespace Cert.GateIdeal.Run

open Idealize.ShloMosaic Idealize.ShloMosaic.TcCoe Idealize.SL.Sem

theorem bodies : Cert.Gate.defs₀ (F := Bits) = Cert.GateIdeal.defs₀ (F := Bits) := by
  unfold Cert.Gate.defs₀ Cert.GateIdeal.defs₀
  refine congrArg Defs.onTc (funext fun l => funext fun x => ?_)
  match l, x with
  | 0, (t, s) => rfl
  | ⟨_ + 1, h⟩, _ => exact absurd h (Nat.not_lt.2 (Nat.le_add_left _ _))

theorem tables : Cert.Gate.defs (F := Bits) = Cert.GateIdeal.defs (F := Bits) :=
  congrArg (Pipeline.defs (Cert.GateIdeal.pcfgs (F := Bits))) bodies

theorem frame_words (m : (ℓ : Loc Cert.Gate.nD Cert.Gate.τ Cert.Gate.sig) → Buf (Elt Bits) ℓ) (ρ : Dev Cert.Gate.nD → PrngReg) :
    θ_run (Cert.Gate.defs (F := Bits)) (onTc (τ := Cert.Gate.τ) (Cert.Gate.main (F := Bits))) ⟨m, fun _ => 0, ρ⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0) :=
  tables ▸ frame (F := Bits) m ρ

end Cert.GateIdeal.Run

end
-- ==== Proof.Gate.Equation.lean ====
/-
  The two programs of the gate's backward leave the same arrays when the arguments are finite.
-/
module

public import proofs.«01_k».proof.Defs
public import proofs.«01_k».proof.Proof.Gate.Final
public import proofs.«01_k».proof.Proof.Gate.Kernel
public import proofs.«01_k».proof.Proof.Gen.Pre_pre_gate

@[expose] public section

set_option maxHeartbeats 2000000

noncomputable section

namespace Cert.Gate.Equation

open Cert.Reals Cert.Gate.Math Idealize.ShloMosaic Idealize.ShloMosaic.TcCoe Idealize.SL.Sem ValueIdx

variable {a0 : FVec Ideal Pre_pre_gate.S4096x5632 .f32} {a1 : FVec Ideal Pre_pre_gate.S3x5632 .f32} {a2 : FVec Ideal Pre_pre_gate.S5632 .f32}
  {a3 : FVec Ideal Pre_pre_gate.S2816x1024 .f32} {a4 : FVec Ideal Pre_pre_gate.S4096x1024 .f32}

/-- The real parts of the arguments. -/
def args (a0 : FVec Ideal Pre_pre_gate.S4096x5632 .f32) (a1 : FVec Ideal Pre_pre_gate.S3x5632 .f32) (a2 : FVec Ideal Pre_pre_gate.S5632 .f32)
    (a3 : FVec Ideal Pre_pre_gate.S2816x1024 .f32) (a4 : FVec Ideal Pre_pre_gate.S4096x1024 .f32) : Args where
  U p q := re a0 (ix2 p q)
  W k q := re a1 (ix2 k q)
  B q := re a2 (ix1 q)
  D j k := re a3 (ix2 j k)
  C p k := re a4 (ix2 p k)

/-- Under the precondition each argument is its array of real parts. -/
theorem are [Pre_pre_gate.Facts] (h : Pre_pre_gate.fn (F := Ideal) a0 a1 a2 a3 a4 = fun _ => 1#1) :
    GateRefIdeal.Reference.Are a0 a1 a2 a3 a4 (args a0 a1 a2 a3 a4) := by
  have h' := congrFun h ix0
  unfold Pre_pre_gate.fn Pre_pre_gate.fn_part1 at h'
  dsimp only at h'
  obtain ⟨h', h4⟩ := andi_split h'
  obtain ⟨h', h3⟩ := andi_split h'
  obtain ⟨h', h2⟩ := andi_split h'
  obtain ⟨h0, h1⟩ := andi_split h'
  exact ⟨fun i => (coe_re _ _ _ _ _ _ _ h0 i).symm.trans (congrArg (fun j => ((re a0 j : ℝ) : EReal)) (eq_ix2 i)),
    fun i => (coe_re _ _ _ _ _ _ _ h1 i).symm.trans (congrArg (fun j => ((re a1 j : ℝ) : EReal)) (eq_ix2 i)),
    fun i => (coe_re _ _ _ _ _ _ _ h2 i).symm.trans (congrArg (fun j => ((re a2 j : ℝ) : EReal)) (eq_ix1 i)),
    fun i => (coe_re _ _ _ _ _ _ _ h3 i).symm.trans (congrArg (fun j => ((re a3 j : ℝ) : EReal)) (eq_ix2 i)),
    fun i => (coe_re _ _ _ _ _ _ _ h4 i).symm.trans (congrArg (fun j => ((re a4 j : ℝ) : EReal)) (eq_ix2 i))⟩

theorem frame_words : Cert.quiescent_Gate := fun m ρ _ => GateIdeal.Run.frame_words m ρ
theorem frame_ideal : Cert.quiescent_GateIdeal := fun m ρ _ => GateIdeal.Run.frame m ρ

/-- The reference terminates, keeps its arguments, and has no semaphore. -/
theorem frame_ref : Cert.quiescent_GateRefIdeal := fun m ρ _ =>
  (θ_run GateRefIdeal.defs _ _).mono (fun r h => ⟨fun c => (h c).2.2.2.2.2.2, sem_eq_zero_of_no_sems (by decide) r.2⟩)
    (GateRefIdeal.Value.run (F := Ideal) m ρ)

/-! ## The reference's results -/

section
open Cert.GateRefIdeal.Read

variable {T : Args} (h : GateRefIdeal.Reference.Are a0 a1 a2 a3 a4 T)
include h

theorem dua_ref (r : Fin 4096) (j : Fin 2816) : val_main_v109 (F := Ideal) a0 a1 a2 a3 a4 (ix2 r j) = ((T.du (T.da · j) (lo j) r : ℝ) : EReal) := by
  have e : idx_main_v108 (ix2 r j) = ix2 r (lo j) := eq_ix2 _
  show val_main_v108 (F := Ideal) a0 a1 a2 a3 a4 (ix2 r j) = _
  rw [val_main_v108_apply, e]
  exact GateRefIdeal.Reference.du_at h (fun r => GateRefIdeal.Reference.dy_lo h r j) r

theorem dug_ref (r : Fin 4096) (j : Fin 2816) : val_main_v111 (F := Ideal) a0 a1 a2 a3 a4 (ix2 r j) = ((T.du (T.dg · j) (hi j) r : ℝ) : EReal) := by
  have e : idx_main_v110 (ix2 r j) = ix2 r (hi j) := eq_ix2 _
  show val_main_v110 (F := Ideal) a0 a1 a2 a3 a4 (ix2 r j) = _
  rw [val_main_v110_apply, e]
  exact GateRefIdeal.Reference.du_at h (fun r => GateRefIdeal.Reference.dy_hi h r j) r

theorem dwa_ref (k : Fin 3) (j : Fin 2816) : val_main_v112 (F := Ideal) a0 a1 a2 a3 a4 (ix2 k j) = ((T.dw (T.da · j) (lo j) k : ℝ) : EReal) := by
  have e : idx_main_v112 (ix2 k j) = ix2 k (lo j) := eq_ix2 _
  rw [val_main_v112_apply, e]
  exact GateRefIdeal.Reference.dw_at h (fun r => GateRefIdeal.Reference.dy_lo h r j) k

theorem dwg_ref (k : Fin 3) (j : Fin 2816) : val_main_v113 (F := Ideal) a0 a1 a2 a3 a4 (ix2 k j) = ((T.dw (T.dg · j) (hi j) k : ℝ) : EReal) := by
  have e : idx_main_v113 (ix2 k j) = ix2 k (hi j) := eq_ix2 _
  rw [val_main_v113_apply, e]
  exact GateRefIdeal.Reference.dw_at h (fun r => GateRefIdeal.Reference.dy_hi h r j) k

theorem dba_ref (j : Fin 2816) : val_main_v115 (F := Ideal) a0 a1 a2 a3 a4 (ix2 0 j) = ((∑ r, T.da r j : ℝ) : EReal) := by
  rw [val_main_v115_apply, val_main_v114_apply]
  exact GateRefIdeal.Reference.db_at h (fun r => GateRefIdeal.Reference.dy_lo h r j) _ (eq_ix1 _)

theorem dbg_ref (j : Fin 2816) : val_main_v117 (F := Ideal) a0 a1 a2 a3 a4 (ix2 0 j) = ((∑ r, T.dg r j : ℝ) : EReal) := by
  rw [val_main_v117_apply, val_main_v116_apply]
  exact GateRefIdeal.Reference.db_at h (fun r => GateRefIdeal.Reference.dy_hi h r j) _ (eq_ix1 _)

end

/-! ## One array after another -/

section

variable {m : (ℓ : Loc GateIdeal.nD GateIdeal.τ GateIdeal.sig) → Buf (Elt Ideal) ℓ} {c : Dev GateIdeal.nD} {T : Args}
  (h : GateRefIdeal.Reference.Are (m ((c : Thread GateIdeal.nD GateIdeal.τ).loc GateIdeal.main_arg0)) (m ((c : Thread GateIdeal.nD GateIdeal.τ).loc GateIdeal.main_arg1))
    (m ((c : Thread GateIdeal.nD GateIdeal.τ).loc GateIdeal.main_arg2)) (m ((c : Thread GateIdeal.nD GateIdeal.τ).loc GateIdeal.main_arg3))
    (m ((c : Thread GateIdeal.nD GateIdeal.τ).loc GateIdeal.main_arg4)) T)
include h

theorem dua_same : GateRefIdeal.Read.val_main_v109 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 15 GateIdeal.cfg0.N := by
  refine funext fun i => ?_
  obtain ⟨p, k, rfl⟩ : ∃ (p : Fin 4096) (k : Fin 2816), i = ix2 p k := ⟨i 0, i 1, eq_ix2 i⟩
  exact (dua_ref h p k).trans (GateIdeal.Final.dua_eq h p k).symm

theorem dug_same : GateRefIdeal.Read.val_main_v111 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 16 GateIdeal.cfg0.N := by
  refine funext fun i => ?_
  obtain ⟨p, k, rfl⟩ : ∃ (p : Fin 4096) (k : Fin 2816), i = ix2 p k := ⟨i 0, i 1, eq_ix2 i⟩
  exact (dug_ref h p k).trans (GateIdeal.Final.dug_eq h p k).symm

theorem dwa_same : GateRefIdeal.Read.val_main_v112 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 17 GateIdeal.cfg0.N := by
  refine funext fun i => ?_
  obtain ⟨p, k, rfl⟩ : ∃ (p : Fin 3) (k : Fin 2816), i = ix2 p k := ⟨i 0, i 1, eq_ix2 i⟩
  exact (dwa_ref h p k).trans (GateIdeal.Final.dwa_eq h p k).symm

theorem dwg_same : GateRefIdeal.Read.val_main_v113 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 18 GateIdeal.cfg0.N := by
  refine funext fun i => ?_
  obtain ⟨p, k, rfl⟩ : ∃ (p : Fin 3) (k : Fin 2816), i = ix2 p k := ⟨i 0, i 1, eq_ix2 i⟩
  exact (dwg_ref h p k).trans (GateIdeal.Final.dwg_eq h p k).symm

theorem dba_same : GateRefIdeal.Read.val_main_v115 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 19 GateIdeal.cfg0.N := by
  refine funext fun i => ?_
  obtain ⟨k, rfl⟩ : ∃ k : Fin 2816, i = ix2 0 k := ⟨i 1, (eq_ix2 i).trans (congrArg (ix2 · _) (Fin.fin_one_eq_zero _))⟩
  exact (dba_ref h k).trans (GateIdeal.Final.dba_eq h k).symm

theorem dbg_same : GateRefIdeal.Read.val_main_v117 (F := Ideal) (m ((c : Thread GateIdeal.nD GateIdeal.τ).loc GateIdeal.main_arg0)) (m ((c : Thread GateIdeal.nD GateIdeal.τ).loc GateIdeal.main_arg1)) (m ((c : Thread GateIdeal.nD GateIdeal.τ).loc GateIdeal.main_arg2)) (m ((c : Thread GateIdeal.nD GateIdeal.τ).loc GateIdeal.main_arg3)) (m ((c : Thread GateIdeal.nD GateIdeal.τ).loc GateIdeal.main_arg4))
    = (GateIdeal.Run.dats m 0 c).arrAt 20 GateIdeal.cfg0.N := by
  refine funext fun i => ?_
  obtain ⟨k, rfl⟩ : ∃ k : Fin 2816, i = ix2 0 k := ⟨i 1, (eq_ix2 i).trans (congrArg (ix2 · _) (Fin.fin_one_eq_zero _))⟩
  exact (dbg_ref h k).trans (GateIdeal.Final.dbg_eq h k).symm

end

/-- The gate's and the convolution's gradient: kernel and reference agree. -/
theorem algebraic [Pre_pre_gate.Facts] : Cert.algebraic_GateIdeal_GateRefIdeal_pre_pre_gate := by
  intro m g m' g' hpre heq
  refine ⟨fun c => (GateIdeal.Run.dats m 0 c).arrAt 15 GateIdeal.cfg0.N, fun c => (GateIdeal.Run.dats m 0 c).arrAt 16 GateIdeal.cfg0.N,
    fun c => (GateIdeal.Run.dats m 0 c).arrAt 17 GateIdeal.cfg0.N, fun c => (GateIdeal.Run.dats m 0 c).arrAt 18 GateIdeal.cfg0.N,
    fun c => (GateIdeal.Run.dats m 0 c).arrAt 19 GateIdeal.cfg0.N, fun c => (GateIdeal.Run.dats m 0 c).arrAt 20 GateIdeal.cfg0.N,
    GateIdeal.Final.run_blocks m g, ?_⟩
  refine (θ_run _ _ _).mono (fun r h c => ?_) (GateRefIdeal.Value.run m' g')
  obtain ⟨h0, h1, h2, h3, h4, h5, hargs⟩ := h c
  obtain ⟨e0, e1, e2, e3, e4⟩ := heq c
  replace e0 : StableHlo.launchContents m' c (Proc.devRef .tc GateRefIdeal.main_arg0) = m ((c.tc : Thread GateIdeal.nD GateIdeal.τ).loc GateIdeal.main_arg0) := e0
  replace e1 : StableHlo.launchContents m' c (Proc.devRef .tc GateRefIdeal.main_arg1) = m ((c.tc : Thread GateIdeal.nD GateIdeal.τ).loc GateIdeal.main_arg1) := e1
  replace e2 : StableHlo.launchContents m' c (Proc.devRef .tc GateRefIdeal.main_arg2) = m ((c.tc : Thread GateIdeal.nD GateIdeal.τ).loc GateIdeal.main_arg2) := e2
  replace e3 : StableHlo.launchContents m' c (Proc.devRef .tc GateRefIdeal.main_arg3) = m ((c.tc : Thread GateIdeal.nD GateIdeal.τ).loc GateIdeal.main_arg3) := e3
  replace e4 : StableHlo.launchContents m' c (Proc.devRef .tc GateRefIdeal.main_arg4) = m ((c.tc : Thread GateIdeal.nD GateIdeal.τ).loc GateIdeal.main_arg4) := e4
  have hk := are (hpre c)
  refine ⟨h0.trans ?_, h1.trans ?_, h2.trans ?_, h3.trans ?_, h4.trans ?_, h5.trans ?_, hargs⟩
  · rw [GateRefIdeal.Read.val_main_v109_eq, e0, e1, e2, e3, e4]
    exact dua_same hk
  · rw [GateRefIdeal.Read.val_main_v111_eq, e0, e1, e2, e3, e4]
    exact dug_same hk
  · rw [GateRefIdeal.Read.val_main_v112_eq, e0, e1, e2, e3, e4]
    exact dwa_same hk
  · rw [GateRefIdeal.Read.val_main_v113_eq, e0, e1, e2, e3, e4]
    exact dwg_same hk
  · rw [GateRefIdeal.Read.val_main_v115_eq, e0, e1, e2, e3, e4]
    exact dba_same hk
  · rw [GateRefIdeal.Read.val_main_v117_eq, e0, e1, e2, e3, e4]
    exact dbg_same hk

end Cert.Gate.Equation

end
-- ==== Proof.Merge.Tiles.lean ====
/-
  The rows of a block added residue by residue, and the columns of one head as they are stored.
-/
module

public import Idealize.ShloMosaic.Lib.Pipeline.ValueKit.Tiles
public import proofs.«01_k».proof.Proof.Base.At

@[expose] public section

noncomputable section

namespace Cert.MergeTiles

open Idealize.ShloMosaic Idealize.ShloMosaic.TcCoe ValueIdx

/-- The row `q` of residue `r` among the rows of a block. -/
abbrev rowOf {D n : ℕ} (h : D * n = 512) (r : Fin D) (q : Fin n) : Fin 512 :=
  ⟨D * q.val + r.val, by have := Nat.mul_le_mul_left D q.isLt; rw [Nat.mul_succ, h] at this; have := r.isLt; omega⟩

theorem pos {D n : ℕ} (h : D * n = 512) : 0 < D := Nat.pos_of_ne_zero fun z => by rw [z, Nat.zero_mul] at h; omega

/-- A row's residue and its place there. -/
abbrev res {D n : ℕ} (h : D * n = 512) (p : Fin 512) : Fin D := ⟨p.val % D, Nat.mod_lt _ (pos h)⟩

abbrev place {D n : ℕ} (h : D * n = 512) (p : Fin 512) : Fin n := ⟨p.val / D, Nat.div_lt_of_lt_mul (lt_of_lt_of_eq p.isLt h.symm)⟩

/-- A block with the rows of a residue-ordered block added. -/
def added {D n : ℕ} (h : D * n = 512) (G : (⟨3, ![8, 512, 64]⟩ : Shape).Idx → EReal) (X : (⟨4, ![8, D, n, 64]⟩ : Shape).Idx → EReal) :
    (⟨3, ![8, 512, 64]⟩ : Shape).Idx → EReal :=
  fun i => G i + X (ix4 (i 0) (res h (i 1)) (place h (i 1)) (i 2))

/-- The stores so far have added the first `k` residues. -/
def Upto {D n : ℕ} (k : ℕ) (h : D * n = 512) (G : (⟨3, ![8, 512, 64]⟩ : Shape).Idx → EReal) (X : (⟨4, ![8, D, n, 64]⟩ : Shape).Idx → EReal)
    (L : List (View.Piece (Elt Ideal) ⟨3, ![8, 512, 64]⟩ .f32)) : Prop :=
  ∀ (hd : Fin 8) (r : Fin D) (q : Fin n) (e : Fin 64), (View.canon L (ix3 hd (rowOf h r q) e) : EReal)
    = if r.val < k then G (ix3 hd (rowOf h r q) e) + X (ix4 hd r q e) else G (ix3 hd (rowOf h r q) e)

section

variable {D n : ℕ} {h : D * n = 512} {G : (⟨3, ![8, 512, 64]⟩ : Shape).Idx → EReal} {X : (⟨4, ![8, D, n, 64]⟩ : Shape).Idx → EReal}
  {L : List (View.Piece (Elt Ideal) ⟨3, ![8, 512, 64]⟩ .f32)}

theorem Upto.zero (e : View.canon L = G) : Upto 0 h G X L := fun hd r q f => by
  rw [if_neg (Nat.not_lt_zero _), e]

theorem Upto.done (u : Upto D h G X L) : View.canon L = added h G X := funext fun i => by
  have e : i = ix3 (i 0) (rowOf h (res h (i 1)) (place h (i 1))) (i 2) := funext fun a => Fin.ext (by
    match a with
    | ⟨0, _⟩ => rfl
    | ⟨1, _⟩ => exact (Nat.div_add_mod _ _).symm
    | ⟨2, _⟩ => rfl)
  refine (congrArg (View.canon L) e).trans ((u (i 0) (res h (i 1)) (place h (i 1)) (i 2)).trans ?_)
  rw [if_pos (res h (i 1)).isLt]
  exact congrArg₂ (fun x y : EReal => x + y) (congrArg G e.symm) rfl

/-- The store of one more residue. -/
theorem Upto.step {k : ℕ} (hk : k < D) (w : (⟨3, ![8, n, 64]⟩ : Shape).Idx → EReal)
    (inb : ∀ a, (![8, n, 64] : Fin 3 → ℕ) a = 0 ∨ (![0, k, 0] : Fin 3 → ℕ) a + (![1, D, 1] : Fin 3 → ℕ) a * ((![8, n, 64] : Fin 3 → ℕ) a - 1) < (⟨3, ![8, 512, 64]⟩ : Shape).size a)
    (sp : ∀ a, 0 < (![1, D, 1] : Fin 3 → ℕ) a)
    (hw : ∀ (hd : Fin 8) (q : Fin n) (e : Fin 64), w (ix3 hd q e) = (View.canon L (ix3 hd (rowOf h ⟨k, hk⟩ q) e) : EReal) + X (ix4 hd ⟨k, hk⟩ q e))
    (u : Upto k h G X L) :
    Upto (k + 1) h G X ((⟨⟨⟨![0, k, 0], ![8, n, 64], ![1, D, 1], inb⟩, sp⟩, w⟩ : View.Piece (Elt Ideal) ⟨3, ![8, 512, 64]⟩ .f32) :: L) := by
  intro hd r q e
  by_cases hr : r.val = k
  · have er : r = ⟨k, hk⟩ := Fin.ext hr
    subst er
    rw [if_pos (Nat.lt_succ_self k)]
    have at0 : ix3 hd (rowOf h ⟨k, hk⟩ q) e = (⟨⟨![0, k, 0], ![8, n, 64], ![1, D, 1], inb⟩, sp⟩ : Rect ⟨3, ![8, 512, 64]⟩).emb (ix3 hd q e) :=
      funext fun a => Fin.ext (by
        match a with
        | ⟨0, _⟩ => show hd.val = 0 + 1 * hd.val; omega
        | ⟨1, _⟩ => show D * q.val + k = k + D * q.val; omega
        | ⟨2, _⟩ => show e.val = 0 + 1 * e.val; omega)
    refine (congrArg (View.canon _) at0).trans ((View.canon_cons_emb (Val := Elt Ideal) (e := .f32)
      (⟨⟨![0, k, 0], ![8, n, 64], ![1, D, 1], inb⟩, sp⟩ : Rect ⟨3, ![8, 512, 64]⟩) w L (ix3 hd q e)).trans ((hw hd q e).trans ?_))
    rw [u hd ⟨k, hk⟩ q e, if_neg (lt_irrefl _)]
  · rw [View.canon_cons_of_not_mem]
    · rw [u hd r q e]
      by_cases hlt : r.val < k
      · rw [if_pos hlt, if_pos (by omega)]
      · rw [if_neg hlt, if_neg (by omega)]
    · intro hx
      obtain ⟨x, -, hx⟩ := (LoadRect.mem_set _).mp hx 1
      have h1 : k + D * x = D * q.val + r.val := hx.symm
      have h2 := congrArg (· % D) h1
      simp only [Nat.add_mul_mod_self_left, Nat.mul_add_mod, Nat.mod_eq_of_lt hk, Nat.mod_eq_of_lt r.isLt] at h2
      exact hr h2.symm

/-- What such a store writes: the rows read back, and the residue's rows. -/
theorem sum_at {k : ℕ} (hk : k < D) {sig : RefSig} {κ κ' : Kind} {sp sp' : Space} (v : View sig κ sp ⟨3, ![8, 512, 64]⟩ .f32)
    (inb : ∀ a, (![8, n, 64] : Fin 3 → ℕ) a = 0 ∨ (![0, k, 0] : Fin 3 → ℕ) a + (![1, D, 1] : Fin 3 → ℕ) a * ((![8, n, 64] : Fin 3 → ℕ) a - 1) < (⟨3, ![8, 512, 64]⟩ : Shape).size a)
    (a : Memref sig κ' sp' ⟨4, ![8, D, n, 64]⟩ .f32) (ha : a.IsWhole)
    (inb' : ∀ x, (![0, k, 0, 0] : Fin 4 → ℕ) x + (![8, 1, n, 64] : Fin 4 → ℕ) x ≤ (⟨4, ![8, D, n, 64]⟩ : Shape).size x)
    (h1 : Shape.ShapeCasts ⟨4, ![8, 1, n, 64]⟩ ⟨3, ![8, n, 64]⟩) (h2 : Shape.ShapeCasts ⟨3, ![8, n, 64]⟩ ⟨3, ![8, n, 64]⟩)
    (hd : Fin 8) (q : Fin n) (e : Fin 64) :
    (shapeCast ⟨3, ![8, n, 64]⟩ (addf (F := Ideal) (φ := .f32)
        (v.readCov L ⟨![0, k, 0], ![8, n, 64], ![1, D, 1], inb⟩)
        (shapeCast ⟨3, ![8, n, 64]⟩ (View.readAt (Elt Ideal) a.view (Rect.unit (s := ⟨4, ![8, D, n, 64]⟩) ![0, k, 0, 0] ![8, 1, n, 64] inb').toLoadRect (ha.unread X)) h1)) h2 (ix3 hd q e) : EReal)
      = View.canon L (ix3 hd (rowOf h ⟨k, hk⟩ q) e) + X (ix4 hd ⟨k, hk⟩ q e) := by
  rw [shapeCast_self, addf_apply, View.readCov_eq_canon', View.readAt_eq_ld, ha.read_unread]
  refine congrArg₂ (fun x y : EReal => x + y) (congrArg (View.canon L) (funext fun b => Fin.ext ?_)) ((shapeCast_apply _ h1 _ (ix4 hd 0 q e) ?_).trans (congrArg X (funext fun b => Fin.ext ?_)))
  · match b with
    | ⟨0, _⟩ => show 0 + 1 * hd.val = hd.val; omega
    | ⟨1, _⟩ => show k + D * q.val = D * q.val + k; omega
    | ⟨2, _⟩ => show 0 + 1 * e.val = e.val; omega
  · rw [Shape.rowMajor_val_four, Shape.rowMajor_val_three]
    show ((hd.val * 1 + 0) * n + q.val) * 64 + e.val = (hd.val * n + q.val) * 64 + e.val
    rw [Nat.mul_one, Nat.add_zero]
  · match b with
    | ⟨0, _⟩ => show 0 + 1 * hd.val = hd.val; omega
    | ⟨1, _⟩ => show k + 1 * 0 = k; omega
    | ⟨2, _⟩ => show 0 + 1 * q.val = q.val; omega
    | ⟨3, _⟩ => show 0 + 1 * e.val = e.val; omega

end

/-- The column `e` of head `hd` in part `j` of the row. -/
abbrev col (j : Fin 3) (hd : Fin 8) (e : Fin 64) : Fin 1536 := ⟨512 * j.val + 64 * hd.val + e.val, by omega⟩

/-- A stored head: 64 columns of a part. -/
theorem headCols (A : FVec Ideal ⟨3, ![8, 512, 64]⟩ .f32) {j : Fin 3} {k o : ℕ} (ho : o = 512 * j.val + 64 * k)
    (hs : Shape.Slices ⟨3, ![8, 512, 64]⟩ ![k, 0, 0] ⟨3, ![1, 512, 64]⟩) (hc : Shape.ShapeCasts ⟨3, ![1, 512, 64]⟩ ⟨2, ![512, 64]⟩)
    (hb : FTy.bf16.bits < FTy.f32.bits)
    (hd : Fin 8) (p : Fin 512) (e : Fin 64) (x : (⟨2, ![512, 64]⟩ : Shape).Idx)
    (hx : ∀ a : Fin 2, (ix2 p (col j hd e) a : ℕ) = (![0, o] : Fin 2 → ℕ) a + x a) :
    (truncf .bf16 (shapeCast ⟨2, ![512, 64]⟩ (extractStridedSlice ⟨3, ![1, 512, 64]⟩ ![k, 0, 0] A hs) hc) hb x : EReal) = A (ix3 hd p e) := by
  have h0 : p.val = 0 + (x 0).val := hx 0
  have h1 : 512 * j.val + 64 * hd.val + e.val = o + (x 1).val := hx 1
  have hz : (x 1).val < 64 := (x 1).isLt
  change (shapeCast ⟨2, ![512, 64]⟩ (extractStridedSlice ⟨3, ![1, 512, 64]⟩ ![k, 0, 0] A hs) hc x : EReal) = _
  refine Eq.trans (shapeCast_apply _ hc x (ix3 0 p e) ?_) (congrArg A (funext fun a => Fin.ext ?_))
  · rw [Shape.rowMajor_val_three, Shape.rowMajor_val_two]
    show (0 * 512 + p.val) * 64 + e.val = (x 0).val * 64 + (x 1).val
    omega
  · match a with
    | ⟨0, _⟩ => show k + 0 = hd.val; omega
    | ⟨1, _⟩ => exact Nat.zero_add _
    | ⟨2, _⟩ => exact Nat.zero_add _

/-- A piece of another part does not hold the column. -/
theorem otherCols {α : Type} (w : (⟨2, ![512, 64]⟩ : Shape).Idx → α) (v : α) {j : Fin 3} {o : ℕ} (ho : o + 64 ≤ 512 * j.val ∨ 512 * j.val + 512 ≤ o)
    (hd : Fin 8) (p : Fin 512) (e : Fin 64) (x : (⟨2, ![512, 64]⟩ : Shape).Idx)
    (hx : ∀ a : Fin 2, (ix2 p (col j hd e) a : ℕ) = (![0, o] : Fin 2 → ℕ) a + x a) : w x = v := by
  have h1 : 512 * j.val + 64 * hd.val + e.val = o + (x 1).val := hx 1
  have hz : (x 1).val < 64 := (x 1).isLt
  omega

end Cert.MergeTiles

end
-- ==== Proof.Merge.Block.lean ====
/-
  What one point of the grid leaves in its block: each part of the row the sum of the three branches' rows, in the order
  of the rows.
-/
module

public import proofs.«01_k».proof.Proof.Gen.MergeIdeal.Value
public import proofs.«01_k».proof.Proof.Merge.Tiles

@[expose] public section

noncomputable section

namespace Cert.MergeIdeal.Block

open Cert.MergeIdeal Cert.MergeIdeal.Gen Cert.MergeTiles Idealize.ShloMosaic Idealize.ShloMosaic.TcCoe Idealize.SL.Sem ValueIdx

section

variable (c : Dev nD) (a1 : Memref sig .tc .vmem S8x512x64 .f32) (h1 : a1.IsWhole) (a2 : Memref sig .tc .vmem S8x512x64 .f32) (h2 : a2.IsWhole)
  (a3 : Memref sig .tc .vmem S8x512x64 .f32) (h3 : a3.IsWhole) (a4 : Memref sig .tc .vmem S8x4x128x64 .f32) (h4 : a4.IsWhole)
  (a5 : Memref sig .tc .vmem S8x4x128x64 .f32) (h5 : a5.IsWhole) (a6 : Memref sig .tc .vmem S8x4x128x64 .f32) (h6 : a6.IsWhole)
  (a7 : Memref sig .tc .vmem S8x16x32x64 .f32) (h7 : a7.IsWhole) (a8 : Memref sig .tc .vmem S8x16x32x64 .f32) (h8 : a8.IsWhole)
  (a9 : Memref sig .tc .vmem S8x16x32x64 .f32) (h9 : a9.IsWhole) (a11 : Memref sig .tc .vmem S8x512x64 .f32)
  (x0 x1 x2 : Vec Ideal S8x512x64 .f32) (x3 x4 x5 : Vec Ideal S8x4x128x64 .f32) (x6 x7 x8 : Vec Ideal S8x16x32x64 .f32)

/-- The sum of the three branches' blocks, in the order of the rows. -/
abbrev total (x : Vec Ideal S8x512x64 .f32) (y : Vec Ideal S8x4x128x64 .f32) (z : Vec Ideal S8x16x32x64 .f32) : Vec Ideal S8x512x64 .f32 :=
  added (D := 16) (n := 32) rfl (added (D := 4) (n := 128) rfl x y) z

theorem hz : (![0, 0, 0] : Fin 3 → Nat) = fun _ => 0 := funext fun a => by fin_cases a <;> rfl

/-- What a part begins with: the first branch's block. -/
theorem first_at (a : Memref sig .tc .vmem S8x512x64 .f32) (h : a.IsWhole) (x : Vec Ideal S8x512x64 .f32) (L : List (View.Piece (Elt Ideal) S8x512x64 .f32))
    (inb : ∀ b, (![0, 0, 0] : Fin 3 → ℕ) b + S8x512x64.size b ≤ S8x512x64.size b) (s1 s2 : S8x512x64.ShapeCasts S8x512x64) :
    View.canon ((⟨Rect.unit ![0, 0, 0] S8x512x64.size inb,
      shapeCast S8x512x64 (shapeCast S8x512x64 (View.readAt (Elt Ideal) a.view (Rect.unit ![0, 0, 0] S8x512x64.size inb).toLoadRect (h.unread x)) s1) s2⟩
        : View.Piece (Elt Ideal) S8x512x64 .f32) :: L) = x := by
  refine (View.canon_cons_unit_zero hz inb _ L).trans ((shapeCast_self _ s2).trans ((shapeCast_self _ s1).trans ?_))
  rw [View.readAt_eq_ld, h.read_unread, View.ld_unit_zero (S := S8x512x64) hz]

theorem whole_at (v : View sig .tc .vmem S8x512x64 .f32) (L : List (View.Piece (Elt Ideal) S8x512x64 .f32)) (G : S8x512x64.Idx → EReal)
    (inb : ∀ b, (![0, 0, 0] : Fin 3 → ℕ) b + S8x512x64.size b ≤ S8x512x64.size b) (hL : View.canon L = G) :
    (v.readCov L (Rect.unit ![0, 0, 0] S8x512x64.size inb).toLoadRect : Vec Ideal S8x512x64 .f32) = G := by
  rw [View.readCov_eq_canon', hL]
  exact funext fun j => congrArg G (funext fun b => Fin.ext (by
    match b with
    | ⟨0, _⟩ => show 0 + 1 * (j 0).val = (j 0).val; omega
    | ⟨1, _⟩ => show 0 + 1 * (j 1).val = (j 1).val; omega
    | ⟨2, _⟩ => show 0 + 1 * (j 2).val = (j 2).val; omega))

theorem part0 : kernelRun0_A.sl.v145 c a1 h1 a4 h4 a7 h7 a11 x0 x3 x6 = total x0 x3 x6 := by
  refine whole_at _ _ _ _ (Upto.done ?_)
  iterate 16 refine Upto.step (by norm_num) _ _ _ (fun hd q e => sum_at (by norm_num) _ _ _ _ _ _ _ hd q e) ?_
  refine Upto.zero (Upto.done ?_)
  iterate 4 refine Upto.step (by norm_num) _ _ _ (fun hd q e => sum_at (by norm_num) _ _ _ _ _ _ _ hd q e) ?_
  exact Upto.zero (first_at _ _ _ _ _ _ _)

theorem part1 : kernelRun0_A.sl.v323 c a1 h1 a2 h2 a4 h4 a5 h5 a7 h7 a8 h8 a11 x0 x1 x3 x4 x6 x7 = total x1 x4 x7 := by
  refine whole_at _ _ _ _ (Upto.done ?_)
  iterate 16 refine Upto.step (by norm_num) _ _ _ (fun hd q e => sum_at (by norm_num) _ _ _ _ _ _ _ hd q e) ?_
  refine Upto.zero (Upto.done ?_)
  iterate 4 refine Upto.step (by norm_num) _ _ _ (fun hd q e => sum_at (by norm_num) _ _ _ _ _ _ _ hd q e) ?_
  exact Upto.zero (first_at _ _ _ _ _ _ _)

theorem part2 : kernelRun0_A.sl.v501 c a1 h1 a2 h2 a3 h3 a4 h4 a5 h5 a6 h6 a7 h7 a8 h8 a9 h9 a11 x0 x1 x2 x3 x4 x5 x6 x7 x8 = total x2 x5 x8 := by
  refine whole_at _ _ _ _ (Upto.done ?_)
  iterate 16 refine Upto.step (by norm_num) _ _ _ (fun hd q e => sum_at (by norm_num) _ _ _ _ _ _ _ hd q e) ?_
  refine Upto.zero (Upto.done ?_)
  iterate 4 refine Upto.step (by norm_num) _ _ _ (fun hd q e => sum_at (by norm_num) _ _ _ _ _ _ _ hd q e) ?_
  exact Upto.zero (first_at _ _ _ _ _ _ _)

end

variable (m : (ℓ : Loc nD τ sig) → Buf (Elt Ideal) ℓ) (c : Dev nD)

/-- The three parts of the row. -/
def parts (t : Fin cfg0.N) : Fin 3 → Vec Ideal S8x512x64 .f32
  | 0 => total (iblk m c 0 t) (iblk m c 3 t) (iblk m c 6 t)
  | 1 => total (iblk m c 1 t) (iblk m c 4 t) (iblk m c 7 t)
  | 2 => total (iblk m c 2 t) (iblk m c 5 t) (iblk m c 8 t)

set_option maxRecDepth 16384 in
theorem out9 (t : Fin cfg0.N) (j : Fin 3) (hd : Fin 8) (p : Fin 512) (e : Fin 64) :
    (outsAt0 m c t) (ix2 p (col j hd e)) = parts m c t j (ix3 hd p e) := by
  unfold outsAt0 out0_A_9
  rw [View.read_writes_eq_canon _ _ _ fun q => cover0_A_9 (y := q) ..]
  refine View.canon_eq_of_allAt _ _ _ (cover0_A_9 (y := ix2 p (col j hd e)) ..) ?_
  unfold kernelRun0_A
  dsimp only
  simp only [kernelRun0_A.sl.r_14, kernelRun0_A.sl.r_4, kernelRun0_A.sl.r_9, part0, part1, part2]
  repeat' refine View.allAt_cons_unit _ _ _ _ _ (fun x hx => ?_) ?_
  all_goals first
    | exact View.allAt_nil _ _
    | skip
  all_goals
    obtain rfl | rfl | rfl : j = 0 ∨ j = 1 ∨ j = 2 := by omega
    all_goals first
      | exact otherCols _ _ (by decide) hd p e x hx
      | exact headCols _ (by decide) (by decide) (by decide) (by decide) hd p e x hx

end Cert.MergeIdeal.Block

end
-- ==== Proof.Merge.Layout.lean ====
/-
  The rows put first by head and by residue, read back at the place of the row.
-/
module

public import Idealize.ShloMosaic.Lib.Pipeline.ValueKit.Tiles
public import proofs.«01_k».proof.Proof.Base.At

@[expose] public section

noncomputable section

namespace Cert.MergeLayout

open Idealize.ShloMosaic ValueIdx

variable {D N : ℕ} (x : (⟨3, ![4096, 8, 64]⟩ : Shape).Idx → EReal) (s1 : Shape.ShapeCasts ⟨3, ![4096, 8, 64]⟩ ⟨4, ![N, D, 8, 64]⟩)
  (tr : Shape.Transposes ⟨4, ![N, D, 8, 64]⟩ [2, 1, 0, 3] ⟨4, ![8, D, N, 64]⟩)
  (s2 : Shape.ShapeCasts ⟨4, ![8, D, N, 64]⟩ ⟨3, ![8, 4096, 64]⟩) (s3 : Shape.ShapeCasts ⟨3, ![8, 4096, 64]⟩ ⟨4, ![8, D, N, 64]⟩)

/-- Heads first, then residues: the row `D q + r` of head `hd`. -/
theorem turned (hd : Fin 8) (r : Fin D) (q : Fin N) (e : Fin 64) (s : Fin 4096) (hs : s.val = D * q.val + r.val) :
    transpose ⟨4, ![8, D, N, 64]⟩ [2, 1, 0, 3] (shapeCast ⟨4, ![N, D, 8, 64]⟩ x s1) tr (ix4 hd r q e) = x (ix3 s hd e) := by
  refine (transpose_apply [2, 1, 0, 3] _ tr (ix4 hd r q e) (ix4 q r hd e) (fun b => match b with
    | ⟨0, _⟩ => rfl
    | ⟨1, _⟩ => rfl
    | ⟨2, _⟩ => rfl
    | ⟨3, _⟩ => rfl)).trans (shapeCast_apply _ s1 _ (ix3 s hd e) ?_)
  rw [Shape.rowMajor_val_four, Shape.rowMajor_val_three]
  show (s.val * 8 + hd.val) * 64 + e.val = ((q.val * D + r.val) * 8 + hd.val) * 64 + e.val
  rw [hs, Nat.mul_comm D]

/-- The same through an array without the residues' axis. -/
theorem ordered (h : D * N = 4096) (hd : Fin 8) (r : Fin D) (q : Fin N) (e : Fin 64) (s : Fin 4096) (hs : s.val = D * q.val + r.val) :
    shapeCast ⟨4, ![8, D, N, 64]⟩ (shapeCast ⟨3, ![8, 4096, 64]⟩
      (transpose ⟨4, ![8, D, N, 64]⟩ [2, 1, 0, 3] (shapeCast ⟨4, ![N, D, 8, 64]⟩ x s1) tr) s2) s3 (ix4 hd r q e) = x (ix3 s hd e) := by
  have hlt : r.val * N + q.val < 4096 := by
    have := Nat.mul_le_mul_right N r.isLt
    rw [Nat.succ_mul, h] at this
    have := q.isLt
    omega
  have same : (hd.val * 4096 + (r.val * N + q.val)) * 64 + e.val = ((hd.val * D + r.val) * N + q.val) * 64 + e.val := by
    rw [← h]; ring
  refine (shapeCast_apply _ s3 _ (ix3 hd ⟨r.val * N + q.val, hlt⟩ e) ?_).trans ((shapeCast_apply _ s2 _ (ix4 hd r q e) ?_).trans (turned x s1 tr hd r q e s hs))
  · rw [Shape.rowMajor_val_four, Shape.rowMajor_val_three]
    exact same
  · rw [Shape.rowMajor_val_four, Shape.rowMajor_val_three]
    exact same.symm

/-- One residue only: the row itself. -/
theorem plain (s1 : Shape.ShapeCasts ⟨3, ![4096, 8, 64]⟩ ⟨4, ![4096, 1, 8, 64]⟩)
    (tr : Shape.Transposes ⟨4, ![4096, 1, 8, 64]⟩ [2, 1, 0, 3] ⟨4, ![8, 1, 4096, 64]⟩)
    (s2 : Shape.ShapeCasts ⟨4, ![8, 1, 4096, 64]⟩ ⟨3, ![8, 4096, 64]⟩) (hd : Fin 8) (s : Fin 4096) (e : Fin 64) :
    shapeCast ⟨3, ![8, 4096, 64]⟩
      (transpose ⟨4, ![8, 1, 4096, 64]⟩ [2, 1, 0, 3] (shapeCast ⟨4, ![4096, 1, 8, 64]⟩ x s1) tr) s2 (ix3 hd s e) = x (ix3 s hd e) := by
  refine (shapeCast_apply _ s2 _ (ix4 hd 0 s e) ?_).trans (turned x s1 tr hd 0 s e s (by show s.val = 1 * s.val + 0; omega))
  rw [Shape.rowMajor_val_four, Shape.rowMajor_val_three]
  show ((hd.val * 1 + 0) * 4096 + s.val) * 64 + e.val = (hd.val * 4096 + s.val) * 64 + e.val
  omega

end Cert.MergeLayout

end
-- ==== Proof.Merge.Reference.lean ====
/-
  The array the reference leaves, over the reals: each entry the sum of the three branches' gradients there.
-/
module

public import proofs.«01_k».proof.Proof.Gen.MergeRefIdeal.Read
public import proofs.«01_k».proof.Proof.Gen.MergeRefIdeal.Run
public import proofs.«01_k».proof.Proof.Merge.Tiles

@[expose] public section

noncomputable section

namespace Cert.MergeRefIdeal.Reference

open Cert.MergeRefIdeal Cert.MergeRefIdeal.Read Cert.MergeTiles Idealize.ShloMosaic Idealize.ShloMosaic.TcCoe Idealize.SL.Sem ValueIdx

/-- The sum of three branches' gradients. -/
def sum3 (x y z : FVec Ideal S4096x8x64 .f32) (s : Fin 4096) (hd : Fin 8) (e : Fin 64) : EReal :=
  x (ix3 s hd e) + y (ix3 s hd e) + z (ix3 s hd e)

/-- The column of head `hd` within its part. -/
abbrev inner (hd : Fin 8) (e : Fin 64) : Fin 512 := ⟨64 * hd.val + e.val, by omega⟩

/-- The heads' columns side by side. -/
theorem wide_at (w : FVec Ideal S4096x8x64 .f32) (sc : S4096x8x64.ShapeCasts S4096x512) (s : Fin 4096) (hd : Fin 8) (e : Fin 64) :
    shapeCast S4096x512 w sc (ix2 s (inner hd e)) = w (ix3 s hd e) := by
  refine shapeCast_apply _ sc _ (ix3 s hd e) ?_
  rw [Shape.rowMajor_val_three, Shape.rowMajor_val_two]
  show (s.val * 8 + hd.val) * 64 + e.val = s.val * 512 + (64 * hd.val + e.val)
  omega

/-- The three parts side by side. -/
theorem beside (a b d : FVec Ideal S4096x512 .f32) (h : Shape.Concatenates [S4096x512, S4096x512, S4096x512] S4096x1536 1)
    (s : Fin 4096) (j : Fin 3) (hd : Fin 8) (e : Fin 64) :
    concatenate S4096x1536 1 [⟨S4096x512, a⟩, ⟨S4096x512, b⟩, ⟨S4096x512, d⟩] h (ix2 s (col j hd e)) = (![a, b, d] j) (ix2 s (inner hd e)) := by
  refine concatenate_apply_piece (t := S4096x1536) (1 : Fin 2) [⟨S4096x512, a⟩, ⟨S4096x512, b⟩, ⟨S4096x512, d⟩] h (ix2 s (col j hd e)) j.val j.isLt S4096x512 (![a, b, d] j) ?_ rfl (512 * j.val) ?_ _ (fun p hp => ?_) ?_
  · match j with
    | 0 => rfl
    | 1 => rfl
    | 2 => rfl
  · match j with
    | 0 => rfl
    | 1 => rfl
    | 2 => rfl
  · match p with
    | ⟨0, _⟩ => rfl
    | ⟨1, _⟩ => exact absurd rfl hp
  · show 512 * j.val + (64 * hd.val + e.val) = 512 * j.val + 64 * hd.val + e.val
    omega

theorem v17_at (x0 x1 x2 x3 x4 x5 x6 x7 x8 : FVec Ideal S4096x8x64 .f32) (s : Fin 4096) (j : Fin 3) (hd : Fin 8) (e : Fin 64) :
    val_main_v17 (F := Ideal) x0 x1 x2 x3 x4 x5 x6 x7 x8 (ix2 s (col j hd e)) = sum3 (![x0, x1, x2] j) (![x3, x4, x5] j) (![x6, x7, x8] j) s hd e := by
  show val_main_v16 (F := Ideal) x0 x1 x2 x3 x4 x5 x6 x7 x8 (ix2 s (col j hd e)) = _
  unfold val_main_v16
  refine (beside _ _ _ _ s j hd e).trans ?_
  match j with
  | 0 => exact wide_at (val_main_v10 (F := Ideal) x0 x3 x6) _ s hd e
  | 1 => exact wide_at (val_main_v11 (F := Ideal) x1 x4 x7) _ s hd e
  | 2 => exact wide_at (val_main_v12 (F := Ideal) x2 x5 x8) _ s hd e

end Cert.MergeRefIdeal.Reference

end
-- ==== Proof.Merge.Final.lean ====
/-
  The array the kernel leaves, over the reals: each entry the sum of the three branches' gradients there.
-/
module

public import proofs.«01_k».proof.Proof.Merge.Block
public import proofs.«01_k».proof.Proof.Merge.Layout
public import proofs.«01_k».proof.Proof.Merge.Reference
public import proofs.«01_k».proof.Proof.Base.Rows

@[expose] public section

noncomputable section

namespace Cert.MergeIdeal.Final

open Cert.MergeIdeal Cert.MergeIdeal.Gen Cert.MergeIdeal.Block Cert.MergeTiles Cert.MergeLayout Cert.Rows
open Cert.MergeRefIdeal.Reference (sum3)
open Idealize.ShloMosaic Idealize.ShloMosaic.TcCoe Idealize.SL.Sem ValueIdx

variable (m : (ℓ : Loc nD τ sig) → Buf (Elt Ideal) ℓ) (c : Dev nD)

/-- The three windows of one branch move together: along the rows, one block at a point. -/
theorem index_plain : ∀ t : Fin cfg0.N, (win0_0.index t 0 = 0 ∧ win0_0.index t 1 = t.val ∧ win0_0.index t 2 = 0)
    ∧ (win0_1.index t 0 = 0 ∧ win0_1.index t 1 = t.val ∧ win0_1.index t 2 = 0) ∧ win0_2.index t 0 = 0 ∧ win0_2.index t 1 = t.val ∧ win0_2.index t 2 = 0 :=
  (by decide +kernel : ∀ t : Fin grid0.N, (win0_0.index t 0 = 0 ∧ win0_0.index t 1 = t.val ∧ win0_0.index t 2 = 0)
    ∧ (win0_1.index t 0 = 0 ∧ win0_1.index t 1 = t.val ∧ win0_1.index t 2 = 0) ∧ win0_2.index t 0 = 0 ∧ win0_2.index t 1 = t.val ∧ win0_2.index t 2 = 0)

/-- An index of a residue-ordered array's window. -/
abbrev Along (f : Fin 4 → ℕ) (t : ℕ) : Prop := f 0 = 0 ∧ f 1 = 0 ∧ f 2 = t ∧ f 3 = 0

theorem index_residues : ∀ t : Fin cfg0.N, Along (win0_3.index t) t ∧ Along (win0_4.index t) t ∧ Along (win0_5.index t) t
    ∧ Along (win0_6.index t) t ∧ Along (win0_7.index t) t ∧ Along (win0_8.index t) t :=
  (by decide +kernel : ∀ t : Fin grid0.N, Along (win0_3.index t) t ∧ Along (win0_4.index t) t ∧ Along (win0_5.index t) t
    ∧ Along (win0_6.index t) t ∧ Along (win0_7.index t) t ∧ Along (win0_8.index t) t)

theorem index_out : ∀ t : Fin cfg0.N, win0_9.index t 0 = t.val ∧ win0_9.index t 1 = 0 :=
  (by decide +kernel : ∀ t : Fin grid0.N, win0_9.index t 0 = t.val ∧ win0_9.index t 1 = 0)

theorem N_8 (t : Fin cfg0.N) : t.val < 8 := lt_of_lt_of_eq t.isLt (by decide)

theorem row_lt (t : Fin cfg0.N) (p : Fin 512) : (row 512 t.val p : Fin 4096).val = 512 * t.val + p.val :=
  row_val p 8 rfl (N_8 t)

/-! ## The arrays the windows read -/

/-- An argument. -/
abbrev arg (b j : Fin 3) : FVec Ideal S4096x8x64 .f32 := match b, j with
  | 0, 0 => m ((c : Thread nD τ).loc main_arg0)
  | 0, 1 => m ((c : Thread nD τ).loc main_arg1)
  | 0, 2 => m ((c : Thread nD τ).loc main_arg2)
  | 1, 0 => m ((c : Thread nD τ).loc main_arg3)
  | 1, 1 => m ((c : Thread nD τ).loc main_arg4)
  | 1, 2 => m ((c : Thread nD τ).loc main_arg5)
  | 2, 0 => m ((c : Thread nD τ).loc main_arg6)
  | 2, 1 => m ((c : Thread nD τ).loc main_arg7)
  | 2, 2 => m ((c : Thread nD τ).loc main_arg8)

/-- Heads first. -/
def v1 (x : FVec Ideal S4096x8x64 .f32) : FVec Ideal S8x4096x64 .f32 :=
  shapeCast S8x4096x64 (transpose S8x1x4096x64 [2, 1, 0, 3] (shapeCast S4096x1x8x64 x shapeCasts_S4096x8x64_S4096x1x8x64)
    transposes_S4096x1x8x64_S8x1x4096x64_2_1_0_3) shapeCasts_S8x1x4096x64_S8x4096x64

/-- Heads first, then the residues by 4. -/
def v4 (x : FVec Ideal S4096x8x64 .f32) : FVec Ideal S8x4x1024x64 .f32 :=
  shapeCast S8x4x1024x64 (shapeCast S8x4096x64 (transpose S8x4x1024x64 [2, 1, 0, 3] (shapeCast S1024x4x8x64 x shapeCasts_S4096x8x64_S1024x4x8x64)
    transposes_S1024x4x8x64_S8x4x1024x64_2_1_0_3) shapeCasts_S8x4x1024x64_S8x4096x64) shapeCasts_S8x4096x64_S8x4x1024x64

/-- Heads first, then the residues by 16. -/
def v16 (x : FVec Ideal S4096x8x64 .f32) : FVec Ideal S8x16x256x64 .f32 :=
  shapeCast S8x16x256x64 (shapeCast S8x4096x64 (transpose S8x16x256x64 [2, 1, 0, 3] (shapeCast S256x16x8x64 x shapeCasts_S4096x8x64_S256x16x8x64)
    transposes_S256x16x8x64_S8x16x256x64_2_1_0_3) shapeCasts_S8x16x256x64_S8x4096x64) shapeCasts_S8x4096x64_S8x16x256x64

theorem found1 : V m c main_v2 = v1 (arg m c 0 0) ∧ V m c main_v5 = v1 (arg m c 0 1) ∧ V m c main_v8 = v1 (arg m c 0 2) := ⟨rfl, rfl, rfl⟩
theorem found4 : V m c main_v27 = v4 (arg m c 1 0) ∧ V m c main_v28 = v4 (arg m c 1 1) ∧ V m c main_v29 = v4 (arg m c 1 2) := ⟨rfl, rfl, rfl⟩
theorem found16 : V m c main_v30 = v16 (arg m c 2 0) ∧ V m c main_v31 = v16 (arg m c 2 1) ∧ V m c main_v32 = v16 (arg m c 2 2) := ⟨rfl, rfl, rfl⟩

/-- A block of a window of the first branch. -/
theorem plain_at (x : FVec Ideal S4096x8x64 .f32) (f : Fin 3 → ℕ) (t : Fin cfg0.N) (hf : f 0 = 0 ∧ f 1 = t.val ∧ f 2 = 0) (i : S8x4096x64.Idx)
    (hd : Fin 8) (p : Fin 512) (e : Fin 64) (h0 : (i 0).val = f 0 * 8 + 1 * hd.val) (h1 : (i 1).val = f 1 * 512 + 1 * p.val)
    (h2 : (i 2).val = f 2 * 64 + 1 * e.val) : v1 x i = x (ix3 (row 512 t.val p) hd e) := by
  obtain ⟨f0, f1, f2⟩ := hf
  have e : i = ix3 hd (row 512 t.val p) e := funext fun a => Fin.ext (by
    match a with
    | ⟨0, _⟩ => show (i 0).val = hd.val; omega
    | ⟨1, _⟩ => show (i 1).val = (row 512 t.val p : Fin 4096).val; rw [row_lt]; omega
    | ⟨2, _⟩ => show (i 2).val = e.val; omega)
  rw [e]
  exact plain x _ _ _ hd _ _

/-- A block of a window of a branch in the order of residues. -/
theorem residues_at {D N n : ℕ} (x : FVec Ideal S4096x8x64 .f32) (A : (⟨4, ![8, D, N, 64]⟩ : Shape).Idx → EReal)
    (hA : ∀ (hd : Fin 8) (r : Fin D) (q : Fin N) (e : Fin 64) (s : Fin 4096), s.val = D * q.val + r.val → A (ix4 hd r q e) = x (ix3 s hd e))
    (hn : D * n = 512) (f : Fin 4 → ℕ) (t : Fin cfg0.N) (hf : Along f t.val) (i : (⟨4, ![8, D, N, 64]⟩ : Shape).Idx)
    (hd : Fin 8) (r : Fin D) (q : Fin n) (e : Fin 64) (h0 : (i 0).val = f 0 * 8 + 1 * hd.val) (h1 : (i 1).val = f 1 * D + 1 * r.val)
    (h2 : (i 2).val = f 2 * n + 1 * q.val) (h3 : (i 3).val = f 3 * 64 + 1 * e.val) :
    A i = x (ix3 (row 512 t.val (rowOf hn r q)) hd e) := by
  obtain ⟨f0, f1, f2, f3⟩ := hf
  rw [f0] at h0; rw [f1] at h1; rw [f2] at h2; rw [f3] at h3
  have e : i = ix4 hd r (i 2) e := funext fun a => Fin.ext (by
    match a with
    | ⟨0, _⟩ => show (i 0).val = hd.val; omega
    | ⟨1, _⟩ => show (i 1).val = r.val; omega
    | ⟨2, _⟩ => rfl
    | ⟨3, _⟩ => show (i 3).val = e.val; omega)
  rw [e]
  refine hA hd r (i 2) _ _ ?_
  rw [row_lt, h2]
  show 512 * t.val + (D * q.val + r.val) = D * (t.val * n + 1 * q.val) + r.val
  rw [← hn]; ring

theorem plain_blocks (t : Fin cfg0.N) (hd : Fin 8) (p : Fin 512) (e : Fin 64) :
    (iblk m c 0 t : Vec Ideal S8x512x64 .f32) (ix3 hd p e) = arg m c 0 0 (ix3 (row 512 t.val p) hd e)
    ∧ (iblk m c 1 t : Vec Ideal S8x512x64 .f32) (ix3 hd p e) = arg m c 0 1 (ix3 (row 512 t.val p) hd e)
    ∧ (iblk m c 2 t : Vec Ideal S8x512x64 .f32) (ix3 hd p e) = arg m c 0 2 (ix3 (row 512 t.val p) hd e) := by
  refine ⟨?_, ?_, ?_⟩ <;> unfold iblk <;> rw [View.read_apply]
  · exact (congrFun (found1 m c).1 _).trans (plain_at _ _ t (index_plain t).1 _ hd p e rfl rfl rfl)
  · exact (congrFun (found1 m c).2.1 _).trans (plain_at _ _ t (index_plain t).2.1 _ hd p e rfl rfl rfl)
  · exact (congrFun (found1 m c).2.2 _).trans (plain_at _ _ t (index_plain t).2.2 _ hd p e rfl rfl rfl)

theorem by4 (x : FVec Ideal S4096x8x64 .f32) (hd : Fin 8) (r : Fin 4) (q : Fin 1024) (e : Fin 64) (s : Fin 4096) (hs : s.val = 4 * q.val + r.val) :
    v4 x (ix4 hd r q e) = x (ix3 s hd e) := ordered (D := 4) (N := 1024) x _ _ _ _ rfl hd r q e s hs

theorem by16 (x : FVec Ideal S4096x8x64 .f32) (hd : Fin 8) (r : Fin 16) (q : Fin 256) (e : Fin 64) (s : Fin 4096) (hs : s.val = 16 * q.val + r.val) :
    v16 x (ix4 hd r q e) = x (ix3 s hd e) := ordered (D := 16) (N := 256) x _ _ _ _ rfl hd r q e s hs

theorem blocks4 (t : Fin cfg0.N) (hd : Fin 8) (r : Fin 4) (q : Fin 128) (e : Fin 64) :
    (iblk m c 3 t : Vec Ideal S8x4x128x64 .f32) (ix4 hd r q e) = arg m c 1 0 (ix3 (row 512 t.val (rowOf (D := 4) (n := 128) rfl r q)) hd e)
    ∧ (iblk m c 4 t : Vec Ideal S8x4x128x64 .f32) (ix4 hd r q e) = arg m c 1 1 (ix3 (row 512 t.val (rowOf (D := 4) (n := 128) rfl r q)) hd e)
    ∧ (iblk m c 5 t : Vec Ideal S8x4x128x64 .f32) (ix4 hd r q e) = arg m c 1 2 (ix3 (row 512 t.val (rowOf (D := 4) (n := 128) rfl r q)) hd e) := by
  refine ⟨?_, ?_, ?_⟩ <;> unfold iblk <;> rw [View.read_apply]
  · exact (congrFun (found4 m c).1 _).trans (residues_at _ _ (by4 _) rfl _ t (index_residues t).1 _ hd r q e rfl rfl rfl rfl)
  · exact (congrFun (found4 m c).2.1 _).trans (residues_at _ _ (by4 _) rfl _ t (index_residues t).2.1 _ hd r q e rfl rfl rfl rfl)
  · exact (congrFun (found4 m c).2.2 _).trans (residues_at _ _ (by4 _) rfl _ t (index_residues t).2.2.1 _ hd r q e rfl rfl rfl rfl)

theorem blocks16 (t : Fin cfg0.N) (hd : Fin 8) (r : Fin 16) (q : Fin 32) (e : Fin 64) :
    (iblk m c 6 t : Vec Ideal S8x16x32x64 .f32) (ix4 hd r q e) = arg m c 2 0 (ix3 (row 512 t.val (rowOf (D := 16) (n := 32) rfl r q)) hd e)
    ∧ (iblk m c 7 t : Vec Ideal S8x16x32x64 .f32) (ix4 hd r q e) = arg m c 2 1 (ix3 (row 512 t.val (rowOf (D := 16) (n := 32) rfl r q)) hd e)
    ∧ (iblk m c 8 t : Vec Ideal S8x16x32x64 .f32) (ix4 hd r q e) = arg m c 2 2 (ix3 (row 512 t.val (rowOf (D := 16) (n := 32) rfl r q)) hd e) := by
  refine ⟨?_, ?_, ?_⟩ <;> unfold iblk <;> rw [View.read_apply]
  · exact (congrFun (found16 m c).1 _).trans (residues_at _ _ (by16 _) rfl _ t (index_residues t).2.2.2.1 _ hd r q e rfl rfl rfl rfl)
  · exact (congrFun (found16 m c).2.1 _).trans (residues_at _ _ (by16 _) rfl _ t (index_residues t).2.2.2.2.1 _ hd r q e rfl rfl rfl rfl)
  · exact (congrFun (found16 m c).2.2 _).trans (residues_at _ _ (by16 _) rfl _ t (index_residues t).2.2.2.2.2 _ hd r q e rfl rfl rfl rfl)

/-! ## The array -/

/-- A row of a block is the row of its residue and place. -/
theorem row_res {D n : ℕ} (h : D * n = 512) (p : Fin 512) : rowOf h (res h p) (place h p) = p := Fin.ext (Nat.div_add_mod _ _)

theorem parts_at (t : Fin cfg0.N) (j : Fin 3) (hd : Fin 8) (p : Fin 512) (e : Fin 64) :
    (parts m c t j (ix3 hd p e) : EReal) = sum3 (arg m c 0 j) (arg m c 1 j) (arg m c 2 j) (row 512 t.val p) hd e := by
  obtain ⟨p0, p1, p2⟩ := plain_blocks m c t hd p e
  obtain ⟨q0, q1, q2⟩ := blocks4 m c t hd (res (D := 4) (n := 128) rfl p) (place (D := 4) (n := 128) rfl p) e
  obtain ⟨s0, s1, s2⟩ := blocks16 m c t hd (res (D := 16) (n := 32) rfl p) (place (D := 16) (n := 32) rfl p) e
  rw [row_res] at q0 q1 q2 s0 s1 s2
  match j with
  | 0 => exact congrArg₂ (fun x y : EReal => x + y) (congrArg₂ (fun x y : EReal => x + y) p0 q0) s0
  | 1 => exact congrArg₂ (fun x y : EReal => x + y) (congrArg₂ (fun x y : EReal => x + y) p1 q1) s1
  | 2 => exact congrArg₂ (fun x y : EReal => x + y) (congrArg₂ (fun x y : EReal => x + y) p2 q2) s2

/-- A row is a row of some point's block. -/
theorem of_row (r : Fin 4096) : ∃ (t : Fin cfg0.N) (p : Fin 512), r = row 512 t.val p := by
  have hr : r.val / 512 < cfg0.N := by rw [show cfg0.N = 8 by decide]; omega
  exact ⟨⟨r.val / 512, hr⟩, ⟨r.val % 512, Nat.mod_lt _ (by omega)⟩, Fin.ext (by rw [row_lt]; dsimp only; omega)⟩

theorem at9 (r : Fin 4096) (j : Fin 3) (hd : Fin 8) (e : Fin 64) :
    ((dats m 0 c).arrAt 9 cfg0.N : Vec Ideal S4096x1536 .bf16) (ix2 r (col j hd e)) = sum3 (arg m c 0 j) (arg m c 1 j) (arg m c 2 j) r hd e := by
  obtain ⟨t, p, rfl⟩ := of_row r
  refine Eq.trans ?_ ((out9 m c t j hd p e).trans (parts_at m c t j hd p e))
  have h := congrFun ((Value.blocks9 m c t (flush0_9 t)).trans (Value.flushed9 m c t)) (ix2 p (col j hd e))
  rw [View.read_apply] at h
  refine Eq.trans (congrArg ((dats m 0 c).arrAt 9 cfg0.N) (funext fun a => Fin.ext ?_)) h
  match a with
  | ⟨0, _⟩ => show (row 512 t.val p : Fin 4096).val = win0_9.index t 0 * 512 + 1 * p.val; rw [(index_out t).1, row_lt]; omega
  | ⟨1, _⟩ => show (col j hd e).val = win0_9.index t 1 * 1536 + 1 * (col j hd e).val; rw [(index_out t).2]; omega

end Cert.MergeIdeal.Final

end
-- ==== Proof.Merge.Equation.lean ====
/-
  The two programs leave the same array.
-/
module

public import proofs.«01_k».proof.Defs
public import proofs.«01_k».proof.Proof.Merge.Final

@[expose] public section

noncomputable section

namespace Cert.Merge.Equation

open Cert.MergeTiles Cert.MergeRefIdeal.Reference Idealize.ShloMosaic Idealize.ShloMosaic.TcCoe Idealize.SL.Sem ValueIdx

/-- The reference terminates, keeps its arguments, and has no semaphore. -/
theorem frame_ref : Cert.quiescent_MergeRefIdeal := fun m ρ _ =>
  (θ_run MergeRefIdeal.defs _ _).mono (fun r h => ⟨fun c => (h c).2, sem_eq_zero_of_no_sems (by decide) r.2⟩)
    (MergeRefIdeal.Value.run (F := Ideal) m ρ)

/-- A column is a column of a head of a part. -/
theorem of_col (k : Fin 1536) : ∃ (j : Fin 3) (hd : Fin 8) (e : Fin 64), k = col j hd e :=
  ⟨⟨k.val / 512, by omega⟩, ⟨k.val % 512 / 64, by omega⟩, ⟨k.val % 64, by omega⟩, Fin.ext (by dsimp only; omega)⟩

/-- The sum of the branches' gradients: kernel and reference agree. -/
theorem algebraic : Cert.algebraic_MergeIdeal_MergeRefIdeal := by
  intro m g m' g' _ heq
  refine ⟨fun c => (MergeIdeal.Gen.dats m 0 c).arrAt 9 MergeIdeal.cfg0.N, MergeIdeal.Value.run_blocks m g, ?_⟩
  refine (θ_run _ _ _).mono (fun r h c => ?_) (MergeRefIdeal.Value.run m' g')
  obtain ⟨h0, hargs⟩ := h c
  obtain ⟨e0, e1, e2, e3, e4, e5, e6, e7, e8⟩ := heq c
  refine ⟨h0.trans ?_, hargs⟩
  rw [MergeRefIdeal.Read.val_main_v17_eq, e0, e1, e2, e3, e4, e5, e6, e7, e8]
  refine funext fun i => ?_
  obtain ⟨s, k, rfl⟩ : ∃ (s : Fin 4096) (k : Fin 1536), i = ix2 s k := ⟨i 0, i 1, eq_ix2 i⟩
  obtain ⟨j, hd, e, rfl⟩ := of_col k
  refine (v17_at _ _ _ _ _ _ _ _ _ s j hd e).trans (Eq.trans ?_ (MergeIdeal.Final.at9 m c s j hd e).symm)
  match j with
  | 0 => rfl
  | 1 => rfl
  | 2 => rfl

end Cert.Merge.Equation

end
-- ==== Proof.Outln.Rows.lean ====
/-
  The norm of a row, entry by entry, as both programs take it: the row less its mean, the inverse deviation, the
  normalised row, scaled and shifted. The words of the programs' literals stay words.
-/
module

public import Idealize.ShloMosaic.PureOps.Ideal.Laws

@[expose] public section

noncomputable section

namespace Cert.Outln

open Idealize.ShloMosaic

/-- The row less its mean. -/
def cen (z : Fin 1024 → EReal) (k : Fin 1024) : EReal := z k - Ideal.div (∑ q, z q) (Ideal.ofBits .f32 0x44800000#32)

/-- The inverse deviation. -/
def rs (z : Fin 1024 → EReal) : EReal :=
  Ideal.rsqrt (Ideal.div (∑ q, cen z q * cen z q) (Ideal.ofBits .f32 0x44800000#32) + Ideal.ofBits .f32 0x3727C5AC#32)

/-- The normalised row. -/
def xh (z : Fin 1024 → EReal) (k : Fin 1024) : EReal := cen z k * rs z

/-- The norm's output. -/
def y (z g b : Fin 1024 → EReal) (k : Fin 1024) : EReal := xh z k * g k + b k

/-- A row of the first half of the weight. -/
abbrev lo (j : Fin 512) : Fin 1024 := ⟨j.val, by omega⟩

/-- A row of the second half of the weight. -/
abbrev hi (j : Fin 512) : Fin 1024 := ⟨512 + j.val, by omega⟩

/-- The row before the norm: the residual and the two attentions' products with their halves of the weight. -/
def mix (a d : Fin 512 → EReal) (w : Fin 1024 → Fin 1024 → EReal) (x : Fin 1024 → EReal) (k : Fin 1024) : EReal :=
  Ideal.ofBits .f32 0x3F9837F0#32 * x k + ((∑ j, a j * w (lo j) k) + ∑ j, d j * w (hi j) k)

/-- A sum over the columns is the sum over the first half and the sum over the second. -/
theorem sum_halves (f : Fin 1024 → EReal) : ∑ j, f j = (∑ j, f (lo j)) + ∑ j, f (hi j) :=
  Fin.sum_univ_add (a := 512) (b := 512) f

end Cert.Outln

end
-- ==== Proof.Outln.Payloads.lean ====
/-
  The arithmetic of the kernel that takes the output product and the first layer norm, on one block of 512 rows: what each
  stored word is, entry by entry, from the block's entries.
-/
module

public import proofs.«01_k».proof.Proof.Outln.Rows
public import proofs.«01_k».proof.Proof.Base.At
public import proofs.«01_k».proof.Proof.Gen.OutlnIdeal.Skeleton

@[expose] public section

noncomputable section

namespace Cert.OutlnIdeal.Payloads

open Cert.OutlnIdeal Cert.OutlnIdeal.Gen Cert.Outln Idealize.ShloMosaic ValueIdx

theorem sums (x : FVec Ideal S512x1024 .f32) (hφ : FKind.Formats .f32) (ha : At.Zero) (p : Fin 512) :
    multiReduction .add [1] S512 x 0x00000000#32 reduces_S512x1024_S512 hφ ha (ix1 p) = ∑ q, x (ix2 p q) :=
  At.sumRow x _ _ _ p

theorem half (l : FVec Ideal S512x512 .bf16) (r : FVec Ideal S512x1024 .bf16) (p : Fin 512) (q : Fin 1024) :
    matmul dot_S512x512_S512x1024_S512x1024_1_0_0_1_n_n none l r (constant S512x1024 .f32 0x00000000#32) (ix2 p q)
      = ∑ j : Fin 512, l (ix2 p j) * r (ix2 j q) :=
  At.mm rfl ..

variable {v0 v5 : Vec Ideal S512x512 .f32} {v2 v7 : Vec Ideal S512x1024 .bf16} {v11 : Vec Ideal S512x1024 .f32}
variable {Z : Fin 512 → Fin 1024 → EReal}
variable (hz : ∀ p k, Ideal.ofBits .f32 0x3F9837F0#32 * v11 (ix2 p k)
  + ((∑ j : Fin 512, v0 (ix2 p j) * v2 (ix2 j k)) + ∑ j : Fin 512, v5 (ix2 p j) * v7 (ix2 j k)) = Z p k)
include hz

/-- The centred rows. -/
theorem centred (p : Fin 512) (k : Fin 1024) : k0_pay4 v0 v2 v5 v7 v11 (ix2 p k) = cen (Z p) k := by
  unfold k0_pay4
  dsimp only
  simp only [subf_apply, At.col, divf_apply, At.toCol, broadcast_apply]
  rw [sums]
  simp only [addf_apply, mulf_apply, half, shapeCast_self, broadcast_apply]
  unfold cen
  rw [← hz p k, ← funext fun q => hz p q]
  rfl

/-- The inverse deviations. -/
theorem inverse (p : Fin 512) : k0_pay5 v0 v2 v5 v7 v11 (ix2 p 0) = rs (Z p) := by
  unfold k0_pay5
  dsimp only
  show Ideal.rsqrt _ = _
  simp only [addf_apply, divf_apply, At.toCol, broadcast_apply]
  rw [sums]
  simp only [mulf_apply, centred hz]
  rfl

/-- The normalised rows. -/
theorem normalised (p : Fin 512) (k : Fin 1024) : k0_pay6 v0 v2 v5 v7 v11 (ix2 p k) = xh (Z p) k := by
  unfold k0_pay6
  rw [mulf_apply, At.col, centred hz, inverse hz]
  rfl

variable {v15 v17 : Vec Ideal S1x1024 .f32} {G B : Fin 1024 → EReal}
variable (hG : ∀ k, v15 (ix2 0 k) = G k) (hB : ∀ k, v17 (ix2 0 k) = B k)
include hG hB

/-- The norm's output. -/
theorem output (p : Fin 512) (k : Fin 1024) :
    k0_pay1 (k0_pay3 v17) (k0_pay7 v0 v2 v5 v7 v11 v15) (ix2 p k) = y (Z p) G B k := by
  unfold k0_pay1 k0_pay3 k0_pay7
  dsimp only
  rw [addf_apply, mulf_apply, At.row, At.row, normalised hz, shapeCast_self, shapeCast_self, hG, hB]
  rfl

/-- The norm's output, narrowed: the same entries over the reals. -/
theorem narrowed (p : Fin 512) (k : Fin 1024) :
    k0_pay2 (k0_pay3 v17) (k0_pay7 v0 v2 v5 v7 v11 v15) (ix2 p k) = y (Z p) G B k :=
  output hz hG hB p k

end Cert.OutlnIdeal.Payloads

end
-- ==== Proof.Outln.Final.lean ====
/-
  The arrays the kernel leaves, entry by entry: the norm of the row before it, from the arguments.
-/
module

public import proofs.«01_k».proof.Proof.Outln.Payloads
public import proofs.«01_k».proof.Proof.Base.Rows
public import proofs.«01_k».proof.Proof.Gen.OutlnIdeal.Value

@[expose] public section

noncomputable section

namespace Cert.OutlnIdeal.Final

open Cert.OutlnIdeal Cert.OutlnIdeal.Gen Cert.OutlnIdeal.Payloads Cert.Outln Cert.Rows
open Idealize.ShloMosaic Idealize.ShloMosaic.TcCoe Idealize.SL.Sem ValueIdx

variable (m : (ℓ : Loc nD τ sig) → Buf (Elt Ideal) ℓ) (c : Dev nD)

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ win0_5.index t 0 = 0 ∧ win0_5.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ win0_5.index t 0 = 0 ∧ win0_5.index t 1 = 0)

theorem index_out : ∀ t : Fin cfg0.N, (win0_6.index t 0 = t.val ∧ win0_6.index t 1 = 0) ∧ (win0_7.index t 0 = t.val ∧ win0_7.index t 1 = 0)
    ∧ (win0_8.index t 0 = t.val ∧ win0_8.index t 1 = 0) ∧ win0_9.index t 0 = t.val ∧ win0_9.index t 1 = 0 :=
  (by decide +kernel : ∀ t : Fin grid0.N, (win0_6.index t 0 = t.val ∧ win0_6.index t 1 = 0) ∧ (win0_7.index t 0 = t.val ∧ win0_7.index t 1 = 0)
    ∧ (win0_8.index t 0 = t.val ∧ win0_8.index t 1 = 0) ∧ win0_9.index t 0 = t.val ∧ win0_9.index t 1 = 0)

theorem row_lt (t : Fin cfg0.N) (p : Fin 512) : (row 512 t.val p : Fin 4096).val = 512 * t.val + p.val :=
  row_val p 8 rfl (lt_of_lt_of_eq t.isLt N_0)

/-! ## The blocks read -/

abbrev a0 : FVec Ideal S4096x512 .f32 := m ((c : Thread nD τ).loc main_arg0)
abbrev a1 : FVec Ideal S4096x512 .f32 := m ((c : Thread nD τ).loc main_arg1)
abbrev a2 : FVec Ideal S1024x1024 .f32 := m ((c : Thread nD τ).loc main_arg2)
abbrev a3 : FVec Ideal S4096x1024 .f32 := m ((c : Thread nD τ).loc main_arg3)
abbrev a4 : FVec Ideal S1024 .f32 := m ((c : Thread nD τ).loc main_arg4)
abbrev a5 : FVec Ideal S1024 .f32 := m ((c : Thread nD τ).loc main_arg5)

abbrev bA (t : Fin cfg0.N) : Vec Ideal S512x512 .f32 := iblk m c 0 t
abbrev bD (t : Fin cfg0.N) : Vec Ideal S512x512 .f32 := iblk m c 1 t
abbrev bW (t : Fin cfg0.N) : Vec Ideal S1024x1024 .bf16 := iblk m c 2 t
abbrev bX (t : Fin cfg0.N) : Vec Ideal S512x1024 .f32 := iblk m c 3 t
abbrev bG (t : Fin cfg0.N) : Vec Ideal S1x1024 .f32 := iblk m c 4 t
abbrev bB (t : Fin cfg0.N) : Vec Ideal S1x1024 .f32 := iblk m c 5 t

theorem a_at (t : Fin cfg0.N) (p : Fin 512) (j : Fin 512) : bA m c t (ix2 p j) = a0 m c (ix2 (row 512 t.val p) j) := by
  unfold bA iblk
  rw [View.read_apply]
  refine (congrFun (V_main_arg0 m c) _).trans (congrArg (a0 m c) (funext fun a => Fin.ext ?_))
  match a with
  | ⟨0, _⟩ => show win0_0.index t 0 * 512 + 1 * p.val = (row 512 t.val p : Fin 4096).val; rw [(index t).1.1, row_lt]; omega
  | ⟨1, _⟩ => show win0_0.index t 1 * 512 + 1 * j.val = j.val; rw [(index t).1.2]; omega

theorem d_at (t : Fin cfg0.N) (p : Fin 512) (j : Fin 512) : bD m c t (ix2 p j) = a1 m c (ix2 (row 512 t.val p) j) := by
  unfold bD iblk
  rw [View.read_apply]
  refine (congrFun (V_main_arg1 m c) _).trans (congrArg (a1 m c) (funext fun a => Fin.ext ?_))
  match a with
  | ⟨0, _⟩ => show win0_1.index t 0 * 512 + 1 * p.val = (row 512 t.val p : Fin 4096).val; rw [(index t).2.1.1, row_lt]; omega
  | ⟨1, _⟩ => show win0_1.index t 1 * 512 + 1 * j.val = j.val; rw [(index t).2.1.2]; omega

theorem w_at (t : Fin cfg0.N) (j k : Fin 1024) : bW m c t (ix2 j k) = a2 m c (ix2 j k) := by
  unfold bW iblk
  rw [View.read_apply]
  show V m c main_v0 _ = _
  rw [show V m c main_v0 = a2 m c from rfl]
  refine congrArg (a2 m c) (funext fun a => Fin.ext ?_)
  match a with
  | ⟨0, _⟩ => show win0_2.index t 0 * 1024 + 1 * j.val = j.val; rw [(index t).2.2.1.1]; omega
  | ⟨1, _⟩ => show win0_2.index t 1 * 1024 + 1 * k.val = k.val; rw [(index t).2.2.1.2]; omega

theorem x_at (t : Fin cfg0.N) (p : Fin 512) (k : Fin 1024) : bX m c t (ix2 p k) = a3 m c (ix2 (row 512 t.val p) k) := by
  unfold bX iblk
  rw [View.read_apply]
  refine (congrFun (V_main_arg3 m c) _).trans (congrArg (a3 m c) (funext fun a => Fin.ext ?_))
  match a with
  | ⟨0, _⟩ => show win0_3.index t 0 * 512 + 1 * p.val = (row 512 t.val p : Fin 4096).val; rw [(index t).2.2.2.1.1, row_lt]; omega
  | ⟨1, _⟩ => show win0_3.index t 1 * 1024 + 1 * k.val = k.val; rw [(index t).2.2.2.1.2]; omega

theorem g_at (t : Fin cfg0.N) (k : Fin 1024) : bG m c t (ix2 0 k) = a4 m c (ix1 k) := by
  unfold bG iblk
  rw [View.read_apply]
  show V m c main_v1 _ = _
  refine Eq.trans ?_ (At.toRow (a4 m c) shapeCasts_S1024_S1x1024 0 k)
  rw [show V m c main_v1 = shapeCast S1x1024 (a4 m c) shapeCasts_S1024_S1x1024 from rfl]
  refine congrArg (shapeCast S1x1024 (a4 m c) shapeCasts_S1024_S1x1024) (funext fun a => Fin.ext ?_)
  match a with
  | ⟨0, _⟩ => show win0_4.index t 0 * 1 + 1 * 0 = 0; rw [(index t).2.2.2.2.1.1]
  | ⟨1, _⟩ => show win0_4.index t 1 * 1024 + 1 * k.val = k.val; rw [(index t).2.2.2.2.1.2]; omega

theorem b_at (t : Fin cfg0.N) (k : Fin 1024) : bB m c t (ix2 0 k) = a5 m c (ix1 k) := by
  unfold bB iblk
  rw [View.read_apply]
  show V m c main_v2 _ = _
  refine Eq.trans ?_ (At.toRow (a5 m c) shapeCasts_S1024_S1x1024 0 k)
  rw [show V m c main_v2 = shapeCast S1x1024 (a5 m c) shapeCasts_S1024_S1x1024 from rfl]
  refine congrArg (shapeCast S1x1024 (a5 m c) shapeCasts_S1024_S1x1024) (funext fun a => Fin.ext ?_)
  match a with
  | ⟨0, _⟩ => show win0_5.index t 0 * 1 + 1 * 0 = 0; rw [(index t).2.2.2.2.2.1]
  | ⟨1, _⟩ => show win0_5.index t 1 * 1024 + 1 * k.val = k.val; rw [(index t).2.2.2.2.2.2]; omega

/-! ## The row before the norm, on a block -/

/-- The row before the norm. -/
abbrev Z (r : Fin 4096) : Fin 1024 → EReal :=
  mix (fun j => a0 m c (ix2 r j)) (fun j => a1 m c (ix2 r j)) (fun j k => a2 m c (ix2 j k)) fun k => a3 m c (ix2 r k)

theorem hz : (![0, 0] : Fin 2 → Nat) = fun _ => 0 := funext fun a => by fin_cases a <;> rfl

theorem top_at (x : Vec Ideal S1024x1024 .bf16) (j : Fin 512) (k : Fin 1024) : View.ld x r0_1 (ix2 j k) = x (ix2 (lo j) k) :=
  congrArg x (funext fun a => Fin.ext (by
    match a with
    | ⟨0, _⟩ => show 0 + 1 * j.val = j.val; omega
    | ⟨1, _⟩ => show 0 + 1 * k.val = k.val; omega))

theorem bottom_at (x : Vec Ideal S1024x1024 .bf16) (j : Fin 512) (k : Fin 1024) : View.ld x r0_2 (ix2 j k) = x (ix2 (hi j) k) :=
  congrArg x (funext fun a => Fin.ext (by
    match a with
    | ⟨0, _⟩ => show 512 + 1 * j.val = 512 + j.val; omega
    | ⟨1, _⟩ => show 0 + 1 * k.val = k.val; omega))

theorem rows_at (t : Fin cfg0.N) (p : Fin 512) (k : Fin 1024) : Ideal.ofBits .f32 0x3F9837F0#32 * bX m c t (ix2 p k)
    + ((∑ j : Fin 512, bA m c t (ix2 p j) * View.ld (bW m c t) r0_1 (ix2 j k))
      + ∑ j : Fin 512, bD m c t (ix2 p j) * View.ld (bW m c t) r0_2 (ix2 j k)) = Z m c (row 512 t.val p) k := by
  have h1 : ∀ j, View.ld (bW m c t) r0_1 (ix2 j k) = a2 m c (ix2 (lo j) k) := fun j => (top_at _ j k).trans (w_at m c t _ k)
  have h2 : ∀ j, View.ld (bW m c t) r0_2 (ix2 j k) = a2 m c (ix2 (hi j) k) := fun j => (bottom_at _ j k).trans (w_at m c t _ k)
  simp only [h1, h2, a_at, d_at, x_at]
  rfl

/-! ## The blocks written -/

theorem out6 (t : Fin cfg0.N) (p : Fin 512) (k : Fin 1024) : out0_6 (bA m c t) (bD m c t) (bW m c t) (bX m c t) (bG m c t) (bB m c t) (ix2 p k)
    = y (Z m c (row 512 t.val p)) (fun k => a4 m c (ix1 k)) (fun k => a5 m c (ix1 k)) k := by
  unfold out0_6 k0_pay8 k0_pay9
  rw [View.canon_unit_zero hz, View.ld_unit_zero (S := S512x512) hz, View.ld_unit_zero (S := S512x512) hz,
    View.ld_unit_zero (S := S512x1024) hz, View.ld_unit_zero (S := S1x1024) hz, View.ld_unit_zero (S := S1x1024) hz]
  exact output (rows_at m c t) (g_at m c t) (b_at m c t) p k

theorem out7 (t : Fin cfg0.N) (p : Fin 512) (k : Fin 1024) : out0_7 (bA m c t) (bD m c t) (bW m c t) (bX m c t) (bG m c t) (bB m c t) (ix2 p k)
    = xh (Z m c (row 512 t.val p)) k := by
  unfold out0_7
  rw [View.canon_unit_zero hz, View.ld_unit_zero (S := S512x512) hz, View.ld_unit_zero (S := S512x512) hz,
    View.ld_unit_zero (S := S512x1024) hz]
  exact normalised (rows_at m c t) p k

theorem out8 (t : Fin cfg0.N) (p : Fin 512) : out0_8 (bA m c t) (bD m c t) (bW m c t) (bX m c t) (bG m c t) (bB m c t) (ix2 p 0)
    = rs (Z m c (row 512 t.val p)) := by
  unfold out0_8
  rw [View.canon_unit_zero hz, View.ld_unit_zero (S := S512x512) hz, View.ld_unit_zero (S := S512x512) hz,
    View.ld_unit_zero (S := S512x1024) hz]
  exact inverse (rows_at m c t) p

theorem out9 (t : Fin cfg0.N) (p : Fin 512) (k : Fin 1024) : out0_9 (bA m c t) (bD m c t) (bW m c t) (bX m c t) (bG m c t) (bB m c t) (ix2 p k)
    = y (Z m c (row 512 t.val p)) (fun k => a4 m c (ix1 k)) (fun k => a5 m c (ix1 k)) k := by
  unfold out0_9 k0_pay8 k0_pay9
  rw [View.canon_unit_zero hz, View.ld_unit_zero (S := S512x512) hz, View.ld_unit_zero (S := S512x512) hz,
    View.ld_unit_zero (S := S512x1024) hz, View.ld_unit_zero (S := S1x1024) hz, View.ld_unit_zero (S := S1x1024) hz]
  exact narrowed (rows_at m c t) (g_at m c t) (b_at m c t) p k

/-! ## The arrays -/

/-- A row is a row of a block. -/
theorem of_row (r : Fin 4096) : ∃ (t : Fin cfg0.N) (p : Fin 512), r = row 512 t.val p := by
  have hr : r.val / 512 < cfg0.N := by rw [show cfg0.N = 8 from N_0]; omega
  exact ⟨⟨r.val / 512, hr⟩, ⟨r.val % 512, Nat.mod_lt _ (by omega)⟩, Fin.ext (by rw [row_lt]; dsimp only; omega)⟩

theorem at6 (r : Fin 4096) (k : Fin 1024) : ((dats m 0 c).arrAt 6 cfg0.N : Vec Ideal S4096x1024 .f32) (ix2 r k)
    = y (Z m c r) (fun k => a4 m c (ix1 k)) (fun k => a5 m c (ix1 k)) k := by
  obtain ⟨t, p, rfl⟩ := of_row r
  have e := congrFun ((Value.blocks6 m c t (flush0_6 t)).trans (Value.flushed6 m c t)) (ix2 p k)
  rw [View.read_apply] at e
  refine Eq.trans ?_ (e.trans (out6 m c t p k))
  refine congrArg ((dats m 0 c).arrAt 6 cfg0.N) (funext fun a => Fin.ext ?_)
  match a with
  | ⟨0, _⟩ => show (row 512 t.val p : Fin 4096).val = win0_6.index t 0 * 512 + 1 * p.val; rw [(index_out t).1.1, row_lt]; omega
  | ⟨1, _⟩ => show k.val = win0_6.index t 1 * 1024 + 1 * k.val; rw [(index_out t).1.2]; omega

theorem at7 (r : Fin 4096) (k : Fin 1024) : ((dats m 0 c).arrAt 7 cfg0.N : Vec Ideal S4096x1024 .f32) (ix2 r k) = xh (Z m c r) k := by
  obtain ⟨t, p, rfl⟩ := of_row r
  have e := congrFun ((Value.blocks7 m c t (flush0_7 t)).trans (Value.flushed7 m c t)) (ix2 p k)
  rw [View.read_apply] at e
  refine Eq.trans ?_ (e.trans (out7 m c t p k))
  refine congrArg ((dats m 0 c).arrAt 7 cfg0.N) (funext fun a => Fin.ext ?_)
  match a with
  | ⟨0, _⟩ => show (row 512 t.val p : Fin 4096).val = win0_7.index t 0 * 512 + 1 * p.val; rw [(index_out t).2.1.1, row_lt]; omega
  | ⟨1, _⟩ => show k.val = win0_7.index t 1 * 1024 + 1 * k.val; rw [(index_out t).2.1.2]; omega

theorem at8 (r : Fin 4096) : ((dats m 0 c).arrAt 8 cfg0.N : Vec Ideal S4096x1 .f32) (ix2 r 0) = rs (Z m c r) := by
  obtain ⟨t, p, rfl⟩ := of_row r
  have e := congrFun ((Value.blocks8 m c t (flush0_8 t)).trans (Value.flushed8 m c t)) (ix2 p 0)
  rw [View.read_apply] at e
  refine Eq.trans ?_ (e.trans (out8 m c t p))
  refine congrArg ((dats m 0 c).arrAt 8 cfg0.N) (funext fun a => Fin.ext ?_)
  match a with
  | ⟨0, _⟩ => show (row 512 t.val p : Fin 4096).val = win0_8.index t 0 * 512 + 1 * p.val; rw [(index_out t).2.2.1.1, row_lt]; omega
  | ⟨1, _⟩ => show 0 = win0_8.index t 1 * 1 + 1 * 0; rw [(index_out t).2.2.1.2]

theorem at9 (r : Fin 4096) (k : Fin 1024) : ((dats m 0 c).arrAt 9 cfg0.N : Vec Ideal S4096x1024 .bf16) (ix2 r k)
    = y (Z m c r) (fun k => a4 m c (ix1 k)) (fun k => a5 m c (ix1 k)) k := by
  obtain ⟨t, p, rfl⟩ := of_row r
  have e := congrFun ((Value.blocks9 m c t (flush0_9 t)).trans (Value.flushed9 m c t)) (ix2 p k)
  rw [View.read_apply] at e
  refine Eq.trans ?_ (e.trans (out9 m c t p k))
  refine congrArg ((dats m 0 c).arrAt 9 cfg0.N) (funext fun a => Fin.ext ?_)
  match a with
  | ⟨0, _⟩ => show (row 512 t.val p : Fin 4096).val = win0_9.index t 0 * 512 + 1 * p.val; rw [(index_out t).2.2.2.1, row_lt]; omega
  | ⟨1, _⟩ => show k.val = win0_9.index t 1 * 1024 + 1 * k.val; rw [(index_out t).2.2.2.2]; omega

end Cert.OutlnIdeal.Final

end
-- ==== Proof.Outln.Reference.lean ====
/-
  What the reference leaves, entry by entry: the rows before the norm, normalised, scaled and shifted.
-/
module

public import proofs.«01_k».proof.Proof.Outln.Rows
public import proofs.«01_k».proof.Proof.Gen.OutlnRefIdeal.Read

@[expose] public section

noncomputable section

namespace Cert.OutlnRefIdeal.Reference

open Cert.OutlnRefIdeal Cert.OutlnRefIdeal.Read Cert.Outln Idealize.ShloMosaic Idealize.ShloMosaic.TcCoe ValueIdx

variable (x0 x1 : FVec Ideal S4096x512 .f32) (x2 : FVec Ideal S1024x1024 .f32) (x3 : FVec Ideal S4096x1024 .f32)
variable (x4 x5 : FVec Ideal S1024 .f32)

/-- The row before the norm. -/
abbrev Z (r : Fin 4096) : Fin 1024 → EReal :=
  mix (fun j => x0 (ix2 r j)) (fun j => x1 (ix2 r j)) (fun j k => x2 (ix2 j k)) fun k => x3 (ix2 r k)

theorem left_at (r : Fin 4096) (j : Fin 512) : val_main_v2 (F := Ideal) x0 x1 (ix2 r (lo j)) = x0 (ix2 r j) := by
  unfold val_main_v2
  refine concatenate_pair_apply_left (t := S4096x1024) (s₁ := S4096x512) (s₂ := S4096x512) (1 : Fin 2) _ _ _ _ rfl _ fun b => ?_
  match b with
  | ⟨0, _⟩ => rfl
  | ⟨1, _⟩ => rfl

theorem right_at (r : Fin 4096) (j : Fin 512) : val_main_v2 (F := Ideal) x0 x1 (ix2 r (hi j)) = x1 (ix2 r j) := by
  unfold val_main_v2
  refine concatenate_pair_apply_right (t := S4096x1024) (s₁ := S4096x512) (s₂ := S4096x512) (1 : Fin 2) _ _ _ _ rfl rfl _ (fun b hb => ?_) ?_
  rotate_left
  · exact Nat.add_comm _ _
  · match b with
    | ⟨0, _⟩ => rfl
    | ⟨1, _⟩ => exact absurd rfl hb

theorem z_at (r : Fin 4096) (k : Fin 1024) : val_main_v4 (F := Ideal) x0 x1 x2 x3 (ix2 r k) = Z x0 x1 x2 x3 r k := by
  rw [val_main_v4_apply, val_main_v1_apply, val_main_v0_apply, val_main_cst_apply, val_main_v3_apply]
  have e : ∀ j : Fin 1024, val_main_v2 (F := Ideal) x0 x1 (lidx_main_v3 (ix2 r k) j) * x2 (ridx_main_v3 (ix2 r k) j)
      = val_main_v2 (F := Ideal) x0 x1 (ix2 r j) * x2 (ix2 j k) := fun j =>
    congrArg₂ (fun a b => val_main_v2 (F := Ideal) x0 x1 a * x2 b) (eq_ix2 _) (eq_ix2 _)
  rw [Finset.sum_congr rfl fun j _ => e j, sum_halves]
  simp only [left_at, right_at]
  rfl

/-- The mean of a row. -/
theorem mean_at (r : Fin 4096) (i : S4096x1.Idx) (h : (i 0).val = r.val) : val_main_v8 (F := Ideal) x0 x1 x2 x3 i
    = Ideal.div (∑ q, Z x0 x1 x2 x3 r q) (Ideal.ofBits .f32 0x44800000#32) := by
  rw [val_main_v8_apply, val_main_v6_apply, val_main_v5_apply, val_main_v7_apply, val_main_cst_1_apply, val_main_cst_0_apply,
    show (FloatOps.ofBits .f32 0x00000000#32 : Ideal .f32) = 0 from Ideal.ofBits_zero_f32, zero_add]
  have e : ∀ q, idx_main_v5 (idx_main_v6 i) q = ix2 r q := fun q => (eq_ix2 _).trans (congrArg (ix2 · q) (Fin.ext h))
  simp only [e, z_at]
  rfl

theorem cen_at (r : Fin 4096) (k : Fin 1024) : val_main_v10 (F := Ideal) x0 x1 x2 x3 (ix2 r k) = cen (Z x0 x1 x2 x3 r) k := by
  rw [val_main_v10_apply, val_main_v9_apply, z_at, mean_at x0 x1 x2 x3 r _ rfl]
  rfl

/-- The inverse deviation of a row. -/
theorem rs_at (r : Fin 4096) (i : S4096x1.Idx) (h : (i 0).val = r.val) : val_main_v18 (F := Ideal) x0 x1 x2 x3 i
    = rs (Z x0 x1 x2 x3 r) := by
  rw [val_main_v18_apply, val_main_v17_apply, val_main_v15_apply, val_main_v13_apply, val_main_v12_apply, val_main_v14_apply,
    val_main_cst_3_apply, val_main_cst_2_apply, val_main_v16_apply, val_main_cst_4_apply,
    show (FloatOps.ofBits .f32 0x00000000#32 : Ideal .f32) = 0 from Ideal.ofBits_zero_f32, zero_add]
  have e : ∀ q, idx_main_v12 (idx_main_v13 i) q = ix2 r q := fun q => (eq_ix2 _).trans (congrArg (ix2 · q) (Fin.ext h))
  simp only [e, val_main_v11_apply, cen_at]
  rfl

/-- The normalised rows. -/
theorem xh_at (r : Fin 4096) (k : Fin 1024) : val_main_v44 (F := Ideal) x0 x1 x2 x3 (ix2 r k) = xh (Z x0 x1 x2 x3 r) k := by
  rw [val_main_v44_apply, val_main_v43_apply, cen_at, rs_at x0 x1 x2 x3 r _ rfl]
  rfl

/-- The lines of the norm take the same steps once more. -/
theorem again (i : S4096x1024.Idx) : val_main_v36 (F := Ideal) x0 x1 x2 x3 i = val_main_v44 (F := Ideal) x0 x1 x2 x3 i := rfl

/-- The norm's output. -/
theorem y_at (r : Fin 4096) (k : Fin 1024) : val_main_v42 (F := Ideal) x0 x1 x2 x3 x4 x5 (ix2 r k)
    = y (Z x0 x1 x2 x3 r) (fun k => x4 (ix1 k)) (fun k => x5 (ix1 k)) k := by
  rw [val_main_v42_apply, val_main_v39_apply, again, xh_at, val_main_v38_apply, val_main_v37_apply, val_main_v41_apply,
    val_main_v40_apply]
  unfold y
  refine congrArg₂ (fun a b => xh (Z x0 x1 x2 x3 r) k * x4 a + x5 b) ?_ ?_
  · exact eq_ix1 _
  · exact eq_ix1 _

end Cert.OutlnRefIdeal.Reference

end
-- ==== Proof.Outln.Equation.lean ====
/-
  The two programs leave the same arrays.
-/
module

public import proofs.«01_k».proof.Defs
public import proofs.«01_k».proof.Proof.Outln.Final
public import proofs.«01_k».proof.Proof.Outln.Reference
public import proofs.«01_k».proof.Proof.Gen.OutlnRefIdeal.Run

@[expose] public section

noncomputable section

namespace Cert.Outln.Equation

open Cert.OutlnRefIdeal.Reference Idealize.ShloMosaic Idealize.ShloMosaic.TcCoe Idealize.SL.Sem ValueIdx

/-- The reference terminates, keeps its arguments, and has no semaphore. -/
theorem frame_ref : Cert.quiescent_OutlnRefIdeal := fun m ρ _ =>
  (θ_run OutlnRefIdeal.defs _ _).mono (fun r h => ⟨fun c => (h c).2.2.2.2, sem_eq_zero_of_no_sems (by decide) r.2⟩)
    (OutlnRefIdeal.Value.run (F := Ideal) m ρ)

/-- The output product with the first norm: kernel and reference agree. -/
theorem algebraic : Cert.algebraic_OutlnIdeal_OutlnRefIdeal := by
  intro m g m' g' _ heq
  refine ⟨fun c => (OutlnIdeal.Gen.dats m 0 c).arrAt 6 OutlnIdeal.cfg0.N, fun c => (OutlnIdeal.Gen.dats m 0 c).arrAt 7 OutlnIdeal.cfg0.N,
    fun c => (OutlnIdeal.Gen.dats m 0 c).arrAt 8 OutlnIdeal.cfg0.N, fun c => (OutlnIdeal.Gen.dats m 0 c).arrAt 9 OutlnIdeal.cfg0.N,
    OutlnIdeal.Value.run_blocks m g, ?_⟩
  refine (θ_run _ _ _).mono (fun r h c => ?_) (OutlnRefIdeal.Value.run m' g')
  obtain ⟨h0, h1, h2, h3, hargs⟩ := h c
  obtain ⟨e0, e1, e2, e3, e4, e5⟩ := heq c
  refine ⟨h0.trans ?_, h1.trans ?_, h2.trans ?_, h3.trans ?_, hargs⟩
  · rw [OutlnRefIdeal.Read.val_main_v42_eq, e0, e1, e2, e3, e4, e5]
    refine funext fun i => ?_
    obtain ⟨s, k, rfl⟩ : ∃ (s : Fin 4096) (k : Fin 1024), i = ix2 s k := ⟨i 0, i 1, eq_ix2 i⟩
    exact (y_at _ _ _ _ _ _ s k).trans (OutlnIdeal.Final.at6 m c s k).symm
  · rw [OutlnRefIdeal.Read.val_main_v44_eq, e0, e1, e2, e3]
    refine funext fun i => ?_
    obtain ⟨s, k, rfl⟩ : ∃ (s : Fin 4096) (k : Fin 1024), i = ix2 s k := ⟨i 0, i 1, eq_ix2 i⟩
    exact (xh_at _ _ _ _ s k).trans (OutlnIdeal.Final.at7 m c s k).symm
  · rw [OutlnRefIdeal.Read.val_main_v18_eq, e0, e1, e2, e3]
    refine funext fun i => ?_
    obtain ⟨s, rfl⟩ : ∃ s : Fin 4096, i = ix2 s 0 := ⟨i 0, (eq_ix2 i).trans (congrArg (ix2 _) (Fin.fin_one_eq_zero _))⟩
    exact (rs_at _ _ _ _ s _ rfl).trans (OutlnIdeal.Final.at8 m c s).symm
  · rw [OutlnRefIdeal.Read.val_main_v45_eq, e0, e1, e2, e3, e4, e5]
    refine funext fun i => ?_
    obtain ⟨s, k, rfl⟩ : ∃ (s : Fin 4096) (k : Fin 1024), i = ix2 s k := ⟨i 0, i 1, eq_ix2 i⟩
    exact (y_at _ _ _ _ _ _ s k).trans (OutlnIdeal.Final.at9 m c s k).symm

end Cert.Outln.Equation

end
-- ==== Proof.Comb.Tiles.lean ====
/-
  The rows of a block put in their order residue by residue, and the columns of one head as they are stored.
-/
module

public import proofs.«01_k».proof.Proof.Merge.Tiles

@[expose] public section

noncomputable section

namespace Cert.CombTiles

open Cert.MergeTiles Idealize.ShloMosaic Idealize.ShloMosaic.TcCoe ValueIdx

/-- A residue-ordered block, in the order of the rows. -/
def inOrder {D n : ℕ} (h : D * n = 512) (X : (⟨4, ![8, D, n, 64]⟩ : Shape).Idx → EReal) : (⟨3, ![8, 512, 64]⟩ : Shape).Idx → EReal :=
  fun i => X (ix4 (i 0) (res h (i 1)) (place h (i 1)) (i 2))

/-- The stores so far have put the first `k` residues. -/
def Placed {D n : ℕ} (k : ℕ) (h : D * n = 512) (X : (⟨4, ![8, D, n, 64]⟩ : Shape).Idx → EReal)
    (L : List (View.Piece (Elt Ideal) ⟨3, ![8, 512, 64]⟩ .f32)) : Prop :=
  ∀ (hd : Fin 8) (r : Fin D) (q : Fin n) (e : Fin 64), r.val < k → (View.canon L (ix3 hd (rowOf h r q) e) : EReal) = X (ix4 hd r q e)

section

variable {D n : ℕ} {h : D * n = 512} {X : (⟨4, ![8, D, n, 64]⟩ : Shape).Idx → EReal} {L : List (View.Piece (Elt Ideal) ⟨3, ![8, 512, 64]⟩ .f32)}

theorem Placed.zero : Placed 0 h X L := fun _ _ _ _ hr => absurd hr (Nat.not_lt_zero _)

theorem Placed.done (u : Placed D h X L) : View.canon L = inOrder h X := funext fun i => by
  have e : i = ix3 (i 0) (rowOf h (res h (i 1)) (place h (i 1))) (i 2) := funext fun a => Fin.ext (by
    match a with
    | ⟨0, _⟩ => rfl
    | ⟨1, _⟩ => exact (Nat.div_add_mod _ _).symm
    | ⟨2, _⟩ => rfl)
  exact (congrArg (View.canon L) e).trans (u (i 0) (res h (i 1)) (place h (i 1)) (i 2) (res h (i 1)).isLt)

/-- The store of one more residue. -/
theorem Placed.step {k : ℕ} (hk : k < D) (w : (⟨3, ![8, n, 64]⟩ : Shape).Idx → EReal)
    (inb : ∀ a, (![8, n, 64] : Fin 3 → ℕ) a = 0 ∨ (![0, k, 0] : Fin 3 → ℕ) a + (![1, D, 1] : Fin 3 → ℕ) a * ((![8, n, 64] : Fin 3 → ℕ) a - 1) < (⟨3, ![8, 512, 64]⟩ : Shape).size a)
    (sp : ∀ a, 0 < (![1, D, 1] : Fin 3 → ℕ) a)
    (hw : ∀ (hd : Fin 8) (q : Fin n) (e : Fin 64), w (ix3 hd q e) = X (ix4 hd ⟨k, hk⟩ q e))
    (u : Placed k h X L) :
    Placed (k + 1) h X ((⟨⟨⟨![0, k, 0], ![8, n, 64], ![1, D, 1], inb⟩, sp⟩, w⟩ : View.Piece (Elt Ideal) ⟨3, ![8, 512, 64]⟩ .f32) :: L) := by
  intro hd r q e hlt
  by_cases hr : r.val = k
  · have er : r = ⟨k, hk⟩ := Fin.ext hr
    subst er
    have at0 : ix3 hd (rowOf h ⟨k, hk⟩ q) e = (⟨⟨![0, k, 0], ![8, n, 64], ![1, D, 1], inb⟩, sp⟩ : Rect ⟨3, ![8, 512, 64]⟩).emb (ix3 hd q e) :=
      funext fun a => Fin.ext (by
        match a with
        | ⟨0, _⟩ => show hd.val = 0 + 1 * hd.val; omega
        | ⟨1, _⟩ => show D * q.val + k = k + D * q.val; omega
        | ⟨2, _⟩ => show e.val = 0 + 1 * e.val; omega)
    exact (congrArg (View.canon _) at0).trans ((View.canon_cons_emb (Val := Elt Ideal) (e := .f32)
      (⟨⟨![0, k, 0], ![8, n, 64], ![1, D, 1], inb⟩, sp⟩ : Rect ⟨3, ![8, 512, 64]⟩) w L (ix3 hd q e)).trans (hw hd q e))
  · rw [View.canon_cons_of_not_mem]
    · exact u hd r q e (by omega)
    · intro hx
      obtain ⟨x, -, hx⟩ := (LoadRect.mem_set _).mp hx 1
      have h1 : k + D * x = D * q.val + r.val := hx.symm
      have h2 := congrArg (· % D) h1
      simp only [Nat.add_mul_mod_self_left, Nat.mul_add_mod, Nat.mod_eq_of_lt hk, Nat.mod_eq_of_lt r.isLt] at h2
      exact hr h2.symm

/-- What such a store writes: the residue's rows. -/
theorem put_at {k : ℕ} (hk : k < D) {sig : RefSig} {κ : Kind} {sp : Space}
    (a : Memref sig κ sp ⟨4, ![8, D, n, 64]⟩ .f32) (ha : a.IsWhole)
    (inb' : ∀ x, (![0, k, 0, 0] : Fin 4 → ℕ) x + (![8, 1, n, 64] : Fin 4 → ℕ) x ≤ (⟨4, ![8, D, n, 64]⟩ : Shape).size x)
    (h1 : Shape.ShapeCasts ⟨4, ![8, 1, n, 64]⟩ ⟨3, ![8, n, 64]⟩) (h2 : Shape.ShapeCasts ⟨3, ![8, n, 64]⟩ ⟨3, ![8, n, 64]⟩)
    (hd : Fin 8) (q : Fin n) (e : Fin 64) :
    (shapeCast ⟨3, ![8, n, 64]⟩
        (shapeCast ⟨3, ![8, n, 64]⟩ (View.readAt (Elt Ideal) a.view (Rect.unit (s := ⟨4, ![8, D, n, 64]⟩) ![0, k, 0, 0] ![8, 1, n, 64] inb').toLoadRect (ha.unread X)) h1) h2 (ix3 hd q e) : EReal)
      = X (ix4 hd ⟨k, hk⟩ q e) := by
  rw [shapeCast_self, View.readAt_eq_ld, ha.read_unread]
  refine (shapeCast_apply _ h1 _ (ix4 hd 0 q e) ?_).trans (congrArg X (funext fun b => Fin.ext ?_))
  · rw [Shape.rowMajor_val_four, Shape.rowMajor_val_three]
    show ((hd.val * 1 + 0) * n + q.val) * 64 + e.val = (hd.val * n + q.val) * 64 + e.val
    rw [Nat.mul_one, Nat.add_zero]
  · match b with
    | ⟨0, _⟩ => show 0 + 1 * hd.val = hd.val; omega
    | ⟨1, _⟩ => show k + 1 * 0 = k; omega
    | ⟨2, _⟩ => show 0 + 1 * q.val = q.val; omega
    | ⟨3, _⟩ => show 0 + 1 * e.val = e.val; omega

end

/-- The column `e` of head `hd` in the row. -/
abbrev colOf (hd : Fin 8) (e : Fin 64) : Fin 512 := ⟨64 * hd.val + e.val, by omega⟩

/-- A stored head: 64 columns of the row. -/
theorem headCols (A : FVec Ideal ⟨3, ![8, 512, 64]⟩ .f32) {k o : ℕ} (ho : o = 64 * k)
    (hs : Shape.Slices ⟨3, ![8, 512, 64]⟩ ![k, 0, 0] ⟨3, ![1, 512, 64]⟩) (hc : Shape.ShapeCasts ⟨3, ![1, 512, 64]⟩ ⟨2, ![512, 64]⟩)
    (hd : Fin 8) (p : Fin 512) (e : Fin 64) (x : (⟨2, ![512, 64]⟩ : Shape).Idx)
    (hx : ∀ a : Fin 2, (ix2 p (colOf hd e) a : ℕ) = (![0, o] : Fin 2 → ℕ) a + x a) :
    (shapeCast ⟨2, ![512, 64]⟩ (extractStridedSlice ⟨3, ![1, 512, 64]⟩ ![k, 0, 0] A hs) hc x : EReal) = A (ix3 hd p e) := by
  have h0 : p.val = 0 + (x 0).val := hx 0
  have h1 : 64 * hd.val + e.val = o + (x 1).val := hx 1
  have hz : (x 1).val < 64 := (x 1).isLt
  refine Eq.trans (shapeCast_apply _ hc x (ix3 0 p e) ?_) (congrArg A (funext fun a => Fin.ext ?_))
  · rw [Shape.rowMajor_val_three, Shape.rowMajor_val_two]
    show (0 * 512 + p.val) * 64 + e.val = (x 0).val * 64 + (x 1).val
    omega
  · match a with
    | ⟨0, _⟩ => show k + 0 = hd.val; omega
    | ⟨1, _⟩ => exact Nat.zero_add _
    | ⟨2, _⟩ => exact Nat.zero_add _

end Cert.CombTiles

end
-- ==== Proof.Comb.Rows.lean ====
/-
  Three branches weighed by their softmax denominators, entry by entry.
-/
module

public import Idealize.ShloMosaic.Lib.Pipeline.Value
public import Idealize.ShloMosaic.PureOps.Ideal.Laws

@[expose] public section

noncomputable section

namespace Cert.Comb

open Idealize.ShloMosaic

/-- The largest of the branches' log-sums. -/
def top (l : Fin 3 → EReal) : EReal := max (max (l 0) (l 1)) (l 2)

/-- A branch's sum, measured from the largest. -/
def part (l : Fin 3 → EReal) (b : Fin 3) : EReal := Ideal.exp (l b - top l)

def tot (l : Fin 3 → EReal) : EReal := part l 0 + part l 1 + part l 2

/-- The branches' outputs, each weighed by its share of the sum. -/
def comb (l o : Fin 3 → EReal) : EReal := Ideal.div (part l 0) (tot l) * o 0 + Ideal.div (part l 1) (tot l) * o 1 + Ideal.div (part l 2) (tot l) * o 2

/-- The log of the branches' joint sum. -/
def joint (l : Fin 3 → EReal) : EReal := top l + Ideal.log (tot l)

theorem fold_top (l : Fin 3 → EReal) : (Finset.univ.fold max (⊥ : EReal) fun b : Fin 3 => l b) = top l := by
  unfold top
  refine le_antisymm ((Finset.fold_max_le _).mpr ⟨bot_le, fun b _ => ?_⟩) (max_le (max_le ?_ ?_) ?_)
  · match b with
    | 0 => exact le_max_of_le_left (le_max_left _ _)
    | 1 => exact le_max_of_le_left (le_max_right _ _)
    | 2 => exact le_max_right _ _
  all_goals exact (Finset.le_fold_max _).mpr (.inr ⟨_, Finset.mem_univ _, le_rfl⟩)

end Cert.Comb

end
-- ==== Proof.Comb.Block.lean ====
/-
  What one point of the grid leaves in its blocks: the branches' outputs weighed by their shares, and the joint log-sums.
-/
module

public import proofs.«01_k».proof.Proof.Gen.CombIdeal.Value
public import proofs.«01_k».proof.Proof.Comb.Tiles
public import proofs.«01_k».proof.Proof.Comb.Rows

@[expose] public section

noncomputable section

namespace Cert.CombIdeal.Block

open Cert.CombIdeal Cert.CombIdeal.Gen Cert.MergeTiles Cert.CombTiles Cert.Comb Idealize.ShloMosaic Idealize.ShloMosaic.TcCoe Idealize.SL.Sem ValueIdx

theorem hz : (![0, 0, 0] : Fin 3 → Nat) = fun _ => 0 := funext fun a => by fin_cases a <;> rfl

/-! ## The body's values -/

section

variable (a b d : FVec Ideal S8x1x512 .f32) (x y z : FVec Ideal S8x512x64 .f32)

/-- The three log-sums of a row of the block. -/
abbrev sums (hd : Fin 8) (p : Fin 512) : Fin 3 → EReal := ![a (ix3 hd 0 p), b (ix3 hd 0 p), d (ix3 hd 0 p)]

theorem asColumn (v : FVec Ideal S8x1x512 .f32) (hd : Fin 8) (p : Fin 512) (e : Fin 64) :
    broadcastTo S8x512x64 (transpose S8x512x1 [0, 2, 1] v transposes_S8x1x512_p0_2_1_S8x512x1) broadcasts_S8x512x1_S8x512x64 (ix3 hd p e) = v (ix3 hd 0 p) := by
  refine (broadcastTo_apply _ _ _ (ix3 hd p 0) fun i => ?_).trans (transpose_apply [0, 2, 1] v _ (ix3 hd p 0) (ix3 hd 0 p) (fun i => ?_))
  · match i with
    | ⟨0, _⟩ => rfl
    | ⟨1, _⟩ => rfl
    | ⟨2, _⟩ => rfl
  · match i with
    | ⟨0, _⟩ => rfl
    | ⟨1, _⟩ => rfl
    | ⟨2, _⟩ => rfl

theorem top_at (hd : Fin 8) (p : Fin 512) : k0_pay27 (F := Ideal) a b d (ix3 hd 0 p) = top (sums a b d hd p) := by
  unfold k0_pay27 k0_pay24 k0_pay25 k0_pay26
  simp only [shapeCast_self]
  rfl

theorem first_at (hd : Fin 8) (p : Fin 512) : k0_pay28 (F := Ideal) a b d (ix3 hd 0 p) = part (sums a b d hd p) 0 := by
  unfold k0_pay28 k0_pay24
  simp only [shapeCast_self]
  exact congrArg (fun t : EReal => Ideal.exp (a (ix3 hd 0 p) - t)) (top_at a b d hd p)

theorem second_at (hd : Fin 8) (p : Fin 512) : k0_pay29 (F := Ideal) a b d (ix3 hd 0 p) = part (sums a b d hd p) 1 := by
  unfold k0_pay29 k0_pay25
  simp only [shapeCast_self]
  exact congrArg (fun t : EReal => Ideal.exp (b (ix3 hd 0 p) - t)) (top_at a b d hd p)

theorem third_at (hd : Fin 8) (p : Fin 512) : k0_pay30 (F := Ideal) a b d (ix3 hd 0 p) = part (sums a b d hd p) 2 := by
  unfold k0_pay30 k0_pay26
  simp only [shapeCast_self]
  exact congrArg (fun t : EReal => Ideal.exp (d (ix3 hd 0 p) - t)) (top_at a b d hd p)

theorem tot_at (hd : Fin 8) (p : Fin 512) : k0_pay31 (F := Ideal) a b d (ix3 hd 0 p) = tot (sums a b d hd p) :=
  congrArg₂ (fun s t : EReal => s + t) (congrArg₂ (fun s t : EReal => s + t) (first_at a b d hd p) (second_at a b d hd p)) (third_at a b d hd p)

theorem joint_at (hd : Fin 8) (p : Fin 512) :
    k0_pay1 (F := Ideal) (k0_pay27 a b d) (k0_pay31 a b d) (ix3 hd 0 p) = joint (sums a b d hd p) :=
  congrArg₂ (fun s t : EReal => s + Ideal.log t) (top_at a b d hd p) (tot_at a b d hd p)

theorem weighed (hd : Fin 8) (p : Fin 512) (e : Fin 64) :
    k0_pay34 (F := Ideal) (k0_pay30 a b d) (k0_pay31 a b d) (k0_pay32 a b d x) (k0_pay33 a b d) y z (ix3 hd p e)
      = comb (sums a b d hd p) ![x (ix3 hd p e), y (ix3 hd p e), z (ix3 hd p e)] := by
  have u0 := (asColumn (divf (k0_pay28 a b d) (k0_pay31 a b d)) hd p e).trans (congrArg₂ Ideal.div (first_at a b d hd p) (tot_at a b d hd p))
  have u1 := (asColumn (divf (k0_pay29 a b d) (k0_pay31 a b d)) hd p e).trans (congrArg₂ Ideal.div (second_at a b d hd p) (tot_at a b d hd p))
  have u2 := (asColumn (divf (k0_pay30 a b d) (k0_pay31 a b d)) hd p e).trans (congrArg₂ Ideal.div (third_at a b d hd p) (tot_at a b d hd p))
  have ux : shapeCast S8x512x64 x shapeCasts_S8x512x64_S8x512x64 (ix3 hd p e) = x (ix3 hd p e) := congrFun (shapeCast_self _ _) _
  exact congrArg₂ (fun s t : EReal => s + t)
    (congrArg₂ (fun s t : EReal => s + t) (congrArg₂ (fun s t : EReal => s * t) u0 ux) (congrArg (fun s : EReal => s * y (ix3 hd p e)) u1))
    (congrArg (fun s : EReal => s * z (ix3 hd p e)) u2)

end

/-! ## The stores -/

section

variable (c : Dev nD) (a2 : Memref sig .tc .vmem S8x4x128x64 .f32) (h2 : a2.IsWhole) (a3 : Memref sig .tc .vmem S8x16x32x64 .f32) (h3 : a3.IsWhole)
  (a9 a10 : Memref sig .tc .vmem S8x512x64 .f32) (x1 : Vec Ideal S8x4x128x64 .f32) (x2 : Vec Ideal S8x16x32x64 .f32)

theorem whole_at (v : View sig .tc .vmem S8x512x64 .f32) (L : List (View.Piece (Elt Ideal) S8x512x64 .f32)) (G : Vec Ideal S8x512x64 .f32)
    (inb : ∀ b, (![0, 0, 0] : Fin 3 → ℕ) b + S8x512x64.size b ≤ S8x512x64.size b) (hL : View.canon L = G) :
    (v.readCov L (Rect.unit ![0, 0, 0] S8x512x64.size inb).toLoadRect : Vec Ideal S8x512x64 .f32) = G := by
  rw [View.readCov_eq_canon', hL]
  exact View.ld_unit_zero (S := S8x512x64) hz inb G

theorem by4 : kernelRun0_A.sl.v124 c a2 h2 a9 x1 = inOrder (D := 4) (n := 128) rfl x1 := by
  refine whole_at _ _ _ _ (Placed.done ?_)
  iterate 4 refine Placed.step (by norm_num) _ _ _ (fun hd q e => put_at (by norm_num) _ _ _ _ _ hd q e) ?_
  exact Placed.zero

theorem by16 : kernelRun0_A.sl.v130 c a3 h3 a10 x2 = inOrder (D := 16) (n := 32) rfl x2 := by
  refine whole_at _ _ _ _ (Placed.done ?_)
  iterate 16 refine Placed.step (by norm_num) _ _ _ (fun hd q e => put_at (by norm_num) _ _ _ _ _ hd q e) ?_
  exact Placed.zero

theorem sums_read (a : Memref sig .tc .vmem S8x1x512 .f32) (h : a.IsWhole) (x : Vec Ideal S8x1x512 .f32)
    (inb : ∀ b, (![0, 0, 0] : Fin 3 → ℕ) b + (![8, 1, 512] : Fin 3 → ℕ) b ≤ S8x1x512.size b) :
    View.readAt (Elt Ideal) a.view (Rect.unit ![0, 0, 0] ![8, 1, 512] inb).toLoadRect (h.unread x) = x := by
  rw [View.readAt_eq_ld, h.read_unread]
  exact View.ld_unit_zero (S := S8x1x512) hz inb x

theorem block_read (a : Memref sig .tc .vmem S8x512x64 .f32) (h : a.IsWhole) (x : Vec Ideal S8x512x64 .f32)
    (inb : ∀ b, (![0, 0, 0] : Fin 3 → ℕ) b + (![8, 512, 64] : Fin 3 → ℕ) b ≤ S8x512x64.size b) :
    View.readAt (Elt Ideal) a.view (Rect.unit ![0, 0, 0] ![8, 512, 64] inb).toLoadRect (h.unread x) = x := by
  rw [View.readAt_eq_ld, h.read_unread]
  exact View.ld_unit_zero (S := S8x512x64) hz inb x

end

variable (m : (ℓ : Loc nD τ sig) → Buf (Elt Ideal) ℓ) (c : Dev nD)

abbrev bO (t : Fin cfg0.N) : Vec Ideal S8x512x64 .f32 := iblk m c 0 t
abbrev bO4 (t : Fin cfg0.N) : Vec Ideal S8x4x128x64 .f32 := iblk m c 1 t
abbrev bO16 (t : Fin cfg0.N) : Vec Ideal S8x16x32x64 .f32 := iblk m c 2 t
abbrev bL (t : Fin cfg0.N) : Vec Ideal S8x1x512 .f32 := iblk m c 3 t
abbrev bL4 (t : Fin cfg0.N) : Vec Ideal S8x1x512 .f32 := iblk m c 4 t
abbrev bL16 (t : Fin cfg0.N) : Vec Ideal S8x1x512 .f32 := iblk m c 5 t

/-- The whole block before it is cut into heads. -/
abbrev mixed (t : Fin cfg0.N) : FVec Ideal S8x512x64 .f32 :=
  k0_pay34 (k0_pay30 (bL m c t) (bL4 m c t) (bL16 m c t)) (k0_pay31 (bL m c t) (bL4 m c t) (bL16 m c t))
    (k0_pay32 (bL m c t) (bL4 m c t) (bL16 m c t) (bO m c t)) (k0_pay33 (bL m c t) (bL4 m c t) (bL16 m c t))
    (inOrder (D := 4) (n := 128) rfl (bO4 m c t)) (inOrder (D := 16) (n := 32) rfl (bO16 m c t))

set_option maxRecDepth 16384 in
set_option maxHeartbeats 1000000 in
theorem out6 (t : Fin cfg0.N) (hd : Fin 8) (p : Fin 512) (e : Fin 64) :
    (outsAt0 m c t).1 (ix2 p (colOf hd e)) = mixed m c t (ix3 hd p e) := by
  unfold outsAt0
  dsimp only
  unfold out0_A_6
  rw [View.read_writes_eq_canon _ _ _ fun q => cover0_A_6 (y := q) ..]
  refine View.canon_eq_of_allAt _ _ _ (cover0_A_6 (y := ix2 p (colOf hd e)) ..) ?_
  unfold kernelRun0_A
  dsimp only
  simp only [kernelRun0_A.sl.r_4, kernelRun0_A.sl.r_5, kernelRun0_A.sl.r_6, kernelRun0_A.sl.r_7, kernelRun0_A.sl.r_8, by4, by16, sums_read, block_read]
  repeat' refine View.allAt_cons_unit _ _ _ _ _ (fun x hx => ?_) ?_
  all_goals first
    | exact View.allAt_nil _ _
    | exact CombTiles.headCols _ (by decide) (by decide) (by decide) hd p e x hx

theorem only (v : FVec Ideal S8x1x512 .f32) (hd : Fin 8) (p : Fin 512) (x : S8x1x512.Idx)
    (hx : ∀ a : Fin 3, (ix3 hd (0 : Fin 1) p a : ℕ) = (![0, 0, 0] : Fin 3 → ℕ) a + x a) : v x = v (ix3 hd 0 p) :=
  congrArg v (funext fun a => Fin.ext (by
    have h := hx a
    match a with
    | ⟨0, _⟩ => exact (h.trans (Nat.zero_add _)).symm
    | ⟨1, _⟩ => exact (h.trans (Nat.zero_add _)).symm
    | ⟨2, _⟩ => exact (h.trans (Nat.zero_add _)).symm))

theorem out7 (t : Fin cfg0.N) (hd : Fin 8) (p : Fin 512) :
    (outsAt0 m c t).2 (ix3 hd 0 p) = joint (sums (bL m c t) (bL4 m c t) (bL16 m c t) hd p) := by
  unfold outsAt0
  dsimp only
  unfold out0_A_7
  rw [View.read_writes_eq_canon _ _ _ fun q => cover0_A_7 (y := q) ..]
  refine View.canon_eq_of_allAt _ _ _ (cover0_A_7 (y := ix3 hd 0 p) ..) ?_
  unfold kernelRun0_A
  dsimp only
  simp only [kernelRun0_A.sl.r_3, kernelRun0_A.sl.r_5, sums_read]
  refine View.allAt_cons_unit _ _ _ _ _ (fun x hx => ?_) (View.allAt_nil _ _)
  exact (only _ hd p x hx).trans (joint_at _ _ _ hd p)

end Cert.CombIdeal.Block

end
-- ==== Proof.Comb.Reference.lean ====
/-
  The arrays the reference leaves, over the reals: the branches' outputs weighed by their shares, and the joint log-sums.
-/
module

public import proofs.«01_k».proof.Proof.Gen.CombRefIdeal.Read
public import proofs.«01_k».proof.Proof.Base.At
public import proofs.«01_k».proof.Proof.Comb.Rows

@[expose] public section

noncomputable section

namespace Cert.CombRefIdeal.Reference

open Cert.CombRefIdeal Cert.CombRefIdeal.Gen Cert.CombRefIdeal.Read Cert.Comb Idealize.ShloMosaic Idealize.ShloMosaic.TcCoe Idealize.SL.Sem ValueIdx

theorem ninf : (FloatOps.ofBits .f32 0xFF800000#32 : Ideal .f32) = (⊥ : EReal) := by
  simp [FloatOps.ofBits, Ideal.ofBits, Ideal.ieee]

theorem zero : (FloatOps.ofBits .f32 0x00000000#32 : Ideal .f32) = (0 : EReal) := Ideal.ofBits_zero_f32

variable (x0 x1 x2 : FVec Ideal S4096x8x64 .f32) (x3 x4 x5 : FVec Ideal S4096x8 .f32)

/-- The three log-sums of a row and a head. -/
def L (s : Fin 4096) (hd : Fin 8) : Fin 3 → EReal := ![x3 (ix2 s hd), x4 (ix2 s hd), x5 (ix2 s hd)]

/-- The three outputs of a row, a head and a column. -/
def O (s : Fin 4096) (hd : Fin 8) (e : Fin 64) : Fin 3 → EReal := ![x0 (ix3 s hd e), x1 (ix3 s hd e), x2 (ix3 s hd e)]

theorem stacked_sums (b : Fin 3) (s : Fin 4096) (hd : Fin 8) : val_main_v3 (F := Ideal) x3 x4 x5 (ix3 b s hd) = L x3 x4 x5 s hd b := by
  unfold val_main_v3
  refine (concatenate_apply_piece (t := S3x4096x8) (0 : Fin 3) [⟨S1x4096x8, val_main_v0 (F := Ideal) x3⟩, ⟨S1x4096x8, val_main_v1 (F := Ideal) x4⟩,
    ⟨S1x4096x8, val_main_v2 (F := Ideal) x5⟩] _ (ix3 b s hd) b.val b.isLt S1x4096x8
    (![val_main_v0 (F := Ideal) x3, val_main_v1 (F := Ideal) x4, val_main_v2 (F := Ideal) x5] b) ?_ rfl b.val ?_ (ix3 0 s hd) (fun p hp => ?_) ?_).trans ?_
  · match b with
    | 0 => rfl
    | 1 => rfl
    | 2 => rfl
  · match b with
    | 0 => rfl
    | 1 => rfl
    | 2 => rfl
  · match p with
    | ⟨0, _⟩ => exact absurd rfl hp
    | ⟨1, _⟩ => rfl
    | ⟨2, _⟩ => rfl
  · show b.val = b.val + 0
    omega
  · match b with
    | 0 => refine (val_main_v0_apply (F := Ideal) x3 (ix3 0 s hd)).trans (congrArg x3 (eq_ix2 (idx_main_v0 (ix3 0 s hd))))
    | 1 => refine (val_main_v1_apply (F := Ideal) x4 (ix3 0 s hd)).trans (congrArg x4 (eq_ix2 (idx_main_v1 (ix3 0 s hd))))
    | 2 => refine (val_main_v2_apply (F := Ideal) x5 (ix3 0 s hd)).trans (congrArg x5 (eq_ix2 (idx_main_v2 (ix3 0 s hd))))

theorem stacked_outs (b : Fin 3) (s : Fin 4096) (hd : Fin 8) (e : Fin 64) :
    val_main_v19 (F := Ideal) x0 x1 x2 (ix4 b s hd e) = O x0 x1 x2 s hd e b := by
  unfold val_main_v19
  refine (concatenate_apply_piece (t := S3x4096x8x64) (0 : Fin 4) [⟨S1x4096x8x64, val_main_v16 (F := Ideal) x0⟩, ⟨S1x4096x8x64, val_main_v17 (F := Ideal) x1⟩,
    ⟨S1x4096x8x64, val_main_v18 (F := Ideal) x2⟩] _ (ix4 b s hd e) b.val b.isLt S1x4096x8x64
    (![val_main_v16 (F := Ideal) x0, val_main_v17 (F := Ideal) x1, val_main_v18 (F := Ideal) x2] b) ?_ rfl b.val ?_ (ix4 0 s hd e) (fun p hp => ?_) ?_).trans ?_
  · match b with
    | 0 => rfl
    | 1 => rfl
    | 2 => rfl
  · match b with
    | 0 => rfl
    | 1 => rfl
    | 2 => rfl
  · match p with
    | ⟨0, _⟩ => exact absurd rfl hp
    | ⟨1, _⟩ => rfl
    | ⟨2, _⟩ => rfl
    | ⟨3, _⟩ => rfl
  · show b.val = b.val + 0
    omega
  · match b with
    | 0 => refine (val_main_v16_apply (F := Ideal) x0 (ix4 0 s hd e)).trans (congrArg x0 (eq_ix3 (idx_main_v16 (ix4 0 s hd e))))
    | 1 => refine (val_main_v17_apply (F := Ideal) x1 (ix4 0 s hd e)).trans (congrArg x1 (eq_ix3 (idx_main_v17 (ix4 0 s hd e))))
    | 2 => refine (val_main_v18_apply (F := Ideal) x2 (ix4 0 s hd e)).trans (congrArg x2 (eq_ix3 (idx_main_v18 (ix4 0 s hd e))))

theorem v23_at (s : Fin 4096) (hd : Fin 8) : val_main_v23 (F := Ideal) x3 x4 x5 (ix2 s hd) = top (L x3 x4 x5 s hd) := by
  have hr : S3x4096x8.Reduces [0] S4096x8 := by decide
  unfold val_main_v23
  rw [Host.reduce_eq_fold_single (FloatOps.maximumf (F := Ideal) (φ := .f32)) _ _ reducesTo_S3x4096x8_S4096x8_d0 hr h_S_ (ix2 s hd),
    val_main_cst_3_apply]
  show Finset.univ.fold max ((FloatOps.ofBits .f32 0xFF800000#32 : Ideal .f32)) _ = _
  rw [ninf]
  exact (congrArg (Finset.fold max (⊥ : EReal) · Finset.univ) (funext fun b =>
    (congrArg (val_main_v3 (F := Ideal) x3 x4 x5) (eq_ix3 _)).trans (stacked_sums x3 x4 x5 b s hd))).trans (fold_top _)

theorem v6_at (s : Fin 4096) (hd : Fin 8) : val_main_v6 (F := Ideal) x3 x4 x5 (ix2 s hd) = top (L x3 x4 x5 s hd) := by
  rw [val_main_v6_apply, val_main_v5_apply, val_main_cst_0_apply]
  show max ((FloatOps.ofBits .f32 0xFF800000#32 : Ideal .f32)) _ = _
  rw [ninf, max_eq_right bot_le]
  exact v23_at x3 x4 x5 s hd

theorem v10_at (b : Fin 3) (s : Fin 4096) (hd : Fin 8) : val_main_v10 (F := Ideal) x3 x4 x5 (ix3 b s hd) = part (L x3 x4 x5 s hd) b := by
  have e : idx_main_v7 (idx_main_v8 (ix3 b s hd)) = ix2 s hd := eq_ix2 _
  rw [val_main_v10_apply, val_main_v9_apply, val_main_v8_apply, val_main_v7_apply, e, v6_at, stacked_sums]
  rfl

theorem v27_at (b : Fin 3) (s : Fin 4096) (hd : Fin 8) : val_main_v27 (F := Ideal) x3 x4 x5 (ix3 b s hd) = part (L x3 x4 x5 s hd) b := by
  have e : idx_main_v24 (idx_main_v25 (ix3 b s hd)) = ix2 s hd := eq_ix2 _
  rw [val_main_v27_apply, val_main_v26_apply, val_main_v25_apply, val_main_v24_apply, e, v23_at, stacked_sums]
  rfl

theorem v11_at (s : Fin 4096) (hd : Fin 8) : val_main_v11 (F := Ideal) x3 x4 x5 (ix2 s hd) = tot (L x3 x4 x5 s hd) := by
  have e : ∀ b, idx_main_v11 (ix2 s hd) b = ix3 b s hd := fun b => eq_ix3 _
  rw [val_main_v11_apply, val_main_cst_1_apply, Fin.sum_univ_three, e, e, e, v10_at, v10_at, v10_at]
  show (FloatOps.ofBits .f32 0x00000000#32 : Ideal .f32) + _ = _
  rw [zero, zero_add]
  rfl

theorem v28_at (s : Fin 4096) (hd : Fin 8) : val_main_v28 (F := Ideal) x3 x4 x5 (ix2 s hd) = tot (L x3 x4 x5 s hd) := by
  have e : ∀ b, idx_main_v28 (ix2 s hd) b = ix3 b s hd := fun b => eq_ix3 _
  rw [val_main_v28_apply, val_main_cst_4_apply, Fin.sum_univ_three, e, e, e, v27_at, v27_at, v27_at]
  show (FloatOps.ofBits .f32 0x00000000#32 : Ideal .f32) + _ = _
  rw [zero, zero_add]
  rfl

theorem v21_at (b : Fin 3) (s : Fin 4096) (hd : Fin 8) (e : Fin 64) : val_main_v21 (F := Ideal) x0 x1 x2 x3 x4 x5 (ix4 b s hd e)
    = Ideal.div (part (L x3 x4 x5 s hd) b) (tot (L x3 x4 x5 s hd)) * O x0 x1 x2 s hd e b := by
  have e1 : idx_main_v15 (idx_main_v20 (ix4 b s hd e)) = ix3 b s hd := eq_ix3 _
  have e2 : idx_main_v12 (idx_main_v13 (ix3 b s hd)) = ix2 s hd := eq_ix2 _
  rw [val_main_v21_apply, val_main_v20_apply, val_main_v15_apply, e1, val_main_v14_apply, val_main_v13_apply, val_main_v12_apply, e2, v10_at, v11_at,
    stacked_outs]
  rfl

theorem v22_at (s : Fin 4096) (hd : Fin 8) (e : Fin 64) : val_main_v22 (F := Ideal) x0 x1 x2 x3 x4 x5 (ix3 s hd e)
    = comb (L x3 x4 x5 s hd) (O x0 x1 x2 s hd e) := by
  have h : ∀ b, idx_main_v22 (ix3 s hd e) b = ix4 b s hd e := fun b => eq_ix4 _
  rw [val_main_v22_apply, val_main_cst_2_apply, Fin.sum_univ_three, h, h, h, v21_at, v21_at, v21_at]
  show (FloatOps.ofBits .f32 0x00000000#32 : Ideal .f32) + _ = _
  rw [zero, zero_add]
  rfl

/-- The column of a head's entry in the row. -/
abbrev col (hd : Fin 8) (e : Fin 64) : Fin 512 := ⟨64 * hd.val + e.val, by omega⟩

theorem out_at (s : Fin 4096) (hd : Fin 8) (e : Fin 64) : val_main_v31 (F := Ideal) x0 x1 x2 x3 x4 x5 (ix2 s (col hd e))
    = comb (L x3 x4 x5 s hd) (O x0 x1 x2 s hd e) := by
  unfold val_main_v31
  refine (shapeCast_apply _ _ (ix2 s (col hd e)) (ix3 s hd e) ?_).trans (v22_at x0 x1 x2 x3 x4 x5 s hd e)
  rw [Shape.rowMajor_val_three, Shape.rowMajor_val_two]
  show (s.val * 8 + hd.val) * 64 + e.val = s.val * 512 + (64 * hd.val + e.val)
  omega

theorem joint_at (s : Fin 4096) (hd : Fin 8) (z : Fin 1) : val_main_v33 (F := Ideal) x3 x4 x5 (ix3 hd z s) = joint (L x3 x4 x5 s hd) := by
  have e : idx_main_v32 (idx_main_v33 (ix3 hd z s)) = ix2 s hd := eq_ix2 _
  rw [val_main_v33_apply, val_main_v32_apply, e, val_main_v30_apply, val_main_v29_apply, v23_at, v28_at]
  rfl

end Cert.CombRefIdeal.Reference

end
-- ==== Proof.Comb.Final.lean ====
/-
  The arrays the kernel leaves, over the reals: the branches' outputs weighed by their shares, and the joint log-sums.
-/
module

public import proofs.«01_k».proof.Proof.Comb.Block
public import proofs.«01_k».proof.Proof.Merge.Layout
public import proofs.«01_k».proof.Proof.Comb.Reference
public import proofs.«01_k».proof.Proof.Base.Rows

@[expose] public section

noncomputable section

namespace Cert.CombIdeal.Final

open Cert.CombIdeal Cert.CombIdeal.Gen Cert.CombIdeal.Block Cert.Comb Cert.CombTiles Cert.MergeTiles Cert.MergeLayout Cert.Rows
open Cert.CombRefIdeal.Reference (L O)
open Idealize.ShloMosaic Idealize.ShloMosaic.TcCoe Idealize.SL.Sem ValueIdx

variable (m : (ℓ : Loc nD τ sig) → Buf (Elt Ideal) ℓ) (c : Dev nD)

abbrev o1 : FVec Ideal S4096x8x64 .f32 := m ((c : Thread nD τ).loc main_arg0)
abbrev o4 : FVec Ideal S4096x8x64 .f32 := m ((c : Thread nD τ).loc main_arg1)
abbrev o16 : FVec Ideal S4096x8x64 .f32 := m ((c : Thread nD τ).loc main_arg2)
abbrev l1 : FVec Ideal S4096x8 .f32 := m ((c : Thread nD τ).loc main_arg3)
abbrev l4 : FVec Ideal S4096x8 .f32 := m ((c : Thread nD τ).loc main_arg4)
abbrev l16 : FVec Ideal S4096x8 .f32 := m ((c : Thread nD τ).loc main_arg5)

theorem index_outs : ∀ t : Fin cfg0.N, (win0_0.index t 0 = 0 ∧ win0_0.index t 1 = t.val ∧ win0_0.index t 2 = 0)
    ∧ (win0_1.index t 0 = 0 ∧ win0_1.index t 1 = 0 ∧ win0_1.index t 2 = t.val ∧ win0_1.index t 3 = 0)
    ∧ win0_2.index t 0 = 0 ∧ win0_2.index t 1 = 0 ∧ win0_2.index t 2 = t.val ∧ win0_2.index t 3 = 0 :=
  (by decide +kernel : ∀ t : Fin grid0.N, (win0_0.index t 0 = 0 ∧ win0_0.index t 1 = t.val ∧ win0_0.index t 2 = 0)
    ∧ (win0_1.index t 0 = 0 ∧ win0_1.index t 1 = 0 ∧ win0_1.index t 2 = t.val ∧ win0_1.index t 3 = 0)
    ∧ win0_2.index t 0 = 0 ∧ win0_2.index t 1 = 0 ∧ win0_2.index t 2 = t.val ∧ win0_2.index t 3 = 0)

/-- The windows of the log-sums, and of the joint ones, move together. -/
abbrev Along (f : Fin 3 → ℕ) (t : ℕ) : Prop := f 0 = 0 ∧ f 1 = 0 ∧ f 2 = t

theorem index_sums : ∀ t : Fin cfg0.N, Along (win0_3.index t) t ∧ Along (win0_4.index t) t ∧ Along (win0_5.index t) t ∧ Along (win0_7.index t) t :=
  (by decide +kernel : ∀ t : Fin grid0.N, Along (win0_3.index t) t ∧ Along (win0_4.index t) t ∧ Along (win0_5.index t) t ∧ Along (win0_7.index t) t)

theorem index_out : ∀ t : Fin cfg0.N, win0_6.index t 0 = t.val ∧ win0_6.index t 1 = 0 :=
  (by decide +kernel : ∀ t : Fin grid0.N, win0_6.index t 0 = t.val ∧ win0_6.index t 1 = 0)

theorem row_lt (t : Fin cfg0.N) (p : Fin 512) : (row 512 t.val p : Fin 4096).val = 512 * t.val + p.val :=
  row_val p 8 rfl (lt_of_lt_of_eq t.isLt (by decide))

/-! ## The arrays the windows read -/

/-- The log-sums, heads first. -/
def sumsFirst (x : FVec Ideal S4096x8 .f32) : FVec Ideal S8x1x4096 .f32 :=
  broadcastInDim S8x1x4096 ![0, 2] bcast_S8x4096_S8x1x4096_0_2 (transpose S8x4096 [1, 0] x transposes_S4096x8_S8x4096_1_0)

theorem found_sums : V m c main_v10 = sumsFirst (l1 m c) ∧ V m c main_v12 = sumsFirst (l4 m c) ∧ V m c main_v14 = sumsFirst (l16 m c) := ⟨rfl, rfl, rfl⟩

theorem sumsFirst_at (x : FVec Ideal S4096x8 .f32) (hd : Fin 8) (z : Fin 1) (s : Fin 4096) : sumsFirst x (ix3 hd z s) = x (ix2 s hd) := by
  unfold sumsFirst
  refine (broadcastInDim_apply _ _ _ (ix3 hd z s) (ix2 hd s) fun a => ?_).trans (transpose_apply [1, 0] x _ (ix2 hd s) (ix2 s hd) fun a => ?_)
  · match a with
    | ⟨0, _⟩ => rfl
    | ⟨1, _⟩ => rfl
  · match a with
    | ⟨0, _⟩ => rfl
    | ⟨1, _⟩ => rfl

/-- A block of a window of log-sums. -/
theorem sums_block (x : FVec Ideal S4096x8 .f32) (f : Fin 3 → ℕ) (t : Fin cfg0.N) (hf : Along f t.val) (i : S8x1x4096.Idx) (hd : Fin 8) (p : Fin 512)
    (h0 : (i 0).val = f 0 * 8 + 1 * hd.val) (h2 : (i 2).val = f 2 * 512 + 1 * p.val) : sumsFirst x i = x (ix2 (row 512 t.val p) hd) := by
  obtain ⟨f0, -, f2⟩ := hf
  have e : i = ix3 hd (i 1) (row 512 t.val p) := funext fun a => Fin.ext (by
    match a with
    | ⟨0, _⟩ => show (i 0).val = hd.val; omega
    | ⟨1, _⟩ => rfl
    | ⟨2, _⟩ => show (i 2).val = (row 512 t.val p : Fin 4096).val; rw [row_lt]; omega)
  rw [e]
  exact sumsFirst_at x hd (i 1) _

theorem sums_at (t : Fin cfg0.N) (hd : Fin 8) (p : Fin 512) :
    sums (bL m c t) (bL4 m c t) (bL16 m c t) hd p = L (l1 m c) (l4 m c) (l16 m c) (row 512 t.val p) hd := by
  have a : bL m c t (ix3 hd 0 p) = l1 m c (ix2 (row 512 t.val p) hd) := by
    unfold bL iblk; rw [View.read_apply]
    exact (congrFun (found_sums m c).1 _).trans (sums_block _ _ t (index_sums t).1 _ hd p rfl rfl)
  have b : bL4 m c t (ix3 hd 0 p) = l4 m c (ix2 (row 512 t.val p) hd) := by
    unfold bL4 iblk; rw [View.read_apply]
    exact (congrFun (found_sums m c).2.1 _).trans (sums_block _ _ t (index_sums t).2.1 _ hd p rfl rfl)
  have d : bL16 m c t (ix3 hd 0 p) = l16 m c (ix2 (row 512 t.val p) hd) := by
    unfold bL16 iblk; rw [View.read_apply]
    exact (congrFun (found_sums m c).2.2 _).trans (sums_block _ _ t (index_sums t).2.2.1 _ hd p rfl rfl)
  exact funext fun j => by
    match j with
    | 0 => exact a
    | 1 => exact b
    | 2 => exact d

/-- Heads first. -/
def v1 (x : FVec Ideal S4096x8x64 .f32) : FVec Ideal S8x4096x64 .f32 :=
  shapeCast S8x4096x64 (transpose S8x1x4096x64 [2, 1, 0, 3] (shapeCast S4096x1x8x64 x shapeCasts_S4096x8x64_S4096x1x8x64)
    transposes_S4096x1x8x64_S8x1x4096x64_2_1_0_3) shapeCasts_S8x1x4096x64_S8x4096x64

/-- Heads first, then the residues by 4. -/
def v4 (x : FVec Ideal S4096x8x64 .f32) : FVec Ideal S8x4x1024x64 .f32 :=
  shapeCast S8x4x1024x64 (shapeCast S8x4096x64 (transpose S8x4x1024x64 [2, 1, 0, 3] (shapeCast S1024x4x8x64 x shapeCasts_S4096x8x64_S1024x4x8x64)
    transposes_S1024x4x8x64_S8x4x1024x64_2_1_0_3) shapeCasts_S8x4x1024x64_S8x4096x64) shapeCasts_S8x4096x64_S8x4x1024x64

/-- Heads first, then the residues by 16. -/
def v16 (x : FVec Ideal S4096x8x64 .f32) : FVec Ideal S8x16x256x64 .f32 :=
  shapeCast S8x16x256x64 (shapeCast S8x4096x64 (transpose S8x16x256x64 [2, 1, 0, 3] (shapeCast S256x16x8x64 x shapeCasts_S4096x8x64_S256x16x8x64)
    transposes_S256x16x8x64_S8x16x256x64_2_1_0_3) shapeCasts_S8x16x256x64_S8x4096x64) shapeCasts_S8x4096x64_S8x16x256x64

theorem found_outs : V m c main_v2 = v1 (o1 m c) ∧ V m c main_v15 = v4 (o4 m c) ∧ V m c main_v16 = v16 (o16 m c) := ⟨rfl, rfl, rfl⟩

/-- A row of a block is the row of its residue and place. -/
theorem row_res {D n : ℕ} (h : D * n = 512) (p : Fin 512) : rowOf h (res h p) (place h p) = p := Fin.ext (Nat.div_add_mod _ _)

/-- A block of an array in the order of residues, put in the rows' order. -/
theorem ordered_at {D N n : ℕ} (x : FVec Ideal S4096x8x64 .f32) (A : (⟨4, ![8, D, N, 64]⟩ : Shape).Idx → EReal)
    (hA : ∀ (hd : Fin 8) (r : Fin D) (q : Fin N) (e : Fin 64) (s : Fin 4096), s.val = D * q.val + r.val → A (ix4 hd r q e) = x (ix3 s hd e))
    (hn : D * n = 512) (t : Fin cfg0.N) (i : (⟨4, ![8, D, N, 64]⟩ : Shape).Idx) (hd : Fin 8) (p : Fin 512) (e : Fin 64)
    (h0 : (i 0).val = hd.val) (h1 : (i 1).val = (res hn p).val) (h2 : (i 2).val = t.val * n + (place hn p).val) (h3 : (i 3).val = e.val) :
    A i = x (ix3 (row 512 t.val p) hd e) := by
  have e : i = ix4 hd (res hn p) (i 2) e := funext fun a => Fin.ext (by
    match a with
    | ⟨0, _⟩ => exact h0
    | ⟨1, _⟩ => exact h1
    | ⟨2, _⟩ => rfl
    | ⟨3, _⟩ => exact h3)
  rw [e]
  refine hA hd (res hn p) (i 2) _ _ ?_
  rw [row_lt, h2, ← congrArg Fin.val (row_res hn p)]
  show 512 * t.val + (D * (place hn _).val + (res hn _).val) = _
  rw [← hn]; ring

theorem first_at (t : Fin cfg0.N) (hd : Fin 8) (p : Fin 512) (e : Fin 64) : bO m c t (ix3 hd p e) = o1 m c (ix3 (row 512 t.val p) hd e) := by
  obtain ⟨f0, f1, f2⟩ := (index_outs t).1
  unfold bO iblk; rw [View.read_apply]
  refine (congrFun (found_outs m c).1 _).trans (Eq.trans (congrArg (v1 (o1 m c)) (funext fun a => Fin.ext ?_)) (plain (o1 m c) _ _ _ hd (row 512 t.val p) e))
  match a with
  | ⟨0, _⟩ => show win0_0.index t 0 * 8 + 1 * hd.val = hd.val; omega
  | ⟨1, _⟩ => show win0_0.index t 1 * 512 + 1 * p.val = (row 512 t.val p : Fin 4096).val; rw [row_lt]; omega
  | ⟨2, _⟩ => show win0_0.index t 2 * 64 + 1 * e.val = e.val; omega

theorem second_at (t : Fin cfg0.N) (hd : Fin 8) (p : Fin 512) (e : Fin 64) :
    inOrder (D := 4) (n := 128) rfl (bO4 m c t) (ix3 hd p e) = o4 m c (ix3 (row 512 t.val p) hd e) := by
  obtain ⟨f0, f1, f2, f3⟩ := (index_outs t).2.1
  unfold inOrder bO4 iblk; rw [View.read_apply]
  refine (congrFun (found_outs m c).2.1 _).trans (ordered_at (D := 4) (n := 128) (o4 m c) _
    (fun hd r q e s hs => ordered (D := 4) (N := 1024) (o4 m c) _ _ _ _ rfl hd r q e s hs) rfl t _ hd p e ?_ ?_ ?_ ?_)
  · show win0_1.index t 0 * 8 + 1 * hd.val = hd.val; omega
  · show win0_1.index t 1 * 4 + 1 * (res (D := 4) (n := 128) rfl p).val = _; omega
  · show win0_1.index t 2 * 128 + 1 * (place (D := 4) (n := 128) rfl p).val = _; omega
  · show win0_1.index t 3 * 64 + 1 * e.val = e.val; omega

theorem third_at (t : Fin cfg0.N) (hd : Fin 8) (p : Fin 512) (e : Fin 64) :
    inOrder (D := 16) (n := 32) rfl (bO16 m c t) (ix3 hd p e) = o16 m c (ix3 (row 512 t.val p) hd e) := by
  obtain ⟨f0, f1, f2, f3⟩ := (index_outs t).2.2
  unfold inOrder bO16 iblk; rw [View.read_apply]
  refine (congrFun (found_outs m c).2.2 _).trans (ordered_at (D := 16) (n := 32) (o16 m c) _
    (fun hd r q e s hs => ordered (D := 16) (N := 256) (o16 m c) _ _ _ _ rfl hd r q e s hs) rfl t _ hd p e ?_ ?_ ?_ ?_)
  · show win0_2.index t 0 * 8 + 1 * hd.val = hd.val; omega
  · show win0_2.index t 1 * 16 + 1 * (res (D := 16) (n := 32) rfl p).val = _; omega
  · show win0_2.index t 2 * 32 + 1 * (place (D := 16) (n := 32) rfl p).val = _; omega
  · show win0_2.index t 3 * 64 + 1 * e.val = e.val; omega

/-! ## The arrays -/

theorem mixed_at (t : Fin cfg0.N) (hd : Fin 8) (p : Fin 512) (e : Fin 64) : (mixed m c t (ix3 hd p e) : EReal)
    = comb (L (l1 m c) (l4 m c) (l16 m c) (row 512 t.val p) hd) (O (o1 m c) (o4 m c) (o16 m c) (row 512 t.val p) hd e) := by
  refine (weighed _ _ _ _ _ _ hd p e).trans (congrArg₂ comb (sums_at m c t hd p) (funext fun j => ?_))
  match j with
  | 0 => exact first_at m c t hd p e
  | 1 => exact second_at m c t hd p e
  | 2 => exact third_at m c t hd p e

/-- A row is a row of some point's block. -/
theorem of_row (r : Fin 4096) : ∃ (t : Fin cfg0.N) (p : Fin 512), r = row 512 t.val p := by
  have hr : r.val / 512 < cfg0.N := by rw [show cfg0.N = 8 by decide]; omega
  exact ⟨⟨r.val / 512, hr⟩, ⟨r.val % 512, Nat.mod_lt _ (by omega)⟩, Fin.ext (by rw [row_lt]; dsimp only; omega)⟩

theorem at6 (r : Fin 4096) (hd : Fin 8) (e : Fin 64) : ((dats m 0 c).arrAt 6 cfg0.N : Vec Ideal S4096x512 .f32) (ix2 r (colOf hd e))
    = comb (L (l1 m c) (l4 m c) (l16 m c) r hd) (O (o1 m c) (o4 m c) (o16 m c) r hd e) := by
  obtain ⟨t, p, rfl⟩ := of_row r
  refine Eq.trans ?_ ((out6 m c t hd p e).trans (mixed_at m c t hd p e))
  have h := congrFun ((Value.blocks6 m c t (flush0_6 t)).trans (Value.flushed6 m c t)) (ix2 p (colOf hd e))
  rw [View.read_apply] at h
  refine Eq.trans (congrArg ((dats m 0 c).arrAt 6 cfg0.N) (funext fun a => Fin.ext ?_)) h
  match a with
  | ⟨0, _⟩ => show (row 512 t.val p : Fin 4096).val = win0_6.index t 0 * 512 + 1 * p.val; rw [(index_out t).1, row_lt]; omega
  | ⟨1, _⟩ => show (colOf hd e).val = win0_6.index t 1 * 512 + 1 * (colOf hd e).val; rw [(index_out t).2]; omega

theorem at7 (r : Fin 4096) (hd : Fin 8) : ((dats m 0 c).arrAt 7 cfg0.N : Vec Ideal S8x1x4096 .f32) (ix3 hd 0 r)
    = joint (L (l1 m c) (l4 m c) (l16 m c) r hd) := by
  obtain ⟨t, p, rfl⟩ := of_row r
  obtain ⟨f0, f1, f2⟩ := (index_sums t).2.2.2
  refine Eq.trans ?_ ((out7 m c t hd p).trans (congrArg joint (sums_at m c t hd p)))
  have h := congrFun ((Value.blocks7 m c t (flush0_7 t)).trans (Value.flushed7 m c t)) (ix3 hd 0 p)
  rw [View.read_apply] at h
  refine Eq.trans (congrArg ((dats m 0 c).arrAt 7 cfg0.N) (funext fun a => Fin.ext ?_)) h
  match a with
  | ⟨0, _⟩ => show hd.val = win0_7.index t 0 * 8 + 1 * hd.val; omega
  | ⟨1, _⟩ => show 0 = win0_7.index t 1 * 1 + 1 * 0; omega
  | ⟨2, _⟩ => show (row 512 t.val p : Fin 4096).val = win0_7.index t 2 * 512 + 1 * p.val; rw [row_lt]; omega

end Cert.CombIdeal.Final

end
-- ==== Proof.Comb.Equation.lean ====
/-
  The two programs leave the same arrays.
-/
module

public import proofs.«01_k».proof.Defs
public import proofs.«01_k».proof.Proof.Comb.Final

@[expose] public section

noncomputable section

namespace Cert.Comb.Equation

open Cert.CombRefIdeal.Reference Idealize.ShloMosaic Idealize.ShloMosaic.TcCoe Idealize.SL.Sem ValueIdx

/-- The reference terminates, keeps its arguments, and has no semaphore. -/
theorem frame_ref : Cert.quiescent_CombRefIdeal := fun m ρ _ =>
  (θ_run CombRefIdeal.defs _ _).mono (fun r h => ⟨fun c => (h c).2.2, sem_eq_zero_of_no_sems (by decide) r.2⟩)
    (CombRefIdeal.Value.run (F := Ideal) m ρ)

/-- The branches' combination: kernel and reference agree. -/
theorem algebraic : Cert.algebraic_CombIdeal_CombRefIdeal := by
  intro m g m' g' _ heq
  refine ⟨fun c => (CombIdeal.Gen.dats m 0 c).arrAt 6 CombIdeal.cfg0.N, fun c => (CombIdeal.Gen.dats m 0 c).arrAt 7 CombIdeal.cfg0.N,
    CombIdeal.Value.run_blocks m g, ?_⟩
  refine (θ_run _ _ _).mono (fun r h c => ?_) (CombRefIdeal.Value.run m' g')
  obtain ⟨h0, h1, hargs⟩ := h c
  obtain ⟨e0, e1, e2, e3, e4, e5⟩ := heq c
  refine ⟨h0.trans ?_, h1.trans ?_, hargs⟩
  · rw [CombRefIdeal.Read.val_main_v31_eq, e0, e1, e2, e3, e4, e5]
    refine funext fun i => ?_
    obtain ⟨s, k, rfl⟩ : ∃ (s : Fin 4096) (k : Fin 512), i = ix2 s k := ⟨i 0, i 1, eq_ix2 i⟩
    obtain ⟨hd, e, rfl⟩ : ∃ (hd : Fin 8) (e : Fin 64), k = col hd e :=
      ⟨⟨k.val / 64, by omega⟩, ⟨k.val % 64, by omega⟩, Fin.ext (by dsimp only; omega)⟩
    exact (out_at _ _ _ _ _ _ s hd e).trans (CombIdeal.Final.at6 m c s hd e).symm
  · rw [CombRefIdeal.Read.val_main_v33_eq, e3, e4, e5]
    refine funext fun i => ?_
    obtain ⟨hd, s, rfl⟩ : ∃ (hd : Fin 8) (s : Fin 4096), i = ix3 hd 0 s :=
      ⟨i 0, i 2, (eq_ix3 i).trans (congrArg (fun z => ix3 (i 0) z (i 2)) (Fin.fin_one_eq_zero (i 1)))⟩
    exact (joint_at _ _ _ s hd 0).trans (CombIdeal.Final.at7 m c s hd).symm

end Cert.Comb.Equation

end
-- ==== Proof.Gatef.Rows.lean ====
/-
  The convolved gate forward, over the reals: a column of the up product read some rows before, the convolution's three taps, the
  gate.
-/
module

public import proofs.«01_k».proof.Proof.Base.At
public import proofs.«01_k».proof.Proof.Gate.Math
public import Idealize.ShloMosaic.PureOps.Ideal

@[expose] public section

noncomputable section

namespace Cert.Gatef

open Idealize.ShloMosaic

/-- A column read `n` rows before, zero above the first row. -/
def back (n : ℕ) (X : Fin 4096 → EReal) (r : Fin 4096) : EReal := if n ≤ r.val then X ⟨r.val - n, by omega⟩ else 0

theorem back_eq {X : Fin 4096 → EReal} {n n' : ℕ} {r r' : Fin 4096} (e : (n : ℤ) - r.val = n' - r'.val) : back n X r = back n' X r' := by
  unfold back
  by_cases hn : n ≤ r.val
  · rw [if_pos hn, if_pos (by omega)]
    exact congrArg X (Fin.ext (by show r.val - n = r'.val - n'; omega))
  · rw [if_neg hn, if_neg (by omega)]

theorem back_zero {X : Fin 4096 → EReal} (r : Fin 4096) : back 0 X r = X r := if_pos (Nat.zero_le _)

/-- A column convolved with its taps `w`, shifted by `b`. -/
def conv (X : Fin 4096 → EReal) (w : Fin 3 → EReal) (b : EReal) (r : Fin 4096) : EReal :=
  b + w 0 * back 2 X r + w 1 * back 1 X r + w 2 * X r

/-- The gate. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g)))))

/-- A column of the product with the up weight. -/
def col (x : Fin 4096 → Fin 1024 → EReal) (w : Fin 1024 → EReal) (r : Fin 4096) : EReal := ∑ k, x r k * w k

end Cert.Gatef

end
-- ==== Proof.Gatef.Payloads.lean ====
/-
  What a point of the gate's forward grid computes: the product's block, the convolution of its columns with the rows of the block
  before put in, the gate.
-/
module

public import proofs.«01_k».proof.Proof.Gatef.Rows
public import proofs.«01_k».proof.Proof.Gen.GatefIdeal.Skeleton
public import proofs.«01_k».proof.Proof.Gate.Payloads

@[expose] public section

set_option maxRecDepth 16384

noncomputable section

namespace Cert.GatefIdeal.Payloads

open Cert.GatefIdeal Cert.GatefIdeal.Gen Cert.Gatef Cert.Rows Idealize.ShloMosaic ValueIdx

/-- A block `x` convolved, `h` the eight rows before it. -/
def mix (x : FVec Ideal S256x1408 .f32) (h : FVec Ideal S8x1408 .f32) (w : FVec Ideal S3x1408 .f32) (b : FVec Ideal S1x1408 .f32) : FVec Ideal S256x1408 .f32 :=
  addf (addf (addf (broadcastTo S256x1408 (shapeCast S1x1408 b shapeCasts_S1x1408_S1x1408) broadcasts_S1x1408_S256x1408)
        (mulf (broadcastTo S256x1408 (extractStridedSlice S1x1408 ![0, 0] w slices_S3x1408_o0_0_S1x1408) broadcasts_S1x1408_S256x1408) (GateIdeal.Gen.k0_pay21 x h)))
      (mulf (broadcastTo S256x1408 (extractStridedSlice S1x1408 ![1, 0] w slices_S3x1408_o1_0_S1x1408) broadcasts_S1x1408_S256x1408) (GateIdeal.Gen.k0_pay20 x h)))
    (mulf (broadcastTo S256x1408 (extractStridedSlice S1x1408 ![2, 0] w slices_S3x1408_o2_0_S1x1408) broadcasts_S1x1408_S256x1408) x)

theorem values (i : grid0.Coords) (x : Vec Ideal S256x1024 .bf16) (s : Vec Ideal S8x1024 .f32) (v : Vec Ideal S1x1024x1408 .bf16)
    (w : FVec Ideal S3x1408 .f32) (b : FVec Ideal S1x1408 .f32) :
    k0_pay16 (k0_pay6 x v) (k0_pay10 x v) (k0_pay11 x v) (iota .tc S8x1408 32 [0] iota_S8x1408_d0_w32) (k0_pay12 i s v) (k0_pay13 i s v)
      (k0_pay14 i x s v) k0_pay15 w b = mix (k0_pay6 x v) (k0_pay8 i s v) w b := by
  unfold k0_pay16 k0_pay10 k0_pay11 k0_pay12 k0_pay13 k0_pay14 k0_pay15 mix k0_pay10 k0_pay12 GateIdeal.Gen.k0_pay20 GateIdeal.Gen.k0_pay21 GateIdeal.Gen.k0_pay19
  dsimp only

theorem gates (x : FVec Ideal S256x1408 .f32) (h : FVec Ideal S8x1408 .f32) (w : FVec Ideal S3x1408 .f32) (b : FVec Ideal S1x1408 .f32) :
    k0_pay24 x (k0_pay17 x) (k0_pay18 x) (k0_pay20 x h) k0_pay21 (k0_pay22 x h) (k0_pay23 h) w b = mix x h w b := by
  unfold k0_pay24 k0_pay20 k0_pay21 k0_pay22 k0_pay23 k0_pay17 k0_pay18 k0_pay19 mix GateIdeal.Gen.k0_pay20 GateIdeal.Gen.k0_pay21 GateIdeal.Gen.k0_pay19
  rfl

theorem mix_at (x : FVec Ideal S256x1408 .f32) (h : FVec Ideal S8x1408 .f32) (w : FVec Ideal S3x1408 .f32) (b : FVec Ideal S1x1408 .f32) (p : Fin 256) (q : Fin 1408) :
    mix x h w b (ix2 p q) = b (ix2 0 q) + w (ix2 0 q) * GateIdeal.Gen.k0_pay21 x h (ix2 p q) + w (ix2 1 q) * GateIdeal.Gen.k0_pay20 x h (ix2 p q)
      + w (ix2 2 q) * x (ix2 p q) := by
  unfold mix
  rw [addf_apply, addf_apply, addf_apply, mulf_apply, mulf_apply, mulf_apply, At.row, At.row, At.row, At.row, shapeCast_self,
    GateIdeal.Payloads.one3 w 0 0 rfl, GateIdeal.Payloads.one3 w 1 1 rfl, GateIdeal.Payloads.one3 w 2 2 rfl]

section
variable {x : FVec Ideal S256x1408 .f32} {h : FVec Ideal S8x1408 .f32} {q : Fin 1408} {i : ℕ} {X : Fin 4096 → EReal}
variable (hi : i < 16) (hx : ∀ p : Fin 256, x (ix2 p q) = X (row 256 i p)) (hh : ∀ k : Fin 8, h (ix2 k q) = back (8 - k.val) X (row 256 i 0))
include hi hx hh

theorem back1 (p : Fin 256) : GateIdeal.Gen.k0_pay20 x h (ix2 p q) = back 1 X (row 256 i p) := by
  have h0 := GateIdeal.Blocks.row_lt hi p
  have h1 := GateIdeal.Blocks.row_lt hi 0
  rw [GateIdeal.Payloads.prev1]
  split
  · rw [hh]
    exact back_eq (by rw [h0, h1]; simp; omega)
  · have h2 := GateIdeal.Blocks.row_lt hi ⟨p.val - 1, by omega⟩
    rw [hx, ← back_zero (X := X)]
    exact back_eq (by rw [h0, h2]; simp; omega)

theorem back2 (p : Fin 256) : GateIdeal.Gen.k0_pay21 x h (ix2 p q) = back 2 X (row 256 i p) := by
  have h0 := GateIdeal.Blocks.row_lt hi p
  have h1 := GateIdeal.Blocks.row_lt hi 0
  rw [GateIdeal.Payloads.prev2]
  split
  · rw [hh]
    exact back_eq (by rw [h0, h1]; simp; omega)
  · split
    · rw [hh]
      exact back_eq (by rw [h0, h1]; simp; omega)
    · have h2 := GateIdeal.Blocks.row_lt hi ⟨p.val - 2, by omega⟩
      rw [hx, ← back_zero (X := X)]
      exact back_eq (by rw [h0, h2]; simp; omega)

/-- The convolution on a block. -/
theorem conv_at {w : FVec Ideal S3x1408 .f32} {b : FVec Ideal S1x1408 .f32} {W : Fin 3 → EReal} {B : EReal}
    (hw : ∀ k, w (ix2 k q) = W k) (hb : b (ix2 0 q) = B) (p : Fin 256) : mix x h w b (ix2 p q) = conv X W B (row 256 i p) := by
  rw [mix_at, back1 hi hx hh, back2 hi hx hh, hx, hw, hw, hw, hb]
  rfl

end

/-! ## The gate -/

theorem gate (x h1 h2 : FVec Ideal S256x1408 .f32) (a : FVec Ideal S8x1408 .f32) (e : IVec S8x1408 1) (b : FVec Ideal S8x1408 .f32) (d : FVec Ideal S1x1408 .f32)
    (w : FVec Ideal S3x1408 .f32) (s : FVec Ideal S1x1408 .f32) (j : S256x1408.Idx) :
    k0_pay25 x h1 h2 a e b d w s j = gelu (k0_pay24 x h1 h2 a e b d w s j) := by
  unfold k0_pay25
  generalize k0_pay24 x h1 h2 a e b d w s = g
  rfl

theorem gated (x u h1 h2 : FVec Ideal S256x1408 .f32) (a : FVec Ideal S8x1408 .f32) (e : IVec S8x1408 1) (b : FVec Ideal S8x1408 .f32) (d : FVec Ideal S1x1408 .f32)
    (w : FVec Ideal S3x1408 .f32) (s : FVec Ideal S1x1408 .f32) (j : S256x1408.Idx) :
    k0_pay26 x u h1 h2 a e b d w s j = gelu (k0_pay24 x h1 h2 a e b d w s j) * u j := by
  rw [← gate]
  unfold k0_pay26
  generalize k0_pay25 x h1 h2 a e b d w s = g
  rfl

/-! ## The product's block and the rows before it -/

theorem page (v : Vec Ideal S1x1024x1408 .bf16) (k : Fin 1024) (q : Fin 1408) :
    shapeCast S1024x1408 v shapeCasts_S1x1024x1408_S1024x1408 (ix2 k q) = v (ix3 0 k q) := by
  refine shapeCast_apply v shapeCasts_S1x1024x1408_S1024x1408 (ix2 k q) (ix3 0 k q) ?_
  rw [Shape.rowMajor_val_two, Shape.rowMajor_val_three]
  show (0 * 1024 + k.val) * 1408 + q.val = k.val * 1408 + q.val
  omega

theorem prod (x : Vec Ideal S256x1024 .bf16) (v : Vec Ideal S1x1024x1408 .bf16) (p : Fin 256) (q : Fin 1408) :
    k0_pay6 x v (ix2 p q) = ∑ k : Fin 1024, x (ix2 p k) * v (ix3 0 k q) := by
  unfold k0_pay6 k0_pay2 k0_pay4
  dsimp only
  rw [shapeCast_self]
  refine (At.mm rfl none _ _ p q).trans (Finset.sum_congr rfl fun k _ => ?_)
  rw [page]

theorem before (i : grid0.Coords) (hj : (i 1).val < 16) (s : Vec Ideal S8x1024 .f32) (v : Vec Ideal S1x1024x1408 .bf16) (p : Fin 8) (q : Fin 1408) :
    k0_pay8 i s v (ix2 p q) = if (i 1).val = 0 then 0 else ∑ k : Fin 1024, s (ix2 p k) * v (ix3 0 k q) := by
  unfold k0_pay8 k0_pay3 k0_pay4
  dsimp only
  have e : ∀ n : Fin 16, Scalar.cmpi .sgt (BitVec.ofNat 32 n.val) 0#32 = if n.val = 0 then 0#1 else 1#1 := by decide
  rw [e ⟨_, hj⟩]
  by_cases hz : (i 1).val = 0
  · rw [if_pos hz, if_pos hz]
    exact Ideal.ofBits_zero_f32
  · rw [if_neg hz, if_neg hz]
    refine (At.mm rfl none _ _ p q).trans (Finset.sum_congr rfl fun k _ => ?_)
    rw [page]
    rfl

end Cert.GatefIdeal.Payloads

end
-- ==== Proof.Gatef.Reference.lean ====
/-
  What the reference of the gate's forward call leaves, over the reals.
-/
module

public import proofs.«01_k».proof.Proof.Gatef.Rows
public import proofs.«01_k».proof.Proof.Gen.GatefRefIdeal.Read
public import Idealize.ShloMosaic.Lib.KernelVsHost

@[expose] public section

noncomputable section

namespace Cert.GatefRefIdeal.Reference

open Cert.GatefRefIdeal Cert.GatefRefIdeal.Read Cert.Gatef Idealize.ShloMosaic ValueIdx
open Cert.Gate.Math (lo hi)

variable (x0 : FVec Ideal S4096x1024 .f32) (x1 : FVec Ideal S1024x5632 .f32) (x2 : FVec Ideal S3x5632 .f32) (x3 : FVec Ideal S5632 .f32)

/-- A column of the product. -/
abbrev U (q : Fin 5632) : Fin 4096 → EReal := col (fun r k => x0 (ix2 r k)) fun k => x1 (ix2 k q)

/-- A column convolved. -/
abbrev Y (q : Fin 5632) : Fin 4096 → EReal := conv (U x0 x1 q) (fun k => x2 (ix2 k q)) (x3 (ix1 q))

theorem u_at (r : Fin 4096) (q : Fin 5632) : val_main_v0 (F := Ideal) x0 x1 (ix2 r q) = U x0 x1 q r := by
  rw [val_main_v0_apply]
  exact Finset.sum_congr rfl fun k _ => congrArg₂ (fun a b => x0 a * x1 b) (eq_ix2 _) (eq_ix2 _)

theorem back2_at (r : Fin 4096) (q : Fin 5632) : val_main_v3 (F := Ideal) x0 x1 (ix2 r q) = back 2 (U x0 x1 q) r := by
  unfold val_main_v3 back
  by_cases hr : 2 ≤ r.val
  · rw [if_pos hr]
    refine (concatenate_pair_apply_right (t := S4096x5632) (s₁ := S2x5632) (s₂ := S4094x5632) (0 : Fin 2) _ _ _ _ rfl rfl
      (ix2 (⟨r.val - 2, by omega⟩ : Fin 4094) q) (fun b hb => match b with
        | ⟨0, _⟩ => absurd rfl hb
        | ⟨1, _⟩ => rfl) (by show r.val - 2 + 2 = r.val; omega)).trans ?_
    rw [val_main_v2_apply, ← u_at]
    exact congrArg (val_main_v0 (F := Ideal) x0 x1) (eq_ix2 _)
  · rw [if_neg hr]
    refine (concatenate_pair_apply_left (t := S4096x5632) (s₁ := S2x5632) (s₂ := S4094x5632) (0 : Fin 2) _ _ _ _ rfl
      (ix2 (⟨r.val, by omega⟩ : Fin 2) q) (fun b => match b with
        | ⟨0, _⟩ => rfl
        | ⟨1, _⟩ => rfl)).trans ?_
    rw [val_main_v1_apply, val_main_cst_apply]
    exact Ideal.ofBits_zero_f32

theorem back1_at (r : Fin 4096) (q : Fin 5632) : val_main_v14 (F := Ideal) x0 x1 (ix2 r q) = back 1 (U x0 x1 q) r := by
  unfold val_main_v14 back
  by_cases hr : 1 ≤ r.val
  · rw [if_pos hr]
    refine (concatenate_pair_apply_right (t := S4096x5632) (s₁ := S1x5632) (s₂ := S4095x5632) (0 : Fin 2) _ _ _ _ rfl rfl
      (ix2 (⟨r.val - 1, by omega⟩ : Fin 4095) q) (fun b hb => match b with
        | ⟨0, _⟩ => absurd rfl hb
        | ⟨1, _⟩ => rfl) (by show r.val - 1 + 1 = r.val; omega)).trans ?_
    rw [val_main_v13_apply, ← u_at]
    exact congrArg (val_main_v0 (F := Ideal) x0 x1) (eq_ix2 _)
  · rw [if_neg hr]
    refine (concatenate_pair_apply_left (t := S4096x5632) (s₁ := S1x5632) (s₂ := S4095x5632) (0 : Fin 2) _ _ _ _ rfl
      (ix2 (⟨r.val, by omega⟩ : Fin 1) q) (fun b => match b with
        | ⟨0, _⟩ => rfl
        | ⟨1, _⟩ => rfl)).trans ?_
    rw [val_main_v12_apply, val_main_cst_0_apply]
    exact Ideal.ofBits_zero_f32

theorem w0_at (r : Fin 4096) (q : Fin 5632) : val_main_v7 (F := Ideal) x2 (ix2 r q) = x2 (ix2 0 q) := by
  rw [val_main_v7_apply, val_main_v6_apply, val_main_v5_apply, val_main_v4_apply]
  exact congrArg x2 ((eq_ix2 _).trans (congrArg₂ ix2 (Fin.ext rfl) (Fin.ext (Nat.mod_eq_of_lt q.isLt))))

theorem w1_at (r : Fin 4096) (q : Fin 5632) : val_main_v18 (F := Ideal) x2 (ix2 r q) = x2 (ix2 1 q) := by
  rw [val_main_v18_apply, val_main_v17_apply, val_main_v16_apply, val_main_v15_apply]
  exact congrArg x2 ((eq_ix2 _).trans (congrArg₂ ix2 (Fin.ext rfl) (Fin.ext (Nat.mod_eq_of_lt q.isLt))))

theorem w2_at (r : Fin 4096) (q : Fin 5632) : val_main_v24 (F := Ideal) x2 (ix2 r q) = x2 (ix2 2 q) := by
  rw [val_main_v24_apply, val_main_v23_apply, val_main_v22_apply, val_main_v21_apply]
  exact congrArg x2 ((eq_ix2 _).trans (congrArg₂ ix2 (Fin.ext rfl) (Fin.ext (Nat.mod_eq_of_lt q.isLt))))

theorem b_at (r : Fin 4096) (q : Fin 5632) : val_main_v10 (F := Ideal) x3 (ix2 r q) = x3 (ix1 q) := by
  rw [val_main_v10_apply, val_main_v9_apply]
  exact congrArg x3 (eq_ix1 _)

theorem y_at (r : Fin 4096) (q : Fin 5632) : val_main_v26 (F := Ideal) x0 x1 x2 x3 (ix2 r q) = Y x0 x1 x2 x3 q r := by
  rw [val_main_v26_apply, val_main_v25_apply, val_main_v20_apply, val_main_v19_apply, val_main_v11_apply, val_main_v8_apply,
    w0_at, w1_at, w2_at, b_at, back1_at, back2_at, u_at]
  rfl

/-! ## The results -/

theorem lo_at (r : Fin 4096) (j : Fin 2816) : val_main_v42 (F := Ideal) x0 x1 (ix2 r j) = U x0 x1 (lo j) r := by
  rw [val_main_v42_apply, ← u_at]
  exact congrArg (val_main_v0 (F := Ideal) x0 x1) ((eq_ix2 _).trans (congrArg₂ ix2 (Fin.ext rfl) (Fin.ext rfl)))

theorem hi_at (r : Fin 4096) (j : Fin 2816) : val_main_v43 (F := Ideal) x0 x1 (ix2 r j) = U x0 x1 (hi j) r := by
  rw [val_main_v43_apply, ← u_at]
  exact congrArg (val_main_v0 (F := Ideal) x0 x1) ((eq_ix2 _).trans (congrArg₂ ix2 (Fin.ext rfl) (Fin.ext rfl)))

theorem a_at (r : Fin 4096) (j : Fin 2816) : val_main_v27 (F := Ideal) x0 x1 x2 x3 (ix2 r j) = Y x0 x1 x2 x3 (lo j) r := by
  rw [val_main_v27_apply, ← y_at]
  exact congrArg (val_main_v26 (F := Ideal) x0 x1 x2 x3) ((eq_ix2 _).trans (congrArg₂ ix2 (Fin.ext rfl) (Fin.ext rfl)))

theorem g_at (r : Fin 4096) (j : Fin 2816) : val_main_v28 (F := Ideal) x0 x1 x2 x3 (ix2 r j) = Y x0 x1 x2 x3 (hi j) r := by
  rw [val_main_v28_apply, ← y_at]
  exact congrArg (val_main_v26 (F := Ideal) x0 x1 x2 x3) ((eq_ix2 _).trans (congrArg₂ ix2 (Fin.ext rfl) (Fin.ext rfl)))

theorem ge_at (r : Fin 4096) (j : Fin 2816) : val_main_v41 (F := Ideal) x0 x1 x2 x3 (ix2 r j) = gelu (Y x0 x1 x2 x3 (hi j) r) := by
  rw [val_main_v41_apply, val_main_v40_apply, val_main_v39_apply, val_main_cst_4_apply, val_main_v38_apply, val_main_v37_apply, val_main_cst_3_apply,
    val_main_v36_apply, val_main_v35_apply, val_main_v34_apply, val_main_cst_2_apply, val_main_v33_apply, val_main_v32_apply, val_main_v31_apply,
    val_main_cst_1_apply, val_main_v30_apply, val_main_v29_apply, g_at]
  rfl

theorem h_at (r : Fin 4096) (j : Fin 2816) : val_main_v45 (F := Ideal) x0 x1 x2 x3 (ix2 r j) = gelu (Y x0 x1 x2 x3 (hi j) r) * Y x0 x1 x2 x3 (lo j) r := by
  rw [val_main_v45_apply, val_main_v44_apply, ge_at, a_at]
  rfl

end Cert.GatefRefIdeal.Reference

end
-- ==== Proof.Gatef.Final.lean ====
/-
  The arrays the gate's forward call leaves, over the reals.
-/
module

public import proofs.«01_k».proof.Proof.Gatef.Payloads
public import proofs.«01_k».proof.Proof.Gatef.Reference
public import proofs.«01_k».proof.Proof.Gen.GatefIdeal.Value

@[expose] public section

noncomputable section

namespace Cert.GatefIdeal.Final

open Cert.GatefIdeal Cert.GatefIdeal.Gen Cert.GatefIdeal.Payloads Cert.Gatef Cert.Rows
open Cert.Gate.Math (lo hi)
open Cert.GatefRefIdeal.Reference (U Y)
open Idealize.ShloMosaic Idealize.ShloMosaic.TcCoe Idealize.SL.Sem ValueIdx

variable (m : (ℓ : Loc nD τ sig) → Buf (Elt Ideal) ℓ) (c : Dev nD)

abbrev a0 : FVec Ideal S4096x1024 .f32 := m ((c : Thread nD τ).loc main_arg0)
abbrev a1 : FVec Ideal S1024x5632 .f32 := m ((c : Thread nD τ).loc main_arg1)
abbrev a2 : FVec Ideal S3x5632 .f32 := m ((c : Thread nD τ).loc main_arg2)
abbrev a3 : FVec Ideal S5632 .f32 := m ((c : Thread nD τ).loc main_arg3)

/-! ## Where the blocks lie -/

theorem coords : ∀ t : Fin cfg0.N, (grid0.coords t 1).val = t.val % 16 :=
  (by decide +kernel : ∀ t : Fin grid0.N, (grid0.coords t 1).val = t.val % 16)

theorem index : ∀ t : Fin cfg0.N, (win0_0.index t 0 = t.val % 16 ∧ win0_0.index t 1 = 0) ∧ (win0_1.index t 0 = 32 * (t.val % 16) - 1 ∧ win0_1.index t 1 = 0) :=
  (by decide +kernel : ∀ t : Fin grid0.N, (win0_0.index t 0 = t.val % 16 ∧ win0_0.index t 1 = 0) ∧ (win0_1.index t 0 = 32 * (t.val % 16) - 1 ∧ win0_1.index t 1 = 0))

/-- The windows of the weight. -/
abbrev Page (f : Fin 3 → ℕ) (n : ℕ) : Prop := f 0 = n ∧ f 1 = 0 ∧ f 2 = 0

theorem index_w : ∀ t : Fin cfg0.N, Page (win0_2.index t) (t.val / 16) ∧ Page (win0_3.index t) (t.val / 16 + 2) :=
  (by decide +kernel : ∀ t : Fin grid0.N, Page (win0_2.index t) (t.val / 16) ∧ Page (win0_3.index t) (t.val / 16 + 2))

/-- The windows of the taps and of the shift. -/
abbrev Top (f : Fin 2 → ℕ) (n : ℕ) : Prop := f 0 = 0 ∧ f 1 = n

theorem index_c : ∀ t : Fin cfg0.N, (Top (win0_4.index t) (t.val / 16) ∧ Top (win0_5.index t) (t.val / 16 + 2))
    ∧ Top (win0_6.index t) (t.val / 16) ∧ Top (win0_7.index t) (t.val / 16 + 2) :=
  (by decide +kernel : ∀ t : Fin grid0.N, (Top (win0_4.index t) (t.val / 16) ∧ Top (win0_5.index t) (t.val / 16 + 2))
    ∧ Top (win0_6.index t) (t.val / 16) ∧ Top (win0_7.index t) (t.val / 16 + 2))

/-- The windows of the results move together. -/
abbrev Out (f : Fin 2 → ℕ) (t : ℕ) : Prop := f 0 = t % 16 ∧ f 1 = t / 16

theorem index_out : ∀ t : Fin cfg0.N, Out (win0_8.index t) t ∧ Out (win0_9.index t) t ∧ Out (win0_10.index t) t ∧ Out (win0_11.index t) t ∧ Out (win0_12.index t) t :=
  (by decide +kernel : ∀ t : Fin grid0.N, Out (win0_8.index t) t ∧ Out (win0_9.index t) t ∧ Out (win0_10.index t) t ∧ Out (win0_11.index t) t ∧ Out (win0_12.index t) t)

theorem lt32 (t : Fin cfg0.N) : t.val < 32 := lt_of_lt_of_eq t.isLt N_0

theorem row_lt (t : Fin cfg0.N) (p : Fin 256) : (row 256 (t.val % 16) p : Fin 4096).val = 256 * (t.val % 16) + p.val :=
  row_val p 16 rfl (Nat.mod_lt _ (by decide))

/-- A column of the point's column block. -/
def at_ (t : Fin cfg0.N) (q : Fin 1408) : Fin 2816 := ⟨1408 * (t.val / 16) + q.val, by have := lt32 t; omega⟩

/-! ## What the windows read -/

abbrev bX (t : Fin cfg0.N) : Vec Ideal S256x1024 .bf16 := iblk m c 0 t
abbrev bH (t : Fin cfg0.N) : Vec Ideal S8x1024 .f32 := iblk m c 1 t
abbrev bV (t : Fin cfg0.N) : Vec Ideal S1x1024x1408 .bf16 := iblk m c 2 t
abbrev bG (t : Fin cfg0.N) : Vec Ideal S1x1024x1408 .bf16 := iblk m c 3 t
abbrev bW (t : Fin cfg0.N) : Vec Ideal S3x1408 .f32 := iblk m c 4 t
abbrev bWg (t : Fin cfg0.N) : Vec Ideal S3x1408 .f32 := iblk m c 5 t
abbrev bB (t : Fin cfg0.N) : Vec Ideal S1x1408 .f32 := iblk m c 6 t
abbrev bBg (t : Fin cfg0.N) : Vec Ideal S1x1408 .f32 := iblk m c 7 t

theorem x_at (t : Fin cfg0.N) (p : Fin 256) (k : Fin 1024) : bX m c t (ix2 p k) = a0 m c (ix2 (row 256 (t.val % 16) p) k) := by
  unfold bX iblk
  rw [View.read_apply]
  show V m c main_v3 _ = _
  rw [show V m c main_v3 = a0 m c from rfl]
  refine congrArg (a0 m c) (funext fun a => Fin.ext ?_)
  match a with
  | ⟨0, _⟩ => show win0_0.index t 0 * 256 + 1 * p.val = (row 256 (t.val % 16) p : Fin 4096).val; rw [(index t).1.1, row_lt]; omega
  | ⟨1, _⟩ => show win0_0.index t 1 * 1024 + 1 * k.val = k.val; rw [(index t).1.2]; omega

theorem h_at (t : Fin cfg0.N) (p : Fin 8) (k : Fin 1024) (r : Fin 4096) (hr : r.val = 8 * (32 * (t.val % 16) - 1) + p.val) :
    bH m c t (ix2 p k) = a0 m c (ix2 r k) := by
  unfold bH iblk
  rw [View.read_apply]
  refine (congrFun (V_main_arg0 m c) _).trans (congrArg (a0 m c) (funext fun a => Fin.ext ?_))
  match a with
  | ⟨0, _⟩ => show win0_1.index t 0 * 8 + 1 * p.val = r.val; rw [(index t).2.1, hr]; omega
  | ⟨1, _⟩ => show win0_1.index t 1 * 1024 + 1 * k.val = k.val; rw [(index t).2.2]; omega

/-- The weight in its four blocks of columns. -/
def blocks (w : FVec Ideal S1024x5632 .f32) : FVec Ideal S4x1024x1408 .f32 :=
  transpose S4x1024x1408 [1, 0, 2] (shapeCast S1024x4x1408 w shapeCasts_S1024x5632_S1024x4x1408) transposes_S1024x4x1408_S4x1024x1408_1_0_2

theorem blocks_at (w : FVec Ideal S1024x5632 .f32) (j : Fin 4) (k : Fin 1024) (q : Fin 1408) (s : Fin 5632) (hs : s.val = 1408 * j.val + q.val) :
    blocks w (ix3 j k q) = w (ix2 k s) := by
  unfold blocks
  refine (transpose_apply [1, 0, 2] _ _ (ix3 j k q) (ix3 k j q) fun a => match a with
    | ⟨0, _⟩ => rfl
    | ⟨1, _⟩ => rfl
    | ⟨2, _⟩ => rfl).trans (shapeCast_apply w _ (ix3 k j q) (ix2 k s) ?_)
  rw [Shape.rowMajor_val_two, Shape.rowMajor_val_three]
  show k.val * 5632 + s.val = (k.val * 4 + j.val) * 1408 + q.val
  omega

theorem found_w : V m c main_v2 = blocks (a1 m c) := rfl

/-- A block of a window of the weight. -/
theorem page_at (f : Fin 3 → ℕ) (n : ℕ) (hf : Page f n) (i : S4x1024x1408.Idx) (k : Fin 1024) (q : Fin 1408) (s : Fin 5632)
    (hs : s.val = 1408 * n + q.val) (h0 : (i 0).val = f 0 * 1 + 1 * 0) (h1 : (i 1).val = f 1 * 1024 + 1 * k.val) (h2 : (i 2).val = f 2 * 1408 + 1 * q.val) :
    blocks (a1 m c) i = a1 m c (ix2 k s) := by
  obtain ⟨f0, f1, f2⟩ := hf
  have e : i = ix3 (i 0) k q := funext fun a => Fin.ext (by
    match a with
    | ⟨0, _⟩ => rfl
    | ⟨1, _⟩ => show (i 1).val = k.val; omega
    | ⟨2, _⟩ => show (i 2).val = q.val; omega)
  rw [e]
  exact blocks_at _ (i 0) k q s (by rw [hs, h0, f0]; omega)

theorem v_at (t : Fin cfg0.N) (k : Fin 1024) (q : Fin 1408) : bV m c t (ix3 0 k q) = a1 m c (ix2 k (lo (at_ t q))) := by
  unfold bV iblk; rw [View.read_apply]
  exact (congrFun (found_w m c) _).trans (page_at m c _ _ (index_w t).1 _ k q _ rfl rfl rfl rfl)

theorem g_at (t : Fin cfg0.N) (k : Fin 1024) (q : Fin 1408) : bG m c t (ix3 0 k q) = a1 m c (ix2 k (hi (at_ t q))) := by
  unfold bG iblk; rw [View.read_apply]
  exact (congrFun (found_w m c) _).trans (page_at m c _ _ (index_w t).2 _ k q _
    (by show 2816 + (1408 * (t.val / 16) + q.val) = 1408 * (t.val / 16 + 2) + q.val; omega) rfl rfl rfl)

/-- A block of a window of the taps. -/
theorem taps_at (f : Fin 2 → ℕ) (n : ℕ) (hf : Top f n) (i : S3x5632.Idx) (k : Fin 3) (q : Fin 1408) (s : Fin 5632)
    (hs : s.val = 1408 * n + q.val) (h0 : (i 0).val = f 0 * 3 + 1 * k.val) (h1 : (i 1).val = f 1 * 1408 + 1 * q.val) : i = ix2 k s := by
  obtain ⟨f0, f1⟩ := hf
  refine funext fun a => Fin.ext ?_
  match a with
  | ⟨0, _⟩ => show (i 0).val = k.val; omega
  | ⟨1, _⟩ => show (i 1).val = s.val; rw [h1, f1, hs]; omega

theorem w_at (t : Fin cfg0.N) (k : Fin 3) (q : Fin 1408) : bW m c t (ix2 k q) = a2 m c (ix2 k (lo (at_ t q))) := by
  unfold bW iblk; rw [View.read_apply]
  exact (congrFun (V_main_arg2 m c) _).trans (congrArg (a2 m c) (taps_at _ _ (index_c t).1.1 _ k q _ rfl rfl rfl))

theorem wg_at (t : Fin cfg0.N) (k : Fin 3) (q : Fin 1408) : bWg m c t (ix2 k q) = a2 m c (ix2 k (hi (at_ t q))) := by
  unfold bWg iblk; rw [View.read_apply]
  exact (congrFun (V_main_arg2 m c) _).trans (congrArg (a2 m c) (taps_at _ _ (index_c t).1.2 _ k q _
    (by show 2816 + (1408 * (t.val / 16) + q.val) = 1408 * (t.val / 16 + 2) + q.val; omega) rfl rfl))

/-- A block of a window of the shift. -/
theorem shift_at (f : Fin 2 → ℕ) (n : ℕ) (hf : Top f n) (i : S1x5632.Idx) (q : Fin 1408) (s : Fin 5632)
    (hs : s.val = 1408 * n + q.val) (h1 : (i 1).val = f 1 * 1408 + 1 * q.val) :
    shapeCast S1x5632 (a3 m c) shapeCasts_S5632_S1x5632 i = a3 m c (ix1 s) := by
  obtain ⟨f0, f1⟩ := hf
  have e : i = ix2 (i 0) s := funext fun a => Fin.ext (by
    match a with
    | ⟨0, _⟩ => rfl
    | ⟨1, _⟩ => show (i 1).val = s.val; rw [h1, f1, hs]; omega)
  rw [e]
  exact At.toRow (a3 m c) shapeCasts_S5632_S1x5632 (i 0) s

theorem found_b : V m c main_v4 = shapeCast S1x5632 (a3 m c) shapeCasts_S5632_S1x5632 := rfl

theorem b_at (t : Fin cfg0.N) (q : Fin 1408) : bB m c t (ix2 0 q) = a3 m c (ix1 (lo (at_ t q))) := by
  unfold bB iblk; rw [View.read_apply]
  exact (congrFun (found_b m c) _).trans (shift_at m c _ _ (index_c t).2.1 _ q _ rfl rfl)

theorem bg_at (t : Fin cfg0.N) (q : Fin 1408) : bBg m c t (ix2 0 q) = a3 m c (ix1 (hi (at_ t q))) := by
  unfold bBg iblk; rw [View.read_apply]
  exact (congrFun (found_b m c) _).trans (shift_at m c _ _ (index_c t).2.2 _ q _
    (by show 2816 + (1408 * (t.val / 16) + q.val) = 1408 * (t.val / 16 + 2) + q.val; omega) rfl)

/-! ## The product and the convolution, on a block -/

/-- A column of the product, and the column convolved. -/
abbrev u (q : Fin 5632) : Fin 4096 → EReal := U (a0 m c) (a1 m c) q
abbrev y (q : Fin 5632) : Fin 4096 → EReal := Y (a0 m c) (a1 m c) (a2 m c) (a3 m c) q

section
variable (t : Fin cfg0.N) (q : Fin 1408) {v : Vec Ideal S1x1024x1408 .bf16} {s : Fin 5632} (hv : ∀ k, v (ix3 0 k q) = a1 m c (ix2 k s))
include hv

theorem rows (p : Fin 256) : k0_pay6 (bX m c t) v (ix2 p q) = u m c s (row 256 (t.val % 16) p) := by
  rw [prod]
  simp only [hv, x_at]
  rfl

theorem halo (k : Fin 8) : k0_pay8 (grid0.coords t) (bH m c t) v (ix2 k q) = back (8 - k.val) (u m c s) (row 256 (t.val % 16) 0) := by
  have hlt : t.val % 16 < 16 := Nat.mod_lt _ (by decide)
  have h0 : (row 256 (t.val % 16) 0 : Fin 4096).val = 256 * (t.val % 16) + 0 := row_lt t 0
  rw [before _ (by rw [coords]; exact hlt), coords]
  unfold back
  by_cases hz : t.val % 16 = 0
  · rw [if_pos hz, if_neg (by rw [h0]; omega)]
  · rw [if_neg hz, if_pos (by rw [h0]; omega)]
    refine Finset.sum_congr rfl fun j _ => ?_
    rw [hv, h_at m c t k j ⟨(row 256 (t.val % 16) 0 : Fin 4096).val - (8 - k.val), by omega⟩ (by
      show (row 256 (t.val % 16) 0 : Fin 4096).val - (8 - k.val) = _
      rw [h0]; omega)]

end

theorem value_at (t : Fin cfg0.N) (p : Fin 256) (q : Fin 1408) :
    mix (k0_pay6 (bX m c t) (bV m c t)) (k0_pay8 (grid0.coords t) (bH m c t) (bV m c t)) (bW m c t) (bB m c t) (ix2 p q)
      = y m c (lo (at_ t q)) (row 256 (t.val % 16) p) :=
  conv_at (Nat.mod_lt _ (by decide)) (rows m c t q fun k => v_at m c t k q) (halo m c t q fun k => v_at m c t k q) (fun k => w_at m c t k q) (b_at m c t q) p

theorem gate_at (t : Fin cfg0.N) (p : Fin 256) (q : Fin 1408) :
    mix (k0_pay6 (bX m c t) (bG m c t)) (k0_pay8 (grid0.coords t) (bH m c t) (bG m c t)) (bWg m c t) (bBg m c t) (ix2 p q)
      = y m c (hi (at_ t q)) (row 256 (t.val % 16) p) :=
  conv_at (Nat.mod_lt _ (by decide)) (rows m c t q fun k => g_at m c t k q) (halo m c t q fun k => g_at m c t k q) (fun k => wg_at m c t k q) (bg_at m c t q) p

/-! ## The blocks written -/

theorem hz2 : (![0, 0] : Fin 2 → Nat) = fun _ => 0 := funext fun a => by fin_cases a <;> rfl
theorem hz3 : (![0, 0, 0] : Fin 3 → Nat) = fun _ => 0 := funext fun a => by fin_cases a <;> rfl

section
variable (i : grid0.Coords) (x0 : Vec Ideal S256x1024 .bf16) (x1 : Vec Ideal S8x1024 .f32) (x2 x3 : Vec Ideal S1x1024x1408 .bf16)
variable (x4 x5 : Vec Ideal S3x1408 .f32) (x6 x7 : Vec Ideal S1x1408 .f32)

theorem write8 : out0_8 i x0 x1 x2 x3 x4 x5 x6 x7 = k0_pay6 x0 x2 := by
  unfold out0_8
  rw [View.canon_unit_zero hz2, View.ld_unit_zero (S := S256x1024) hz2, View.ld_unit_zero (S := S1x1024x1408) hz3]

theorem write9 : out0_9 i x0 x1 x2 x3 x4 x5 x6 x7 = k0_pay6 x0 x3 := by
  unfold out0_9
  rw [View.canon_unit_zero hz2, View.ld_unit_zero (S := S256x1024) hz2, View.ld_unit_zero (S := S1x1024x1408) hz3]
  rfl

theorem write11 : out0_11 i x0 x1 x2 x3 x4 x5 x6 x7 = mix (k0_pay6 x0 x2) (k0_pay8 i x1 x2) x4 x6 := by
  unfold out0_11 k0_pay30
  rw [View.canon_unit_zero hz2, View.ld_unit_zero (S := S256x1024) hz2, View.ld_unit_zero (S := S1x1024x1408) hz3,
    View.ld_unit_zero (S := S8x1024) hz2, View.ld_unit_zero (S := S3x1408) hz2, View.ld_unit_zero (S := S1x1408) hz2]
  exact values i x0 x1 x2 x4 x6

theorem halo_same : k0_pay9 i x1 x3 = k0_pay8 i x1 x3 := rfl
theorem prod_same : k0_pay7 x0 x3 = k0_pay6 x0 x3 := rfl

theorem write12 (j : S256x1408.Idx) : out0_12 i x0 x1 x2 x3 x4 x5 x6 x7 j = gelu (mix (k0_pay6 x0 x3) (k0_pay8 i x1 x3) x5 x7 j) := by
  unfold out0_12 k0_pay31 k0_pay32 k0_pay33 k0_pay34 k0_pay35 k0_pay36 k0_pay28 k0_pay29
  rw [View.canon_unit_zero hz2, View.ld_unit_zero (S := S256x1024) hz2, View.ld_unit_zero (S := S1x1024x1408) hz3,
    View.ld_unit_zero (S := S8x1024) hz2, View.ld_unit_zero (S := S3x1408) hz2, View.ld_unit_zero (S := S1x1408) hz2, gate, gates, halo_same, prod_same]

theorem write10 (j : S256x1408.Idx) : out0_10 i x0 x1 x2 x3 x4 x5 x6 x7 j
    = gelu (mix (k0_pay6 x0 x3) (k0_pay8 i x1 x3) x5 x7 j) * mix (k0_pay6 x0 x2) (k0_pay8 i x1 x2) x4 x6 j := by
  unfold out0_10 k0_pay31 k0_pay32 k0_pay33 k0_pay34 k0_pay35 k0_pay36 k0_pay28 k0_pay29 k0_pay30
  rw [View.canon_unit_zero hz2, View.ld_unit_zero (S := S256x1024) hz2, View.ld_unit_zero (S := S1x1024x1408) hz3, View.ld_unit_zero (S := S1x1024x1408) hz3,
    View.ld_unit_zero (S := S8x1024) hz2, View.ld_unit_zero (S := S3x1408) hz2, View.ld_unit_zero (S := S1x1408) hz2,
    View.ld_unit_zero (S := S3x1408) hz2, View.ld_unit_zero (S := S1x1408) hz2, values, gated, gates, halo_same, prod_same]

end

/-! ## The arrays -/

/-- A row and a column are those of a block. -/
theorem of_block (r : Fin 4096) (j : Fin 2816) : ∃ (t : Fin cfg0.N) (p : Fin 256) (q : Fin 1408), r = row 256 (t.val % 16) p ∧ j = at_ t q := by
  have hr : 16 * (j.val / 1408) + r.val / 256 < cfg0.N := by rw [show cfg0.N = 32 from N_0]; omega
  refine ⟨⟨16 * (j.val / 1408) + r.val / 256, hr⟩, ⟨r.val % 256, Nat.mod_lt _ (by omega)⟩, ⟨j.val % 1408, Nat.mod_lt _ (by omega)⟩, Fin.ext ?_, Fin.ext ?_⟩
  · rw [row_lt]; dsimp only; omega
  · show j.val = 1408 * ((16 * (j.val / 1408) + r.val / 256) / 16) + j.val % 1408
    omega

/-- The entry of a window of results. -/
theorem entry (f : Fin 2 → ℕ) (t : Fin cfg0.N) (hf : Out f t.val) (i : S4096x2816.Idx) (p : Fin 256) (q : Fin 1408)
    (h0 : (i 0).val = f 0 * 256 + 1 * p.val) (h1 : (i 1).val = f 1 * 1408 + 1 * q.val) : ix2 (row 256 (t.val % 16) p) (at_ t q) = i := by
  obtain ⟨f0, f1⟩ := hf
  refine funext fun a => Fin.ext ?_
  match a with
  | ⟨0, _⟩ => show (row 256 (t.val % 16) p : Fin 4096).val = (i 0).val; rw [row_lt, h0, f0]; omega
  | ⟨1, _⟩ => show 1408 * (t.val / 16) + q.val = (i 1).val; rw [h1, f1]; omega

theorem at8 (r : Fin 4096) (j : Fin 2816) : ((dats m 0 c).arrAt 8 cfg0.N : Vec Ideal S4096x2816 .f32) (ix2 r j) = u m c (lo j) r := by
  obtain ⟨t, p, q, rfl, rfl⟩ := of_block r j
  have e := congrFun ((Value.blocks8 m c t (flush0_8 t)).trans (Value.flushed8 m c t)) (ix2 p q)
  rw [View.read_apply] at e
  refine (congrArg ((dats m 0 c).arrAt 8 cfg0.N) (entry _ t (index_out t).1 _ p q rfl rfl)).trans (e.trans ?_)
  exact (congrFun (write8 _ _ _ _ _ _ _ _ _) (ix2 p q)).trans (rows m c t q (fun k => v_at m c t k q) p)

theorem at9 (r : Fin 4096) (j : Fin 2816) : ((dats m 0 c).arrAt 9 cfg0.N : Vec Ideal S4096x2816 .f32) (ix2 r j) = u m c (hi j) r := by
  obtain ⟨t, p, q, rfl, rfl⟩ := of_block r j
  have e := congrFun ((Value.blocks9 m c t (flush0_9 t)).trans (Value.flushed9 m c t)) (ix2 p q)
  rw [View.read_apply] at e
  refine (congrArg ((dats m 0 c).arrAt 9 cfg0.N) (entry _ t (index_out t).2.1 _ p q rfl rfl)).trans (e.trans ?_)
  exact (congrFun (write9 _ _ _ _ _ _ _ _ _) (ix2 p q)).trans (rows m c t q (fun k => g_at m c t k q) p)

theorem at10 (r : Fin 4096) (j : Fin 2816) : ((dats m 0 c).arrAt 10 cfg0.N : Vec Ideal S4096x2816 .bf16) (ix2 r j) = gelu (y m c (hi j) r) * y m c (lo j) r := by
  obtain ⟨t, p, q, rfl, rfl⟩ := of_block r j
  have e := congrFun ((Value.blocks10 m c t (flush0_10 t)).trans (Value.flushed10 m c t)) (ix2 p q)
  rw [View.read_apply] at e
  refine (congrArg ((dats m 0 c).arrAt 10 cfg0.N) (entry _ t (index_out t).2.2.1 _ p q rfl rfl)).trans (e.trans ?_)
  exact (write10 _ _ _ _ _ _ _ _ _ (ix2 p q)).trans (congrArg₂ (fun a b => gelu a * b) (gate_at m c t p q) (value_at m c t p q))

theorem at11 (r : Fin 4096) (j : Fin 2816) : ((dats m 0 c).arrAt 11 cfg0.N : Vec Ideal S4096x2816 .f32) (ix2 r j) = y m c (lo j) r := by
  obtain ⟨t, p, q, rfl, rfl⟩ := of_block r j
  have e := congrFun ((Value.blocks11 m c t (flush0_11 t)).trans (Value.flushed11 m c t)) (ix2 p q)
  rw [View.read_apply] at e
  refine (congrArg ((dats m 0 c).arrAt 11 cfg0.N) (entry _ t (index_out t).2.2.2.1 _ p q rfl rfl)).trans (e.trans ?_)
  exact (congrFun (write11 _ _ _ _ _ _ _ _ _) (ix2 p q)).trans (value_at m c t p q)

theorem at12 (r : Fin 4096) (j : Fin 2816) : ((dats m 0 c).arrAt 12 cfg0.N : Vec Ideal S4096x2816 .f32) (ix2 r j) = gelu (y m c (hi j) r) := by
  obtain ⟨t, p, q, rfl, rfl⟩ := of_block r j
  have e := congrFun ((Value.blocks12 m c t (flush0_12 t)).trans (Value.flushed12 m c t)) (ix2 p q)
  rw [View.read_apply] at e
  refine (congrArg ((dats m 0 c).arrAt 12 cfg0.N) (entry _ t (index_out t).2.2.2.2 _ p q rfl rfl)).trans (e.trans ?_)
  exact (write12 _ _ _ _ _ _ _ _ _ (ix2 p q)).trans (congrArg gelu (gate_at m c t p q))

end Cert.GatefIdeal.Final

end
-- ==== Proof.Gatef.Equation.lean ====
/-
  The two programs leave the same arrays.
-/
module

public import proofs.«01_k».proof.Defs
public import proofs.«01_k».proof.Proof.Gatef.Final
public import proofs.«01_k».proof.Proof.Gen.GatefRefIdeal.Run

@[expose] public section

noncomputable section

namespace Cert.Gatef.Equation

open Cert.GatefRefIdeal.Reference Idealize.ShloMosaic Idealize.ShloMosaic.TcCoe Idealize.SL.Sem ValueIdx

/-- The reference terminates, keeps its arguments, and has no semaphore. -/
theorem frame_ref : Cert.quiescent_GatefRefIdeal := fun m ρ _ =>
  (θ_run GatefRefIdeal.defs _ _).mono (fun r h => ⟨fun c => (h c).2.2.2.2.2, sem_eq_zero_of_no_sems (by decide) r.2⟩)
    (GatefRefIdeal.Value.run (F := Ideal) m ρ)

/-- The gate's forward call: kernel and reference agree. -/
theorem algebraic : Cert.algebraic_GatefIdeal_GatefRefIdeal := by
  intro m g m' g' _ heq
  refine ⟨fun c => (GatefIdeal.Gen.dats m 0 c).arrAt 8 GatefIdeal.cfg0.N, fun c => (GatefIdeal.Gen.dats m 0 c).arrAt 9 GatefIdeal.cfg0.N,
    fun c => (GatefIdeal.Gen.dats m 0 c).arrAt 10 GatefIdeal.cfg0.N, fun c => (GatefIdeal.Gen.dats m 0 c).arrAt 11 GatefIdeal.cfg0.N,
    fun c => (GatefIdeal.Gen.dats m 0 c).arrAt 12 GatefIdeal.cfg0.N, ?_, ?_⟩
  · refine (θ_run _ _ _).mono (fun r h c => ?_) (GatefIdeal.Value.run_blocks m g)
    obtain ⟨h0, h1, h2, h3, h4, -, hargs⟩ := h c
    exact ⟨h0, h1, h2, h3, h4, hargs⟩
  refine (θ_run _ _ _).mono (fun r h c => ?_) (GatefRefIdeal.Value.run m' g')
  obtain ⟨h0, h1, h2, h3, h4, hargs⟩ := h c
  obtain ⟨e0, e1, e2, e3⟩ := heq c
  refine ⟨h0.trans ?_, h1.trans ?_, h2.trans ?_, h3.trans ?_, h4.trans ?_, hargs⟩
  · rw [GatefRefIdeal.Read.val_main_v42_eq, e0, e1]
    refine funext fun i => ?_
    rw [eq_ix2 i]
    exact (lo_at _ _ (i 0) (i 1)).trans (GatefIdeal.Final.at8 m c (i 0) (i 1)).symm
  · rw [GatefRefIdeal.Read.val_main_v43_eq, e0, e1]
    refine funext fun i => ?_
    rw [eq_ix2 i]
    exact (hi_at _ _ (i 0) (i 1)).trans (GatefIdeal.Final.at9 m c (i 0) (i 1)).symm
  · rw [GatefRefIdeal.Read.val_main_v45_eq, e0, e1, e2, e3]
    refine funext fun i => ?_
    rw [eq_ix2 i]
    exact (h_at _ _ _ _ (i 0) (i 1)).trans (GatefIdeal.Final.at10 m c (i 0) (i 1)).symm
  · rw [GatefRefIdeal.Read.val_main_v27_eq, e0, e1, e2, e3]
    refine funext fun i => ?_
    rw [eq_ix2 i]
    exact (a_at _ _ _ _ (i 0) (i 1)).trans (GatefIdeal.Final.at11 m c (i 0) (i 1)).symm
  · rw [GatefRefIdeal.Read.val_main_v41_eq, e0, e1, e2, e3]
    refine funext fun i => ?_
    rw [eq_ix2 i]
    exact (ge_at _ _ _ _ (i 0) (i 1)).trans (GatefIdeal.Final.at12 m c (i 0) (i 1)).symm

end Cert.Gatef.Equation

end
-- ==== Proof.Dila.Frame.lean ====
/-
  The derivative of reference.py's dilated attention, one branch of which the call computes.
-/
module

public import proofs.«01_k».proof.Defs
public import proofs.«01_k».proof.Proof.Gen.DilaRefIdeal.Run

@[expose] public section

noncomputable section

namespace Cert.Dila.Frame

open Idealize.ShloMosaic Idealize.SL.Sem

/-- The reference terminates, keeps its arguments, and has no semaphore. -/
theorem frame_ref : Cert.quiescent_DilaRefIdeal := fun m ρ _ =>
  (θ_run DilaRefIdeal.defs _ _).mono (fun r h => ⟨fun c => (h c).2.2.2, sem_eq_zero_of_no_sems (by decide) r.2⟩)
    (DilaRefIdeal.Value.run (F := Ideal) m ρ)

end Cert.Dila.Frame

end
-- ==== Proof.lean ====
/-
  The claim: frames, preserved programs and equal results of each call taken.
-/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pre_pre_down
public import proofs.«01_k».proof.Proof.Gen.DownIdeal.Value
public import proofs.«01_k».proof.Proof.Gen.DownRefIdeal.Run
public import proofs.«01_k».proof.Proof.Gen.DownRefIdeal.Read
public import proofs.«01_k».proof.Proof.Down.Equation
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_pre_mla
public import proofs.«01_k».proof.Proof.Gen.MlaIdeal.Value
public import proofs.«01_k».proof.Proof.Gen.MlaRefIdeal.Run
public import proofs.«01_k».proof.Proof.Gen.MlaRefIdeal.Read
public import proofs.«01_k».proof.Proof.Mla.Equation
public import proofs.«01_k».proof.Proof.Gen.Mlaf
public import proofs.«01_k».proof.Proof.Gen.Mlaf.Skeleton
public import proofs.«01_k».proof.Proof.Gen.Mlaf.Launch
public import proofs.«01_k».proof.Proof.Gen.Mlaf.Points
public import proofs.«01_k».proof.Proof.Gen.MlafIdeal
public import proofs.«01_k».proof.Proof.Gen.MlafIdeal.Skeleton
public import proofs.«01_k».proof.Proof.Gen.MlafIdeal.Launch
public import proofs.«01_k».proof.Proof.Gen.MlafIdeal.Points
public import proofs.«01_k».proof.Proof.Gen.MlafRefIdeal
public import proofs.«01_k».proof.Proof.Gen.Pre_pre_mlaf
public import proofs.«01_k».proof.Proof.Gen.MlafRefIdeal.Run
public import proofs.«01_k».proof.Proof.Gen.MlafRefIdeal.Read
public import proofs.«01_k».proof.Proof.Mlaf.Equation
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Pre_pre_up
public import proofs.«01_k».proof.Proof.Gen.UpIdeal.Value
public import proofs.«01_k».proof.Proof.Gen.UpRefIdeal.Run
public import proofs.«01_k».proof.Proof.Gen.UpRefIdeal.Read
public import proofs.«01_k».proof.Proof.Up.Equation
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsRefIdeal
public import proofs.«01_k».proof.Proof.Gen.HeadsIdeal.Value
public import proofs.«01_k».proof.Proof.Gen.HeadsRefIdeal.Run
public import proofs.«01_k».proof.Proof.Gen.HeadsRefIdeal.Read
public import proofs.«01_k».proof.Proof.Heads.Equation
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateRefIdeal
public import proofs.«01_k».proof.Proof.Gen.Pre_pre_gate
public import proofs.«01_k».proof.Proof.Gen.GateRefIdeal.Run
public import proofs.«01_k».proof.Proof.Gen.GateRefIdeal.Read
public import proofs.«01_k».proof.Proof.Gate.Equation
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Equation
public import proofs.«01_k».proof.Proof.Gen.Outln
public import proofs.«01_k».proof.Proof.Gen.Outln.Skeleton
public import proofs.«01_k».proof.Proof.Gen.Outln.Launch
public import proofs.«01_k».proof.Proof.Gen.Outln.Points
public import proofs.«01_k».proof.Proof.Gen.Outln.Frame
public import proofs.«01_k».proof.Proof.Gen.OutlnIdeal
public import proofs.«01_k».proof.Proof.Gen.OutlnIdeal.Skeleton
public import proofs.«01_k».proof.Proof.Gen.OutlnIdeal.Launch
public import proofs.«01_k».proof.Proof.Gen.OutlnIdeal.Points
public import proofs.«01_k».proof.Proof.Gen.OutlnIdeal.Frame
public import proofs.«01_k».proof.Proof.Gen.OutlnRefIdeal
public import proofs.«01_k».proof.Proof.Gen.OutlnIdeal.Value
public import proofs.«01_k».proof.Proof.Gen.OutlnRefIdeal.Run
public import proofs.«01_k».proof.Proof.Gen.OutlnRefIdeal.Read
public import proofs.«01_k».proof.Proof.Outln.Equation
public import proofs.«01_k».proof.Proof.Gen.Comb
public import proofs.«01_k».proof.Proof.Gen.Comb.Skeleton
public import proofs.«01_k».proof.Proof.Gen.Comb.Launch
public import proofs.«01_k».proof.Proof.Gen.Comb.Points
public import proofs.«01_k».proof.Proof.Gen.Comb.Frame
public import proofs.«01_k».proof.Proof.Gen.CombIdeal
public import proofs.«01_k».proof.Proof.Gen.CombIdeal.Skeleton
public import proofs.«01_k».proof.Proof.Gen.CombIdeal.Launch
public import proofs.«01_k».proof.Proof.Gen.CombIdeal.Points
public import proofs.«01_k».proof.Proof.Gen.CombIdeal.Frame
public import proofs.«01_k».proof.Proof.Gen.CombRefIdeal
public import proofs.«01_k».proof.Proof.Gen.CombIdeal.Value
public import proofs.«01_k».proof.Proof.Gen.CombRefIdeal.Run
public import proofs.«01_k».proof.Proof.Gen.CombRefIdeal.Read
public import proofs.«01_k».proof.Proof.Comb.Equation
public import proofs.«01_k».proof.Proof.Gen.Gatef
public import proofs.«01_k».proof.Proof.Gen.Gatef.Skeleton
public import proofs.«01_k».proof.Proof.Gen.Gatef.Launch
public import proofs.«01_k».proof.Proof.Gen.Gatef.Points
public import proofs.«01_k».proof.Proof.Gen.Gatef.Frame
public import proofs.«01_k».proof.Proof.Gen.GatefIdeal
public import proofs.«01_k».proof.Proof.Gen.GatefIdeal.Skeleton
public import proofs.«01_k».proof.Proof.Gen.GatefIdeal.Launch
public import proofs.«01_k».proof.Proof.Gen.GatefIdeal.Points
public import proofs.«01_k».proof.Proof.Gen.GatefIdeal.Frame
public import proofs.«01_k».proof.Proof.Gen.GatefRefIdeal
public import proofs.«01_k».proof.Proof.Gen.GatefIdeal.Value
public import proofs.«01_k».proof.Proof.Gen.GatefRefIdeal.Run
public import proofs.«01_k».proof.Proof.Gen.GatefRefIdeal.Read
public import proofs.«01_k».proof.Proof.Gatef.Equation
public import proofs.«01_k».proof.Proof.Gen.Dila
public import proofs.«01_k».proof.Proof.Gen.Dila.Skeleton
public import proofs.«01_k».proof.Proof.Gen.Dila.Launch
public import proofs.«01_k».proof.Proof.Gen.Dila.Points
public import proofs.«01_k».proof.Proof.Gen.Dila.Frame
public import proofs.«01_k».proof.Proof.Gen.DilaIdeal
public import proofs.«01_k».proof.Proof.Gen.DilaIdeal.Skeleton
public import proofs.«01_k».proof.Proof.Gen.DilaIdeal.Launch
public import proofs.«01_k».proof.Proof.Gen.DilaIdeal.Points
public import proofs.«01_k».proof.Proof.Gen.DilaIdeal.Frame
public import proofs.«01_k».proof.Proof.Gen.DilaRefIdeal
public import proofs.«01_k».proof.Proof.Gen.DilaRefIdeal.Run
public import proofs.«01_k».proof.Proof.Dila.Frame
public import Idealize.ShloMosaic.Adequacy
public import Idealize.ShloMosaic.Init

@[expose] public section

noncomputable section

namespace Cert.Proof

open Idealize.ShloMosaic Idealize.SL.Sem

theorem claim : Cert.Claim := ⟨
  Cert.Down.Gen.facts,
  Cert.DownIdeal.Gen.facts,
  Cert.DownRefIdeal.Gen.facts,
  Cert.Mla.Gen.facts,
  Cert.MlaIdeal.Gen.facts,
  Cert.MlaRefIdeal.Gen.facts,
  Cert.Mlaf.Gen.facts,
  Cert.MlafIdeal.Gen.facts,
  Cert.MlafRefIdeal.Gen.facts,
  Cert.Up.Gen.facts,
  Cert.UpIdeal.Gen.facts,
  Cert.UpRefIdeal.Gen.facts,
  Cert.Heads.Gen.facts,
  Cert.HeadsIdeal.Gen.facts,
  Cert.HeadsRefIdeal.Gen.facts,
  Cert.Gate.Gen.facts,
  Cert.GateIdeal.Gen.facts,
  Cert.GateRefIdeal.Gen.facts,
  Cert.Merge.Gen.facts,
  Cert.MergeIdeal.Gen.facts,
  Cert.MergeRefIdeal.Gen.facts,
  Cert.Outln.Gen.facts,
  Cert.OutlnIdeal.Gen.facts,
  Cert.OutlnRefIdeal.Gen.facts,
  Cert.Comb.Gen.facts,
  Cert.CombIdeal.Gen.facts,
  Cert.CombRefIdeal.Gen.facts,
  Cert.Gatef.Gen.facts,
  Cert.GatefIdeal.Gen.facts,
  Cert.GatefRefIdeal.Gen.facts,
  Cert.Dila.Gen.facts,
  Cert.DilaIdeal.Gen.facts,
  Cert.DilaRefIdeal.Gen.facts,
  Cert.Pre_pre_down.Gen.facts,
  Cert.Pre_pre_mla.Gen.facts,
  Cert.Pre_pre_mlaf.Gen.facts,
  Cert.Pre_pre_up.Gen.facts,
  Cert.Pre_pre_gate.Gen.facts,
  fun m ρ _ => Cert.Down.Gen.frame m ρ,
  fun m ρ _ => Cert.DownIdeal.Gen.frame m ρ,
  fun m ρ _ => Cert.DownIdeal.Gen.frame m ρ,
  Cert.Down.Equation.frame_ref,
  fun m ρ _ => Cert.Down.Equation.frame_ref m ρ trivial,
  fun m ρ _ => Cert.Mla.Gen.frame m ρ,
  fun m ρ _ => Cert.MlaIdeal.Gen.frame m ρ,
  fun m ρ _ => Cert.MlaIdeal.Gen.frame m ρ,
  Cert.Mla.Equation.frame_ref,
  fun m ρ _ => Cert.Mla.Equation.frame_ref m ρ trivial,
  fun m ρ _ => Cert.MlafIdeal.Run.frame_words m ρ,
  fun m ρ _ => Cert.MlafIdeal.Run.frame m ρ,
  fun m ρ _ => Cert.MlafIdeal.Run.frame m ρ,
  Cert.Mlaf.Equation.frame_ref,
  fun m ρ _ => Cert.Mlaf.Equation.frame_ref m ρ trivial,
  fun m ρ _ => Cert.Up.Gen.frame m ρ,
  fun m ρ _ => Cert.UpIdeal.Gen.frame m ρ,
  fun m ρ _ => Cert.UpIdeal.Gen.frame m ρ,
  Cert.Up.Equation.frame_ref,
  fun m ρ _ => Cert.Up.Equation.frame_ref m ρ trivial,
  fun m ρ _ => Cert.Heads.Gen.frame m ρ,
  fun m ρ _ => Cert.HeadsIdeal.Gen.frame m ρ,
  Cert.Heads.Equation.frame_ref,
  fun m ρ _ => Cert.GateIdeal.Run.frame_words m ρ,
  fun m ρ _ => Cert.GateIdeal.Run.frame m ρ,
  fun m ρ _ => Cert.GateIdeal.Run.frame m ρ,
  Cert.Gate.Equation.frame_ref,
  fun m ρ _ => Cert.Gate.Equation.frame_ref m ρ trivial,
  fun m ρ _ => Cert.Merge.Gen.frame m ρ,
  fun m ρ _ => Cert.MergeIdeal.Gen.frame m ρ,
  Cert.Merge.Equation.frame_ref,
  fun m ρ _ => Cert.Outln.Gen.frame m ρ,
  fun m ρ _ => Cert.OutlnIdeal.Gen.frame m ρ,
  Cert.Outln.Equation.frame_ref,
  fun m ρ _ => Cert.Comb.Gen.frame m ρ,
  fun m ρ _ => Cert.CombIdeal.Gen.frame m ρ,
  Cert.Comb.Equation.frame_ref,
  fun m ρ _ => Cert.Gatef.Gen.frame m ρ,
  fun m ρ _ => Cert.GatefIdeal.Gen.frame m ρ,
  Cert.Gatef.Equation.frame_ref,
  fun m ρ _ => Cert.Dila.Gen.frame m ρ,
  fun m ρ _ => Cert.DilaIdeal.Gen.frame m ρ,
  Cert.Dila.Frame.frame_ref,
  trivial,
  Cert.Down.Equation.algebraic,
  Cert.Mla.Equation.preserves,
  Cert.Mla.Equation.algebraic,
  Cert.Mlaf.Equation.preserves,
  Cert.Mlaf.Equation.algebraic,
  trivial,
  Cert.Up.Equation.algebraic,
  trivial,
  Cert.Heads.Equation.algebraic,
  trivial,
  Cert.Gate.Equation.algebraic,
  trivial,
  Cert.Merge.Equation.algebraic,
  trivial,
  Cert.Outln.Equation.algebraic,
  trivial,
  Cert.Comb.Equation.algebraic,
  trivial,
  Cert.Gatef.Equation.algebraic,
  trivial⟩

end Cert.Proof

end
